-- ==== Defs.lean ====
def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_rms_bwd_finite [hPre_rms_bwd_finite : Cert.Pre_rms_bwd_finite.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_rms_bwd_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).1 = (fun _ => 1#1)
    ∧ (Cert.Pre_rms_bwd_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).2.1 = (fun _ => 1#1)
    ∧ (Cert.Pre_rms_bwd_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).2.2 = (fun _ => 1#1)

def Pre_RmsRefIdeal (m : (ℓ : Loc Cert.RmsRefIdeal.nD Cert.RmsRefIdeal.τ Cert.RmsRefIdeal.sig) → Buf (Elt Ideal) ℓ) : Prop :=
  True

def Pre_RmsRefIdeal_rms_bwd_finite [hPre_rms_bwd_finite : Cert.Pre_rms_bwd_finite.Facts] (m : (ℓ : Loc Cert.RmsRefIdeal.nD Cert.RmsRefIdeal.τ Cert.RmsRefIdeal.sig) → Buf (Elt Ideal) ℓ) : Prop :=
  ∀ c : Dev Cert.RmsRefIdeal.nD,
    (Cert.Pre_rms_bwd_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).1 = (fun _ => 1#1)
    ∧ (Cert.Pre_rms_bwd_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.1 = (fun _ => 1#1)
    ∧ (Cert.Pre_rms_bwd_finite.fn (F := Ideal) (m ((c.tc : Thread Cert.RmsRefIdeal.nD Cert.RmsRefIdeal.τ).loc Cert.RmsRefIdeal.main_arg0)) (m ((c.tc : Thread Cert.RmsRefIdeal.nD Cert.RmsRefIdeal.τ).loc Cert.RmsRefIdeal.main_arg1)) (m ((c.tc : Thread Cert.RmsRefIdeal.nD Cert.RmsRefIdeal.τ).loc Cert.RmsRefIdeal.main_arg2)) (m ((c.tc : Thread Cert.RmsRefIdeal.nD Cert.RmsRefIdeal.τ).loc Cert.RmsRefIdeal.main_arg3))).2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_bwd_finite [hPre_attn_bwd_finite : Cert.Pre_attn_bwd_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_bwd_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_bwd_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_bwd_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradIdeal_bias_grad_banded [hPre_bias_grad_banded : Cert.Pre_bias_grad_banded.Facts] (m : (ℓ : Loc Cert.BiasGradIdeal.nD Cert.BiasGradIdeal.τ Cert.BiasGradIdeal.sig) → Buf (Elt Ideal) ℓ) : Prop :=
  ∀ c : Dev Cert.BiasGradIdeal.nD,
    (Cert.Pre_bias_grad_banded.fn (F := Ideal) (m ((c.tc : Thread Cert.BiasGradIdeal.nD Cert.BiasGradIdeal.τ).loc Cert.BiasGradIdeal.main_arg0)) (m ((c.tc : Thread Cert.BiasGradIdeal.nD Cert.BiasGradIdeal.τ).loc Cert.BiasGradIdeal.main_arg1))) = (fun _ => 1#1)

def Pre_BiasGradRefIdeal (m : (ℓ : Loc Cert.BiasGradRefIdeal.nD Cert.BiasGradRefIdeal.τ Cert.BiasGradRefIdeal.sig) → Buf (Elt Ideal) ℓ) : Prop :=
  True

def Pre_BiasGradRefIdeal_bias_grad_banded [hPre_bias_grad_banded : Cert.Pre_bias_grad_banded.Facts] (m : (ℓ : Loc Cert.BiasGradRefIdeal.nD Cert.BiasGradRefIdeal.τ Cert.BiasGradRefIdeal.sig) → Buf (Elt Ideal) ℓ) : Prop :=
  ∀ c : Dev Cert.BiasGradRefIdeal.nD,
    (Cert.Pre_bias_grad_banded.fn (F := Ideal) (m ((c.tc : Thread Cert.BiasGradRefIdeal.nD Cert.BiasGradRefIdeal.τ).loc Cert.BiasGradRefIdeal.main_arg0)) (m ((c.tc : Thread Cert.BiasGradRefIdeal.nD Cert.BiasGradRefIdeal.τ).loc Cert.BiasGradRefIdeal.main_arg1))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_ln_bwd_finite [hPre_ln_bwd_finite : Cert.Pre_ln_bwd_finite.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).2.1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).2.2.1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).2.2.2.1 = (fun _ => 1#1)
    ∧ (Cert.Pre_ln_bwd_finite.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4))).2.2.2.2 = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_ln_bwd_finite [hPre_ln_bwd_finite : Cert.Pre_ln_bwd_finite.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_ln_bwd_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).1 = (fun _ => 1#1)
    ∧ (Cert.Pre_ln_bwd_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.1 = (fun _ => 1#1)
    ∧ (Cert.Pre_ln_bwd_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.1 = (fun _ => 1#1)
    ∧ (Cert.Pre_ln_bwd_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.2.1 = (fun _ => 1#1)
    ∧ (Cert.Pre_ln_bwd_finite.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4))).2.2.2.2 = (fun _ => 1#1)

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdIdeal_post_bwd_finite [hPre_post_bwd_finite : Cert.Pre_post_bwd_finite.Facts] (m : (ℓ : Loc Cert.PostBwdIdeal.nD Cert.PostBwdIdeal.τ Cert.PostBwdIdeal.sig) → Buf (Elt Ideal) ℓ) : Prop :=
  ∀ c : Dev Cert.PostBwdIdeal.nD,
    (Cert.Pre_post_bwd_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).1 = (fun _ => 1#1)
    ∧ (Cert.Pre_post_bwd_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.1 = (fun _ => 1#1)
    ∧ (Cert.Pre_post_bwd_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.1 = (fun _ => 1#1)
    ∧ (Cert.Pre_post_bwd_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.2.1 = (fun _ => 1#1)
    ∧ (Cert.Pre_post_bwd_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.2.2.1 = (fun _ => 1#1)
    ∧ (Cert.Pre_post_bwd_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.2.2.2.1 = (fun _ => 1#1)
    ∧ (Cert.Pre_post_bwd_finite.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.2.2.2.2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_bwd_finite [hPre_post_bwd_finite : Cert.Pre_post_bwd_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_bwd_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).1 = (fun _ => 1#1)
    ∧ (Cert.Pre_post_bwd_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.1 = (fun _ => 1#1)
    ∧ (Cert.Pre_post_bwd_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.1 = (fun _ => 1#1)
    ∧ (Cert.Pre_post_bwd_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.2.1 = (fun _ => 1#1)
    ∧ (Cert.Pre_post_bwd_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.2.2.1 = (fun _ => 1#1)
    ∧ (Cert.Pre_post_bwd_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.2.2.2.1 = (fun _ => 1#1)
    ∧ (Cert.Pre_post_bwd_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6))).2.2.2.2.2.2 = (fun _ => 1#1)

def Pre_FinalBwd (m : (ℓ : Loc Cert.FinalBwd.nD Cert.FinalBwd.τ Cert.FinalBwd.sig) → Buf (Elt Bits) ℓ) : Prop :=
  True

def Pre_FinalBwdIdeal (m : (ℓ : Loc Cert.FinalBwdIdeal.nD Cert.FinalBwdIdeal.τ Cert.FinalBwdIdeal.sig) → Buf (Elt Ideal) ℓ) : Prop :=
  True

def Pre_FinalBwdIdeal_final_finite [hPre_final_finite : Cert.Pre_final_finite.Facts] (m : (ℓ : Loc Cert.FinalBwdIdeal.nD Cert.FinalBwdIdeal.τ Cert.FinalBwdIdeal.sig) → Buf (Elt Ideal) ℓ) : Prop :=
  ∀ c : Dev Cert.FinalBwdIdeal.nD,
    (Cert.Pre_final_finite.fn (F := Ideal) (m ((c.tc : Thread Cert.FinalBwdIdeal.nD Cert.FinalBwdIdeal.τ).loc Cert.FinalBwdIdeal.main_arg0)) (m ((c.tc : Thread Cert.FinalBwdIdeal.nD Cert.FinalBwdIdeal.τ).loc Cert.FinalBwdIdeal.main_arg1)) (m ((c.tc : Thread Cert.FinalBwdIdeal.nD Cert.FinalBwdIdeal.τ).loc Cert.FinalBwdIdeal.main_arg2)) (m ((c.tc : Thread Cert.FinalBwdIdeal.nD Cert.FinalBwdIdeal.τ).loc Cert.FinalBwdIdeal.main_arg3)) (m ((c.tc : Thread Cert.FinalBwdIdeal.nD Cert.FinalBwdIdeal.τ).loc Cert.FinalBwdIdeal.main_arg4)) (m ((c.tc : Thread Cert.FinalBwdIdeal.nD Cert.FinalBwdIdeal.τ).loc Cert.FinalBwdIdeal.main_arg5))).1 = (fun _ => 1#1)
    ∧ (Cert.Pre_final_finite.fn (F := Ideal) (m ((c.tc : Thread Cert.FinalBwdIdeal.nD Cert.FinalBwdIdeal.τ).loc Cert.FinalBwdIdeal.main_arg0)) (m ((c.tc : Thread Cert.FinalBwdIdeal.nD Cert.FinalBwdIdeal.τ).loc Cert.FinalBwdIdeal.main_arg1)) (m ((c.tc : Thread Cert.FinalBwdIdeal.nD Cert.FinalBwdIdeal.τ).loc Cert.FinalBwdIdeal.main_arg2)) (m ((c.tc : Thread Cert.FinalBwdIdeal.nD Cert.FinalBwdIdeal.τ).loc Cert.FinalBwdIdeal.main_arg3)) (m ((c.tc : Thread Cert.FinalBwdIdeal.nD Cert.FinalBwdIdeal.τ).loc Cert.FinalBwdIdeal.main_arg4)) (m ((c.tc : Thread Cert.FinalBwdIdeal.nD Cert.FinalBwdIdeal.τ).loc Cert.FinalBwdIdeal.main_arg5))).2.1 = (fun _ => 1#1)
    ∧ (Cert.Pre_final_finite.fn (F := Ideal) (m ((c.tc : Thread Cert.FinalBwdIdeal.nD Cert.FinalBwdIdeal.τ).loc Cert.FinalBwdIdeal.main_arg0)) (m ((c.tc : Thread Cert.FinalBwdIdeal.nD Cert.FinalBwdIdeal.τ).loc Cert.FinalBwdIdeal.main_arg1)) (m ((c.tc : Thread Cert.FinalBwdIdeal.nD Cert.FinalBwdIdeal.τ).loc Cert.FinalBwdIdeal.main_arg2)) (m ((c.tc : Thread Cert.FinalBwdIdeal.nD Cert.FinalBwdIdeal.τ).loc Cert.FinalBwdIdeal.main_arg3)) (m ((c.tc : Thread Cert.FinalBwdIdeal.nD Cert.FinalBwdIdeal.τ).loc Cert.FinalBwdIdeal.main_arg4)) (m ((c.tc : Thread Cert.FinalBwdIdeal.nD Cert.FinalBwdIdeal.τ).loc Cert.FinalBwdIdeal.main_arg5))).2.2.1 = (fun _ => 1#1)
    ∧ (Cert.Pre_final_finite.fn (F := Ideal) (m ((c.tc : Thread Cert.FinalBwdIdeal.nD Cert.FinalBwdIdeal.τ).loc Cert.FinalBwdIdeal.main_arg0)) (m ((c.tc : Thread Cert.FinalBwdIdeal.nD Cert.FinalBwdIdeal.τ).loc Cert.FinalBwdIdeal.main_arg1)) (m ((c.tc : Thread Cert.FinalBwdIdeal.nD Cert.FinalBwdIdeal.τ).loc Cert.FinalBwdIdeal.main_arg2)) (m ((c.tc : Thread Cert.FinalBwdIdeal.nD Cert.FinalBwdIdeal.τ).loc Cert.FinalBwdIdeal.main_arg3)) (m ((c.tc : Thread Cert.FinalBwdIdeal.nD Cert.FinalBwdIdeal.τ).loc Cert.FinalBwdIdeal.main_arg4)) (m ((c.tc : Thread Cert.FinalBwdIdeal.nD Cert.FinalBwdIdeal.τ).loc Cert.FinalBwdIdeal.main_arg5))).2.2.2.1 = (fun _ => 1#1)
    ∧ (Cert.Pre_final_finite.fn (F := Ideal) (m ((c.tc : Thread Cert.FinalBwdIdeal.nD Cert.FinalBwdIdeal.τ).loc Cert.FinalBwdIdeal.main_arg0)) (m ((c.tc : Thread Cert.FinalBwdIdeal.nD Cert.FinalBwdIdeal.τ).loc Cert.FinalBwdIdeal.main_arg1)) (m ((c.tc : Thread Cert.FinalBwdIdeal.nD Cert.FinalBwdIdeal.τ).loc Cert.FinalBwdIdeal.main_arg2)) (m ((c.tc : Thread Cert.FinalBwdIdeal.nD Cert.FinalBwdIdeal.τ).loc Cert.FinalBwdIdeal.main_arg3)) (m ((c.tc : Thread Cert.FinalBwdIdeal.nD Cert.FinalBwdIdeal.τ).loc Cert.FinalBwdIdeal.main_arg4)) (m ((c.tc : Thread Cert.FinalBwdIdeal.nD Cert.FinalBwdIdeal.τ).loc Cert.FinalBwdIdeal.main_arg5))).2.2.2.2.1 = (fun _ => 1#1)
    ∧ (Cert.Pre_final_finite.fn (F := Ideal) (m ((c.tc : Thread Cert.FinalBwdIdeal.nD Cert.FinalBwdIdeal.τ).loc Cert.FinalBwdIdeal.main_arg0)) (m ((c.tc : Thread Cert.FinalBwdIdeal.nD Cert.FinalBwdIdeal.τ).loc Cert.FinalBwdIdeal.main_arg1)) (m ((c.tc : Thread Cert.FinalBwdIdeal.nD Cert.FinalBwdIdeal.τ).loc Cert.FinalBwdIdeal.main_arg2)) (m ((c.tc : Thread Cert.FinalBwdIdeal.nD Cert.FinalBwdIdeal.τ).loc Cert.FinalBwdIdeal.main_arg3)) (m ((c.tc : Thread Cert.FinalBwdIdeal.nD Cert.FinalBwdIdeal.τ).loc Cert.FinalBwdIdeal.main_arg4)) (m ((c.tc : Thread Cert.FinalBwdIdeal.nD Cert.FinalBwdIdeal.τ).loc Cert.FinalBwdIdeal.main_arg5))).2.2.2.2.2 = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_final_finite [hPre_final_finite : Cert.Pre_final_finite.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_final_finite.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).1 = (fun _ => 1#1)
    ∧ (Cert.Pre_final_finite.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).2.1 = (fun _ => 1#1)
    ∧ (Cert.Pre_final_finite.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).2.2.1 = (fun _ => 1#1)
    ∧ (Cert.Pre_final_finite.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).2.2.2.1 = (fun _ => 1#1)
    ∧ (Cert.Pre_final_finite.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).2.2.2.2.1 = (fun _ => 1#1)
    ∧ (Cert.Pre_final_finite.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4)) (m ((c.tc : Thread Cert.FinalRefIdeal.nD Cert.FinalRefIdeal.τ).loc Cert.FinalRefIdeal.main_arg5))).2.2.2.2.2 = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))).2 = (fun _ => 1#1)

def Pre_BiasBuild (m : (ℓ : Loc Cert.BiasBuild.nD Cert.BiasBuild.τ Cert.BiasBuild.sig) → Buf (Elt Bits) ℓ) : Prop :=
  True

def Pre_BiasBuildIdeal (m : (ℓ : Loc Cert.BiasBuildIdeal.nD Cert.BiasBuildIdeal.τ Cert.BiasBuildIdeal.sig) → Buf (Elt Ideal) ℓ) : Prop :=
  True

def Pre_BiasBuildRefIdeal (m : (ℓ : Loc Cert.BiasBuildRefIdeal.nD Cert.BiasBuildRefIdeal.τ Cert.BiasBuildRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_MmNn (m : (ℓ : Loc Cert.MmNn.nD Cert.MmNn.τ Cert.MmNn.sig) → Buf (Elt Bits) ℓ) : Prop :=
  True

def Pre_MmNnIdeal (m : (ℓ : Loc Cert.MmNnIdeal.nD Cert.MmNnIdeal.τ Cert.MmNnIdeal.sig) → Buf (Elt Ideal) ℓ) : Prop :=
  True

def Pre_MmNnRefIdeal (m : (ℓ : Loc Cert.MmNnRefIdeal.nD Cert.MmNnRefIdeal.τ Cert.MmNnRefIdeal.sig) → Buf (Elt Ideal) ℓ) : Prop :=
  True

def Pre_MmNt (m : (ℓ : Loc Cert.MmNt.nD Cert.MmNt.τ Cert.MmNt.sig) → Buf (Elt Bits) ℓ) : Prop :=
  True

def Pre_MmNtIdeal (m : (ℓ : Loc Cert.MmNtIdeal.nD Cert.MmNtIdeal.τ Cert.MmNtIdeal.sig) → Buf (Elt Ideal) ℓ) : Prop :=
  True

def Pre_MmNtRefIdeal (m : (ℓ : Loc Cert.MmNtRefIdeal.nD Cert.MmNtRefIdeal.τ Cert.MmNtRefIdeal.sig) → Buf (Elt Ideal) ℓ) : Prop :=
  True

def Pre_MmTn (m : (ℓ : Loc Cert.MmTn.nD Cert.MmTn.τ Cert.MmTn.sig) → Buf (Elt Bits) ℓ) : Prop :=
  True

def Pre_MmTnIdeal (m : (ℓ : Loc Cert.MmTnIdeal.nD Cert.MmTnIdeal.τ Cert.MmTnIdeal.sig) → Buf (Elt Ideal) ℓ) : Prop :=
  True

def Pre_MmTnRefIdeal (m : (ℓ : Loc Cert.MmTnRefIdeal.nD Cert.MmTnRefIdeal.τ Cert.MmTnRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_PairAdd [hPre_core_is_one_of_two : Cert.Pre_core_is_one_of_two.Facts] (m : (ℓ : Loc Cert.PairAdd.nD Cert.PairAdd.τ Cert.PairAdd.sig) → Buf (Elt Bits) ℓ) : Prop :=
  ∀ c : Dev Cert.PairAdd.nD,
    (Cert.Pre_core_is_one_of_two.fn (F := Bits) (m ((c.tc : Thread Cert.PairAdd.nD Cert.PairAdd.τ).loc Cert.PairAdd.main_arg0)) (m ((c.tc : Thread Cert.PairAdd.nD Cert.PairAdd.τ).loc Cert.PairAdd.main_arg1)) (m ((c.tc : Thread Cert.PairAdd.nD Cert.PairAdd.τ).loc Cert.PairAdd.main_arg2))) = (fun _ => 1#1)

def Pre_PairAddIdeal [hPre_core_is_one_of_two : Cert.Pre_core_is_one_of_two.Facts] (m : (ℓ : Loc Cert.PairAddIdeal.nD Cert.PairAddIdeal.τ Cert.PairAddIdeal.sig) → Buf (Elt Ideal) ℓ) : Prop :=
  ∀ c : Dev Cert.PairAddIdeal.nD,
    (Cert.Pre_core_is_one_of_two.fn (F := Ideal) (m ((c.tc : Thread Cert.PairAddIdeal.nD Cert.PairAddIdeal.τ).loc Cert.PairAddIdeal.main_arg0)) (m ((c.tc : Thread Cert.PairAddIdeal.nD Cert.PairAddIdeal.τ).loc Cert.PairAddIdeal.main_arg1)) (m ((c.tc : Thread Cert.PairAddIdeal.nD Cert.PairAddIdeal.τ).loc Cert.PairAddIdeal.main_arg2))) = (fun _ => 1#1)

def Pre_PairAddRefIdeal (m : (ℓ : Loc Cert.PairAddRefIdeal.nD Cert.PairAddRefIdeal.τ Cert.PairAddRefIdeal.sig) → Buf (Elt Ideal) ℓ) : Prop :=
  True

def Pre_PairAddRefIdeal_core_is_one_of_two [hPre_core_is_one_of_two : Cert.Pre_core_is_one_of_two.Facts] (m : (ℓ : Loc Cert.PairAddRefIdeal.nD Cert.PairAddRefIdeal.τ Cert.PairAddRefIdeal.sig) → Buf (Elt Ideal) ℓ) : Prop :=
  ∀ c : Dev Cert.PairAddRefIdeal.nD,
    (Cert.Pre_core_is_one_of_two.fn (F := Ideal) (m ((c.tc : Thread Cert.PairAddRefIdeal.nD Cert.PairAddRefIdeal.τ).loc Cert.PairAddRefIdeal.main_arg0)) (m ((c.tc : Thread Cert.PairAddRefIdeal.nD Cert.PairAddRefIdeal.τ).loc Cert.PairAddRefIdeal.main_arg1)) (m ((c.tc : Thread Cert.PairAddRefIdeal.nD Cert.PairAddRefIdeal.τ).loc Cert.PairAddRefIdeal.main_arg2))) = (fun _ => 1#1)

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def Pre_AdamBig [hPre_chip_is_one_of_four : Cert.Pre_chip_is_one_of_four.Facts] (m : (ℓ : Loc Cert.AdamBig.nD Cert.AdamBig.τ Cert.AdamBig.sig) → Buf (Elt Bits) ℓ) : Prop :=
  ∀ c : Dev Cert.AdamBig.nD,
    (Cert.Pre_chip_is_one_of_four.fn (F := Bits) (m ((c.tc : Thread Cert.AdamBig.nD Cert.AdamBig.τ).loc Cert.AdamBig.main_arg0)) (m ((c.tc : Thread Cert.AdamBig.nD Cert.AdamBig.τ).loc Cert.AdamBig.main_arg1)) (m ((c.tc : Thread Cert.AdamBig.nD Cert.AdamBig.τ).loc Cert.AdamBig.main_arg2)) (m ((c.tc : Thread Cert.AdamBig.nD Cert.AdamBig.τ).loc Cert.AdamBig.main_arg3)) (m ((c.tc : Thread Cert.AdamBig.nD Cert.AdamBig.τ).loc Cert.AdamBig.main_arg4)) (m ((c.tc : Thread Cert.AdamBig.nD Cert.AdamBig.τ).loc Cert.AdamBig.main_arg5))) = (fun _ => 1#1)

def Pre_AdamBigIdeal [hPre_chip_is_one_of_four : Cert.Pre_chip_is_one_of_four.Facts] (m : (ℓ : Loc Cert.AdamBigIdeal.nD Cert.AdamBigIdeal.τ Cert.AdamBigIdeal.sig) → Buf (Elt Ideal) ℓ) : Prop :=
  ∀ c : Dev Cert.AdamBigIdeal.nD,
    (Cert.Pre_chip_is_one_of_four.fn (F := Ideal) (m ((c.tc : Thread Cert.AdamBigIdeal.nD Cert.AdamBigIdeal.τ).loc Cert.AdamBigIdeal.main_arg0)) (m ((c.tc : Thread Cert.AdamBigIdeal.nD Cert.AdamBigIdeal.τ).loc Cert.AdamBigIdeal.main_arg1)) (m ((c.tc : Thread Cert.AdamBigIdeal.nD Cert.AdamBigIdeal.τ).loc Cert.AdamBigIdeal.main_arg2)) (m ((c.tc : Thread Cert.AdamBigIdeal.nD Cert.AdamBigIdeal.τ).loc Cert.AdamBigIdeal.main_arg3)) (m ((c.tc : Thread Cert.AdamBigIdeal.nD Cert.AdamBigIdeal.τ).loc Cert.AdamBigIdeal.main_arg4)) (m ((c.tc : Thread Cert.AdamBigIdeal.nD Cert.AdamBigIdeal.τ).loc Cert.AdamBigIdeal.main_arg5))) = (fun _ => 1#1)

def Pre_AdamBigRefIdeal (m : (ℓ : Loc Cert.AdamBigRefIdeal.nD Cert.AdamBigRefIdeal.τ Cert.AdamBigRefIdeal.sig) → Buf (Elt Ideal) ℓ) : Prop :=
  True

def Pre_AdamBigRefIdeal_chip_is_one_of_four [hPre_chip_is_one_of_four : Cert.Pre_chip_is_one_of_four.Facts] (m : (ℓ : Loc Cert.AdamBigRefIdeal.nD Cert.AdamBigRefIdeal.τ Cert.AdamBigRefIdeal.sig) → Buf (Elt Ideal) ℓ) : Prop :=
  ∀ c : Dev Cert.AdamBigRefIdeal.nD,
    (Cert.Pre_chip_is_one_of_four.fn (F := Ideal) (m ((c.tc : Thread Cert.AdamBigRefIdeal.nD Cert.AdamBigRefIdeal.τ).loc Cert.AdamBigRefIdeal.main_arg0)) (m ((c.tc : Thread Cert.AdamBigRefIdeal.nD Cert.AdamBigRefIdeal.τ).loc Cert.AdamBigRefIdeal.main_arg1)) (m ((c.tc : Thread Cert.AdamBigRefIdeal.nD Cert.AdamBigRefIdeal.τ).loc Cert.AdamBigRefIdeal.main_arg2)) (m ((c.tc : Thread Cert.AdamBigRefIdeal.nD Cert.AdamBigRefIdeal.τ).loc Cert.AdamBigRefIdeal.main_arg3)) (m ((c.tc : Thread Cert.AdamBigRefIdeal.nD Cert.AdamBigRefIdeal.τ).loc Cert.AdamBigRefIdeal.main_arg4)) (m ((c.tc : Thread Cert.AdamBigRefIdeal.nD Cert.AdamBigRefIdeal.τ).loc Cert.AdamBigRefIdeal.main_arg5))) = (fun _ => 1#1)

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_ProjBwdW (m : (ℓ : Loc Cert.ProjBwdW.nD Cert.ProjBwdW.τ Cert.ProjBwdW.sig) → Buf (Elt Bits) ℓ) : Prop :=
  True

def Pre_ProjBwdWIdeal (m : (ℓ : Loc Cert.ProjBwdWIdeal.nD Cert.ProjBwdWIdeal.τ Cert.ProjBwdWIdeal.sig) → Buf (Elt Ideal) ℓ) : Prop :=
  True

def Pre_ProjBwdWRefIdeal (m : (ℓ : Loc Cert.ProjBwdWRefIdeal.nD Cert.ProjBwdWRefIdeal.τ Cert.ProjBwdWRefIdeal.sig) → Buf (Elt Ideal) ℓ) : Prop :=
  True

def Pre_ProjBwdX (m : (ℓ : Loc Cert.ProjBwdX.nD Cert.ProjBwdX.τ Cert.ProjBwdX.sig) → Buf (Elt Bits) ℓ) : Prop :=
  True

def Pre_ProjBwdXIdeal (m : (ℓ : Loc Cert.ProjBwdXIdeal.nD Cert.ProjBwdXIdeal.τ Cert.ProjBwdXIdeal.sig) → Buf (Elt Ideal) ℓ) : Prop :=
  True

def Pre_ProjBwdXRefIdeal (m : (ℓ : Loc Cert.ProjBwdXRefIdeal.nD Cert.ProjBwdXRefIdeal.τ Cert.ProjBwdXRefIdeal.sig) → Buf (Elt Ideal) ℓ) : Prop :=
  True

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_rms_bwd_finite [hRmsBwdIdeal : Cert.RmsBwdIdeal.Facts] [hPre_rms_bwd_finite : Cert.Pre_rms_bwd_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_rms_bwd_finite m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_RmsRefIdeal_pre_rms_bwd_finite [hRmsRefIdeal : Cert.RmsRefIdeal.Facts] [hPre_rms_bwd_finite : Cert.Pre_rms_bwd_finite.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal_rms_bwd_finite m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_bwd_finite [hAttnRefIdeal : Cert.AttnRefIdeal.Facts] [hPre_attn_bwd_finite : Cert.Pre_attn_bwd_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_bwd_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0)
      ∧ r.2.mem ((c.tc : Thread Cert.BiasGrad.nD Cert.BiasGrad.τ).loc Cert.BiasGrad.main_arg1) = m ((c.tc : Thread Cert.BiasGrad.nD Cert.BiasGrad.τ).loc Cert.BiasGrad.main_arg1))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ r.2.sem = fun _ => 0)

def quiescent_BiasGradIdeal_pre_bias_grad_banded [hBiasGradIdeal : Cert.BiasGradIdeal.Facts] [hPre_bias_grad_banded : Cert.Pre_bias_grad_banded.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal_bias_grad_banded m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
      ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ r.2.sem = fun _ => 0)

def quiescent_BiasGradRefIdeal [hBiasGradRefIdeal : Cert.BiasGradRefIdeal.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0)
      ∧ r.2.mem ((c.tc : Thread Cert.BiasGradRefIdeal.nD Cert.BiasGradRefIdeal.τ).loc Cert.BiasGradRefIdeal.main_arg1) = m ((c.tc : Thread Cert.BiasGradRefIdeal.nD Cert.BiasGradRefIdeal.τ).loc Cert.BiasGradRefIdeal.main_arg1))
      ∧ r.2.sem = fun _ => 0)

def quiescent_BiasGradRefIdeal_pre_bias_grad_banded [hBiasGradRefIdeal : Cert.BiasGradRefIdeal.Facts] [hPre_bias_grad_banded : Cert.Pre_bias_grad_banded.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal_bias_grad_banded m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0)
      ∧ r.2.mem ((c.tc : Thread Cert.BiasGradRefIdeal.nD Cert.BiasGradRefIdeal.τ).loc Cert.BiasGradRefIdeal.main_arg1) = m ((c.tc : Thread Cert.BiasGradRefIdeal.nD Cert.BiasGradRefIdeal.τ).loc Cert.BiasGradRefIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdIdeal_pre_ln_bwd_finite [hLnBwdIdeal : Cert.LnBwdIdeal.Facts] [hPre_ln_bwd_finite : Cert.Pre_ln_bwd_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_ln_bwd_finite m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4))
      ∧ r.2.sem = fun _ => 0)

def quiescent_LnRefIdeal_pre_ln_bwd_finite [hLnRefIdeal : Cert.LnRefIdeal.Facts] [hPre_ln_bwd_finite : Cert.Pre_ln_bwd_finite.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_ln_bwd_finite m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5)
      ∧ r.2.mem ((c.tc : Thread Cert.PostBwd.nD Cert.PostBwd.τ).loc Cert.PostBwd.main_arg6) = m ((c.tc : Thread Cert.PostBwd.nD Cert.PostBwd.τ).loc Cert.PostBwd.main_arg6))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6))
      ∧ r.2.sem = fun _ => 0)

def quiescent_PostBwdIdeal_pre_post_bwd_finite [hPostBwdIdeal : Cert.PostBwdIdeal.Facts] [hPre_post_bwd_finite : Cert.Pre_post_bwd_finite.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal_post_bwd_finite m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
      ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_PostRefIdeal_pre_post_bwd_finite [hPostRefIdeal : Cert.PostRefIdeal.Facts] [hPre_post_bwd_finite : Cert.Pre_post_bwd_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_bwd_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def quiescent_FinalBwd [hFinalBwd : Cert.FinalBwd.Facts] : Prop :=
  ∀ (m : (ℓ : Loc Cert.FinalBwd.nD Cert.FinalBwd.τ Cert.FinalBwd.sig) → Buf (Elt Bits) ℓ) (g : Dev Cert.FinalBwd.nD → PrngReg), Pre_FinalBwd m →
    θ_run (Cert.FinalBwd.defs (F := Bits)) (onTc (τ := Cert.FinalBwd.τ) (Cert.FinalBwd.main (F := Bits))) ⟨m, fun _ => 0, g⟩ (fun r => (∀ c : Dev Cert.FinalBwd.nD,
      r.2.mem ((c.tc : Thread Cert.FinalBwd.nD Cert.FinalBwd.τ).loc Cert.FinalBwd.main_arg0) = m ((c.tc : Thread Cert.FinalBwd.nD Cert.FinalBwd.τ).loc Cert.FinalBwd.main_arg0)
      ∧ r.2.mem ((c.tc : Thread Cert.FinalBwd.nD Cert.FinalBwd.τ).loc Cert.FinalBwd.main_arg1) = m ((c.tc : Thread Cert.FinalBwd.nD Cert.FinalBwd.τ).loc Cert.FinalBwd.main_arg1)
      ∧ r.2.mem ((c.tc : Thread Cert.FinalBwd.nD Cert.FinalBwd.τ).loc Cert.FinalBwd.main_arg2) = m ((c.tc : Thread Cert.FinalBwd.nD Cert.FinalBwd.τ).loc Cert.FinalBwd.main_arg2)
      ∧ r.2.mem ((c.tc : Thread Cert.FinalBwd.nD Cert.FinalBwd.τ).loc Cert.FinalBwd.main_arg3) = m ((c.tc : Thread Cert.FinalBwd.nD Cert.FinalBwd.τ).loc Cert.FinalBwd.main_arg3)
      ∧ r.2.mem ((c.tc : Thread Cert.FinalBwd.nD Cert.FinalBwd.τ).loc Cert.FinalBwd.main_arg4) = m ((c.tc : Thread Cert.FinalBwd.nD Cert.FinalBwd.τ).loc Cert.FinalBwd.main_arg4)
      ∧ r.2.mem ((c.tc : Thread Cert.FinalBwd.nD Cert.FinalBwd.τ).loc Cert.FinalBwd.main_arg5) = m ((c.tc : Thread Cert.FinalBwd.nD Cert.FinalBwd.τ).loc Cert.FinalBwd.main_arg5))
      ∧ r.2.sem = fun _ => 0)

def quiescent_FinalBwdIdeal [hFinalBwdIdeal : Cert.FinalBwdIdeal.Facts] : Prop :=
  ∀ (m : (ℓ : Loc Cert.FinalBwdIdeal.nD Cert.FinalBwdIdeal.τ Cert.FinalBwdIdeal.sig) → Buf (Elt Ideal) ℓ) (g : Dev Cert.FinalBwdIdeal.nD → PrngReg), Pre_FinalBwdIdeal m →
    θ_run (Cert.FinalBwdIdeal.defs (F := Ideal)) (onTc (τ := Cert.FinalBwdIdeal.τ) (Cert.FinalBwdIdeal.main (F := Ideal))) ⟨m, fun _ => 0, g⟩ (fun r => (∀ c : Dev Cert.FinalBwdIdeal.nD,
      r.2.mem ((c.tc : Thread Cert.FinalBwdIdeal.nD Cert.FinalBwdIdeal.τ).loc Cert.FinalBwdIdeal.main_arg0) = m ((c.tc : Thread Cert.FinalBwdIdeal.nD Cert.FinalBwdIdeal.τ).loc Cert.FinalBwdIdeal.main_arg0)
      ∧ r.2.mem ((c.tc : Thread Cert.FinalBwdIdeal.nD Cert.FinalBwdIdeal.τ).loc Cert.FinalBwdIdeal.main_arg1) = m ((c.tc : Thread Cert.FinalBwdIdeal.nD Cert.FinalBwdIdeal.τ).loc Cert.FinalBwdIdeal.main_arg1)
      ∧ r.2.mem ((c.tc : Thread Cert.FinalBwdIdeal.nD Cert.FinalBwdIdeal.τ).loc Cert.FinalBwdIdeal.main_arg2) = m ((c.tc : Thread Cert.FinalBwdIdeal.nD Cert.FinalBwdIdeal.τ).loc Cert.FinalBwdIdeal.main_arg2)
      ∧ r.2.mem ((c.tc : Thread Cert.FinalBwdIdeal.nD Cert.FinalBwdIdeal.τ).loc Cert.FinalBwdIdeal.main_arg3) = m ((c.tc : Thread Cert.FinalBwdIdeal.nD Cert.FinalBwdIdeal.τ).loc Cert.FinalBwdIdeal.main_arg3)
      ∧ r.2.mem ((c.tc : Thread Cert.FinalBwdIdeal.nD Cert.FinalBwdIdeal.τ).loc Cert.FinalBwdIdeal.main_arg4) = m ((c.tc : Thread Cert.FinalBwdIdeal.nD Cert.FinalBwdIdeal.τ).loc Cert.FinalBwdIdeal.main_arg4)
      ∧ r.2.mem ((c.tc : Thread Cert.FinalBwdIdeal.nD Cert.FinalBwdIdeal.τ).loc Cert.FinalBwdIdeal.main_arg5) = m ((c.tc : Thread Cert.FinalBwdIdeal.nD Cert.FinalBwdIdeal.τ).loc Cert.FinalBwdIdeal.main_arg5))
      ∧ r.2.sem = fun _ => 0)

def quiescent_FinalBwdIdeal_pre_final_finite [hFinalBwdIdeal : Cert.FinalBwdIdeal.Facts] [hPre_final_finite : Cert.Pre_final_finite.Facts] : Prop :=
  ∀ (m : (ℓ : Loc Cert.FinalBwdIdeal.nD Cert.FinalBwdIdeal.τ Cert.FinalBwdIdeal.sig) → Buf (Elt Ideal) ℓ) (g : Dev Cert.FinalBwdIdeal.nD → PrngReg), Pre_FinalBwdIdeal_final_finite m →
    θ_run (Cert.FinalBwdIdeal.defs (F := Ideal)) (onTc (τ := Cert.FinalBwdIdeal.τ) (Cert.FinalBwdIdeal.main (F := Ideal))) ⟨m, fun _ => 0, g⟩ (fun r => (∀ c : Dev Cert.FinalBwdIdeal.nD,
      r.2.mem ((c.tc : Thread Cert.FinalBwdIdeal.nD Cert.FinalBwdIdeal.τ).loc Cert.FinalBwdIdeal.main_arg0) = m ((c.tc : Thread Cert.FinalBwdIdeal.nD Cert.FinalBwdIdeal.τ).loc Cert.FinalBwdIdeal.main_arg0)
      ∧ r.2.mem ((c.tc : Thread Cert.FinalBwdIdeal.nD Cert.FinalBwdIdeal.τ).loc Cert.FinalBwdIdeal.main_arg1) = m ((c.tc : Thread Cert.FinalBwdIdeal.nD Cert.FinalBwdIdeal.τ).loc Cert.FinalBwdIdeal.main_arg1)
      ∧ r.2.mem ((c.tc : Thread Cert.FinalBwdIdeal.nD Cert.FinalBwdIdeal.τ).loc Cert.FinalBwdIdeal.main_arg2) = m ((c.tc : Thread Cert.FinalBwdIdeal.nD Cert.FinalBwdIdeal.τ).loc Cert.FinalBwdIdeal.main_arg2)
      ∧ r.2.mem ((c.tc : Thread Cert.FinalBwdIdeal.nD Cert.FinalBwdIdeal.τ).loc Cert.FinalBwdIdeal.main_arg3) = m ((c.tc : Thread Cert.FinalBwdIdeal.nD Cert.FinalBwdIdeal.τ).loc Cert.FinalBwdIdeal.main_arg3)
      ∧ r.2.mem ((c.tc : Thread Cert.FinalBwdIdeal.nD Cert.FinalBwdIdeal.τ).loc Cert.FinalBwdIdeal.main_arg4) = m ((c.tc : Thread Cert.FinalBwdIdeal.nD Cert.FinalBwdIdeal.τ).loc Cert.FinalBwdIdeal.main_arg4)
      ∧ r.2.mem ((c.tc : Thread Cert.FinalBwdIdeal.nD Cert.FinalBwdIdeal.τ).loc Cert.FinalBwdIdeal.main_arg5) = m ((c.tc : Thread Cert.FinalBwdIdeal.nD Cert.FinalBwdIdeal.τ).loc Cert.FinalBwdIdeal.main_arg5))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_FinalRefIdeal_pre_final_finite [hFinalRefIdeal : Cert.FinalRefIdeal.Facts] [hPre_final_finite : Cert.Pre_final_finite.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_final_finite m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4)
      ∧ r.2.mem ((c.tc : Thread Cert.FinalRefIdeal.nD Cert.FinalRefIdeal.τ).loc Cert.FinalRefIdeal.main_arg5) = m ((c.tc : Thread Cert.FinalRefIdeal.nD Cert.FinalRefIdeal.τ).loc Cert.FinalRefIdeal.main_arg5))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2)
      ∧ r.2.mem ((c.tc : Thread Cert.PostFwd.nD Cert.PostFwd.τ).loc Cert.PostFwd.main_arg3) = m ((c.tc : Thread Cert.PostFwd.nD Cert.PostFwd.τ).loc Cert.PostFwd.main_arg3)
      ∧ r.2.mem ((c.tc : Thread Cert.PostFwd.nD Cert.PostFwd.τ).loc Cert.PostFwd.main_arg4) = m ((c.tc : Thread Cert.PostFwd.nD Cert.PostFwd.τ).loc Cert.PostFwd.main_arg4)
      ∧ r.2.mem ((c.tc : Thread Cert.PostFwd.nD Cert.PostFwd.τ).loc Cert.PostFwd.main_arg5) = m ((c.tc : Thread Cert.PostFwd.nD Cert.PostFwd.τ).loc Cert.PostFwd.main_arg5))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
      ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3)
      ∧ r.2.mem ((c.tc : Thread Cert.PostFwdIdeal.nD Cert.PostFwdIdeal.τ).loc Cert.PostFwdIdeal.main_arg4) = m ((c.tc : Thread Cert.PostFwdIdeal.nD Cert.PostFwdIdeal.τ).loc Cert.PostFwdIdeal.main_arg4)
      ∧ r.2.mem ((c.tc : Thread Cert.PostFwdIdeal.nD Cert.PostFwdIdeal.τ).loc Cert.PostFwdIdeal.main_arg5) = m ((c.tc : Thread Cert.PostFwdIdeal.nD Cert.PostFwdIdeal.τ).loc Cert.PostFwdIdeal.main_arg5))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1)
      ∧ r.2.mem ((c.tc : Thread Cert.PostFwdRefIdeal.nD Cert.PostFwdRefIdeal.τ).loc Cert.PostFwdRefIdeal.main_arg2) = m ((c.tc : Thread Cert.PostFwdRefIdeal.nD Cert.PostFwdRefIdeal.τ).loc Cert.PostFwdRefIdeal.main_arg2)
      ∧ r.2.mem ((c.tc : Thread Cert.PostFwdRefIdeal.nD Cert.PostFwdRefIdeal.τ).loc Cert.PostFwdRefIdeal.main_arg3) = m ((c.tc : Thread Cert.PostFwdRefIdeal.nD Cert.PostFwdRefIdeal.τ).loc Cert.PostFwdRefIdeal.main_arg3)
      ∧ r.2.mem ((c.tc : Thread Cert.PostFwdRefIdeal.nD Cert.PostFwdRefIdeal.τ).loc Cert.PostFwdRefIdeal.main_arg4) = m ((c.tc : Thread Cert.PostFwdRefIdeal.nD Cert.PostFwdRefIdeal.τ).loc Cert.PostFwdRefIdeal.main_arg4)
      ∧ r.2.mem ((c.tc : Thread Cert.PostFwdRefIdeal.nD Cert.PostFwdRefIdeal.τ).loc Cert.PostFwdRefIdeal.main_arg5) = m ((c.tc : Thread Cert.PostFwdRefIdeal.nD Cert.PostFwdRefIdeal.τ).loc Cert.PostFwdRefIdeal.main_arg5))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_BiasBuild [hBiasBuild : Cert.BiasBuild.Facts] : Prop :=
  ∀ (m : (ℓ : Loc Cert.BiasBuild.nD Cert.BiasBuild.τ Cert.BiasBuild.sig) → Buf (Elt Bits) ℓ) (g : Dev Cert.BiasBuild.nD → PrngReg), Pre_BiasBuild m →
    θ_run (Cert.BiasBuild.defs (F := Bits)) (onTc (τ := Cert.BiasBuild.τ) (Cert.BiasBuild.main (F := Bits))) ⟨m, fun _ => 0, g⟩ (fun r => (∀ c : Dev Cert.BiasBuild.nD,
      r.2.mem ((c.tc : Thread Cert.BiasBuild.nD Cert.BiasBuild.τ).loc Cert.BiasBuild.main_arg0) = m ((c.tc : Thread Cert.BiasBuild.nD Cert.BiasBuild.τ).loc Cert.BiasBuild.main_arg0))
      ∧ r.2.sem = fun _ => 0)

def quiescent_BiasBuildIdeal [hBiasBuildIdeal : Cert.BiasBuildIdeal.Facts] : Prop :=
  ∀ (m : (ℓ : Loc Cert.BiasBuildIdeal.nD Cert.BiasBuildIdeal.τ Cert.BiasBuildIdeal.sig) → Buf (Elt Ideal) ℓ) (g : Dev Cert.BiasBuildIdeal.nD → PrngReg), Pre_BiasBuildIdeal m →
    θ_run (Cert.BiasBuildIdeal.defs (F := Ideal)) (onTc (τ := Cert.BiasBuildIdeal.τ) (Cert.BiasBuildIdeal.main (F := Ideal))) ⟨m, fun _ => 0, g⟩ (fun r => (∀ c : Dev Cert.BiasBuildIdeal.nD,
      r.2.mem ((c.tc : Thread Cert.BiasBuildIdeal.nD Cert.BiasBuildIdeal.τ).loc Cert.BiasBuildIdeal.main_arg0) = m ((c.tc : Thread Cert.BiasBuildIdeal.nD Cert.BiasBuildIdeal.τ).loc Cert.BiasBuildIdeal.main_arg0))
      ∧ r.2.sem = fun _ => 0)

def quiescent_BiasBuildRefIdeal [hBiasBuildRefIdeal : Cert.BiasBuildRefIdeal.Facts] : Prop :=
  ∀ (m : (ℓ : Loc Cert.BiasBuildRefIdeal.nD Cert.BiasBuildRefIdeal.τ Cert.BiasBuildRefIdeal.sig) → Buf (Elt Ideal) ℓ) (g : Dev Cert.BiasBuildRefIdeal.nD → PrngReg), Pre_BiasBuildRefIdeal m →
    θ_run (Cert.BiasBuildRefIdeal.defs (F := Ideal)) (onTc (τ := Cert.BiasBuildRefIdeal.τ) (Cert.BiasBuildRefIdeal.main (F := Ideal))) ⟨m, fun _ => 0, g⟩ (fun r => (∀ c : Dev Cert.BiasBuildRefIdeal.nD,
      r.2.mem ((c.tc : Thread Cert.BiasBuildRefIdeal.nD Cert.BiasBuildRefIdeal.τ).loc Cert.BiasBuildRefIdeal.main_arg0) = m ((c.tc : Thread Cert.BiasBuildRefIdeal.nD Cert.BiasBuildRefIdeal.τ).loc Cert.BiasBuildRefIdeal.main_arg0))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4)
      ∧ r.2.mem ((c.tc : Thread Cert.GateFwd.nD Cert.GateFwd.τ).loc Cert.GateFwd.main_arg5) = m ((c.tc : Thread Cert.GateFwd.nD Cert.GateFwd.τ).loc Cert.GateFwd.main_arg5))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
      ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4)
      ∧ r.2.mem ((c.tc : Thread Cert.GateFwdRefIdeal.nD Cert.GateFwdRefIdeal.τ).loc Cert.GateFwdRefIdeal.main_arg5) = m ((c.tc : Thread Cert.GateFwdRefIdeal.nD Cert.GateFwdRefIdeal.τ).loc Cert.GateFwdRefIdeal.main_arg5))
      ∧ r.2.sem = fun _ => 0)

def quiescent_MmNn [hMmNn : Cert.MmNn.Facts] : Prop :=
  ∀ (m : (ℓ : Loc Cert.MmNn.nD Cert.MmNn.τ Cert.MmNn.sig) → Buf (Elt Bits) ℓ) (g : Dev Cert.MmNn.nD → PrngReg), Pre_MmNn m →
    θ_run (Cert.MmNn.defs (F := Bits)) (onTc (τ := Cert.MmNn.τ) (Cert.MmNn.main (F := Bits))) ⟨m, fun _ => 0, g⟩ (fun r => (∀ c : Dev Cert.MmNn.nD,
      r.2.mem ((c.tc : Thread Cert.MmNn.nD Cert.MmNn.τ).loc Cert.MmNn.main_arg0) = m ((c.tc : Thread Cert.MmNn.nD Cert.MmNn.τ).loc Cert.MmNn.main_arg0)
      ∧ r.2.mem ((c.tc : Thread Cert.MmNn.nD Cert.MmNn.τ).loc Cert.MmNn.main_arg1) = m ((c.tc : Thread Cert.MmNn.nD Cert.MmNn.τ).loc Cert.MmNn.main_arg1)
      ∧ r.2.mem ((c.tc : Thread Cert.MmNn.nD Cert.MmNn.τ).loc Cert.MmNn.main_arg2) = m ((c.tc : Thread Cert.MmNn.nD Cert.MmNn.τ).loc Cert.MmNn.main_arg2))
      ∧ r.2.sem = fun _ => 0)

def quiescent_MmNnIdeal [hMmNnIdeal : Cert.MmNnIdeal.Facts] : Prop :=
  ∀ (m : (ℓ : Loc Cert.MmNnIdeal.nD Cert.MmNnIdeal.τ Cert.MmNnIdeal.sig) → Buf (Elt Ideal) ℓ) (g : Dev Cert.MmNnIdeal.nD → PrngReg), Pre_MmNnIdeal m →
    θ_run (Cert.MmNnIdeal.defs (F := Ideal)) (onTc (τ := Cert.MmNnIdeal.τ) (Cert.MmNnIdeal.main (F := Ideal))) ⟨m, fun _ => 0, g⟩ (fun r => (∀ c : Dev Cert.MmNnIdeal.nD,
      r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
      ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1)
      ∧ r.2.mem ((c.tc : Thread Cert.MmNnIdeal.nD Cert.MmNnIdeal.τ).loc Cert.MmNnIdeal.main_arg2) = m ((c.tc : Thread Cert.MmNnIdeal.nD Cert.MmNnIdeal.τ).loc Cert.MmNnIdeal.main_arg2))
      ∧ r.2.sem = fun _ => 0)

def quiescent_MmNnRefIdeal [hMmNnRefIdeal : Cert.MmNnRefIdeal.Facts] : Prop :=
  ∀ (m : (ℓ : Loc Cert.MmNnRefIdeal.nD Cert.MmNnRefIdeal.τ Cert.MmNnRefIdeal.sig) → Buf (Elt Ideal) ℓ) (g : Dev Cert.MmNnRefIdeal.nD → PrngReg), Pre_MmNnRefIdeal m →
    θ_run (Cert.MmNnRefIdeal.defs (F := Ideal)) (onTc (τ := Cert.MmNnRefIdeal.τ) (Cert.MmNnRefIdeal.main (F := Ideal))) ⟨m, fun _ => 0, g⟩ (fun r => (∀ c : Dev Cert.MmNnRefIdeal.nD,
      r.2.mem ((c.tc : Thread Cert.MmNnRefIdeal.nD Cert.MmNnRefIdeal.τ).loc Cert.MmNnRefIdeal.main_arg0) = m ((c.tc : Thread Cert.MmNnRefIdeal.nD Cert.MmNnRefIdeal.τ).loc Cert.MmNnRefIdeal.main_arg0)
      ∧ r.2.mem ((c.tc : Thread Cert.MmNnRefIdeal.nD Cert.MmNnRefIdeal.τ).loc Cert.MmNnRefIdeal.main_arg1) = m ((c.tc : Thread Cert.MmNnRefIdeal.nD Cert.MmNnRefIdeal.τ).loc Cert.MmNnRefIdeal.main_arg1)
      ∧ r.2.mem ((c.tc : Thread Cert.MmNnRefIdeal.nD Cert.MmNnRefIdeal.τ).loc Cert.MmNnRefIdeal.main_arg2) = m ((c.tc : Thread Cert.MmNnRefIdeal.nD Cert.MmNnRefIdeal.τ).loc Cert.MmNnRefIdeal.main_arg2))
      ∧ r.2.sem = fun _ => 0)

def quiescent_MmNt [hMmNt : Cert.MmNt.Facts] : Prop :=
  ∀ (m : (ℓ : Loc Cert.MmNt.nD Cert.MmNt.τ Cert.MmNt.sig) → Buf (Elt Bits) ℓ) (g : Dev Cert.MmNt.nD → PrngReg), Pre_MmNt m →
    θ_run (Cert.MmNt.defs (F := Bits)) (onTc (τ := Cert.MmNt.τ) (Cert.MmNt.main (F := Bits))) ⟨m, fun _ => 0, g⟩ (fun r => (∀ c : Dev Cert.MmNt.nD,
      r.2.mem ((c.tc : Thread Cert.MmNt.nD Cert.MmNt.τ).loc Cert.MmNt.main_arg0) = m ((c.tc : Thread Cert.MmNt.nD Cert.MmNt.τ).loc Cert.MmNt.main_arg0)
      ∧ r.2.mem ((c.tc : Thread Cert.MmNt.nD Cert.MmNt.τ).loc Cert.MmNt.main_arg1) = m ((c.tc : Thread Cert.MmNt.nD Cert.MmNt.τ).loc Cert.MmNt.main_arg1))
      ∧ r.2.sem = fun _ => 0)

def quiescent_MmNtIdeal [hMmNtIdeal : Cert.MmNtIdeal.Facts] : Prop :=
  ∀ (m : (ℓ : Loc Cert.MmNtIdeal.nD Cert.MmNtIdeal.τ Cert.MmNtIdeal.sig) → Buf (Elt Ideal) ℓ) (g : Dev Cert.MmNtIdeal.nD → PrngReg), Pre_MmNtIdeal m →
    θ_run (Cert.MmNtIdeal.defs (F := Ideal)) (onTc (τ := Cert.MmNtIdeal.τ) (Cert.MmNtIdeal.main (F := Ideal))) ⟨m, fun _ => 0, g⟩ (fun r => (∀ c : Dev Cert.MmNtIdeal.nD,
      r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
      ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ r.2.sem = fun _ => 0)

def quiescent_MmNtRefIdeal [hMmNtRefIdeal : Cert.MmNtRefIdeal.Facts] : Prop :=
  ∀ (m : (ℓ : Loc Cert.MmNtRefIdeal.nD Cert.MmNtRefIdeal.τ Cert.MmNtRefIdeal.sig) → Buf (Elt Ideal) ℓ) (g : Dev Cert.MmNtRefIdeal.nD → PrngReg), Pre_MmNtRefIdeal m →
    θ_run (Cert.MmNtRefIdeal.defs (F := Ideal)) (onTc (τ := Cert.MmNtRefIdeal.τ) (Cert.MmNtRefIdeal.main (F := Ideal))) ⟨m, fun _ => 0, g⟩ (fun r => (∀ c : Dev Cert.MmNtRefIdeal.nD,
      r.2.mem ((c.tc : Thread Cert.MmNtRefIdeal.nD Cert.MmNtRefIdeal.τ).loc Cert.MmNtRefIdeal.main_arg0) = m ((c.tc : Thread Cert.MmNtRefIdeal.nD Cert.MmNtRefIdeal.τ).loc Cert.MmNtRefIdeal.main_arg0)
      ∧ r.2.mem ((c.tc : Thread Cert.MmNtRefIdeal.nD Cert.MmNtRefIdeal.τ).loc Cert.MmNtRefIdeal.main_arg1) = m ((c.tc : Thread Cert.MmNtRefIdeal.nD Cert.MmNtRefIdeal.τ).loc Cert.MmNtRefIdeal.main_arg1))
      ∧ r.2.sem = fun _ => 0)

def quiescent_MmTn [hMmTn : Cert.MmTn.Facts] : Prop :=
  ∀ (m : (ℓ : Loc Cert.MmTn.nD Cert.MmTn.τ Cert.MmTn.sig) → Buf (Elt Bits) ℓ) (g : Dev Cert.MmTn.nD → PrngReg), Pre_MmTn m →
    θ_run (Cert.MmTn.defs (F := Bits)) (onTc (τ := Cert.MmTn.τ) (Cert.MmTn.main (F := Bits))) ⟨m, fun _ => 0, g⟩ (fun r => (∀ c : Dev Cert.MmTn.nD,
      r.2.mem ((c.tc : Thread Cert.MmTn.nD Cert.MmTn.τ).loc Cert.MmTn.main_arg0) = m ((c.tc : Thread Cert.MmTn.nD Cert.MmTn.τ).loc Cert.MmTn.main_arg0)
      ∧ r.2.mem ((c.tc : Thread Cert.MmTn.nD Cert.MmTn.τ).loc Cert.MmTn.main_arg1) = m ((c.tc : Thread Cert.MmTn.nD Cert.MmTn.τ).loc Cert.MmTn.main_arg1))
      ∧ r.2.sem = fun _ => 0)

def quiescent_MmTnIdeal [hMmTnIdeal : Cert.MmTnIdeal.Facts] : Prop :=
  ∀ (m : (ℓ : Loc Cert.MmTnIdeal.nD Cert.MmTnIdeal.τ Cert.MmTnIdeal.sig) → Buf (Elt Ideal) ℓ) (g : Dev Cert.MmTnIdeal.nD → PrngReg), Pre_MmTnIdeal m →
    θ_run (Cert.MmTnIdeal.defs (F := Ideal)) (onTc (τ := Cert.MmTnIdeal.τ) (Cert.MmTnIdeal.main (F := Ideal))) ⟨m, fun _ => 0, g⟩ (fun r => (∀ c : Dev Cert.MmTnIdeal.nD,
      r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
      ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ r.2.sem = fun _ => 0)

def quiescent_MmTnRefIdeal [hMmTnRefIdeal : Cert.MmTnRefIdeal.Facts] : Prop :=
  ∀ (m : (ℓ : Loc Cert.MmTnRefIdeal.nD Cert.MmTnRefIdeal.τ Cert.MmTnRefIdeal.sig) → Buf (Elt Ideal) ℓ) (g : Dev Cert.MmTnRefIdeal.nD → PrngReg), Pre_MmTnRefIdeal m →
    θ_run (Cert.MmTnRefIdeal.defs (F := Ideal)) (onTc (τ := Cert.MmTnRefIdeal.τ) (Cert.MmTnRefIdeal.main (F := Ideal))) ⟨m, fun _ => 0, g⟩ (fun r => (∀ c : Dev Cert.MmTnRefIdeal.nD,
      r.2.mem ((c.tc : Thread Cert.MmTnRefIdeal.nD Cert.MmTnRefIdeal.τ).loc Cert.MmTnRefIdeal.main_arg0) = m ((c.tc : Thread Cert.MmTnRefIdeal.nD Cert.MmTnRefIdeal.τ).loc Cert.MmTnRefIdeal.main_arg0)
      ∧ r.2.mem ((c.tc : Thread Cert.MmTnRefIdeal.nD Cert.MmTnRefIdeal.τ).loc Cert.MmTnRefIdeal.main_arg1) = m ((c.tc : Thread Cert.MmTnRefIdeal.nD Cert.MmTnRefIdeal.τ).loc Cert.MmTnRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_PairAdd [hPairAdd : Cert.PairAdd.Facts] [hPre_core_is_one_of_two : Cert.Pre_core_is_one_of_two.Facts] : Prop :=
  ∀ (m : (ℓ : Loc Cert.PairAdd.nD Cert.PairAdd.τ Cert.PairAdd.sig) → Buf (Elt Bits) ℓ) (g : Dev Cert.PairAdd.nD → PrngReg), Pre_PairAdd m →
    θ_run (Cert.PairAdd.defs (F := Bits)) (onTc (τ := Cert.PairAdd.τ) (Cert.PairAdd.main (F := Bits))) ⟨m, fun _ => 0, g⟩ (fun r => (∀ c : Dev Cert.PairAdd.nD,
      r.2.mem ((c.tc : Thread Cert.PairAdd.nD Cert.PairAdd.τ).loc Cert.PairAdd.main_arg0) = m ((c.tc : Thread Cert.PairAdd.nD Cert.PairAdd.τ).loc Cert.PairAdd.main_arg0)
      ∧ r.2.mem ((c.tc : Thread Cert.PairAdd.nD Cert.PairAdd.τ).loc Cert.PairAdd.main_arg1) = m ((c.tc : Thread Cert.PairAdd.nD Cert.PairAdd.τ).loc Cert.PairAdd.main_arg1)
      ∧ r.2.mem ((c.tc : Thread Cert.PairAdd.nD Cert.PairAdd.τ).loc Cert.PairAdd.main_arg2) = m ((c.tc : Thread Cert.PairAdd.nD Cert.PairAdd.τ).loc Cert.PairAdd.main_arg2))
      ∧ r.2.sem = fun _ => 0)

def quiescent_PairAddIdeal [hPairAddIdeal : Cert.PairAddIdeal.Facts] [hPre_core_is_one_of_two : Cert.Pre_core_is_one_of_two.Facts] : Prop :=
  ∀ (m : (ℓ : Loc Cert.PairAddIdeal.nD Cert.PairAddIdeal.τ Cert.PairAddIdeal.sig) → Buf (Elt Ideal) ℓ) (g : Dev Cert.PairAddIdeal.nD → PrngReg), Pre_PairAddIdeal m →
    θ_run (Cert.PairAddIdeal.defs (F := Ideal)) (onTc (τ := Cert.PairAddIdeal.τ) (Cert.PairAddIdeal.main (F := Ideal))) ⟨m, fun _ => 0, g⟩ (fun r => (∀ c : Dev Cert.PairAddIdeal.nD,
      r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
      ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
      ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ r.2.sem = fun _ => 0)

def quiescent_PairAddRefIdeal [hPairAddRefIdeal : Cert.PairAddRefIdeal.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1)
      ∧ r.2.mem ((c.tc : Thread Cert.PairAddRefIdeal.nD Cert.PairAddRefIdeal.τ).loc Cert.PairAddRefIdeal.main_arg2) = m ((c.tc : Thread Cert.PairAddRefIdeal.nD Cert.PairAddRefIdeal.τ).loc Cert.PairAddRefIdeal.main_arg2))
      ∧ r.2.sem = fun _ => 0)

def quiescent_PairAddRefIdeal_pre_core_is_one_of_two [hPairAddRefIdeal : Cert.PairAddRefIdeal.Facts] [hPre_core_is_one_of_two : Cert.Pre_core_is_one_of_two.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal_core_is_one_of_two m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1)
      ∧ r.2.mem ((c.tc : Thread Cert.PairAddRefIdeal.nD Cert.PairAddRefIdeal.τ).loc Cert.PairAddRefIdeal.main_arg2) = m ((c.tc : Thread Cert.PairAddRefIdeal.nD Cert.PairAddRefIdeal.τ).loc Cert.PairAddRefIdeal.main_arg2))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def quiescent_AdamBig [hAdamBig : Cert.AdamBig.Facts] [hPre_chip_is_one_of_four : Cert.Pre_chip_is_one_of_four.Facts] : Prop :=
  ∀ (m : (ℓ : Loc Cert.AdamBig.nD Cert.AdamBig.τ Cert.AdamBig.sig) → Buf (Elt Bits) ℓ) (g : Dev Cert.AdamBig.nD → PrngReg), Pre_AdamBig m →
    θ_run (Cert.AdamBig.defs (F := Bits)) (onTc (τ := Cert.AdamBig.τ) (Cert.AdamBig.main (F := Bits))) ⟨m, fun _ => 0, g⟩ (fun r => (∀ c : Dev Cert.AdamBig.nD,
      r.2.mem ((c.tc : Thread Cert.AdamBig.nD Cert.AdamBig.τ).loc Cert.AdamBig.main_arg0) = m ((c.tc : Thread Cert.AdamBig.nD Cert.AdamBig.τ).loc Cert.AdamBig.main_arg0)
      ∧ r.2.mem ((c.tc : Thread Cert.AdamBig.nD Cert.AdamBig.τ).loc Cert.AdamBig.main_arg1) = m ((c.tc : Thread Cert.AdamBig.nD Cert.AdamBig.τ).loc Cert.AdamBig.main_arg1)
      ∧ r.2.mem ((c.tc : Thread Cert.AdamBig.nD Cert.AdamBig.τ).loc Cert.AdamBig.main_arg2) = m ((c.tc : Thread Cert.AdamBig.nD Cert.AdamBig.τ).loc Cert.AdamBig.main_arg2)
      ∧ r.2.mem ((c.tc : Thread Cert.AdamBig.nD Cert.AdamBig.τ).loc Cert.AdamBig.main_arg3) = m ((c.tc : Thread Cert.AdamBig.nD Cert.AdamBig.τ).loc Cert.AdamBig.main_arg3)
      ∧ r.2.mem ((c.tc : Thread Cert.AdamBig.nD Cert.AdamBig.τ).loc Cert.AdamBig.main_arg4) = m ((c.tc : Thread Cert.AdamBig.nD Cert.AdamBig.τ).loc Cert.AdamBig.main_arg4)
      ∧ r.2.mem ((c.tc : Thread Cert.AdamBig.nD Cert.AdamBig.τ).loc Cert.AdamBig.main_arg5) = m ((c.tc : Thread Cert.AdamBig.nD Cert.AdamBig.τ).loc Cert.AdamBig.main_arg5))
      ∧ r.2.sem = fun _ => 0)

def quiescent_AdamBigIdeal [hAdamBigIdeal : Cert.AdamBigIdeal.Facts] [hPre_chip_is_one_of_four : Cert.Pre_chip_is_one_of_four.Facts] : Prop :=
  ∀ (m : (ℓ : Loc Cert.AdamBigIdeal.nD Cert.AdamBigIdeal.τ Cert.AdamBigIdeal.sig) → Buf (Elt Ideal) ℓ) (g : Dev Cert.AdamBigIdeal.nD → PrngReg), Pre_AdamBigIdeal m →
    θ_run (Cert.AdamBigIdeal.defs (F := Ideal)) (onTc (τ := Cert.AdamBigIdeal.τ) (Cert.AdamBigIdeal.main (F := Ideal))) ⟨m, fun _ => 0, g⟩ (fun r => (∀ c : Dev Cert.AdamBigIdeal.nD,
      r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
      ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
      ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
      ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
      ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4)
      ∧ r.2.mem ((c.tc : Thread Cert.AdamBigIdeal.nD Cert.AdamBigIdeal.τ).loc Cert.AdamBigIdeal.main_arg5) = m ((c.tc : Thread Cert.AdamBigIdeal.nD Cert.AdamBigIdeal.τ).loc Cert.AdamBigIdeal.main_arg5))
      ∧ r.2.sem = fun _ => 0)

def quiescent_AdamBigRefIdeal [hAdamBigRefIdeal : Cert.AdamBigRefIdeal.Facts] : Prop :=
  ∀ (m : (ℓ : Loc Cert.AdamBigRefIdeal.nD Cert.AdamBigRefIdeal.τ Cert.AdamBigRefIdeal.sig) → Buf (Elt Ideal) ℓ) (g : Dev Cert.AdamBigRefIdeal.nD → PrngReg), Pre_AdamBigRefIdeal m →
    θ_run (Cert.AdamBigRefIdeal.defs (F := Ideal)) (onTc (τ := Cert.AdamBigRefIdeal.τ) (Cert.AdamBigRefIdeal.main (F := Ideal))) ⟨m, fun _ => 0, g⟩ (fun r => (∀ c : Dev Cert.AdamBigRefIdeal.nD,
      r.2.mem ((c.tc : Thread Cert.AdamBigRefIdeal.nD Cert.AdamBigRefIdeal.τ).loc Cert.AdamBigRefIdeal.main_arg0) = m ((c.tc : Thread Cert.AdamBigRefIdeal.nD Cert.AdamBigRefIdeal.τ).loc Cert.AdamBigRefIdeal.main_arg0)
      ∧ r.2.mem ((c.tc : Thread Cert.AdamBigRefIdeal.nD Cert.AdamBigRefIdeal.τ).loc Cert.AdamBigRefIdeal.main_arg1) = m ((c.tc : Thread Cert.AdamBigRefIdeal.nD Cert.AdamBigRefIdeal.τ).loc Cert.AdamBigRefIdeal.main_arg1)
      ∧ r.2.mem ((c.tc : Thread Cert.AdamBigRefIdeal.nD Cert.AdamBigRefIdeal.τ).loc Cert.AdamBigRefIdeal.main_arg2) = m ((c.tc : Thread Cert.AdamBigRefIdeal.nD Cert.AdamBigRefIdeal.τ).loc Cert.AdamBigRefIdeal.main_arg2)
      ∧ r.2.mem ((c.tc : Thread Cert.AdamBigRefIdeal.nD Cert.AdamBigRefIdeal.τ).loc Cert.AdamBigRefIdeal.main_arg3) = m ((c.tc : Thread Cert.AdamBigRefIdeal.nD Cert.AdamBigRefIdeal.τ).loc Cert.AdamBigRefIdeal.main_arg3)
      ∧ r.2.mem ((c.tc : Thread Cert.AdamBigRefIdeal.nD Cert.AdamBigRefIdeal.τ).loc Cert.AdamBigRefIdeal.main_arg4) = m ((c.tc : Thread Cert.AdamBigRefIdeal.nD Cert.AdamBigRefIdeal.τ).loc Cert.AdamBigRefIdeal.main_arg4)
      ∧ r.2.mem ((c.tc : Thread Cert.AdamBigRefIdeal.nD Cert.AdamBigRefIdeal.τ).loc Cert.AdamBigRefIdeal.main_arg5) = m ((c.tc : Thread Cert.AdamBigRefIdeal.nD Cert.AdamBigRefIdeal.τ).loc Cert.AdamBigRefIdeal.main_arg5))
      ∧ r.2.sem = fun _ => 0)

def quiescent_AdamBigRefIdeal_pre_chip_is_one_of_four [hAdamBigRefIdeal : Cert.AdamBigRefIdeal.Facts] [hPre_chip_is_one_of_four : Cert.Pre_chip_is_one_of_four.Facts] : Prop :=
  ∀ (m : (ℓ : Loc Cert.AdamBigRefIdeal.nD Cert.AdamBigRefIdeal.τ Cert.AdamBigRefIdeal.sig) → Buf (Elt Ideal) ℓ) (g : Dev Cert.AdamBigRefIdeal.nD → PrngReg), Pre_AdamBigRefIdeal_chip_is_one_of_four m →
    θ_run (Cert.AdamBigRefIdeal.defs (F := Ideal)) (onTc (τ := Cert.AdamBigRefIdeal.τ) (Cert.AdamBigRefIdeal.main (F := Ideal))) ⟨m, fun _ => 0, g⟩ (fun r => (∀ c : Dev Cert.AdamBigRefIdeal.nD,
      r.2.mem ((c.tc : Thread Cert.AdamBigRefIdeal.nD Cert.AdamBigRefIdeal.τ).loc Cert.AdamBigRefIdeal.main_arg0) = m ((c.tc : Thread Cert.AdamBigRefIdeal.nD Cert.AdamBigRefIdeal.τ).loc Cert.AdamBigRefIdeal.main_arg0)
      ∧ r.2.mem ((c.tc : Thread Cert.AdamBigRefIdeal.nD Cert.AdamBigRefIdeal.τ).loc Cert.AdamBigRefIdeal.main_arg1) = m ((c.tc : Thread Cert.AdamBigRefIdeal.nD Cert.AdamBigRefIdeal.τ).loc Cert.AdamBigRefIdeal.main_arg1)
      ∧ r.2.mem ((c.tc : Thread Cert.AdamBigRefIdeal.nD Cert.AdamBigRefIdeal.τ).loc Cert.AdamBigRefIdeal.main_arg2) = m ((c.tc : Thread Cert.AdamBigRefIdeal.nD Cert.AdamBigRefIdeal.τ).loc Cert.AdamBigRefIdeal.main_arg2)
      ∧ r.2.mem ((c.tc : Thread Cert.AdamBigRefIdeal.nD Cert.AdamBigRefIdeal.τ).loc Cert.AdamBigRefIdeal.main_arg3) = m ((c.tc : Thread Cert.AdamBigRefIdeal.nD Cert.AdamBigRefIdeal.τ).loc Cert.AdamBigRefIdeal.main_arg3)
      ∧ r.2.mem ((c.tc : Thread Cert.AdamBigRefIdeal.nD Cert.AdamBigRefIdeal.τ).loc Cert.AdamBigRefIdeal.main_arg4) = m ((c.tc : Thread Cert.AdamBigRefIdeal.nD Cert.AdamBigRefIdeal.τ).loc Cert.AdamBigRefIdeal.main_arg4)
      ∧ r.2.mem ((c.tc : Thread Cert.AdamBigRefIdeal.nD Cert.AdamBigRefIdeal.τ).loc Cert.AdamBigRefIdeal.main_arg5) = m ((c.tc : Thread Cert.AdamBigRefIdeal.nD Cert.AdamBigRefIdeal.τ).loc Cert.AdamBigRefIdeal.main_arg5))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1))
      ∧ r.2.sem = fun _ => 0)

def quiescent_ProjBwdW [hProjBwdW : Cert.ProjBwdW.Facts] : Prop :=
  ∀ (m : (ℓ : Loc Cert.ProjBwdW.nD Cert.ProjBwdW.τ Cert.ProjBwdW.sig) → Buf (Elt Bits) ℓ) (g : Dev Cert.ProjBwdW.nD → PrngReg), Pre_ProjBwdW m →
    θ_run (Cert.ProjBwdW.defs (F := Bits)) (onTc (τ := Cert.ProjBwdW.τ) (Cert.ProjBwdW.main (F := Bits))) ⟨m, fun _ => 0, g⟩ (fun r => (∀ c : Dev Cert.ProjBwdW.nD,
      r.2.mem ((c.tc : Thread Cert.ProjBwdW.nD Cert.ProjBwdW.τ).loc Cert.ProjBwdW.main_arg0) = m ((c.tc : Thread Cert.ProjBwdW.nD Cert.ProjBwdW.τ).loc Cert.ProjBwdW.main_arg0)
      ∧ r.2.mem ((c.tc : Thread Cert.ProjBwdW.nD Cert.ProjBwdW.τ).loc Cert.ProjBwdW.main_arg1) = m ((c.tc : Thread Cert.ProjBwdW.nD Cert.ProjBwdW.τ).loc Cert.ProjBwdW.main_arg1))
      ∧ r.2.sem = fun _ => 0)

def quiescent_ProjBwdWIdeal [hProjBwdWIdeal : Cert.ProjBwdWIdeal.Facts] : Prop :=
  ∀ (m : (ℓ : Loc Cert.ProjBwdWIdeal.nD Cert.ProjBwdWIdeal.τ Cert.ProjBwdWIdeal.sig) → Buf (Elt Ideal) ℓ) (g : Dev Cert.ProjBwdWIdeal.nD → PrngReg), Pre_ProjBwdWIdeal m →
    θ_run (Cert.ProjBwdWIdeal.defs (F := Ideal)) (onTc (τ := Cert.ProjBwdWIdeal.τ) (Cert.ProjBwdWIdeal.main (F := Ideal))) ⟨m, fun _ => 0, g⟩ (fun r => (∀ c : Dev Cert.ProjBwdWIdeal.nD,
      r.2.mem ((c.tc : Thread Cert.ProjBwdWIdeal.nD Cert.ProjBwdWIdeal.τ).loc Cert.ProjBwdWIdeal.main_arg0) = m ((c.tc : Thread Cert.ProjBwdWIdeal.nD Cert.ProjBwdWIdeal.τ).loc Cert.ProjBwdWIdeal.main_arg0)
      ∧ r.2.mem ((c.tc : Thread Cert.ProjBwdWIdeal.nD Cert.ProjBwdWIdeal.τ).loc Cert.ProjBwdWIdeal.main_arg1) = m ((c.tc : Thread Cert.ProjBwdWIdeal.nD Cert.ProjBwdWIdeal.τ).loc Cert.ProjBwdWIdeal.main_arg1))
      ∧ r.2.sem = fun _ => 0)

def quiescent_ProjBwdWRefIdeal [hProjBwdWRefIdeal : Cert.ProjBwdWRefIdeal.Facts] : Prop :=
  ∀ (m : (ℓ : Loc Cert.ProjBwdWRefIdeal.nD Cert.ProjBwdWRefIdeal.τ Cert.ProjBwdWRefIdeal.sig) → Buf (Elt Ideal) ℓ) (g : Dev Cert.ProjBwdWRefIdeal.nD → PrngReg), Pre_ProjBwdWRefIdeal m →
    θ_run (Cert.ProjBwdWRefIdeal.defs (F := Ideal)) (onTc (τ := Cert.ProjBwdWRefIdeal.τ) (Cert.ProjBwdWRefIdeal.main (F := Ideal))) ⟨m, fun _ => 0, g⟩ (fun r => (∀ c : Dev Cert.ProjBwdWRefIdeal.nD,
      r.2.mem ((c.tc : Thread Cert.ProjBwdWRefIdeal.nD Cert.ProjBwdWRefIdeal.τ).loc Cert.ProjBwdWRefIdeal.main_arg0) = m ((c.tc : Thread Cert.ProjBwdWRefIdeal.nD Cert.ProjBwdWRefIdeal.τ).loc Cert.ProjBwdWRefIdeal.main_arg0)
      ∧ r.2.mem ((c.tc : Thread Cert.ProjBwdWRefIdeal.nD Cert.ProjBwdWRefIdeal.τ).loc Cert.ProjBwdWRefIdeal.main_arg1) = m ((c.tc : Thread Cert.ProjBwdWRefIdeal.nD Cert.ProjBwdWRefIdeal.τ).loc Cert.ProjBwdWRefIdeal.main_arg1))
      ∧ r.2.sem = fun _ => 0)

def quiescent_ProjBwdX [hProjBwdX : Cert.ProjBwdX.Facts] : Prop :=
  ∀ (m : (ℓ : Loc Cert.ProjBwdX.nD Cert.ProjBwdX.τ Cert.ProjBwdX.sig) → Buf (Elt Bits) ℓ) (g : Dev Cert.ProjBwdX.nD → PrngReg), Pre_ProjBwdX m →
    θ_run (Cert.ProjBwdX.defs (F := Bits)) (onTc (τ := Cert.ProjBwdX.τ) (Cert.ProjBwdX.main (F := Bits))) ⟨m, fun _ => 0, g⟩ (fun r => (∀ c : Dev Cert.ProjBwdX.nD,
      r.2.mem ((c.tc : Thread Cert.ProjBwdX.nD Cert.ProjBwdX.τ).loc Cert.ProjBwdX.main_arg0) = m ((c.tc : Thread Cert.ProjBwdX.nD Cert.ProjBwdX.τ).loc Cert.ProjBwdX.main_arg0)
      ∧ r.2.mem ((c.tc : Thread Cert.ProjBwdX.nD Cert.ProjBwdX.τ).loc Cert.ProjBwdX.main_arg1) = m ((c.tc : Thread Cert.ProjBwdX.nD Cert.ProjBwdX.τ).loc Cert.ProjBwdX.main_arg1))
      ∧ r.2.sem = fun _ => 0)

def quiescent_ProjBwdXIdeal [hProjBwdXIdeal : Cert.ProjBwdXIdeal.Facts] : Prop :=
  ∀ (m : (ℓ : Loc Cert.ProjBwdXIdeal.nD Cert.ProjBwdXIdeal.τ Cert.ProjBwdXIdeal.sig) → Buf (Elt Ideal) ℓ) (g : Dev Cert.ProjBwdXIdeal.nD → PrngReg), Pre_ProjBwdXIdeal m →
    θ_run (Cert.ProjBwdXIdeal.defs (F := Ideal)) (onTc (τ := Cert.ProjBwdXIdeal.τ) (Cert.ProjBwdXIdeal.main (F := Ideal))) ⟨m, fun _ => 0, g⟩ (fun r => (∀ c : Dev Cert.ProjBwdXIdeal.nD,
      r.2.mem ((c.tc : Thread Cert.ProjBwdXIdeal.nD Cert.ProjBwdXIdeal.τ).loc Cert.ProjBwdXIdeal.main_arg0) = m ((c.tc : Thread Cert.ProjBwdXIdeal.nD Cert.ProjBwdXIdeal.τ).loc Cert.ProjBwdXIdeal.main_arg0)
      ∧ r.2.mem ((c.tc : Thread Cert.ProjBwdXIdeal.nD Cert.ProjBwdXIdeal.τ).loc Cert.ProjBwdXIdeal.main_arg1) = m ((c.tc : Thread Cert.ProjBwdXIdeal.nD Cert.ProjBwdXIdeal.τ).loc Cert.ProjBwdXIdeal.main_arg1))
      ∧ r.2.sem = fun _ => 0)

def quiescent_ProjBwdXRefIdeal [hProjBwdXRefIdeal : Cert.ProjBwdXRefIdeal.Facts] : Prop :=
  ∀ (m : (ℓ : Loc Cert.ProjBwdXRefIdeal.nD Cert.ProjBwdXRefIdeal.τ Cert.ProjBwdXRefIdeal.sig) → Buf (Elt Ideal) ℓ) (g : Dev Cert.ProjBwdXRefIdeal.nD → PrngReg), Pre_ProjBwdXRefIdeal m →
    θ_run (Cert.ProjBwdXRefIdeal.defs (F := Ideal)) (onTc (τ := Cert.ProjBwdXRefIdeal.τ) (Cert.ProjBwdXRefIdeal.main (F := Ideal))) ⟨m, fun _ => 0, g⟩ (fun r => (∀ c : Dev Cert.ProjBwdXRefIdeal.nD,
      r.2.mem ((c.tc : Thread Cert.ProjBwdXRefIdeal.nD Cert.ProjBwdXRefIdeal.τ).loc Cert.ProjBwdXRefIdeal.main_arg0) = m ((c.tc : Thread Cert.ProjBwdXRefIdeal.nD Cert.ProjBwdXRefIdeal.τ).loc Cert.ProjBwdXRefIdeal.main_arg0)
      ∧ r.2.mem ((c.tc : Thread Cert.ProjBwdXRefIdeal.nD Cert.ProjBwdXRefIdeal.τ).loc Cert.ProjBwdXRefIdeal.main_arg1) = m ((c.tc : Thread Cert.ProjBwdXRefIdeal.nD Cert.ProjBwdXRefIdeal.τ).loc Cert.ProjBwdXRefIdeal.main_arg1))
      ∧ r.2.sem = fun _ => 0)

def preserves_RmsBwd_RmsBwdIdeal : Prop :=
  True

def algebraic_RmsBwdIdeal_RmsRefIdeal_pre_rms_bwd_finite [hRmsBwdIdeal : Cert.RmsBwdIdeal.Facts] [hRmsRefIdeal : Cert.RmsRefIdeal.Facts] [hPre_rms_bwd_finite : Cert.Pre_rms_bwd_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsBwdIdeal_rms_bwd_finite m →
    (∀ c : Dev Cert.RmsBwdIdeal.nD,
      m' ((c.tc : Thread Cert.RmsRefIdeal.nD Cert.RmsRefIdeal.τ).loc Cert.RmsRefIdeal.main_arg0) = m ((c.tc : Thread Cert.RmsBwdIdeal.nD Cert.RmsBwdIdeal.τ).loc Cert.RmsBwdIdeal.main_arg0)
      ∧ m' ((c.tc : Thread Cert.RmsRefIdeal.nD Cert.RmsRefIdeal.τ).loc Cert.RmsRefIdeal.main_arg1) = m ((c.tc : Thread Cert.RmsBwdIdeal.nD Cert.RmsBwdIdeal.τ).loc Cert.RmsBwdIdeal.main_arg1)
      ∧ m' ((c.tc : Thread Cert.RmsRefIdeal.nD Cert.RmsRefIdeal.τ).loc Cert.RmsRefIdeal.main_arg2) = m ((c.tc : Thread Cert.RmsBwdIdeal.nD Cert.RmsBwdIdeal.τ).loc Cert.RmsBwdIdeal.main_arg2)
      ∧ m' ((c.tc : Thread Cert.RmsRefIdeal.nD Cert.RmsRefIdeal.τ).loc Cert.RmsRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v38) = v0 c
          ∧ r.2.mem ((c.tc : Thread Cert.RmsRefIdeal.nD Cert.RmsRefIdeal.τ).loc Cert.RmsRefIdeal.main_v39) = v1 c
          ∧ r.2.mem ((c.tc : Thread Cert.RmsRefIdeal.nD Cert.RmsRefIdeal.τ).loc Cert.RmsRefIdeal.main_v37) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_AttnBwd_AttnBwdIdeal : Prop :=
  IdealRules.named_const.Statement Cert.AttnBwdIdeal.κ "mask" .f32 0xF149F2CA#32 ⊥

def algebraic_AttnBwdIdeal_AttnRefIdeal_pre_attn_bwd_finite [hAttnBwdIdeal : Cert.AttnBwdIdeal.Facts] [hAttnRefIdeal : Cert.AttnRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_attn_bwd_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v29_0)) (v1 : (c : Dev Cert.AttnBwdIdeal.nD) → Buf (Elt Ideal) ((c.tc : Thread Cert.AttnBwdIdeal.nD Cert.AttnBwdIdeal.τ).loc Cert.AttnBwdIdeal.main_v35)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v29_0) = v0 c
          ∧ r.2.mem ((c.tc : Thread Cert.AttnBwdIdeal.nD Cert.AttnBwdIdeal.τ).loc Cert.AttnBwdIdeal.main_v35) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v107) = v0 c
          ∧ r.2.mem ((c.tc : Thread Cert.AttnRefIdeal.nD Cert.AttnRefIdeal.τ).loc Cert.AttnRefIdeal.main_v89) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_BiasGrad_BiasGradIdeal : Prop :=
  True

def algebraic_BiasGradIdeal_BiasGradRefIdeal_pre_bias_grad_banded [hBiasGradIdeal : Cert.BiasGradIdeal.Facts] [hBiasGradRefIdeal : Cert.BiasGradRefIdeal.Facts] [hPre_bias_grad_banded : Cert.Pre_bias_grad_banded.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradRefIdeal.nD Cert.BiasGradRefIdeal.τ Cert.BiasGradRefIdeal.sig) → Buf (Elt Ideal) ℓ) (g' : Dev Cert.BiasGradRefIdeal.nD → PrngReg), Pre_BiasGradIdeal_bias_grad_banded m →
    (∀ c : Dev Cert.BiasGradIdeal.nD,
      m' ((c.tc : Thread Cert.BiasGradRefIdeal.nD Cert.BiasGradRefIdeal.τ).loc Cert.BiasGradRefIdeal.main_arg0) = m ((c.tc : Thread Cert.BiasGradIdeal.nD Cert.BiasGradIdeal.τ).loc Cert.BiasGradIdeal.main_arg0)
      ∧ m' ((c.tc : Thread Cert.BiasGradRefIdeal.nD Cert.BiasGradRefIdeal.τ).loc Cert.BiasGradRefIdeal.main_arg1) = m ((c.tc : Thread Cert.BiasGradIdeal.nD Cert.BiasGradIdeal.τ).loc Cert.BiasGradIdeal.main_arg1)) →
    ∃ (v0 : (c : Dev Cert.BiasGradIdeal.nD) → Buf (Elt Ideal) ((c.tc : Thread Cert.BiasGradIdeal.nD Cert.BiasGradIdeal.τ).loc Cert.BiasGradIdeal.main_v17)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v17) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0)
          ∧ r.2.mem ((c.tc : Thread Cert.BiasGradIdeal.nD Cert.BiasGradIdeal.τ).loc Cert.BiasGradIdeal.main_arg1) = m ((c.tc : Thread Cert.BiasGradIdeal.nD Cert.BiasGradIdeal.τ).loc Cert.BiasGradIdeal.main_arg1))
      ∧ θ_run (Cert.BiasGradRefIdeal.defs (F := Ideal)) (onTc (τ := Cert.BiasGradRefIdeal.τ) (Cert.BiasGradRefIdeal.main (F := Ideal))) ⟨m', fun _ => 0, g'⟩ (fun r => ∀ c : Dev Cert.BiasGradRefIdeal.nD,
          r.2.mem ((c.tc : Thread Cert.BiasGradRefIdeal.nD Cert.BiasGradRefIdeal.τ).loc Cert.BiasGradRefIdeal.main_v28) = v0 c
          ∧ r.2.mem ((c.tc : Thread Cert.BiasGradRefIdeal.nD Cert.BiasGradRefIdeal.τ).loc Cert.BiasGradRefIdeal.main_arg0) = m' ((c.tc : Thread Cert.BiasGradRefIdeal.nD Cert.BiasGradRefIdeal.τ).loc Cert.BiasGradRefIdeal.main_arg0)
          ∧ r.2.mem ((c.tc : Thread Cert.BiasGradRefIdeal.nD Cert.BiasGradRefIdeal.τ).loc Cert.BiasGradRefIdeal.main_arg1) = m' ((c.tc : Thread Cert.BiasGradRefIdeal.nD Cert.BiasGradRefIdeal.τ).loc Cert.BiasGradRefIdeal.main_arg1))

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v4_0)) (v1 : (c : Dev Cert.ConvBwdIdeal.nD) → Buf (Elt Ideal) ((c.tc : Thread Cert.ConvBwdIdeal.nD Cert.ConvBwdIdeal.τ).loc Cert.ConvBwdIdeal.main_v5)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v4_0) = v0 c
          ∧ r.2.mem ((c.tc : Thread Cert.ConvBwdIdeal.nD Cert.ConvBwdIdeal.τ).loc Cert.ConvBwdIdeal.main_v5) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v52) = v0 c
          ∧ r.2.mem ((c.tc : Thread Cert.ConvRefIdeal.nD Cert.ConvRefIdeal.τ).loc Cert.ConvRefIdeal.main_v37) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_LnBwd_LnBwdIdeal : Prop :=
  True

def algebraic_LnBwdIdeal_LnRefIdeal_pre_ln_bwd_finite [hLnBwdIdeal : Cert.LnBwdIdeal.Facts] [hLnRefIdeal : Cert.LnRefIdeal.Facts] [hPre_ln_bwd_finite : Cert.Pre_ln_bwd_finite.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnBwdIdeal_ln_bwd_finite m →
    (∀ c : Dev Cert.LnBwdIdeal.nD,
      m' ((c.tc : Thread Cert.LnRefIdeal.nD Cert.LnRefIdeal.τ).loc Cert.LnRefIdeal.main_arg0) = m ((c.tc : Thread Cert.LnBwdIdeal.nD Cert.LnBwdIdeal.τ).loc Cert.LnBwdIdeal.main_arg0)
      ∧ m' ((c.tc : Thread Cert.LnRefIdeal.nD Cert.LnRefIdeal.τ).loc Cert.LnRefIdeal.main_arg1) = m ((c.tc : Thread Cert.LnBwdIdeal.nD Cert.LnBwdIdeal.τ).loc Cert.LnBwdIdeal.main_arg1)
      ∧ m' ((c.tc : Thread Cert.LnRefIdeal.nD Cert.LnRefIdeal.τ).loc Cert.LnRefIdeal.main_arg2) = m ((c.tc : Thread Cert.LnBwdIdeal.nD Cert.LnBwdIdeal.τ).loc Cert.LnBwdIdeal.main_arg2)
      ∧ m' ((c.tc : Thread Cert.LnRefIdeal.nD Cert.LnRefIdeal.τ).loc Cert.LnRefIdeal.main_arg3) = m ((c.tc : Thread Cert.LnBwdIdeal.nD Cert.LnBwdIdeal.τ).loc Cert.LnBwdIdeal.main_arg3)
      ∧ m' ((c.tc : Thread Cert.LnRefIdeal.nD Cert.LnRefIdeal.τ).loc Cert.LnRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v2_0)) (v1 : (c : Dev Cert.LnBwdIdeal.nD) → Buf (Elt Ideal) ((c.tc : Thread Cert.LnBwdIdeal.nD Cert.LnBwdIdeal.τ).loc Cert.LnBwdIdeal.main_v2_1)) (v2 : (c : Dev Cert.LnBwdIdeal.nD) → Buf (Elt Ideal) ((c.tc : Thread Cert.LnBwdIdeal.nD Cert.LnBwdIdeal.τ).loc Cert.LnBwdIdeal.main_v2_2)) (v3 : (c : Dev Cert.LnBwdIdeal.nD) → Buf (Elt Ideal) ((c.tc : Thread Cert.LnBwdIdeal.nD Cert.LnBwdIdeal.τ).loc Cert.LnBwdIdeal.main_v2_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v2_0) = v0 c
          ∧ r.2.mem ((c.tc : Thread Cert.LnBwdIdeal.nD Cert.LnBwdIdeal.τ).loc Cert.LnBwdIdeal.main_v2_1) = v1 c
          ∧ r.2.mem ((c.tc : Thread Cert.LnBwdIdeal.nD Cert.LnBwdIdeal.τ).loc Cert.LnBwdIdeal.main_v2_2) = v2 c
          ∧ r.2.mem ((c.tc : Thread Cert.LnBwdIdeal.nD Cert.LnBwdIdeal.τ).loc Cert.LnBwdIdeal.main_v2_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v63) = v0 c
          ∧ r.2.mem ((c.tc : Thread Cert.LnRefIdeal.nD Cert.LnRefIdeal.τ).loc Cert.LnRefIdeal.main_v65) = v1 c
          ∧ r.2.mem ((c.tc : Thread Cert.LnRefIdeal.nD Cert.LnRefIdeal.τ).loc Cert.LnRefIdeal.main_v64) = v2 c
          ∧ r.2.mem ((c.tc : Thread Cert.LnRefIdeal.nD Cert.LnRefIdeal.τ).loc Cert.LnRefIdeal.main_v69) = v3 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4))

def preserves_PostBwd_PostBwdIdeal : Prop :=
  True

def algebraic_PostBwdIdeal_PostRefIdeal_on_gates_written_pre_post_bwd_finite [hPostBwdIdeal : Cert.PostBwdIdeal.Facts] [hPostRefIdeal : Cert.PostRefIdeal.Facts] [hPre_post_bwd_finite : Cert.Pre_post_bwd_finite.Facts] [hOn_gates_written : Cert.On_gates_written.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostBwdIdeal_post_bwd_finite m →
    (∀ c : Dev Cert.PostBwdIdeal.nD,
      m' ((c.tc : Thread Cert.PostRefIdeal.nD Cert.PostRefIdeal.τ).loc Cert.PostRefIdeal.main_arg0) = m ((c.tc : Thread Cert.PostBwdIdeal.nD Cert.PostBwdIdeal.τ).loc Cert.PostBwdIdeal.main_arg0)
      ∧ m' ((c.tc : Thread Cert.PostRefIdeal.nD Cert.PostRefIdeal.τ).loc Cert.PostRefIdeal.main_arg1) = m ((c.tc : Thread Cert.PostBwdIdeal.nD Cert.PostBwdIdeal.τ).loc Cert.PostBwdIdeal.main_arg1)
      ∧ m' ((c.tc : Thread Cert.PostRefIdeal.nD Cert.PostRefIdeal.τ).loc Cert.PostRefIdeal.main_arg2) = m ((c.tc : Thread Cert.PostBwdIdeal.nD Cert.PostBwdIdeal.τ).loc Cert.PostBwdIdeal.main_arg2)
      ∧ m' ((c.tc : Thread Cert.PostRefIdeal.nD Cert.PostRefIdeal.τ).loc Cert.PostRefIdeal.main_arg3) = m ((c.tc : Thread Cert.PostBwdIdeal.nD Cert.PostBwdIdeal.τ).loc Cert.PostBwdIdeal.main_arg3)
      ∧ m' ((c.tc : Thread Cert.PostRefIdeal.nD Cert.PostRefIdeal.τ).loc Cert.PostRefIdeal.main_arg4) = m ((c.tc : Thread Cert.PostBwdIdeal.nD Cert.PostBwdIdeal.τ).loc Cert.PostBwdIdeal.main_arg4)
      ∧ m' ((c.tc : Thread Cert.PostRefIdeal.nD Cert.PostRefIdeal.τ).loc Cert.PostRefIdeal.main_arg5) = m ((c.tc : Thread Cert.PostBwdIdeal.nD Cert.PostBwdIdeal.τ).loc Cert.PostBwdIdeal.main_arg5)
      ∧ m' ((c.tc : Thread Cert.PostRefIdeal.nD Cert.PostRefIdeal.τ).loc Cert.PostRefIdeal.main_arg6) = m ((c.tc : Thread Cert.PostBwdIdeal.nD Cert.PostBwdIdeal.τ).loc Cert.PostBwdIdeal.main_arg6)) →
    ∃ (v0 : (c : Dev Cert.PostBwdIdeal.nD) → Buf (Elt Ideal) ((c.tc : Thread Cert.PostBwdIdeal.nD Cert.PostBwdIdeal.τ).loc Cert.PostBwdIdeal.main_v8_0)) (v1 : (c : Dev Cert.PostBwdIdeal.nD) → Buf (Elt Ideal) ((c.tc : Thread Cert.PostBwdIdeal.nD Cert.PostBwdIdeal.τ).loc Cert.PostBwdIdeal.main_v8_1)) (v2 : (c : Dev Cert.PostBwdIdeal.nD) → Buf (Elt Ideal) ((c.tc : Thread Cert.PostBwdIdeal.nD Cert.PostBwdIdeal.τ).loc Cert.PostBwdIdeal.main_v8_2)) (v3 : (c : Dev Cert.PostBwdIdeal.nD) → Buf (Elt Ideal) ((c.tc : Thread Cert.PostBwdIdeal.nD Cert.PostBwdIdeal.τ).loc Cert.PostBwdIdeal.main_v8_3)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          (∀ i : (⟨3, ![7, 4096, 2048]⟩ : Shape).Idx, (Cert.On_gates_written.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).1 i = 1#1 → r.2.mem ((c.tc : Thread Cert.PostBwdIdeal.nD Cert.PostBwdIdeal.τ).loc Cert.PostBwdIdeal.main_v8_0) i = v0 c i)
          ∧ (∀ i : (⟨3, ![2, 4096, 2048]⟩ : Shape).Idx, (Cert.On_gates_written.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.1 i = 1#1 → r.2.mem ((c.tc : Thread Cert.PostBwdIdeal.nD Cert.PostBwdIdeal.τ).loc Cert.PostBwdIdeal.main_v8_1) i = v1 c i)
          ∧ (∀ i : (⟨3, ![2, 1, 2048]⟩ : Shape).Idx, (Cert.On_gates_written.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.1 i = 1#1 → r.2.mem ((c.tc : Thread Cert.PostBwdIdeal.nD Cert.PostBwdIdeal.τ).loc Cert.PostBwdIdeal.main_v8_2) i = v2 c i)
          ∧ (∀ i : (⟨3, ![2, 1, 2048]⟩ : Shape).Idx, (Cert.On_gates_written.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.2 i = 1#1 → r.2.mem ((c.tc : Thread Cert.PostBwdIdeal.nD Cert.PostBwdIdeal.τ).loc Cert.PostBwdIdeal.main_v8_3) i = v3 c i)
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5)
          ∧ r.2.mem ((c.tc : Thread Cert.PostBwdIdeal.nD Cert.PostBwdIdeal.τ).loc Cert.PostBwdIdeal.main_arg6) = m ((c.tc : Thread Cert.PostBwdIdeal.nD Cert.PostBwdIdeal.τ).loc Cert.PostBwdIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          (∀ i : (⟨3, ![7, 4096, 2048]⟩ : Shape).Idx, (Cert.On_gates_written.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).1 i = 1#1 → r.2.mem ((c.tc : Thread Cert.PostRefIdeal.nD Cert.PostRefIdeal.τ).loc Cert.PostRefIdeal.main_v108) i = v0 c i)
          ∧ (∀ i : (⟨3, ![2, 4096, 2048]⟩ : Shape).Idx, (Cert.On_gates_written.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.1 i = 1#1 → r.2.mem ((c.tc : Thread Cert.PostRefIdeal.nD Cert.PostRefIdeal.τ).loc Cert.PostRefIdeal.main_v112) i = v1 c i)
          ∧ (∀ i : (⟨3, ![2, 1, 2048]⟩ : Shape).Idx, (Cert.On_gates_written.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.1 i = 1#1 → r.2.mem ((c.tc : Thread Cert.PostRefIdeal.nD Cert.PostRefIdeal.τ).loc Cert.PostRefIdeal.main_v115) i = v2 c i)
          ∧ (∀ i : (⟨3, ![2, 1, 2048]⟩ : Shape).Idx, (Cert.On_gates_written.fn (F := Ideal) (m ((c.tc : Thread Cert.PostBwdIdeal.nD Cert.PostBwdIdeal.τ).loc Cert.PostBwdIdeal.main_arg0)) (m ((c.tc : Thread Cert.PostBwdIdeal.nD Cert.PostBwdIdeal.τ).loc Cert.PostBwdIdeal.main_arg1)) (m ((c.tc : Thread Cert.PostBwdIdeal.nD Cert.PostBwdIdeal.τ).loc Cert.PostBwdIdeal.main_arg2)) (m ((c.tc : Thread Cert.PostBwdIdeal.nD Cert.PostBwdIdeal.τ).loc Cert.PostBwdIdeal.main_arg3)) (m ((c.tc : Thread Cert.PostBwdIdeal.nD Cert.PostBwdIdeal.τ).loc Cert.PostBwdIdeal.main_arg4)) (m ((c.tc : Thread Cert.PostBwdIdeal.nD Cert.PostBwdIdeal.τ).loc Cert.PostBwdIdeal.main_arg5)) (m ((c.tc : Thread Cert.PostBwdIdeal.nD Cert.PostBwdIdeal.τ).loc Cert.PostBwdIdeal.main_arg6))).2.2.2 i = 1#1 → r.2.mem ((c.tc : Thread Cert.PostRefIdeal.nD Cert.PostRefIdeal.τ).loc Cert.PostRefIdeal.main_v120) i = v3 c i)
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def preserves_FinalBwd_FinalBwdIdeal : Prop :=
  True

def algebraic_FinalBwdIdeal_FinalRefIdeal_pre_final_finite [hFinalBwdIdeal : Cert.FinalBwdIdeal.Facts] [hFinalRefIdeal : Cert.FinalRefIdeal.Facts] [hPre_final_finite : Cert.Pre_final_finite.Facts] : Prop :=
  ∀ (m : (ℓ : Loc Cert.FinalBwdIdeal.nD Cert.FinalBwdIdeal.τ Cert.FinalBwdIdeal.sig) → Buf (Elt Ideal) ℓ) (g : Dev Cert.FinalBwdIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalBwdIdeal_final_finite m →
    (∀ c : Dev Cert.FinalBwdIdeal.nD,
      m' ((c.tc : Thread Cert.FinalRefIdeal.nD Cert.FinalRefIdeal.τ).loc Cert.FinalRefIdeal.main_arg0) = m ((c.tc : Thread Cert.FinalBwdIdeal.nD Cert.FinalBwdIdeal.τ).loc Cert.FinalBwdIdeal.main_arg0)
      ∧ m' ((c.tc : Thread Cert.FinalRefIdeal.nD Cert.FinalRefIdeal.τ).loc Cert.FinalRefIdeal.main_arg1) = m ((c.tc : Thread Cert.FinalBwdIdeal.nD Cert.FinalBwdIdeal.τ).loc Cert.FinalBwdIdeal.main_arg1)
      ∧ m' ((c.tc : Thread Cert.FinalRefIdeal.nD Cert.FinalRefIdeal.τ).loc Cert.FinalRefIdeal.main_arg2) = m ((c.tc : Thread Cert.FinalBwdIdeal.nD Cert.FinalBwdIdeal.τ).loc Cert.FinalBwdIdeal.main_arg2)
      ∧ m' ((c.tc : Thread Cert.FinalRefIdeal.nD Cert.FinalRefIdeal.τ).loc Cert.FinalRefIdeal.main_arg3) = m ((c.tc : Thread Cert.FinalBwdIdeal.nD Cert.FinalBwdIdeal.τ).loc Cert.FinalBwdIdeal.main_arg3)
      ∧ m' ((c.tc : Thread Cert.FinalRefIdeal.nD Cert.FinalRefIdeal.τ).loc Cert.FinalRefIdeal.main_arg4) = m ((c.tc : Thread Cert.FinalBwdIdeal.nD Cert.FinalBwdIdeal.τ).loc Cert.FinalBwdIdeal.main_arg4)
      ∧ m' ((c.tc : Thread Cert.FinalRefIdeal.nD Cert.FinalRefIdeal.τ).loc Cert.FinalRefIdeal.main_arg5) = m ((c.tc : Thread Cert.FinalBwdIdeal.nD Cert.FinalBwdIdeal.τ).loc Cert.FinalBwdIdeal.main_arg5)) →
    ∃ (v0 : (c : Dev Cert.FinalBwdIdeal.nD) → Buf (Elt Ideal) ((c.tc : Thread Cert.FinalBwdIdeal.nD Cert.FinalBwdIdeal.τ).loc Cert.FinalBwdIdeal.main_v12_0)) (v1 : (c : Dev Cert.FinalBwdIdeal.nD) → Buf (Elt Ideal) ((c.tc : Thread Cert.FinalBwdIdeal.nD Cert.FinalBwdIdeal.τ).loc Cert.FinalBwdIdeal.main_v12_1)) (v2 : (c : Dev Cert.FinalBwdIdeal.nD) → Buf (Elt Ideal) ((c.tc : Thread Cert.FinalBwdIdeal.nD Cert.FinalBwdIdeal.τ).loc Cert.FinalBwdIdeal.main_v12_2)) (v3 : (c : Dev Cert.FinalBwdIdeal.nD) → Buf (Elt Ideal) ((c.tc : Thread Cert.FinalBwdIdeal.nD Cert.FinalBwdIdeal.τ).loc Cert.FinalBwdIdeal.main_v12_3)) (v4 : (c : Dev Cert.FinalBwdIdeal.nD) → Buf (Elt Ideal) ((c.tc : Thread Cert.FinalBwdIdeal.nD Cert.FinalBwdIdeal.τ).loc Cert.FinalBwdIdeal.main_v12_4)) (v5 : (c : Dev Cert.FinalBwdIdeal.nD) → Buf (Elt Ideal) ((c.tc : Thread Cert.FinalBwdIdeal.nD Cert.FinalBwdIdeal.τ).loc Cert.FinalBwdIdeal.main_v12_5)),
      θ_run (Cert.FinalBwdIdeal.defs (F := Ideal)) (onTc (τ := Cert.FinalBwdIdeal.τ) (Cert.FinalBwdIdeal.main (F := Ideal))) ⟨m, fun _ => 0, g⟩ (fun r => ∀ c : Dev Cert.FinalBwdIdeal.nD,
          r.2.mem ((c.tc : Thread Cert.FinalBwdIdeal.nD Cert.FinalBwdIdeal.τ).loc Cert.FinalBwdIdeal.main_v12_0) = v0 c
          ∧ r.2.mem ((c.tc : Thread Cert.FinalBwdIdeal.nD Cert.FinalBwdIdeal.τ).loc Cert.FinalBwdIdeal.main_v12_1) = v1 c
          ∧ r.2.mem ((c.tc : Thread Cert.FinalBwdIdeal.nD Cert.FinalBwdIdeal.τ).loc Cert.FinalBwdIdeal.main_v12_2) = v2 c
          ∧ r.2.mem ((c.tc : Thread Cert.FinalBwdIdeal.nD Cert.FinalBwdIdeal.τ).loc Cert.FinalBwdIdeal.main_v12_3) = v3 c
          ∧ r.2.mem ((c.tc : Thread Cert.FinalBwdIdeal.nD Cert.FinalBwdIdeal.τ).loc Cert.FinalBwdIdeal.main_v12_4) = v4 c
          ∧ r.2.mem ((c.tc : Thread Cert.FinalBwdIdeal.nD Cert.FinalBwdIdeal.τ).loc Cert.FinalBwdIdeal.main_v12_5) = v5 c
          ∧ r.2.mem ((c.tc : Thread Cert.FinalBwdIdeal.nD Cert.FinalBwdIdeal.τ).loc Cert.FinalBwdIdeal.main_arg0) = m ((c.tc : Thread Cert.FinalBwdIdeal.nD Cert.FinalBwdIdeal.τ).loc Cert.FinalBwdIdeal.main_arg0)
          ∧ r.2.mem ((c.tc : Thread Cert.FinalBwdIdeal.nD Cert.FinalBwdIdeal.τ).loc Cert.FinalBwdIdeal.main_arg1) = m ((c.tc : Thread Cert.FinalBwdIdeal.nD Cert.FinalBwdIdeal.τ).loc Cert.FinalBwdIdeal.main_arg1)
          ∧ r.2.mem ((c.tc : Thread Cert.FinalBwdIdeal.nD Cert.FinalBwdIdeal.τ).loc Cert.FinalBwdIdeal.main_arg2) = m ((c.tc : Thread Cert.FinalBwdIdeal.nD Cert.FinalBwdIdeal.τ).loc Cert.FinalBwdIdeal.main_arg2)
          ∧ r.2.mem ((c.tc : Thread Cert.FinalBwdIdeal.nD Cert.FinalBwdIdeal.τ).loc Cert.FinalBwdIdeal.main_arg3) = m ((c.tc : Thread Cert.FinalBwdIdeal.nD Cert.FinalBwdIdeal.τ).loc Cert.FinalBwdIdeal.main_arg3)
          ∧ r.2.mem ((c.tc : Thread Cert.FinalBwdIdeal.nD Cert.FinalBwdIdeal.τ).loc Cert.FinalBwdIdeal.main_arg4) = m ((c.tc : Thread Cert.FinalBwdIdeal.nD Cert.FinalBwdIdeal.τ).loc Cert.FinalBwdIdeal.main_arg4)
          ∧ r.2.mem ((c.tc : Thread Cert.FinalBwdIdeal.nD Cert.FinalBwdIdeal.τ).loc Cert.FinalBwdIdeal.main_arg5) = m ((c.tc : Thread Cert.FinalBwdIdeal.nD Cert.FinalBwdIdeal.τ).loc Cert.FinalBwdIdeal.main_arg5))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v66) = v0 c
          ∧ r.2.mem ((c.tc : Thread Cert.FinalRefIdeal.nD Cert.FinalRefIdeal.τ).loc Cert.FinalRefIdeal.main_v75) = v1 c
          ∧ r.2.mem ((c.tc : Thread Cert.FinalRefIdeal.nD Cert.FinalRefIdeal.τ).loc Cert.FinalRefIdeal.main_v76) = v2 c
          ∧ r.2.mem ((c.tc : Thread Cert.FinalRefIdeal.nD Cert.FinalRefIdeal.τ).loc Cert.FinalRefIdeal.main_v77) = v3 c
          ∧ r.2.mem ((c.tc : Thread Cert.FinalRefIdeal.nD Cert.FinalRefIdeal.τ).loc Cert.FinalRefIdeal.main_v67) = v4 c
          ∧ r.2.mem ((c.tc : Thread Cert.FinalRefIdeal.nD Cert.FinalRefIdeal.τ).loc Cert.FinalRefIdeal.main_v74) = v5 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4)
          ∧ r.2.mem ((c.tc : Thread Cert.FinalRefIdeal.nD Cert.FinalRefIdeal.τ).loc Cert.FinalRefIdeal.main_arg5) = m' ((c.tc : Thread Cert.FinalRefIdeal.nD Cert.FinalRefIdeal.τ).loc Cert.FinalRefIdeal.main_arg5))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)) →
    ∃ (v0 : (c : Dev Cert.LnFwdIdeal.nD) → Buf (Elt Ideal) ((c.tc : Thread Cert.LnFwdIdeal.nD Cert.LnFwdIdeal.τ).loc Cert.LnFwdIdeal.main_v0)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v0) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v25) = v0 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)
      ∧ m' ((c.tc : Thread Cert.PostFwdRefIdeal.nD Cert.PostFwdRefIdeal.τ).loc Cert.PostFwdRefIdeal.main_arg2) = m ((c.tc : Thread Cert.PostFwdIdeal.nD Cert.PostFwdIdeal.τ).loc Cert.PostFwdIdeal.main_arg2)
      ∧ m' ((c.tc : Thread Cert.PostFwdRefIdeal.nD Cert.PostFwdRefIdeal.τ).loc Cert.PostFwdRefIdeal.main_arg3) = m ((c.tc : Thread Cert.PostFwdIdeal.nD Cert.PostFwdIdeal.τ).loc Cert.PostFwdIdeal.main_arg3)
      ∧ m' ((c.tc : Thread Cert.PostFwdRefIdeal.nD Cert.PostFwdRefIdeal.τ).loc Cert.PostFwdRefIdeal.main_arg4) = m ((c.tc : Thread Cert.PostFwdIdeal.nD Cert.PostFwdIdeal.τ).loc Cert.PostFwdIdeal.main_arg4)
      ∧ m' ((c.tc : Thread Cert.PostFwdRefIdeal.nD Cert.PostFwdRefIdeal.τ).loc Cert.PostFwdRefIdeal.main_arg5) = m ((c.tc : Thread Cert.PostFwdIdeal.nD Cert.PostFwdIdeal.τ).loc Cert.PostFwdIdeal.main_arg5)) →
    ∃ (v0 : (c : Dev Cert.PostFwdIdeal.nD) → Buf (Elt Ideal) ((c.tc : Thread Cert.PostFwdIdeal.nD Cert.PostFwdIdeal.τ).loc Cert.PostFwdIdeal.main_v8)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v8) = v0 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
          ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3)
          ∧ r.2.mem ((c.tc : Thread Cert.PostFwdIdeal.nD Cert.PostFwdIdeal.τ).loc Cert.PostFwdIdeal.main_arg4) = m ((c.tc : Thread Cert.PostFwdIdeal.nD Cert.PostFwdIdeal.τ).loc Cert.PostFwdIdeal.main_arg4)
          ∧ r.2.mem ((c.tc : Thread Cert.PostFwdIdeal.nD Cert.PostFwdIdeal.τ).loc Cert.PostFwdIdeal.main_arg5) = m ((c.tc : Thread Cert.PostFwdIdeal.nD Cert.PostFwdIdeal.τ).loc Cert.PostFwdIdeal.main_arg5))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v41) = v0 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1)
          ∧ r.2.mem ((c.tc : Thread Cert.PostFwdRefIdeal.nD Cert.PostFwdRefIdeal.τ).loc Cert.PostFwdRefIdeal.main_arg2) = m' ((c.tc : Thread Cert.PostFwdRefIdeal.nD Cert.PostFwdRefIdeal.τ).loc Cert.PostFwdRefIdeal.main_arg2)
          ∧ r.2.mem ((c.tc : Thread Cert.PostFwdRefIdeal.nD Cert.PostFwdRefIdeal.τ).loc Cert.PostFwdRefIdeal.main_arg3) = m' ((c.tc : Thread Cert.PostFwdRefIdeal.nD Cert.PostFwdRefIdeal.τ).loc Cert.PostFwdRefIdeal.main_arg3)
          ∧ r.2.mem ((c.tc : Thread Cert.PostFwdRefIdeal.nD Cert.PostFwdRefIdeal.τ).loc Cert.PostFwdRefIdeal.main_arg4) = m' ((c.tc : Thread Cert.PostFwdRefIdeal.nD Cert.PostFwdRefIdeal.τ).loc Cert.PostFwdRefIdeal.main_arg4)
          ∧ r.2.mem ((c.tc : Thread Cert.PostFwdRefIdeal.nD Cert.PostFwdRefIdeal.τ).loc Cert.PostFwdRefIdeal.main_arg5) = m' ((c.tc : Thread Cert.PostFwdRefIdeal.nD Cert.PostFwdRefIdeal.τ).loc Cert.PostFwdRefIdeal.main_arg5))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v29)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v29) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v50) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_BiasBuild_BiasBuildIdeal : Prop :=
  IdealRules.named_const.Statement Cert.BiasBuildIdeal.κ "mask" .f32 0xF149F2CA#32 ⊥

def algebraic_BiasBuildIdeal_BiasBuildRefIdeal [hBiasBuildIdeal : Cert.BiasBuildIdeal.Facts] [hBiasBuildRefIdeal : Cert.BiasBuildRefIdeal.Facts] : Prop :=
  ∀ (m : (ℓ : Loc Cert.BiasBuildIdeal.nD Cert.BiasBuildIdeal.τ Cert.BiasBuildIdeal.sig) → Buf (Elt Ideal) ℓ) (g : Dev Cert.BiasBuildIdeal.nD → PrngReg)
    (m' : (ℓ : Loc Cert.BiasBuildRefIdeal.nD Cert.BiasBuildRefIdeal.τ Cert.BiasBuildRefIdeal.sig) → Buf (Elt Ideal) ℓ) (g' : Dev Cert.BiasBuildRefIdeal.nD → PrngReg), Pre_BiasBuildIdeal m →
    (∀ c : Dev Cert.BiasBuildIdeal.nD,
      m' ((c.tc : Thread Cert.BiasBuildRefIdeal.nD Cert.BiasBuildRefIdeal.τ).loc Cert.BiasBuildRefIdeal.main_arg0) = m ((c.tc : Thread Cert.BiasBuildIdeal.nD Cert.BiasBuildIdeal.τ).loc Cert.BiasBuildIdeal.main_arg0)) →
    ∃ (v0 : (c : Dev Cert.BiasBuildIdeal.nD) → Buf (Elt Ideal) ((c.tc : Thread Cert.BiasBuildIdeal.nD Cert.BiasBuildIdeal.τ).loc Cert.BiasBuildIdeal.main_v20)),
      θ_run (Cert.BiasBuildIdeal.defs (F := Ideal)) (onTc (τ := Cert.BiasBuildIdeal.τ) (Cert.BiasBuildIdeal.main (F := Ideal))) ⟨m, fun _ => 0, g⟩ (fun r => ∀ c : Dev Cert.BiasBuildIdeal.nD,
          r.2.mem ((c.tc : Thread Cert.BiasBuildIdeal.nD Cert.BiasBuildIdeal.τ).loc Cert.BiasBuildIdeal.main_v20) = v0 c
          ∧ r.2.mem ((c.tc : Thread Cert.BiasBuildIdeal.nD Cert.BiasBuildIdeal.τ).loc Cert.BiasBuildIdeal.main_arg0) = m ((c.tc : Thread Cert.BiasBuildIdeal.nD Cert.BiasBuildIdeal.τ).loc Cert.BiasBuildIdeal.main_arg0))
      ∧ θ_run (Cert.BiasBuildRefIdeal.defs (F := Ideal)) (onTc (τ := Cert.BiasBuildRefIdeal.τ) (Cert.BiasBuildRefIdeal.main (F := Ideal))) ⟨m', fun _ => 0, g'⟩ (fun r => ∀ c : Dev Cert.BiasBuildRefIdeal.nD,
          r.2.mem ((c.tc : Thread Cert.BiasBuildRefIdeal.nD Cert.BiasBuildRefIdeal.τ).loc Cert.BiasBuildRefIdeal.main_v25) = v0 c
          ∧ r.2.mem ((c.tc : Thread Cert.BiasBuildRefIdeal.nD Cert.BiasBuildRefIdeal.τ).loc Cert.BiasBuildRefIdeal.main_arg0) = m' ((c.tc : Thread Cert.BiasBuildRefIdeal.nD Cert.BiasBuildRefIdeal.τ).loc Cert.BiasBuildRefIdeal.main_arg0))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v4)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v4) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v30) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)
      ∧ m' ((c.tc : Thread Cert.GateFwdRefIdeal.nD Cert.GateFwdRefIdeal.τ).loc Cert.GateFwdRefIdeal.main_arg5) = m ((c.tc : Thread Cert.GateFwdIdeal.nD Cert.GateFwdIdeal.τ).loc Cert.GateFwdIdeal.main_arg5)) →
    ∃ (v0 : (c : Dev Cert.GateFwdIdeal.nD) → Buf (Elt Ideal) ((c.tc : Thread Cert.GateFwdIdeal.nD Cert.GateFwdIdeal.τ).loc Cert.GateFwdIdeal.main_v3_0)) (v1 : (c : Dev Cert.GateFwdIdeal.nD) → Buf (Elt Ideal) ((c.tc : Thread Cert.GateFwdIdeal.nD Cert.GateFwdIdeal.τ).loc Cert.GateFwdIdeal.main_v3_1)) (v2 : (c : Dev Cert.GateFwdIdeal.nD) → Buf (Elt Ideal) ((c.tc : Thread Cert.GateFwdIdeal.nD Cert.GateFwdIdeal.τ).loc Cert.GateFwdIdeal.main_v3_2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3_0) = v0 c
          ∧ r.2.mem ((c.tc : Thread Cert.GateFwdIdeal.nD Cert.GateFwdIdeal.τ).loc Cert.GateFwdIdeal.main_v3_1) = v1 c
          ∧ r.2.mem ((c.tc : Thread Cert.GateFwdIdeal.nD Cert.GateFwdIdeal.τ).loc Cert.GateFwdIdeal.main_v3_2) = v2 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
          ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v13) = v0 c
          ∧ r.2.mem ((c.tc : Thread Cert.GateFwdRefIdeal.nD Cert.GateFwdRefIdeal.τ).loc Cert.GateFwdRefIdeal.main_v14) = v1 c
          ∧ r.2.mem ((c.tc : Thread Cert.GateFwdRefIdeal.nD Cert.GateFwdRefIdeal.τ).loc Cert.GateFwdRefIdeal.main_v15) = v2 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4)
          ∧ r.2.mem ((c.tc : Thread Cert.GateFwdRefIdeal.nD Cert.GateFwdRefIdeal.τ).loc Cert.GateFwdRefIdeal.main_arg5) = m' ((c.tc : Thread Cert.GateFwdRefIdeal.nD Cert.GateFwdRefIdeal.τ).loc Cert.GateFwdRefIdeal.main_arg5))

def preserves_MmNn_MmNnIdeal : Prop :=
  True

def algebraic_MmNnIdeal_MmNnRefIdeal [hMmNnIdeal : Cert.MmNnIdeal.Facts] [hMmNnRefIdeal : Cert.MmNnRefIdeal.Facts] : Prop :=
  ∀ (m : (ℓ : Loc Cert.MmNnIdeal.nD Cert.MmNnIdeal.τ Cert.MmNnIdeal.sig) → Buf (Elt Ideal) ℓ) (g : Dev Cert.MmNnIdeal.nD → PrngReg)
    (m' : (ℓ : Loc Cert.MmNnRefIdeal.nD Cert.MmNnRefIdeal.τ Cert.MmNnRefIdeal.sig) → Buf (Elt Ideal) ℓ) (g' : Dev Cert.MmNnRefIdeal.nD → PrngReg), Pre_MmNnIdeal m →
    (∀ c : Dev Cert.MmNnIdeal.nD,
      m' ((c.tc : Thread Cert.MmNnRefIdeal.nD Cert.MmNnRefIdeal.τ).loc Cert.MmNnRefIdeal.main_arg0) = m ((c.tc : Thread Cert.MmNnIdeal.nD Cert.MmNnIdeal.τ).loc Cert.MmNnIdeal.main_arg0)
      ∧ m' ((c.tc : Thread Cert.MmNnRefIdeal.nD Cert.MmNnRefIdeal.τ).loc Cert.MmNnRefIdeal.main_arg1) = m ((c.tc : Thread Cert.MmNnIdeal.nD Cert.MmNnIdeal.τ).loc Cert.MmNnIdeal.main_arg1)
      ∧ m' ((c.tc : Thread Cert.MmNnRefIdeal.nD Cert.MmNnRefIdeal.τ).loc Cert.MmNnRefIdeal.main_arg2) = m ((c.tc : Thread Cert.MmNnIdeal.nD Cert.MmNnIdeal.τ).loc Cert.MmNnIdeal.main_arg2)) →
    ∃ (v0 : (c : Dev Cert.MmNnIdeal.nD) → Buf (Elt Ideal) ((c.tc : Thread Cert.MmNnIdeal.nD Cert.MmNnIdeal.τ).loc Cert.MmNnIdeal.main_v2)),
      θ_run (Cert.MmNnIdeal.defs (F := Ideal)) (onTc (τ := Cert.MmNnIdeal.τ) (Cert.MmNnIdeal.main (F := Ideal))) ⟨m, fun _ => 0, g⟩ (fun r => ∀ c : Dev Cert.MmNnIdeal.nD,
          r.2.mem ((c.tc : Thread Cert.MmNnIdeal.nD Cert.MmNnIdeal.τ).loc Cert.MmNnIdeal.main_v2) = v0 c
          ∧ r.2.mem ((c.tc : Thread Cert.MmNnIdeal.nD Cert.MmNnIdeal.τ).loc Cert.MmNnIdeal.main_arg0) = m ((c.tc : Thread Cert.MmNnIdeal.nD Cert.MmNnIdeal.τ).loc Cert.MmNnIdeal.main_arg0)
          ∧ r.2.mem ((c.tc : Thread Cert.MmNnIdeal.nD Cert.MmNnIdeal.τ).loc Cert.MmNnIdeal.main_arg1) = m ((c.tc : Thread Cert.MmNnIdeal.nD Cert.MmNnIdeal.τ).loc Cert.MmNnIdeal.main_arg1)
          ∧ r.2.mem ((c.tc : Thread Cert.MmNnIdeal.nD Cert.MmNnIdeal.τ).loc Cert.MmNnIdeal.main_arg2) = m ((c.tc : Thread Cert.MmNnIdeal.nD Cert.MmNnIdeal.τ).loc Cert.MmNnIdeal.main_arg2))
      ∧ θ_run (Cert.MmNnRefIdeal.defs (F := Ideal)) (onTc (τ := Cert.MmNnRefIdeal.τ) (Cert.MmNnRefIdeal.main (F := Ideal))) ⟨m', fun _ => 0, g'⟩ (fun r => ∀ c : Dev Cert.MmNnRefIdeal.nD,
          r.2.mem ((c.tc : Thread Cert.MmNnRefIdeal.nD Cert.MmNnRefIdeal.τ).loc Cert.MmNnRefIdeal.main_v1) = v0 c
          ∧ r.2.mem ((c.tc : Thread Cert.MmNnRefIdeal.nD Cert.MmNnRefIdeal.τ).loc Cert.MmNnRefIdeal.main_arg0) = m' ((c.tc : Thread Cert.MmNnRefIdeal.nD Cert.MmNnRefIdeal.τ).loc Cert.MmNnRefIdeal.main_arg0)
          ∧ r.2.mem ((c.tc : Thread Cert.MmNnRefIdeal.nD Cert.MmNnRefIdeal.τ).loc Cert.MmNnRefIdeal.main_arg1) = m' ((c.tc : Thread Cert.MmNnRefIdeal.nD Cert.MmNnRefIdeal.τ).loc Cert.MmNnRefIdeal.main_arg1)
          ∧ r.2.mem ((c.tc : Thread Cert.MmNnRefIdeal.nD Cert.MmNnRefIdeal.τ).loc Cert.MmNnRefIdeal.main_arg2) = m' ((c.tc : Thread Cert.MmNnRefIdeal.nD Cert.MmNnRefIdeal.τ).loc Cert.MmNnRefIdeal.main_arg2))

def preserves_MmNt_MmNtIdeal : Prop :=
  True

def algebraic_MmNtIdeal_MmNtRefIdeal [hMmNtIdeal : Cert.MmNtIdeal.Facts] [hMmNtRefIdeal : Cert.MmNtRefIdeal.Facts] : Prop :=
  ∀ (m : (ℓ : Loc Cert.MmNtIdeal.nD Cert.MmNtIdeal.τ Cert.MmNtIdeal.sig) → Buf (Elt Ideal) ℓ) (g : Dev Cert.MmNtIdeal.nD → PrngReg)
    (m' : (ℓ : Loc Cert.MmNtRefIdeal.nD Cert.MmNtRefIdeal.τ Cert.MmNtRefIdeal.sig) → Buf (Elt Ideal) ℓ) (g' : Dev Cert.MmNtRefIdeal.nD → PrngReg), Pre_MmNtIdeal m →
    (∀ c : Dev Cert.MmNtIdeal.nD,
      m' ((c.tc : Thread Cert.MmNtRefIdeal.nD Cert.MmNtRefIdeal.τ).loc Cert.MmNtRefIdeal.main_arg0) = m ((c.tc : Thread Cert.MmNtIdeal.nD Cert.MmNtIdeal.τ).loc Cert.MmNtIdeal.main_arg0)
      ∧ m' ((c.tc : Thread Cert.MmNtRefIdeal.nD Cert.MmNtRefIdeal.τ).loc Cert.MmNtRefIdeal.main_arg1) = m ((c.tc : Thread Cert.MmNtIdeal.nD Cert.MmNtIdeal.τ).loc Cert.MmNtIdeal.main_arg1)) →
    ∃ (v0 : (c : Dev Cert.MmNtIdeal.nD) → Buf (Elt Ideal) ((c.tc : Thread Cert.MmNtIdeal.nD Cert.MmNtIdeal.τ).loc Cert.MmNtIdeal.main_v2)),
      θ_run (Cert.MmNtIdeal.defs (F := Ideal)) (onTc (τ := Cert.MmNtIdeal.τ) (Cert.MmNtIdeal.main (F := Ideal))) ⟨m, fun _ => 0, g⟩ (fun r => ∀ c : Dev Cert.MmNtIdeal.nD,
          r.2.mem ((c.tc : Thread Cert.MmNtIdeal.nD Cert.MmNtIdeal.τ).loc Cert.MmNtIdeal.main_v2) = v0 c
          ∧ r.2.mem ((c.tc : Thread Cert.MmNtIdeal.nD Cert.MmNtIdeal.τ).loc Cert.MmNtIdeal.main_arg0) = m ((c.tc : Thread Cert.MmNtIdeal.nD Cert.MmNtIdeal.τ).loc Cert.MmNtIdeal.main_arg0)
          ∧ r.2.mem ((c.tc : Thread Cert.MmNtIdeal.nD Cert.MmNtIdeal.τ).loc Cert.MmNtIdeal.main_arg1) = m ((c.tc : Thread Cert.MmNtIdeal.nD Cert.MmNtIdeal.τ).loc Cert.MmNtIdeal.main_arg1))
      ∧ θ_run (Cert.MmNtRefIdeal.defs (F := Ideal)) (onTc (τ := Cert.MmNtRefIdeal.τ) (Cert.MmNtRefIdeal.main (F := Ideal))) ⟨m', fun _ => 0, g'⟩ (fun r => ∀ c : Dev Cert.MmNtRefIdeal.nD,
          r.2.mem ((c.tc : Thread Cert.MmNtRefIdeal.nD Cert.MmNtRefIdeal.τ).loc Cert.MmNtRefIdeal.main_v2) = v0 c
          ∧ r.2.mem ((c.tc : Thread Cert.MmNtRefIdeal.nD Cert.MmNtRefIdeal.τ).loc Cert.MmNtRefIdeal.main_arg0) = m' ((c.tc : Thread Cert.MmNtRefIdeal.nD Cert.MmNtRefIdeal.τ).loc Cert.MmNtRefIdeal.main_arg0)
          ∧ r.2.mem ((c.tc : Thread Cert.MmNtRefIdeal.nD Cert.MmNtRefIdeal.τ).loc Cert.MmNtRefIdeal.main_arg1) = m' ((c.tc : Thread Cert.MmNtRefIdeal.nD Cert.MmNtRefIdeal.τ).loc Cert.MmNtRefIdeal.main_arg1))

def preserves_MmTn_MmTnIdeal : Prop :=
  True

def algebraic_MmTnIdeal_MmTnRefIdeal [hMmTnIdeal : Cert.MmTnIdeal.Facts] [hMmTnRefIdeal : Cert.MmTnRefIdeal.Facts] : Prop :=
  ∀ (m : (ℓ : Loc Cert.MmTnIdeal.nD Cert.MmTnIdeal.τ Cert.MmTnIdeal.sig) → Buf (Elt Ideal) ℓ) (g : Dev Cert.MmTnIdeal.nD → PrngReg)
    (m' : (ℓ : Loc Cert.MmTnRefIdeal.nD Cert.MmTnRefIdeal.τ Cert.MmTnRefIdeal.sig) → Buf (Elt Ideal) ℓ) (g' : Dev Cert.MmTnRefIdeal.nD → PrngReg), Pre_MmTnIdeal m →
    (∀ c : Dev Cert.MmTnIdeal.nD,
      m' ((c.tc : Thread Cert.MmTnRefIdeal.nD Cert.MmTnRefIdeal.τ).loc Cert.MmTnRefIdeal.main_arg0) = m ((c.tc : Thread Cert.MmTnIdeal.nD Cert.MmTnIdeal.τ).loc Cert.MmTnIdeal.main_arg0)
      ∧ m' ((c.tc : Thread Cert.MmTnRefIdeal.nD Cert.MmTnRefIdeal.τ).loc Cert.MmTnRefIdeal.main_arg1) = m ((c.tc : Thread Cert.MmTnIdeal.nD Cert.MmTnIdeal.τ).loc Cert.MmTnIdeal.main_arg1)) →
    ∃ (v0 : (c : Dev Cert.MmTnIdeal.nD) → Buf (Elt Ideal) ((c.tc : Thread Cert.MmTnIdeal.nD Cert.MmTnIdeal.τ).loc Cert.MmTnIdeal.main_v2)),
      θ_run (Cert.MmTnIdeal.defs (F := Ideal)) (onTc (τ := Cert.MmTnIdeal.τ) (Cert.MmTnIdeal.main (F := Ideal))) ⟨m, fun _ => 0, g⟩ (fun r => ∀ c : Dev Cert.MmTnIdeal.nD,
          r.2.mem ((c.tc : Thread Cert.MmTnIdeal.nD Cert.MmTnIdeal.τ).loc Cert.MmTnIdeal.main_v2) = v0 c
          ∧ r.2.mem ((c.tc : Thread Cert.MmTnIdeal.nD Cert.MmTnIdeal.τ).loc Cert.MmTnIdeal.main_arg0) = m ((c.tc : Thread Cert.MmTnIdeal.nD Cert.MmTnIdeal.τ).loc Cert.MmTnIdeal.main_arg0)
          ∧ r.2.mem ((c.tc : Thread Cert.MmTnIdeal.nD Cert.MmTnIdeal.τ).loc Cert.MmTnIdeal.main_arg1) = m ((c.tc : Thread Cert.MmTnIdeal.nD Cert.MmTnIdeal.τ).loc Cert.MmTnIdeal.main_arg1))
      ∧ θ_run (Cert.MmTnRefIdeal.defs (F := Ideal)) (onTc (τ := Cert.MmTnRefIdeal.τ) (Cert.MmTnRefIdeal.main (F := Ideal))) ⟨m', fun _ => 0, g'⟩ (fun r => ∀ c : Dev Cert.MmTnRefIdeal.nD,
          r.2.mem ((c.tc : Thread Cert.MmTnRefIdeal.nD Cert.MmTnRefIdeal.τ).loc Cert.MmTnRefIdeal.main_v4) = v0 c
          ∧ r.2.mem ((c.tc : Thread Cert.MmTnRefIdeal.nD Cert.MmTnRefIdeal.τ).loc Cert.MmTnRefIdeal.main_arg0) = m' ((c.tc : Thread Cert.MmTnRefIdeal.nD Cert.MmTnRefIdeal.τ).loc Cert.MmTnRefIdeal.main_arg0)
          ∧ r.2.mem ((c.tc : Thread Cert.MmTnRefIdeal.nD Cert.MmTnRefIdeal.τ).loc Cert.MmTnRefIdeal.main_arg1) = m' ((c.tc : Thread Cert.MmTnRefIdeal.nD Cert.MmTnRefIdeal.τ).loc Cert.MmTnRefIdeal.main_arg1))

def preserves_AdamSmall_AdamSmallIdeal : Prop :=
  True

def algebraic_AdamSmallIdeal_AdamRefIdeal [hAdamSmallIdeal : Cert.AdamSmallIdeal.Facts] [hAdamRefIdeal : Cert.AdamRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamSmallIdeal m →
    (∀ c : Dev Cert.AdamSmallIdeal.nD,
      m' ((c.tc : Thread Cert.AdamRefIdeal.nD Cert.AdamRefIdeal.τ).loc Cert.AdamRefIdeal.main_arg0) = m ((c.tc : Thread Cert.AdamSmallIdeal.nD Cert.AdamSmallIdeal.τ).loc Cert.AdamSmallIdeal.main_arg0)
      ∧ m' ((c.tc : Thread Cert.AdamRefIdeal.nD Cert.AdamRefIdeal.τ).loc Cert.AdamRefIdeal.main_arg1) = m ((c.tc : Thread Cert.AdamSmallIdeal.nD Cert.AdamSmallIdeal.τ).loc Cert.AdamSmallIdeal.main_arg1)
      ∧ m' ((c.tc : Thread Cert.AdamRefIdeal.nD Cert.AdamRefIdeal.τ).loc Cert.AdamRefIdeal.main_arg2) = m ((c.tc : Thread Cert.AdamSmallIdeal.nD Cert.AdamSmallIdeal.τ).loc Cert.AdamSmallIdeal.main_arg2)
      ∧ m' ((c.tc : Thread Cert.AdamRefIdeal.nD Cert.AdamRefIdeal.τ).loc Cert.AdamRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_PairAdd_PairAddIdeal : Prop :=
  True

def algebraic_PairAddIdeal_PairAddRefIdeal [hPairAddIdeal : Cert.PairAddIdeal.Facts] [hPairAddRefIdeal : Cert.PairAddRefIdeal.Facts] [hPre_core_is_one_of_two : Cert.Pre_core_is_one_of_two.Facts] : Prop :=
  ∀ (m : (ℓ : Loc Cert.PairAddIdeal.nD Cert.PairAddIdeal.τ Cert.PairAddIdeal.sig) → Buf (Elt Ideal) ℓ) (g : Dev Cert.PairAddIdeal.nD → PrngReg)
    (m' : (ℓ : Loc Cert.PairAddRefIdeal.nD Cert.PairAddRefIdeal.τ Cert.PairAddRefIdeal.sig) → Buf (Elt Ideal) ℓ) (g' : Dev Cert.PairAddRefIdeal.nD → PrngReg), Pre_PairAddIdeal m →
    (∀ c : Dev Cert.PairAddIdeal.nD,
      m' ((c.tc : Thread Cert.PairAddRefIdeal.nD Cert.PairAddRefIdeal.τ).loc Cert.PairAddRefIdeal.main_arg0) = m ((c.tc : Thread Cert.PairAddIdeal.nD Cert.PairAddIdeal.τ).loc Cert.PairAddIdeal.main_arg0)
      ∧ m' ((c.tc : Thread Cert.PairAddRefIdeal.nD Cert.PairAddRefIdeal.τ).loc Cert.PairAddRefIdeal.main_arg1) = m ((c.tc : Thread Cert.PairAddIdeal.nD Cert.PairAddIdeal.τ).loc Cert.PairAddIdeal.main_arg1)
      ∧ m' ((c.tc : Thread Cert.PairAddRefIdeal.nD Cert.PairAddRefIdeal.τ).loc Cert.PairAddRefIdeal.main_arg2) = m ((c.tc : Thread Cert.PairAddIdeal.nD Cert.PairAddIdeal.τ).loc Cert.PairAddIdeal.main_arg2)) →
    ∃ (v0 : (c : Dev Cert.PairAddIdeal.nD) → Buf (Elt Ideal) ((c.tc : Thread Cert.PairAddIdeal.nD Cert.PairAddIdeal.τ).loc Cert.PairAddIdeal.main_v0)),
      θ_run (Cert.PairAddIdeal.defs (F := Ideal)) (onTc (τ := Cert.PairAddIdeal.τ) (Cert.PairAddIdeal.main (F := Ideal))) ⟨m, fun _ => 0, g⟩ (fun r => ∀ c : Dev Cert.PairAddIdeal.nD,
          r.2.mem ((c.tc : Thread Cert.PairAddIdeal.nD Cert.PairAddIdeal.τ).loc Cert.PairAddIdeal.main_v0) = v0 c
          ∧ r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
          ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
          ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ θ_run (Cert.PairAddRefIdeal.defs (F := Ideal)) (onTc (τ := Cert.PairAddRefIdeal.τ) (Cert.PairAddRefIdeal.main (F := Ideal))) ⟨m', fun _ => 0, g'⟩ (fun r => ∀ c : Dev Cert.PairAddRefIdeal.nD,
          r.2.mem ((c.tc : Thread Cert.PairAddRefIdeal.nD Cert.PairAddRefIdeal.τ).loc Cert.PairAddRefIdeal.main_v12) = v0 c
          ∧ r.2.mem ((c.tc : Thread Cert.PairAddRefIdeal.nD Cert.PairAddRefIdeal.τ).loc Cert.PairAddRefIdeal.main_arg0) = m' ((c.tc : Thread Cert.PairAddRefIdeal.nD Cert.PairAddRefIdeal.τ).loc Cert.PairAddRefIdeal.main_arg0)
          ∧ r.2.mem ((c.tc : Thread Cert.PairAddRefIdeal.nD Cert.PairAddRefIdeal.τ).loc Cert.PairAddRefIdeal.main_arg1) = m' ((c.tc : Thread Cert.PairAddRefIdeal.nD Cert.PairAddRefIdeal.τ).loc Cert.PairAddRefIdeal.main_arg1)
          ∧ r.2.mem ((c.tc : Thread Cert.PairAddRefIdeal.nD Cert.PairAddRefIdeal.τ).loc Cert.PairAddRefIdeal.main_arg2) = m' ((c.tc : Thread Cert.PairAddRefIdeal.nD Cert.PairAddRefIdeal.τ).loc Cert.PairAddRefIdeal.main_arg2))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v0)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v0) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v0) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def preserves_AdamBig_AdamBigIdeal : Prop :=
  True

def algebraic_AdamBigIdeal_AdamBigRefIdeal [hAdamBigIdeal : Cert.AdamBigIdeal.Facts] [hAdamBigRefIdeal : Cert.AdamBigRefIdeal.Facts] [hPre_chip_is_one_of_four : Cert.Pre_chip_is_one_of_four.Facts] : Prop :=
  ∀ (m : (ℓ : Loc Cert.AdamBigIdeal.nD Cert.AdamBigIdeal.τ Cert.AdamBigIdeal.sig) → Buf (Elt Ideal) ℓ) (g : Dev Cert.AdamBigIdeal.nD → PrngReg)
    (m' : (ℓ : Loc Cert.AdamBigRefIdeal.nD Cert.AdamBigRefIdeal.τ Cert.AdamBigRefIdeal.sig) → Buf (Elt Ideal) ℓ) (g' : Dev Cert.AdamBigRefIdeal.nD → PrngReg), Pre_AdamBigIdeal m →
    (∀ c : Dev Cert.AdamBigIdeal.nD,
      m' ((c.tc : Thread Cert.AdamBigRefIdeal.nD Cert.AdamBigRefIdeal.τ).loc Cert.AdamBigRefIdeal.main_arg0) = m ((c.tc : Thread Cert.AdamBigIdeal.nD Cert.AdamBigIdeal.τ).loc Cert.AdamBigIdeal.main_arg0)
      ∧ m' ((c.tc : Thread Cert.AdamBigRefIdeal.nD Cert.AdamBigRefIdeal.τ).loc Cert.AdamBigRefIdeal.main_arg1) = m ((c.tc : Thread Cert.AdamBigIdeal.nD Cert.AdamBigIdeal.τ).loc Cert.AdamBigIdeal.main_arg1)
      ∧ m' ((c.tc : Thread Cert.AdamBigRefIdeal.nD Cert.AdamBigRefIdeal.τ).loc Cert.AdamBigRefIdeal.main_arg2) = m ((c.tc : Thread Cert.AdamBigIdeal.nD Cert.AdamBigIdeal.τ).loc Cert.AdamBigIdeal.main_arg2)
      ∧ m' ((c.tc : Thread Cert.AdamBigRefIdeal.nD Cert.AdamBigRefIdeal.τ).loc Cert.AdamBigRefIdeal.main_arg3) = m ((c.tc : Thread Cert.AdamBigIdeal.nD Cert.AdamBigIdeal.τ).loc Cert.AdamBigIdeal.main_arg3)
      ∧ m' ((c.tc : Thread Cert.AdamBigRefIdeal.nD Cert.AdamBigRefIdeal.τ).loc Cert.AdamBigRefIdeal.main_arg4) = m ((c.tc : Thread Cert.AdamBigIdeal.nD Cert.AdamBigIdeal.τ).loc Cert.AdamBigIdeal.main_arg4)
      ∧ m' ((c.tc : Thread Cert.AdamBigRefIdeal.nD Cert.AdamBigRefIdeal.τ).loc Cert.AdamBigRefIdeal.main_arg5) = m ((c.tc : Thread Cert.AdamBigIdeal.nD Cert.AdamBigIdeal.τ).loc Cert.AdamBigIdeal.main_arg5)) →
    ∃ (v0 : (c : Dev Cert.AdamBigIdeal.nD) → Buf (Elt Ideal) ((c.tc : Thread Cert.AdamBigIdeal.nD Cert.AdamBigIdeal.τ).loc Cert.AdamBigIdeal.main_v0_0)) (v1 : (c : Dev Cert.AdamBigIdeal.nD) → Buf (Elt Ideal) ((c.tc : Thread Cert.AdamBigIdeal.nD Cert.AdamBigIdeal.τ).loc Cert.AdamBigIdeal.main_v0_1)) (v2 : (c : Dev Cert.AdamBigIdeal.nD) → Buf (Elt Ideal) ((c.tc : Thread Cert.AdamBigIdeal.nD Cert.AdamBigIdeal.τ).loc Cert.AdamBigIdeal.main_v0_2)) (v3 : (c : Dev Cert.AdamBigIdeal.nD) → Buf (Elt Ideal) ((c.tc : Thread Cert.AdamBigIdeal.nD Cert.AdamBigIdeal.τ).loc Cert.AdamBigIdeal.main_v0_3)),
      θ_run (Cert.AdamBigIdeal.defs (F := Ideal)) (onTc (τ := Cert.AdamBigIdeal.τ) (Cert.AdamBigIdeal.main (F := Ideal))) ⟨m, fun _ => 0, g⟩ (fun r => ∀ c : Dev Cert.AdamBigIdeal.nD,
          r.2.mem ((c.tc : Thread Cert.AdamBigIdeal.nD Cert.AdamBigIdeal.τ).loc Cert.AdamBigIdeal.main_v0_0) = v0 c
          ∧ r.2.mem ((c.tc : Thread Cert.AdamBigIdeal.nD Cert.AdamBigIdeal.τ).loc Cert.AdamBigIdeal.main_v0_1) = v1 c
          ∧ r.2.mem ((c.tc : Thread Cert.AdamBigIdeal.nD Cert.AdamBigIdeal.τ).loc Cert.AdamBigIdeal.main_v0_2) = v2 c
          ∧ r.2.mem ((c.tc : Thread Cert.AdamBigIdeal.nD Cert.AdamBigIdeal.τ).loc Cert.AdamBigIdeal.main_v0_3) = v3 c
          ∧ r.2.mem ((c.tc : Thread Cert.AdamBigIdeal.nD Cert.AdamBigIdeal.τ).loc Cert.AdamBigIdeal.main_arg0) = m ((c.tc : Thread Cert.AdamBigIdeal.nD Cert.AdamBigIdeal.τ).loc Cert.AdamBigIdeal.main_arg0)
          ∧ r.2.mem ((c.tc : Thread Cert.AdamBigIdeal.nD Cert.AdamBigIdeal.τ).loc Cert.AdamBigIdeal.main_arg1) = m ((c.tc : Thread Cert.AdamBigIdeal.nD Cert.AdamBigIdeal.τ).loc Cert.AdamBigIdeal.main_arg1)
          ∧ r.2.mem ((c.tc : Thread Cert.AdamBigIdeal.nD Cert.AdamBigIdeal.τ).loc Cert.AdamBigIdeal.main_arg2) = m ((c.tc : Thread Cert.AdamBigIdeal.nD Cert.AdamBigIdeal.τ).loc Cert.AdamBigIdeal.main_arg2)
          ∧ r.2.mem ((c.tc : Thread Cert.AdamBigIdeal.nD Cert.AdamBigIdeal.τ).loc Cert.AdamBigIdeal.main_arg3) = m ((c.tc : Thread Cert.AdamBigIdeal.nD Cert.AdamBigIdeal.τ).loc Cert.AdamBigIdeal.main_arg3)
          ∧ r.2.mem ((c.tc : Thread Cert.AdamBigIdeal.nD Cert.AdamBigIdeal.τ).loc Cert.AdamBigIdeal.main_arg4) = m ((c.tc : Thread Cert.AdamBigIdeal.nD Cert.AdamBigIdeal.τ).loc Cert.AdamBigIdeal.main_arg4)
          ∧ r.2.mem ((c.tc : Thread Cert.AdamBigIdeal.nD Cert.AdamBigIdeal.τ).loc Cert.AdamBigIdeal.main_arg5) = m ((c.tc : Thread Cert.AdamBigIdeal.nD Cert.AdamBigIdeal.τ).loc Cert.AdamBigIdeal.main_arg5))
      ∧ θ_run (Cert.AdamBigRefIdeal.defs (F := Ideal)) (onTc (τ := Cert.AdamBigRefIdeal.τ) (Cert.AdamBigRefIdeal.main (F := Ideal))) ⟨m', fun _ => 0, g'⟩ (fun r => ∀ c : Dev Cert.AdamBigRefIdeal.nD,
          r.2.mem ((c.tc : Thread Cert.AdamBigRefIdeal.nD Cert.AdamBigRefIdeal.τ).loc Cert.AdamBigRefIdeal.main_v27) = v0 c
          ∧ r.2.mem ((c.tc : Thread Cert.AdamBigRefIdeal.nD Cert.AdamBigRefIdeal.τ).loc Cert.AdamBigRefIdeal.main_v51) = v1 c
          ∧ r.2.mem ((c.tc : Thread Cert.AdamBigRefIdeal.nD Cert.AdamBigRefIdeal.τ).loc Cert.AdamBigRefIdeal.main_v32) = v2 c
          ∧ r.2.mem ((c.tc : Thread Cert.AdamBigRefIdeal.nD Cert.AdamBigRefIdeal.τ).loc Cert.AdamBigRefIdeal.main_v38) = v3 c
          ∧ r.2.mem ((c.tc : Thread Cert.AdamBigRefIdeal.nD Cert.AdamBigRefIdeal.τ).loc Cert.AdamBigRefIdeal.main_arg0) = m' ((c.tc : Thread Cert.AdamBigRefIdeal.nD Cert.AdamBigRefIdeal.τ).loc Cert.AdamBigRefIdeal.main_arg0)
          ∧ r.2.mem ((c.tc : Thread Cert.AdamBigRefIdeal.nD Cert.AdamBigRefIdeal.τ).loc Cert.AdamBigRefIdeal.main_arg1) = m' ((c.tc : Thread Cert.AdamBigRefIdeal.nD Cert.AdamBigRefIdeal.τ).loc Cert.AdamBigRefIdeal.main_arg1)
          ∧ r.2.mem ((c.tc : Thread Cert.AdamBigRefIdeal.nD Cert.AdamBigRefIdeal.τ).loc Cert.AdamBigRefIdeal.main_arg2) = m' ((c.tc : Thread Cert.AdamBigRefIdeal.nD Cert.AdamBigRefIdeal.τ).loc Cert.AdamBigRefIdeal.main_arg2)
          ∧ r.2.mem ((c.tc : Thread Cert.AdamBigRefIdeal.nD Cert.AdamBigRefIdeal.τ).loc Cert.AdamBigRefIdeal.main_arg3) = m' ((c.tc : Thread Cert.AdamBigRefIdeal.nD Cert.AdamBigRefIdeal.τ).loc Cert.AdamBigRefIdeal.main_arg3)
          ∧ r.2.mem ((c.tc : Thread Cert.AdamBigRefIdeal.nD Cert.AdamBigRefIdeal.τ).loc Cert.AdamBigRefIdeal.main_arg4) = m' ((c.tc : Thread Cert.AdamBigRefIdeal.nD Cert.AdamBigRefIdeal.τ).loc Cert.AdamBigRefIdeal.main_arg4)
          ∧ r.2.mem ((c.tc : Thread Cert.AdamBigRefIdeal.nD Cert.AdamBigRefIdeal.τ).loc Cert.AdamBigRefIdeal.main_arg5) = m' ((c.tc : Thread Cert.AdamBigRefIdeal.nD Cert.AdamBigRefIdeal.τ).loc Cert.AdamBigRefIdeal.main_arg5))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)) →
    ∃ (v0 : (c : Dev Cert.ProjFwdIdeal.nD) → Buf (Elt Ideal) ((c.tc : Thread Cert.ProjFwdIdeal.nD Cert.ProjFwdIdeal.τ).loc Cert.ProjFwdIdeal.main_v2)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v2) = v0 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v3) = v0 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1))

def preserves_ProjBwdW_ProjBwdWIdeal : Prop :=
  True

def algebraic_ProjBwdWIdeal_ProjBwdWRefIdeal [hProjBwdWIdeal : Cert.ProjBwdWIdeal.Facts] [hProjBwdWRefIdeal : Cert.ProjBwdWRefIdeal.Facts] : Prop :=
  ∀ (m : (ℓ : Loc Cert.ProjBwdWIdeal.nD Cert.ProjBwdWIdeal.τ Cert.ProjBwdWIdeal.sig) → Buf (Elt Ideal) ℓ) (g : Dev Cert.ProjBwdWIdeal.nD → PrngReg)
    (m' : (ℓ : Loc Cert.ProjBwdWRefIdeal.nD Cert.ProjBwdWRefIdeal.τ Cert.ProjBwdWRefIdeal.sig) → Buf (Elt Ideal) ℓ) (g' : Dev Cert.ProjBwdWRefIdeal.nD → PrngReg), Pre_ProjBwdWIdeal m →
    (∀ c : Dev Cert.ProjBwdWIdeal.nD,
      m' ((c.tc : Thread Cert.ProjBwdWRefIdeal.nD Cert.ProjBwdWRefIdeal.τ).loc Cert.ProjBwdWRefIdeal.main_arg0) = m ((c.tc : Thread Cert.ProjBwdWIdeal.nD Cert.ProjBwdWIdeal.τ).loc Cert.ProjBwdWIdeal.main_arg0)
      ∧ m' ((c.tc : Thread Cert.ProjBwdWRefIdeal.nD Cert.ProjBwdWRefIdeal.τ).loc Cert.ProjBwdWRefIdeal.main_arg1) = m ((c.tc : Thread Cert.ProjBwdWIdeal.nD Cert.ProjBwdWIdeal.τ).loc Cert.ProjBwdWIdeal.main_arg1)) →
    ∃ (v0 : (c : Dev Cert.ProjBwdWIdeal.nD) → Buf (Elt Ideal) ((c.tc : Thread Cert.ProjBwdWIdeal.nD Cert.ProjBwdWIdeal.τ).loc Cert.ProjBwdWIdeal.main_v4)),
      θ_run (Cert.ProjBwdWIdeal.defs (F := Ideal)) (onTc (τ := Cert.ProjBwdWIdeal.τ) (Cert.ProjBwdWIdeal.main (F := Ideal))) ⟨m, fun _ => 0, g⟩ (fun r => ∀ c : Dev Cert.ProjBwdWIdeal.nD,
          r.2.mem ((c.tc : Thread Cert.ProjBwdWIdeal.nD Cert.ProjBwdWIdeal.τ).loc Cert.ProjBwdWIdeal.main_v4) = v0 c
          ∧ r.2.mem ((c.tc : Thread Cert.ProjBwdWIdeal.nD Cert.ProjBwdWIdeal.τ).loc Cert.ProjBwdWIdeal.main_arg0) = m ((c.tc : Thread Cert.ProjBwdWIdeal.nD Cert.ProjBwdWIdeal.τ).loc Cert.ProjBwdWIdeal.main_arg0)
          ∧ r.2.mem ((c.tc : Thread Cert.ProjBwdWIdeal.nD Cert.ProjBwdWIdeal.τ).loc Cert.ProjBwdWIdeal.main_arg1) = m ((c.tc : Thread Cert.ProjBwdWIdeal.nD Cert.ProjBwdWIdeal.τ).loc Cert.ProjBwdWIdeal.main_arg1))
      ∧ θ_run (Cert.ProjBwdWRefIdeal.defs (F := Ideal)) (onTc (τ := Cert.ProjBwdWRefIdeal.τ) (Cert.ProjBwdWRefIdeal.main (F := Ideal))) ⟨m', fun _ => 0, g'⟩ (fun r => ∀ c : Dev Cert.ProjBwdWRefIdeal.nD,
          r.2.mem ((c.tc : Thread Cert.ProjBwdWRefIdeal.nD Cert.ProjBwdWRefIdeal.τ).loc Cert.ProjBwdWRefIdeal.main_v4) = v0 c
          ∧ r.2.mem ((c.tc : Thread Cert.ProjBwdWRefIdeal.nD Cert.ProjBwdWRefIdeal.τ).loc Cert.ProjBwdWRefIdeal.main_arg0) = m' ((c.tc : Thread Cert.ProjBwdWRefIdeal.nD Cert.ProjBwdWRefIdeal.τ).loc Cert.ProjBwdWRefIdeal.main_arg0)
          ∧ r.2.mem ((c.tc : Thread Cert.ProjBwdWRefIdeal.nD Cert.ProjBwdWRefIdeal.τ).loc Cert.ProjBwdWRefIdeal.main_arg1) = m' ((c.tc : Thread Cert.ProjBwdWRefIdeal.nD Cert.ProjBwdWRefIdeal.τ).loc Cert.ProjBwdWRefIdeal.main_arg1))

def preserves_ProjBwdX_ProjBwdXIdeal : Prop :=
  True

def algebraic_ProjBwdXIdeal_ProjBwdXRefIdeal [hProjBwdXIdeal : Cert.ProjBwdXIdeal.Facts] [hProjBwdXRefIdeal : Cert.ProjBwdXRefIdeal.Facts] : Prop :=
  ∀ (m : (ℓ : Loc Cert.ProjBwdXIdeal.nD Cert.ProjBwdXIdeal.τ Cert.ProjBwdXIdeal.sig) → Buf (Elt Ideal) ℓ) (g : Dev Cert.ProjBwdXIdeal.nD → PrngReg)
    (m' : (ℓ : Loc Cert.ProjBwdXRefIdeal.nD Cert.ProjBwdXRefIdeal.τ Cert.ProjBwdXRefIdeal.sig) → Buf (Elt Ideal) ℓ) (g' : Dev Cert.ProjBwdXRefIdeal.nD → PrngReg), Pre_ProjBwdXIdeal m →
    (∀ c : Dev Cert.ProjBwdXIdeal.nD,
      m' ((c.tc : Thread Cert.ProjBwdXRefIdeal.nD Cert.ProjBwdXRefIdeal.τ).loc Cert.ProjBwdXRefIdeal.main_arg0) = m ((c.tc : Thread Cert.ProjBwdXIdeal.nD Cert.ProjBwdXIdeal.τ).loc Cert.ProjBwdXIdeal.main_arg0)
      ∧ m' ((c.tc : Thread Cert.ProjBwdXRefIdeal.nD Cert.ProjBwdXRefIdeal.τ).loc Cert.ProjBwdXRefIdeal.main_arg1) = m ((c.tc : Thread Cert.ProjBwdXIdeal.nD Cert.ProjBwdXIdeal.τ).loc Cert.ProjBwdXIdeal.main_arg1)) →
    ∃ (v0 : (c : Dev Cert.ProjBwdXIdeal.nD) → Buf (Elt Ideal) ((c.tc : Thread Cert.ProjBwdXIdeal.nD Cert.ProjBwdXIdeal.τ).loc Cert.ProjBwdXIdeal.main_v4)),
      θ_run (Cert.ProjBwdXIdeal.defs (F := Ideal)) (onTc (τ := Cert.ProjBwdXIdeal.τ) (Cert.ProjBwdXIdeal.main (F := Ideal))) ⟨m, fun _ => 0, g⟩ (fun r => ∀ c : Dev Cert.ProjBwdXIdeal.nD,
          r.2.mem ((c.tc : Thread Cert.ProjBwdXIdeal.nD Cert.ProjBwdXIdeal.τ).loc Cert.ProjBwdXIdeal.main_v4) = v0 c
          ∧ r.2.mem ((c.tc : Thread Cert.ProjBwdXIdeal.nD Cert.ProjBwdXIdeal.τ).loc Cert.ProjBwdXIdeal.main_arg0) = m ((c.tc : Thread Cert.ProjBwdXIdeal.nD Cert.ProjBwdXIdeal.τ).loc Cert.ProjBwdXIdeal.main_arg0)
          ∧ r.2.mem ((c.tc : Thread Cert.ProjBwdXIdeal.nD Cert.ProjBwdXIdeal.τ).loc Cert.ProjBwdXIdeal.main_arg1) = m ((c.tc : Thread Cert.ProjBwdXIdeal.nD Cert.ProjBwdXIdeal.τ).loc Cert.ProjBwdXIdeal.main_arg1))
      ∧ θ_run (Cert.ProjBwdXRefIdeal.defs (F := Ideal)) (onTc (τ := Cert.ProjBwdXRefIdeal.τ) (Cert.ProjBwdXRefIdeal.main (F := Ideal))) ⟨m', fun _ => 0, g'⟩ (fun r => ∀ c : Dev Cert.ProjBwdXRefIdeal.nD,
          r.2.mem ((c.tc : Thread Cert.ProjBwdXRefIdeal.nD Cert.ProjBwdXRefIdeal.τ).loc Cert.ProjBwdXRefIdeal.main_v2) = v0 c
          ∧ r.2.mem ((c.tc : Thread Cert.ProjBwdXRefIdeal.nD Cert.ProjBwdXRefIdeal.τ).loc Cert.ProjBwdXRefIdeal.main_arg0) = m' ((c.tc : Thread Cert.ProjBwdXRefIdeal.nD Cert.ProjBwdXRefIdeal.τ).loc Cert.ProjBwdXRefIdeal.main_arg0)
          ∧ r.2.mem ((c.tc : Thread Cert.ProjBwdXRefIdeal.nD Cert.ProjBwdXRefIdeal.τ).loc Cert.ProjBwdXRefIdeal.main_arg1) = m' ((c.tc : Thread Cert.ProjBwdXRefIdeal.nD Cert.ProjBwdXRefIdeal.τ).loc Cert.ProjBwdXRefIdeal.main_arg1))

def Claim : Prop :=
  ∃ (hRmsBwd : Cert.RmsBwd.Facts) (hRmsBwdIdeal : Cert.RmsBwdIdeal.Facts) (hRmsRefIdeal : Cert.RmsRefIdeal.Facts) (hAttnBwd : Cert.AttnBwd.Facts) (hAttnBwdIdeal : Cert.AttnBwdIdeal.Facts) (hAttnRefIdeal : Cert.AttnRefIdeal.Facts) (hBiasGrad : Cert.BiasGrad.Facts) (hBiasGradIdeal : Cert.BiasGradIdeal.Facts) (hBiasGradRefIdeal : Cert.BiasGradRefIdeal.Facts) (hConvBwd : Cert.ConvBwd.Facts) (hConvBwdIdeal : Cert.ConvBwdIdeal.Facts) (hConvRefIdeal : Cert.ConvRefIdeal.Facts) (hLnBwd : Cert.LnBwd.Facts) (hLnBwdIdeal : Cert.LnBwdIdeal.Facts) (hLnRefIdeal : Cert.LnRefIdeal.Facts) (hPostBwd : Cert.PostBwd.Facts) (hPostBwdIdeal : Cert.PostBwdIdeal.Facts) (hPostRefIdeal : Cert.PostRefIdeal.Facts) (hFinalBwd : Cert.FinalBwd.Facts) (hFinalBwdIdeal : Cert.FinalBwdIdeal.Facts) (hFinalRefIdeal : Cert.FinalRefIdeal.Facts) (hRmsFwd : Cert.RmsFwd.Facts) (hRmsFwdIdeal : Cert.RmsFwdIdeal.Facts) (hRmsFwdRefIdeal : Cert.RmsFwdRefIdeal.Facts) (hLnFwd : Cert.LnFwd.Facts) (hLnFwdIdeal : Cert.LnFwdIdeal.Facts) (hLnFwdRefIdeal : Cert.LnFwdRefIdeal.Facts) (hPostFwd : Cert.PostFwd.Facts) (hPostFwdIdeal : Cert.PostFwdIdeal.Facts) (hPostFwdRefIdeal : Cert.PostFwdRefIdeal.Facts) (hAttnFwd : Cert.AttnFwd.Facts) (hAttnFwdIdeal : Cert.AttnFwdIdeal.Facts) (hAttnFwdRefIdeal : Cert.AttnFwdRefIdeal.Facts) (hBiasBuild : Cert.BiasBuild.Facts) (hBiasBuildIdeal : Cert.BiasBuildIdeal.Facts) (hBiasBuildRefIdeal : Cert.BiasBuildRefIdeal.Facts) (hConvFwd : Cert.ConvFwd.Facts) (hConvFwdIdeal : Cert.ConvFwdIdeal.Facts) (hConvFwdRefIdeal : Cert.ConvFwdRefIdeal.Facts) (hGateFwd : Cert.GateFwd.Facts) (hGateFwdIdeal : Cert.GateFwdIdeal.Facts) (hGateFwdRefIdeal : Cert.GateFwdRefIdeal.Facts) (hMmNn : Cert.MmNn.Facts) (hMmNnIdeal : Cert.MmNnIdeal.Facts) (hMmNnRefIdeal : Cert.MmNnRefIdeal.Facts) (hMmNt : Cert.MmNt.Facts) (hMmNtIdeal : Cert.MmNtIdeal.Facts) (hMmNtRefIdeal : Cert.MmNtRefIdeal.Facts) (hMmTn : Cert.MmTn.Facts) (hMmTnIdeal : Cert.MmTnIdeal.Facts) (hMmTnRefIdeal : Cert.MmTnRefIdeal.Facts) (hAdamSmall : Cert.AdamSmall.Facts) (hAdamSmallIdeal : Cert.AdamSmallIdeal.Facts) (hAdamRefIdeal : Cert.AdamRefIdeal.Facts) (hPairAdd : Cert.PairAdd.Facts) (hPairAddIdeal : Cert.PairAddIdeal.Facts) (hPairAddRefIdeal : Cert.PairAddRefIdeal.Facts) (hCast : Cert.Cast.Facts) (hCastIdeal : Cert.CastIdeal.Facts) (hCastRefIdeal : Cert.CastRefIdeal.Facts) (hAdamBig : Cert.AdamBig.Facts) (hAdamBigIdeal : Cert.AdamBigIdeal.Facts) (hAdamBigRefIdeal : Cert.AdamBigRefIdeal.Facts) (hProjFwd : Cert.ProjFwd.Facts) (hProjFwdIdeal : Cert.ProjFwdIdeal.Facts) (hProjFwdRefIdeal : Cert.ProjFwdRefIdeal.Facts) (hProjBwdW : Cert.ProjBwdW.Facts) (hProjBwdWIdeal : Cert.ProjBwdWIdeal.Facts) (hProjBwdWRefIdeal : Cert.ProjBwdWRefIdeal.Facts) (hProjBwdX : Cert.ProjBwdX.Facts) (hProjBwdXIdeal : Cert.ProjBwdXIdeal.Facts) (hProjBwdXRefIdeal : Cert.ProjBwdXRefIdeal.Facts) (hPre_rms_bwd_finite : Cert.Pre_rms_bwd_finite.Facts) (hPre_attn_bwd_finite : Cert.Pre_attn_bwd_finite.Facts) (hPre_bias_grad_banded : Cert.Pre_bias_grad_banded.Facts) (hPre_ln_bwd_finite : Cert.Pre_ln_bwd_finite.Facts) (hPre_post_bwd_finite : Cert.Pre_post_bwd_finite.Facts) (hPre_final_finite : Cert.Pre_final_finite.Facts) (hPre_attn_fwd_finite : Cert.Pre_attn_fwd_finite.Facts) (hPre_core_is_one_of_two : Cert.Pre_core_is_one_of_two.Facts) (hPre_chip_is_one_of_four : Cert.Pre_chip_is_one_of_four.Facts) (hOn_gates_written : Cert.On_gates_written.Facts),
    quiescent_RmsBwd (hRmsBwd := hRmsBwd)
    ∧ quiescent_RmsBwdIdeal (hRmsBwdIdeal := hRmsBwdIdeal)
    ∧ quiescent_RmsBwdIdeal_pre_rms_bwd_finite (hRmsBwdIdeal := hRmsBwdIdeal) (hPre_rms_bwd_finite := hPre_rms_bwd_finite)
    ∧ quiescent_RmsRefIdeal (hRmsRefIdeal := hRmsRefIdeal)
    ∧ quiescent_RmsRefIdeal_pre_rms_bwd_finite (hRmsRefIdeal := hRmsRefIdeal) (hPre_rms_bwd_finite := hPre_rms_bwd_finite)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnRefIdeal (hAttnRefIdeal := hAttnRefIdeal)
    ∧ quiescent_AttnRefIdeal_pre_attn_bwd_finite (hAttnRefIdeal := hAttnRefIdeal) (hPre_attn_bwd_finite := hPre_attn_bwd_finite)
    ∧ quiescent_BiasGrad (hBiasGrad := hBiasGrad)
    ∧ quiescent_BiasGradIdeal (hBiasGradIdeal := hBiasGradIdeal)
    ∧ quiescent_BiasGradIdeal_pre_bias_grad_banded (hBiasGradIdeal := hBiasGradIdeal) (hPre_bias_grad_banded := hPre_bias_grad_banded)
    ∧ quiescent_BiasGradRefIdeal (hBiasGradRefIdeal := hBiasGradRefIdeal)
    ∧ quiescent_BiasGradRefIdeal_pre_bias_grad_banded (hBiasGradRefIdeal := hBiasGradRefIdeal) (hPre_bias_grad_banded := hPre_bias_grad_banded)
    ∧ quiescent_ConvBwd (hConvBwd := hConvBwd)
    ∧ quiescent_ConvBwdIdeal (hConvBwdIdeal := hConvBwdIdeal)
    ∧ quiescent_ConvRefIdeal (hConvRefIdeal := hConvRefIdeal)
    ∧ quiescent_LnBwd (hLnBwd := hLnBwd)
    ∧ quiescent_LnBwdIdeal (hLnBwdIdeal := hLnBwdIdeal)
    ∧ quiescent_LnBwdIdeal_pre_ln_bwd_finite (hLnBwdIdeal := hLnBwdIdeal) (hPre_ln_bwd_finite := hPre_ln_bwd_finite)
    ∧ quiescent_LnRefIdeal (hLnRefIdeal := hLnRefIdeal)
    ∧ quiescent_LnRefIdeal_pre_ln_bwd_finite (hLnRefIdeal := hLnRefIdeal) (hPre_ln_bwd_finite := hPre_ln_bwd_finite)
    ∧ quiescent_PostBwd (hPostBwd := hPostBwd)
    ∧ quiescent_PostBwdIdeal (hPostBwdIdeal := hPostBwdIdeal)
    ∧ quiescent_PostBwdIdeal_pre_post_bwd_finite (hPostBwdIdeal := hPostBwdIdeal) (hPre_post_bwd_finite := hPre_post_bwd_finite)
    ∧ quiescent_PostRefIdeal (hPostRefIdeal := hPostRefIdeal)
    ∧ quiescent_PostRefIdeal_pre_post_bwd_finite (hPostRefIdeal := hPostRefIdeal) (hPre_post_bwd_finite := hPre_post_bwd_finite)
    ∧ quiescent_FinalBwd (hFinalBwd := hFinalBwd)
    ∧ quiescent_FinalBwdIdeal (hFinalBwdIdeal := hFinalBwdIdeal)
    ∧ quiescent_FinalBwdIdeal_pre_final_finite (hFinalBwdIdeal := hFinalBwdIdeal) (hPre_final_finite := hPre_final_finite)
    ∧ quiescent_FinalRefIdeal (hFinalRefIdeal := hFinalRefIdeal)
    ∧ quiescent_FinalRefIdeal_pre_final_finite (hFinalRefIdeal := hFinalRefIdeal) (hPre_final_finite := hPre_final_finite)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_BiasBuild (hBiasBuild := hBiasBuild)
    ∧ quiescent_BiasBuildIdeal (hBiasBuildIdeal := hBiasBuildIdeal)
    ∧ quiescent_BiasBuildRefIdeal (hBiasBuildRefIdeal := hBiasBuildRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_MmNn (hMmNn := hMmNn)
    ∧ quiescent_MmNnIdeal (hMmNnIdeal := hMmNnIdeal)
    ∧ quiescent_MmNnRefIdeal (hMmNnRefIdeal := hMmNnRefIdeal)
    ∧ quiescent_MmNt (hMmNt := hMmNt)
    ∧ quiescent_MmNtIdeal (hMmNtIdeal := hMmNtIdeal)
    ∧ quiescent_MmNtRefIdeal (hMmNtRefIdeal := hMmNtRefIdeal)
    ∧ quiescent_MmTn (hMmTn := hMmTn)
    ∧ quiescent_MmTnIdeal (hMmTnIdeal := hMmTnIdeal)
    ∧ quiescent_MmTnRefIdeal (hMmTnRefIdeal := hMmTnRefIdeal)
    ∧ quiescent_AdamSmall (hAdamSmall := hAdamSmall)
    ∧ quiescent_AdamSmallIdeal (hAdamSmallIdeal := hAdamSmallIdeal)
    ∧ quiescent_AdamRefIdeal (hAdamRefIdeal := hAdamRefIdeal)
    ∧ quiescent_PairAdd (hPairAdd := hPairAdd) (hPre_core_is_one_of_two := hPre_core_is_one_of_two)
    ∧ quiescent_PairAddIdeal (hPairAddIdeal := hPairAddIdeal) (hPre_core_is_one_of_two := hPre_core_is_one_of_two)
    ∧ quiescent_PairAddRefIdeal (hPairAddRefIdeal := hPairAddRefIdeal)
    ∧ quiescent_PairAddRefIdeal_pre_core_is_one_of_two (hPairAddRefIdeal := hPairAddRefIdeal) (hPre_core_is_one_of_two := hPre_core_is_one_of_two)
    ∧ quiescent_Cast (hCast := hCast)
    ∧ quiescent_CastIdeal (hCastIdeal := hCastIdeal)
    ∧ quiescent_CastRefIdeal (hCastRefIdeal := hCastRefIdeal)
    ∧ quiescent_AdamBig (hAdamBig := hAdamBig) (hPre_chip_is_one_of_four := hPre_chip_is_one_of_four)
    ∧ quiescent_AdamBigIdeal (hAdamBigIdeal := hAdamBigIdeal) (hPre_chip_is_one_of_four := hPre_chip_is_one_of_four)
    ∧ quiescent_AdamBigRefIdeal (hAdamBigRefIdeal := hAdamBigRefIdeal)
    ∧ quiescent_AdamBigRefIdeal_pre_chip_is_one_of_four (hAdamBigRefIdeal := hAdamBigRefIdeal) (hPre_chip_is_one_of_four := hPre_chip_is_one_of_four)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_ProjBwdW (hProjBwdW := hProjBwdW)
    ∧ quiescent_ProjBwdWIdeal (hProjBwdWIdeal := hProjBwdWIdeal)
    ∧ quiescent_ProjBwdWRefIdeal (hProjBwdWRefIdeal := hProjBwdWRefIdeal)
    ∧ quiescent_ProjBwdX (hProjBwdX := hProjBwdX)
    ∧ quiescent_ProjBwdXIdeal (hProjBwdXIdeal := hProjBwdXIdeal)
    ∧ quiescent_ProjBwdXRefIdeal (hProjBwdXRefIdeal := hProjBwdXRefIdeal)
    ∧ preserves_RmsBwd_RmsBwdIdeal
    ∧ algebraic_RmsBwdIdeal_RmsRefIdeal_pre_rms_bwd_finite (hRmsBwdIdeal := hRmsBwdIdeal) (hRmsRefIdeal := hRmsRefIdeal) (hPre_rms_bwd_finite := hPre_rms_bwd_finite)
    ∧ preserves_AttnBwd_AttnBwdIdeal
    ∧ algebraic_AttnBwdIdeal_AttnRefIdeal_pre_attn_bwd_finite (hAttnBwdIdeal := hAttnBwdIdeal) (hAttnRefIdeal := hAttnRefIdeal) (hPre_attn_bwd_finite := hPre_attn_bwd_finite)
    ∧ preserves_BiasGrad_BiasGradIdeal
    ∧ algebraic_BiasGradIdeal_BiasGradRefIdeal_pre_bias_grad_banded (hBiasGradIdeal := hBiasGradIdeal) (hBiasGradRefIdeal := hBiasGradRefIdeal) (hPre_bias_grad_banded := hPre_bias_grad_banded)
    ∧ preserves_ConvBwd_ConvBwdIdeal
    ∧ algebraic_ConvBwdIdeal_ConvRefIdeal (hConvBwdIdeal := hConvBwdIdeal) (hConvRefIdeal := hConvRefIdeal)
    ∧ preserves_LnBwd_LnBwdIdeal
    ∧ algebraic_LnBwdIdeal_LnRefIdeal_pre_ln_bwd_finite (hLnBwdIdeal := hLnBwdIdeal) (hLnRefIdeal := hLnRefIdeal) (hPre_ln_bwd_finite := hPre_ln_bwd_finite)
    ∧ preserves_PostBwd_PostBwdIdeal
    ∧ algebraic_PostBwdIdeal_PostRefIdeal_on_gates_written_pre_post_bwd_finite (hPostBwdIdeal := hPostBwdIdeal) (hPostRefIdeal := hPostRefIdeal) (hPre_post_bwd_finite := hPre_post_bwd_finite) (hOn_gates_written := hOn_gates_written)
    ∧ preserves_FinalBwd_FinalBwdIdeal
    ∧ algebraic_FinalBwdIdeal_FinalRefIdeal_pre_final_finite (hFinalBwdIdeal := hFinalBwdIdeal) (hFinalRefIdeal := hFinalRefIdeal) (hPre_final_finite := hPre_final_finite)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_LnFwd_LnFwdIdeal
    ∧ algebraic_LnFwdIdeal_LnFwdRefIdeal (hLnFwdIdeal := hLnFwdIdeal) (hLnFwdRefIdeal := hLnFwdRefIdeal)
    ∧ preserves_PostFwd_PostFwdIdeal
    ∧ algebraic_PostFwdIdeal_PostFwdRefIdeal (hPostFwdIdeal := hPostFwdIdeal) (hPostFwdRefIdeal := hPostFwdRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_BiasBuild_BiasBuildIdeal
    ∧ algebraic_BiasBuildIdeal_BiasBuildRefIdeal (hBiasBuildIdeal := hBiasBuildIdeal) (hBiasBuildRefIdeal := hBiasBuildRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_MmNn_MmNnIdeal
    ∧ algebraic_MmNnIdeal_MmNnRefIdeal (hMmNnIdeal := hMmNnIdeal) (hMmNnRefIdeal := hMmNnRefIdeal)
    ∧ preserves_MmNt_MmNtIdeal
    ∧ algebraic_MmNtIdeal_MmNtRefIdeal (hMmNtIdeal := hMmNtIdeal) (hMmNtRefIdeal := hMmNtRefIdeal)
    ∧ preserves_MmTn_MmTnIdeal
    ∧ algebraic_MmTnIdeal_MmTnRefIdeal (hMmTnIdeal := hMmTnIdeal) (hMmTnRefIdeal := hMmTnRefIdeal)
    ∧ preserves_AdamSmall_AdamSmallIdeal
    ∧ algebraic_AdamSmallIdeal_AdamRefIdeal (hAdamSmallIdeal := hAdamSmallIdeal) (hAdamRefIdeal := hAdamRefIdeal)
    ∧ preserves_PairAdd_PairAddIdeal
    ∧ algebraic_PairAddIdeal_PairAddRefIdeal (hPairAddIdeal := hPairAddIdeal) (hPairAddRefIdeal := hPairAddRefIdeal) (hPre_core_is_one_of_two := hPre_core_is_one_of_two)
    ∧ preserves_Cast_CastIdeal
    ∧ algebraic_CastIdeal_CastRefIdeal (hCastIdeal := hCastIdeal) (hCastRefIdeal := hCastRefIdeal)
    ∧ preserves_AdamBig_AdamBigIdeal
    ∧ algebraic_AdamBigIdeal_AdamBigRefIdeal (hAdamBigIdeal := hAdamBigIdeal) (hAdamBigRefIdeal := hAdamBigRefIdeal) (hPre_chip_is_one_of_four := hPre_chip_is_one_of_four)
    ∧ preserves_ProjFwd_ProjFwdIdeal
    ∧ algebraic_ProjFwdIdeal_ProjFwdRefIdeal (hProjFwdIdeal := hProjFwdIdeal) (hProjFwdRefIdeal := hProjFwdRefIdeal)
    ∧ preserves_ProjBwdW_ProjBwdWIdeal
    ∧ algebraic_ProjBwdWIdeal_ProjBwdWRefIdeal (hProjBwdWIdeal := hProjBwdWIdeal) (hProjBwdWRefIdeal := hProjBwdWRefIdeal)
    ∧ preserves_ProjBwdX_ProjBwdXIdeal
    ∧ algebraic_ProjBwdXIdeal_ProjBwdXRefIdeal (hProjBwdXIdeal := hProjBwdXIdeal) (hProjBwdXRefIdeal := hProjBwdXRefIdeal)
-- ==== On_gates_written.lean ====
abbrev S4096x4096 : Shape := ⟨2, ![4096, 4096]⟩
abbrev S4096x2048 : Shape := ⟨2, ![4096, 2048]⟩
abbrev S1x2048 : Shape := ⟨2, ![1, 2048]⟩
abbrev S1x4096x14336 : Shape := ⟨3, ![1, 4096, 14336]⟩
abbrev S7x4096x2048 : Shape := ⟨3, ![7, 4096, 2048]⟩
abbrev S_ : Shape := ⟨0, ![]⟩
abbrev S2x1x2048 : Shape := ⟨3, ![2, 1, 2048]⟩
abbrev S2x4096x2048 : Shape := ⟨3, ![2, 4096, 2048]⟩

class Facts : Prop where
  bcast_S_S2x1x2048 : S_.BroadcastsInDim S2x1x2048 (![] : Fin 0 → Fin S2x1x2048.rank)
  bcast_S_S7x4096x2048 : S_.BroadcastsInDim S7x4096x2048 (![] : Fin 0 → Fin S7x4096x2048.rank)
  bcast_S_S2x4096x2048 : S_.BroadcastsInDim S2x4096x2048 (![] : Fin 0 → Fin S2x4096x2048.rank)

variable [Facts]

def fn {F : FTy → Type} [FloatOps F] (main_arg0 : FVec F S4096x4096 .f32) (main_arg1 : FVec F S4096x2048 .f32) (main_arg2 : FVec F S4096x2048 .f32) (main_arg3 : FVec F S1x2048 .f32) (main_arg4 : FVec F S1x4096x14336 .f32) (main_arg5 : FVec F S1x2048 .f32) (main_arg6 : FVec F S1x2048 .f32) : IVec S7x4096x2048 1 × IVec S2x4096x2048 1 × IVec S2x1x2048 1 × IVec S2x1x2048 1 :=
  let main_v0 : IVec S7x4096x2048 32 := iotaInDim S7x4096x2048 32 0
  let main_c : IVec S_ 1 := constantI S_ 1 1#1
  let main_v1 : IVec S2x1x2048 1 := broadcastInDim S2x1x2048 ![] bcast_S_S2x1x2048 main_c
  let main_c_0 : IVec S_ 32 := constantI S_ 32 3#32
  let main_v2 : IVec S7x4096x2048 32 := broadcastInDim S7x4096x2048 ![] bcast_S_S7x4096x2048 main_c_0
  let main_v3 : IVec S7x4096x2048 1 := cmpi .eq main_v0 main_v2
  let main_c_1 : IVec S_ 32 := constantI S_ 32 6#32
  let main_v4 : IVec S7x4096x2048 32 := broadcastInDim S7x4096x2048 ![] bcast_S_S7x4096x2048 main_c_1
  let main_v5 : IVec S7x4096x2048 1 := cmpi .eq main_v0 main_v4
  let main_v6 : IVec S7x4096x2048 1 := ori main_v3 main_v5
  let main_c_2 : IVec S_ 1 := constantI S_ 1 1#1
  let main_v7 : IVec S2x4096x2048 1 := broadcastInDim S2x4096x2048 ![] bcast_S_S2x4096x2048 main_c_2
  (main_v6, main_v7, main_v1, main_v1)
-- ==== Pre_attn_bwd_finite.lean ====
abbrev S7x4096x2048 : Shape := ⟨3, ![7, 4096, 2048]⟩
abbrev S1x4096x14336 : Shape := ⟨3, ![1, 4096, 14336]⟩
abbrev S2x4096x2048 : Shape := ⟨3, ![2, 4096, 2048]⟩
abbrev S16x513 : Shape := ⟨2, ![16, 513]⟩
abbrev S_ : Shape := ⟨0, ![]⟩

class Facts : Prop where
  bcast_S_S1x4096x14336 : S_.BroadcastsInDim S1x4096x14336 (![] : Fin 0 → Fin S1x4096x14336.rank)
  bitsLt_bf16_f32 : FTy.bits .bf16 < FTy.bits .f32
  bcast_S_S2x4096x2048 : S_.BroadcastsInDim S2x4096x2048 (![] : Fin 0 → Fin S2x4096x2048.rank)
  bcast_S_S16x513 : S_.BroadcastsInDim S16x513 (![] : Fin 0 → Fin S16x513.rank)

variable [Facts]

def fn {F : FTy → Type} [FloatOps F] (main_arg0 : FVec F S7x4096x2048 .bf16) (main_arg1 : FVec F S1x4096x14336 .f32) (main_arg2 : FVec F S2x4096x2048 .bf16) (main_arg3 : FVec F S16x513 .f32) : IVec S1x4096x14336 1 × IVec S2x4096x2048 1 × IVec S16x513 1 :=
  let main_v0 : FVec F S1x4096x14336 .f32 := Host.absf main_arg1
  let main_cst : FVec F S_ .f32 := constant S_ .f32 0x7F800000#32
  let main_v1 : FVec F S1x4096x14336 .f32 := broadcastInDim S1x4096x14336 ![] bcast_S_S1x4096x14336 main_cst
  let main_v2 : IVec S1x4096x14336 1 := cmpf .olt main_v0 main_v1
  let main_v3 : FVec F S2x4096x2048 .f32 := (extf .f32 · bitsLt_bf16_f32) main_arg2
  let main_v4 : FVec F S2x4096x2048 .f32 := Host.absf main_v3
  let main_cst_0 : FVec F S_ .f32 := constant S_ .f32 0x7F800000#32
  let main_v5 : FVec F S2x4096x2048 .f32 := broadcastInDim S2x4096x2048 ![] bcast_S_S2x4096x2048 main_cst_0
  let main_v6 : IVec S2x4096x2048 1 := cmpf .olt main_v4 main_v5
  let main_v7 : FVec F S16x513 .f32 := Host.absf main_arg3
  let main_cst_1 : FVec F S_ .f32 := constant S_ .f32 0x7F800000#32
  let main_v8 : FVec F S16x513 .f32 := broadcastInDim S16x513 ![] bcast_S_S16x513 main_cst_1
  let main_v9 : IVec S16x513 1 := cmpf .olt main_v7 main_v8
  (main_v2, main_v6, main_v9)
-- ==== Pre_attn_fwd_finite.lean ====
abbrev S1x4096x14336 : Shape := ⟨3, ![1, 4096, 14336]⟩
abbrev S16x513 : Shape := ⟨2, ![16, 513]⟩
abbrev S_ : Shape := ⟨0, ![]⟩

class Facts : Prop where
  bcast_S_S1x4096x14336 : S_.BroadcastsInDim S1x4096x14336 (![] : Fin 0 → Fin S1x4096x14336.rank)
  bcast_S_S16x513 : S_.BroadcastsInDim S16x513 (![] : Fin 0 → Fin S16x513.rank)

variable [Facts]

def fn {F : FTy → Type} [FloatOps F] (main_arg0 : FVec F S1x4096x14336 .f32) (main_arg1 : FVec F S16x513 .f32) : IVec S1x4096x14336 1 × IVec S16x513 1 :=
  let main_v0 : FVec F S1x4096x14336 .f32 := Host.absf main_arg0
  let main_cst : FVec F S_ .f32 := constant S_ .f32 0x7F800000#32
  let main_v1 : FVec F S1x4096x14336 .f32 := broadcastInDim S1x4096x14336 ![] bcast_S_S1x4096x14336 main_cst
  let main_v2 : IVec S1x4096x14336 1 := cmpf .olt main_v0 main_v1
  let main_v3 : FVec F S16x513 .f32 := Host.absf main_arg1
  let main_cst_0 : FVec F S_ .f32 := constant S_ .f32 0x7F800000#32
  let main_v4 : FVec F S16x513 .f32 := broadcastInDim S16x513 ![] bcast_S_S16x513 main_cst_0
  let main_v5 : IVec S16x513 1 := cmpf .olt main_v3 main_v4
  (main_v2, main_v5)
-- ==== Pre_bias_grad_banded.lean ====
abbrev S16x513 : Shape := ⟨2, ![16, 513]⟩
abbrev S16x512x1024 : Shape := ⟨3, ![16, 512, 1024]⟩
abbrev S512x1024 : Shape := ⟨2, ![512, 1024]⟩
abbrev S_ : Shape := ⟨0, ![]⟩

class Facts : Prop where
  bcast_S_S512x1024 : S_.BroadcastsInDim S512x1024 (![] : Fin 0 → Fin S512x1024.rank)
  bcast_S512x1024_S16x512x1024_1_2 : S512x1024.BroadcastsInDim S16x512x1024 (![1, 2] : Fin 2 → Fin S16x512x1024.rank)
  bcast_S_S16x512x1024 : S_.BroadcastsInDim S16x512x1024 (![] : Fin 0 → Fin S16x512x1024.rank)

variable [Facts]

def fn_clip {F : FTy → Type} [FloatOps F] (arg0 : IVec S512x1024 32) (arg1 : IVec S_ 32) (arg2 : IVec S_ 32) : IVec S512x1024 32 :=
  let v0 : IVec S_ 32 := id arg1
  let v1 : IVec S512x1024 32 := broadcastInDim S512x1024 ![] bcast_S_S512x1024 v0
  let v2 : IVec S512x1024 32 := maxsi v1 arg0
  let v3 : IVec S_ 32 := id arg2
  let v4 : IVec S512x1024 32 := broadcastInDim S512x1024 ![] bcast_S_S512x1024 v3
  let v5 : IVec S512x1024 32 := minsi v4 v2
  v5

def fn_where {F : FTy → Type} [FloatOps F] (arg0 : IVec S512x1024 1) (arg1 : FVec F S_ .f32) (arg2 : FVec F S16x512x1024 .f32) : FVec F S16x512x1024 .f32 :=
  let v0 : FVec F S_ .f32 := id arg1
  let v1 : IVec S16x512x1024 1 := broadcastInDim S16x512x1024 ![1, 2] bcast_S512x1024_S16x512x1024_1_2 arg0
  let v2 : FVec F S16x512x1024 .f32 := broadcastInDim S16x512x1024 ![] bcast_S_S16x512x1024 v0
  let v3 : FVec F S16x512x1024 .f32 := select v1 v2 arg2
  v3

def fn_part1 {F : FTy → Type} [FloatOps F] (main_arg1 : FVec F S16x512x1024 .f32) (main_v6 : IVec S512x1024 32) (main_v14 : IVec S512x1024 1) (main_v15 : IVec S512x1024 32) : IVec S16x512x1024 1 :=
  let main_v16 : IVec S512x1024 1 := cmpi .sle main_v6 main_v15
  let main_v17 : IVec S512x1024 1 := andi main_v14 main_v16
  let main_cst : FVec F S_ .f32 := constant S_ .f32 0x00000000#32
  let main_v18 : FVec F S16x512x1024 .f32 := fn_where (F := F) main_v17 main_cst main_arg1
  let main_cst_7 : FVec F S_ .f32 := constant S_ .f32 0x00000000#32
  let main_v19 : FVec F S16x512x1024 .f32 := broadcastInDim S16x512x1024 ![] bcast_S_S16x512x1024 main_cst_7
  let main_v20 : IVec S16x512x1024 1 := cmpf .oeq main_v18 main_v19
  main_v20

def fn {F : FTy → Type} [FloatOps F] (main_arg0 : FVec F S16x513 .f32) (main_arg1 : FVec F S16x512x1024 .f32) : IVec S16x512x1024 1 :=
  let main_v0 : IVec S512x1024 32 := iotaInDim S512x1024 32 0
  let main_v1 : IVec S512x1024 32 := iotaInDim S512x1024 32 1
  let main_c : IVec S_ 32 := constantI S_ 32 64#32
  let main_v2 : IVec S512x1024 32 := broadcastInDim S512x1024 ![] bcast_S_S512x1024 main_c
  let main_v3 : IVec S512x1024 32 := Host.divsi main_v1 main_v2
  let main_c_0 : IVec S_ 32 := constantI S_ 32 64#32
  let main_v4 : IVec S512x1024 32 := broadcastInDim S512x1024 ![] bcast_S_S512x1024 main_c_0
  let main_v5 : IVec S512x1024 32 := Host.divsi main_v0 main_v4
  let main_v6 : IVec S512x1024 32 := subi main_v3 main_v5
  let main_c_1 : IVec S_ 32 := constantI S_ 32 512#32
  let main_v7 : IVec S512x1024 32 := broadcastInDim S512x1024 ![] bcast_S_S512x1024 main_c_1
  let main_v8 : IVec S512x1024 32 := addi main_v0 main_v7
  let main_v9 : IVec S512x1024 32 := subi main_v8 main_v1
  let main_c_2 : IVec S_ 32 := constantI S_ 32 4294967040#32
  let main_c_3 : IVec S_ 32 := constantI S_ 32 256#32
  let main_v10 : IVec S512x1024 32 := fn_clip (F := F) main_v9 main_c_2 main_c_3
  let main_c_4 : IVec S_ 32 := constantI S_ 32 256#32
  let main_v11 : IVec S512x1024 32 := broadcastInDim S512x1024 ![] bcast_S_S512x1024 main_c_4
  let main_v12 : IVec S512x1024 32 := addi main_v10 main_v11
  let main_c_5 : IVec S_ 32 := constantI S_ 32 0#32
  let main_v13 : IVec S512x1024 32 := broadcastInDim S512x1024 ![] bcast_S_S512x1024 main_c_5
  let main_v14 : IVec S512x1024 1 := cmpi .sge main_v6 main_v13
  let main_c_6 : IVec S_ 32 := constantI S_ 32 8#32
  let main_v15 : IVec S512x1024 32 := broadcastInDim S512x1024 ![] bcast_S_S512x1024 main_c_6
  fn_part1 (F := F) main_arg1 main_v6 main_v14 main_v15
-- ==== Pre_chip_is_one_of_four.lean ====
abbrev S4x4096x1792 : Shape := ⟨3, ![4, 4096, 1792]⟩
abbrev S3x4096x1792 : Shape := ⟨3, ![3, 4096, 1792]⟩
abbrev S4096x1792 : Shape := ⟨2, ![4096, 1792]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x4096x1792 .bf16) (main_arg1 : FVec F S3x4096x1792 .bf16) (main_arg2 : FVec F S4096x1792 .f32) (main_arg3 : FVec F S4096x1792 .f32) (main_arg4 : FVec F S4096x1792 .f32) (main_arg5 : IVec S1 32) : IVec S1 1 :=
  let main_c : IVec S_ 32 := constantI S_ 32 0#32
  let main_v0 : IVec S1 32 := broadcastInDim S1 ![] bcast_S_S1 main_c
  let main_v1 : IVec S1 1 := cmpi .sge main_arg5 main_v0
  let main_c_0 : IVec S_ 32 := constantI S_ 32 4#32
  let main_v2 : IVec S1 32 := broadcastInDim S1 ![] bcast_S_S1 main_c_0
  let main_v3 : IVec S1 1 := cmpi .slt main_arg5 main_v2
  let main_v4 : IVec S1 1 := andi main_v1 main_v3
  main_v4
-- ==== Pre_core_is_one_of_two.lean ====
abbrev S4096x14336 : Shape := ⟨2, ![4096, 14336]⟩
abbrev S4x4096x1792 : Shape := ⟨3, ![4, 4096, 1792]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x14336 .bf16) (main_arg1 : FVec F S4x4096x1792 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 2#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_final_finite.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  bcast_S_S1x4096 : S_.BroadcastsInDim S1x4096 (![] : Fin 0 → Fin S1x4096.rank)

variable [Facts]

def fn {F : FTy → Type} [FloatOps F] (main_arg0 : FVec F S4096x4096 .f32) (main_arg1 : FVec F S4096x4096 .f32) (main_arg2 : FVec F S1x4096 .f32) (main_arg3 : FVec F S4096x4096 .f32) (main_arg4 : FVec F S1x4096 .f32) (main_arg5 : FVec F S4096x4096 .f32) : IVec S4096x4096 1 × IVec S4096x4096 1 × IVec S1x4096 1 × IVec S4096x4096 1 × IVec S1x4096 1 × IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_v12 : FVec F S1x4096 .f32 := Host.absf main_arg4
  let main_cst_3 : FVec F S_ .f32 := constant S_ .f32 0x7F800000#32
  let main_v13 : FVec F S1x4096 .f32 := broadcastInDim S1x4096 ![] bcast_S_S1x4096 main_cst_3
  let main_v14 : IVec S1x4096 1 := cmpf .olt main_v12 main_v13
  let main_v15 : FVec F S4096x4096 .f32 := Host.absf main_arg5
  let main_cst_4 : FVec F S_ .f32 := constant S_ .f32 0x7F800000#32
  let main_v16 : FVec F S4096x4096 .f32 := broadcastInDim S4096x4096 ![] bcast_S_S4096x4096 main_cst_4
  let main_v17 : IVec S4096x4096 1 := cmpf .olt main_v15 main_v16
  (main_v2, main_v5, main_v8, main_v11, main_v14, main_v17)
-- ==== Pre_ln_bwd_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S1x2048 .f32) : IVec S4096x2048 1 × IVec S4096x2048 1 × IVec S1x2048 1 × IVec S1x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_post_bwd_finite.lean ====
abbrev S4096x4096 : Shape := ⟨2, ![4096, 4096]⟩
abbrev S4096x2048 : Shape := ⟨2, ![4096, 2048]⟩
abbrev S1x2048 : Shape := ⟨2, ![1, 2048]⟩
abbrev S1x4096x14336 : Shape := ⟨3, ![1, 4096, 14336]⟩
abbrev S_ : Shape := ⟨0, ![]⟩

class Facts : Prop where
  bcast_S_S4096x4096 : S_.BroadcastsInDim S4096x4096 (![] : Fin 0 → Fin S4096x4096.rank)
  bcast_S_S4096x2048 : S_.BroadcastsInDim S4096x2048 (![] : Fin 0 → Fin S4096x2048.rank)
  bcast_S_S1x2048 : S_.BroadcastsInDim S1x2048 (![] : Fin 0 → Fin S1x2048.rank)
  bcast_S_S1x4096x14336 : S_.BroadcastsInDim S1x4096x14336 (![] : Fin 0 → Fin S1x4096x14336.rank)

variable [Facts]

def fn_part1 {F : FTy → Type} [FloatOps F] (main_arg6 : FVec F S1x2048 .f32) (main_v2 : IVec S4096x4096 1) (main_v5 : IVec S4096x2048 1) (main_v8 : IVec S4096x2048 1) (main_v11 : IVec S1x2048 1) (main_v14 : IVec S1x4096x14336 1) (main_v17 : IVec S1x2048 1) : IVec S4096x4096 1 × IVec S4096x2048 1 × IVec S4096x2048 1 × IVec S1x2048 1 × IVec S1x4096x14336 1 × IVec S1x2048 1 × IVec S1x2048 1 :=
  let main_v18 : FVec F S1x2048 .f32 := Host.absf main_arg6
  let main_cst_5 : FVec F S_ .f32 := constant S_ .f32 0x7F800000#32
  let main_v19 : FVec F S1x2048 .f32 := broadcastInDim S1x2048 ![] bcast_S_S1x2048 main_cst_5
  let main_v20 : IVec S1x2048 1 := cmpf .olt main_v18 main_v19
  (main_v2, main_v5, main_v8, main_v11, main_v14, main_v17, main_v20)

def fn {F : FTy → Type} [FloatOps F] (main_arg0 : FVec F S4096x4096 .f32) (main_arg1 : FVec F S4096x2048 .f32) (main_arg2 : FVec F S4096x2048 .f32) (main_arg3 : FVec F S1x2048 .f32) (main_arg4 : FVec F S1x4096x14336 .f32) (main_arg5 : FVec F S1x2048 .f32) (main_arg6 : FVec F S1x2048 .f32) : IVec S4096x4096 1 × IVec S4096x2048 1 × IVec S4096x2048 1 × IVec S1x2048 1 × IVec S1x4096x14336 1 × IVec S1x2048 1 × IVec S1x2048 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x4096x14336 .f32 := Host.absf main_arg4
  let main_cst_3 : FVec F S_ .f32 := constant S_ .f32 0x7F800000#32
  let main_v13 : FVec F S1x4096x14336 .f32 := broadcastInDim S1x4096x14336 ![] bcast_S_S1x4096x14336 main_cst_3
  let main_v14 : IVec S1x4096x14336 1 := cmpf .olt main_v12 main_v13
  let main_v15 : FVec F S1x2048 .f32 := Host.absf main_arg5
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  fn_part1 (F := F) main_arg6 main_v2 main_v5 main_v8 main_v11 main_v14 main_v17
-- ==== Pre_rms_bwd_finite.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  bcast_S_S1x4096 : S_.BroadcastsInDim S1x4096 (![] : Fin 0 → Fin S1x4096.rank)

variable [Facts]

def fn {F : FTy → Type} [FloatOps F] (main_arg0 : FVec F S4096x4096 .f32) (main_arg1 : FVec F S4096x4096 .f32) (main_arg2 : FVec F S1x4096 .f32) (main_arg3 : FVec F S4096x4096 .f32) : IVec S4096x4096 1 × IVec S4096x4096 1 × IVec S1x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  (main_v2, main_v5, main_v8)
-- ==== RmsBwd.lean ====
abbrev S4096x4096 : Shape := ⟨2, ![4096, 4096]⟩
abbrev S1x4096 : Shape := ⟨2, ![1, 4096]⟩
abbrev S64x4096 : Shape := ⟨2, ![64, 4096]⟩
abbrev S64 : Shape := ⟨1, ![64]⟩
abbrev S64x1 : Shape := ⟨2, ![64, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S1x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S1x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .bf16⟩
  | .local _ .vmem, ⟨10, _⟩ => ⟨S64x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S1x4096, .f32⟩
  | .hbm, ⟨51, _⟩ => ⟨S4096x4096, .f32⟩
  | .hbm, ⟨52, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== AttnBwd.lean ====
abbrev S7x4096x2048 : Shape := ⟨3, ![7, 4096, 2048]⟩
abbrev S1x4096x14336 : Shape := ⟨3, ![1, 4096, 14336]⟩
abbrev S2x4096x2048 : Shape := ⟨3, ![2, 4096, 2048]⟩
abbrev S16x513 : Shape := ⟨2, ![16, 513]⟩
abbrev S4096x7x2048 : Shape := ⟨3, ![4096, 7, 2048]⟩
abbrev S512x1024 : Shape := ⟨2, ![512, 1024]⟩
abbrev S_ : Shape := ⟨0, ![]⟩
abbrev S512x1024x1 : Shape := ⟨3, ![512, 1024, 1]⟩
abbrev S16x512x1024 : Shape := ⟨3, ![16, 512, 1024]⟩
abbrev S1x512x128 : Shape := ⟨3, ![1, 512, 128]⟩
abbrev S1x512x1024 : Shape := ⟨3, ![1, 512, 1024]⟩
abbrev S3x512x128 : Shape := ⟨3, ![3, 512, 128]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S512x1024x513 : Shape := ⟨3, ![512, 1024, 513]⟩

abbrev nBuf : Space → Nat
  | .hbm => 60
  | .vmem => 21
  | .smem => 0
  | _ => 0

abbrev bufTy : (tb : Table) → Fin (tcTables nBuf tb) → BufTy
  | .hbm, ⟨0, _⟩ => ⟨S7x4096x2048, .bf16⟩
  | .hbm, ⟨1, _⟩ => ⟨S1x4096x14336, .f32⟩
  | .hbm, ⟨2, _⟩ => ⟨S2x4096x2048, .bf16⟩
  | .hbm, ⟨3, _⟩ => ⟨S16x513, .f32⟩
  | .hbm, ⟨4, _⟩ => ⟨S4096x7x2048, .f32⟩
  | .hbm, ⟨5, _⟩ => ⟨S7x4096x2048, .f32⟩
  | .hbm, ⟨6, _⟩ => ⟨S7x4096x2048, .bf16⟩
  | .hbm, ⟨7, _⟩ => ⟨S512x1024, .i32⟩
  | .hbm, ⟨8, _⟩ => ⟨S512x1024, .i32⟩
  | .hbm, ⟨9, _⟩ => ⟨S_, .i32⟩
  | .hbm, ⟨10, _⟩ => ⟨S512x1024, .i32⟩
  | .hbm, ⟨11, _⟩ => ⟨S512x1024, .i32⟩
  | .hbm, ⟨12, _⟩ => ⟨S512x1024, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S512x1024, .i32⟩
  | .hbm, ⟨17, _⟩ => ⟨S512x1024, .i32⟩
  | .hbm, ⟨18, _⟩ => ⟨S_, .i32⟩
  | .hbm, ⟨19, _⟩ => ⟨S512x1024, .i32⟩
  | .hbm, ⟨20, _⟩ => ⟨S512x1024, .i32⟩
  | .hbm, ⟨21, _⟩ => ⟨S_, .i32⟩
  | .hbm, ⟨22, _⟩ => ⟨S512x1024, .i32⟩
  | .hbm, ⟨23, _⟩ => ⟨S512x1024, .i32⟩
  | .hbm, ⟨24, _⟩ => ⟨S_, .i32⟩
  | .hbm, ⟨25, _⟩ => ⟨S512x1024, .i32⟩
  | .hbm, ⟨26, _⟩ => ⟨S512x1024, .i32⟩
  | .hbm, ⟨27, _⟩ => ⟨S_, .i32⟩
  | .hbm, ⟨28, _⟩ => ⟨S512x1024, .i32⟩
  | .hbm, ⟨29, _⟩ => ⟨S512x1024, .i32⟩
  | .hbm, ⟨30, _⟩ => ⟨S512x1024, .i32⟩
  | .hbm, ⟨31, _⟩ => ⟨S_, .i32⟩
  | .hbm, ⟨32, _⟩ => ⟨S512x1024, .i32⟩
  | .hbm, ⟨33, _⟩ => ⟨S512x1024, .i1⟩
  | .hbm, ⟨34, _⟩ => ⟨S_, .i32⟩
  | .hbm, ⟨35, _⟩ => ⟨S512x1024, .i32⟩
  | .hbm, ⟨36, _⟩ => ⟨S512x1024, .i1⟩
  | .hbm, ⟨37, _⟩ => ⟨S512x1024, .i1⟩
  | .hbm, ⟨38, _⟩ => ⟨S_, .i32⟩
  | .hbm, ⟨39, _⟩ => ⟨S512x1024, .i32⟩
  | .hbm, ⟨40, _⟩ => ⟨S512x1024, .i1⟩
  | .hbm, ⟨41, _⟩ => ⟨S_, .i32⟩
  | .hbm, ⟨42, _⟩ => ⟨S512x1024, .i32⟩
  | .hbm, ⟨43, _⟩ => ⟨S512x1024, .i32⟩
  | .hbm, ⟨44, _⟩ => ⟨S512x1024, .i32⟩
  | .hbm, ⟨45, _⟩ => ⟨S512x1024x1, .i32⟩
  | .hbm, ⟨46, _⟩ => ⟨S16x512x1024, .f32⟩
  | .hbm, ⟨47, _⟩ => ⟨S_, .f32⟩
  | .hbm, ⟨48, _⟩ => ⟨S_, .f32⟩
  | .hbm, ⟨49, _⟩ => ⟨S16x512x1024, .i1⟩
  | .hbm, ⟨50, _⟩ => ⟨S16x512x1024, .f32⟩
  | .hbm, ⟨51, _⟩ => ⟨S16x512x1024, .f32⟩
  | .hbm, ⟨52, _⟩ => ⟨S7x4096x2048, .bf16⟩
  | .hbm, ⟨53, _⟩ => ⟨S16x512x1024, .f32⟩
  | .hbm, ⟨54, _⟩ => ⟨S512x1024x513, .i32⟩
  | .hbm, ⟨55, _⟩ => ⟨S512x1024x1, .i32⟩
  | .hbm, ⟨56, _⟩ => ⟨S512x1024x513, .i32⟩
  | .hbm, ⟨57, _⟩ => ⟨S512x1024x513, .i1⟩
  | .hbm, ⟨58, _⟩ => ⟨S512x1024x513, .f32⟩
  | .hbm, ⟨59, _⟩ => ⟨S16x513, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x128, .bf16⟩
  | .local _ .vmem, ⟨13, _⟩ => ⟨S1x512x128, .bf16⟩
  | .local _ .vmem, ⟨14, _⟩ => ⟨S3x512x128, .bf16⟩
  | .local _ .vmem, ⟨15, _⟩ => ⟨S3x512x128, .bf16⟩
  | .local _ .vmem, ⟨16, _⟩ => ⟨S1x512x1024, .f32⟩
  | .local _ .vmem, ⟨17, _⟩ => ⟨S1x512x1024, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | _, _ => ⟨S7x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_7 : Ref sig .tc := ⟨.hbm, 38, rfl⟩
abbrev main_v21 : Ref sig .tc := ⟨.hbm, 39, rfl⟩
abbrev main_v22 : Ref sig .tc := ⟨.hbm, 40, rfl⟩
abbrev main_c_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_v29_0 : Ref sig .tc := ⟨.hbm, 52, rfl⟩
abbrev main_v29_1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond4 (i : grid0.Coords) : BitVec 1 :=
  let arg1 : BitVec 32 := BitVec.ofNat 32 (i 1).val
  let c0_i32_51 : BitVec 32 := 0#32
  let v92 : BitVec 1 := Scalar.cmpi .sgt arg1 c0_i32_51
  let v93 : BitVec 32 := Scalar.extui v92
  let c0_i32_52 : BitVec 32 := 0#32
  let v94 : BitVec 1 := Scalar.cmpi .ne v93 c0_i32_52
  v94

def k0_cond5 (i : grid0.Coords) : BitVec 1 :=
  let arg1 : BitVec 32 := BitVec.ofNat 32 (i 1).val
  let c8_i32_0 : BitVec 32 := 8#32
  let v3 : BitVec 1 := Scalar.cmpi .eq arg1 c8_i32_0
  let v4 : BitVec 32 := Scalar.extui v3
  let c0_i32_1 : BitVec 32 := 0#32
  let v5 : BitVec 1 := Scalar.cmpi .ne v4 c0_i32_1
  v5

def k0_cond2 (i : grid0.Coords) : BitVec 1 :=
  let arg1 : BitVec 32 := BitVec.ofNat 32 (i 1).val
  let c0_i32_39 : BitVec 32 := 0#32
  let v71 : BitVec 1 := Scalar.cmpi .eq arg1 c0_i32_39
  let v72 : BitVec 32 := Scalar.extui v71
  let c0_i32_40 : BitVec 32 := 0#32
  let v73 : BitVec 1 := Scalar.cmpi .ne v72 c0_i32_40
  v73

def k0_cond3 (i : grid0.Coords) : BitVec 1 :=
  let arg1 : BitVec 32 := BitVec.ofNat 32 (i 1).val
  let c0_i32_41 : BitVec 32 := 0#32
  let v74 : BitVec 1 := Scalar.cmpi .sgt arg1 c0_i32_41
  let v75 : BitVec 32 := Scalar.extui v74
  let c0_i32_42 : BitVec 32 := 0#32
  let v76 : BitVec 1 := Scalar.cmpi .ne v75 c0_i32_42
  v76

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat, arg0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![c1_i32_0.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let c0_i32 : BitVec 32 := 0#32
  ![c1_i32.toNat, v0.toNat, arg0.toNat]

def cc0_transform_4 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![c2_i32.toNat, v2.toNat, arg0.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c2_i32 : BitVec 32 := 2#32
  let c0_i32 : BitVec 32 := 0#32
  ![c2_i32.toNat, v0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnBwdIdeal.lean ====
variable {F : FTy → Type} [FloatOps F] [Named F]
def κ : String → Option EReal := fun
  | "mask" => some ⊥
  | _ => none
-- ==== AttnRefIdeal.lean ====
abbrev S7x4096x2048 : Shape := ⟨3, ![7, 4096, 2048]⟩
abbrev S1x4096x14336 : Shape := ⟨3, ![1, 4096, 14336]⟩
abbrev S2x4096x2048 : Shape := ⟨3, ![2, 4096, 2048]⟩
abbrev S16x513 : Shape := ⟨2, ![16, 513]⟩
abbrev S1x4096x2048 : Shape := ⟨3, ![1, 4096, 2048]⟩
abbrev S4096x2048 : Shape := ⟨2, ![4096, 2048]⟩
abbrev S4096x16x128 : Shape := ⟨3, ![4096, 16, 128]⟩
abbrev S4096x4096 : Shape := ⟨2, ![4096, 4096]⟩
abbrev S_ : Shape := ⟨0, ![]⟩
abbrev S16x4096x4096 : Shape := ⟨3, ![16, 4096, 4096]⟩
abbrev S4096x4096x1 : Shape := ⟨3, ![4096, 4096, 1]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩
abbrev S3x4096x2048 : Shape := ⟨3, ![3, 4096, 2048]⟩
abbrev S4x4096x2048 : Shape := ⟨3, ![4, 4096, 2048]⟩

abbrev nBuf : Space → Nat
  | .hbm => 149
  | .vmem => 0
  | .smem => 0
  | _ => 0

abbrev hbmTy0_0 (i : Nat) : BufTy := match i % 128 with
  | 0 => ⟨S7x4096x2048, .bf16⟩
  | 1 => ⟨S1x4096x14336, .f32⟩
  | 2 => ⟨S2x4096x2048, .bf16⟩
  | 3 => ⟨S16x513, .f32⟩
  | 4 => ⟨S1x4096x2048, .f32⟩
  | 5 => ⟨S4096x2048, .f32⟩
  | 6 => ⟨S4096x16x128, .f32⟩
  | 7 => ⟨S1x4096x2048, .f32⟩
  | 8 => ⟨S4096x2048, .f32⟩
  | 9 => ⟨S4096x16x128, .f32⟩
  | 10 => ⟨S1x4096x2048, .f32⟩
  | 11 => ⟨S4096x2048, .f32⟩
  | 12 => ⟨S4096x16x128, .f32⟩
  | 13 => ⟨S1x4096x2048, .bf16⟩
  | 14 => ⟨S4096x2048, .bf16⟩
  | 15 => ⟨S4096x2048, .f32⟩
  | 16 => ⟨S4096x16x128, .f32⟩
  | 17 => ⟨S4096x4096, .i32⟩
  | 18 => ⟨S4096x4096, .i32⟩
  | 19 => ⟨S_, .f32⟩
  | 20 => ⟨S4096x16x128, .f32⟩
  | 21 => ⟨S4096x16x128, .f32⟩
  | 22 => ⟨S16x4096x4096, .f32⟩
  | 23 => ⟨S4096x4096, .i32⟩
  | 24 => ⟨S_, .i32⟩
  | 25 => ⟨S_, .i32⟩
  | 26 => ⟨S_, .i32⟩
  | 27 => ⟨S4096x4096, .i32⟩
  | 28 => ⟨S4096x4096, .i32⟩
  | 29 => ⟨S_, .i32⟩
  | 30 => ⟨S4096x4096, .i32⟩
  | 31 => ⟨S4096x4096, .i32⟩
  | 32 => ⟨S_, .i32⟩
  | 33 => ⟨S4096x4096, .i32⟩
  | 34 => ⟨S4096x4096, .i32⟩
  | 35 => ⟨S_, .i32⟩
  | 36 => ⟨S4096x4096, .i32⟩
  | 37 => ⟨S4096x4096, .i1⟩
  | 38 => ⟨S_, .i32⟩
  | 39 => ⟨S4096x4096, .i32⟩
  | 40 => ⟨S4096x4096, .i32⟩
  | 41 => ⟨S4096x4096, .i32⟩
  | 42 => ⟨S4096x4096x1, .i32⟩
  | 43 => ⟨S16x4096x4096, .f32⟩
  | 44 => ⟨S16x4096x4096, .f32⟩
  | 45 => ⟨S_, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S4096x4096, .i32⟩
  | 52 => ⟨S_, .i32⟩
  | 53 => ⟨S4096x4096, .i32⟩
  | 54 => ⟨S4096x4096, .i1⟩
  | 55 => ⟨S_, .i32⟩
  | 56 => ⟨S4096x4096, .i32⟩
  | 57 => ⟨S4096x4096, .i1⟩
  | 58 => ⟨S4096x4096, .i1⟩
  | 59 => ⟨S_, .f32⟩
  | 60 => ⟨S_, .f32⟩
  | 61 => ⟨S16x4096x4096, .i1⟩
  | 62 => ⟨S16x4096x4096, .f32⟩
  | 63 => ⟨S16x4096x4096, .f32⟩
  | 64 => ⟨S_, .f32⟩
  | 65 => ⟨S16x4096x4096, .f32⟩
  | 66 => ⟨S_, .f32⟩
  | 67 => ⟨S16x4096, .f32⟩
  | 68 => ⟨S16x4096x1, .f32⟩
  | 69 => ⟨S16x4096x4096, .f32⟩
  | 70 => ⟨S16x4096x4096, .i1⟩
  | 71 => ⟨S16x4096x4096, .f32⟩
  | 72 => ⟨S_, .f32⟩
  | 73 => ⟨S16x4096, .f32⟩
  | 74 => ⟨S_, .f32⟩
  | 75 => ⟨S16x4096, .f32⟩
  | 76 => ⟨S16x4096, .f32⟩
  | 77 => ⟨S_, .f32⟩
  | 78 => ⟨S16x4096, .f32⟩
  | 79 => ⟨S16x4096, .i1⟩
  | 80 => ⟨S_, .f32⟩
  | 81 => ⟨S16x4096, .f32⟩
  | 82 => ⟨S16x4096, .i1⟩
  | 83 => ⟨S_, .f32⟩
  | 84 => ⟨S16x4096, .f32⟩
  | 85 => ⟨S_, .f32⟩
  | 86 => ⟨S16x4096, .f32⟩
  | 87 => ⟨S_, .f32⟩
  | 88 => ⟨S16x4096, .f32⟩
  | 89 => ⟨S16x4096, .f32⟩
  | 90 => ⟨S16x4096, .f32⟩
  | 91 => ⟨S16x4096x1, .f32⟩
  | 92 => ⟨S16x4096x4096, .f32⟩
  | 93 => ⟨S16x4096x4096, .f32⟩
  | 94 => ⟨S16x4096x4096, .f32⟩
  | 95 => ⟨S_, .f32⟩
  | 96 => ⟨S16x4096, .f32⟩
  | 97 => ⟨S16x4096x1, .f32⟩
  | 98 => ⟨S16x4096x4096, .f32⟩
  | 99 => ⟨S16x4096x4096, .f32⟩
  | 100 => ⟨S16x4096x1, .f32⟩
  | 101 => ⟨S_, .f32⟩
  | 102 => ⟨S16x4096x1, .f32⟩
  | 103 => ⟨S16x4096x1, .f32⟩
  | 104 => ⟨S16x128x4096, .f32⟩
  | 105 => ⟨S4096x16x128, .f32⟩
  | 106 => ⟨S16x128x4096, .f32⟩
  | 107 => ⟨S16x4096x4096, .f32⟩
  | 108 => ⟨S16x128x4096, .f32⟩
  | 109 => ⟨S4096x16x128, .f32⟩
  | 110 => ⟨S16x4096x4096, .f32⟩
  | 111 => ⟨S16x4096x4096, .f32⟩
  | 112 => ⟨S16x4096x4096, .f32⟩
  | 113 => ⟨S_, .f32⟩
  | 114 => ⟨S16x4096, .f32⟩
  | 115 => ⟨S16x4096x1, .f32⟩
  | 116 => ⟨S16x4096x1, .f32⟩
  | 117 => ⟨S16x4096x4096, .f32⟩
  | 118 => ⟨S16x4096x4096, .f32⟩
  | 119 => ⟨S_, .f32⟩
  | 120 => ⟨S16x4096, .f32⟩
  | 121 => ⟨S16x4096x4096, .f32⟩
  | 122 => ⟨S16x4096x4096, .f32⟩
  | 123 => ⟨S16x4096x4096, .f32⟩
  | 124 => ⟨S_, .f32⟩
  | 125 => ⟨S16x4096x4096, .f32⟩
  | 126 => ⟨S16x4096x4096, .f32⟩
  | 127 => ⟨S_, .f32⟩
  | _ => ⟨S7x4096x2048, .bf16⟩

abbrev hbmTy0_1 (i : Nat) : BufTy := match i % 128 with
  | 0 => ⟨S16x513, .f32⟩
  | 1 => ⟨S16x513, .f32⟩
  | 2 => ⟨S16x4096x128, .f32⟩
  | 3 => ⟨S4096x16x128, .f32⟩
  | 4 => ⟨S16x4096x128, .f32⟩
  | 5 => ⟨S4096x16x128, .f32⟩
  | 6 => ⟨S_, .f32⟩
  | 7 => ⟨S4096x16x128, .f32⟩
  | 8 => ⟨S4096x16x128, .f32⟩
  | 9 => ⟨S4096x2048, .f32⟩
  | 10 => ⟨S4096x2048, .bf16⟩
  | 11 => ⟨S4096x2048, .f32⟩
  | 12 => ⟨S4096x2048, .bf16⟩
  | 13 => ⟨S4096x2048, .f32⟩
  | 14 => ⟨S4096x2048, .bf16⟩
  | 15 => ⟨S1x4096x2048, .bf16⟩
  | 16 => ⟨S1x4096x2048, .bf16⟩
  | 17 => ⟨S1x4096x2048, .bf16⟩
  | 18 => ⟨S3x4096x2048, .bf16⟩
  | 19 => ⟨S4x4096x2048, .bf16⟩
  | 20 => ⟨S7x4096x2048, .bf16⟩
  | _ => ⟨S7x4096x2048, .bf16⟩

abbrev hbmTy (i : Nat) : BufTy := match i / 128 with
  | 0 => hbmTy0_0 i
  | 1 => hbmTy0_1 i
  | _ => ⟨S7x4096x2048, .bf16⟩

abbrev bufTy : (tb : Table) → Fin (tcTables nBuf tb) → BufTy
  | .hbm, ⟨i, _⟩ => hbmTy i
  | _, _ => ⟨S7x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_call1_v0 : Ref sig .tc := ⟨.hbm, 60, rfl⟩
abbrev main_v40_1 : Ref sig .tc := ⟨.hbm, 61, rfl⟩
abbrev main_call1_v2 : Ref sig .tc := ⟨.hbm, 62, rfl⟩
abbrev main_v40_0 : Ref sig .tc := ⟨.hbm, 63, rfl⟩
abbrev main_call1_cst : Ref sig .tc := ⟨.hbm, 64, rfl⟩
abbrev main_v40_2 : Ref sig .tc := ⟨.hbm, 65, rfl⟩
abbrev main_cst_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_cst_16 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_19 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call2_cst : Ref sig .tc := ⟨.hbm, 124, rfl⟩
abbrev main_call2_v0 : Ref sig .tc := ⟨.hbm, 125, rfl⟩
abbrev main_v87 : Ref sig .tc := ⟨.hbm, 126, rfl⟩
abbrev main_cst_21 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩

abbrev nD : Nat := 1
abbrev τ : Topo := Topo.v7x

variable {F : FTy → Type} [FloatOps F]
-- ==== BiasGrad.lean ====
abbrev S16x513 : Shape := ⟨2, ![16, 513]⟩
abbrev S16x512x1024 : Shape := ⟨3, ![16, 512, 1024]⟩
abbrev S16x1x1024 : Shape := ⟨3, ![16, 1, 1024]⟩
abbrev S1x512x1024 : Shape := ⟨3, ![1, 512, 1024]⟩
abbrev S1x1x1024 : Shape := ⟨3, ![1, 1, 1024]⟩
abbrev S512x1024 : Shape := ⟨2, ![512, 1024]⟩
abbrev S1024 : Shape := ⟨1, ![1024]⟩
abbrev S1x1024 : Shape := ⟨2, ![1, 1024]⟩
abbrev S16x1024 : Shape := ⟨2, ![16, 1024]⟩
abbrev S1024x513 : Shape := ⟨2, ![1024, 513]⟩
abbrev S_ : Shape := ⟨0, ![]⟩

abbrev nBuf : Space → Nat
  | .hbm => 31
  | .vmem => 4
  | .smem => 0
  | _ => 0

abbrev bufTy : (tb : Table) → Fin (tcTables nBuf tb) → BufTy
  | .hbm, ⟨0, _⟩ => ⟨S16x513, .f32⟩
  | .hbm, ⟨1, _⟩ => ⟨S16x512x1024, .f32⟩
  | .hbm, ⟨2, _⟩ => ⟨S16x1x1024, .f32⟩
  | .hbm, ⟨3, _⟩ => ⟨S16x1024, .f32⟩
  | .hbm, ⟨4, _⟩ => ⟨S1024x513, .i32⟩
  | .hbm, ⟨5, _⟩ => ⟨S_, .i32⟩
  | .hbm, ⟨6, _⟩ => ⟨S1024x513, .i32⟩
  | .hbm, ⟨7, _⟩ => ⟨S1024x513, .i1⟩
  | .hbm, ⟨8, _⟩ => ⟨S_, .i32⟩
  | .hbm, ⟨9, _⟩ => ⟨S1024x513, .i32⟩
  | .hbm, ⟨10, _⟩ => ⟨S1024x513, .i32⟩
  | .hbm, ⟨11, _⟩ => ⟨S1024x513, .i32⟩
  | .hbm, ⟨12, _⟩ => ⟨S_, .i32⟩
  | .hbm, ⟨13, _⟩ => ⟨S1024x513, .i32⟩
  | .hbm, ⟨14, _⟩ => ⟨S1024x513, .i32⟩
  | .hbm, ⟨15, _⟩ => ⟨S1024x513, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x513, .i32⟩
  | .hbm, ⟨20, _⟩ => ⟨S1024x513, .i32⟩
  | .hbm, ⟨21, _⟩ => ⟨S_, .i32⟩
  | .hbm, ⟨22, _⟩ => ⟨S1024x513, .i32⟩
  | .hbm, ⟨23, _⟩ => ⟨S1024x513, .i32⟩
  | .hbm, ⟨24, _⟩ => ⟨S_, .i32⟩
  | .hbm, ⟨25, _⟩ => ⟨S1024x513, .i32⟩
  | .hbm, ⟨26, _⟩ => ⟨S1024x513, .i32⟩
  | .hbm, ⟨27, _⟩ => ⟨S1024x513, .i32⟩
  | .hbm, ⟨28, _⟩ => ⟨S1024x513, .i1⟩
  | .hbm, ⟨29, _⟩ => ⟨S1024x513, .f32⟩
  | .hbm, ⟨30, _⟩ => ⟨S16x513, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | _, _ => ⟨S16x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_c_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasGradRefIdeal.lean ====
abbrev S16x513 : Shape := ⟨2, ![16, 513]⟩
abbrev S16x512x1024 : Shape := ⟨3, ![16, 512, 1024]⟩
abbrev S512x1024 : Shape := ⟨2, ![512, 1024]⟩
abbrev S_ : Shape := ⟨0, ![]⟩
abbrev S512x1024x1 : Shape := ⟨3, ![512, 1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S16x513, .f32⟩
  | .hbm, ⟨1, _⟩ => ⟨S16x512x1024, .f32⟩
  | .hbm, ⟨2, _⟩ => ⟨S512x1024, .i32⟩
  | .hbm, ⟨3, _⟩ => ⟨S512x1024, .i32⟩
  | .hbm, ⟨4, _⟩ => ⟨S_, .i32⟩
  | .hbm, ⟨5, _⟩ => ⟨S512x1024, .i32⟩
  | .hbm, ⟨6, _⟩ => ⟨S512x1024, .i32⟩
  | .hbm, ⟨7, _⟩ => ⟨S_, .i32⟩
  | .hbm, ⟨8, _⟩ => ⟨S512x1024, .i32⟩
  | .hbm, ⟨9, _⟩ => ⟨S512x1024, .i32⟩
  | .hbm, ⟨10, _⟩ => ⟨S512x1024, .i32⟩
  | .hbm, ⟨11, _⟩ => ⟨S_, .i32⟩
  | .hbm, ⟨12, _⟩ => ⟨S512x1024, .i32⟩
  | .hbm, ⟨13, _⟩ => ⟨S512x1024, .i32⟩
  | .hbm, ⟨14, _⟩ => ⟨S512x1024, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S512x1024, .i32⟩
  | .hbm, ⟨19, _⟩ => ⟨S512x1024, .i32⟩
  | .hbm, ⟨20, _⟩ => ⟨S_, .i32⟩
  | .hbm, ⟨21, _⟩ => ⟨S512x1024, .i32⟩
  | .hbm, ⟨22, _⟩ => ⟨S512x1024, .i32⟩
  | .hbm, ⟨23, _⟩ => ⟨S_, .i32⟩
  | .hbm, ⟨24, _⟩ => ⟨S512x1024, .i32⟩
  | .hbm, ⟨25, _⟩ => ⟨S512x1024, .i32⟩
  | .hbm, ⟨26, _⟩ => ⟨S_, .i32⟩
  | .hbm, ⟨27, _⟩ => ⟨S512x1024, .i32⟩
  | .hbm, ⟨28, _⟩ => ⟨S512x1024, .i1⟩
  | .hbm, ⟨29, _⟩ => ⟨S_, .i32⟩
  | .hbm, ⟨30, _⟩ => ⟨S512x1024, .i32⟩
  | .hbm, ⟨31, _⟩ => ⟨S512x1024, .i1⟩
  | .hbm, ⟨32, _⟩ => ⟨S512x1024, .i1⟩
  | .hbm, ⟨33, _⟩ => ⟨S_, .i32⟩
  | .hbm, ⟨34, _⟩ => ⟨S512x1024, .i32⟩
  | .hbm, ⟨35, _⟩ => ⟨S512x1024, .i1⟩
  | .hbm, ⟨36, _⟩ => ⟨S_, .i32⟩
  | .hbm, ⟨37, _⟩ => ⟨S512x1024, .i32⟩
  | .hbm, ⟨38, _⟩ => ⟨S512x1024, .i32⟩
  | .hbm, ⟨39, _⟩ => ⟨S512x1024, .i32⟩
  | .hbm, ⟨40, _⟩ => ⟨S512x1024x1, .i32⟩
  | .hbm, ⟨41, _⟩ => ⟨S16x512x1024, .f32⟩
  | .hbm, ⟨42, _⟩ => ⟨S_, .f32⟩
  | .hbm, ⟨43, _⟩ => ⟨S_, .f32⟩
  | .hbm, ⟨44, _⟩ => ⟨S16x512x1024, .i1⟩
  | .hbm, ⟨45, _⟩ => ⟨S16x512x1024, .f32⟩
  | .hbm, ⟨46, _⟩ => ⟨S16x512x1024, .f32⟩
  | .hbm, ⟨47, _⟩ => ⟨S_, .f32⟩
  | .hbm, ⟨48, _⟩ => ⟨S16x512x1024, .f32⟩
  | .hbm, ⟨49, _⟩ => ⟨S_, .f32⟩
  | .hbm, ⟨50, _⟩ => ⟨S16x512x1024, .f32⟩
  | .hbm, ⟨51, _⟩ => ⟨S16x512x1024, .f32⟩
  | .hbm, ⟨52, _⟩ => ⟨S_, .f32⟩
  | .hbm, ⟨53, _⟩ => ⟨S16x513, .f32⟩
  | .hbm, ⟨54, _⟩ => ⟨S16x513, .f32⟩
  | _, _ => ⟨S16x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_v14 : Ref sig .tc := ⟨.hbm, 28, rfl⟩
abbrev main_c_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_7 : Ref sig .tc := ⟨.hbm, 33, rfl⟩
abbrev main_v18 : Ref sig .tc := ⟨.hbm, 34, rfl⟩
abbrev main_v19 : Ref sig .tc := ⟨.hbm, 35, rfl⟩
abbrev main_c_8 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call1_v0 : Ref sig .tc := ⟨.hbm, 43, rfl⟩
abbrev main_v25_1 : Ref sig .tc := ⟨.hbm, 44, rfl⟩
abbrev main_call1_v2 : Ref sig .tc := ⟨.hbm, 45, rfl⟩
abbrev main_v25_0 : Ref sig .tc := ⟨.hbm, 46, rfl⟩
abbrev main_call1_cst : Ref sig .tc := ⟨.hbm, 47, rfl⟩
abbrev main_v25_2 : Ref sig .tc := ⟨.hbm, 48, rfl⟩
abbrev main_call2_cst : Ref sig .tc := ⟨.hbm, 49, rfl⟩
abbrev main_call2_v0 : Ref sig .tc := ⟨.hbm, 50, rfl⟩
abbrev main_v26 : Ref sig .tc := ⟨.hbm, 51, rfl⟩
abbrev main_cst_9 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== ConvBwd.lean ====
abbrev S7x4096x2048 : Shape := ⟨3, ![7, 4096, 2048]⟩
abbrev S4096x2048 : Shape := ⟨2, ![4096, 2048]⟩
abbrev S1x4096x14336 : Shape := ⟨3, ![1, 4096, 14336]⟩
abbrev S31x2048 : Shape := ⟨2, ![31, 2048]⟩
abbrev S4096x7x2048 : Shape := ⟨3, ![4096, 7, 2048]⟩
abbrev S_ : Shape := ⟨0, ![]⟩
abbrev S32x2048 : Shape := ⟨2, ![32, 2048]⟩
abbrev S512x256 : Shape := ⟨2, ![512, 256]⟩
abbrev S32x256 : Shape := ⟨2, ![32, 256]⟩
abbrev S1x512x256 : Shape := ⟨3, ![1, 512, 256]⟩
abbrev S1x32x256 : Shape := ⟨3, ![1, 32, 256]⟩
abbrev S2x512x256 : Shape := ⟨3, ![2, 512, 256]⟩
abbrev S544x256 : Shape := ⟨2, ![544, 256]⟩
abbrev S1x64x256 : Shape := ⟨3, ![1, 64, 256]⟩
abbrev S64x256 : Shape := ⟨2, ![64, 256]⟩
abbrev S1x256 : Shape := ⟨2, ![1, 256]⟩
abbrev S8x256 : Shape := ⟨2, ![8, 256]⟩
abbrev S8x8x256 : Shape := ⟨3, ![8, 8, 256]⟩
abbrev S256 : Shape := ⟨1, ![256]⟩

abbrev nBuf : Space → Nat
  | .hbm => 13
  | .vmem => 21
  | .smem => 0
  | _ => 0

abbrev bufTy : (tb : Table) → Fin (tcTables nBuf tb) → BufTy
  | .hbm, ⟨0, _⟩ => ⟨S7x4096x2048, .bf16⟩
  | .hbm, ⟨1, _⟩ => ⟨S4096x2048, .f32⟩
  | .hbm, ⟨2, _⟩ => ⟨S1x4096x14336, .f32⟩
  | .hbm, ⟨3, _⟩ => ⟨S31x2048, .f32⟩
  | .hbm, ⟨4, _⟩ => ⟨S4096x7x2048, .f32⟩
  | .hbm, ⟨5, _⟩ => ⟨S7x4096x2048, .f32⟩
  | .hbm, ⟨6, _⟩ => ⟨S7x4096x2048, .bf16⟩
  | .hbm, ⟨7, _⟩ => ⟨S_, .i32⟩
  | .hbm, ⟨8, _⟩ => ⟨S_, .f32⟩
  | .hbm, ⟨9, _⟩ => ⟨S32x2048, .f32⟩
  | .hbm, ⟨10, _⟩ => ⟨S7x4096x2048, .bf16⟩
  | .hbm, ⟨11, _⟩ => ⟨S32x2048, .f32⟩
  | .hbm, ⟨12, _⟩ => ⟨S31x2048, .f32⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x32x256, .bf16⟩
  | .local _ .vmem, ⟨9, _⟩ => ⟨S1x32x256, .bf16⟩
  | .local _ .vmem, ⟨10, _⟩ => ⟨S1x32x256, .bf16⟩
  | .local _ .vmem, ⟨11, _⟩ => ⟨S1x32x256, .bf16⟩
  | .local _ .vmem, ⟨12, _⟩ => ⟨S32x256, .f32⟩
  | .local _ .vmem, ⟨13, _⟩ => ⟨S32x256, .f32⟩
  | .local _ .vmem, ⟨14, _⟩ => ⟨S2x512x256, .bf16⟩
  | .local _ .vmem, ⟨15, _⟩ => ⟨S2x512x256, .bf16⟩
  | .local _ .vmem, ⟨16, _⟩ => ⟨S32x256, .f32⟩
  | .local _ .vmem, ⟨17, _⟩ => ⟨S32x256, .f32⟩
  | .local _ .vmem, ⟨18, _⟩ => ⟨S544x256, .f32⟩
  | .local _ .vmem, ⟨19, _⟩ => ⟨S544x256, .f32⟩
  | .local _ .vmem, ⟨20, _⟩ => ⟨S32x256, .f32⟩
  | _, _ => ⟨S7x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32_2266 : BitVec 32 := 0#32
  let v3453 : BitVec 1 := Scalar.cmpi .eq arg1 c0_i32_2266
  let v3454 : BitVec 32 := Scalar.extui v3453
  let c0_i32_2267 : BitVec 32 := 0#32
  let v3455 : BitVec 1 := Scalar.cmpi .ne v3454 c0_i32_2267
  v3455

def k0_cond2 (i : grid0.Coords) : BitVec 1 :=
  let arg1 : BitVec 32 := BitVec.ofNat 32 (i 1).val
  let c0_i32_2268 : BitVec 32 := 0#32
  let v3456 : BitVec 1 := Scalar.cmpi .sgt arg1 c0_i32_2268
  let v3457 : BitVec 32 := Scalar.extui v3456
  let c0_i32_2269 : BitVec 32 := 0#32
  let v3458 : BitVec 1 := Scalar.cmpi .ne v3457 c0_i32_2269
  v3458

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  ![v2.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![c4_i32.toNat, v2.toNat, arg0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![c5_i32.toNat, v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRefIdeal.lean ====
abbrev S7x4096x2048 : Shape := ⟨3, ![7, 4096, 2048]⟩
abbrev S4096x2048 : Shape := ⟨2, ![4096, 2048]⟩
abbrev S1x4096x14336 : Shape := ⟨3, ![1, 4096, 14336]⟩
abbrev S31x2048 : Shape := ⟨2, ![31, 2048]⟩
abbrev S1x4096x2048 : Shape := ⟨3, ![1, 4096, 2048]⟩
abbrev S_ : Shape := ⟨0, ![]⟩
abbrev S30x2048 : Shape := ⟨2, ![30, 2048]⟩
abbrev S4126x2048 : Shape := ⟨2, ![4126, 2048]⟩
abbrev S4096x31 : Shape := ⟨2, ![4096, 31]⟩
abbrev S4096x31x1 : Shape := ⟨3, ![4096, 31, 1]⟩
abbrev S4096x31x2048 : Shape := ⟨3, ![4096, 31, 2048]⟩
abbrev S1x31x2048 : Shape := ⟨3, ![1, 31, 2048]⟩
abbrev S4x4096x2048 : Shape := ⟨3, ![4, 4096, 2048]⟩
abbrev S2x4096x2048 : Shape := ⟨3, ![2, 4096, 2048]⟩

abbrev nBuf : Space → Nat
  | .hbm => 68
  | .vmem => 0
  | .smem => 0
  | _ => 0

abbrev bufTy : (tb : Table) → Fin (tcTables nBuf tb) → BufTy
  | .hbm, ⟨0, _⟩ => ⟨S7x4096x2048, .bf16⟩
  | .hbm, ⟨1, _⟩ => ⟨S4096x2048, .f32⟩
  | .hbm, ⟨2, _⟩ => ⟨S1x4096x14336, .f32⟩
  | .hbm, ⟨3, _⟩ => ⟨S31x2048, .f32⟩
  | .hbm, ⟨4, _⟩ => ⟨S1x4096x2048, .f32⟩
  | .hbm, ⟨5, _⟩ => ⟨S4096x2048, .f32⟩
  | .hbm, ⟨6, _⟩ => ⟨S1x4096x2048, .f32⟩
  | .hbm, ⟨7, _⟩ => ⟨S4096x2048, .f32⟩
  | .hbm, ⟨8, _⟩ => ⟨S_, .f32⟩
  | .hbm, ⟨9, _⟩ => ⟨S30x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4126x2048, .f32⟩
  | .hbm, ⟨24, _⟩ => ⟨S_, .f32⟩
  | .hbm, ⟨25, _⟩ => ⟨S30x2048, .f32⟩
  | .hbm, ⟨26, _⟩ => ⟨S4096x31, .i32⟩
  | .hbm, ⟨27, _⟩ => ⟨S4096x31, .i32⟩
  | .hbm, ⟨28, _⟩ => ⟨S4096x31, .i32⟩
  | .hbm, ⟨29, _⟩ => ⟨S_, .i32⟩
  | .hbm, ⟨30, _⟩ => ⟨S4096x31, .i32⟩
  | .hbm, ⟨31, _⟩ => ⟨S4096x31, .i1⟩
  | .hbm, ⟨32, _⟩ => ⟨S_, .i32⟩
  | .hbm, ⟨33, _⟩ => ⟨S4096x31, .i32⟩
  | .hbm, ⟨34, _⟩ => ⟨S4096x31, .i32⟩
  | .hbm, ⟨35, _⟩ => ⟨S4096x31, .i32⟩
  | .hbm, ⟨36, _⟩ => ⟨S4096x31x1, .i32⟩
  | .hbm, ⟨37, _⟩ => ⟨S4096x31x2048, .f32⟩
  | .hbm, ⟨38, _⟩ => ⟨S1x31x2048, .f32⟩
  | .hbm, ⟨39, _⟩ => ⟨S4096x31x2048, .f32⟩
  | .hbm, ⟨40, _⟩ => ⟨S4096x31x2048, .f32⟩
  | .hbm, ⟨41, _⟩ => ⟨S_, .f32⟩
  | .hbm, ⟨42, _⟩ => ⟨S4096x2048, .f32⟩
  | .hbm, ⟨43, _⟩ => ⟨S4096x31x2048, .f32⟩
  | .hbm, ⟨44, _⟩ => ⟨S4096x31x2048, .f32⟩
  | .hbm, ⟨45, _⟩ => ⟨S_, .f32⟩
  | .hbm, ⟨46, _⟩ => ⟨S31x2048, .f32⟩
  | .hbm, ⟨47, _⟩ => ⟨S1x31x2048, .f32⟩
  | .hbm, ⟨48, _⟩ => ⟨S4096x31x2048, .f32⟩
  | .hbm, ⟨49, _⟩ => ⟨S4096x31x2048, .f32⟩
  | .hbm, ⟨50, _⟩ => ⟨S_, .f32⟩
  | .hbm, ⟨51, _⟩ => ⟨S31x2048, .f32⟩
  | .hbm, ⟨52, _⟩ => ⟨S_, .f32⟩
  | .hbm, ⟨53, _⟩ => ⟨S4126x2048, .f32⟩
  | .hbm, ⟨54, _⟩ => ⟨S4126x2048, .f32⟩
  | .hbm, ⟨55, _⟩ => ⟨S30x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4x4096x2048, .bf16⟩
  | .hbm, ⟨61, _⟩ => ⟨S4096x2048, .bf16⟩
  | .hbm, ⟨62, _⟩ => ⟨S4096x2048, .bf16⟩
  | .hbm, ⟨63, _⟩ => ⟨S1x4096x2048, .bf16⟩
  | .hbm, ⟨64, _⟩ => ⟨S1x4096x2048, .bf16⟩
  | .hbm, ⟨65, _⟩ => ⟨S2x4096x2048, .bf16⟩
  | .hbm, ⟨66, _⟩ => ⟨S1x4096x2048, .bf16⟩
  | .hbm, ⟨67, _⟩ => ⟨S7x4096x2048, .bf16⟩
  | _, _ => ⟨S7x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== LnBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_25 : BitVec 32 := 0#32
  let v67 : BitVec 1 := Scalar.cmpi .ne v66 c0_i32_25
  v67

def k0_cond2 (i : grid0.Coords) : BitVec 1 :=
  let arg0 : BitVec 32 := BitVec.ofNat 32 (i 0).val
  let c0_i32_26 : BitVec 32 := 0#32
  let v68 : BitVec 1 := Scalar.cmpi .sgt arg0 c0_i32_26
  let v69 : BitVec 32 := Scalar.extui v68
  let c0_i32_27 : BitVec 32 := 0#32
  let v70 : BitVec 1 := Scalar.cmpi .ne v69 c0_i32_27
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LnRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 108
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S_, .f32⟩
  | .hbm, ⟨63, _⟩ => ⟨S2048, .f32⟩
  | .hbm, ⟨64, _⟩ => ⟨S4096x2048, .f32⟩
  | .hbm, ⟨65, _⟩ => ⟨S_, .f32⟩
  | .hbm, ⟨66, _⟩ => ⟨S2048, .f32⟩
  | .hbm, ⟨67, _⟩ => ⟨S1x2048, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S4096x2048, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x2048, .f32⟩
  | .hbm, ⟨77, _⟩ => ⟨S4096x2048, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x2048, .f32⟩
  | .hbm, ⟨99, _⟩ => ⟨S4096x2048, .f32⟩
  | .hbm, ⟨100, _⟩ => ⟨S1x2048, .f32⟩
  | .hbm, ⟨101, _⟩ => ⟨S1x2048, .f32⟩
  | .hbm, ⟨102, _⟩ => ⟨S_, .f32⟩
  | .hbm, ⟨103, _⟩ => ⟨S2048, .f32⟩
  | .hbm, ⟨104, _⟩ => ⟨S1x2048, .f32⟩
  | .hbm, ⟨105, _⟩ => ⟨S_, .f32⟩
  | .hbm, ⟨106, _⟩ => ⟨S2048, .f32⟩
  | .hbm, ⟨107, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_12 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩

abbrev nD : Nat := 1
abbrev τ : Topo := Topo.v7x

variable {F : FTy → Type} [FloatOps F]
-- ==== PostBwd.lean ====
abbrev S4096x4096 : Shape := ⟨2, ![4096, 4096]⟩
abbrev S4096x2048 : Shape := ⟨2, ![4096, 2048]⟩
abbrev S1x2048 : Shape := ⟨2, ![1, 2048]⟩
abbrev S1x4096x14336 : Shape := ⟨3, ![1, 4096, 14336]⟩
abbrev S4096x7x2048 : Shape := ⟨3, ![4096, 7, 2048]⟩
abbrev S7x4096x2048 : Shape := ⟨3, ![7, 4096, 2048]⟩
abbrev S1x1x2048 : Shape := ⟨3, ![1, 1, 2048]⟩
abbrev S2x1x2048 : Shape := ⟨3, ![2, 1, 2048]⟩
abbrev S2x4096x2048 : Shape := ⟨3, ![2, 4096, 2048]⟩
abbrev S128x2048 : Shape := ⟨2, ![128, 2048]⟩
abbrev S1x128x2048 : Shape := ⟨3, ![1, 128, 2048]⟩
abbrev S128 : Shape := ⟨1, ![128]⟩
abbrev S128x1 : Shape := ⟨2, ![128, 1]⟩
abbrev S2048 : Shape := ⟨1, ![2048]⟩

abbrev nBuf : Space → Nat
  | .hbm => 19
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x4096x14336, .f32⟩
  | .hbm, ⟨5, _⟩ => ⟨S1x2048, .f32⟩
  | .hbm, ⟨6, _⟩ => ⟨S1x2048, .f32⟩
  | .hbm, ⟨7, _⟩ => ⟨S4096x7x2048, .f32⟩
  | .hbm, ⟨8, _⟩ => ⟨S7x4096x2048, .f32⟩
  | .hbm, ⟨9, _⟩ => ⟨S7x4096x2048, .bf16⟩
  | .hbm, ⟨10, _⟩ => ⟨S4096x2048, .f32⟩
  | .hbm, ⟨11, _⟩ => ⟨S4096x2048, .f32⟩
  | .hbm, ⟨12, _⟩ => ⟨S1x1x2048, .f32⟩
  | .hbm, ⟨13, _⟩ => ⟨S1x1x2048, .f32⟩
  | .hbm, ⟨14, _⟩ => ⟨S2x1x2048, .f32⟩
  | .hbm, ⟨15, _⟩ => ⟨S7x4096x2048, .bf16⟩
  | .hbm, ⟨16, _⟩ => ⟨S2x4096x2048, .bf16⟩
  | .hbm, ⟨17, _⟩ => ⟨S2x1x2048, .f32⟩
  | .hbm, ⟨18, _⟩ => ⟨S2x1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S1x128x2048, .bf16⟩
  | .local _ .vmem, ⟨7, _⟩ => ⟨S1x128x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32_28 : BitVec 32 := 0#32
  let v66 : BitVec 1 := Scalar.cmpi .eq arg1 c0_i32_28
  let v67 : BitVec 32 := Scalar.extui v66
  let c0_i32_29 : BitVec 32 := 0#32
  let v68 : BitVec 1 := Scalar.cmpi .ne v67 c0_i32_29
  v68

def k0_cond2 (i : grid0.Coords) : BitVec 1 :=
  let arg1 : BitVec 32 := BitVec.ofNat 32 (i 1).val
  let c0_i32_30 : BitVec 32 := 0#32
  let v69 : BitVec 1 := Scalar.cmpi .sgt arg1 c0_i32_30
  let v70 : BitVec 32 := Scalar.extui v69
  let c0_i32_31 : BitVec 32 := 0#32
  let v71 : BitVec 1 := Scalar.cmpi .ne v70 c0_i32_31
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c31_i32 : BitVec 32 := 31#32
  let v2 : BitVec 32 := Scalar.muli c31_i32 arg0
  let v3 : BitVec 32 := Scalar.addi v1 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c3_i32_0 : BitVec 32 := 3#32
  let v1 : BitVec 32 := Scalar.addi c3_i32_0 v0
  let c0_i32 : BitVec 32 := 0#32
  let c0_i32_1 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c3_i32_0 : BitVec 32 := 3#32
  let v1 : BitVec 32 := Scalar.addi c3_i32_0 v0
  let c0_i32 : BitVec 32 := 0#32
  let c0_i32_1 : BitVec 32 := 0#32
  ![v1.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== PostRefIdeal.lean ====
abbrev S4096x4096 : Shape := ⟨2, ![4096, 4096]⟩
abbrev S4096x2048 : Shape := ⟨2, ![4096, 2048]⟩
abbrev S1x2048 : Shape := ⟨2, ![1, 2048]⟩
abbrev S1x4096x14336 : Shape := ⟨3, ![1, 4096, 14336]⟩
abbrev S1x4096x2048 : Shape := ⟨3, ![1, 4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x7x2048 : Shape := ⟨3, ![4096, 7, 2048]⟩
abbrev S7x4096x2048 : Shape := ⟨3, ![7, 4096, 2048]⟩
abbrev S2x4096x2048 : Shape := ⟨3, ![2, 4096, 2048]⟩
abbrev S1x1x2048 : Shape := ⟨3, ![1, 1, 2048]⟩
abbrev S2x1x2048 : Shape := ⟨3, ![2, 1, 2048]⟩

abbrev nBuf : Space → Nat
  | .hbm => 181
  | .vmem => 0
  | .smem => 0
  | _ => 0

abbrev hbmTy0_0 (i : Nat) : BufTy := match i % 128 with
  | 0 => ⟨S4096x4096, .f32⟩
  | 1 => ⟨S4096x2048, .f32⟩
  | 2 => ⟨S4096x2048, .f32⟩
  | 3 => ⟨S1x2048, .f32⟩
  | 4 => ⟨S1x4096x14336, .f32⟩
  | 5 => ⟨S1x2048, .f32⟩
  | 6 => ⟨S1x2048, .f32⟩
  | 7 => ⟨S1x4096x2048, .f32⟩
  | 8 => ⟨S4096x2048, .f32⟩
  | 9 => ⟨S1x4096x2048, .f32⟩
  | 10 => ⟨S4096x2048, .f32⟩
  | 11 => ⟨S2048, .f32⟩
  | 12 => ⟨S4096x2048, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x2048, .f32⟩
  | 28 => ⟨S4096x2048, .f32⟩
  | 29 => ⟨S1x2048, .f32⟩
  | 30 => ⟨S4096x2048, .f32⟩
  | 31 => ⟨S4096x2048, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S_, .f32⟩
  | 38 => ⟨S4096x2048, .f32⟩
  | 39 => ⟨S4096x2048, .f32⟩
  | 40 => ⟨S_, .f32⟩
  | 41 => ⟨S4096x2048, .f32⟩
  | 42 => ⟨S4096x2048, .f32⟩
  | 43 => ⟨S4096x2048, .f32⟩
  | 44 => ⟨S4096x2048, .f32⟩
  | 45 => ⟨S4096x2048, .f32⟩
  | 46 => ⟨S2048, .f32⟩
  | 47 => ⟨S1x2048, .f32⟩
  | 48 => ⟨S4096x2048, .f32⟩
  | 49 => ⟨S4096x2048, .f32⟩
  | 50 => ⟨S2048, .f32⟩
  | 51 => ⟨S4096x2048, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x2048, .f32⟩
  | 67 => ⟨S4096x2048, .f32⟩
  | 68 => ⟨S1x2048, .f32⟩
  | 69 => ⟨S4096x2048, .f32⟩
  | 70 => ⟨S4096x2048, .f32⟩
  | 71 => ⟨S4096x2048, .f32⟩
  | 72 => ⟨S4096x2048, .f32⟩
  | 73 => ⟨S_, .f32⟩
  | 74 => ⟨S4096x2048, .f32⟩
  | 75 => ⟨S4096x2048, .f32⟩
  | 76 => ⟨S_, .f32⟩
  | 77 => ⟨S4096x2048, .f32⟩
  | 78 => ⟨S4096x2048, .f32⟩
  | 79 => ⟨S_, .f32⟩
  | 80 => ⟨S4096x2048, .f32⟩
  | 81 => ⟨S4096x2048, .f32⟩
  | 82 => ⟨S4096x2048, .f32⟩
  | 83 => ⟨S4096x2048, .f32⟩
  | 84 => ⟨S4096x2048, .f32⟩
  | 85 => ⟨S4096x4096, .f32⟩
  | 86 => ⟨S4096x2048, .f32⟩
  | 87 => ⟨S4096x2048, .f32⟩
  | 88 => ⟨S4096x2048, .f32⟩
  | 89 => ⟨S4096x2048, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S_, .f32⟩
  | 96 => ⟨S2048, .f32⟩
  | 97 => ⟨S1x2048, .f32⟩
  | 98 => ⟨S4096x2048, .f32⟩
  | 99 => ⟨S4096x2048, .f32⟩
  | 100 => ⟨S_, .f32⟩
  | 101 => ⟨S2048, .f32⟩
  | 102 => ⟨S4096x2048, .f32⟩
  | 103 => ⟨S_, .f32⟩
  | 104 => ⟨S4096, .f32⟩
  | 105 => ⟨S4096x1, .f32⟩
  | 106 => ⟨S4096x2048, .f32⟩
  | 107 => ⟨S4096x2048, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x2048, .f32⟩
  | 115 => ⟨S4096x2048, .f32⟩
  | 116 => ⟨S4096x2048, .f32⟩
  | 117 => ⟨S4096x2048, .f32⟩
  | 118 => ⟨S4096x2048, .f32⟩
  | 119 => ⟨S1x2048, .f32⟩
  | 120 => ⟨S_, .f32⟩
  | 121 => ⟨S2048, .f32⟩
  | 122 => ⟨S1x2048, .f32⟩
  | 123 => ⟨S_, .f32⟩
  | 124 => ⟨S2048, .f32⟩
  | 125 => ⟨S1x2048, .f32⟩
  | 126 => ⟨S4096x2048, .f32⟩
  | 127 => ⟨S4096x2048, .f32⟩
  | _ => ⟨S4096x4096, .f32⟩

abbrev hbmTy0_1 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S4096x2048, .f32⟩
  | 5 => ⟨S_, .f32⟩
  | 6 => ⟨S2048, .f32⟩
  | 7 => ⟨S1x2048, .f32⟩
  | 8 => ⟨S4096x2048, .f32⟩
  | 9 => ⟨S4096x2048, .f32⟩
  | 10 => ⟨S_, .f32⟩
  | 11 => ⟨S2048, .f32⟩
  | 12 => ⟨S4096x2048, .f32⟩
  | 13 => ⟨S_, .f32⟩
  | 14 => ⟨S4096, .f32⟩
  | 15 => ⟨S4096x1, .f32⟩
  | 16 => ⟨S4096x2048, .f32⟩
  | 17 => ⟨S4096x2048, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x2048, .f32⟩
  | 25 => ⟨S4096x2048, .f32⟩
  | 26 => ⟨S4096x2048, .f32⟩
  | 27 => ⟨S4096x2048, .f32⟩
  | 28 => ⟨S4096x2048, .f32⟩
  | 29 => ⟨S1x2048, .f32⟩
  | 30 => ⟨S1x4096x2048, .f32⟩
  | 31 => ⟨S_, .f32⟩
  | 32 => ⟨S1x4096x14336, .f32⟩
  | 33 => ⟨S1x4096x2048, .f32⟩
  | 34 => ⟨S_, .f32⟩
  | 35 => ⟨S1x4096x14336, .f32⟩
  | 36 => ⟨S1x4096x14336, .f32⟩
  | 37 => ⟨S4096x7x2048, .f32⟩
  | 38 => ⟨S7x4096x2048, .f32⟩
  | 39 => ⟨S7x4096x2048, .bf16⟩
  | 40 => ⟨S1x4096x2048, .f32⟩
  | 41 => ⟨S1x4096x2048, .f32⟩
  | 42 => ⟨S2x4096x2048, .f32⟩
  | 43 => ⟨S2x4096x2048, .bf16⟩
  | 44 => ⟨S1x1x2048, .f32⟩
  | 45 => ⟨S1x1x2048, .f32⟩
  | 46 => ⟨S2x1x2048, .f32⟩
  | 47 => ⟨S_, .f32⟩
  | 48 => ⟨S2048, .f32⟩
  | 49 => ⟨S1x2048, .f32⟩
  | 50 => ⟨S1x1x2048, .f32⟩
  | 51 => ⟨S1x1x2048, .f32⟩
  | 52 => ⟨S2x1x2048, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_v44_2 : Ref sig .tc := ⟨.hbm, 78, rfl⟩
abbrev main_call1_cst_1 : Ref sig .tc := ⟨.hbm, 79, rfl⟩
abbrev main_call1_v6 : Ref sig .tc := ⟨.hbm, 80, rfl⟩
abbrev main_call1_v7 : Ref sig .tc := ⟨.hbm, 81, rfl⟩
abbrev main_v44_1 : Ref sig .tc := ⟨.hbm, 82, rfl⟩
abbrev main_v44_0 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v51 : Ref sig .tc := ⟨.hbm, 93, rfl⟩
abbrev main_v52 : Ref sig .tc := ⟨.hbm, 94, rfl⟩
abbrev main_cst_7 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_8 : Ref sig .tc := ⟨.hbm, 100, rfl⟩
abbrev main_v57 : Ref sig .tc := ⟨.hbm, 101, rfl⟩
abbrev main_v58 : Ref sig .tc := ⟨.hbm, 102, rfl⟩
abbrev main_cst_9 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_cst_10 : Ref sig .tc := ⟨.hbm, 109, rfl⟩
abbrev main_v64 : Ref sig .tc := ⟨.hbm, 110, rfl⟩
abbrev main_v65 : Ref sig .tc := ⟨.hbm, 111, rfl⟩
abbrev main_cst_11 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_12 : Ref sig .tc := ⟨.hbm, 120, rfl⟩
abbrev main_v73 : Ref sig .tc := ⟨.hbm, 121, rfl⟩
abbrev main_v74 : Ref sig .tc := ⟨.hbm, 122, rfl⟩
abbrev main_cst_13 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_v79 : Ref sig .tc := ⟨.hbm, 131, rfl⟩
abbrev main_v80 : Ref sig .tc := ⟨.hbm, 132, rfl⟩
abbrev main_cst_14 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_15 : Ref sig .tc := ⟨.hbm, 138, rfl⟩
abbrev main_v85 : Ref sig .tc := ⟨.hbm, 139, rfl⟩
abbrev main_v86 : Ref sig .tc := ⟨.hbm, 140, rfl⟩
abbrev main_cst_16 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_17 : Ref sig .tc := ⟨.hbm, 147, rfl⟩
abbrev main_v92 : Ref sig .tc := ⟨.hbm, 148, rfl⟩
abbrev main_v93 : Ref sig .tc := ⟨.hbm, 149, rfl⟩
abbrev main_cst_18 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_19 : Ref sig .tc := ⟨.hbm, 159, rfl⟩
abbrev main_v102 : Ref sig .tc := ⟨.hbm, 160, rfl⟩
abbrev main_v103 : Ref sig .tc := ⟨.hbm, 161, rfl⟩
abbrev main_cst_20 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_cst_21 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩

abbrev nD : Nat := 1
abbrev τ : Topo := Topo.v7x

variable {F : FTy → Type} [FloatOps F]
-- ==== FinalBwd.lean ====
abbrev S4096x4096 : Shape := ⟨2, ![4096, 4096]⟩
abbrev S1x4096 : Shape := ⟨2, ![1, 4096]⟩
abbrev S_ : Shape := ⟨0, ![]⟩
abbrev S1x128 : Shape := ⟨2, ![1, 128]⟩
abbrev S64x4096 : Shape := ⟨2, ![64, 4096]⟩
abbrev S64 : Shape := ⟨1, ![64]⟩
abbrev S64x1 : Shape := ⟨2, ![64, 1]⟩
abbrev S1 : Shape := ⟨1, ![1]⟩
abbrev S1x1 : Shape := ⟨2, ![1, 1]⟩
abbrev S4096 : Shape := ⟨1, ![4096]⟩

abbrev nBuf : Space → Nat
  | .hbm => 26
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S4096x4096, .bf16⟩
  | .hbm, ⟨20, _⟩ => ⟨S4096x4096, .f32⟩
  | .hbm, ⟨21, _⟩ => ⟨S4096x4096, .bf16⟩
  | .hbm, ⟨22, _⟩ => ⟨S4096x4096, .bf16⟩
  | .hbm, ⟨23, _⟩ => ⟨S1x128, .f32⟩
  | .hbm, ⟨24, _⟩ => ⟨S1x4096, .f32⟩
  | .hbm, ⟨25, _⟩ => ⟨S1x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .bf16⟩
  | .local _ .vmem, ⟨5, _⟩ => ⟨S64x4096, .bf16⟩
  | .local _ .vmem, ⟨6, _⟩ => ⟨S64x4096, .bf16⟩
  | .local _ .vmem, ⟨7, _⟩ => ⟨S64x4096, .bf16⟩
  | .local _ .vmem, ⟨8, _⟩ => ⟨S1x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .bf16⟩
  | .local _ .vmem, ⟨12, _⟩ => ⟨S64x4096, .bf16⟩
  | .local _ .vmem, ⟨13, _⟩ => ⟨S64x4096, .bf16⟩
  | .local _ .vmem, ⟨14, _⟩ => ⟨S64x4096, .bf16⟩
  | .local _ .vmem, ⟨15, _⟩ => ⟨S1x128, .f32⟩
  | .local _ .vmem, ⟨16, _⟩ => ⟨S1x4096, .f32⟩
  | .local _ .vmem, ⟨17, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_27 : BitVec 32 := 0#32
  let v64 : BitVec 1 := Scalar.cmpi .ne v63 c0_i32_27
  v64

def k0_cond2 (i : grid0.Coords) : BitVec 1 :=
  let arg0 : BitVec 32 := BitVec.ofNat 32 (i 0).val
  let c0_i32_28 : BitVec 32 := 0#32
  let v65 : BitVec 1 := Scalar.cmpi .sgt arg0 c0_i32_28
  let v66 : BitVec 32 := Scalar.extui v65
  let c0_i32_29 : BitVec 32 := 0#32
  let v67 : BitVec 1 := Scalar.cmpi .ne v66 c0_i32_29
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FinalRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096, .f32⟩
  | .hbm, ⟨71, _⟩ => ⟨S1x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S4096x4096, .f32⟩
  | .hbm, ⟨77, _⟩ => ⟨S_, .f32⟩
  | .hbm, ⟨78, _⟩ => ⟨S4096, .f32⟩
  | .hbm, ⟨79, _⟩ => ⟨S4096x1, .f32⟩
  | .hbm, ⟨80, _⟩ => ⟨S4096x4096, .f32⟩
  | .hbm, ⟨81, _⟩ => ⟨S4096x4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S1x4096, .f32⟩
  | .hbm, ⟨94, _⟩ => ⟨S4096x4096, .f32⟩
  | .hbm, ⟨95, _⟩ => ⟨S4096x4096, .f32⟩
  | .hbm, ⟨96, _⟩ => ⟨S4096x4096, .f32⟩
  | .hbm, ⟨97, _⟩ => ⟨S_, .f32⟩
  | .hbm, ⟨98, _⟩ => ⟨S4096, .f32⟩
  | .hbm, ⟨99, _⟩ => ⟨S1x4096, .f32⟩
  | .hbm, ⟨100, _⟩ => ⟨S_, .f32⟩
  | .hbm, ⟨101, _⟩ => ⟨S4096, .f32⟩
  | .hbm, ⟨102, _⟩ => ⟨S1x4096, .f32⟩
  | .hbm, ⟨103, _⟩ => ⟨S4096x4096, .bf16⟩
  | .hbm, ⟨104, _⟩ => ⟨S4096x4096, .bf16⟩
  | .hbm, ⟨105, _⟩ => ⟨S1x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_14 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩
abbrev main_v53 : Ref sig .tc := ⟨.hbm, 76, rfl⟩
abbrev main_cst_16 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_19 : Ref sig .tc := ⟨.hbm, 97, rfl⟩
abbrev main_v71 : Ref sig .tc := ⟨.hbm, 98, rfl⟩
abbrev main_v72 : Ref sig .tc := ⟨.hbm, 99, rfl⟩
abbrev main_cst_20 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== RmsFwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LnFwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnFwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== PostFwd.lean ====
abbrev S4096x2048 : Shape := ⟨2, ![4096, 2048]⟩
abbrev S1x2048 : Shape := ⟨2, ![1, 2048]⟩
abbrev S1x4096x14336 : Shape := ⟨3, ![1, 4096, 14336]⟩
abbrev S4096x7x2048 : Shape := ⟨3, ![4096, 7, 2048]⟩
abbrev S7x4096x2048 : Shape := ⟨3, ![7, 4096, 2048]⟩
abbrev S1x1x2048 : Shape := ⟨3, ![1, 1, 2048]⟩
abbrev S2x1x2048 : Shape := ⟨3, ![2, 1, 2048]⟩
abbrev S4096x4096 : Shape := ⟨2, ![4096, 4096]⟩
abbrev S128x2048 : Shape := ⟨2, ![128, 2048]⟩
abbrev S1x128x2048 : Shape := ⟨3, ![1, 128, 2048]⟩
abbrev S128 : Shape := ⟨1, ![128]⟩
abbrev S128x1 : Shape := ⟨2, ![128, 1]⟩

abbrev nBuf : Space → Nat
  | .hbm => 15
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x4096x14336, .f32⟩
  | .hbm, ⟨4, _⟩ => ⟨S1x2048, .f32⟩
  | .hbm, ⟨5, _⟩ => ⟨S1x2048, .f32⟩
  | .hbm, ⟨6, _⟩ => ⟨S4096x7x2048, .f32⟩
  | .hbm, ⟨7, _⟩ => ⟨S7x4096x2048, .f32⟩
  | .hbm, ⟨8, _⟩ => ⟨S7x4096x2048, .bf16⟩
  | .hbm, ⟨9, _⟩ => ⟨S4096x2048, .f32⟩
  | .hbm, ⟨10, _⟩ => ⟨S4096x2048, .f32⟩
  | .hbm, ⟨11, _⟩ => ⟨S1x1x2048, .f32⟩
  | .hbm, ⟨12, _⟩ => ⟨S1x1x2048, .f32⟩
  | .hbm, ⟨13, _⟩ => ⟨S2x1x2048, .f32⟩
  | .hbm, ⟨14, _⟩ => ⟨S4096x4096, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x128x2048, .bf16⟩
  | .local _ .vmem, ⟨5, _⟩ => ⟨S1x128x2048, .bf16⟩
  | .local _ .vmem, ⟨6, _⟩ => ⟨S1x1x2048, .f32⟩
  | .local _ .vmem, ⟨7, _⟩ => ⟨S1x1x2048, .f32⟩
  | .local _ .vmem, ⟨8, _⟩ => ⟨S128x2048, .bf16⟩
  | .local _ .vmem, ⟨9, _⟩ => ⟨S128x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c31_i32 : BitVec 32 := 31#32
  let v2 : BitVec 32 := Scalar.muli c31_i32 arg0
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c3_i32_0 : BitVec 32 := 3#32
  let v1 : BitVec 32 := Scalar.addi c3_i32_0 v0
  let c0_i32 : BitVec 32 := 0#32
  let c0_i32_1 : BitVec 32 := 0#32
  ![v1.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PostFwdRefIdeal.lean ====
abbrev S4096x2048 : Shape := ⟨2, ![4096, 2048]⟩
abbrev S1x2048 : Shape := ⟨2, ![1, 2048]⟩
abbrev S1x4096x14336 : Shape := ⟨3, ![1, 4096, 14336]⟩
abbrev S1x4096x2048 : Shape := ⟨3, ![1, 4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x4096x14336, .f32⟩
  | .hbm, ⟨4, _⟩ => ⟨S1x2048, .f32⟩
  | .hbm, ⟨5, _⟩ => ⟨S1x2048, .f32⟩
  | .hbm, ⟨6, _⟩ => ⟨S1x4096x2048, .f32⟩
  | .hbm, ⟨7, _⟩ => ⟨S4096x2048, .f32⟩
  | .hbm, ⟨8, _⟩ => ⟨S1x4096x2048, .f32⟩
  | .hbm, ⟨9, _⟩ => ⟨S4096x2048, .f32⟩
  | .hbm, ⟨10, _⟩ => ⟨S2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S1x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x4096, .f32⟩
  | .hbm, ⟨69, _⟩ => ⟨S4096x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩

abbrev nD : Nat := 1
abbrev τ : Topo := Topo.v7x

variable {F : FTy → Type} [FloatOps F]
-- ==== AttnFwd.lean ====
abbrev S1x4096x14336 : Shape := ⟨3, ![1, 4096, 14336]⟩
abbrev S16x513 : Shape := ⟨2, ![16, 513]⟩
abbrev S4096x7x2048 : Shape := ⟨3, ![4096, 7, 2048]⟩
abbrev S7x4096x2048 : Shape := ⟨3, ![7, 4096, 2048]⟩
abbrev S512x1024 : Shape := ⟨2, ![512, 1024]⟩
abbrev S_ : Shape := ⟨0, ![]⟩
abbrev S512x1024x1 : Shape := ⟨3, ![512, 1024, 1]⟩
abbrev S16x512x1024 : Shape := ⟨3, ![16, 512, 1024]⟩
abbrev S4096x2048 : Shape := ⟨2, ![4096, 2048]⟩
abbrev S1x512x128 : Shape := ⟨3, ![1, 512, 128]⟩
abbrev S1x512x1024 : Shape := ⟨3, ![1, 512, 1024]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩

abbrev nBuf : Space → Nat
  | .hbm => 51
  | .vmem => 14
  | .smem => 0
  | _ => 0

abbrev bufTy : (tb : Table) → Fin (tcTables nBuf tb) → BufTy
  | .hbm, ⟨0, _⟩ => ⟨S1x4096x14336, .f32⟩
  | .hbm, ⟨1, _⟩ => ⟨S16x513, .f32⟩
  | .hbm, ⟨2, _⟩ => ⟨S4096x7x2048, .f32⟩
  | .hbm, ⟨3, _⟩ => ⟨S7x4096x2048, .f32⟩
  | .hbm, ⟨4, _⟩ => ⟨S7x4096x2048, .bf16⟩
  | .hbm, ⟨5, _⟩ => ⟨S512x1024, .i32⟩
  | .hbm, ⟨6, _⟩ => ⟨S512x1024, .i32⟩
  | .hbm, ⟨7, _⟩ => ⟨S_, .i32⟩
  | .hbm, ⟨8, _⟩ => ⟨S512x1024, .i32⟩
  | .hbm, ⟨9, _⟩ => ⟨S512x1024, .i32⟩
  | .hbm, ⟨10, _⟩ => ⟨S512x1024, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S512x1024, .i32⟩
  | .hbm, ⟨15, _⟩ => ⟨S512x1024, .i32⟩
  | .hbm, ⟨16, _⟩ => ⟨S_, .i32⟩
  | .hbm, ⟨17, _⟩ => ⟨S512x1024, .i32⟩
  | .hbm, ⟨18, _⟩ => ⟨S512x1024, .i32⟩
  | .hbm, ⟨19, _⟩ => ⟨S_, .i32⟩
  | .hbm, ⟨20, _⟩ => ⟨S512x1024, .i32⟩
  | .hbm, ⟨21, _⟩ => ⟨S512x1024, .i32⟩
  | .hbm, ⟨22, _⟩ => ⟨S_, .i32⟩
  | .hbm, ⟨23, _⟩ => ⟨S512x1024, .i32⟩
  | .hbm, ⟨24, _⟩ => ⟨S512x1024, .i32⟩
  | .hbm, ⟨25, _⟩ => ⟨S_, .i32⟩
  | .hbm, ⟨26, _⟩ => ⟨S512x1024, .i32⟩
  | .hbm, ⟨27, _⟩ => ⟨S512x1024, .i32⟩
  | .hbm, ⟨28, _⟩ => ⟨S512x1024, .i32⟩
  | .hbm, ⟨29, _⟩ => ⟨S_, .i32⟩
  | .hbm, ⟨30, _⟩ => ⟨S512x1024, .i32⟩
  | .hbm, ⟨31, _⟩ => ⟨S512x1024, .i1⟩
  | .hbm, ⟨32, _⟩ => ⟨S_, .i32⟩
  | .hbm, ⟨33, _⟩ => ⟨S512x1024, .i32⟩
  | .hbm, ⟨34, _⟩ => ⟨S512x1024, .i1⟩
  | .hbm, ⟨35, _⟩ => ⟨S512x1024, .i1⟩
  | .hbm, ⟨36, _⟩ => ⟨S_, .i32⟩
  | .hbm, ⟨37, _⟩ => ⟨S512x1024, .i32⟩
  | .hbm, ⟨38, _⟩ => ⟨S512x1024, .i1⟩
  | .hbm, ⟨39, _⟩ => ⟨S_, .i32⟩
  | .hbm, ⟨40, _⟩ => ⟨S512x1024, .i32⟩
  | .hbm, ⟨41, _⟩ => ⟨S512x1024, .i32⟩
  | .hbm, ⟨42, _⟩ => ⟨S512x1024, .i32⟩
  | .hbm, ⟨43, _⟩ => ⟨S512x1024x1, .i32⟩
  | .hbm, ⟨44, _⟩ => ⟨S16x512x1024, .f32⟩
  | .hbm, ⟨45, _⟩ => ⟨S_, .f32⟩
  | .hbm, ⟨46, _⟩ => ⟨S_, .f32⟩
  | .hbm, ⟨47, _⟩ => ⟨S16x512x1024, .i1⟩
  | .hbm, ⟨48, _⟩ => ⟨S16x512x1024, .f32⟩
  | .hbm, ⟨49, _⟩ => ⟨S16x512x1024, .f32⟩
  | .hbm, ⟨50, _⟩ => ⟨S4096x2048, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x1024, .f32⟩
  | .local _ .vmem, ⟨11, _⟩ => ⟨S1x512x1024, .f32⟩
  | .local _ .vmem, ⟨12, _⟩ => ⟨S512x128, .f32⟩
  | .local _ .vmem, ⟨13, _⟩ => ⟨S512x128, .f32⟩
  | _, _ => ⟨S1x4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_7 : Ref sig .tc := ⟨.hbm, 36, rfl⟩
abbrev main_v21 : Ref sig .tc := ⟨.hbm, 37, rfl⟩
abbrev main_v22 : Ref sig .tc := ⟨.hbm, 38, rfl⟩
abbrev main_c_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v28 : Ref sig .tc := ⟨.hbm, 49, rfl⟩
abbrev main_v29 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![c1_i32_0.toNat, v1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![c2_i32.toNat, v1.toNat, arg0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S1x4096x14336 : Shape := ⟨3, ![1, 4096, 14336]⟩
abbrev S16x513 : Shape := ⟨2, ![16, 513]⟩
abbrev S1x4096x2048 : Shape := ⟨3, ![1, 4096, 2048]⟩
abbrev S4096x2048 : Shape := ⟨2, ![4096, 2048]⟩
abbrev S4096x16x128 : Shape := ⟨3, ![4096, 16, 128]⟩
abbrev S4096x4096 : Shape := ⟨2, ![4096, 4096]⟩
abbrev S_ : Shape := ⟨0, ![]⟩
abbrev S16x4096x4096 : Shape := ⟨3, ![16, 4096, 4096]⟩
abbrev S4096x4096x1 : Shape := ⟨3, ![4096, 4096, 1]⟩
abbrev S16x4096 : Shape := ⟨2, ![16, 4096]⟩
abbrev S16x4096x1 : Shape := ⟨3, ![16, 4096, 1]⟩
abbrev S16x128x4096 : Shape := ⟨3, ![16, 128, 4096]⟩

abbrev nBuf : Space → Nat
  | .hbm => 75
  | .vmem => 0
  | .smem => 0
  | _ => 0

abbrev bufTy : (tb : Table) → Fin (tcTables nBuf tb) → BufTy
  | .hbm, ⟨0, _⟩ => ⟨S1x4096x14336, .f32⟩
  | .hbm, ⟨1, _⟩ => ⟨S16x513, .f32⟩
  | .hbm, ⟨2, _⟩ => ⟨S1x4096x2048, .f32⟩
  | .hbm, ⟨3, _⟩ => ⟨S4096x2048, .f32⟩
  | .hbm, ⟨4, _⟩ => ⟨S4096x16x128, .f32⟩
  | .hbm, ⟨5, _⟩ => ⟨S1x4096x2048, .f32⟩
  | .hbm, ⟨6, _⟩ => ⟨S4096x2048, .f32⟩
  | .hbm, ⟨7, _⟩ => ⟨S4096x16x128, .f32⟩
  | .hbm, ⟨8, _⟩ => ⟨S1x4096x2048, .f32⟩
  | .hbm, ⟨9, _⟩ => ⟨S4096x2048, .f32⟩
  | .hbm, ⟨10, _⟩ => ⟨S4096x16x128, .f32⟩
  | .hbm, ⟨11, _⟩ => ⟨S4096x4096, .i32⟩
  | .hbm, ⟨12, _⟩ => ⟨S4096x4096, .i32⟩
  | .hbm, ⟨13, _⟩ => ⟨S_, .f32⟩
  | .hbm, ⟨14, _⟩ => ⟨S4096x16x128, .f32⟩
  | .hbm, ⟨15, _⟩ => ⟨S4096x16x128, .f32⟩
  | .hbm, ⟨16, _⟩ => ⟨S16x4096x4096, .f32⟩
  | .hbm, ⟨17, _⟩ => ⟨S4096x4096, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S_, .i32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i1⟩
  | .hbm, ⟨32, _⟩ => ⟨S_, .i32⟩
  | .hbm, ⟨33, _⟩ => ⟨S4096x4096, .i32⟩
  | .hbm, ⟨34, _⟩ => ⟨S4096x4096, .i32⟩
  | .hbm, ⟨35, _⟩ => ⟨S4096x4096, .i32⟩
  | .hbm, ⟨36, _⟩ => ⟨S4096x4096x1, .i32⟩
  | .hbm, ⟨37, _⟩ => ⟨S16x4096x4096, .f32⟩
  | .hbm, ⟨38, _⟩ => ⟨S16x4096x4096, .f32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S_, .i32⟩
  | .hbm, ⟨43, _⟩ => ⟨S4096x4096, .i32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i1⟩
  | .hbm, ⟨49, _⟩ => ⟨S_, .i32⟩
  | .hbm, ⟨50, _⟩ => ⟨S4096x4096, .i32⟩
  | .hbm, ⟨51, _⟩ => ⟨S4096x4096, .i1⟩
  | .hbm, ⟨52, _⟩ => ⟨S4096x4096, .i1⟩
  | .hbm, ⟨53, _⟩ => ⟨S_, .f32⟩
  | .hbm, ⟨54, _⟩ => ⟨S_, .f32⟩
  | .hbm, ⟨55, _⟩ => ⟨S16x4096x4096, .i1⟩
  | .hbm, ⟨56, _⟩ => ⟨S16x4096x4096, .f32⟩
  | .hbm, ⟨57, _⟩ => ⟨S16x4096x4096, .f32⟩
  | .hbm, ⟨58, _⟩ => ⟨S_, .f32⟩
  | .hbm, ⟨59, _⟩ => ⟨S16x4096, .f32⟩
  | .hbm, ⟨60, _⟩ => ⟨S_, .f32⟩
  | .hbm, ⟨61, _⟩ => ⟨S16x4096, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S16x4096x4096, .f32⟩
  | .hbm, ⟨71, _⟩ => ⟨S16x4096x4096, .f32⟩
  | .hbm, ⟨72, _⟩ => ⟨S16x128x4096, .f32⟩
  | .hbm, ⟨73, _⟩ => ⟨S4096x16x128, .f32⟩
  | .hbm, ⟨74, _⟩ => ⟨S4096x2048, .f32⟩
  | _, _ => ⟨S1x4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_cst_10 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== BiasBuild.lean ====
abbrev S16x513 : Shape := ⟨2, ![16, 513]⟩
abbrev S1024 : Shape := ⟨1, ![1024]⟩
abbrev S_ : Shape := ⟨0, ![]⟩
abbrev S1024x1 : Shape := ⟨2, ![1024, 1]⟩
abbrev S16x1024 : Shape := ⟨2, ![16, 1024]⟩
abbrev S16x1x1024 : Shape := ⟨3, ![16, 1, 1024]⟩
abbrev S16x512x1024 : Shape := ⟨3, ![16, 512, 1024]⟩
abbrev S1x1x1024 : Shape := ⟨3, ![1, 1, 1024]⟩
abbrev S1x512x1024 : Shape := ⟨3, ![1, 512, 1024]⟩
abbrev S1x1024 : Shape := ⟨2, ![1, 1024]⟩
abbrev S512x1024 : Shape := ⟨2, ![512, 1024]⟩

abbrev nBuf : Space → Nat
  | .hbm => 35
  | .vmem => 4
  | .smem => 0
  | _ => 0

abbrev bufTy : (tb : Table) → Fin (tcTables nBuf tb) → BufTy
  | .hbm, ⟨0, _⟩ => ⟨S16x513, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S16x1024, .f32⟩
  | .hbm, ⟨33, _⟩ => ⟨S16x1x1024, .f32⟩
  | .hbm, ⟨34, _⟩ => ⟨S16x512x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x512x1024, .f32⟩
  | .local _ .vmem, ⟨3, _⟩ => ⟨S1x512x1024, .f32⟩
  | _, _ => ⟨S16x513, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_c_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v9 : Ref sig .tc := ⟨.hbm, 20, rfl⟩
abbrev main_c_4 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasBuildIdeal.lean ====
variable {F : FTy → Type} [FloatOps F] [Named F]
def κ : String → Option EReal := fun
  | "mask" => some ⊥
  | _ => none
-- ==== BiasBuildRefIdeal.lean ====
abbrev S16x513 : Shape := ⟨2, ![16, 513]⟩
abbrev S512x1024 : Shape := ⟨2, ![512, 1024]⟩
abbrev S_ : Shape := ⟨0, ![]⟩
abbrev S512x1024x1 : Shape := ⟨3, ![512, 1024, 1]⟩
abbrev S16x512x1024 : Shape := ⟨3, ![16, 512, 1024]⟩

abbrev nBuf : Space → Nat
  | .hbm => 46
  | .vmem => 0
  | .smem => 0
  | _ => 0

abbrev bufTy : (tb : Table) → Fin (tcTables nBuf tb) → BufTy
  | .hbm, ⟨0, _⟩ => ⟨S16x513, .f32⟩
  | .hbm, ⟨1, _⟩ => ⟨S512x1024, .i32⟩
  | .hbm, ⟨2, _⟩ => ⟨S512x1024, .i32⟩
  | .hbm, ⟨3, _⟩ => ⟨S_, .i32⟩
  | .hbm, ⟨4, _⟩ => ⟨S512x1024, .i32⟩
  | .hbm, ⟨5, _⟩ => ⟨S512x1024, .i32⟩
  | .hbm, ⟨6, _⟩ => ⟨S_, .i32⟩
  | .hbm, ⟨7, _⟩ => ⟨S512x1024, .i32⟩
  | .hbm, ⟨8, _⟩ => ⟨S512x1024, .i32⟩
  | .hbm, ⟨9, _⟩ => ⟨S512x1024, .i32⟩
  | .hbm, ⟨10, _⟩ => ⟨S_, .i32⟩
  | .hbm, ⟨11, _⟩ => ⟨S512x1024, .i32⟩
  | .hbm, ⟨12, _⟩ => ⟨S512x1024, .i32⟩
  | .hbm, ⟨13, _⟩ => ⟨S512x1024, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S512x1024, .i32⟩
  | .hbm, ⟨18, _⟩ => ⟨S512x1024, .i32⟩
  | .hbm, ⟨19, _⟩ => ⟨S_, .i32⟩
  | .hbm, ⟨20, _⟩ => ⟨S512x1024, .i32⟩
  | .hbm, ⟨21, _⟩ => ⟨S512x1024, .i32⟩
  | .hbm, ⟨22, _⟩ => ⟨S_, .i32⟩
  | .hbm, ⟨23, _⟩ => ⟨S512x1024, .i32⟩
  | .hbm, ⟨24, _⟩ => ⟨S512x1024, .i32⟩
  | .hbm, ⟨25, _⟩ => ⟨S_, .i32⟩
  | .hbm, ⟨26, _⟩ => ⟨S512x1024, .i32⟩
  | .hbm, ⟨27, _⟩ => ⟨S512x1024, .i1⟩
  | .hbm, ⟨28, _⟩ => ⟨S_, .i32⟩
  | .hbm, ⟨29, _⟩ => ⟨S512x1024, .i32⟩
  | .hbm, ⟨30, _⟩ => ⟨S512x1024, .i1⟩
  | .hbm, ⟨31, _⟩ => ⟨S512x1024, .i1⟩
  | .hbm, ⟨32, _⟩ => ⟨S_, .i32⟩
  | .hbm, ⟨33, _⟩ => ⟨S512x1024, .i32⟩
  | .hbm, ⟨34, _⟩ => ⟨S512x1024, .i1⟩
  | .hbm, ⟨35, _⟩ => ⟨S_, .i32⟩
  | .hbm, ⟨36, _⟩ => ⟨S512x1024, .i32⟩
  | .hbm, ⟨37, _⟩ => ⟨S512x1024, .i32⟩
  | .hbm, ⟨38, _⟩ => ⟨S512x1024, .i32⟩
  | .hbm, ⟨39, _⟩ => ⟨S512x1024x1, .i32⟩
  | .hbm, ⟨40, _⟩ => ⟨S16x512x1024, .f32⟩
  | .hbm, ⟨41, _⟩ => ⟨S_, .f32⟩
  | .hbm, ⟨42, _⟩ => ⟨S_, .f32⟩
  | .hbm, ⟨43, _⟩ => ⟨S16x512x1024, .i1⟩
  | .hbm, ⟨44, _⟩ => ⟨S16x512x1024, .f32⟩
  | .hbm, ⟨45, _⟩ => ⟨S16x512x1024, .f32⟩
  | _, _ => ⟨S16x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_c_3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_c_4 : Ref sig .tc := ⟨.hbm, 22, rfl⟩
abbrev main_v11 : Ref sig .tc := ⟨.hbm, 23, rfl⟩
abbrev main_v12 : Ref sig .tc := ⟨.hbm, 24, rfl⟩
abbrev main_c_5 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_7 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== ConvFwd.lean ====
abbrev S1x4096x14336 : Shape := ⟨3, ![1, 4096, 14336]⟩
abbrev S31x2048 : Shape := ⟨2, ![31, 2048]⟩
abbrev S1x2048 : Shape := ⟨2, ![1, 2048]⟩
abbrev S4096x7x2048 : Shape := ⟨3, ![4096, 7, 2048]⟩
abbrev S7x4096x2048 : Shape := ⟨3, ![7, 4096, 2048]⟩
abbrev S_ : Shape := ⟨0, ![]⟩
abbrev S32x2048 : Shape := ⟨2, ![32, 2048]⟩
abbrev S4096x2048 : Shape := ⟨2, ![4096, 2048]⟩
abbrev S1x512x256 : Shape := ⟨3, ![1, 512, 256]⟩
abbrev S1x32x256 : Shape := ⟨3, ![1, 32, 256]⟩
abbrev S32x256 : Shape := ⟨2, ![32, 256]⟩
abbrev S1x256 : Shape := ⟨2, ![1, 256]⟩
abbrev S512x256 : Shape := ⟨2, ![512, 256]⟩
abbrev S544x256 : Shape := ⟨2, ![544, 256]⟩
abbrev S64x256 : Shape := ⟨2, ![64, 256]⟩

abbrev nBuf : Space → Nat
  | .hbm => 10
  | .vmem => 15
  | .smem => 0
  | _ => 0

abbrev bufTy : (tb : Table) → Fin (tcTables nBuf tb) → BufTy
  | .hbm, ⟨0, _⟩ => ⟨S1x4096x14336, .f32⟩
  | .hbm, ⟨1, _⟩ => ⟨S31x2048, .f32⟩
  | .hbm, ⟨2, _⟩ => ⟨S1x2048, .f32⟩
  | .hbm, ⟨3, _⟩ => ⟨S4096x7x2048, .f32⟩
  | .hbm, ⟨4, _⟩ => ⟨S7x4096x2048, .f32⟩
  | .hbm, ⟨5, _⟩ => ⟨S7x4096x2048, .bf16⟩
  | .hbm, ⟨6, _⟩ => ⟨S_, .i32⟩
  | .hbm, ⟨7, _⟩ => ⟨S_, .f32⟩
  | .hbm, ⟨8, _⟩ => ⟨S32x2048, .f32⟩
  | .hbm, ⟨9, _⟩ => ⟨S4096x2048, .f32⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x32x256, .bf16⟩
  | .local _ .vmem, ⟨5, _⟩ => ⟨S1x32x256, .bf16⟩
  | .local _ .vmem, ⟨6, _⟩ => ⟨S1x32x256, .bf16⟩
  | .local _ .vmem, ⟨7, _⟩ => ⟨S1x32x256, .bf16⟩
  | .local _ .vmem, ⟨8, _⟩ => ⟨S32x256, .f32⟩
  | .local _ .vmem, ⟨9, _⟩ => ⟨S32x256, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S544x256, .f32⟩
  | _, _ => ⟨S1x4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![c4_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![c5_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![c4_i32.toNat, v2.toNat, arg0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![c5_i32.toNat, v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFwdRefIdeal.lean ====
abbrev S1x4096x14336 : Shape := ⟨3, ![1, 4096, 14336]⟩
abbrev S31x2048 : Shape := ⟨2, ![31, 2048]⟩
abbrev S1x2048 : Shape := ⟨2, ![1, 2048]⟩
abbrev S1x4096x2048 : Shape := ⟨3, ![1, 4096, 2048]⟩
abbrev S4096x2048 : Shape := ⟨2, ![4096, 2048]⟩
abbrev S_ : Shape := ⟨0, ![]⟩
abbrev S30x2048 : Shape := ⟨2, ![30, 2048]⟩
abbrev S4126x2048 : Shape := ⟨2, ![4126, 2048]⟩
abbrev S4096x31 : Shape := ⟨2, ![4096, 31]⟩
abbrev S4096x31x1 : Shape := ⟨3, ![4096, 31, 1]⟩
abbrev S4096x31x2048 : Shape := ⟨3, ![4096, 31, 2048]⟩
abbrev S1x31x2048 : Shape := ⟨3, ![1, 31, 2048]⟩
abbrev S2048 : Shape := ⟨1, ![2048]⟩

abbrev nBuf : Space → Nat
  | .hbm => 40
  | .vmem => 0
  | .smem => 0
  | _ => 0

abbrev bufTy : (tb : Table) → Fin (tcTables nBuf tb) → BufTy
  | .hbm, ⟨0, _⟩ => ⟨S1x4096x14336, .f32⟩
  | .hbm, ⟨1, _⟩ => ⟨S31x2048, .f32⟩
  | .hbm, ⟨2, _⟩ => ⟨S1x2048, .f32⟩
  | .hbm, ⟨3, _⟩ => ⟨S1x4096x2048, .f32⟩
  | .hbm, ⟨4, _⟩ => ⟨S4096x2048, .f32⟩
  | .hbm, ⟨5, _⟩ => ⟨S1x4096x2048, .f32⟩
  | .hbm, ⟨6, _⟩ => ⟨S4096x2048, .f32⟩
  | .hbm, ⟨7, _⟩ => ⟨S_, .f32⟩
  | .hbm, ⟨8, _⟩ => ⟨S30x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4126x2048, .f32⟩
  | .hbm, ⟨19, _⟩ => ⟨S4096x31, .i32⟩
  | .hbm, ⟨20, _⟩ => ⟨S4096x31, .i32⟩
  | .hbm, ⟨21, _⟩ => ⟨S4096x31, .i32⟩
  | .hbm, ⟨22, _⟩ => ⟨S_, .i32⟩
  | .hbm, ⟨23, _⟩ => ⟨S4096x31, .i32⟩
  | .hbm, ⟨24, _⟩ => ⟨S4096x31, .i1⟩
  | .hbm, ⟨25, _⟩ => ⟨S_, .i32⟩
  | .hbm, ⟨26, _⟩ => ⟨S4096x31, .i32⟩
  | .hbm, ⟨27, _⟩ => ⟨S4096x31, .i32⟩
  | .hbm, ⟨28, _⟩ => ⟨S4096x31, .i32⟩
  | .hbm, ⟨29, _⟩ => ⟨S4096x31x1, .i32⟩
  | .hbm, ⟨30, _⟩ => ⟨S4096x31x2048, .f32⟩
  | .hbm, ⟨31, _⟩ => ⟨S1x31x2048, .f32⟩
  | .hbm, ⟨32, _⟩ => ⟨S4096x31x2048, .f32⟩
  | .hbm, ⟨33, _⟩ => ⟨S4096x31x2048, .f32⟩
  | .hbm, ⟨34, _⟩ => ⟨S_, .f32⟩
  | .hbm, ⟨35, _⟩ => ⟨S4096x2048, .f32⟩
  | .hbm, ⟨36, _⟩ => ⟨S2048, .f32⟩
  | .hbm, ⟨37, _⟩ => ⟨S1x2048, .f32⟩
  | .hbm, ⟨38, _⟩ => ⟨S4096x2048, .f32⟩
  | .hbm, ⟨39, _⟩ => ⟨S4096x2048, .f32⟩
  | _, _ => ⟨S1x4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== GateFwd.lean ====
abbrev S4096x4096 : Shape := ⟨2, ![4096, 4096]⟩
abbrev S1x4096 : Shape := ⟨2, ![1, 4096]⟩
abbrev S4096x256 : Shape := ⟨2, ![4096, 256]⟩
abbrev S256x4096 : Shape := ⟨2, ![256, 4096]⟩
abbrev S1024x1024 : Shape := ⟨2, ![1024, 1024]⟩
abbrev S1x1024 : Shape := ⟨2, ![1, 1024]⟩
abbrev S1024x256 : Shape := ⟨2, ![1024, 256]⟩
abbrev S256x1024 : Shape := ⟨2, ![256, 1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x256, .f32⟩
  | .hbm, ⟨5, _⟩ => ⟨S256x4096, .f32⟩
  | .hbm, ⟨6, _⟩ => ⟨S4096x4096, .bf16⟩
  | .hbm, ⟨7, _⟩ => ⟨S4096x4096, .bf16⟩
  | .hbm, ⟨8, _⟩ => ⟨S256x4096, .bf16⟩
  | .hbm, ⟨9, _⟩ => ⟨S4096x4096, .f32⟩
  | .hbm, ⟨10, _⟩ => ⟨S4096x4096, .bf16⟩
  | .hbm, ⟨11, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x256, .f32⟩
  | .local _ .vmem, ⟨9, _⟩ => ⟨S1024x256, .f32⟩
  | .local _ .vmem, ⟨10, _⟩ => ⟨S256x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== GateFwdRefIdeal.lean ====
abbrev S4096x4096 : Shape := ⟨2, ![4096, 4096]⟩
abbrev S1x4096 : Shape := ⟨2, ![1, 4096]⟩
abbrev S4096x256 : Shape := ⟨2, ![4096, 256]⟩
abbrev S256x4096 : Shape := ⟨2, ![256, 4096]⟩
abbrev S4096 : Shape := ⟨1, ![4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x256, .f32⟩
  | .hbm, ⟨5, _⟩ => ⟨S256x4096, .f32⟩
  | .hbm, ⟨6, _⟩ => ⟨S4096x4096, .f32⟩
  | .hbm, ⟨7, _⟩ => ⟨S4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | .hbm, ⟨23, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== MmNn.lean ====
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S4096x4096, .bf16⟩
  | .hbm, ⟨5, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MmNnRefIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MmNt.lean ====
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmNtRefIdeal.lean ====
abbrev S4096x4096 : Shape := ⟨2, ![4096, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MmTn.lean ====
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmTnRefIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamSmall.lean ====
abbrev S792x128 : Shape := ⟨2, ![792, 128]⟩

abbrev nBuf : Space → Nat
  | .hbm => 7
  | .vmem => 7
  | .smem => 0
  | _ => 0

abbrev bufTy : (tb : Table) → Fin (tcTables nBuf tb) → BufTy
  | .hbm, ⟨0, _⟩ => ⟨S792x128, .f32⟩
  | .hbm, ⟨1, _⟩ => ⟨S792x128, .f32⟩
  | .hbm, ⟨2, _⟩ => ⟨S792x128, .f32⟩
  | .hbm, ⟨3, _⟩ => ⟨S792x128, .f32⟩
  | .hbm, ⟨4, _⟩ => ⟨S792x128, .f32⟩
  | .hbm, ⟨5, _⟩ => ⟨S792x128, .f32⟩
  | .hbm, ⟨6, _⟩ => ⟨S792x128, .f32⟩
  | .local _ .vmem, ⟨0, _⟩ => ⟨S792x128, .f32⟩
  | .local _ .vmem, ⟨1, _⟩ => ⟨S792x128, .f32⟩
  | .local _ .vmem, ⟨2, _⟩ => ⟨S792x128, .f32⟩
  | .local _ .vmem, ⟨3, _⟩ => ⟨S792x128, .f32⟩
  | .local _ .vmem, ⟨4, _⟩ => ⟨S792x128, .f32⟩
  | .local _ .vmem, ⟨5, _⟩ => ⟨S792x128, .f32⟩
  | .local _ .vmem, ⟨6, _⟩ => ⟨S792x128, .f32⟩
  | _, _ => ⟨S792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S792x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S792x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S792x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S792x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S792x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S792x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S792x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamRefIdeal.lean ====
abbrev S792x128 : Shape := ⟨2, ![792, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S792x128, .f32⟩
  | .hbm, ⟨1, _⟩ => ⟨S792x128, .f32⟩
  | .hbm, ⟨2, _⟩ => ⟨S792x128, .f32⟩
  | .hbm, ⟨3, _⟩ => ⟨S792x128, .f32⟩
  | .hbm, ⟨4, _⟩ => ⟨S_, .f32⟩
  | .hbm, ⟨5, _⟩ => ⟨S792x128, .f32⟩
  | .hbm, ⟨6, _⟩ => ⟨S792x128, .f32⟩
  | .hbm, ⟨7, _⟩ => ⟨S_, .f32⟩
  | .hbm, ⟨8, _⟩ => ⟨S792x128, .f32⟩
  | .hbm, ⟨9, _⟩ => ⟨S792x128, .f32⟩
  | .hbm, ⟨10, _⟩ => ⟨S792x128, .f32⟩
  | .hbm, ⟨11, _⟩ => ⟨S_, .f32⟩
  | .hbm, ⟨12, _⟩ => ⟨S792x128, .f32⟩
  | .hbm, ⟨13, _⟩ => ⟨S792x128, .f32⟩
  | .hbm, ⟨14, _⟩ => ⟨S792x128, .f32⟩
  | .hbm, ⟨15, _⟩ => ⟨S_, .f32⟩
  | .hbm, ⟨16, _⟩ => ⟨S792x128, .f32⟩
  | .hbm, ⟨17, _⟩ => ⟨S792x128, .f32⟩
  | .hbm, ⟨18, _⟩ => ⟨S792x128, .f32⟩
  | .hbm, ⟨19, _⟩ => ⟨S_, .f32⟩
  | .hbm, ⟨20, _⟩ => ⟨S792x128, .f32⟩
  | .hbm, ⟨21, _⟩ => ⟨S792x128, .f32⟩
  | .hbm, ⟨22, _⟩ => ⟨S_, .f32⟩
  | .hbm, ⟨23, _⟩ => ⟨S792x128, .f32⟩
  | .hbm, ⟨24, _⟩ => ⟨S792x128, .f32⟩
  | .hbm, ⟨25, _⟩ => ⟨S792x128, .f32⟩
  | .hbm, ⟨26, _⟩ => ⟨S_, .f32⟩
  | .hbm, ⟨27, _⟩ => ⟨S792x128, .f32⟩
  | .hbm, ⟨28, _⟩ => ⟨S792x128, .f32⟩
  | .hbm, ⟨29, _⟩ => ⟨S792x128, .f32⟩
  | .hbm, ⟨30, _⟩ => ⟨S_, .f32⟩
  | .hbm, ⟨31, _⟩ => ⟨S792x128, .f32⟩
  | .hbm, ⟨32, _⟩ => ⟨S792x128, .f32⟩
  | .hbm, ⟨33, _⟩ => ⟨S792x128, .f32⟩
  | .hbm, ⟨34, _⟩ => ⟨S_, .f32⟩
  | .hbm, ⟨35, _⟩ => ⟨S792x128, .f32⟩
  | .hbm, ⟨36, _⟩ => ⟨S792x128, .f32⟩
  | _, _ => ⟨S792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PairAdd.lean ====
abbrev S4096x14336 : Shape := ⟨2, ![4096, 14336]⟩
abbrev S4x4096x1792 : Shape := ⟨3, ![4, 4096, 1792]⟩
abbrev S1 : Shape := ⟨1, ![1]⟩
abbrev S256x1792 : Shape := ⟨2, ![256, 1792]⟩
abbrev S1x256x1792 : Shape := ⟨3, ![1, 256, 1792]⟩

abbrev nBuf : Space → Nat
  | .hbm => 3
  | .vmem => 6
  | .smem => 1
  | _ => 0

abbrev bufTy : (tb : Table) → Fin (tcTables nBuf tb) → BufTy
  | .hbm, ⟨0, _⟩ => ⟨S4096x14336, .bf16⟩
  | .hbm, ⟨1, _⟩ => ⟨S4x4096x1792, .bf16⟩
  | .hbm, ⟨2, _⟩ => ⟨S4x4096x1792, .bf16⟩
  | .local _ .vmem, ⟨0, _⟩ => ⟨S256x1792, .bf16⟩
  | .local _ .vmem, ⟨1, _⟩ => ⟨S256x1792, .bf16⟩
  | .local _ .vmem, ⟨2, _⟩ => ⟨S1x256x1792, .bf16⟩
  | .local _ .vmem, ⟨3, _⟩ => ⟨S1x256x1792, .bf16⟩
  | .local _ .vmem, ⟨4, _⟩ => ⟨S1x256x1792, .bf16⟩
  | .local _ .vmem, ⟨5, _⟩ => ⟨S1x256x1792, .bf16⟩
  | .local _ .smem, ⟨0, _⟩ => ⟨S1, .i32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg1.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairAddRefIdeal.lean ====
abbrev S4096x14336 : Shape := ⟨2, ![4096, 14336]⟩
abbrev S4x4096x1792 : Shape := ⟨3, ![4, 4096, 1792]⟩
abbrev S1 : Shape := ⟨1, ![1]⟩
abbrev S4096x4x2x1792 : Shape := ⟨4, ![4096, 4, 2, 1792]⟩
abbrev S2x4x4096x1792 : Shape := ⟨4, ![2, 4, 4096, 1792]⟩
abbrev S_ : Shape := ⟨0, ![]⟩
abbrev S1x4x4096x1792 : Shape := ⟨4, ![1, 4, 4096, 1792]⟩

abbrev nBuf : Space → Nat
  | .hbm => 17
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4x4096x1792, .bf16⟩
  | .hbm, ⟨2, _⟩ => ⟨S1, .i32⟩
  | .hbm, ⟨3, _⟩ => ⟨S4096x4x2x1792, .bf16⟩
  | .hbm, ⟨4, _⟩ => ⟨S2x4x4096x1792, .bf16⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1x4x4096x1792, .bf16⟩
  | .hbm, ⟨9, _⟩ => ⟨S4x4096x1792, .bf16⟩
  | .hbm, ⟨10, _⟩ => ⟨S1x4x4096x1792, .bf16⟩
  | .hbm, ⟨11, _⟩ => ⟨S4x4096x1792, .bf16⟩
  | .hbm, ⟨12, _⟩ => ⟨S4x4096x1792, .bf16⟩
  | .hbm, ⟨13, _⟩ => ⟨S4x4096x1792, .f32⟩
  | .hbm, ⟨14, _⟩ => ⟨S4x4096x1792, .f32⟩
  | .hbm, ⟨15, _⟩ => ⟨S4x4096x1792, .f32⟩
  | .hbm, ⟨16, _⟩ => ⟨S4x4096x1792, .bf16⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Cast.lean ====
abbrev S4096x1792 : Shape := ⟨2, ![4096, 1792]⟩
abbrev S512x1792 : Shape := ⟨2, ![512, 1792]⟩

abbrev nBuf : Space → Nat
  | .hbm => 2
  | .vmem => 4
  | .smem => 0
  | _ => 0

abbrev bufTy : (tb : Table) → Fin (tcTables nBuf tb) → BufTy
  | .hbm, ⟨0, _⟩ => ⟨S4096x1792, .f32⟩
  | .hbm, ⟨1, _⟩ => ⟨S4096x1792, .bf16⟩
  | .local _ .vmem, ⟨0, _⟩ => ⟨S512x1792, .f32⟩
  | .local _ .vmem, ⟨1, _⟩ => ⟨S512x1792, .f32⟩
  | .local _ .vmem, ⟨2, _⟩ => ⟨S512x1792, .bf16⟩
  | .local _ .vmem, ⟨3, _⟩ => ⟨S512x1792, .bf16⟩
  | _, _ => ⟨S4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastRefIdeal.lean ====
abbrev S4096x1792 : Shape := ⟨2, ![4096, 1792]⟩

abbrev nBuf : Space → Nat
  | .hbm => 2
  | .vmem => 0
  | .smem => 0
  | _ => 0

abbrev bufTy : (tb : Table) → Fin (tcTables nBuf tb) → BufTy
  | .hbm, ⟨0, _⟩ => ⟨S4096x1792, .f32⟩
  | .hbm, ⟨1, _⟩ => ⟨S4096x1792, .bf16⟩
  | _, _ => ⟨S4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamBig.lean ====
abbrev S4x4096x1792 : Shape := ⟨3, ![4, 4096, 1792]⟩
abbrev S3x4096x1792 : Shape := ⟨3, ![3, 4096, 1792]⟩
abbrev S4096x1792 : Shape := ⟨2, ![4096, 1792]⟩
abbrev S1 : Shape := ⟨1, ![1]⟩
abbrev S1x128x1792 : Shape := ⟨3, ![1, 128, 1792]⟩
abbrev S3x128x1792 : Shape := ⟨3, ![3, 128, 1792]⟩
abbrev S128x1792 : Shape := ⟨2, ![128, 1792]⟩

abbrev nBuf : Space → Nat
  | .hbm => 9
  | .vmem => 18
  | .smem => 1
  | _ => 0

abbrev bufTy : (tb : Table) → Fin (tcTables nBuf tb) → BufTy
  | .hbm, ⟨0, _⟩ => ⟨S4x4096x1792, .bf16⟩
  | .hbm, ⟨1, _⟩ => ⟨S3x4096x1792, .bf16⟩
  | .hbm, ⟨2, _⟩ => ⟨S4096x1792, .f32⟩
  | .hbm, ⟨3, _⟩ => ⟨S4096x1792, .f32⟩
  | .hbm, ⟨4, _⟩ => ⟨S4096x1792, .f32⟩
  | .hbm, ⟨5, _⟩ => ⟨S4096x1792, .f32⟩
  | .hbm, ⟨6, _⟩ => ⟨S4096x1792, .f32⟩
  | .hbm, ⟨7, _⟩ => ⟨S4096x1792, .f32⟩
  | .hbm, ⟨8, _⟩ => ⟨S4096x1792, .f32⟩
  | .local _ .vmem, ⟨0, _⟩ => ⟨S1x128x1792, .bf16⟩
  | .local _ .vmem, ⟨1, _⟩ => ⟨S1x128x1792, .bf16⟩
  | .local _ .vmem, ⟨2, _⟩ => ⟨S3x128x1792, .bf16⟩
  | .local _ .vmem, ⟨3, _⟩ => ⟨S3x128x1792, .bf16⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | .local _ .vmem, ⟨14, _⟩ => ⟨S128x1792, .f32⟩
  | .local _ .vmem, ⟨15, _⟩ => ⟨S128x1792, .f32⟩
  | .local _ .vmem, ⟨16, _⟩ => ⟨S128x1792, .f32⟩
  | .local _ .vmem, ⟨17, _⟩ => ⟨S128x1792, .f32⟩
  | .local _ .smem, ⟨0, _⟩ => ⟨S1, .i32⟩
  | _, _ => ⟨S4x4096x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBigRefIdeal.lean ====
abbrev S4x4096x1792 : Shape := ⟨3, ![4, 4096, 1792]⟩
abbrev S3x4096x1792 : Shape := ⟨3, ![3, 4096, 1792]⟩
abbrev S4096x1792 : Shape := ⟨2, ![4096, 1792]⟩
abbrev S1 : Shape := ⟨1, ![1]⟩
abbrev S_ : Shape := ⟨0, ![]⟩
abbrev S1x4096x1792 : Shape := ⟨3, ![1, 4096, 1792]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x1792, .bf16⟩
  | .hbm, ⟨1, _⟩ => ⟨S3x4096x1792, .bf16⟩
  | .hbm, ⟨2, _⟩ => ⟨S4096x1792, .f32⟩
  | .hbm, ⟨3, _⟩ => ⟨S4096x1792, .f32⟩
  | .hbm, ⟨4, _⟩ => ⟨S4096x1792, .f32⟩
  | .hbm, ⟨5, _⟩ => ⟨S1, .i32⟩
  | .hbm, ⟨6, _⟩ => ⟨S4x4096x1792, .f32⟩
  | .hbm, ⟨7, _⟩ => ⟨S3x4096x1792, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S1x4096x1792, .f32⟩
  | .hbm, ⟨12, _⟩ => ⟨S4096x1792, .f32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S1x4096x1792, .f32⟩
  | .hbm, ⟨17, _⟩ => ⟨S4096x1792, .f32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S1x4096x1792, .f32⟩
  | .hbm, ⟨22, _⟩ => ⟨S4096x1792, .f32⟩
  | .hbm, ⟨23, _⟩ => ⟨S1x4096x1792, .f32⟩
  | .hbm, ⟨24, _⟩ => ⟨S4096x1792, .f32⟩
  | .hbm, ⟨25, _⟩ => ⟨S4096x1792, .f32⟩
  | .hbm, ⟨26, _⟩ => ⟨S4096x1792, .f32⟩
  | .hbm, ⟨27, _⟩ => ⟨S4096x1792, .f32⟩
  | .hbm, ⟨28, _⟩ => ⟨S1x4096x1792, .f32⟩
  | .hbm, ⟨29, _⟩ => ⟨S4096x1792, .f32⟩
  | .hbm, ⟨30, _⟩ => ⟨S4096x1792, .f32⟩
  | .hbm, ⟨31, _⟩ => ⟨S1x4096x1792, .f32⟩
  | .hbm, ⟨32, _⟩ => ⟨S4096x1792, .f32⟩
  | .hbm, ⟨33, _⟩ => ⟨S4096x1792, .f32⟩
  | .hbm, ⟨34, _⟩ => ⟨S1x4096x1792, .f32⟩
  | .hbm, ⟨35, _⟩ => ⟨S4096x1792, .f32⟩
  | .hbm, ⟨36, _⟩ => ⟨S4096x1792, .f32⟩
  | .hbm, ⟨37, _⟩ => ⟨S_, .f32⟩
  | .hbm, ⟨38, _⟩ => ⟨S4096x1792, .f32⟩
  | .hbm, ⟨39, _⟩ => ⟨S4096x1792, .f32⟩
  | .hbm, ⟨40, _⟩ => ⟨S_, .f32⟩
  | .hbm, ⟨41, _⟩ => ⟨S4096x1792, .f32⟩
  | .hbm, ⟨42, _⟩ => ⟨S4096x1792, .f32⟩
  | .hbm, ⟨43, _⟩ => ⟨S4096x1792, .f32⟩
  | .hbm, ⟨44, _⟩ => ⟨S_, .f32⟩
  | .hbm, ⟨45, _⟩ => ⟨S4096x1792, .f32⟩
  | .hbm, ⟨46, _⟩ => ⟨S4096x1792, .f32⟩
  | .hbm, ⟨47, _⟩ => ⟨S4096x1792, .f32⟩
  | .hbm, ⟨48, _⟩ => ⟨S_, .f32⟩
  | .hbm, ⟨49, _⟩ => ⟨S4096x1792, .f32⟩
  | .hbm, ⟨50, _⟩ => ⟨S4096x1792, .f32⟩
  | .hbm, ⟨51, _⟩ => ⟨S4096x1792, .f32⟩
  | .hbm, ⟨52, _⟩ => ⟨S_, .f32⟩
  | .hbm, ⟨53, _⟩ => ⟨S4096x1792, .f32⟩
  | .hbm, ⟨54, _⟩ => ⟨S4096x1792, .f32⟩
  | .hbm, ⟨55, _⟩ => ⟨S_, .f32⟩
  | .hbm, ⟨56, _⟩ => ⟨S4096x1792, .f32⟩
  | .hbm, ⟨57, _⟩ => ⟨S4096x1792, .f32⟩
  | .hbm, ⟨58, _⟩ => ⟨S4096x1792, .f32⟩
  | .hbm, ⟨59, _⟩ => ⟨S_, .f32⟩
  | .hbm, ⟨60, _⟩ => ⟨S4096x1792, .f32⟩
  | .hbm, ⟨61, _⟩ => ⟨S4096x1792, .f32⟩
  | .hbm, ⟨62, _⟩ => ⟨S4096x1792, .f32⟩
  | .hbm, ⟨63, _⟩ => ⟨S_, .f32⟩
  | .hbm, ⟨64, _⟩ => ⟨S4096x1792, .f32⟩
  | .hbm, ⟨65, _⟩ => ⟨S4096x1792, .f32⟩
  | .hbm, ⟨66, _⟩ => ⟨S4096x1792, .f32⟩
  | .hbm, ⟨67, _⟩ => ⟨S_, .f32⟩
  | .hbm, ⟨68, _⟩ => ⟨S4096x1792, .f32⟩
  | .hbm, ⟨69, _⟩ => ⟨S4096x1792, .f32⟩
  | _, _ => ⟨S4x4096x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== ProjFwd.lean ====
abbrev S4096x4096 : Shape := ⟨2, ![4096, 4096]⟩
abbrev S4096x14336 : Shape := ⟨2, ![4096, 14336]⟩
abbrev S7x4096x2048 : Shape := ⟨3, ![7, 4096, 2048]⟩
abbrev S1024x2048 : Shape := ⟨2, ![1024, 2048]⟩
abbrev S2048x2048 : Shape := ⟨2, ![2048, 2048]⟩
abbrev S1x1024x2048 : Shape := ⟨3, ![1, 1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x4096, .bf16⟩
  | .hbm, ⟨3, _⟩ => ⟨S4096x14336, .bf16⟩
  | .hbm, ⟨4, _⟩ => ⟨S7x4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjFwdRefIdeal.lean ====
abbrev S4096x4096 : Shape := ⟨2, ![4096, 4096]⟩
abbrev S4096x14336 : Shape := ⟨2, ![4096, 14336]⟩
abbrev S4096x7x2048 : Shape := ⟨3, ![4096, 7, 2048]⟩
abbrev S7x4096x2048 : Shape := ⟨3, ![7, 4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x14336, .f32⟩
  | .hbm, ⟨3, _⟩ => ⟨S4096x7x2048, .f32⟩
  | .hbm, ⟨4, _⟩ => ⟨S7x4096x2048, .f32⟩
  | .hbm, ⟨5, _⟩ => ⟨S7x4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjBwdW.lean ====
abbrev S4096x4096 : Shape := ⟨2, ![4096, 4096]⟩
abbrev S4096x14336 : Shape := ⟨2, ![4096, 14336]⟩
abbrev S4096x7x2048 : Shape := ⟨3, ![4096, 7, 2048]⟩
abbrev S7x4096x2048 : Shape := ⟨3, ![7, 4096, 2048]⟩
abbrev S2048x1024 : Shape := ⟨2, ![2048, 1024]⟩
abbrev S1x2048x2048 : Shape := ⟨3, ![1, 2048, 2048]⟩
abbrev S1024x2048 : Shape := ⟨2, ![1024, 2048]⟩
abbrev S2048x2048 : Shape := ⟨2, ![2048, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x7x2048, .f32⟩
  | .hbm, ⟨3, _⟩ => ⟨S7x4096x2048, .f32⟩
  | .hbm, ⟨4, _⟩ => ⟨S7x4096x2048, .bf16⟩
  | .hbm, ⟨5, _⟩ => ⟨S4096x4096, .bf16⟩
  | .hbm, ⟨6, _⟩ => ⟨S4096x14336, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdWRefIdeal.lean ====
abbrev S4096x4096 : Shape := ⟨2, ![4096, 4096]⟩
abbrev S4096x14336 : Shape := ⟨2, ![4096, 14336]⟩
abbrev S_ : Shape := ⟨0, ![]⟩
abbrev S14336x4096 : Shape := ⟨2, ![14336, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S_, .f32⟩
  | .hbm, ⟨3, _⟩ => ⟨S4096x14336, .f32⟩
  | .hbm, ⟨4, _⟩ => ⟨S4096x14336, .f32⟩
  | .hbm, ⟨5, _⟩ => ⟨S14336x4096, .f32⟩
  | .hbm, ⟨6, _⟩ => ⟨S4096x14336, .f32⟩
  | .hbm, ⟨7, _⟩ => ⟨S4096x14336, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjBwdX.lean ====
abbrev S4096x14336 : Shape := ⟨2, ![4096, 14336]⟩
abbrev S4096x7x2048 : Shape := ⟨3, ![4096, 7, 2048]⟩
abbrev S7x4096x2048 : Shape := ⟨3, ![7, 4096, 2048]⟩
abbrev S4096x4096 : Shape := ⟨2, ![4096, 4096]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x14336, .f32⟩
  | .hbm, ⟨1, _⟩ => ⟨S4096x14336, .f32⟩
  | .hbm, ⟨2, _⟩ => ⟨S4096x7x2048, .f32⟩
  | .hbm, ⟨3, _⟩ => ⟨S7x4096x2048, .f32⟩
  | .hbm, ⟨4, _⟩ => ⟨S7x4096x2048, .bf16⟩
  | .hbm, ⟨5, _⟩ => ⟨S4096x14336, .bf16⟩
  | .hbm, ⟨6, _⟩ => ⟨S4096x4096, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 7], ![false, false, false]⟩

def k0_cond3 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjBwdXRefIdeal.lean ====
abbrev S4096x14336 : Shape := ⟨2, ![4096, 14336]⟩
abbrev S_ : Shape := ⟨0, ![]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x14336, .f32⟩
  | .hbm, ⟨1, _⟩ => ⟨S4096x14336, .f32⟩
  | .hbm, ⟨2, _⟩ => ⟨S_, .f32⟩
  | .hbm, ⟨3, _⟩ => ⟨S4096x4096, .f32⟩
  | .hbm, ⟨4, _⟩ => ⟨S4096x14336, .f32⟩
  | .hbm, ⟨5, _⟩ => ⟨S4096x4096, .f32⟩
  | _, _ => ⟨S4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.RmsKernel.lean ====
module

public import Idealize.ShloMosaic.Lib.Pipeline.ValueKit
public import Idealize.ShloMosaic.Lib.Pointwise
public import Idealize.ShloMosaic.Lib.Claim
public import proofs.«01_k».proof.Proof.Gen.RmsBwdIdeal.Value

@[expose] public section

set_option maxRecDepth 16384

noncomputable section

/-! What the three results of the RMS-norm gradient hold after the kernel's run: each as one formula of the
    argument arrays, row by row. -/

namespace Cert.RmsBwdIdeal.Val

open Cert.RmsBwdIdeal Cert.RmsBwdIdeal.Gen Idealize.ShloMosaic Idealize.ShloMosaic.TcCoe Idealize.SL.Sem
open Idealize.ShloMosaic.Pipeline (Dat)

/-- Row `a`'s reciprocal root mean square. -/
def rstd (x : FVec Ideal S4096x4096 .f32) (a : Fin 4096) : Ideal .f32 :=
  Ideal.rsqrt (Ideal.div (∑ k : Fin 4096, x (ix2 a k) * x (ix2 a k)) (Ideal.ofBits .f32 1166016512#32)
    + Ideal.ofBits .f32 897988541#32)

/-- The gradient of the normalised rows plus the residual, as the kernel computes it. -/
def dx (dy x : FVec Ideal S4096x4096 .f32) (g : FVec Ideal S1x4096 .f32) (res : FVec Ideal S4096x4096 .f32) :
    FVec Ideal S4096x4096 .f32 := fun i =>
  res i + rstd x (i 0) * (dy i * g (ix2 0 (i 1)) - x i * rstd x (i 0) *
    Ideal.div (∑ k : Fin 4096, dy (ix2 (i 0) k) * g (ix2 0 k) * (x (ix2 (i 0) k) * rstd x (i 0)))
      (Ideal.ofBits .f32 1166016512#32))

/-- The gradient of the gain: over all rows, the cotangent times the normalised value. -/
def dg (dy x : FVec Ideal S4096x4096 .f32) : FVec Ideal S1x4096 .f32 := fun i =>
  ∑ a : Fin 4096, dy (ix2 a (i 1)) * (x (ix2 a (i 1)) * rstd x a)

variable (m : (ℓ : Loc nD τ sig) → Buf (Elt Ideal) ℓ)

/-- Every window's block at every grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

theorem point4 (c : Dev nD) (t : Fin cfg0.N) (y : S64x4096.Idx) :
    k0_pay4 (F := Ideal) (iblk m c 1 t) (iblk m c 0 t) (iblk m c 2 t) (iblk m c 3 t) y
      = dx (m ((c : Thread nD τ).loc main_arg0)) (m ((c : Thread nD τ).loc main_arg1)) (m ((c : Thread nD τ).loc main_arg2))
          (m ((c : Thread nD τ).loc main_arg3)) (((cfg0.win 4).blk t).view.emb y) := by
  pointwise [k0_pay4, k0_pay3, k0_pay2, dx, rstd]
  blk_point [iblk, V, idx t]

theorem point5 (c : Dev nD) (t : Fin cfg0.N) (y : S64x4096.Idx) :
    k0_pay5 (F := Ideal) (iblk m c 1 t) (iblk m c 0 t) (iblk m c 2 t) (iblk m c 3 t) y
      = dx (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay5, k0_pay4, k0_pay3, k0_pay2, dx, rstd]
  blk_point [iblk, V, idx t]

/-- The block of the gradient a grid point leaves. -/
theorem out4 (c : Dev nD) (t : Fin cfg0.N) :
    (outsAt0 m c t.val t.isLt).1 = k0_pay4 (F := Ideal) (iblk m c 1 t) (iblk m c 0 t) (iblk m c 2 t) (iblk m c 3 t) := by
  have hN : t.val < 64 := lt_of_lt_of_eq t.isLt N_0
  by_cases h0 : t.val % 64 = 0
  · rw [outsAt0_A m c t h0 (by omega)]; frame_out
  · rw [outsAt0_B m c t h0 (by omega)]; frame_out

/-- The block of its narrow copy. -/
theorem out5 (c : Dev nD) (t : Fin cfg0.N) :
    (outsAt0 m c t.val t.isLt).2.1 = k0_pay5 (F := Ideal) (iblk m c 1 t) (iblk m c 0 t) (iblk m c 2 t) (iblk m c 3 t) := by
  have hN : t.val < 64 := lt_of_lt_of_eq t.isLt N_0
  by_cases h0 : t.val % 64 = 0
  · rw [outsAt0_A m c t h0 (by omega)]; frame_out
  · rw [outsAt0_B m c t h0 (by omega)]; frame_out

/-- The kernel's first result is the gradient. -/
theorem final4 (c : Dev nD) : (dats m 0 c).arrAt 4 cfg0.N
    = dx (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4, out4]
  exact point4 m c t y

/-- Its second result is the same numbers. -/
theorem final5 (c : Dev nD) : (dats m 0 c).arrAt 5 cfg0.N
    = dx (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5, out5]
  exact point5 m c t y

/-- The sum over the grid of the points' shares of the gain's gradient, re-indexed over the rows. -/
theorem sum6 (c : Dev nD) (j : S1x4096.Idx) :
    ∑ t : Fin cfg0.N, k0_pay6 (F := Ideal) (iblk m c 1 t) (iblk m c 0 t) j
      = dg (m ((c : Thread nD τ).loc main_arg0)) (m ((c : Thread nD τ).loc main_arg1)) j := by
  pointwise [k0_pay6, k0_pay3, k0_pay2, dg, rstd]
  refine Fin.sum_mul_add_congr (S := 64) (n := 64) fun t a hl => ?_
  blk_point [iblk, V, idx t]

/-- The kernel's third result is the gain's gradient. -/
theorem final6 (c : Dev nD) : (dats m 0 c).arrAt 6 cfg0.N
    = dg (m ((c : Thread nD τ).loc main_arg0)) (m ((c : Thread nD τ).loc main_arg1)) := by
  refine (dats m 0 c).arrAt_eq_of_covers 6 _ (by decide +kernel) fun t hf y => ?_
  have hN : t.val < 64 := lt_of_lt_of_eq t.isLt N_0
  have h63 := (flush0_6 t).mp hf
  blk_simp
  rw [after0_6, Pipeline.eq_sum_fin_of_reset_step_apply_last (fun n h => (outsAt0 m c n h).2.2) 64 (fun _ => 0)
    (fun t => k0_pay6 (F := Ideal) (iblk m c 1 t) (iblk m c 0 t))
    (fun t h j => by
      have hN : t.val < 64 := lt_of_lt_of_eq t.isLt N_0
      rw [outsAt0_A m c t h (by omega)]; frame_out; rw [zero_add])
    (fun t h j => by
      rw [outsAt0_B m c t h (by omega)]; frame_out; pointwise [k0_pay1])
    (le_of_eq N_0) t (Eq.trans (by omega : t.val + 1 = 64) N_0.symm) y, zero_add, sum6]
  blk_point [idx t]

end Cert.RmsBwdIdeal.Val
-- ==== Proof.Lift.lean ====
module

public import Idealize.ShloMosaic.Lib.Pointwise
public import Idealize.ShloMosaic.Lib.IdealHost

@[expose] public section

noncomputable section

/-! Arithmetic on extended reals that happen to be real numbers: each operation of the extended reals on
    real arguments is the real operation. Used to carry an equation between two programs, whose arguments
    are assumed finite, over to the field of real numbers. -/

namespace Cert.Lift

open Idealize.ShloMosaic

/-- The literal 4096. -/
theorem lit_4096 : Ideal.ofBits .f32 1166016512#32 = ((4096 : ℝ) : EReal) := by
  simp [Ideal.ofBits, Ideal.ieee, -EReal.coe_mul]; norm_num

/-- The literal 2048. -/
theorem lit_2048 : Ideal.ofBits .f32 0x45000000#32 = ((2048 : ℝ) : EReal) := by
  simp [Ideal.ofBits, Ideal.ieee, -EReal.coe_mul]; norm_num

/-- The literal −1/2. -/
theorem lit_neg_half : Ideal.ofBits .f32 0xBF000000#32 = ((-(1 / 2) : ℝ) : EReal) := by
  simp [Ideal.ofBits, Ideal.ieee, -EReal.coe_mul, -EReal.coe_neg]; norm_num

/-- The real number that the literal 1e-6 of a normalisation denotes. -/
def eps : ℝ := 1 * (2 ^ 23 + (407485 : ℕ) : ℕ) * (2 : ℝ) ^ ((107 : ℤ) - 127 - 23)

theorem eps_pos : 0 < eps := by unfold eps; positivity

/-- The literal 1e-6 is the positive real `eps`. -/
theorem lit_eps : Ideal.ofBits .f32 897988541#32 = (eps : EReal) := by
  simp [Ideal.ofBits, Ideal.ieee, -EReal.coe_mul, eps]

theorem add (a b : ℝ) : (a : EReal) + (b : EReal) = ((a + b : ℝ) : EReal) := (EReal.coe_add a b).symm
theorem sub (a b : ℝ) : (a : EReal) - (b : EReal) = ((a - b : ℝ) : EReal) := (EReal.coe_sub a b).symm
theorem mul (a b : ℝ) : (a : EReal) * (b : EReal) = ((a * b : ℝ) : EReal) := (EReal.coe_mul a b).symm
theorem neg (a : ℝ) : -(a : EReal) = ((-a : ℝ) : EReal) := (EReal.coe_neg a).symm

/-- A finite sum of reals, taken in the extended reals. -/
theorem sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, add]

/-- Division by a real that is not zero. -/
theorem div (a : ℝ) {b : ℝ} (h : b ≠ 0) : Ideal.div (a : EReal) (b : EReal) = ((a / b : ℝ) : EReal) := by
  rw [Ideal.div_coe h, mul, mul_one_div]

/-- The reciprocal square root of a positive real. -/
theorem rsqrt {v : ℝ} (h : 0 < v) : Ideal.rsqrt (v : EReal) = (((Real.sqrt v)⁻¹ : ℝ) : EReal) := by
  rw [Ideal.rsqrt_coe, if_neg (not_lt.mpr h.le), if_neg h.ne']

/-- The literals 0, 1 and +∞. -/
theorem lit_zero : Ideal.ofBits .f32 0x00000000#32 = 0 := by simp [Ideal.ofBits, Ideal.ieee]

theorem lit_one : Ideal.ofBits .f32 0x3F800000#32 = ((1 : ℝ) : EReal) := by
  simp [Ideal.ofBits, Ideal.ieee, -EReal.coe_mul]; norm_num

theorem lit_top : Ideal.ofBits .f32 0x7F800000#32 = ⊤ := by simp [Ideal.ofBits, Ideal.ieee]

/-- An extended real of absolute value below the literal +∞ is a real. -/
theorem real_of_abs_lt {x : EReal} (h : max x (-x) < ⊤) : ∃ r : ℝ, x = (r : EReal) := by
  rw [max_lt_iff] at h
  refine ⟨x.toReal, (EReal.coe_toReal (ne_of_lt h.1) ?_).symm⟩
  intro hb
  rw [hb, EReal.neg_bot] at h
  exact lt_irrefl _ h.2

/-- Extended reals all of absolute value below +∞ are reals. -/
theorem reals {ι : Type*} {x : ι → EReal} (h : ∀ i, max (x i) (-(x i)) < ⊤) : ∃ r : ι → ℝ, x = fun i => (r i : EReal) :=
  ⟨fun i => (real_of_abs_lt (h i)).choose, funext fun i => (real_of_abs_lt (h i)).choose_spec⟩

end Cert.Lift
-- ==== Proof.RmsMath.lean ====
module

public import proofs.«01_k».proof.Proof.Lift

@[expose] public section

noncomputable section

/-! The gradient of one normalised row, over the real numbers and then over the extended reals. -/

namespace Cert.RmsMath

open Idealize.ShloMosaic Cert.Lift

/-- Over the reals: with `r² v = 1`, differentiating the mean square by the chain rule (left) gives the usual closed
    form (right). `S` is the row's inner product with the cotangent, `n` its length. -/
theorem row {r v n x d S : ℝ} (hn : n ≠ 0) (hv : v ≠ 0) (hr : r * r * v = 1) :
    d * r + x * (S * (-(1 / 2) * (r / v)) / n) + S * (-(1 / 2) * (r / v)) / n * x
      = r * (d - x * r * (S * r / n)) := by
  have hv' : v = 1 / (r * r) := by
    have : r * r ≠ 0 := fun h => by rw [h, zero_mul] at hr; exact zero_ne_one hr
    rw [eq_div_iff this]; linarith
  have hr0 : r ≠ 0 := fun h => by rw [h] at hr; simp at hr
  subst hv'
  field_simp
  ring

/-- A mean square plus `eps` is positive. -/
theorem mean_pos {ι : Type*} [Fintype ι] (x : ι → ℝ) {n : ℝ} (hn : 0 < n) : 0 < (∑ k, x k * x k) / n + eps :=
  add_pos_of_nonneg_of_pos (div_nonneg (Finset.sum_nonneg fun k _ => mul_self_nonneg _) hn.le) eps_pos

/-- The square of the reciprocal root. -/
theorem sqrt_inv_sq {v : ℝ} (hv : 0 < v) : (Real.sqrt v)⁻¹ * (Real.sqrt v)⁻¹ * v = 1 := by
  rw [← mul_inv, Real.mul_self_sqrt hv.le, inv_mul_cancel₀ hv.ne']

/-- The two forms of the row's gradient agree on rows of real numbers, in the extended reals' arithmetic. -/
theorem row_ext {ι : Type*} [Fintype ι] (x d : ι → ℝ) (j : ι) :
    let lit := ((4096 : ℝ) : EReal)
    let V := Ideal.div (∑ k, (x k : EReal) * (x k : EReal)) lit + (eps : EReal)
    let R := Ideal.rsqrt V
    let W := Ideal.div ((∑ k, (x k : EReal) * (d k : EReal)) * (((-(1 / 2) : ℝ) : EReal) * Ideal.div R V)) lit
    (d j : EReal) * R + (x j : EReal) * W + W * (x j : EReal)
      = R * ((d j : EReal) - (x j : EReal) * R * Ideal.div (∑ k, (d k : EReal) * ((x k : EReal) * R)) lit) := by
  have hv := mean_pos x (n := 4096) (by norm_num)
  simp only [mul, sum, div _ (show (4096 : ℝ) ≠ 0 by norm_num), add, rsqrt hv, div _ hv.ne', sub]
  rw [EReal.coe_eq_coe_iff, row (by norm_num) hv.ne' (sqrt_inv_sq hv)]
  congr 5
  rw [Finset.sum_mul]
  exact Finset.sum_congr rfl fun k _ => by ring

end Cert.RmsMath
-- ==== Proof.RmsAgree.lean ====
module

public import proofs.«01_k».proof.Proof.RmsKernel
public import proofs.«01_k».proof.Proof.RmsMath
public import proofs.«01_k».proof.Proof.Gen.RmsRefIdeal.Read
public import proofs.«01_k».proof.Proof.Gen.Pre_rms_bwd_finite

@[expose] public section

set_option maxRecDepth 16384

noncomputable section

/-! The reference's two formulas for the RMS-norm gradient, and their agreement with the kernel's when the
    arguments the derivative multiplies are finite. -/

namespace Cert.RmsAgree

open Idealize.ShloMosaic Cert.RmsRefIdeal Cert.RmsRefIdeal.Read Cert.Lift
open Cert.RmsBwdIdeal.Val (dx dg rstd)

variable (dy x : FVec Ideal S4096x4096 .f32) (g : FVec Ideal S1x4096 .f32) (res : FVec Ideal S4096x4096 .f32)

/-- Arrays the precondition admits are arrays of real numbers. -/
theorem finite (h1 : (Cert.Pre_rms_bwd_finite.fn (F := Ideal) dy x g res).1 = fun _ => 1#1)
    (h2 : (Cert.Pre_rms_bwd_finite.fn (F := Ideal) dy x g res).2.1 = fun _ => 1#1)
    (h3 : (Cert.Pre_rms_bwd_finite.fn (F := Ideal) dy x g res).2.2 = fun _ => 1#1) :
    (∃ a : S4096x4096.Idx → ℝ, dy = fun i => (a i : EReal)) ∧ (∃ a : S4096x4096.Idx → ℝ, x = fun i => (a i : EReal))
      ∧ ∃ a : S1x4096.Idx → ℝ, g = fun i => (a i : EReal) := by
  refine ⟨reals fun i => ?_, reals fun i => ?_, reals fun i => ?_⟩
  · have := congrFun h1 i
    rw [← lit_top]
    exact (Ideal.cmp_olt_eq_one _ _).mp this
  · have := congrFun h2 i
    rw [← lit_top]
    exact (Ideal.cmp_olt_eq_one _ _).mp this
  · have := congrFun h3 i
    rw [← lit_top]
    exact (Ideal.cmp_olt_eq_one _ _).mp this

/-- The reference's gradient, as one formula: the chain rule through the mean square. -/
def rdx : FVec Ideal S4096x4096 .f32 := fun i =>
  let V := Ideal.div (∑ k : Fin 4096, x (ix2 (i 0) k) * x (ix2 (i 0) k)) (Ideal.ofBits .f32 1166016512#32) + Ideal.ofBits .f32 897988541#32
  let W := Ideal.div ((∑ k : Fin 4096, x (ix2 (i 0) k) * (dy (ix2 (i 0) k) * g (ix2 0 k))) *
    (Ideal.ofBits .f32 3204448256#32 * Ideal.div (rstd x (i 0)) V)) (Ideal.ofBits .f32 1166016512#32)
  res i + (dy i * g (ix2 0 (i 1)) * rstd x (i 0) + x i * W + W * x i)

theorem ref_dx : val_main_v38 (F := Ideal) dy x g res = rdx dy x g res := by
  funext i
  pointwise [val_main_v38_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v21_apply, val_main_v20_apply, val_main_v16_apply, val_main_v15_apply, val_main_v14_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply, val_main_cst_5_apply, val_main_cst_6_apply, val_main_cst_7_apply, rdx, rstd]
  simp only [Fin.sum_univ_one]
  blk_point []

/-- On finite arguments it is the kernel's gradient. -/
theorem dx_eq (hd : ∃ a : S4096x4096.Idx → ℝ, dy = fun i => (a i : EReal)) (hx : ∃ a : S4096x4096.Idx → ℝ, x = fun i => (a i : EReal))
    (hg : ∃ a : S1x4096.Idx → ℝ, g = fun i => (a i : EReal)) : rdx dy x g res = dx dy x g res := by
  obtain ⟨d, rfl⟩ := hd
  obtain ⟨x, rfl⟩ := hx
  obtain ⟨g, rfl⟩ := hg
  funext i
  obtain ⟨a, b, rfl⟩ : ∃ a b : Fin 4096, i = ix2 a b := ⟨i 0, i 1, by blk_ext []⟩
  have h := Cert.RmsMath.row_ext (fun k => x (ix2 a k)) (fun k => d (ix2 a k) * g (ix2 0 k)) b
  simp only [← mul] at h
  simp only [rdx, dx, rstd, lit_4096, lit_eps, lit_neg_half]
  exact congrArg (res (ix2 a b) + ·) h

/-- The reference's gain gradient is the kernel's: multiplication commutes. -/
theorem ref_dg : val_main_v37 (F := Ideal) dy x = dg dy x := by
  funext i
  pointwise [val_main_v37_apply, val_main_v22_apply, val_main_v19_apply, val_main_v18_apply, val_main_v17_apply, val_main_v13_apply,
    val_main_v12_apply, val_main_v8_apply, val_main_v7_apply, val_main_v6_apply, val_main_v5_apply, val_main_v4_apply, val_main_v3_apply,
    val_main_v2_apply, val_main_v1_apply, val_main_cst_apply, val_main_cst_0_apply, val_main_cst_1_apply, val_main_cst_3_apply, val_main_cst_4_apply, dg, rstd]
  rw [Fin.sum_univ_one]
  refine Finset.sum_congr rfl fun a _ => ?_
  rw [mul_comm]
  blk_point []

end Cert.RmsAgree
-- ==== Proof.Rms.lean ====
module

public import proofs.«01_k».proof.Defs
public import proofs.«01_k».proof.Proof.RmsAgree
public import proofs.«01_k».proof.Proof.Gen.RmsBwd.Frame
public import proofs.«01_k».proof.Proof.Gen.RmsRefIdeal.Run
public import Idealize.ShloMosaic.Adequacy
public import Idealize.ShloMosaic.Lib.Quiescent
public import Idealize.ShloMosaic.Init

@[expose] public section

set_option maxRecDepth 16384

noncomputable section

/-! The claims about the RMS-norm gradient, assembled. -/

namespace Cert.Rms

open Idealize.ShloMosaic Idealize.SL.Sem

/-- The reference's three results, in the kernel's formulas, at memories whose arguments agree and are admitted by the
    precondition. -/
theorem results (m' : (ℓ : Loc Cert.RmsRefIdeal.nD Cert.RmsRefIdeal.τ Cert.RmsRefIdeal.sig) → Buf (Elt Ideal) ℓ)
    (g' : Dev Cert.RmsRefIdeal.nD → PrngReg) (dy x res : Dev Cert.RmsRefIdeal.nD → FVec Ideal Cert.RmsRefIdeal.S4096x4096 .f32)
    (g : Dev Cert.RmsRefIdeal.nD → FVec Ideal Cert.RmsRefIdeal.S1x4096 .f32)
    (hp : ∀ c, (Cert.Pre_rms_bwd_finite.fn (F := Ideal) (dy c) (x c) (g c) (res c)).1 = (fun _ => 1#1)
      ∧ (Cert.Pre_rms_bwd_finite.fn (F := Ideal) (dy c) (x c) (g c) (res c)).2.1 = (fun _ => 1#1)
      ∧ (Cert.Pre_rms_bwd_finite.fn (F := Ideal) (dy c) (x c) (g c) (res c)).2.2 = (fun _ => 1#1))
    (ha : ∀ c : Dev Cert.RmsRefIdeal.nD, m' (c.tc.loc Cert.RmsRefIdeal.main_arg0) = dy c ∧ m' (c.tc.loc Cert.RmsRefIdeal.main_arg1) = x c
      ∧ m' (c.tc.loc Cert.RmsRefIdeal.main_arg2) = g c ∧ m' (c.tc.loc Cert.RmsRefIdeal.main_arg3) = res c) :
    θ_run (Cert.RmsRefIdeal.defs (F := Ideal)) (onTc (τ := Cert.RmsRefIdeal.τ) (Cert.RmsRefIdeal.main (F := Ideal))) ⟨m', fun _ => 0, g'⟩
      fun r => ∀ c : Dev Cert.RmsRefIdeal.nD,
        r.2.mem (c.tc.loc Cert.RmsRefIdeal.main_v38) = Cert.RmsBwdIdeal.Val.dx (dy c) (x c) (g c) (res c)
        ∧ r.2.mem (c.tc.loc Cert.RmsRefIdeal.main_v39) = Cert.RmsBwdIdeal.Val.dx (dy c) (x c) (g c) (res c)
        ∧ r.2.mem (c.tc.loc Cert.RmsRefIdeal.main_v37) = Cert.RmsBwdIdeal.Val.dg (dy c) (x c)
        ∧ r.2.mem (c.tc.loc Cert.RmsRefIdeal.main_arg0) = m' (c.tc.loc Cert.RmsRefIdeal.main_arg0)
        ∧ r.2.mem (c.tc.loc Cert.RmsRefIdeal.main_arg1) = m' (c.tc.loc Cert.RmsRefIdeal.main_arg1)
        ∧ r.2.mem (c.tc.loc Cert.RmsRefIdeal.main_arg2) = m' (c.tc.loc Cert.RmsRefIdeal.main_arg2)
        ∧ r.2.mem (c.tc.loc Cert.RmsRefIdeal.main_arg3) = m' (c.tc.loc Cert.RmsRefIdeal.main_arg3) := by
  refine (θ_run _ _ _).mono (fun r h c => ?_) (Cert.RmsRefIdeal.Value.run m' g')
  obtain ⟨h0, h1, h2, hr⟩ := h c
  obtain ⟨a0, a1, a2, a3⟩ := ha c
  obtain ⟨hd, hx, hg⟩ := Cert.RmsAgree.finite (dy c) (x c) (g c) (res c) (hp c).1 (hp c).2.1 (hp c).2.2
  have e := (Cert.RmsAgree.ref_dx (dy c) (x c) (g c) (res c)).trans (Cert.RmsAgree.dx_eq (dy c) (x c) (g c) (res c) hd hx hg)
  refine ⟨?_, ?_, ?_, hr⟩
  · rw [h0, Cert.RmsRefIdeal.Read.val_main_v38_eq, a0, a1, a2, a3, e]
  · rw [h1, Cert.RmsRefIdeal.Read.val_main_v39_eq, a0, a1, a2, a3]
    exact e
  · rw [h2, Cert.RmsRefIdeal.Read.val_main_v37_eq, a0, a1, Cert.RmsAgree.ref_dg]

/-- Over the reals kernel and reference return the same three arrays, whenever cotangent, rows and gain are finite. -/
theorem algebraic : Cert.algebraic_RmsBwdIdeal_RmsRefIdeal_pre_rms_bwd_finite := by
  intro m g m' g' hp ha
  refine ⟨_, _, _, ?_, results m' g' (fun c => m (c.tc.loc Cert.RmsBwdIdeal.main_arg0)) (fun c => m (c.tc.loc Cert.RmsBwdIdeal.main_arg1))
    (fun c => m (c.tc.loc Cert.RmsBwdIdeal.main_arg3)) (fun c => m (c.tc.loc Cert.RmsBwdIdeal.main_arg2)) hp ha⟩
  refine (θ_run _ _ _).mono (fun r h c => ?_) (Cert.RmsBwdIdeal.Value.run_blocks m g)
  obtain ⟨h4, h5, h6, hr⟩ := h c
  exact ⟨h4.trans (Cert.RmsBwdIdeal.Val.final4 m c), h5.trans (Cert.RmsBwdIdeal.Val.final5 m c),
    h6.trans (Cert.RmsBwdIdeal.Val.final6 m c), hr⟩

/-- The reference runs, leaves its arguments alone, and has no semaphore to leave raised. -/
theorem frame_ref : Cert.quiescent_RmsRefIdeal := fun m g _ =>
  (θ_run _ _ _).mono (fun r h => ⟨fun c => (h c).2.2.2, sem_eq_zero_of_no_sems (by decide) r.2⟩) (Cert.RmsRefIdeal.Value.run m g)

/-- The kernel runs and leaves its arguments alone, in machine arithmetic. -/
theorem frame : Cert.quiescent_RmsBwd := fun m g _ => Cert.RmsBwd.Gen.frame m g

/-- The kernel runs and leaves its arguments alone, over the reals. -/
theorem frame_ideal : Cert.quiescent_RmsBwdIdeal := fun m g _ => Cert.RmsBwdIdeal.Gen.frame m g

end Cert.Rms
-- ==== Proof.AttnMath.lean ====
module

public import proofs.«01_k».proof.Proof.Lift
public import Mathlib.Analysis.SpecialFunctions.Exp
public import Mathlib.Algebra.BigOperators.Fin

@[expose] public section

noncomputable section

/-! One head of banded attention over the real numbers, and its gradients: every pair of positions at once, the
    pairs outside the band of chunks weighing nothing. -/

namespace Cert.AttnMath

/-- Position `j` is in the chunk of position `i` or in one of the eight chunks before it. -/
def band (i j : ℕ) : Prop := j / 64 ≤ i / 64 ∧ i / 64 ≤ j / 64 + 8

instance (i j : ℕ) : Decidable (band i j) := inferInstanceAs (Decidable (_ ∧ _))

/-- The entry of the bias table that a query at `i` and a key at `j` share: their distance, cut to −256 … 256. -/
def rel (i j : ℕ) : Fin 513 := ⟨min (i + 256 - j) 512, by omega⟩

/-- Position `r` of the `n`-th block of 512. -/
def pos (n : Fin 8) (r : Fin 512) : Fin 4096 := ⟨512 * n.val + r.val, by omega⟩

/-- The block before, or the first block itself. -/
def pred (n : Fin 8) : Fin 8 := ⟨n.val - 1, by omega⟩

/-- A sum over the positions, block by block. -/
theorem sum_pos {M : Type*} [AddCommMonoid M] (f : Fin 4096 → M) : ∑ j, f j = ∑ n, ∑ r, f (pos n r) := by
  rw [← Fintype.sum_prod_type']
  exact (Fintype.sum_equiv (finProdFinEquiv (m := 8) (n := 512)) _ _ fun p => congrArg f (Fin.ext (by
    simp [pos, finProdFinEquiv]; omega))).symm

/-- Of a query in block `n` only the keys of block `n` and of the block before are in the band. -/
theorem band_block {n b : Fin 8} {r x : Fin 512} (h : band (pos n r).val (pos b x).val) : b = n ∨ (n ≠ 0 ∧ b = pred n) := by
  simp only [band, pos] at h
  rcases eq_or_ne n 0 with rfl | h0
  · refine Or.inl (Fin.ext ?_); simp at h ⊢; omega
  · have h1 : n.val ≠ 0 := fun e => h0 (Fin.ext e)
    by_cases e : b = n
    · exact Or.inl e
    · have : b.val ≠ n.val := fun e' => e (Fin.ext e')
      refine Or.inr ⟨h0, Fin.ext ?_⟩
      simp only [pred]; omega

/-- A sum over the keys of a query of block `n`, of terms that vanish outside the band. -/
theorem sum_keys {M : Type*} [AddCommMonoid M] (n : Fin 8) (r : Fin 512) (f : Fin 4096 → M) (hf : ∀ j, ¬band (pos n r).val j.val → f j = 0) :
    ∑ j, f j = (∑ x, if n = 0 then 0 else f (pos (pred n) x)) + ∑ x, f (pos n x) := by
  rw [sum_pos]
  have hz (b : Fin 8) (hb : b ≠ n) (hb' : ¬(n ≠ 0 ∧ b = pred n)) : ∑ x, f (pos b x) = 0 :=
    Finset.sum_eq_zero fun x _ => hf _ fun h => (band_block h).elim hb hb'
  rcases eq_or_ne n 0 with rfl | h0
  · simp only [if_true, Finset.sum_const_zero, zero_add]
    exact Finset.sum_eq_single 0 (fun b _ hb => hz b hb (fun h => h.1 rfl)) (by simp)
  · simp only [h0, if_false]
    have hne : pred n ≠ n := fun e => h0 (Fin.ext (by have := congrArg Fin.val e; simp only [pred] at this; simp; omega))
    rw [← Finset.sum_pair hne (f := fun b => ∑ x, f (pos b x))]
    refine (Finset.sum_subset (Finset.subset_univ _) fun b _ hb => ?_).symm
    simp only [Finset.mem_insert, Finset.mem_singleton, not_or] at hb
    exact hz b hb.2 fun h => hb.1 h.2

/-- A sum over the queries of a key of block `b`, of terms that vanish outside the band: those of block `b` and, but for
    the last block, those of the next. -/
theorem sum_queries {M : Type*} [AddCommMonoid M] (b : Fin 8) (x : Fin 512) (f : Fin 4096 → M) (hf : ∀ i, ¬band i.val (pos b x).val → f i = 0) :
    ∑ i, f i = (∑ r, f (pos b r)) + if h : b.val + 1 < 8 then ∑ r, f (pos ⟨b.val + 1, h⟩ r) else 0 := by
  rw [sum_pos]
  have hz (n : Fin 8) (hn : b ≠ n) (hn' : ¬(n ≠ 0 ∧ b = pred n)) : ∑ r, f (pos n r) = 0 :=
    Finset.sum_eq_zero fun r _ => hf _ fun h => (band_block h).elim hn hn'
  by_cases h : b.val + 1 < 8
  · rw [dif_pos h]
    have hne : b ≠ ⟨b.val + 1, h⟩ := fun e => by have := congrArg Fin.val e; simp at this
    rw [← Finset.sum_pair hne (f := fun n => ∑ r, f (pos n r))]
    refine (Finset.sum_subset (Finset.subset_univ _) fun n _ hn => ?_).symm
    simp only [Finset.mem_insert, Finset.mem_singleton, not_or] at hn
    refine hz n (fun e => hn.1 e.symm) fun h' => hn.2 (Fin.ext ?_)
    have h1 : n.val ≠ 0 := fun e => h'.1 (Fin.ext e)
    have := congrArg Fin.val h'.2
    simp only [pred] at this ⊢; omega
  · rw [dif_neg h, add_zero]
    refine Finset.sum_eq_single b (fun n _ hn => hz n (fun e => hn e.symm) fun h' => ?_) (by simp)
    have h1 : n.val ≠ 0 := fun e => h'.1 (Fin.ext e)
    have := congrArg Fin.val h'.2
    simp only [pred] at this; omega

variable (Q K V D : Fin 4096 → Fin 128 → ℝ) (T : Fin 513 → ℝ) (s : ℝ)

/-- The score of a pair: scaled product of query and key plus the distance's bias. -/
def score (i j : Fin 4096) : ℝ := (∑ d, Q i d * K j d) * s + T (rel i.val j.val)

/-- The weight of a pair before normalisation. -/
def wt (i j : Fin 4096) : ℝ := if band i.val j.val then Real.exp (score Q K T s i j) else 0

/-- A query's total weight. -/
def tot (i : Fin 4096) : ℝ := ∑ j, wt Q K T s i j

/-- The attention probability of a pair. -/
def P (i j : Fin 4096) : ℝ := wt Q K T s i j / tot Q K T s i

/-- The gradient of the loss with respect to a probability, before the softmax's constraint. -/
def dP (i j : Fin 4096) : ℝ := ∑ d, D i d * V j d

/-- The mean of `dP` under a query's probabilities. -/
def mean (i : Fin 4096) : ℝ := ∑ j, P Q K T s i j * dP V D i j

/-- The gradient with respect to a score. -/
def dS (i j : Fin 4096) : ℝ := P Q K T s i j * (dP V D i j - mean Q K V D T s i)

/-- The gradient with respect to the queries. -/
def dQ (i : Fin 4096) (d : Fin 128) : ℝ := ∑ j, dS Q K V D T s i j * s * K j d

/-- The gradient with respect to the keys. -/
def dK (j : Fin 4096) (d : Fin 128) : ℝ := ∑ i, dS Q K V D T s i j * s * Q i d

/-- The gradient with respect to the values. -/
def dV (j : Fin 4096) (d : Fin 128) : ℝ := ∑ i, P Q K T s i j * D i d

/-- The gradient with respect to the head's bias table. -/
def dT (e : Fin 513) : ℝ := ∑ i : Fin 4096, ∑ j : Fin 4096, if rel i.val j.val = e then dS Q K V D T s i j else 0

theorem wt_nonneg (i j : Fin 4096) : 0 ≤ wt Q K T s i j := by unfold wt; split <;> positivity

theorem wt_off {i j : Fin 4096} (h : ¬band i.val j.val) : wt Q K T s i j = 0 := if_neg h

theorem P_off {i j : Fin 4096} (h : ¬band i.val j.val) : P Q K T s i j = 0 := by rw [P, wt_off Q K T s h, zero_div]

theorem dS_off {i j : Fin 4096} (h : ¬band i.val j.val) : dS Q K V D T s i j = 0 := by rw [dS, P_off Q K T s h, zero_mul]

theorem tot_pos (i : Fin 4096) : 0 < tot Q K T s i :=
  have hb : band i.val i.val := ⟨le_rfl, by omega⟩
  Finset.sum_pos' (fun j _ => wt_nonneg Q K T s i j) ⟨i, Finset.mem_univ i, by
    rw [wt, if_pos hb]; positivity⟩

end Cert.AttnMath
-- ==== Proof.Soft.lean ====
module

public import proofs.«01_k».proof.Proof.Lift
public import Mathlib.Analysis.SpecialFunctions.Exp

@[expose] public section

noncomputable section

/-! Masked scores: a real number, or −∞ where the mask is off. Their maximum, and their exponentials, which are
    real. -/

namespace Cert.Soft

open Idealize.ShloMosaic

/-- A score where the mask is on, −∞ where it is off. -/
def masked (b : Prop) [Decidable b] (a : ℝ) : EReal := if b then (a : EReal) else ⊥

/-- The literal −∞. -/
theorem lit_bot : Ideal.ofBits .f32 0xFF800000#32 = ⊥ := by simp [Ideal.ofBits, Ideal.ieee]

/-- A real added to a masked score. -/
theorem add_masked (b : Prop) [Decidable b] (c a : ℝ) : (c : EReal) + masked b a = masked b (c + a) := by
  unfold masked; split
  · exact Lift.add c a
  · exact EReal.add_bot _

theorem masked_lt_top (b : Prop) [Decidable b] (a : ℝ) : masked b a < ⊤ := by
  unfold masked; split
  · exact EReal.coe_lt_top a
  · exact bot_lt_top

theorem bot_lt_masked {b : Prop} [Decidable b] (h : b) (a : ℝ) : ⊥ < masked b a := by
  unfold masked; rw [if_pos h]; exact EReal.bot_lt_coe a

/-- The exponential of a masked score less a real. -/
theorem exp_masked (b : Prop) [Decidable b] (a μ : ℝ) :
    Ideal.exp (masked b a - (μ : EReal)) = (((if b then Real.exp a else 0) * Real.exp (-μ) : ℝ) : EReal) := by
  unfold masked; split
  · rw [Lift.sub, Ideal.exp_coe, sub_eq_add_neg, Real.exp_add]
  · rw [EReal.bot_sub, Ideal.exp_bot, zero_mul, EReal.coe_zero]

variable {ι : Type*} [Fintype ι]

theorem fold_lt_top {f : ι → EReal} (h : ∀ x, f x < ⊤) : Finset.fold max ⊥ f Finset.univ < ⊤ :=
  (Finset.fold_max_lt _).mpr ⟨bot_lt_top, fun x _ => h x⟩

theorem bot_lt_fold {f : ι → EReal} {x : ι} (h : ⊥ < f x) : ⊥ < Finset.fold max ⊥ f Finset.univ :=
  (Finset.lt_fold_max _).mpr (Or.inr ⟨x, Finset.mem_univ x, h⟩)

/-- An extended real strictly between the infinities. -/
theorem real_of_lt {x : EReal} (h : ⊥ < x) (h' : x < ⊤) : ∃ μ : ℝ, x = (μ : EReal) :=
  ⟨x.toReal, (EReal.coe_toReal h'.ne h.ne').symm⟩

/-- The maximum of extended reals below +∞, one of them above −∞, is a real. -/
theorem fold_real {f : ι → EReal} (h : ∀ x, f x < ⊤) {x : ι} (hx : ⊥ < f x) :
    ∃ μ : ℝ, Finset.fold max ⊥ f Finset.univ = (μ : EReal) :=
  real_of_lt (bot_lt_fold hx) (fold_lt_top h)

/-- The larger of two such maxima, where the second has the element above −∞. -/
theorem max_fold_real {f g : ι → EReal} (hf : ∀ x, f x < ⊤) (hg : ∀ x, g x < ⊤) {x : ι} (hx : ⊥ < g x) :
    ∃ μ : ℝ, max (Finset.fold max ⊥ f Finset.univ) (Finset.fold max ⊥ g Finset.univ) = (μ : EReal) :=
  real_of_lt (lt_max_of_lt_right (bot_lt_fold hx)) (max_lt (fold_lt_top hf) (fold_lt_top hg))

end Cert.Soft
-- ==== Proof.AttnBlock.lean ====
module

public import Idealize.ShloMosaic.Lib.Pipeline.ValueKit
public import Idealize.ShloMosaic.Lib.Pointwise
public import proofs.«01_k».proof.Proof.Gen.AttnBwdIdeal.Skeleton
public import proofs.«01_k».proof.Proof.AttnMath
public import proofs.«01_k».proof.Proof.Soft

@[expose] public section

set_option maxRecDepth 16384

noncomputable section

/-! The arithmetic of one block of queries: what the kernel computes from the block's queries, the two blocks of
    keys and values it sees, its cotangents and its biases, as the real formulas of attention's gradient. -/

namespace Cert.AttnBwdIdeal.Val

open Cert.AttnBwdIdeal Cert.AttnBwdIdeal.Gen Idealize.ShloMosaic Idealize.ShloMosaic.TcCoe
open Cert.AttnMath (pos pred band rel)

/-- The real number that the literal 128^(-1/2) denotes. -/
def scale : ℝ := 1 * (2 ^ 23 + (3474675 : ℕ) : ℕ) * (2 : ℝ) ^ ((123 : ℤ) - 127 - 23)

theorem lit_scale : Ideal.ofBits .f32 1035273459#32 = (scale : EReal) := by
  simp [Ideal.ofBits, Ideal.ieee, -EReal.coe_mul, scale]

/-- The eight blocks that the body reads when it treats the `n`-th block of one head's queries, as real numbers:
    queries, keys and values of the block before and of this one, cotangents, and the two halves of the bias. -/
structure Reads (Q K W D : Fin 4096 → Fin 128 → ℝ) (T : Fin 513 → ℝ) (n : Fin 8) (a : BitVec 32)
    (q kp kc vp vc o : Vec Ideal S1x512x128 .bf16) (bp bc : Vec Ideal S1x512x512 .f32) : Prop where
  first : a = 0#32 ↔ n = 0
  hq : ∀ r d, q (ix3 0 r d) = (Q (pos n r) d : EReal)
  hkp : ∀ x d, kp (ix3 0 x d) = (K (pos (pred n) x) d : EReal)
  hkc : ∀ x d, kc (ix3 0 x d) = (K (pos n x) d : EReal)
  hvp : ∀ x d, vp (ix3 0 x d) = (W (pos (pred n) x) d : EReal)
  hvc : ∀ x d, vc (ix3 0 x d) = (W (pos n x) d : EReal)
  ho : ∀ r d, o (ix3 0 r d) = (D (pos n r) d : EReal)
  hbp : ∀ r x, n ≠ 0 → bp (ix3 0 r x) = Soft.masked (band (pos n r) (pos (pred n) x)) (T (rel (pos n r) (pos (pred n) x)))
  hbp_lt : ∀ r x, bp (ix3 0 r x) < ⊤
  hbc : ∀ r x, bc (ix3 0 r x) = Soft.masked (band (pos n r) (pos n x)) (T (rel (pos n r) (pos n x)))

variable {Q K W D : Fin 4096 → Fin 128 → ℝ} {T : Fin 513 → ℝ} {n : Fin 8} {a : BitVec 32}
  {q kp kc vp vc o : Vec Ideal S1x512x128 .bf16} {bp bc : Vec Ideal S1x512x512 .f32}
  (h : Reads Q K W D T n a q kp kc vp vc o bp bc)
include h

open AttnMath in
/-- The scores against the keys of this block. -/
theorem score_cur (r x : Fin 512) : k0_pay18 (F := Ideal) q kc bc (ix2 r x)
    = Soft.masked (band (pos n r) (pos n x)) (score Q K T scale (pos n r) (pos n x)) := by
  pointwise [k0_pay18, k0_pay13, k0_pay15]
  simp only [h.hq, h.hkc, h.hbc, lit_scale, Lift.mul, Lift.sum, Soft.add_masked]
  rfl

open AttnMath in
/-- The scores against the keys of the block before; −∞ when there is none. -/
theorem score_prev (r x : Fin 512) : k0_pay17 (F := Ideal) a q kp bp (ix2 r x)
    = Soft.masked (n ≠ 0 ∧ band (pos n r) (pos (pred n) x)) (score Q K T scale (pos n r) (pos (pred n) x)) := by
  pointwise [k0_pay17, k0_pay13, k0_pay14]
  by_cases hn : n = 0
  · have ha : a = 0#32 := h.first.mpr hn
    rw [ha, IdealRules.named_const.ideal_named_scalar _ _ _ _ rfl]
    simp only [Soft.masked, hn, ne_eq, not_true_eq_false, false_and, if_false]
    exact EReal.add_bot _
  · have ha : Scalar.cmpi .eq a 0#32 = 0#1 := by
      have : a ≠ 0#32 := fun e => hn (h.first.mp e)
      show BitVec.ofBool (a == 0#32) = 0#1
      rw [beq_eq_false_iff_ne.mpr this]
      rfl
    rw [ha]
    simp only [h.hq, h.hkp, h.hbp r x hn, lit_scale, Lift.mul, Lift.sum, Soft.add_masked, ValueIdx.select_zero, add_zero]
    simp only [Soft.masked, ne_eq, hn, not_false_eq_true, true_and]
    rfl

/-- A row's maximum is a real number. -/
theorem max_real (r : Fin 512) : ∃ μ : ℝ, ∀ x, k0_pay21 (F := Ideal) a q kp kc bp bc (ix2 r x) = (μ : EReal) := by
  have hb : band (pos n r).val (pos n r).val := ⟨le_rfl, by omega⟩
  obtain ⟨μ, hμ⟩ := Soft.max_fold_real (f := fun x => k0_pay17 (F := Ideal) a q kp bp (ix2 r x))
    (g := fun x => k0_pay18 (F := Ideal) q kc bc (ix2 r x)) (fun x => by rw [score_prev h]; exact Soft.masked_lt_top _ _)
    (fun x => by rw [score_cur h]; exact Soft.masked_lt_top _ _) (x := r)
    (by rw [score_cur h]; exact Soft.bot_lt_masked hb _)
  refine ⟨μ, fun x => ?_⟩
  pointwise [k0_pay21, k0_pay19]
  rw [Soft.lit_bot]
  exact hμ

open AttnMath in
/-- The exponentials, with one factor per row that the division takes out again. -/
theorem exps (r : Fin 512) : ∃ E : ℝ, 0 < E ∧
    (∀ x, k0_pay20 (F := Ideal) a q kp kc bp bc (ix2 r x)
      = (((if n = 0 then 0 else wt Q K T scale (pos n r) (pos (pred n) x)) * E : ℝ) : EReal)) ∧
    ∀ x, k0_pay22 (F := Ideal) (k0_pay18 q kc bc) (k0_pay21 a q kp kc bp bc) (ix2 r x)
      = ((wt Q K T scale (pos n r) (pos n x) * E : ℝ) : EReal) := by
  obtain ⟨μ, hμ⟩ := max_real h r
  refine ⟨Real.exp (-μ), Real.exp_pos _, fun x => ?_, fun x => ?_⟩
  · have e : k0_pay20 (F := Ideal) a q kp kc bp bc (ix2 r x)
        = Ideal.exp (k0_pay17 (F := Ideal) a q kp bp (ix2 r x) - k0_pay21 (F := Ideal) a q kp kc bp bc (ix2 r x)) := by
      pointwise [k0_pay20, k0_pay21]
    rw [e, hμ x, score_prev h, Soft.exp_masked]
    congr 2
    by_cases hn : n = 0
    · simp [hn]
    · simp only [ne_eq, hn, not_false_eq_true, true_and, if_false, wt]
  · pointwise [k0_pay22]
    rw [hμ x, score_cur h, Soft.exp_masked]
    rfl

omit h in
/-- A weight over the row's total, both with the row's factor. -/
theorem quotient {w t E : ℝ} (hE : 0 < E) (ht : 0 < t) :
    ((w * E : ℝ) : EReal) * Ideal.div 1 ((t * E : ℝ) : EReal) = ((w / t : ℝ) : EReal) := by
  rw [← EReal.coe_one, Lift.div 1 (mul_pos ht hE).ne', Lift.mul]
  congr 1
  field_simp

open AttnMath in
omit h in
/-- A query's total over the two blocks of keys it sees. -/
theorem total (r : Fin 512) (E : ℝ) :
    (∑ x, (((if n = 0 then 0 else wt Q K T scale (pos n r) (pos (pred n) x)) * E : ℝ) : EReal))
      + ∑ x, ((wt Q K T scale (pos n r) (pos n x) * E : ℝ) : EReal) = ((tot Q K T scale (pos n r) * E : ℝ) : EReal) := by
  rw [Lift.sum, Lift.sum, Lift.add, ← Finset.sum_mul, ← Finset.sum_mul, ← add_mul, tot,
    sum_keys n r _ fun j hj => wt_off Q K T scale hj]

open AttnMath in
/-- The probabilities of the block's queries at the keys of the block before. -/
theorem prob_prev (r x : Fin 512) :
    k0_pay24 (F := Ideal) (k0_pay18 q kc bc) (k0_pay20 a q kp kc bp bc) (k0_pay21 a q kp kc bp bc) (ix2 r x)
      = ((if n = 0 then 0 else P Q K T scale (pos n r) (pos (pred n) x) : ℝ) : EReal) := by
  obtain ⟨E, hE, hp, hc⟩ := exps h r
  pointwise [k0_pay24, k0_pay23]
  simp only [hp, hc]
  rw [total, quotient hE (tot_pos Q K T scale _)]
  split <;> simp [P]

open AttnMath in
/-- The probabilities of the block's queries at the block's keys. -/
theorem prob_cur (r x : Fin 512) :
    k0_pay25 (F := Ideal) (k0_pay18 q kc bc) (k0_pay20 a q kp kc bp bc) (k0_pay21 a q kp kc bp bc) (ix2 r x)
      = (P Q K T scale (pos n r) (pos n x) : EReal) := by
  obtain ⟨E, hE, hp, hc⟩ := exps h r
  pointwise [k0_pay25, k0_pay23]
  simp only [hp, hc]
  rw [total, quotient hE (tot_pos Q K T scale _)]
  rfl

/-- The block's cotangents. -/
theorem cot (r : Fin 512) (d : Fin 128) : k0_pay16 (F := Ideal) o (ix2 r d) = (D (pos n r) d : EReal) := by
  pointwise [k0_pay16]
  exact h.ho r d

/-- The block's queries. -/
theorem query (r : Fin 512) (d : Fin 128) : k0_pay13 (F := Ideal) q (ix2 r d) = (Q (pos n r) d : EReal) := by
  pointwise [k0_pay13]
  exact h.hq r d

open AttnMath in
/-- The mean of a query's probability gradients, over the two blocks of keys. -/
theorem mean_row (r : Fin 512) :
    k0_pay28 (F := Ideal) (k0_pay16 o) (k0_pay18 q kc bc) (k0_pay20 a q kp kc bp bc) (k0_pay21 a q kp kc bp bc) vp vc (ix2 r 0)
      = (mean Q K W D T scale (pos n r) : EReal) := by
  pointwise [k0_pay28, k0_pay26, k0_pay27]
  simp only [prob_prev h, prob_cur h, cot h, h.hvp, h.hvc, Lift.mul, Lift.sum, Lift.add]
  rw [mean, sum_keys n r _ fun j hj => by rw [P_off Q K T scale hj, zero_mul]]
  congr 2
  refine Finset.sum_congr rfl fun x _ => ?_
  split
  · exact zero_mul _
  · rfl

open AttnMath in
/-- The score gradients of the block's queries at the keys of the block before. -/
theorem ds_prev (r x : Fin 512) :
    k0_pay29 (F := Ideal) (k0_pay16 o) (k0_pay18 q kc bc) (k0_pay20 a q kp kc bp bc) (k0_pay21 a q kp kc bp bc) vp vc (ix2 r x)
      = ((if n = 0 then 0 else dS Q K W D T scale (pos n r) (pos (pred n) x) : ℝ) : EReal) := by
  pointwise [k0_pay29, k0_pay26]
  rw [mean_row h]
  simp only [prob_prev h, cot h, h.hvp, Lift.mul, Lift.sum, Lift.sub]
  congr 1
  split
  · exact zero_mul _
  · rfl

open AttnMath in
/-- The score gradients of the block's queries at the block's keys. -/
theorem ds_cur (r x : Fin 512) :
    k0_pay30 (F := Ideal) (k0_pay16 o) (k0_pay18 q kc bc) (k0_pay20 a q kp kc bp bc) (k0_pay21 a q kp kc bp bc) vp vc (ix2 r x)
      = (dS Q K W D T scale (pos n r) (pos n x) : EReal) := by
  pointwise [k0_pay30, k0_pay27]
  rw [mean_row h]
  simp only [prob_cur h, cot h, h.hvc, Lift.mul, Lift.sum, Lift.sub]
  rfl

open AttnMath in
/-- The same, times the scale of the scores. -/
theorem ds_prev_scaled (r x : Fin 512) :
    k0_pay35 (F := Ideal) (k0_pay16 o) (k0_pay18 q kc bc) (k0_pay20 a q kp kc bp bc) (k0_pay21 a q kp kc bp bc) vp vc (ix2 r x)
      = (((if n = 0 then 0 else dS Q K W D T scale (pos n r) (pos (pred n) x)) * scale : ℝ) : EReal) := by
  pointwise [k0_pay35]
  rw [ds_prev h, lit_scale, Lift.mul]

open AttnMath in
/-- The gradient of the block's queries. -/
theorem dq_block (r : Fin 512) (d : Fin 128) :
    k0_pay6 (F := Ideal) (k0_pay14 kp) (k0_pay15 kc)
      (k0_pay30 (k0_pay16 o) (k0_pay18 q kc bc) (k0_pay20 a q kp kc bp bc) (k0_pay21 a q kp kc bp bc) vp vc)
      (k0_pay35 (k0_pay16 o) (k0_pay18 q kc bc) (k0_pay20 a q kp kc bp bc) (k0_pay21 a q kp kc bp bc) vp vc) (ix2 r d)
      = (dQ Q K W D T scale (pos n r) d : EReal) := by
  pointwise [k0_pay6, k0_pay1, k0_pay2, k0_pay14, k0_pay15]
  simp only [ds_prev_scaled h, ds_cur h, h.hkp, h.hkc, lit_scale, Lift.mul, Lift.sum, Lift.add]
  rw [dQ, sum_keys n r _ fun j hj => by rw [dS_off Q K W D T scale hj, zero_mul, zero_mul]]
  congr 2
  refine Finset.sum_congr rfl fun x _ => ?_
  split
  · rw [zero_mul, zero_mul]
  · rfl

open AttnMath in
/-- The block's share of its own keys' gradient. -/
theorem dk_block (x : Fin 512) (d : Fin 128) :
    k0_pay7 (F := Ideal) (k0_pay13 q)
      (k0_pay30 (k0_pay16 o) (k0_pay18 q kc bc) (k0_pay20 a q kp kc bp bc) (k0_pay21 a q kp kc bp bc) vp vc) (ix2 x d)
      = ((∑ r, dS Q K W D T scale (pos n r) (pos n x) * scale * Q (pos n r) d : ℝ) : EReal) := by
  pointwise [k0_pay7, k0_pay2]
  simp only [ds_cur h, query h, lit_scale, Lift.mul, Lift.sum]

open AttnMath in
/-- The block's share of its own values' gradient. -/
theorem dv_block (x : Fin 512) (d : Fin 128) :
    k0_pay8 (F := Ideal) (k0_pay16 o)
      (k0_pay25 (k0_pay18 q kc bc) (k0_pay20 a q kp kc bp bc) (k0_pay21 a q kp kc bp bc)) (ix2 x d)
      = ((∑ r, P Q K T scale (pos n r) (pos n x) * D (pos n r) d : ℝ) : EReal) := by
  pointwise [k0_pay8]
  simp only [prob_cur h, cot h, Lift.mul, Lift.sum]

open AttnMath in
/-- The gradient of the keys of the block before: the share it kept, plus this block's. -/
theorem dk_before (hn : n ≠ 0) (y : Vec Ideal S512x128 .f32) (x : Fin 512) (d : Fin 128) :
    k0_pay4 (F := Ideal) (k0_pay13 q)
      (k0_pay35 (k0_pay16 o) (k0_pay18 q kc bc) (k0_pay20 a q kp kc bp bc) (k0_pay21 a q kp kc bp bc) vp vc) y (ix3 0 x d)
      = y (ix2 x d) + ((∑ r, dS Q K W D T scale (pos n r) (pos (pred n) x) * scale * Q (pos n r) d : ℝ) : EReal) := by
  pointwise [k0_pay4, k0_pay1]
  simp only [ds_prev_scaled h, query h, Lift.mul, Lift.sum, hn, if_false]

open AttnMath in
/-- The gradient of the values of the block before: the share it kept, plus this block's. -/
theorem dv_before (hn : n ≠ 0) (y : Vec Ideal S512x128 .f32) (x : Fin 512) (d : Fin 128) :
    k0_pay5 (F := Ideal) (k0_pay16 o)
      (k0_pay24 (k0_pay18 q kc bc) (k0_pay20 a q kp kc bp bc) (k0_pay21 a q kp kc bp bc)) y (ix3 0 x d)
      = y (ix2 x d) + ((∑ r, P Q K T scale (pos n r) (pos (pred n) x) * D (pos n r) d : ℝ) : EReal) := by
  pointwise [k0_pay5]
  simp only [prob_prev h, cot h, Lift.mul, Lift.sum, hn, if_false]

end Cert.AttnBwdIdeal.Val
-- ==== Proof.Columns.lean ====
module

public import Idealize.ShloMosaic.Lib.Pointwise
public import Idealize.ShloMosaic.PureOps.Ideal

/-!
Columns of a table chosen by an index array: `table[:, idx]` of a table `[A, N]` at indices `[R, C]` read at an
element, and its transpose, which adds each element of `[A, R, C]` into the column its index names.
-/

@[expose] public section

namespace Cert.Columns
open Idealize.ShloMosaic

variable {A N R C : Nat}

/-- The dimension numbers of `table[:, idx]`. -/
abbrev takeCols (wf : GatherDims.WF ⟨2, ![A, N]⟩ ⟨3, ![R, C, 1]⟩ ⟨3, ![A, R, C]⟩ [0] [1] [] [1] [] 2 ![A, 1]) :
    GatherDims ⟨2, ![A, N]⟩ ⟨3, ![R, C, 1]⟩ ⟨3, ![A, R, C]⟩ where
  offsetDims := [0]
  collapsedSliceDims := [1]
  operandBatchingDims := []
  startIndicesBatchingDims := []
  startIndexMap := [1]
  indexVectorDim := 2
  sliceSizes := ![A, 1]
  wf := wf

/-- `table[:, idx]` at `(h, i, j)` is the table's row `h` at the column `idx[i, j]`. -/
theorem take_apply (wf : GatherDims.WF ⟨2, ![A, N]⟩ ⟨3, ![R, C, 1]⟩ ⟨3, ![A, R, C]⟩ [0] [1] [] [1] [] 2 ![A, 1])
    {α : Type} (x : (⟨2, ![A, N]⟩ : Shape).Idx → α) (idx : IVec ⟨3, ![R, C, 1]⟩ 32) (h : Fin A) (i : Fin R)
    (j : Fin C) (n : Fin N) (hn : (idx (ix3 i j 0)).toInt = (n.val : Int)) :
    Host.gather (takeCols wf) x idx (ix3 h i j) = x (ix2 h n) := by
  unfold Host.gather
  congr 1
  funext a
  refine Fin.ext ?_
  show (takeCols wf).start (ix3 h i j) idx a + (takeCols wf).batchCoord (ix3 h i j) a
      + (takeCols wf).offCoord (ix3 h i j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ ([1] : List (Fin 2)) from by decide)]
    show 0 + 0 + (takeCols wf).offCoord (ix3 h i j) 0 = h.val
    rw [Nat.zero_add]
    rfl
  · rw [GatherDims.offCoord_eq_zero _ _ _
      (fun h => ((GatherDims.mem_sKept _ _).mp h).1 (List.mem_singleton.mpr rfl))]
    unfold GatherDims.start
    rw [dif_pos (show (1 : Fin 2) ∈ (takeCols wf).startIndexMap from List.mem_singleton.mpr rfl)]
    have hsi : (takeCols wf).siIdx (ix3 h i j) ⟨List.idxOf (1 : Fin 2) (takeCols wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, hn]
    show min n.val (N - 1) + 0 + 0 = n.val
    have := n.isLt
    omega

/-- The dimension numbers of the transpose of `table[:, idx]`. -/
abbrev addCols (wf : ScatterDims.WF ⟨2, ![A, N]⟩ ⟨3, ![R, C, 1]⟩ ⟨3, ![A, R, C]⟩ [0] [1] [1] 2) :
    ScatterDims ⟨2, ![A, N]⟩ ⟨3, ![R, C, 1]⟩ ⟨3, ![A, R, C]⟩ where
  updateWindowDims := [0]
  insertedWindowDims := [1]
  scatterDimsToOperandDims := [1]
  indexVectorDim := 2
  wf := wf

/-- The update at `(h, i, j)` lands at row `h`, column `idx[i, j]`. -/
theorem lands (wf : ScatterDims.WF ⟨2, ![A, N]⟩ ⟨3, ![R, C, 1]⟩ ⟨3, ![A, R, C]⟩ [0] [1] [1] 2)
    (idx : IVec ⟨3, ![R, C, 1]⟩ 32) (h : Fin A) (i : Fin R) (j : Fin C) (n : Fin N)
    (hn : (idx (ix3 i j 0)).toInt = (n.val : Int)) :
    (addCols wf).resultIdx? (ix3 h i j) idx = some (ix2 h n) := by
  have w0 : (addCols wf).window (ix3 h i j) 0 = h.val := rfl
  have w1 : (addCols wf).window (ix3 h i j) 1 = 0 := rfl
  have s0 : (addCols wf).start (ix3 h i j) idx 0 = 0 := rfl
  have s1 : (addCols wf).start (ix3 h i j) idx 1 = n.val := by
    unfold ScatterDims.start
    rw [dif_pos (show (1 : Fin 2) ∈ (addCols wf).scatterDimsToOperandDims from List.mem_singleton.mpr rfl)]
    have hsi : (addCols wf).siIdx (ix3 h i j) ⟨List.idxOf (1 : Fin 2) (addCols wf).scatterDimsToOperandDims,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, hn]
  have hh := h.isLt
  have hnn := n.isLt
  unfold ScatterDims.resultIdx?
  have H : ∀ a, 0 ≤ (addCols wf).start (ix3 h i j) idx a + (addCols wf).window (ix3 h i j) a ∧
      (addCols wf).start (ix3 h i j) idx a + (addCols wf).window (ix3 h i j) a
        < (⟨2, ![A, N]⟩ : Shape).size a := by
    intro a
    match a with
    | ⟨0, _⟩ =>
      show 0 ≤ (addCols wf).start (ix3 h i j) idx 0 + (addCols wf).window (ix3 h i j) 0 ∧
        (addCols wf).start (ix3 h i j) idx 0 + (addCols wf).window (ix3 h i j) 0 < (A : Int)
      rw [s0, w0]; omega
    | ⟨1, _⟩ =>
      show 0 ≤ (addCols wf).start (ix3 h i j) idx 1 + (addCols wf).window (ix3 h i j) 1 ∧
        (addCols wf).start (ix3 h i j) idx 1 + (addCols wf).window (ix3 h i j) 1 < (N : Int)
      rw [s1, w1]; omega
  rw [dif_pos H]
  congr 1
  funext a
  refine Fin.ext ?_
  match a with
  | ⟨0, _⟩ =>
    show ((addCols wf).start (ix3 h i j) idx 0 + (addCols wf).window (ix3 h i j) 0).toNat = h.val
    rw [s0, w0]; omega
  | ⟨1, _⟩ =>
    show ((addCols wf).start (ix3 h i j) idx 1 + (addCols wf).window (ix3 h i j) 1).toNat = n.val
    rw [s1, w1]; omega

/-- The transpose of `table[:, idx]` at `(h, r)`: the operand there, plus the updates whose index is `r`. -/
theorem add_apply (wf : ScatterDims.WF ⟨2, ![A, N]⟩ ⟨3, ![R, C, 1]⟩ ⟨3, ![A, R, C]⟩ [0] [1] [1] 2)
    (x : (⟨2, ![A, N]⟩ : Shape).Idx → EReal) (idx : IVec ⟨3, ![R, C, 1]⟩ 32)
    (upd : (⟨3, ![A, R, C]⟩ : Shape).Idx → EReal) (col : Fin R → Fin C → Fin N)
    (hc : ∀ i j, (idx (ix3 i j 0)).toInt = ((col i j).val : Int)) (h : Fin A) (r : Fin N) :
    Ideal.hostScatterAdd (addCols wf) x idx upd (ix2 h r)
      = x (ix2 h r) + ∑ i : Fin R, ∑ j : Fin C, if col i j = r then upd (ix3 h i j) else 0 := by
  unfold Ideal.hostScatterAdd
  congr 1
  rw [Finset.sum_filter, sum_idx3, Finset.sum_eq_single h]
  · refine Finset.sum_congr rfl fun i _ => Finset.sum_congr rfl fun j _ => ?_
    rw [lands wf idx h i j (col i j) (hc i j)]
    by_cases e : col i j = r
    · rw [if_pos e, if_pos (by rw [e])]
    · rw [if_neg e, if_neg]
      intro q
      exact e (congrFun (Option.some.inj q) 1)
  · intro b _ hb
    refine Finset.sum_eq_zero fun i _ => Finset.sum_eq_zero fun j _ => ?_
    rw [lands wf idx b i j (col i j) (hc i j), if_neg]
    intro q
    exact hb (congrFun (Option.some.inj q) 0)
  · intro q
    exact absurd (Finset.mem_univ h) q

end Cert.Columns

end
-- ==== Proof.Words.lean ====
module

public import Idealize.ShloMosaic.Lib.Affine
public import Idealize.ShloMosaic.Lib.Routing.Words

@[expose] public section

/-! The integer words of a banded attention's masks and table indices: the index of a distance cut to −256 … 256,
    and the test that a pair of positions lies in the band of chunks. -/

namespace Cert.Words

open Idealize.ShloMosaic Affine

/-- The index of a distance: the distance cut to −256 … 256, plus 256. -/
def index (w : BitVec 32) : BitVec 32 :=
  Scalar.addi (Scalar.minsi 256#32 (Scalar.maxsi 4294967040#32 w)) 256#32

theorem toInt_of {x : BitVec 32} {e : Int} (h : IsInt x e) : x.toInt = e := by unfold IsInt at h; exact h

theorem of_toInt {x : BitVec 32} {e : Int} (h : x.toInt = e) : IsInt x e := by unfold IsInt; exact h

/-- The index of the distance `z`, which is never negative. -/
theorem index_toInt {w : BitVec 32} {z : Int} (h : IsInt w z) :
    (index w).toInt = min 256 (max (-256) z) + 256 := by
  refine toInt_of (Affine.addi (Affine.minsi (Affine.ofNat 256 ⟨rfl, by decide⟩)
    (Affine.maxsi (Affine.ofNat_neg 4294967040 ⟨rfl, by decide, by decide⟩) h rfl) rfl) (Affine.ofNat 256 ⟨rfl, by decide⟩)
    ⟨rfl, ?_, ?_⟩) <;> omega

/-- An index that is not negative is left as it is by the rule that counts negative indices from the end. -/
theorem wrap {w v : BitVec 32} (h : 0 ≤ w.toInt) : Scalar.select (Scalar.cmpi .slt w 0#32) v w = w := by
  have : Scalar.cmpi .slt w 0#32 = 0#1 := by
    show BitVec.ofBool (w.slt 0#32) = 0#1
    have : w.slt 0#32 = false := by
      rw [← Bool.not_eq_true, BitVec.slt_iff_toInt_lt]
      simp
      omega
    rw [this]
    rfl
  rw [this]
  rfl

/-- The test that `b`'s chunk is `a`'s or one of the eight before it. -/
def test (a b : BitVec 32) : BitVec 1 :=
  Scalar.andi (Scalar.cmpi .sge (Scalar.subi (IntOp.divsi .host a 64#32) (IntOp.divsi .host b 64#32)) 0#32)
    (Scalar.cmpi .sle (Scalar.subi (IntOp.divsi .host a 64#32) (IntOp.divsi .host b 64#32)) 8#32)

theorem chunks {a b : ℕ} (ha : a < 4096) (hb : b < 4096) :
    (Scalar.subi (IntOp.divsi .host (BitVec.ofNat 32 a) 64#32) (IntOp.divsi .host (BitVec.ofNat 32 b) 64#32)).toInt
      = (a / 64 : ℕ) - (b / 64 : ℕ) := by
  rw [Routing.divsi_word .host (a := a) (b := 64) (by omega) (by decide) (by decide),
    Routing.divsi_word .host (a := b) (b := 64) (by omega) (by decide) (by decide)]
  refine toInt_of (Affine.subi (Affine.ofNat (a / 64) ⟨rfl, by omega⟩) (Affine.ofNat (b / 64) ⟨rfl, by omega⟩) ⟨?_, ?_, ?_⟩) <;> omega

/-- The test holds exactly when the chunk of `b` is that of `a` or at most eight before. -/
theorem test_iff {a b : ℕ} (ha : a < 4096) (hb : b < 4096) :
    test (BitVec.ofNat 32 a) (BitVec.ofNat 32 b) = 1#1 ↔ b / 64 ≤ a / 64 ∧ a / 64 ≤ b / 64 + 8 := by
  have hc := chunks ha hb
  unfold test
  generalize Scalar.subi (IntOp.divsi .host (BitVec.ofNat 32 a) 64#32) (IntOp.divsi .host (BitVec.ofNat 32 b) 64#32) = w at hc ⊢
  show BitVec.ofBool ((0#32).sle w) &&& BitVec.ofBool (w.sle 8#32) = 1#1 ↔ _
  rw [BitVec.sle_eq_decide, BitVec.sle_eq_decide, hc]
  have h8 : (8#32).toInt = 8 := by decide
  have h0 : (0#32).toInt = 0 := by decide
  rw [h8, h0]
  by_cases h1 : (0 : Int) ≤ (a / 64 : ℕ) - (b / 64 : ℕ) <;> by_cases h2 : ((a / 64 : ℕ) : Int) - (b / 64 : ℕ) ≤ 8 <;>
    simp only [h1, h2, decide_true, decide_false] <;> simp <;> omega

/-- A choice by the test. -/
theorem select_test {α : Type} {a b : ℕ} (ha : a < 4096) (hb : b < 4096) (u v : α) :
    Scalar.select (test (BitVec.ofNat 32 a) (BitVec.ofNat 32 b)) u v
      = if b / 64 ≤ a / 64 ∧ a / 64 ≤ b / 64 + 8 then u else v := by
  unfold Scalar.select
  by_cases h : b / 64 ≤ a / 64 ∧ a / 64 ≤ b / 64 + 8
  · rw [if_pos h]; exact if_pos ((test_iff ha hb).mpr h)
  · rw [if_neg h]; exact if_neg fun e => h ((test_iff ha hb).mp e)

end Cert.Words
-- ==== Proof.AttnPrelude.lean ====
module

public import Idealize.ShloMosaic.Lib.Pipeline.ValueKit
public import Idealize.ShloMosaic.Lib.Pointwise
public import Idealize.ShloMosaic.Lib.Claim
public import proofs.«01_k».proof.Proof.Gen.AttnBwdIdeal.Frame.Runs
public import proofs.«01_k».proof.Proof.AttnBlock
public import proofs.«01_k».proof.Proof.Columns
public import proofs.«01_k».proof.Proof.Words

@[expose] public section

set_option maxRecDepth 16384

noncomputable section

/-! What the host prepares for the attention kernel, entry by entry: the seven segments of the projection and the
    bias of every head over a window of two blocks of keys. -/

namespace Cert.AttnBwdIdeal.Val

open Cert.AttnBwdIdeal Cert.AttnBwdIdeal.Gen Idealize.ShloMosaic Idealize.ShloMosaic.TcCoe Idealize.SL.Sem
open Cert.AttnMath (pos pred band rel)

/-- One word at every place. -/
abbrev every (w : BitVec 32) : IVec S512x1024 32 := broadcastInDim S512x1024 ![] bcast_S_S512x1024 (constantI S_ 32 w)

/-- The table index of every place of the window. -/
def idxs : IVec S512x1024 32 :=
  addi (minsi (every 256#32) (maxsi (every 4294967040#32)
    (subi (addi (iotaInDim S512x1024 32 0) (every 512#32)) (iotaInDim S512x1024 32 1)))) (every 256#32)

/-- How many chunks a place's key lies after the first chunk that its query sees. -/
def chunk : IVec S512x1024 32 :=
  subi (Host.divsi (iotaInDim S512x1024 32 1) (every 64#32)) (Host.divsi (iotaInDim S512x1024 32 0) (every 64#32))

/-- The bias of every head over the window. -/
def bias (tb : FVec Ideal S16x513 .f32) : FVec Ideal S16x512x1024 .f32 :=
  select (broadcastInDim S16x512x1024 ![1, 2] bcast_S512x1024_S16x512x1024_1_2
      (andi (cmpi .sge chunk (every 0#32)) (cmpi .sle chunk (every 8#32))))
    (Host.gather gather_S16x513_S512x1024x1_S16x512x1024_0_1_n_n_1_2_161 tb
      (broadcastInDim S512x1024x1 ![0, 1] bcast_S512x1024_S512x1024x1_0_1
        (select (cmpi .slt idxs (every 0#32)) (addi idxs (every 513#32)) idxs)))
    (broadcastInDim S16x512x1024 ![] bcast_S_S16x512x1024 (constant S_ .f32 0xFF800000#32))

variable (m : (ℓ : Loc nD τ sig) → Buf (Elt Ideal) ℓ)

theorem V_v2 (c : Dev nD) (g : Fin 7) (i : Fin 4096) (j : Fin 2048) :
    (V m c main_v2 : FVec Ideal S7x4096x2048 .bf16) (ix3 g i j)
      = (m ((c : Thread nD τ).loc main_arg1) : FVec Ideal S1x4096x14336 .f32) (ix3 0 i ⟨g.val * 2048 + j.val, by omega⟩) := by
  unfold V V0
  simp only [hostOps0, hostOps0_1, hostOps0_2, hostOps0_3, hostOps0_4, List.flatten_cons, List.flatten_nil, List.append_nil, List.cons_append, List.nil_append]
  after_results
  pointwise

theorem V_v10 (c : Dev nD) : V m c main_v10 = idxs := by
  unfold V V0
  simp only [hostOps0, hostOps0_1, hostOps0_2, hostOps0_3, hostOps0_4, List.flatten_cons, List.flatten_nil, List.append_nil, List.cons_append, List.nil_append]
  after_results
  simp only [StableHlo.TRef.ofBuf, StableHlo.TRef.toBuf, cast_eq, id]
  rfl

theorem V_v28 (c : Dev nD) : V m c main_v28 = bias (m ((c : Thread nD τ).loc main_arg3)) := by
  unfold V V0
  simp only [hostOps0, hostOps0_1, hostOps0_2, hostOps0_3, hostOps0_4, List.flatten_cons, List.flatten_nil, List.append_nil, List.cons_append, List.nil_append]
  after_results
  simp only [StableHlo.TRef.ofBuf, StableHlo.TRef.toBuf, cast_eq, id]
  rfl

theorem V_v29 (c : Dev nD) : V m c main_v29_0 = m ((c : Thread nD τ).loc main_arg0) := by
  unfold V V0
  simp only [hostOps0, hostOps0_1, hostOps0_2, hostOps0_3, hostOps0_4, List.flatten_cons, List.flatten_nil, List.append_nil, List.cons_append, List.nil_append]
  after_results
  rfl

/-- The table index of a place is the cut distance between its key and its query, which lies a block later. -/
theorem idxs_toInt (r : Fin 512) (x : Fin 1024) : (idxs (ix2 r x)).toInt = ((rel (r.val + 512) x.val).val : Int) := by
  have h : idxs (ix2 r x) = Words.index (Scalar.subi (Scalar.addi (BitVec.ofNat 32 r.val) 512#32) (BitVec.ofNat 32 x.val)) := by
    pointwise [idxs]
    rfl
  rw [h, Words.index_toInt (Affine.subi (Affine.addi (Affine.ofNat r.val ⟨rfl, by omega⟩) (Affine.ofNat 512 ⟨rfl, by decide⟩)
    ⟨rfl, by omega, by omega⟩) (Affine.ofNat x.val ⟨rfl, by omega⟩) ⟨rfl, by omega, by omega⟩)]
  simp only [rel]
  omega

/-- The bias of a place in the band is the table's entry of its distance; elsewhere it is −∞. -/
theorem bias_apply (tb : FVec Ideal S16x513 .f32) (h : Fin 16) (r : Fin 512) (x : Fin 1024) :
    bias tb (ix3 h r x) = if band (r.val + 512) x.val then tb (ix2 h (rel (r.val + 512) x.val)) else ⊥ := by
  pointwise [bias, chunk]
  have hg := Columns.take_apply gather_S16x513_S512x1024x1_S16x512x1024_0_1_n_n_1_2_161.wf tb
    (broadcastInDim S512x1024x1 ![0, 1] bcast_S512x1024_S512x1024x1_0_1
      (select (cmpi .slt idxs (every 0#32)) (addi idxs (every 513#32)) idxs)) h r x (rel (r.val + 512) x.val) (by
    pointwise
    exact (congrArg BitVec.toInt (Words.wrap (by rw [idxs_toInt]; omega))).trans (idxs_toInt r x))
  refine (congrArg (fun z => Scalar.select _ z _) hg).trans ?_
  refine (Words.select_test (a := x.val) (b := r.val) (by omega) (by omega) _ _).trans ?_
  have : (r.val / 64 ≤ x.val / 64 ∧ x.val / 64 ≤ r.val / 64 + 8) ↔ band (r.val + 512) x.val := by
    unfold band
    omega
  simp only [this, Soft.lit_bot]

end Cert.AttnBwdIdeal.Val
-- ==== Proof.AttnAt.lean ====
module

public import proofs.«01_k».proof.Proof.AttnPrelude

@[expose] public section

set_option maxRecDepth 16384

noncomputable section

/-! What the attention kernel's body reads at every point of the grid that treats a block of queries, when the
    arguments are real numbers. -/

namespace Cert.AttnBwdIdeal.Val

open Cert.AttnBwdIdeal Cert.AttnBwdIdeal.Gen Idealize.ShloMosaic Idealize.ShloMosaic.TcCoe Idealize.SL.Sem
open Cert.AttnMath (pos pred band rel)

/-- Coordinate `d` of head `h` among a segment's columns. -/
def col (h : Fin 16) (d : Fin 128) : Fin 2048 := ⟨h.val * 128 + d.val, by omega⟩

/-- Column `j` of the projection's segment `g`. -/
def segCol (g : Fin 7) (j : Fin 2048) : Fin 14336 := ⟨g.val * 2048 + j.val, by omega⟩

/-- The block that every window shows at every point that treats a block of queries. -/
theorem idx_all : ∀ t : Fin cfg0.N, t.val % 9 ≤ 7 → win0_0.index t = ![0, t.val % 9, t.val / 9]
    ∧ win0_1.index t = ![1, t.val % 9 - 1, t.val / 9] ∧ win0_2.index t = ![1, t.val % 9, t.val / 9]
    ∧ win0_3.index t = ![2, t.val % 9 - 1, t.val / 9] ∧ win0_4.index t = ![2, t.val % 9, t.val / 9]
    ∧ win0_5.index t = ![t.val / 9, 0, 0] ∧ win0_6.index t = ![0, t.val % 9, t.val / 9]
    ∧ ((grid0.coords t 1 : Fin _) : ℕ) = t.val % 9 :=
  (by decide +kernel : ∀ t : Fin grid0.N, _)

/-- The point of the grid that treats block `n` of head `h`. -/
structure At (t : Fin cfg0.N) (h : Fin 16) (n : Fin 8) : Prop where
  eq : t.val = 9 * h.val + n.val

variable {t : Fin cfg0.N} {h : Fin 16} {n : Fin 8}

theorem At.mod (e : At t h n) : t.val % 9 = n.val := by have := e.eq; omega

theorem At.div (e : At t h n) : t.val / 9 = h.val := by have := e.eq; omega

theorem At.idx (e : At t h n) : win0_0.index t = ![0, n.val, h.val] ∧ win0_1.index t = ![1, n.val - 1, h.val]
    ∧ win0_2.index t = ![1, n.val, h.val] ∧ win0_3.index t = ![2, n.val - 1, h.val]
    ∧ win0_4.index t = ![2, n.val, h.val] ∧ win0_5.index t = ![h.val, 0, 0] ∧ win0_6.index t = ![0, n.val, h.val]
    ∧ ((grid0.coords t 1 : Fin _) : ℕ) = n.val := by
  have := idx_all t (by rw [e.mod]; omega)
  rwa [e.mod, e.div] at this

variable (m : (ℓ : Loc nD τ sig) → Buf (Elt Ideal) ℓ) (c : Dev nD)

theorem blk0 (e : At t h n) (r : Fin 512) (d : Fin 128) : (iblk m c 0 t : FVec Ideal S1x512x128 .bf16) (ix3 0 r d)
    = (V m c main_v2 : FVec Ideal S7x4096x2048 .bf16) (ix3 0 (pos n r) (col h d)) := by
  unfold iblk
  blk_point [e.idx, pos, col]

theorem blk1 (e : At t h n) (r : Fin 512) (d : Fin 128) : (iblk m c 1 t : FVec Ideal S1x512x128 .bf16) (ix3 0 r d)
    = (V m c main_v2 : FVec Ideal S7x4096x2048 .bf16) (ix3 1 (pos (pred n) r) (col h d)) := by
  unfold iblk
  blk_point [e.idx, pos, pred, col]

theorem blk2 (e : At t h n) (r : Fin 512) (d : Fin 128) : (iblk m c 2 t : FVec Ideal S1x512x128 .bf16) (ix3 0 r d)
    = (V m c main_v2 : FVec Ideal S7x4096x2048 .bf16) (ix3 1 (pos n r) (col h d)) := by
  unfold iblk
  blk_point [e.idx, pos, col]

theorem blk3 (e : At t h n) (r : Fin 512) (d : Fin 128) : (iblk m c 3 t : FVec Ideal S1x512x128 .bf16) (ix3 0 r d)
    = (V m c main_v2 : FVec Ideal S7x4096x2048 .bf16) (ix3 2 (pos (pred n) r) (col h d)) := by
  unfold iblk
  blk_point [e.idx, pos, pred, col]

theorem blk4 (e : At t h n) (r : Fin 512) (d : Fin 128) : (iblk m c 4 t : FVec Ideal S1x512x128 .bf16) (ix3 0 r d)
    = (V m c main_v2 : FVec Ideal S7x4096x2048 .bf16) (ix3 2 (pos n r) (col h d)) := by
  unfold iblk
  blk_point [e.idx, pos, col]

theorem blk5 (e : At t h n) (r : Fin 512) (x : Fin 1024) : (iblk m c 5 t : FVec Ideal S1x512x1024 .f32) (ix3 0 r x)
    = (V m c main_v28 : FVec Ideal S16x512x1024 .f32) (ix3 h r x) := by
  unfold iblk
  blk_point [e.idx]

theorem blk6 (e : At t h n) (r : Fin 512) (d : Fin 128) : (iblk m c 6 t : FVec Ideal S1x512x128 .bf16) (ix3 0 r d)
    = (m ((c : Thread nD τ).loc main_arg2) : FVec Ideal S2x4096x2048 .bf16) (ix3 0 (pos n r) (col h d)) := by
  unfold iblk
  blk_point [V, e.idx, pos, col]

/-- The arguments are these real numbers: the projection, the cotangent of the first half, the bias table. -/
structure Real (p : Fin 4096 → Fin 14336 → ℝ) (o : Fin 4096 → Fin 2048 → ℝ) (tb : Fin 16 → Fin 513 → ℝ) : Prop where
  hp : ∀ i j, (m ((c : Thread nD τ).loc main_arg1) : FVec Ideal S1x4096x14336 .f32) (ix3 0 i j) = (p i j : EReal)
  ho : ∀ i j, (m ((c : Thread nD τ).loc main_arg2) : FVec Ideal S2x4096x2048 .bf16) (ix3 0 i j) = (o i j : EReal)
  ht : ∀ h k, (m ((c : Thread nD τ).loc main_arg3) : FVec Ideal S16x513 .f32) (ix2 h k) = (tb h k : EReal)

/-- The half of the bias block over the block before, and the half over this block. -/
abbrev lower (b : Vec Ideal S1x512x1024 .f32) : Vec Ideal S1x512x512 .f32 :=
  View.ld b (Rect.unit ![0, 0, 0] ![1, 512, 512] inb_S1x512x1024_S1x512x512_0_0_0)
abbrev upper (b : Vec Ideal S1x512x1024 .f32) : Vec Ideal S1x512x512 .f32 :=
  View.ld b (Rect.unit ![0, 0, 512] ![1, 512, 512] inb_S1x512x1024_S1x512x512_0_0_512)

theorem lower_apply (b : Vec Ideal S1x512x1024 .f32) (r x : Fin 512) : lower b (ix3 0 r x) = b (ix3 0 r ⟨x.val, by omega⟩) :=
  View.ld_unit_apply_of _ _ _ _ _ _ (by intro a; fin_cases a <;> simp)

theorem upper_apply (b : Vec Ideal S1x512x1024 .f32) (r x : Fin 512) : upper b (ix3 0 r x) = b (ix3 0 r ⟨512 + x.val, by omega⟩) :=
  View.ld_unit_apply_of _ _ _ _ _ _ (by intro a; fin_cases a <;> simp)

variable {m c} {p : Fin 4096 → Fin 14336 → ℝ} {o : Fin 4096 → Fin 2048 → ℝ} {tb : Fin 16 → Fin 513 → ℝ}

/-- Segment `g` of the projection, head `h`. -/
def seg (p : Fin 4096 → Fin 14336 → ℝ) (g : Fin 7) (h : Fin 16) (i : Fin 4096) (d : Fin 128) : ℝ := p i (segCol g (col h d))

theorem real_seg (R : Real m c p o tb) (g : Fin 7) (h : Fin 16) (i : Fin 4096) (d : Fin 128) :
    (V m c main_v2 : FVec Ideal S7x4096x2048 .bf16) (ix3 g i (col h d)) = (seg p g h i d : EReal) :=
  (V_v2 m c g i (col h d)).trans (R.hp i _)

theorem real_bias (R : Real m c p o tb) (h : Fin 16) (r : Fin 512) (x : Fin 1024) :
    (V m c main_v28 : FVec Ideal S16x512x1024 .f32) (ix3 h r x)
      = Soft.masked (band (r.val + 512) x.val) (tb h (rel (r.val + 512) x.val)) := by
  rw [V_v28, bias_apply, R.ht]
  rfl

/-- At the point of block `n` of head `h` the body reads that block's operands. -/
theorem reads (R : Real m c p o tb) (e : At t h n) :
    Reads (seg p 0 h) (seg p 1 h) (seg p 2 h) (fun i d => o i (col h d)) (tb h) n (BitVec.ofNat 32 ((grid0.coords t 1 : Fin _) : ℕ))
      (iblk m c 0 t) (iblk m c 1 t) (iblk m c 2 t) (iblk m c 3 t) (iblk m c 4 t) (iblk m c 6 t)
      (lower (iblk m c 5 t)) (upper (iblk m c 5 t)) where
  first := by
    rw [e.idx.2.2.2.2.2.2.2, ← BitVec.toNat_inj]
    simp only [BitVec.toNat_ofNat, Fin.ext_iff]
    omega
  hq r d := (blk0 m c e r d).trans (real_seg R ..)
  hkp r d := (blk1 m c e r d).trans (real_seg R ..)
  hkc r d := (blk2 m c e r d).trans (real_seg R ..)
  hvp r d := (blk3 m c e r d).trans (real_seg R ..)
  hvc r d := (blk4 m c e r d).trans (real_seg R ..)
  ho r d := (blk6 m c e r d).trans (R.ho ..)
  hbp r x hn := by
    refine (lower_apply _ r x).trans ((blk5 m c e r _).trans ((real_bias R ..).trans ?_))
    have hn' : n.val ≠ 0 := fun e => hn (Fin.ext e)
    have h1 : band (r.val + 512) x.val ↔ band (pos n r) (pos (pred n) x) := by
      simp only [band, pos, pred]; omega
    have h2 : rel (r.val + 512) x.val = rel (pos n r) (pos (pred n) x) := by
      simp only [rel, pos, pred, Fin.mk.injEq]; omega
    simp only [h1, h2]
  hbp_lt r x := by
    refine ((lower_apply _ r x).trans ((blk5 m c e r _).trans (real_bias R ..))).trans_lt ?_
    exact Soft.masked_lt_top _ _
  hbc r x := by
    refine (upper_apply _ r x).trans ((blk5 m c e r _).trans ((real_bias R ..).trans ?_))
    have h1 : band (r.val + 512) (512 + x.val) ↔ band (pos n r) (pos n x) := by
      simp only [band, pos]; omega
    have h2 : rel (r.val + 512) (512 + x.val) = rel (pos n r) (pos n x) := by
      simp only [rel, pos, Fin.mk.injEq]; omega
    simp only [h1, h2]

end Cert.AttnBwdIdeal.Val
-- ==== Proof.AttnOut.lean ====
module

public import proofs.«01_k».proof.Proof.Gen.AttnBwdIdeal.Frame
public import Idealize.ShloMosaic.Lib.Pipeline.ReadBack
public import proofs.«01_k».proof.Proof.AttnAt

@[expose] public section

set_option maxRecDepth 16384

noncomputable section

/-! What the attention kernel's body leaves at every point of the grid: its three carried blocks, the three blocks of
    gradients it finishes, and the bias gradients it has gathered so far. -/

namespace Cert.AttnBwdIdeal.Val

open Cert.AttnBwdIdeal Cert.AttnBwdIdeal.Gen Idealize.ShloMosaic Idealize.ShloMosaic.TcCoe Idealize.SL.Sem
open Cert.AttnMath (pos pred band rel)

/-- Three blocks stored one after the other. -/
theorem three_apply (a b z : Vec Ideal S1x512x128 .bf16) (g : Fin 3) (r : Fin 512) (d : Fin 128) :
    View.canon (Val := Elt Ideal) (s := S3x512x128) (e := .bf16)
      [⟨Rect.unit ![2, 0, 0] ![1, 512, 128] inb_S3x512x128_S1x512x128_2_0_0, z⟩,
       ⟨Rect.unit ![1, 0, 0] ![1, 512, 128] inb_S3x512x128_S1x512x128_1_0_0, b⟩,
       ⟨Rect.unit ![0, 0, 0] ![1, 512, 128] inb_S3x512x128_S1x512x128_0_0_0, a⟩] (ix3 g r d)
      = (if g = 0 then a else if g = 1 then b else z) (ix3 0 r d) := by
  canon_tiles x h
  all_goals
    have hx : x = ix3 0 r d := by
      funext a
      refine Fin.ext ?_
      match a with
      | ⟨0, _⟩ => exact Nat.lt_one_iff.mp x0_lt
      | ⟨1, _⟩ => exact h1.symm
      | ⟨2, _⟩ => exact h2.symm
    have hg := (show (g : ℕ) = _ from h0)
    rw [hx]
  · rw [if_neg (by rw [Fin.ext_iff]; simp; omega), if_neg (by rw [Fin.ext_iff]; simp; omega)]
  · rw [if_neg (by rw [Fin.ext_iff]; simp; omega), if_pos (by rw [Fin.ext_iff]; simp; omega)]
  · rw [if_pos (by rw [Fin.ext_iff]; simp; omega)]

/-- Two blocks stored side by side. -/
theorem two_lower (a b : Vec Ideal S1x512x512 .f32) (r : Fin 512) (x : Fin 512) :
    View.canon (Val := Elt Ideal) (s := S1x512x1024) (e := .f32)
      [⟨Rect.unit ![0, 0, 512] ![1, 512, 512] inb_S1x512x1024_S1x512x512_0_0_512, b⟩,
       ⟨Rect.unit ![0, 0, 0] ![1, 512, 512] inb_S1x512x1024_S1x512x512_0_0_0, a⟩] (ix3 0 r ⟨x.val, by omega⟩) = a (ix3 0 r x) := by
  canon_tiles y h
  · have : x.val = 512 + (y 2).val := h2
    omega
  · refine congrArg a (funext fun k => Fin.ext ?_)
    match k with
    | ⟨0, _⟩ => exact Nat.lt_one_iff.mp y0_lt
    | ⟨1, _⟩ => exact h1.symm
    | ⟨2, _⟩ => exact h2.symm

theorem two_upper (a b : Vec Ideal S1x512x512 .f32) (r : Fin 512) (x : Fin 512) :
    View.canon (Val := Elt Ideal) (s := S1x512x1024) (e := .f32)
      [⟨Rect.unit ![0, 0, 512] ![1, 512, 512] inb_S1x512x1024_S1x512x512_0_0_512, b⟩,
       ⟨Rect.unit ![0, 0, 0] ![1, 512, 512] inb_S1x512x1024_S1x512x512_0_0_0, a⟩] (ix3 0 r ⟨512 + x.val, by omega⟩) = b (ix3 0 r x) := by
  canon_tiles y h
  · refine congrArg b (funext fun k => Fin.ext ?_)
    match k with
    | ⟨0, _⟩ => exact Nat.lt_one_iff.mp y0_lt
    | ⟨1, _⟩ => exact h1.symm
    | ⟨2, _⟩ => exact (Nat.add_left_cancel h2).symm
  · have : 512 + x.val = (y 2).val := h2
    omega

variable (m : (ℓ : Loc nD τ sig) → Buf (Elt Ideal) ℓ) (c : Dev nD) (t : Fin cfg0.N)

/-- What the body computes first at a point: the scores of this block, the weights of the block before, the largest. -/
abbrev SC := k0_pay18 (F := Ideal) (iblk m c 0 t) (iblk m c 2 t) (upper (iblk m c 5 t))
abbrev EP := k0_pay20 (F := Ideal) (BitVec.ofNat 32 ((grid0.coords t 1 : Fin _) : ℕ)) (iblk m c 0 t) (iblk m c 1 t) (iblk m c 2 t)
  (lower (iblk m c 5 t)) (upper (iblk m c 5 t))
abbrev MX := k0_pay21 (F := Ideal) (BitVec.ofNat 32 ((grid0.coords t 1 : Fin _) : ℕ)) (iblk m c 0 t) (iblk m c 1 t) (iblk m c 2 t)
  (lower (iblk m c 5 t)) (upper (iblk m c 5 t))
abbrev DO := k0_pay16 (F := Ideal) (iblk m c 6 t)
/-- The score gradients, scaled (block before) and not (this block). -/
abbrev DP := k0_pay35 (DO m c t) (SC m c t) (EP m c t) (MX m c t) (iblk m c 3 t) (iblk m c 4 t)
abbrev DC := k0_pay30 (DO m c t) (SC m c t) (EP m c t) (MX m c t) (iblk m c 3 t) (iblk m c 4 t)

variable {m c t} {h : Fin 16} {n : Fin 8} (e : At t h n)
include e

theorem scr0 : (outsAt0 m c t.val t.isLt).2.2.1 = k0_pay6 (k0_pay14 (iblk m c 1 t)) (k0_pay15 (iblk m c 2 t)) (DC m c t) (DP m c t) := by
  have h1 := e.mod
  by_cases h0 : t.val % 9 = 0
  · rw [outsAt0_A m c t (by omega) h0 (by omega) (by omega) (by omega)]; frame_out
  · rw [outsAt0_B m c t (by omega) h0 (by omega) (by omega) (by omega)]; frame_out

theorem scr1 : (outsAt0 m c t.val t.isLt).2.2.2.1 = k0_pay7 (k0_pay13 (iblk m c 0 t)) (DC m c t) := by
  have h1 := e.mod
  by_cases h0 : t.val % 9 = 0
  · rw [outsAt0_A m c t (by omega) h0 (by omega) (by omega) (by omega)]; frame_out
  · rw [outsAt0_B m c t (by omega) h0 (by omega) (by omega) (by omega)]; frame_out

theorem scr2 : (outsAt0 m c t.val t.isLt).2.2.2.2 = k0_pay8 (DO m c t) (k0_pay25 (SC m c t) (EP m c t) (MX m c t)) := by
  have h1 := e.mod
  by_cases h0 : t.val % 9 = 0
  · rw [outsAt0_A m c t (by omega) h0 (by omega) (by omega) (by omega)]; frame_out
  · rw [outsAt0_B m c t (by omega) h0 (by omega) (by omega) (by omega)]; frame_out

theorem out7 (h0 : n ≠ 0) : (outsAt0 m c t.val t.isLt).1 = View.canon (Val := Elt Ideal) (s := S3x512x128) (e := .bf16)
      [⟨Rect.unit ![2, 0, 0] ![1, 512, 128] inb_S3x512x128_S1x512x128_2_0_0,
          k0_pay5 (DO m c t) (k0_pay24 (SC m c t) (EP m c t) (MX m c t)) (outsAt0 m c (t.val - 1) (by omega)).2.2.2.2⟩,
       ⟨Rect.unit ![1, 0, 0] ![1, 512, 128] inb_S3x512x128_S1x512x128_1_0_0,
          k0_pay4 (k0_pay13 (iblk m c 0 t)) (DP m c t) (outsAt0 m c (t.val - 1) (by omega)).2.2.2.1⟩,
       ⟨Rect.unit ![0, 0, 0] ![1, 512, 128] inb_S3x512x128_S1x512x128_0_0_0, k0_pay3 (outsAt0 m c (t.val - 1) (by omega)).2.2.1⟩] := by
  have h1 := e.mod
  have h2 : n.val ≠ 0 := fun e => h0 (Fin.ext e)
  rw [outsAt0_B m c t (by omega) (by omega) (by omega) (by omega) (by omega)]; frame_out
  simp only [read_unread_whole]

theorem out8_first (h0 : n = 0) : (outsAt0 m c t.val t.isLt).2.1 = View.canon (Val := Elt Ideal) (s := S1x512x1024) (e := .f32)
      [⟨Rect.unit ![0, 0, 512] ![1, 512, 512] inb_S1x512x1024_S1x512x512_0_0_512, k0_pay32 (DO m c t) (SC m c t) (EP m c t) (MX m c t) (iblk m c 3 t) (iblk m c 4 t)⟩,
       ⟨Rect.unit ![0, 0, 0] ![1, 512, 512] inb_S1x512x1024_S1x512x512_0_0_0, k0_pay31 (DO m c t) (SC m c t) (EP m c t) (MX m c t) (iblk m c 3 t) (iblk m c 4 t)⟩] := by
  have h1 := e.mod
  have h2 : n.val = 0 := congrArg Fin.val h0
  rw [outsAt0_A m c t (by omega) (by omega) (by omega) (by omega) (by omega)]; frame_out

theorem out8_next (h0 : n ≠ 0) : (outsAt0 m c t.val t.isLt).2.1 = View.canon (Val := Elt Ideal) (s := S1x512x1024) (e := .f32)
      [⟨Rect.unit ![0, 0, 512] ![1, 512, 512] inb_S1x512x1024_S1x512x512_0_0_512, k0_pay34 (DO m c t) (SC m c t) (EP m c t) (MX m c t) (iblk m c 3 t) (iblk m c 4 t) (upper (outsAt0 m c (t.val - 1) (by omega)).2.1)⟩,
       ⟨Rect.unit ![0, 0, 0] ![1, 512, 512] inb_S1x512x1024_S1x512x512_0_0_0, k0_pay33 (DO m c t) (SC m c t) (EP m c t) (MX m c t) (iblk m c 3 t) (iblk m c 4 t) (lower (outsAt0 m c (t.val - 1) (by omega)).2.1)⟩] := by
  have h1 := e.mod
  have h2 : n.val ≠ 0 := fun e => h0 (Fin.ext e)
  rw [outsAt0_B m c t (by omega) (by omega) (by omega) (by omega) (by omega)]; frame_out

omit e in
/-- The last point of head `h`, where nothing is computed and the carried blocks go out. -/
theorem last (hl : t.val = 9 * h.val + 8) : (outsAt0 m c t.val t.isLt).1 = View.canon (Val := Elt Ideal) (s := S3x512x128) (e := .bf16)
      [⟨Rect.unit ![2, 0, 0] ![1, 512, 128] inb_S3x512x128_S1x512x128_2_0_0, k0_pay11 (outsAt0 m c (t.val - 1) (by omega)).2.2.2.2⟩,
       ⟨Rect.unit ![1, 0, 0] ![1, 512, 128] inb_S3x512x128_S1x512x128_1_0_0, k0_pay10 (outsAt0 m c (t.val - 1) (by omega)).2.2.2.1⟩,
       ⟨Rect.unit ![0, 0, 0] ![1, 512, 128] inb_S3x512x128_S1x512x128_0_0_0, k0_pay9 (outsAt0 m c (t.val - 1) (by omega)).2.2.1⟩] := by
  rw [outsAt0_C m c t (by omega) (by omega)]; frame_out
  simp only [read_unread_whole]

omit e in
theorem last8 (hl : t.val = 9 * h.val + 8) : (outsAt0 m c t.val t.isLt).2.1 = (outsAt0 m c (t.val - 1) (by omega)).2.1 := by
  rw [outsAt0_C m c t (by omega) (by omega)]; frame_out
  pointwise [k0_pay12]

end Cert.AttnBwdIdeal.Val
-- ==== Proof.AttnGrad.lean ====
module

public import proofs.«01_k».proof.Proof.AttnOut

@[expose] public section

set_option maxRecDepth 16384

noncomputable section

/-! The values of what the attention kernel's body leaves: attention's gradients, block by block. -/

namespace Cert.AttnBwdIdeal.Val

open Cert.AttnBwdIdeal Cert.AttnBwdIdeal.Gen Idealize.ShloMosaic Idealize.ShloMosaic.TcCoe Idealize.SL.Sem
open Cert.AttnMath (pos pred band rel dQ dK dV dS P)

variable (p : Fin 4096 → Fin 14336 → ℝ) (o : Fin 4096 → Fin 2048 → ℝ) (tb : Fin 16 → Fin 513 → ℝ)

/-- Head `h`'s gradient of queries, keys or values. -/
def grad (g : Fin 3) (h : Fin 16) (i : Fin 4096) (d : Fin 128) : ℝ :=
  if g = 0 then dQ (seg p 0 h) (seg p 1 h) (seg p 2 h) (fun i d => o i (col h d)) (tb h) scale i d
  else if g = 1 then dK (seg p 0 h) (seg p 1 h) (seg p 2 h) (fun i d => o i (col h d)) (tb h) scale i d
  else dV (seg p 0 h) (seg p 1 h) (fun i d => o i (col h d)) (tb h) scale i d

/-- Head `h`'s gradient of a pair's score. -/
def gradS (h : Fin 16) (i j : Fin 4096) : ℝ := dS (seg p 0 h) (seg p 1 h) (seg p 2 h) (fun i d => o i (col h d)) (tb h) scale i j

/-- What block `n` of head `h` adds to the gathered bias gradients. -/
def part (h : Fin 16) (n : Fin 8) (r : Fin 512) (x : Fin 1024) : ℝ :=
  if hx : x.val < 512 then if n = 0 then 0 else gradS p o tb h (pos n r) (pos (pred n) ⟨x.val, hx⟩)
  else gradS p o tb h (pos n r) (pos n ⟨x.val - 512, by omega⟩)

variable {p o tb} {m : (ℓ : Loc nD τ sig) → Buf (Elt Ideal) ℓ} {c : Dev nD} {t : Fin cfg0.N} {h : Fin 16} {n : Fin 8}

/-- The point before. -/
theorem At.before (e : At t h n) (hn : n ≠ 0) : At ⟨t.val - 1, by omega⟩ h (pred n) := by
  have h1 := e.eq
  have h2 : n.val ≠ 0 := fun e => hn (Fin.ext e)
  exact ⟨by simp only [pred]; omega⟩

variable (R : Real m c p o tb)
include R

theorem carried0 (e : At t h n) (r : Fin 512) (d : Fin 128) :
    (outsAt0 m c t.val t.isLt).2.2.1 (ix2 r d) = (grad p o tb 0 h (pos n r) d : EReal) := by
  rw [scr0 e]
  exact dq_block (reads R e) r d

theorem carried1 (e : At t h n) (x : Fin 512) (d : Fin 128) :
    (outsAt0 m c t.val t.isLt).2.2.2.1 (ix2 x d)
      = ((∑ r, gradS p o tb h (pos n r) (pos n x) * scale * seg p 0 h (pos n r) d : ℝ) : EReal) := by
  rw [scr1 e]
  exact dk_block (reads R e) x d

theorem carried2 (e : At t h n) (x : Fin 512) (d : Fin 128) :
    (outsAt0 m c t.val t.isLt).2.2.2.2 (ix2 x d)
      = ((∑ r, P (seg p 0 h) (seg p 1 h) (tb h) scale (pos n r) (pos n x) * o (pos n r) (col h d) : ℝ) : EReal) := by
  rw [scr2 e]
  exact dv_block (reads R e) x d

omit R in
open AttnMath in
/-- A key's gradient gathers over its own block of queries and over the next. -/
theorem dK_split (b : Fin 8) (x : Fin 512) (d : Fin 128) : grad p o tb 1 h (pos b x) d
    = (∑ r, gradS p o tb h (pos b r) (pos b x) * scale * seg p 0 h (pos b r) d)
      + if hb : b.val + 1 < 8 then ∑ r, gradS p o tb h (pos ⟨b.val + 1, hb⟩ r) (pos b x) * scale * seg p 0 h (pos ⟨b.val + 1, hb⟩ r) d else 0 := by
  unfold grad gradS dK
  rw [if_neg (by decide), if_pos rfl]
  exact sum_queries b x _ fun i hi => by rw [dS_off _ _ _ _ _ _ hi, zero_mul, zero_mul]

omit R in
open AttnMath in
theorem dV_split (b : Fin 8) (x : Fin 512) (d : Fin 128) : grad p o tb 2 h (pos b x) d
    = (∑ r, P (seg p 0 h) (seg p 1 h) (tb h) scale (pos b r) (pos b x) * o (pos b r) (col h d))
      + if hb : b.val + 1 < 8 then ∑ r, P (seg p 0 h) (seg p 1 h) (tb h) scale (pos ⟨b.val + 1, hb⟩ r) (pos b x) * o (pos ⟨b.val + 1, hb⟩ r) (col h d) else 0 := by
  unfold grad dV
  rw [if_neg (by decide), if_neg (by decide)]
  exact sum_queries b x _ fun i hi => by rw [P_off _ _ _ _ hi, zero_mul]

omit R in
theorem succ_pred (hn : n ≠ 0) (hb : (pred n).val + 1 < 8) : (⟨(pred n).val + 1, hb⟩ : Fin 8) = n := by
  have h2 : n.val ≠ 0 := fun e => hn (Fin.ext e)
  exact Fin.ext (by simp only [pred]; omega)

omit R in
theorem succ_lt (hn : n ≠ 0) : (pred n).val + 1 < 8 := by
  have h2 : n.val ≠ 0 := fun e => hn (Fin.ext e)
  simp only [pred]; omega

/-- The three blocks that a point finishes are the gradients of the block before. -/
theorem done (e : At t h n) (hn : n ≠ 0) (g : Fin 3) (r : Fin 512) (d : Fin 128) :
    (outsAt0 m c t.val t.isLt).1 (ix3 g r d) = (grad p o tb g h (pos (pred n) r) d : EReal) := by
  rw [out7 e hn, three_apply]
  have hr := reads R e
  have eb := e.before hn
  rcases (by decide : ∀ g : Fin 3, g = 0 ∨ g = 1 ∨ g = 2) g with rfl | rfl | rfl
  · refine Eq.trans ?_ (carried0 R eb r d)
    rw [if_pos rfl]
    pointwise [k0_pay3]
  · rw [if_neg (by decide), if_pos rfl]
    refine (dk_before hr hn _ r d).trans ?_
    rw [carried1 R eb r d, Lift.add]
    refine congrArg _ ((dK_split (pred n) r d).trans ?_).symm
    rw [dif_pos (succ_lt hn), succ_pred hn]
    rfl
  · rw [if_neg (by decide), if_neg (by decide)]
    refine (dv_before hr hn _ r d).trans ?_
    rw [carried2 R eb r d, Lift.add]
    refine congrArg _ ((dV_split (pred n) r d).trans ?_).symm
    rw [dif_pos (succ_lt hn), succ_pred hn]

/-- The three blocks that go out at a head's last point are the gradients of its last block. -/
theorem done_last (hl : t.val = 9 * h.val + 8) (g : Fin 3) (r : Fin 512) (d : Fin 128) :
    (outsAt0 m c t.val t.isLt).1 (ix3 g r d) = (grad p o tb g h (pos 7 r) d : EReal) := by
  rw [last hl, three_apply]
  have eb : At ⟨t.val - 1, by omega⟩ h 7 := ⟨by simp; omega⟩
  rcases (by decide : ∀ g : Fin 3, g = 0 ∨ g = 1 ∨ g = 2) g with rfl | rfl | rfl
  · refine Eq.trans ?_ (carried0 R eb r d)
    rw [if_pos rfl]
    pointwise [k0_pay9]
  · rw [if_neg (by decide), if_pos rfl]
    refine Eq.trans ?_ ((carried1 R eb r d).trans (congrArg _ ((dK_split 7 r d).trans (by rw [dif_neg (by decide), add_zero])).symm))
    pointwise [k0_pay10]
  · rw [if_neg (by decide), if_neg (by decide)]
    refine Eq.trans ?_ ((carried2 R eb r d).trans (congrArg _ ((dV_split 7 r d).trans (by rw [dif_neg (by decide), add_zero])).symm))
    pointwise [k0_pay11]

/-- The bias gradients gathered at a point are the parts of the blocks so far. -/
theorem gathered (k : ℕ) : ∀ (hk : k < 8) (t : Fin cfg0.N) (_ : At t h ⟨k, hk⟩) (r : Fin 512) (x : Fin 1024),
    (outsAt0 m c t.val t.isLt).2.1 (ix3 0 r x) = ((∑ n with n ≤ (⟨k, hk⟩ : Fin 8), part p o tb h n r x : ℝ) : EReal) := by
  induction k with
  | zero =>
    intro hk t e r x
    have hr := reads R e
    have hs : (Finset.univ.filter fun n : Fin 8 => n ≤ ⟨0, hk⟩) = {0} := rfl
    rw [out8_first e rfl, hs, Finset.sum_singleton]
    by_cases hx : x.val < 512
    · refine (two_lower _ _ r ⟨x.val, hx⟩).trans ?_
      rw [part, dif_pos hx]
      refine Eq.trans ?_ (ds_prev hr r ⟨x.val, hx⟩)
      pointwise [k0_pay31]
    · have hx' : x = ⟨512 + (x.val - 512), by omega⟩ := Fin.ext (by simp; omega)
      refine (congrArg (fun x => View.canon _ (ix3 0 r x)) hx').trans ((two_upper _ _ r ⟨x.val - 512, by omega⟩).trans ?_)
      rw [part, dif_neg hx]
      refine Eq.trans ?_ (ds_cur hr r ⟨x.val - 512, by omega⟩)
      pointwise [k0_pay32]
  | succ k ih =>
    intro hk t e r x
    have hr := reads R e
    have hn : (⟨k + 1, hk⟩ : Fin 8) ≠ 0 := fun e => by simp [Fin.ext_iff] at e
    have eb := e.before hn
    have ihb := ih (by omega) _ eb r x
    have hs : (∑ n with n ≤ (⟨k + 1, hk⟩ : Fin 8), part p o tb h n r x)
        = (∑ n with n ≤ (⟨k, by omega⟩ : Fin 8), part p o tb h n r x) + part p o tb h ⟨k + 1, hk⟩ r x := by
      have : (Finset.univ.filter fun n : Fin 8 => n ≤ ⟨k + 1, hk⟩) = insert ⟨k + 1, hk⟩ (Finset.univ.filter fun n : Fin 8 => n ≤ ⟨k, by omega⟩) := by
        ext n; simp only [Finset.mem_filter, Finset.mem_univ, true_and, Finset.mem_insert, Fin.le_def, Fin.ext_iff]; omega
      rw [this, Finset.sum_insert (by simp [Fin.le_def]), add_comm]
    rw [out8_next e hn, hs, ← Lift.add, ← ihb]
    by_cases hx : x.val < 512
    · refine (two_lower _ _ r ⟨x.val, hx⟩).trans ?_
      rw [part, dif_pos hx]
      refine Eq.trans ?_ (congrArg₂ (· + ·) (lower_apply _ r ⟨x.val, hx⟩) (ds_prev hr r ⟨x.val, hx⟩))
      pointwise [k0_pay33]
    · have hx' : x = ⟨512 + (x.val - 512), by omega⟩ := Fin.ext (by simp; omega)
      refine (congrArg (fun x => View.canon _ (ix3 0 r x)) hx').trans ((two_upper _ _ r ⟨x.val - 512, by omega⟩).trans ?_)
      rw [part, dif_neg hx]
      refine Eq.trans ?_ (congrArg₂ (· + ·) ((upper_apply _ r ⟨x.val - 512, by omega⟩).trans
        (congrArg (fun x => (outsAt0 m c (t.val - 1) (by omega)).2.1 (ix3 0 r x)) hx'.symm)) (ds_cur hr r ⟨x.val - 512, by omega⟩))
      pointwise [k0_pay34]

/-- At a head's last point all its parts are gathered. -/
theorem gathered_last (hl : t.val = 9 * h.val + 8) (r : Fin 512) (x : Fin 1024) :
    (outsAt0 m c t.val t.isLt).2.1 (ix3 0 r x) = ((∑ n, part p o tb h n r x : ℝ) : EReal) := by
  rw [last8 hl]
  have := gathered R 7 (by omega) ⟨t.val - 1, by omega⟩ (⟨by simp; omega⟩ : At _ h 7) r x
  refine this.trans ?_
  have hs : (Finset.univ.filter fun n : Fin 8 => n ≤ ⟨7, by omega⟩) = Finset.univ := rfl
  rw [hs]

end Cert.AttnBwdIdeal.Val
-- ==== Proof.AttnFinal.lean ====
module

public import proofs.«01_k».proof.Proof.AttnGrad

@[expose] public section

set_option maxRecDepth 16384

noncomputable section

/-! What the attention kernel's two results hold after its run: the gradients of queries, keys and values in their
    segments and the rest of the array as it came, and the bias gradients gathered over all blocks, which the host then
    sums into the table. -/

namespace Cert.AttnBwdIdeal.Val

open Cert.AttnBwdIdeal Cert.AttnBwdIdeal.Gen Idealize.ShloMosaic Idealize.ShloMosaic.TcCoe Idealize.SL.Sem
open Cert.AttnMath (pos pred band rel dT)

/-- The head of a column, and its coordinate in the head. -/
def head (j : Fin 2048) : Fin 16 := ⟨j.val / 128, by omega⟩
def coord (j : Fin 2048) : Fin 128 := ⟨j.val % 128, by omega⟩

variable (p : Fin 4096 → Fin 14336 → ℝ) (o : Fin 4096 → Fin 2048 → ℝ) (tb : Fin 16 → Fin 513 → ℝ)

/-- The first result, from the array it is written over. -/
def out (x : FVec Ideal S7x4096x2048 .bf16) : FVec Ideal S7x4096x2048 .bf16 := fun i =>
  if h : (i 0).val < 3 then (grad p o tb ⟨(i 0).val, h⟩ (head (i 2)) (i 1) (coord (i 2)) : EReal) else x i

/-- The bias gradients gathered over all blocks. -/
def sums : FVec Ideal S16x512x1024 .f32 := fun i => ((∑ n, part p o tb (i 0) n (i 1) (i 2) : ℝ) : EReal)

/-- The second result: every head's gradient of the bias table. -/
def table : FVec Ideal S16x513 .f32 := fun i =>
  (dT (seg p 0 (i 0)) (seg p 1 (i 0)) (seg p 2 (i 0)) (fun k d => o k (col (i 0) d)) (tb (i 0)) scale (i 1) : EReal)

theorem head_col (h : Fin 16) (d : Fin 128) : head (col h d) = h := Fin.ext (by simp only [head, col]; omega)

theorem coord_col (h : Fin 16) (d : Fin 128) : coord (col h d) = d := Fin.ext (by simp only [coord, col]; omega)

theorem flush7 : ∀ t : Fin cfg0.N, (cfg0.win 7).flush t = true ↔ t.val % 9 ≠ 0 :=
  (by decide +kernel : ∀ t : Fin grid0.N, win0_7.flush t = true ↔ t.val % 9 ≠ 0)

theorem idx_out : ∀ t : Fin cfg0.N, win0_7.index t = ![0, t.val % 9 - 1, t.val / 9] ∧ win0_8.index t = ![t.val / 9, 0, 0] :=
  (by decide +kernel : ∀ t : Fin grid0.N, _)

variable {p o tb} {m : (ℓ : Loc nD τ sig) → Buf (Elt Ideal) ℓ} {c : Dev nD} (R : Real m c p o tb)
include R

/-- The blocks that go out at a point hold the gradients of the block of positions before. -/
theorem done_all (t : Fin cfg0.N) (ht : t.val % 9 ≠ 0) (g : Fin 3) (r : Fin 512) (d : Fin 128) :
    (outsAt0 m c t.val t.isLt).1 (ix3 g r d)
      = (grad p o tb g ⟨t.val / 9, by have := t.isLt.trans_eq N_0; omega⟩ (pos ⟨t.val % 9 - 1, by omega⟩ r) d : EReal) := by
  have hN := t.isLt.trans_eq N_0
  by_cases hl : t.val % 9 = 8
  · have := done_last (h := ⟨t.val / 9, by omega⟩) R (t := t) (by simp; omega) g r d
    refine this.trans ?_
    have e : (⟨t.val % 9 - 1, by omega⟩ : Fin 8) = 7 := Fin.ext (by simp; omega)
    rw [e]
  · exact done R (n := ⟨t.val % 9, by omega⟩) (h := ⟨t.val / 9, by omega⟩) ⟨by simp; omega⟩ (fun e => ht (congrArg Fin.val e)) g r d

theorem final7 : (dats m 0 c).arrAt 7 cfg0.N = out p o tb (m ((c : Thread nD τ).loc main_arg0)) := by
  refine (dats m 0 c).arrAt_eq_of_coversWhere_of_agree 7 _ (fun β => β (0 : Fin 3) = 0) (by decide +kernel)
    (fun t hf y => ?_) (fun j hj => ?_)
  · have ht := (flush7 t).mp hf
    blk_simp
    rw [after0_7]
    have hN := t.isLt.trans_eq N_0
    obtain ⟨g, r, d, hY⟩ : ∃ (g : Fin 3) (r : Fin 512) (d : Fin 128), (cfg0.win 7).xinj (cfg0.grid.coords t) y = ix3 g r d :=
      ⟨⟨(y 0).val, ((cfg0.win 7).xinj (cfg0.grid.coords t) y 0).isLt⟩, ⟨(y 1).val, ((cfg0.win 7).xinj (cfg0.grid.coords t) y 1).isLt⟩,
        ⟨(y 2).val, ((cfg0.win 7).xinj (cfg0.grid.coords t) y 2).isLt⟩, by
          funext a; match a with | ⟨0, _⟩ => rfl | ⟨1, _⟩ => rfl | ⟨2, _⟩ => rfl⟩
    have hv (a : Fin 3) : (y a : ℕ) = ((ix3 g r d : S3x512x128.Idx) a : ℕ) := by rw [← hY]
    have he : (win0_7.blk t).view.emb y = ix3 (⟨g.val, g.isLt.trans (by decide)⟩ : Fin 7)
        (pos ⟨t.val % 9 - 1, by omega⟩ r) (col ⟨t.val / 9, by omega⟩ d) := by
      funext a
      refine Fin.ext ((Pipeline.Window.rect_emb_val win0_7 t y a).trans ?_)
      rw [(idx_out t).1, hv a]
      match a with
      | ⟨0, _⟩ => show 0 * 3 + g.val = g.val; omega
      | ⟨1, _⟩ => show (t.val % 9 - 1) * 512 + r.val = 512 * (t.val % 9 - 1) + r.val; omega
      | ⟨2, _⟩ => rfl
    rw [he, hY]
    refine (done_all R t ht g r d).trans ?_
    simp only [out]
    rw [dif_pos (show ((ix3 (⟨g.val, g.isLt.trans (by decide)⟩ : Fin 7) _ _ : S7x4096x2048.Idx) 0).val < 3 from g.isLt)]
    show _ = ((grad p o tb g (head (col _ d)) _ (coord (col _ d)) : ℝ) : EReal)
    rw [head_col, coord_col]
    rfl
  · have hj' : ¬(j (0 : Fin 3)).val / 3 = 0 := hj
    blk_simp
    rw [A_eq]
    refine (congrFun (V_v29 m c) _).trans ?_
    unfold out
    have h3 : ¬(j (0 : Fin 3)).val < 3 := fun h => hj' (Nat.div_eq_of_lt h)
    rw [dif_neg h3]

theorem final8 : (dats m 0 c).arrAt 8 cfg0.N = sums p o tb := by
  refine (dats m 0 c).arrAt_eq_of_covers 8 _ (by decide +kernel) fun t hf y => ?_
  have ht := (flush0_8 t).mp hf
  blk_simp
  rw [after0_8]
  have hN := t.isLt.trans_eq N_0
  have he : (win0_8.blk t).view.emb y = ix3 (⟨t.val / 9, by omega⟩ : Fin 16) (y 1 : Fin 512) (y 2 : Fin 1024) := by
    funext a
    refine Fin.ext ((Pipeline.Window.rect_emb_val win0_8 t y a).trans ?_)
    rw [(idx_out t).2]
    match a with
    | ⟨0, _⟩ => have : (y 0 : ℕ) < 1 := (y 0).isLt; simp [ix3]
    | ⟨1, _⟩ => simp [ix3]
    | ⟨2, _⟩ => simp [ix3]
  have hY3 : y = ix3 (0 : Fin 1) (y 1 : Fin 512) (y 2 : Fin 1024) := by
    funext a
    match a with
    | ⟨0, _⟩ => exact Fin.ext (by have : (y 0 : ℕ) < 1 := (y 0).isLt; show (y 0 : ℕ) = 0; omega)
    | ⟨1, _⟩ => rfl
    | ⟨2, _⟩ => rfl
  rw [he, hY3]
  exact gathered_last R (h := ⟨t.val / 9, by omega⟩) (by simp; omega) _ _

omit R in
open AttnMath in
/-- The bias gradients, summed into the table entry of their distance, are the table's gradient. -/
theorem sum_table (h : Fin 16) (k : Fin 513) :
    ∑ r : Fin 512, ∑ x : Fin 1024, (∑ n, part p o tb h n r x) * (if rel (r.val + 512) x.val = k then 1 else 0)
      = dT (seg p 0 h) (seg p 1 h) (seg p 2 h) (fun i d => o i (col h d)) (tb h) scale k := by
  have hx (f : Fin 1024 → ℝ) : ∑ x, f x = (∑ x : Fin 512, f ⟨x.val, by omega⟩) + ∑ x : Fin 512, f ⟨512 + x.val, by omega⟩ :=
    Fin.sum_univ_add (a := 512) (b := 512) f
  have hj (i : Fin 4096) (n : Fin 8) (r : Fin 512) (hi : i = pos n r) :
      (∑ j : Fin 4096, if rel i.val j.val = k then dS (seg p 0 h) (seg p 1 h) (seg p 2 h) (fun i d => o i (col h d)) (tb h) scale i j else 0)
        = ∑ x : Fin 1024, part p o tb h n r x * (if rel (r.val + 512) x.val = k then 1 else 0) := by
    rw [hi, sum_keys n r _ fun j hj => by rw [dS_off _ _ _ _ _ _ hj, ite_self], hx]
    refine congrArg₂ (· + ·) (Finset.sum_congr rfl fun x _ => ?_) (Finset.sum_congr rfl fun x _ => ?_)
    · rw [part, dif_pos x.isLt]
      by_cases hn : n = 0
      · rw [if_pos hn, if_pos hn, zero_mul]
      · have hn' : n.val ≠ 0 := fun e => hn (Fin.ext e)
        have hr : rel (pos n r).val (pos (pred n) x).val = rel (r.val + 512) x.val := by
          simp only [rel, pos, pred, Fin.mk.injEq]; omega
        rw [if_neg hn, if_neg hn, hr, mul_ite, mul_one, mul_zero]
        rfl
    · have hr : rel (pos n r).val (pos n x).val = rel (r.val + 512) (512 + x.val) := by
        simp only [rel, pos, Fin.mk.injEq]; omega
      have he : (⟨512 + x.val - 512, by omega⟩ : Fin 512) = x := Fin.ext (by simp)
      rw [part, dif_neg (by simp), hr, mul_ite, mul_one, mul_zero, he]
      rfl
  unfold dT
  rw [sum_pos, Finset.sum_comm (s := (Finset.univ : Finset (Fin 8)))]
  refine Finset.sum_congr rfl fun r _ => ?_
  rw [Finset.sum_congr rfl fun n _ => hj _ n r rfl, Finset.sum_comm (s := (Finset.univ : Finset (Fin 8)))]
  exact Finset.sum_congr rfl fun x _ => Finset.sum_mul ..

/-- The table's gradient as the host sums it after the kernel. -/
theorem final35 : Pipeline.afterTail₀ cfgs (dats m) 0 (V0 m) [hostOps1] c main_v35 = table p o tb := by
  have h8 : Pipeline.withArrays (cfgs 0).spec c (V0 m c) (fun w => (dats m 0 c).arrAt w (cfgs 0).N) (Proc.devRef .tc main_v29_1)
      = sums p o tb := ((dats m 0 c).withArrays_arrAt sharedIn0 (V0 m c) (A_eq m c) 8).trans (final8 R)
  have h10 : Pipeline.withArrays (cfgs 0).spec c (V0 m c) (fun w => (dats m 0 c).arrAt w (cfgs 0).N) (Proc.devRef .tc main_v10)
      = idxs := (Pipeline.withArrays_of_ne _ _ _ _ _ (by decide)).trans (V_v10 m c)
  unfold Pipeline.afterTail₀
  simp only [hostOps1, List.flatten_cons, List.flatten_nil, List.append_nil, List.cons_append, List.nil_append]
  after_results
  rw [h8, h10]
  funext i
  obtain ⟨h, k, rfl⟩ : ∃ h k, i = ix2 h k := ⟨i 0, i 1, by funext a; match a with | ⟨0, _⟩ => rfl | ⟨1, _⟩ => rfl⟩
  pointwise
  have ht (x : Fin 1024) (r : Fin 512) :
      sums p o tb (ix3 h r x) * FloatOps.uitofp FTy.f32 (IntOp.cmpi CmpIPredicate.eq (idxs (ix2 r x)) (BitVec.ofNat 32 k.val))
        = (((∑ n, part p o tb h n r x) * (if rel (r.val + 512) x.val = k then 1 else 0) : ℝ) : EReal) := by
    have hz := idxs_toInt r x
    have hk := k.isLt
    have hc : IntOp.cmpi CmpIPredicate.eq (idxs (ix2 r x)) (BitVec.ofNat 32 k.val)
        = if rel (r.val + 512) x.val = k then 1#1 else 0#1 := by
      have hw : (BitVec.ofNat 32 k.val).toInt = (k.val : ℤ) := by
        rw [BitVec.toInt_eq_toNat_cond, BitVec.toNat_ofNat]; omega
      show BitVec.ofBool (idxs (ix2 r x) == BitVec.ofNat 32 k.val) = _
      split
      · next e =>
        rw [show idxs (ix2 r x) = BitVec.ofNat 32 k.val from BitVec.eq_of_toInt_eq (by rw [hz, hw, e]), beq_self_eq_true]
        rfl
      · next e =>
        rw [beq_eq_false_iff_ne.mpr fun he => e (Fin.ext (by rw [he, hw] at hz; omega))]
        rfl
    rw [hc]
    split
    · show ((∑ n, part p o tb h n r x : ℝ) : EReal) * (((1#1 : BitVec 1).toNat : ℝ) : EReal) = _
      simp
    · show ((∑ n, part p o tb h n r x : ℝ) : EReal) * (((0#1 : BitVec 1).toNat : ℝ) : EReal) = _
      simp
  rw [Finset.sum_congr rfl fun x _ => Finset.sum_congr rfl fun r _ => ht x r, Finset.sum_comm]
  simp only [Lift.sum]
  exact congrArg _ (sum_table h k)

end Cert.AttnBwdIdeal.Val
-- ==== Proof.AttnRead.lean ====
module

public import proofs.«01_k».proof.Proof.AttnFinal
public import proofs.«01_k».proof.Proof.Gen.AttnRefIdeal.Read

@[expose] public section

set_option maxRecDepth 16384

noncomputable section

/-! The attention gradient's reference, read step by step at real arguments: the scores, their exponentials, the
    probabilities, and the chain rule back from the output. -/

namespace Cert.AttnRead

open Idealize.ShloMosaic Cert.AttnRefIdeal Cert.AttnRefIdeal.Read
open Cert.AttnMath (pos pred band rel score wt tot P dP mean dS dQ dK dV dT)
open Cert.AttnBwdIdeal.Val (col segCol seg scale head coord)

variable {x1 : FVec Ideal S1x4096x14336 .f32} {x2 : FVec Ideal S2x4096x2048 .bf16} {x3 : FVec Ideal S16x513 .f32}
  {p : Fin 4096 → Fin 14336 → ℝ} {o : Fin 4096 → Fin 2048 → ℝ} {tb : Fin 16 → Fin 513 → ℝ}

/-- An index is known by its three coordinates. -/
theorem eq3 {A B C : ℕ} (k : (⟨3, ![A, B, C]⟩ : Shape).Idx) (a : Fin A) (b : Fin B) (c : Fin C) (h0 : (k 0).val = a.val)
    (h1 : (k 1).val = b.val) (h2 : (k 2).val = c.val) : k = ix3 a b c :=
  funext fun n => Fin.ext (match n with | ⟨0, _⟩ => h0 | ⟨1, _⟩ => h1 | ⟨2, _⟩ => h2)

theorem at1 (hp : ∀ i j, x1 (ix3 0 i j) = (p i j : EReal)) (k : S1x4096x14336.Idx) {i : Fin 4096} {j : Fin 14336}
    (hi : (k 1).val = i.val) (hj : (k 2).val = j.val) : x1 k = (p i j : EReal) := by
  rw [← hp]
  refine congrArg x1 (funext fun a => Fin.ext ?_)
  match a with
  | ⟨0, _⟩ => have : (k 0).val < 1 := (k 0).isLt; show (k 0).val = 0; omega
  | ⟨1, _⟩ => exact hi
  | ⟨2, _⟩ => exact hj

theorem at2 (ho : ∀ i j, x2 (ix3 0 i j) = (o i j : EReal)) (k : S2x4096x2048.Idx) {i : Fin 4096} {j : Fin 2048}
    (h0 : (k 0).val = 0) (hi : (k 1).val = i.val) (hj : (k 2).val = j.val) : x2 k = (o i j : EReal) := by
  rw [← ho]
  refine congrArg x2 (funext fun a => Fin.ext ?_)
  match a with
  | ⟨0, _⟩ => exact h0
  | ⟨1, _⟩ => exact hi
  | ⟨2, _⟩ => exact hj

/-- The scaled queries. -/
theorem read_query (hp : ∀ i j, x1 (ix3 0 i j) = (p i j : EReal)) (i : Fin 4096) (h : Fin 16) (d : Fin 128) :
    val_main_v16 (F := Ideal) x1 (ix3 i h d) = ((seg p 0 h i d * scale : ℝ) : EReal) := by
  pointwise [val_main_v16_apply, val_main_v15_apply, val_main_v2_apply, val_main_v1_apply, val_main_v0_apply]
  rw [show val_main_cst (F := Ideal) (idx_main_v15 (ix3 i h d)) = (scale : EReal) from Cert.AttnBwdIdeal.Val.lit_scale,
    at1 hp _ (i := i) (j := segCol 0 (col h d)) (by simp [ix3]; omega) (by simp [ix3, segCol, col]; omega), Lift.mul]
  rfl

/-- The keys. -/
theorem read_key (hp : ∀ i j, x1 (ix3 0 i j) = (p i j : EReal)) (i : Fin 4096) (h : Fin 16) (d : Fin 128) :
    val_main_v5 (F := Ideal) x1 (ix3 i h d) = (seg p 1 h i d : EReal) := by
  pointwise [val_main_v5_apply, val_main_v4_apply, val_main_v3_apply]
  exact at1 hp _ (i := i) (j := segCol 1 (col h d)) (by simp [ix3]; omega) (by simp [ix3, segCol, col]; omega)

/-- The values. -/
theorem read_value (hp : ∀ i j, x1 (ix3 0 i j) = (p i j : EReal)) (i : Fin 4096) (h : Fin 16) (d : Fin 128) :
    val_main_v8 (F := Ideal) x1 (ix3 i h d) = (seg p 2 h i d : EReal) := by
  pointwise [val_main_v8_apply, val_main_v7_apply, val_main_v6_apply]
  exact at1 hp _ (i := i) (j := segCol 2 (col h d)) (by simp [ix3]; omega) (by simp [ix3, segCol, col]; omega)

/-- The cotangent. -/
theorem read_ct (ho : ∀ i j, x2 (ix3 0 i j) = (o i j : EReal)) (h : Fin 16) (d : Fin 128) (i : Fin 4096) :
    val_main_v71 (F := Ideal) x2 (ix3 h d i) = (o i (col h d) : EReal) := by
  pointwise [val_main_v71_apply, val_main_v12_apply, val_main_v11_apply, val_main_v10_apply, val_main_v9_apply]
  exact at2 ho _ (i := i) (j := col h d) (by simp [ix3]) (by simp [ix3]; omega) (by simp [ix3, col]; omega)

/-- The index into the bias table: the cut distance. -/
theorem idx_toInt (i j : Fin 4096) : (val_main_v27 (F := Ideal) (ix3 i j 0)).toInt = ((rel i.val j.val).val : Int) := by
  pointwise [val_main_v27_apply, val_main_v26_apply, val_main_v25_apply, val_main_v24_apply, val_main_v23_apply, val_main_v22_apply, val_main_v21_apply, val_main_v20_apply, val_main_v19_apply, val_main_v18_apply, val_main_v14_apply, val_main_v13_apply, val_main_call0_v4_apply, val_main_call0_v2_apply]
  have h : (Words.index (Scalar.subi (BitVec.ofNat 32 i.val) (BitVec.ofNat 32 j.val))).toInt = ((rel i.val j.val).val : Int) := by
    rw [Words.index_toInt (Affine.subi (Affine.ofNat i.val ⟨rfl, by omega⟩) (Affine.ofNat j.val ⟨rfl, by omega⟩) ⟨rfl, by omega, by omega⟩)]
    simp only [rel]
    omega
  have h0 : 0 ≤ (Words.index (Scalar.subi (BitVec.ofNat 32 i.val) (BitVec.ofNat 32 j.val))).toInt := by rw [h]; omega
  exact (congrArg BitVec.toInt (Words.wrap h0)).trans h

/-- The mask selects in the band. -/
theorem mask_select {α : Type} (h : Fin 16) (i j : Fin 4096) (u v : α) :
    Scalar.select (val_main_v40_1 (F := Ideal) (ix3 h i j)) u v = if band i.val j.val then u else v := by
  pointwise [val_main_v40_1_apply, val_main_v39_apply, val_main_v38_apply, val_main_v37_apply, val_main_v36_apply, val_main_v35_apply, val_main_v34_apply, val_main_v33_apply, val_main_v32_apply, val_main_v31_apply, val_main_v30_apply]
  exact Words.select_test i.isLt j.isLt _ _

/-- The masked scores. -/
theorem read_masked (h : Fin 16) (i j : Fin 4096) :
    val_main_v40_0 (F := Ideal) x1 x3 (ix3 h i j) = if band i.val j.val then val_main_v29 (F := Ideal) x1 x3 (ix3 h i j) else ⊥ := by
  rw [val_main_v40_0_apply, mask_select, ← Soft.lit_bot]
  pointwise [val_main_call1_v2_apply]
  rfl

/-- The largest masked score of a query. -/
theorem read_max (h : Fin 16) (i : Fin 4096) :
    val_main_v48 (F := Ideal) x1 x3 (ix2 h i) = Finset.fold max ⊥ (fun j => val_main_v40_0 (F := Ideal) x1 x3 (ix3 h i j)) Finset.univ := by
  rw [val_main_v48_apply]
  unfold val_main_v41
  pointwise [val_main_v47_apply]
  rw [show val_main_cst_11 (F := Ideal) (idx_main_v47 (ix2 h i)) = ⊥ from Soft.lit_bot,
    show val_main_cst_9 (F := Ideal) (Shape.Idx.first Gen.h_S_) = ⊥ from Soft.lit_bot]
  exact max_eq_right bot_le

section
variable (hp : ∀ i j, x1 (ix3 0 i j) = (p i j : EReal)) (ht : ∀ h k, x3 (ix2 h k) = (tb h k : EReal))
include hp ht

/-- The scores. -/
theorem read_score (h : Fin 16) (i j : Fin 4096) :
    val_main_v29 (F := Ideal) x1 x3 (ix3 h i j) = (score (seg p 0 h) (seg p 1 h) (tb h) scale i j : EReal) := by
  rw [val_main_v29_apply, val_main_v17_apply]
  have hb : val_main_v28 (F := Ideal) x3 (ix3 h i j) = (tb h (rel i.val j.val) : EReal) :=
    (Columns.take_apply gather_S16x513_S4096x4096x1_S16x4096x4096_0_1_n_n_1_2_161.wf x3 _ h i j _ (idx_toInt i j)).trans (ht _ _)
  have hs (d : Fin 128) : val_main_v16 (F := Ideal) x1 (lidx_main_v17 (ix3 h i j) d) * val_main_v5 (F := Ideal) x1 (ridx_main_v17 (ix3 h i j) d)
      = ((seg p 0 h i d * scale * seg p 1 h j d : ℝ) : EReal) :=
    (congrArg₂ (· * ·) (read_query hp i h d) (read_key hp j h d)).trans (Lift.mul _ _)
  rw [hb, Finset.sum_congr rfl fun d _ => hs d, Lift.sum]
  refine (Lift.add _ _).trans (congrArg _ ?_)
  rw [score, Finset.sum_mul]
  exact congrArg (· + _) (Finset.sum_congr rfl fun d _ => by ring)

/-- The exponentials, of scores less a real maximum. -/
theorem read_exp (h : Fin 16) (i : Fin 4096) : ∃ E : ℝ, 0 < E ∧ ∀ j,
    val_main_v61 (F := Ideal) x1 x3 (ix3 h i j) = ((wt (seg p 0 h) (seg p 1 h) (tb h) scale i j * E : ℝ) : EReal) := by
  have hm (j : Fin 4096) : val_main_v40_0 (F := Ideal) x1 x3 (ix3 h i j)
      = Soft.masked (band i.val j.val) (score (seg p 0 h) (seg p 1 h) (tb h) scale i j) := by
    rw [read_masked, read_score hp ht]; rfl
  obtain ⟨μ, hμ⟩ := Soft.fold_real (f := fun j => val_main_v40_0 (F := Ideal) x1 x3 (ix3 h i j)) (fun j => by rw [hm]; exact Soft.masked_lt_top _ _)
    (x := i) (by rw [hm]; exact Soft.bot_lt_masked ⟨le_rfl, by omega⟩ _)
  refine ⟨Real.exp (-μ), Real.exp_pos _, fun j => ?_⟩
  rw [← read_max] at hμ
  pointwise [val_main_v61_apply, val_main_v60_apply, val_main_v59_apply, val_main_v58_apply]
  have e : val_main_v48 (F := Ideal) x1 x3 (idx_main_v58 (idx_main_v59 (ix3 h i j))) = (μ : EReal) := by
    rw [← hμ]; exact congrArg _ (by funext a; match a with | ⟨0, _⟩ => rfl | ⟨1, _⟩ => rfl)
  rw [e, hm, Soft.exp_masked]
  rfl

/-- A query's total of exponentials. -/
theorem read_tot {h : Fin 16} {i : Fin 4096} {E : ℝ} (hE : ∀ j,
      val_main_v61 (F := Ideal) x1 x3 (ix3 h i j) = ((wt (seg p 0 h) (seg p 1 h) (tb h) scale i j * E : ℝ) : EReal)) (z : Fin 1) :
    val_main_v63 (F := Ideal) x1 x3 (ix3 h i z) = ((tot (seg p 0 h) (seg p 1 h) (tb h) scale i * E : ℝ) : EReal) := by
  pointwise [val_main_v63_apply, val_main_v62_apply]
  have hs (j : Fin 4096) : val_main_v61 (F := Ideal) x1 x3 (idx_main_v62 (idx_main_v63 (ix3 h i z)) j)
      = ((wt (seg p 0 h) (seg p 1 h) (tb h) scale i j * E : ℝ) : EReal) := by
    rw [eq3 (idx_main_v62 (idx_main_v63 (ix3 h i z)) j) h i j rfl rfl rfl, hE]
  rw [Finset.sum_congr rfl fun j _ => hs j, Lift.sum, ← Finset.sum_mul]
  exact (congrArg (· + _) Lift.lit_zero).trans (zero_add _)

/-- The probabilities. -/
theorem read_prob (h : Fin 16) (i j : Fin 4096) :
    val_main_v65 (F := Ideal) x1 x3 (ix3 h i j) = (P (seg p 0 h) (seg p 1 h) (tb h) scale i j : EReal) := by
  obtain ⟨E, hE0, hE⟩ := read_exp hp ht h i
  pointwise [val_main_v65_apply, val_main_v64_apply]
  rw [eq3 (idx_main_v64 (ix3 h i j)) h i 0 rfl rfl rfl, read_tot hp ht hE, hE,
    Lift.div _ (mul_pos (Cert.AttnMath.tot_pos _ _ _ _ i) hE0).ne', mul_div_mul_right _ _ hE0.ne']
  rfl

variable (ho : ∀ i j, x2 (ix3 0 i j) = (o i j : EReal))
include ho

omit ht in
/-- The gradients with respect to the probabilities. -/
theorem read_dP (h : Fin 16) (i j : Fin 4096) :
    val_main_v72 (F := Ideal) x1 x2 (ix3 h i j) = (dP (seg p 2 h) (fun i d => o i (col h d)) i j : EReal) := by
  rw [val_main_v72_apply]
  have hs (d : Fin 128) : val_main_v71 (F := Ideal) x2 (lidx_main_v72 (ix3 h i j) d) * val_main_v8 (F := Ideal) x1 (ridx_main_v72 (ix3 h i j) d)
      = ((o i (col h d) * seg p 2 h j d : ℝ) : EReal) :=
    (congrArg₂ (· * ·) (read_ct ho h d i) (read_value hp j h d)).trans (Lift.mul _ _)
  rw [Finset.sum_congr rfl fun d _ => hs d, Lift.sum]
  rfl

/-- The gradients with respect to the scores. -/
theorem read_dS (h : Fin 16) (i j : Fin 4096) :
    val_main_v87 (F := Ideal) x1 x2 x3 (ix3 h i j) = (dS (seg p 0 h) (seg p 1 h) (seg p 2 h) (fun i d => o i (col h d)) (tb h) scale i j : EReal) := by
  obtain ⟨E, hE0, hE⟩ := read_exp hp ht h i
  set Q := seg p 0 h
  set K := seg p 1 h
  set V := seg p 2 h
  set D : Fin 4096 → Fin 128 → ℝ := fun i d => o i (col h d)
  have hT := Cert.AttnMath.tot_pos Q K (tb h) scale i
  have hl (z : Fin 1) : val_main_v63 (F := Ideal) x1 x3 (ix3 h i z) = ((tot Q K (tb h) scale i * E : ℝ) : EReal) := read_tot hp ht hE z
  have h75 (j : Fin 4096) : val_main_v75 (F := Ideal) x1 x3 (ix3 h i j)
      = ((1 / ((tot Q K (tb h) scale i * E) * (tot Q K (tb h) scale i * E)) : ℝ) : EReal) := by
    pointwise [val_main_v75_apply, val_main_v68_apply, val_main_v67_apply, val_main_v66_apply]
    rw [eq3 (idx_main_v75 (ix3 h i j)) h i 0 rfl rfl rfl, hl, Lift.mul, show val_main_cst_18 (F := Ideal) _ = ((1 : ℝ) : EReal) from Lift.lit_one,
      Lift.div _ (by positivity)]
  have h78 : val_main_v78 (F := Ideal) x1 x2 x3 (ix2 h i) = ((mean Q K V D (tb h) scale i / (tot Q K (tb h) scale i * E) : ℝ) : EReal) := by
    rw [val_main_v78_apply]
    have hs (j : Fin 4096) : val_main_v77 (F := Ideal) x1 x2 x3 (idx_main_v78 (ix2 h i) j)
        = ((P Q K (tb h) scale i j * dP V D i j / (tot Q K (tb h) scale i * E) : ℝ) : EReal) := by
      rw [eq3 (idx_main_v78 (ix2 h i) j) h i j rfl rfl rfl]
      pointwise [val_main_v77_apply, val_main_v76_apply]
      rw [h75, hE, read_dP hp ho, Lift.mul, Lift.mul, P]
      refine congrArg _ ?_
      field_simp
      exact mul_comm _ _
    rw [Finset.sum_congr rfl fun j _ => hs j, Lift.sum, ← Finset.sum_div]
    exact (congrArg (· + _) Lift.lit_zero).trans (zero_add _)
  have h84 : val_main_v84 (F := Ideal) x1 x2 x3 (ix3 h i j) = ((-(mean Q K V D (tb h) scale i / (tot Q K (tb h) scale i * E)) : ℝ) : EReal) := by
    pointwise [val_main_v84_apply, val_main_v83_apply]
    rw [Fin.sum_univ_one]
    pointwise [val_main_v80_apply, val_main_v79_apply]
    have e : idx_main_v79 (idx_main_v83 (idx_main_v84 (ix3 h i j)) 0) = ix2 h i := by
      funext a
      match a with
      | ⟨0, _⟩ => exact Fin.ext (by simp [ix2, ix3]; omega)
      | ⟨1, _⟩ => exact Fin.ext (by simp [ix2, ix3])
    rw [e, h78, Lift.neg]
    exact (congrArg (· + _) Lift.lit_zero).trans (zero_add _)
  have hu : val_main_v86 (F := Ideal) x1 x2 x3 (ix3 h i j) = (dS Q K V D (tb h) scale i j : EReal) := by
    pointwise [val_main_v86_apply, val_main_v85_apply, val_main_v82_apply, val_main_v81_apply]
    rw [eq3 (idx_main_v81 (ix3 h i j)) h i 0 rfl rfl rfl, hl, h84, hE, read_dP hp ho, Lift.div _ (by positivity), Lift.add, Lift.mul, dS, P]
    refine congrArg _ ?_
    field_simp
    ring
  pointwise [val_main_v87_apply, val_main_call2_v0_apply]
  rw [hu, mask_select]
  split
  · rfl
  · next hb => rw [Cert.AttnMath.dS_off _ _ _ _ _ _ hb]; exact Lift.lit_zero

/-- The gradients with respect to the queries. -/
theorem read_dQ (h : Fin 16) (i : Fin 4096) (d : Fin 128) :
    val_main_v95 (F := Ideal) x1 x2 x3 (ix3 i h d) = (dQ (seg p 0 h) (seg p 1 h) (seg p 2 h) (fun i d => o i (col h d)) (tb h) scale i d : EReal) := by
  pointwise [val_main_v95_apply, val_main_v94_apply, val_main_v93_apply, val_main_v92_apply]
  have hs (j : Fin 4096) : val_main_v87 (F := Ideal) x1 x2 x3 (lidx_main_v92 (idx_main_v93 (ix3 i h d)) j)
        * val_main_v5 (F := Ideal) x1 (ridx_main_v92 (idx_main_v93 (ix3 i h d)) j)
      = ((dS (seg p 0 h) (seg p 1 h) (seg p 2 h) (fun i d => o i (col h d)) (tb h) scale i j * seg p 1 h j d : ℝ) : EReal) := by
    rw [eq3 (lidx_main_v92 (idx_main_v93 (ix3 i h d)) j) h i j rfl rfl rfl, eq3 (ridx_main_v92 (idx_main_v93 (ix3 i h d)) j) j h d rfl rfl rfl]
    exact (congrArg₂ (· * ·) (read_dS hp ht ho h i j) (read_key hp j h d)).trans (Lift.mul _ _)
  rw [Finset.sum_congr rfl fun j _ => hs j, Lift.sum, show val_main_cst_22 (F := Ideal) (idx_main_v94 (ix3 i h d)) = (scale : EReal) from
    Cert.AttnBwdIdeal.Val.lit_scale, Lift.mul, dQ, Finset.sum_mul]
  exact congrArg _ (Finset.sum_congr rfl fun j _ => by ring)

/-- The gradients with respect to the keys. -/
theorem read_dK (h : Fin 16) (j : Fin 4096) (d : Fin 128) :
    val_main_v91 (F := Ideal) x1 x2 x3 (ix3 j h d) = (dK (seg p 0 h) (seg p 1 h) (seg p 2 h) (fun i d => o i (col h d)) (tb h) scale j d : EReal) := by
  pointwise [val_main_v91_apply, val_main_v90_apply]
  have hs (i : Fin 4096) : val_main_v87 (F := Ideal) x1 x2 x3 (lidx_main_v90 (idx_main_v91 (ix3 j h d)) i)
        * val_main_v16 (F := Ideal) x1 (ridx_main_v90 (idx_main_v91 (ix3 j h d)) i)
      = ((dS (seg p 0 h) (seg p 1 h) (seg p 2 h) (fun i d => o i (col h d)) (tb h) scale i j * (seg p 0 h i d * scale) : ℝ) : EReal) := by
    rw [eq3 (lidx_main_v90 (idx_main_v91 (ix3 j h d)) i) h i j rfl rfl rfl, eq3 (ridx_main_v90 (idx_main_v91 (ix3 j h d)) i) i h d rfl rfl rfl]
    exact (congrArg₂ (· * ·) (read_dS hp ht ho h i j) (read_query hp i h d)).trans (Lift.mul _ _)
  rw [Finset.sum_congr rfl fun i _ => hs i, Lift.sum, dK]
  exact congrArg _ (Finset.sum_congr rfl fun i _ => by ring)

/-- The gradients with respect to the values. -/
theorem read_dV (h : Fin 16) (j : Fin 4096) (d : Fin 128) :
    val_main_v74 (F := Ideal) x1 x2 x3 (ix3 j h d) = (dV (seg p 0 h) (seg p 1 h) (fun i d => o i (col h d)) (tb h) scale j d : EReal) := by
  pointwise [val_main_v74_apply, val_main_v73_apply]
  have hs (i : Fin 4096) : val_main_v71 (F := Ideal) x2 (lidx_main_v73 (idx_main_v74 (ix3 j h d)) i)
        * val_main_v65 (F := Ideal) x1 x3 (ridx_main_v73 (idx_main_v74 (ix3 j h d)) i)
      = ((o i (col h d) * P (seg p 0 h) (seg p 1 h) (tb h) scale i j : ℝ) : EReal) := by
    rw [eq3 (lidx_main_v73 (idx_main_v74 (ix3 j h d)) i) h d i rfl rfl rfl, eq3 (ridx_main_v73 (idx_main_v74 (ix3 j h d)) i) h i j rfl rfl rfl]
    exact (congrArg₂ (· * ·) (read_ct ho h d i) (read_prob hp ht h i j)).trans (Lift.mul _ _)
  rw [Finset.sum_congr rfl fun i _ => hs i, Lift.sum, dV]
  exact congrArg _ (Finset.sum_congr rfl fun i _ => mul_comm _ _)

/-- The gradients with respect to the bias table. -/
theorem read_dT : val_main_v89 (F := Ideal) x1 x2 x3 = Cert.AttnBwdIdeal.Val.table p o tb := by
  funext i
  obtain ⟨h, k, rfl⟩ : ∃ h k, i = ix2 h k := ⟨i 0, i 1, by funext a; match a with | ⟨0, _⟩ => rfl | ⟨1, _⟩ => rfl⟩
  unfold val_main_v89
  unfold Host.scatterAdd
  rw [Ideal.hostScatterAdd_def]
  refine (Columns.add_apply scatter_S16x513_S4096x4096x1_S16x4096x4096_0_1_1_2.wf _ _ _ (fun i j => rel i.val j.val) idx_toInt h k).trans ?_
  have hs (i j : Fin 4096) : (if rel i.val j.val = k then val_main_v87 (F := Ideal) x1 x2 x3 (ix3 h i j) else 0)
      = (((if rel i.val j.val = k then dS (seg p 0 h) (seg p 1 h) (seg p 2 h) (fun i d => o i (col h d)) (tb h) scale i j else 0) : ℝ) : EReal) := by
    split
    · exact read_dS hp ht ho h i j
    · rfl
  rw [Finset.sum_congr rfl fun i _ => Finset.sum_congr rfl fun j _ => hs i j]
  simp only [Lift.sum]
  pointwise [val_main_v88_apply]
  exact (congrArg (· + _) Lift.lit_zero).trans (zero_add _)

/-- The first result. -/
theorem read_out (x0 : FVec Ideal S7x4096x2048 .bf16) : val_main_v107 (F := Ideal) x0 x1 x2 x3 = Cert.AttnBwdIdeal.Val.out p o tb x0 := by
  funext i
  obtain ⟨g, r, j, rfl⟩ : ∃ g r j, i = ix3 g r j := ⟨i 0, i 1, i 2, by funext a; match a with | ⟨0, _⟩ => rfl | ⟨1, _⟩ => rfl | ⟨2, _⟩ => rfl⟩
  unfold val_main_v107 val_main_v105
  pointwise [val_main_v106_apply, val_main_v104_apply, val_main_v103_apply, val_main_v102_apply, val_main_v101_apply, val_main_v100_apply, val_main_v99_apply, val_main_v98_apply, val_main_v97_apply, val_main_v96_apply]
  unfold Cert.AttnBwdIdeal.Val.out
  split
  · split
    · next h3 h1 =>
      obtain rfl : g = 0 := Fin.ext (by simp; omega)
      exact (congrArg _ (eq3 _ r (head j) (coord j) (by simp [ix3]; omega) (by simp [ix3, head]; omega) (by simp [ix3, coord]; omega))).trans
        (read_dQ hp ht ho (head j) r (coord j))
    · split
      · next h3 h1 h2 =>
        obtain rfl : g = 1 := Fin.ext (by simp; omega)
        exact (congrArg _ (eq3 _ r (head j) (coord j) (by simp [ix3]; omega) (by simp [ix3, head]; omega) (by simp [ix3, coord]; omega))).trans
          (read_dK hp ht ho (head j) r (coord j))
      · next h3 h1 h2 =>
        obtain rfl : g = 2 := Fin.ext (by simp; omega)
        exact (congrArg _ (eq3 _ r (head j) (coord j) (by simp [ix3]; omega) (by simp [ix3, head]; omega) (by simp [ix3, coord]; omega))).trans
          (read_dV hp ht ho (head j) r (coord j))
  · next h3 =>
    rw [dif_neg (show ¬((ix3 g r j : S7x4096x2048.Idx) 0).val < 3 from h3)]
    exact congrArg x0 (eq3 (idx_main_v106 (ix3 ⟨g.val - 3, by omega⟩ r j)) g r j (by simp [ix3]; omega) rfl rfl)

end

end Cert.AttnRead
-- ==== Proof.Attn.lean ====
module

public import proofs.«01_k».proof.Defs
public import proofs.«01_k».proof.Proof.AttnRead
public import proofs.«01_k».proof.Proof.Gen.AttnBwd.Frame
public import proofs.«01_k».proof.Proof.Gen.Pre_attn_bwd_finite
public import Idealize.ShloMosaic.Adequacy
public import Idealize.ShloMosaic.Lib.Quiescent
public import Idealize.ShloMosaic.Init

@[expose] public section

set_option maxRecDepth 16384

noncomputable section

/-! The claims about the attention gradient, assembled. -/

namespace Cert.Attn

open Idealize.ShloMosaic Idealize.SL.Sem

/-- Two posts of one run hold together. -/
theorem both {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {Q Q' : PUnit × MemSt nD τ sig Val → Prop}
    (h : θ_run defs p s Q) (h' : θ_run defs p s Q') : θ_run defs p s fun r => Q r ∧ Q' r :=
  ⟨fun t ht hf => ⟨h.post t ht hf, h'.post t ht hf⟩, h.progress, h.fair⟩

/-- Arrays the precondition admits are arrays of real numbers. -/
theorem finite (x0 : FVec Ideal Cert.AttnRefIdeal.S7x4096x2048 .bf16) (x1 : FVec Ideal Cert.AttnRefIdeal.S1x4096x14336 .f32)
    (x2 : FVec Ideal Cert.AttnRefIdeal.S2x4096x2048 .bf16) (x3 : FVec Ideal Cert.AttnRefIdeal.S16x513 .f32)
    (h1 : (Cert.Pre_attn_bwd_finite.fn (F := Ideal) x0 x1 x2 x3).1 = fun _ => 1#1)
    (h2 : (Cert.Pre_attn_bwd_finite.fn (F := Ideal) x0 x1 x2 x3).2.1 = fun _ => 1#1)
    (h3 : (Cert.Pre_attn_bwd_finite.fn (F := Ideal) x0 x1 x2 x3).2.2 = fun _ => 1#1) :
    (∃ a : Cert.AttnRefIdeal.S1x4096x14336.Idx → ℝ, x1 = fun i => (a i : EReal)) ∧ (∃ a : Cert.AttnRefIdeal.S2x4096x2048.Idx → ℝ, x2 = fun i => (a i : EReal))
      ∧ ∃ a : Cert.AttnRefIdeal.S16x513.Idx → ℝ, x3 = fun i => (a i : EReal) := by
  refine ⟨Lift.reals fun i => ?_, Lift.reals fun i => ?_, Lift.reals fun i => ?_⟩
  · have := congrFun h1 i
    rw [← Lift.lit_top]
    exact (Ideal.cmp_olt_eq_one _ _).mp this
  · have := congrFun h2 i
    rw [← Lift.lit_top]
    exact (Ideal.cmp_olt_eq_one _ _).mp this
  · have := congrFun h3 i
    rw [← Lift.lit_top]
    exact (Ideal.cmp_olt_eq_one _ _).mp this

/-- Over the reals kernel and reference return the same two arrays, whenever projection, cotangent and bias table are finite. -/
theorem algebraic : Cert.algebraic_AttnBwdIdeal_AttnRefIdeal_pre_attn_bwd_finite := by
  intro m g m' g' hp ha
  refine ⟨fun c => Cert.AttnRefIdeal.Value.res_main_v107 m' c, fun c => Cert.AttnRefIdeal.Value.res_main_v89 m' c, ?_, Cert.AttnRefIdeal.Value.run m' g'⟩
  refine (θ_run _ _ _).mono (fun r h c => ?_) (both (Cert.AttnBwdIdeal.Gen.run_main m g) (Cert.AttnBwdIdeal.Gen.unchanged m g))
  obtain ⟨hf, hr⟩ := h
  obtain ⟨a0, a1, a2, a3⟩ := ha c
  obtain ⟨⟨p, e1⟩, ⟨o, e2⟩, ⟨tb, e3⟩⟩ := finite _ _ _ _ (hp c).1 (hp c).2.1 (hp c).2.2
  have R : Cert.AttnBwdIdeal.Val.Real m c (fun i j => p (ix3 0 i j)) (fun i j => o (ix3 0 i j)) (fun h k => tb (ix2 h k)) :=
    ⟨fun i j => congrFun e1 _, fun i j => congrFun e2 _, fun h k => congrFun e3 _⟩
  refine ⟨?_, ?_, hr c⟩
  · beta_reduce
    rw [Cert.AttnRefIdeal.Read.val_main_v107_eq, a0, a1, a2, a3,
      Cert.AttnRead.read_out (p := fun i j => p (ix3 0 i j)) (o := fun i j => o (ix3 0 i j)) (tb := fun h k => tb (ix2 h k)) R.hp R.ht R.ho]
    exact ((hf c).1 7).trans (Cert.AttnBwdIdeal.Val.final7 R)
  · beta_reduce
    rw [Cert.AttnRefIdeal.Read.val_main_v89_eq, a1, a2, a3,
      Cert.AttnRead.read_dT (p := fun i j => p (ix3 0 i j)) (o := fun i j => o (ix3 0 i j)) (tb := fun h k => tb (ix2 h k)) R.hp R.ht R.ho]
    exact ((hf c).2 Cert.AttnBwdIdeal.main_v35 (by decide)).trans (Cert.AttnBwdIdeal.Val.final35 R)

/-- Naming the mask −∞ inside the kernel is the only rewrite. -/
theorem preserves : Cert.preserves_AttnBwd_AttnBwdIdeal :=
  IdealRules.named_const.statement Cert.AttnBwdIdeal.κ "mask" .f32 0xF149F2CA#32 ⊥ rfl

/-- The reference runs, leaves its arguments alone, and has no semaphore to leave raised. -/
theorem frame_ref : Cert.quiescent_AttnRefIdeal := fun m g _ =>
  (θ_run _ _ _).mono (fun r h => ⟨fun c => (h c).2.2, sem_eq_zero_of_no_sems (by decide) r.2⟩) (Cert.AttnRefIdeal.Value.run m g)

/-- The kernel runs and leaves its arguments alone, in machine arithmetic. -/
theorem frame : Cert.quiescent_AttnBwd := fun m g _ => Cert.AttnBwd.Gen.frame m g

/-- The kernel runs and leaves its arguments alone, over the reals. -/
theorem frame_ideal : Cert.quiescent_AttnBwdIdeal := fun m g _ => Cert.AttnBwdIdeal.Gen.frame m g

end Cert.Attn
-- ==== Proof.Roll.lean ====
module

public import Idealize.ShloMosaic.Lib.Pointwise
public import Idealize.ShloMosaic.Lib.KernelVsHost
public import Idealize.ShloMosaic.PureOps.Ideal

@[expose] public section

/-! Rows of a block shifted along by their own number, one binary digit of the number at a time. -/

namespace Cert.Roll
open Idealize.ShloMosaic

/-- A block of 512 rows of 1024 columns. -/
abbrev Blk : Shape := ⟨2, ![512, 1024]⟩

/-- The column `k` places further on, around the end. -/
def on (k : Fin 1024) (n : ℕ) : Fin 1024 := ⟨(k.val + n) % 1024, Nat.mod_lt _ (by decide)⟩

/-- The column `n` places back, around the end. -/
def back (k : Fin 1024) (n : ℕ) : Fin 1024 := ⟨(k.val + (1024 - n)) % 1024, Nat.mod_lt _ (by decide)⟩

/-- The binary digit `b` of a row's number, as the comparison that tests it. -/
theorem digit : ∀ (b : Fin 9) (r : Fin 512),
    IntOp.cmpi .eq (IntOp.andi (IntOp.shrsi .vector (BitVec.ofNat 32 r.val) (BitVec.ofNat 32 b.val)) 1#32) 1#32
      = if r.val / 2 ^ b.val % 2 = 1 then 1#1 else 0#1 := by
  decide +kernel

/-- One step: the rows whose binary digit `b` is set are rotated by `sb`, the others stay. -/
def turn {α : Type} (w sb : BitVec 32) (hi : Blk.Iotas .tc 32 [0]) (hr : Blk.Rotates 1 none) (x : Blk.Idx → α) : Blk.Idx → α :=
  select (cmpi .eq (andi (shrsi (iota .tc Blk 32 [0] hi) (broadcast Blk w)) (broadcast Blk 1#32)) (broadcast Blk 1#32)) (dynamicRotate 1 sb none x hr) x

theorem turn_apply {α : Type} (b : Fin 9) (sb : BitVec 32) (hi : Blk.Iotas .tc 32 [0]) (hr : Blk.Rotates 1 none) (x : Blk.Idx → α)
    (r : Fin 512) (k : Fin 1024) :
    turn (BitVec.ofNat 32 b.val) sb hi hr x (ix2 r k)
      = if r.val / 2 ^ b.val % 2 = 1 then x (ix2 r (back k (sb.toNat % 1024))) else x (ix2 r k) := by
  have hd := digit b r
  have hrot : dynamicRotate 1 sb none x hr (ix2 r k) = x (ix2 r (back k (sb.toNat % 1024))) :=
    dynamicRotate_apply (1 : Fin 2) sb x hr _ _ fun a => by
      match a with
      | ⟨0, _⟩ => rfl
      | ⟨1, _⟩ =>
        show (k.val + (1024 - sb.toNat % 1024)) % 1024 = (k.val + 1024 - sb.toNat % 1024) % 1024
        have := Nat.mod_lt sb.toNat (show 0 < 1024 by decide)
        omega
  have hio : iota .tc Blk 32 [0] hi (ix2 r k) = BitVec.ofNat 32 r.val := by pointwise
  unfold turn
  show Scalar.select (IntOp.cmpi .eq (IntOp.andi (IntOp.shrsi .vector (iota .tc Blk 32 [0] hi (ix2 r k)) (BitVec.ofNat 32 b.val)) 1#32) 1#32) _ _ = _
  rw [hio]
  show Scalar.select (IntOp.cmpi .eq (IntOp.andi (IntOp.shrsi .vector (BitVec.ofNat 32 r.val) (BitVec.ofNat 32 b.val)) 1#32) 1#32) _ _ = _
  rw [hd, hrot]
  by_cases h : r.val / 2 ^ b.val % 2 = 1
  · rw [if_pos h, if_pos h]; rfl
  · rw [if_neg h, if_neg h]; rfl

/-- After the step for digit `b` of a block whose rows were moved on by the digits below it, the rows are moved on by the digits up to it. -/
theorem turn_on {α : Type} (b : Fin 9) (sb : BitVec 32) (hsb : sb.toNat = 1024 - 2 ^ b.val) (hi : Blk.Iotas .tc 32 [0]) (hr : Blk.Rotates 1 none)
    (x y : Blk.Idx → α) (hx : ∀ r k, x (ix2 r k) = y (ix2 r (on k (r.val % 2 ^ b.val)))) (r : Fin 512) (k : Fin 1024) :
    turn (BitVec.ofNat 32 b.val) sb hi hr x (ix2 r k) = y (ix2 r (on k (r.val % 2 ^ (b.val + 1)))) := by
  have hp : 2 ^ b.val ≤ 256 := Nat.pow_le_pow_right (n := 2) (by decide) (show b.val ≤ 8 by omega)
  have h0 : 0 < 2 ^ b.val := Nat.two_pow_pos _
  have hm : r.val % 2 ^ (b.val + 1) = r.val % 2 ^ b.val + 2 ^ b.val * (r.val / 2 ^ b.val % 2) := Nat.mod_pow_succ
  rw [turn_apply, hm]
  split
  · next h =>
    rw [hx, h]
    refine congrArg (fun z => y (ix2 r z)) (Fin.ext ?_)
    simp only [on, back, hsb]
    omega
  · next h =>
    rw [hx, show r.val / 2 ^ b.val % 2 = 0 by omega, Nat.mul_zero, Nat.add_zero]

/-- The same for rows moved back. -/
theorem turn_back {α : Type} (b : Fin 9) (sb : BitVec 32) (hsb : sb.toNat = 2 ^ b.val) (hi : Blk.Iotas .tc 32 [0]) (hr : Blk.Rotates 1 none)
    (x y : Blk.Idx → α) (hx : ∀ r k, x (ix2 r k) = y (ix2 r (back k (r.val % 2 ^ b.val)))) (r : Fin 512) (k : Fin 1024) :
    turn (BitVec.ofNat 32 b.val) sb hi hr x (ix2 r k) = y (ix2 r (back k (r.val % 2 ^ (b.val + 1)))) := by
  have hp : 2 ^ b.val ≤ 256 := Nat.pow_le_pow_right (n := 2) (by decide) (show b.val ≤ 8 by omega)
  have hr' := Nat.mod_lt r.val (Nat.two_pow_pos b.val)
  have hm : r.val % 2 ^ (b.val + 1) = r.val % 2 ^ b.val + 2 ^ b.val * (r.val / 2 ^ b.val % 2) := Nat.mod_pow_succ
  rw [turn_apply, hm]
  split
  · next h =>
    rw [hx, h]
    refine congrArg (fun z => y (ix2 r z)) (Fin.ext ?_)
    simp only [back, hsb]
    omega
  · next h =>
    rw [hx, show r.val / 2 ^ b.val % 2 = 0 by omega, Nat.mul_zero, Nat.add_zero]

/-- Nine steps move every row on by its number. -/
theorem nine_on {α : Type} (hi : Blk.Iotas .tc 32 [0]) (hr : Blk.Rotates 1 none) (y : Blk.Idx → α) (r : Fin 512) (k : Fin 1024) :
    turn 8#32 768#32 hi hr (turn 7#32 896#32 hi hr (turn 6#32 960#32 hi hr (turn 5#32 992#32 hi hr (turn 4#32 1008#32 hi hr
      (turn 3#32 1016#32 hi hr (turn 2#32 1020#32 hi hr (turn 1#32 1022#32 hi hr (turn 0#32 1023#32 hi hr y)))))))) (ix2 r k)
      = y (ix2 r (on k r.val)) := by
  refine (turn_on 8 _ rfl hi hr _ y (turn_on 7 _ rfl hi hr _ y (turn_on 6 _ rfl hi hr _ y (turn_on 5 _ rfl hi hr _ y (turn_on 4 _ rfl hi hr _ y
    (turn_on 3 _ rfl hi hr _ y (turn_on 2 _ rfl hi hr _ y (turn_on 1 _ rfl hi hr _ y (turn_on 0 _ rfl hi hr y y fun r k => ?_)))))))) r k).trans ?_
  · refine congrArg (fun z => y (ix2 r z)) (Fin.ext ?_)
    simp only [on]
    have : ((0 : Fin 9) : ℕ) = 0 := rfl
    rw [this, Nat.pow_zero, Nat.mod_one]
    omega
  · refine congrArg (fun z => y (ix2 r z)) (Fin.ext ?_)
    simp only [on]
    have : r.val % 2 ^ (((8 : Fin 9) : ℕ) + 1) = r.val := Nat.mod_eq_of_lt r.isLt
    rw [this]

/-- Nine steps move every row back by its number. -/
theorem nine_back {α : Type} (hi : Blk.Iotas .tc 32 [0]) (hr : Blk.Rotates 1 none) (y : Blk.Idx → α) (r : Fin 512) (k : Fin 1024) :
    turn 8#32 256#32 hi hr (turn 7#32 128#32 hi hr (turn 6#32 64#32 hi hr (turn 5#32 32#32 hi hr (turn 4#32 16#32 hi hr
      (turn 3#32 8#32 hi hr (turn 2#32 4#32 hi hr (turn 1#32 2#32 hi hr (turn 0#32 1#32 hi hr y)))))))) (ix2 r k)
      = y (ix2 r (back k r.val)) := by
  refine (turn_back 8 _ rfl hi hr _ y (turn_back 7 _ rfl hi hr _ y (turn_back 6 _ rfl hi hr _ y (turn_back 5 _ rfl hi hr _ y (turn_back 4 _ rfl hi hr _ y
    (turn_back 3 _ rfl hi hr _ y (turn_back 2 _ rfl hi hr _ y (turn_back 1 _ rfl hi hr _ y (turn_back 0 _ rfl hi hr y y fun r k => ?_)))))))) r k).trans ?_
  · refine congrArg (fun z => y (ix2 r z)) (Fin.ext ?_)
    simp only [back]
    have : ((0 : Fin 9) : ℕ) = 0 := rfl
    rw [this, Nat.pow_zero, Nat.mod_one]
    omega
  · refine congrArg (fun z => y (ix2 r z)) (Fin.ext ?_)
    simp only [back]
    have : r.val % 2 ^ (((8 : Fin 9) : ℕ) + 1) = r.val := Nat.mod_eq_of_lt r.isLt
    rw [this]

end Cert.Roll
-- ==== Proof.BiasGrad.lean ====
module

public import Idealize.ShloMosaic.Lib.Pipeline.ValueKit
public import Idealize.ShloMosaic.Lib.Pointwise
public import Idealize.ShloMosaic.Lib.Claim
public import proofs.«01_k».proof.Proof.Gen.BiasGradIdeal.Frame
public import proofs.«01_k».proof.Proof.Roll
public import proofs.«01_k».proof.Proof.Words
public import proofs.«01_k».proof.Proof.Lift
public import proofs.«01_k».proof.Proof.AttnMath

@[expose] public section

set_option maxRecDepth 16384

noncomputable section

/-! What the bias gradient's kernel and the host lines after it compute: the score gradients summed along the
    diagonals of the block, and the diagonals of one distance added up. -/

namespace Cert.BiasGradIdeal.Val

open Cert.BiasGradIdeal Cert.BiasGradIdeal.Gen Idealize.ShloMosaic Idealize.ShloMosaic.TcCoe Idealize.SL.Sem
open Cert.AttnMath (band rel)
open Cert.Roll (on)

/-- The kernel's result: every diagonal's sum. -/
def cols (ds : FVec Ideal S16x512x1024 .f32) : FVec Ideal S16x1x1024 .f32 := fun i =>
  ∑ r : Fin 512, ds (ix3 (i 0) r (on (i 2) r.val))

theorem block (x : Vec Ideal S1x512x1024 .f32) (k : Fin 1024) :
    out0_1 x (ix3 0 0 k) = ∑ r : Fin 512, x (ix3 0 r (on k r.val)) := by
  have hn := Roll.nine_on iota_S512x1024_d0_w32 rotates_S512x1024_d1 (shapeCast S512x1024 x shapeCasts_S1x512x1024_S512x1024)
  have ho : out0_1 x = k0_pay1 (k0_pay5 (iota .tc S512x1024 32 [0] iota_S512x1024_d0_w32) (k0_pay2 x) k0_pay3 k0_pay4) := by
    unfold out0_1
    frame_out
  rw [ho]
  have hs : k0_pay5 (iota .tc S512x1024 32 [0] iota_S512x1024_d0_w32) (k0_pay2 x) k0_pay3 k0_pay4
      = shapeCast S1x1024 (multiReduction .add [0] S1024 (Roll.turn 8#32 768#32 iota_S512x1024_d0_w32 rotates_S512x1024_d1 (Roll.turn 7#32 896#32 iota_S512x1024_d0_w32 rotates_S512x1024_d1
          (Roll.turn 6#32 960#32 iota_S512x1024_d0_w32 rotates_S512x1024_d1 (Roll.turn 5#32 992#32 iota_S512x1024_d0_w32 rotates_S512x1024_d1 (Roll.turn 4#32 1008#32 iota_S512x1024_d0_w32 rotates_S512x1024_d1
          (Roll.turn 3#32 1016#32 iota_S512x1024_d0_w32 rotates_S512x1024_d1 (Roll.turn 2#32 1020#32 iota_S512x1024_d0_w32 rotates_S512x1024_d1 (Roll.turn 1#32 1022#32 iota_S512x1024_d0_w32 rotates_S512x1024_d1
          (Roll.turn 0#32 1023#32 iota_S512x1024_d0_w32 rotates_S512x1024_d1 (shapeCast S512x1024 x shapeCasts_S1x512x1024_S512x1024)))))))))) 0x00000000#32
          reduces_S512x1024_S1024 (.inl rfl) rfl) shapeCasts_S1024_S1x1024 := rfl
  rw [hs]
  generalize Roll.turn 8#32 _ _ _ _ = z at hn ⊢
  pointwise [k0_pay1]
  refine (Finset.sum_congr rfl fun r _ => hn r k).trans ?_
  refine Finset.sum_congr rfl fun r _ => ?_
  pointwise

variable (m : (ℓ : Loc nD τ sig) → Buf (Elt Ideal) ℓ)

theorem idx : ∀ t : Fin cfg0.N, win0_0.index t = ![t.val, 0, 0] ∧ win0_1.index t = ![t.val, 0, 0] :=
  (by decide +kernel : ∀ t : Fin grid0.N, _)

/-- After the kernel its result holds every diagonal's sum. -/
theorem final1 (c : Dev nD) : (dats m 0 c).arrAt 1 cfg0.N = cols (m ((c : Thread nD τ).loc main_arg1)) := by
  refine (dats m 0 c).arrAt_eq_of_covers 1 _ (by decide +kernel) fun t _ y => ?_
  blk_simp
  rw [after0_1]
  have hN : t.val < 16 := t.isLt.trans_eq N_0
  have he : (win0_1.blk t).view.emb y = ix3 (⟨t.val, hN⟩ : Fin 16) (0 : Fin 1) (y 2 : Fin 1024) := by
    funext a
    refine Fin.ext ((Pipeline.Window.rect_emb_val win0_1 t y a).trans ?_)
    rw [(idx t).2]
    match a with
    | ⟨0, _⟩ => have : (y 0 : ℕ) < 1 := (y 0).isLt; simp [ix3]
    | ⟨1, _⟩ => have : (y 1 : ℕ) < 1 := (y 1).isLt; simp [ix3]
    | ⟨2, _⟩ => simp [ix3]
  have hy : y = ix3 (0 : Fin 1) (0 : Fin 1) (y 2 : Fin 1024) := by
    funext a
    match a with
    | ⟨0, _⟩ => exact Fin.ext (by have : (y 0 : ℕ) < 1 := (y 0).isLt; show (y 0 : ℕ) = 0; omega)
    | ⟨1, _⟩ => exact Fin.ext (by have : (y 1 : ℕ) < 1 := (y 1).isLt; show (y 1 : ℕ) = 0; omega)
    | ⟨2, _⟩ => rfl
  rw [he, hy]
  refine (block _ _).trans ?_
  unfold cols
  refine Finset.sum_congr rfl fun r _ => ?_
  blk_point [iblk, V, idx t]
  rfl

/-- The index that the host gives the diagonal `k`. -/
def away (k : Fin 1024) : Fin 513 := if k.val < 960 then ⟨min (768 - k.val) 512, by omega⟩ else ⟨512, by decide⟩

/-- The result: over all entries of the block, those whose diagonal has the index. -/
def table (ds : FVec Ideal S16x512x1024 .f32) : FVec Ideal S16x513 .f32 := fun i =>
  ∑ r : Fin 512, ∑ j : Fin 1024, if (away (Roll.back j r.val)).val = (i 1).val then ds (ix3 (i 0) r j) else 0

/-- The host's word for the index of a diagonal. -/
theorem word : ∀ k : Fin 1024,
    IntOp.addi (IntOp.minsi (256#32) (IntOp.maxsi (4294967040#32)
      (-IntOp.subi (Scalar.select (IntOp.cmpi CmpIPredicate.slt (BitVec.ofNat 32 k.val) 960#32) (BitVec.ofNat 32 k.val)
        (IntOp.subi (BitVec.ofNat 32 k.val) 1024#32)) 512#32))) 256#32 = BitVec.ofNat 32 (away k).val := by
  decide +kernel

/-- Choosing the diagonals of an index by a factor one or zero. -/
theorem chosen (a n : Fin 513) (v : EReal) :
    v * FloatOps.uitofp (F := Ideal) FTy.f32 (IntOp.cmpi CmpIPredicate.eq (BitVec.ofNat 32 a.val) (BitVec.ofNat 32 n.val))
      = if a.val = n.val then v else 0 := by
  have hc : IntOp.cmpi CmpIPredicate.eq (BitVec.ofNat 32 a.val) (BitVec.ofNat 32 n.val) = if a.val = n.val then 1#1 else 0#1 := by
    show BitVec.ofBool (BitVec.ofNat 32 a.val == BitVec.ofNat 32 n.val) = _
    split
    · next e => rw [e, beq_self_eq_true]; rfl
    · next e =>
      rw [beq_eq_false_iff_ne.mpr fun he => e (by have := congrArg BitVec.toNat he; simp only [BitVec.toNat_ofNat] at this; omega)]
      rfl
  rw [hc]
  split
  · show v * (((1#1 : BitVec 1).toNat : ℝ) : EReal) = _
    simp
  · show v * (((0#1 : BitVec 1).toNat : ℝ) : EReal) = _
    simp

theorem back_on (k : Fin 1024) (r : Fin 512) : Roll.back (on k r.val) r.val = k := Fin.ext (by simp only [Roll.back, on]; omega)

theorem on_back (k : Fin 1024) (r : Fin 512) : on (Roll.back k r.val) r.val = k := Fin.ext (by simp only [Roll.back, on]; omega)

/-- The sums of the chosen diagonals are the sum over the entries whose diagonal is chosen. -/
theorem diagonals (ds : FVec Ideal S16x512x1024 .f32) (h : Fin 16) (n : Fin 513) :
    (∑ x : Fin 1024, if (away x).val = n.val then (cols ds (ix3 h 0 x) : EReal) else 0) = table ds (ix2 h n) := by
  have hr (x : Fin 1024) : (if (away x).val = n.val then (cols ds (ix3 h 0 x) : EReal) else 0)
      = ∑ r : Fin 512, if (away x).val = n.val then (ds (ix3 h r (on x r.val)) : EReal) else 0 := by
    split
    · rfl
    · exact Finset.sum_const_zero.symm
  rw [Finset.sum_congr rfl fun x _ => hr x, Finset.sum_comm]
  refine Finset.sum_congr rfl fun r _ => ?_
  refine Finset.sum_bij' (fun x _ => on x r.val) (fun j _ => Roll.back j r.val) (fun _ _ => Finset.mem_univ _) (fun _ _ => Finset.mem_univ _)
    (fun x _ => back_on x r) (fun j _ => on_back j r) fun x _ => ?_
  show _ = if (away (Roll.back (on x r.val) r.val)).val = n.val then _ else _
  rw [back_on]
  rfl

/-- What the host lines after the kernel leave. -/
theorem final17 (c : Dev nD) : Pipeline.afterTail₀ cfgs (dats m) 0 (V0 m) [hostOps1, hostOps1_1, hostOps1_2, hostOps1_3, hostOps1_4] c main_v17
    = table (m ((c : Thread nD τ).loc main_arg1)) := by
  have h1 : Pipeline.withArrays (cfgs 0).spec c (V0 m c) (fun w => (dats m 0 c).arrAt w (cfgs 0).N) (Proc.devRef .tc main_v0)
      = cols (m ((c : Thread nD τ).loc main_arg1)) := (Pipeline.withArrays_arr spec0 (by decide) _ _ _ 1).trans (final1 m c)
  unfold Pipeline.afterTail₀
  simp only [hostOps1, hostOps1_1, hostOps1_2, hostOps1_3, hostOps1_4, List.flatten_cons, List.flatten_nil, List.append_nil, List.cons_append, List.nil_append]
  after_results
  simp only [StableHlo.TRef.ofBuf, StableHlo.TRef.toBuf, cast_eq, id]
  rw [h1]
  funext i
  obtain ⟨h, n, rfl⟩ : ∃ h n, i = ix2 h n := ⟨i 0, i 1, by funext a; match a with | ⟨0, _⟩ => rfl | ⟨1, _⟩ => rfl⟩
  pointwise
  have ht (x : Fin 1024) : ∀ v : EReal, v * FloatOps.uitofp (F := Ideal) FTy.f32 (IntOp.cmpi CmpIPredicate.eq _ (BitVec.ofNat 32 n.val))
      = if (away x).val = n.val then v else 0 := fun v => (congrArg (fun w => v * FloatOps.uitofp (F := Ideal) FTy.f32
        (IntOp.cmpi CmpIPredicate.eq w (BitVec.ofNat 32 n.val))) (word x)).trans (chosen (away x) n v)
  refine (Finset.sum_congr rfl fun x _ => ht x _).trans ?_
  exact diagonals _ h n

end Cert.BiasGradIdeal.Val
-- ==== Proof.BiasGradClaim.lean ====
module

public import proofs.«01_k».proof.Defs
public import proofs.«01_k».proof.Proof.BiasGrad
public import proofs.«01_k».proof.Proof.Columns
public import proofs.«01_k».proof.Proof.Attn
public import proofs.«01_k».proof.Proof.Gen.BiasGrad.Frame
public import proofs.«01_k».proof.Proof.Gen.BiasGradRefIdeal.Run
public import proofs.«01_k».proof.Proof.Gen.BiasGradRefIdeal.Read
public import proofs.«01_k».proof.Proof.Gen.Pre_bias_grad_banded
public import Idealize.ShloMosaic.Adequacy
public import Idealize.ShloMosaic.Lib.Quiescent
public import Idealize.ShloMosaic.Init

@[expose] public section

set_option maxRecDepth 16384

noncomputable section

/-! The claims about the gradient of the bias table, assembled. -/

namespace Cert.BiasGradClaim

open Idealize.ShloMosaic Idealize.SL.Sem
open Cert.BiasGradRefIdeal Cert.BiasGradRefIdeal.Gen Cert.BiasGradRefIdeal.Read
open Cert.AttnMath (band rel)

/-- The reference's column for a place in the window: the entry of its distance. -/
theorem index_at (r : Fin 512) (x : Fin 1024) : (val_main_v23 (F := Ideal) (ix3 r x 0) : BitVec 32).toInt = ((rel (r.val + 512) x.val).val : Int) := by
  have hw : (Words.index (Scalar.subi (Scalar.addi (BitVec.ofNat 32 r.val) 512#32) (BitVec.ofNat 32 x.val))).toInt
      = ((rel (r.val + 512) x.val).val : Int) := by
    rw [Words.index_toInt (Affine.subi (Affine.addi (Affine.ofNat r.val ⟨rfl, by omega⟩) (Affine.ofNat 512 ⟨rfl, by decide⟩)
      ⟨rfl, by omega, by omega⟩) (Affine.ofNat x.val ⟨rfl, by omega⟩) ⟨rfl, by omega, by omega⟩)]
    simp only [rel]
    omega
  have h : val_main_v23 (F := Ideal) (ix3 r x 0) = Words.index (Scalar.subi (Scalar.addi (BitVec.ofNat 32 r.val) 512#32) (BitVec.ofNat 32 x.val)) := by
    refine Eq.trans ?_ (Words.wrap (v := Scalar.addi (Words.index (Scalar.subi (Scalar.addi (BitVec.ofNat 32 r.val) 512#32) (BitVec.ofNat 32 x.val))) 513#32)
      (by rw [hw]; omega))
    rfl
  rw [h, hw]

/-- A choice by the band over the window. -/
theorem choose {α : Type} (r : Fin 512) (x : Fin 1024) (u v : α) :
    Scalar.select (Words.test (BitVec.ofNat 32 x.val) (BitVec.ofNat 32 r.val)) u v = if band (r.val + 512) x.val then u else v := by
  refine (Words.select_test (a := x.val) (b := r.val) (by omega) (by omega) _ _).trans ?_
  have : (r.val / 64 ≤ x.val / 64 ∧ x.val / 64 ≤ r.val / 64 + 8) ↔ band (r.val + 512) x.val := by
    unfold band
    omega
  simp only [this]

/-- The reference adds the score gradients of the band into the entries of their distances. -/
theorem read (ds : FVec Ideal S16x512x1024 .f32) (h : Fin 16) (n : Fin 513) :
    val_main_v28 (F := Ideal) ds (ix2 h n)
      = ∑ r : Fin 512, ∑ x : Fin 1024, if rel (r.val + 512) x.val = n then (if band (r.val + 512) x.val then (ds (ix3 h r x) : EReal) else 0) else 0 := by
  have hv (r : Fin 512) (x : Fin 1024) : val_main_v26 (F := Ideal) ds (ix3 h r x) = if band (r.val + 512) x.val then (ds (ix3 h r x) : EReal) else 0 := by
    refine Eq.trans ?_ (choose r x _ _)
    rw [← Lift.lit_zero]
    rfl
  have hz : val_main_v27 (F := Ideal) (ix2 h n) = 0 := by
    rw [← Lift.lit_zero]
    rfl
  unfold val_main_v28 Host.scatterAdd
  rw [Ideal.hostScatterAdd_def]
  refine (Columns.add_apply scatter_S16x513_S512x1024x1_S16x512x1024_0_1_1_2.wf _ _ _ (fun r x => rel (r.val + 512) x.val) index_at h n).trans ?_
  rw [hz, zero_add]
  exact Finset.sum_congr rfl fun r _ => Finset.sum_congr rfl fun x _ => by rw [hv]

/-- Within the band the diagonal of a place has the index of its distance. -/
theorem away_eq (r : Fin 512) (x : Fin 1024) (hb : band (r.val + 512) x.val) :
    BiasGradIdeal.Val.away (Roll.back x r.val) = rel (r.val + 512) x.val := by
  refine Fin.ext ?_
  unfold band at hb
  unfold BiasGradIdeal.Val.away
  split
  · next h =>
    simp only [Roll.back, rel] at h ⊢
    omega
  · next h =>
    simp only [Roll.back, rel] at h ⊢
    omega

/-- Score gradients the precondition admits are zero off the band. -/
theorem banded (x0 : FVec Ideal S16x513 .f32) (ds : FVec Ideal S16x512x1024 .f32)
    (hp : Cert.Pre_bias_grad_banded.fn (F := Ideal) x0 ds = fun _ => 1#1) (h : Fin 16) (r : Fin 512) (x : Fin 1024)
    (hb : ¬band (r.val + 512) x.val) : (ds (ix3 h r x) : EReal) = 0 := by
  have := congrFun hp (ix3 h r x)
  have e : Cert.Pre_bias_grad_banded.fn (F := Ideal) x0 ds (ix3 h r x)
      = FloatOps.cmpf (F := Ideal) (φ := .f32) .oeq (if band (r.val + 512) x.val then (0 : EReal) else ds (ix3 h r x)) (0 : EReal) := by
    rw [← choose r x]
    pointwise [Cert.Pre_bias_grad_banded.fn, Cert.Pre_bias_grad_banded.fn_part1, Cert.Pre_bias_grad_banded.fn_where]
    exact congrArg (fun z : EReal => FloatOps.cmpf (F := Ideal) (φ := .f32) .oeq (Scalar.select (Words.test (BitVec.ofNat 32 x.val) (BitVec.ofNat 32 r.val)) z
      (ds (ix3 h r x))) (0 : EReal)) Lift.lit_zero
  rw [e, if_neg hb] at this
  exact (Ideal.cmp_oeq_eq_one _ _).mp this

/-- The kernel's table is the reference's. -/
theorem agree (x0 : FVec Ideal S16x513 .f32) (ds : FVec Ideal S16x512x1024 .f32)
    (hp : Cert.Pre_bias_grad_banded.fn (F := Ideal) x0 ds = fun _ => 1#1) :
    BiasGradIdeal.Val.table ds = val_main_v28 (F := Ideal) ds := by
  funext i
  obtain ⟨h, n, rfl⟩ : ∃ h n, i = ix2 h n := ⟨i 0, i 1, by funext a; match a with | ⟨0, _⟩ => rfl | ⟨1, _⟩ => rfl⟩
  rw [read]
  refine Finset.sum_congr rfl fun r _ => Finset.sum_congr rfl fun x _ => ?_
  show (if (BiasGradIdeal.Val.away (Roll.back x r.val)).val = n.val then (ds (ix3 h r x) : EReal) else 0) = _
  by_cases hb : band (r.val + 512) x.val
  · rw [away_eq r x hb, if_pos hb]
    simp only [Fin.ext_iff]
  · rw [banded x0 ds hp h r x hb, ite_self, if_neg hb, ite_self]

/-- Over the reals kernel and reference return the same table, whenever the score gradients are zero off the band. -/
theorem algebraic : Cert.algebraic_BiasGradIdeal_BiasGradRefIdeal_pre_bias_grad_banded := by
  intro m g m' g' hp ha
  refine ⟨fun c => val_main_v28 (m' ((c.tc : Thread Cert.BiasGradRefIdeal.nD Cert.BiasGradRefIdeal.τ).loc Cert.BiasGradRefIdeal.main_arg1)), ?_, Cert.BiasGradRefIdeal.Value.run m' g'⟩
  refine (θ_run _ _ _).mono (fun r h c => ?_) (Attn.both (Cert.BiasGradIdeal.Gen.run_main m g) (Cert.BiasGradIdeal.Gen.unchanged m g))
  obtain ⟨hf, hr⟩ := h
  obtain ⟨a0, a1⟩ := ha c
  refine ⟨?_, hr c⟩
  beta_reduce
  rw [a1, ← agree _ _ (hp c)]
  exact ((hf c).2 Cert.BiasGradIdeal.main_v17 (by decide)).trans (Cert.BiasGradIdeal.Val.final17 m c)

/-- The reference runs, leaves its arguments alone, and has no semaphore to leave raised. -/
theorem frame_ref : Cert.quiescent_BiasGradRefIdeal := fun m g _ =>
  (θ_run _ _ _).mono (fun r h => ⟨fun c => (h c).2, sem_eq_zero_of_no_sems (by decide) r.2⟩) (Cert.BiasGradRefIdeal.Value.run m g)

/-- The kernel runs and leaves its arguments alone, in machine arithmetic. -/
theorem frame : Cert.quiescent_BiasGrad := fun m g _ => Cert.BiasGrad.Gen.frame m g

/-- The kernel runs and leaves its arguments alone, over the reals. -/
theorem frame_ideal : Cert.quiescent_BiasGradIdeal := fun m g _ => Cert.BiasGradIdeal.Gen.frame m g

end Cert.BiasGradClaim
-- ==== Proof.ConvBlock.lean ====
module

public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Gen.ConvBwdIdeal.Skeleton

@[expose] public section

set_option maxRecDepth 16384

noncomputable section

/-! What the convolution's gradient kernel does with one block of 512 rows and 256 columns, as a few functions that
    take the number of a chunk of 64 rows or of a tap. -/

namespace Cert.ConvBwdIdeal.Val

open Cert.ConvBwdIdeal Cert.ConvBwdIdeal.Gen Idealize.ShloMosaic Idealize.ShloMosaic.TcCoe

variable {F : FTy → Type} [FloatOps F]

theorem rows_inb {o : ℕ} (h : o + 64 ≤ 544) : ∀ a, (![o, 0] : Fin 2 → ℕ) a + S64x256.size a ≤ S544x256.size a
  | ⟨0, _⟩ => h
  | ⟨1, _⟩ => Nat.le_refl _

theorem tap_inb {k : ℕ} (h : k < 32) : ∀ a, (![k, 0] : Fin 2 → ℕ) a + S1x256.size a ≤ S32x256.size a
  | ⟨0, _⟩ => h
  | ⟨1, _⟩ => Nat.le_refl _

theorem chunk_inb {o : ℕ} (h : o + 64 ≤ 512) : ∀ a, (![0, o, 0] : Fin 3 → ℕ) a + S1x64x256.size a ≤ S1x512x256.size a
  | ⟨0, _⟩ => Nat.le_refl _
  | ⟨1, _⟩ => h
  | ⟨2, _⟩ => Nat.le_refl _

/-- The 64 rows from row `o` on of a buffer of 544. -/
def rows (D : Vec F S544x256 .f32) (o : ℕ) (h : o + 64 ≤ 544) : Vec F S64x256 .f32 :=
  View.ld D (Rect.unit ![o, 0] S64x256.size (rows_inb h))

/-- The weights of tap `k`. -/
def tap (w : Vec F S32x256 .f32) (k : ℕ) (h : k < 32) : Vec F S1x256 .f32 :=
  View.ld w (Rect.unit ![k, 0] S1x256.size (tap_inb h))

/-- The 64 rows from row `o` on of a block. -/
def chunk (x : Vec F S1x512x256 .bf16) (o : ℕ) (h : o + 64 ≤ 512) : Vec F S1x64x256 .bf16 :=
  View.ld x (Rect.unit ![0, o, 0] S1x64x256.size (chunk_inb h))

/-- The block's cotangents, and the 32 rows that come after it, or zeros. -/
def cts (i : grid0.Coords) (x0 : Vec F S512x256 .f32) (x1 : Vec F S32x256 .f32) : Vec F S544x256 .f32 :=
  View.canon (Val := Elt F) [⟨Rect.unit ![512, 0] S32x256.size inb_S544x256_S32x256_512_0, k0_pay2 i x1⟩,
    ⟨Rect.unit ![0, 0] S512x256.size inb_S544x256_S512x256_0_0, k0_pay1 x0⟩]

/-- The first `m` taps' sum for the chunk at row `o`. -/
def accum (D : Vec F S544x256 .f32) (w : Vec F S32x256 .f32) (o : ℕ) (ho : o + 64 ≤ 512) : (m : ℕ) → m ≤ 31 → FVec F S64x256 .f32
  | 0, _ => broadcast S64x256 (Scalar.ofBits .f32 0x00000000#32)
  | m + 1, h => addf (accum D w o ho m (by omega)) (mulf (rows D (o + 30 - m) (by omega))
      (broadcastTo S64x256 (shapeCast S1x256 (tap w m (by omega)) shapeCasts_S1x256_S1x256) broadcasts_S1x256_S64x256))

/-- The values' gradient in the chunk at row `o`. -/
def outA (D : Vec F S544x256 .f32) (w : Vec F S32x256 .f32) (x3 : Vec F S1x512x256 .bf16) (o : ℕ) (ho : o + 64 ≤ 512) : FVec F S1x64x256 .bf16 :=
  shapeCast S1x64x256 (truncf .bf16 (mulf (accum D w o ho 31 (by omega)) (k0_pay5 (chunk x3 o ho))) bitsLt_bf16_f32) shapeCasts_S64x256_S1x64x256

/-- The gate's gradient in the chunk at row `o`. -/
def outG (D : Vec F S544x256 .f32) (w : Vec F S32x256 .f32) (x2 x3 : Vec F S1x512x256 .bf16) (o : ℕ) (ho : o + 64 ≤ 512) : FVec F S1x64x256 .bf16 :=
  shapeCast S1x64x256 (truncf .bf16 (mulf (mulf (mulf (accum D w o ho 31 (by omega)) (k0_pay4 (chunk x2 o ho))) (k0_pay5 (chunk x3 o ho)))
    (subf (broadcast S64x256 (Scalar.ofBits .f32 0x3F800000#32)) (k0_pay5 (chunk x3 o ho)))) bitsLt_bf16_f32) shapeCasts_S64x256_S1x64x256

/-- The gated rows: the 32 rows before the block, or zeros, and the block's, chunk by chunk. -/
def gated (i : grid0.Coords) (x2 x3 : Vec F S1x512x256 .bf16) (x4 x5 : Vec F S1x32x256 .bf16) : Vec F S544x256 .f32 :=
  View.canon (Val := Elt F) [
    ⟨Rect.unit ![480, 0] S64x256.size (rows_inb (by decide)), k0_pay6 (chunk x2 448 (by decide)) (chunk x3 448 (by decide))⟩,
    ⟨Rect.unit ![416, 0] S64x256.size (rows_inb (by decide)), k0_pay6 (chunk x2 384 (by decide)) (chunk x3 384 (by decide))⟩,
    ⟨Rect.unit ![352, 0] S64x256.size (rows_inb (by decide)), k0_pay6 (chunk x2 320 (by decide)) (chunk x3 320 (by decide))⟩,
    ⟨Rect.unit ![288, 0] S64x256.size (rows_inb (by decide)), k0_pay6 (chunk x2 256 (by decide)) (chunk x3 256 (by decide))⟩,
    ⟨Rect.unit ![224, 0] S64x256.size (rows_inb (by decide)), k0_pay6 (chunk x2 192 (by decide)) (chunk x3 192 (by decide))⟩,
    ⟨Rect.unit ![160, 0] S64x256.size (rows_inb (by decide)), k0_pay6 (chunk x2 128 (by decide)) (chunk x3 128 (by decide))⟩,
    ⟨Rect.unit ![96, 0] S64x256.size (rows_inb (by decide)), k0_pay6 (chunk x2 64 (by decide)) (chunk x3 64 (by decide))⟩,
    ⟨Rect.unit ![32, 0] S64x256.size (rows_inb (by decide)), k0_pay6 (chunk x2 0 (by decide)) (chunk x3 0 (by decide))⟩,
    ⟨Rect.unit ![0, 0] S32x256.size inb_S544x256_S32x256_0_0, k0_pay3 i x4 x5⟩]

/-- The first `m` chunks' sum for tap `k`, in eight partial sums. -/
def taps (D U : Vec F S544x256 .f32) (k : ℕ) (hk : k < 31) : (m : ℕ) → m ≤ 8 → FVec F S8x256 .f32
  | 0, _ => broadcast S8x256 (Scalar.ofBits .f32 0x00000000#32)
  | m + 1, h => addf (taps D U k hk m (by omega)) (multiReduction .add [0] S8x256
      (shapeCast S8x8x256 (mulf (rows D (64 * m) (by omega)) (rows U (64 * m + 2 + k) (by omega))) shapeCasts_S64x256_S8x8x256)
      0x00000000#32 reduces_S8x8x256_S8x256 (.inl rfl) rfl)

/-- The block's part of the gradient of tap `k`. -/
def outW (D U : Vec F S544x256 .f32) (k : ℕ) (hk : k < 31) : FVec F S1x256 .f32 :=
  shapeCast S1x256 (shapeCast S1x256 (multiReduction .add [0] S256 (taps D U k hk 8 (by omega)) 0x00000000#32 reduces_S8x256_S256 (.inl rfl) rfl)
    shapeCasts_S256_S1x256) shapeCasts_S1x256_S1x256

theorem two_inb {s o : ℕ} (hs : s < 2) (h : o + 64 ≤ 512) : ∀ a, (![s, o, 0] : Fin 3 → ℕ) a + S1x64x256.size a ≤ S2x512x256.size a
  | ⟨0, _⟩ => hs
  | ⟨1, _⟩ => h
  | ⟨2, _⟩ => Nat.le_refl _

/-- The two stores of the chunk `n`, after those of the chunks before it. -/
def stores (D : Vec F S544x256 .f32) (w : Vec F S32x256 .f32) (x2 x3 : Vec F S1x512x256 .bf16) :
    (n : ℕ) → n ≤ 8 → List (View.Piece (Elt F) S2x512x256 .bf16)
  | 0, _ => []
  | n + 1, h => ⟨Rect.unit ![1, 64 * n, 0] S1x64x256.size (two_inb (by decide) (by omega)), outG D w x2 x3 (64 * n) (by omega)⟩
      :: ⟨Rect.unit ![0, 64 * n, 0] S1x64x256.size (two_inb (by decide) (by omega)), outA D w x3 (64 * n) (by omega)⟩
      :: stores D w x2 x3 n (by omega)

/-- The stores of the taps' gradients. -/
def tapStores (D U : Vec F S544x256 .f32) : (k : ℕ) → k ≤ 31 → List (View.Piece (Elt F) S32x256 .f32)
  | 0, _ => []
  | k + 1, h => ⟨Rect.unit ![k, 0] S1x256.size (tap_inb (by omega)), outW D U k (by omega)⟩ :: tapStores D U k (by omega)

/-- The block's part of the gradient of every tap, and the row of zeros below. -/
def parts (D U : Vec F S544x256 .f32) : Vec F S32x256 .f32 :=
  View.canon (Val := Elt F) (⟨Rect.unit (s := S32x256) ![31, 0] S1x256.size (tap_inb (by decide)), k0_pay200⟩ :: tapStores D U 31 (by decide))

end Cert.ConvBwdIdeal.Val

end
-- ==== Proof.ConvAt.lean ====
module

public import proofs.«01_k».proof.Proof.ConvBlock
public import proofs.«01_k».proof.Proof.Gen.ConvBwdIdeal.Frame

@[expose] public section

set_option maxRecDepth 16384

noncomputable section

/-! What the kernel leaves in its two output buffers at each grid point, in the functions of a chunk and of a tap. -/

namespace Cert.ConvBwdIdeal.Val

open Cert.ConvBwdIdeal Cert.ConvBwdIdeal.Gen Idealize.ShloMosaic Idealize.ShloMosaic.TcCoe

/-- A load of a buffer of 544 rows after stores into it. -/
theorem load_eq (v : View sig .tc .vmem S544x256 .f32) (L : List (View.Piece (Elt Ideal) S544x256 .f32)) (r : Rect S544x256) :
    v.readCov (Val := Elt Ideal) L r.toLoadRect = View.ld (View.canon L) r :=
  View.readCov_eq_canon' _ _ _

/-- A load of a buffer of 32 rows after stores into it. -/
theorem load_eq' (v : View sig .tc .vmem S32x256 .f32) (L : List (View.Piece (Elt Ideal) S32x256 .f32)) (r : Rect S32x256) :
    v.readCov (Val := Elt Ideal) L r.toLoadRect = View.ld (View.canon L) r :=
  View.readCov_eq_canon' _ _ _

variable (m : (ℓ : Loc nD τ sig) → Buf (Elt Ideal) ℓ)

/-- The cotangents grid point `t` sees. -/
def D (c : Dev nD) (t : Fin cfg0.N) : Vec Ideal S544x256 .f32 := cts (grid0.coords t) (iblk m c 0 t) (iblk m c 1 t)

/-- The gated rows grid point `t` sees. -/
def U (c : Dev nD) (t : Fin cfg0.N) : Vec Ideal S544x256 .f32 :=
  gated (grid0.coords t) (iblk m c 2 t) (iblk m c 3 t) (iblk m c 4 t) (iblk m c 5 t)

/-- The block of the projection's gradient. -/
theorem at_out (c : Dev nD) (t : Fin cfg0.N) :
    (outsAt0 m c t.val t.isLt).1
      = View.canon (Val := Elt Ideal) (stores (D m c t) (iblk m c 6 t) (iblk m c 2 t) (iblk m c 3 t) 8 (by decide)) := by
  by_cases h0 : t.val % 8 = 0
  · rw [outsAt0_A m c t h0 (by omega)]; frame_out [load_eq, load_eq']; sl_kernel_rfl
  · rw [outsAt0_B m c t h0 (by omega)]; frame_out [load_eq, load_eq']; sl_kernel_rfl

/-- The weights' gradient at a column block's first grid point. -/
theorem at_first (c : Dev nD) (t : Fin cfg0.N) (h0 : t.val % 8 = 0) :
    (outsAt0 m c t.val t.isLt).2 = parts (D m c t) (U m c t) := by
  rw [outsAt0_A m c t h0 (by omega)]; frame_out [load_eq, load_eq']; sl_kernel_rfl

/-- The weights' gradient at a later grid point: the point's part is added. -/
theorem at_next (c : Dev nD) (t : Fin cfg0.N) (h0 : ¬t.val % 8 = 0) :
    (outsAt0 m c t.val t.isLt).2
      = k0_pay201 (outsAt0 m c (t.val - 1) (by omega)).2 (parts (D m c t) (U m c t)) := by
  rw [outsAt0_B m c t h0 (by omega)]; frame_out [load_eq, load_eq']; sl_kernel_rfl

end Cert.ConvBwdIdeal.Val

end
-- ==== Proof.ConvMath.lean ====
module

public import Idealize.ShloMosaic.Lib.Pointwise
public import Idealize.ShloMosaic.PureOps.Ideal

@[expose] public section

noncomputable section

/-! The gradient of a gated causal convolution over 31 rows, column by column, and the two array operations the
    reference writes it with: rows of an array chosen by an index array, and the transpose, which adds rows. -/

namespace Cert.ConvMath
open Idealize.ShloMosaic

/-- The sigmoid as both programs write it. -/
def sg (x : EReal) : EReal := Ideal.div 1 (1 + Ideal.exp (-x))

/-- The gradient of the gated rows at row `t`: the cotangents of the up to 31 rows that read it. -/
def acc (dy : Fin 4096 → EReal) (w : Fin 31 → EReal) (t : Fin 4096) : EReal :=
  ∑ k : Fin 31, if h : t.val + 30 - k.val < 4096 then dy ⟨t.val + 30 - k.val, h⟩ * w k else 0

/-- The gated row that row `t` reads at the place `k` of its window; zero before the first row. -/
def win (u : Fin 4096 → EReal) (t : Fin 4096) (k : Fin 31) : EReal :=
  if 30 ≤ t.val + k.val then u ⟨t.val + k.val - 30, by omega⟩ else 0

/-- The gradient of the weight `k`. -/
def dw (dy u : Fin 4096 → EReal) (k : Fin 31) : EReal := ∑ t : Fin 4096, dy t * win u t k

variable {N A R C : Nat}

/-- The dimension numbers of `x[idx]`. -/
abbrev takeRows (wf : GatherDims.WF ⟨2, ![N, A]⟩ ⟨3, ![R, C, 1]⟩ ⟨3, ![R, C, A]⟩ [2] [0] [] [0] [] 2 ![1, A]) :
    GatherDims ⟨2, ![N, A]⟩ ⟨3, ![R, C, 1]⟩ ⟨3, ![R, C, A]⟩ where
  offsetDims := [2]
  collapsedSliceDims := [0]
  operandBatchingDims := []
  startIndicesBatchingDims := []
  startIndexMap := [0]
  indexVectorDim := 2
  sliceSizes := ![1, A]
  wf := wf

/-- `x[idx]` at `(i, j, h)` is the array's row `idx[i, j]` at the column `h`. -/
theorem take_apply (wf : GatherDims.WF ⟨2, ![N, A]⟩ ⟨3, ![R, C, 1]⟩ ⟨3, ![R, C, A]⟩ [2] [0] [] [0] [] 2 ![1, A])
    {α : Type} (x : (⟨2, ![N, A]⟩ : Shape).Idx → α) (idx : IVec ⟨3, ![R, C, 1]⟩ 32) (i : Fin R) (j : Fin C) (h : Fin A)
    (n : Fin N) (hn : (idx (ix3 i j 0)).toInt = (n.val : Int)) :
    Host.gather (takeRows wf) x idx (ix3 i j h) = x (ix2 n h) := by
  unfold Host.gather
  congr 1
  funext a
  refine Fin.ext ?_
  show (takeRows wf).start (ix3 i j h) idx a + (takeRows wf).batchCoord (ix3 i j h) a
      + (takeRows wf).offCoord (ix3 i j h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _
      (fun h => ((GatherDims.mem_sKept _ _).mp h).1 (List.mem_singleton.mpr rfl))]
    unfold GatherDims.start
    rw [dif_pos (show (0 : Fin 2) ∈ (takeRows wf).startIndexMap from List.mem_singleton.mpr rfl)]
    have hsi : (takeRows wf).siIdx (ix3 i j h) ⟨List.idxOf (0 : Fin 2) (takeRows wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, hn]
    show min n.val (N - 1) + 0 + 0 = n.val
    have := n.isLt
    omega
  · unfold GatherDims.start
    rw [dif_neg (show ¬ (1 : Fin 2) ∈ ([0] : List (Fin 2)) from by decide)]
    show 0 + 0 + (takeRows wf).offCoord (ix3 i j h) 1 = h.val
    rw [Nat.zero_add]
    rfl

/-- The dimension numbers of the transpose of `x[idx]`. -/
abbrev addRows (wf : ScatterDims.WF ⟨2, ![N, A]⟩ ⟨3, ![R, C, 1]⟩ ⟨3, ![R, C, A]⟩ [2] [0] [0] 2) :
    ScatterDims ⟨2, ![N, A]⟩ ⟨3, ![R, C, 1]⟩ ⟨3, ![R, C, A]⟩ where
  updateWindowDims := [2]
  insertedWindowDims := [0]
  scatterDimsToOperandDims := [0]
  indexVectorDim := 2
  wf := wf

/-- The update at `(i, j, h)` lands at row `idx[i, j]`, column `h`. -/
theorem lands (wf : ScatterDims.WF ⟨2, ![N, A]⟩ ⟨3, ![R, C, 1]⟩ ⟨3, ![R, C, A]⟩ [2] [0] [0] 2)
    (idx : IVec ⟨3, ![R, C, 1]⟩ 32) (i : Fin R) (j : Fin C) (h : Fin A) (n : Fin N)
    (hn : (idx (ix3 i j 0)).toInt = (n.val : Int)) :
    (addRows wf).resultIdx? (ix3 i j h) idx = some (ix2 n h) := by
  have w0 : (addRows wf).window (ix3 i j h) 0 = 0 := rfl
  have w1 : (addRows wf).window (ix3 i j h) 1 = h.val := rfl
  have s1 : (addRows wf).start (ix3 i j h) idx 1 = 0 := rfl
  have s0 : (addRows wf).start (ix3 i j h) idx 0 = n.val := by
    unfold ScatterDims.start
    rw [dif_pos (show (0 : Fin 2) ∈ (addRows wf).scatterDimsToOperandDims from List.mem_singleton.mpr rfl)]
    have hsi : (addRows wf).siIdx (ix3 i j h) ⟨List.idxOf (0 : Fin 2) (addRows wf).scatterDimsToOperandDims,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi, hn]
  have hh := h.isLt
  have hnn := n.isLt
  unfold ScatterDims.resultIdx?
  have H : ∀ a, 0 ≤ (addRows wf).start (ix3 i j h) idx a + (addRows wf).window (ix3 i j h) a ∧
      (addRows wf).start (ix3 i j h) idx a + (addRows wf).window (ix3 i j h) a
        < (⟨2, ![N, A]⟩ : Shape).size a := by
    intro a
    match a with
    | ⟨0, _⟩ =>
      show 0 ≤ (addRows wf).start (ix3 i j h) idx 0 + (addRows wf).window (ix3 i j h) 0 ∧
        (addRows wf).start (ix3 i j h) idx 0 + (addRows wf).window (ix3 i j h) 0 < (N : Int)
      rw [s0, w0]; omega
    | ⟨1, _⟩ =>
      show 0 ≤ (addRows wf).start (ix3 i j h) idx 1 + (addRows wf).window (ix3 i j h) 1 ∧
        (addRows wf).start (ix3 i j h) idx 1 + (addRows wf).window (ix3 i j h) 1 < (A : Int)
      rw [s1, w1]; omega
  rw [dif_pos H]
  congr 1
  funext a
  refine Fin.ext ?_
  match a with
  | ⟨0, _⟩ =>
    show ((addRows wf).start (ix3 i j h) idx 0 + (addRows wf).window (ix3 i j h) 0).toNat = n.val
    rw [s0, w0]; omega
  | ⟨1, _⟩ =>
    show ((addRows wf).start (ix3 i j h) idx 1 + (addRows wf).window (ix3 i j h) 1).toNat = h.val
    rw [s1, w1]; omega

/-- The transpose of `x[idx]` at `(r, h)`: the operand there, plus the updates whose index is `r`. -/
theorem add_apply (wf : ScatterDims.WF ⟨2, ![N, A]⟩ ⟨3, ![R, C, 1]⟩ ⟨3, ![R, C, A]⟩ [2] [0] [0] 2)
    (x : (⟨2, ![N, A]⟩ : Shape).Idx → EReal) (idx : IVec ⟨3, ![R, C, 1]⟩ 32)
    (upd : (⟨3, ![R, C, A]⟩ : Shape).Idx → EReal) (row : Fin R → Fin C → Fin N)
    (hc : ∀ i j, (idx (ix3 i j 0)).toInt = ((row i j).val : Int)) (r : Fin N) (h : Fin A) :
    Ideal.hostScatterAdd (addRows wf) x idx upd (ix2 r h)
      = x (ix2 r h) + ∑ i : Fin R, ∑ j : Fin C, if row i j = r then upd (ix3 i j h) else 0 := by
  unfold Ideal.hostScatterAdd
  congr 1
  rw [Finset.sum_filter, sum_idx3]
  refine Finset.sum_congr rfl fun i _ => Finset.sum_congr rfl fun j _ => ?_
  rw [Finset.sum_eq_single h]
  · rw [lands wf idx i j h (row i j) (hc i j)]
    by_cases e : row i j = r
    · rw [if_pos e, if_pos (by rw [e])]
    · rw [if_neg e, if_neg]
      intro q
      exact e (congrFun (Option.some.inj q) 0)
  · intro b _ hb
    rw [lands wf idx i j b (row i j) (hc i j), if_neg]
    intro q
    exact hb (congrFun (Option.some.inj q) 1)
  · intro q
    exact absurd (Finset.mem_univ h) q

/-- The rows that read row `t`, collected: one for every place of the window that stays within the array. -/
theorem collect (dy : Fin 4096 → EReal) (w : Fin 31 → EReal) (t : Fin 4096) :
    (∑ i : Fin 4096, ∑ k : Fin 31, if i.val + k.val = t.val + 30 then dy i * w k else 0) = acc dy w t := by
  rw [Finset.sum_comm]
  refine Finset.sum_congr rfl fun k _ => ?_
  split
  · next h =>
    rw [Finset.sum_eq_single ⟨t.val + 30 - k.val, h⟩]
    · rw [if_pos (by simp; omega)]
    · intro b _ hb
      rw [if_neg fun e => hb (Fin.ext (by simp; omega))]
    · exact fun q => absurd (Finset.mem_univ _) q
  · next h =>
    refine Finset.sum_eq_zero fun i _ => if_neg ?_
    have := i.isLt
    omega

end Cert.ConvMath

end
-- ==== Proof.ConvPoint.lean ====
module

public import proofs.«01_k».proof.Proof.ConvBlock
public import Idealize.ShloMosaic.Lib.Ring
public import proofs.«01_k».proof.Proof.ConvMath
public import proofs.«01_k».proof.Proof.Lift

@[expose] public section

set_option maxRecDepth 16384

noncomputable section

/-! The functions of a chunk and of a tap, number by number, over the extended reals. -/

namespace Cert.ConvBwdIdeal.Val

open Cert.ConvBwdIdeal Cert.ConvBwdIdeal.Gen Idealize.ShloMosaic Idealize.ShloMosaic.TcCoe Cert.ConvMath

theorem k0_sig (x : Vec Ideal S1x64x256 .bf16) (r : Fin 64) (c : Fin 256) :
    k0_pay5 (F := Ideal) x (ix2 r c) = sg (x (ix3 0 r c)) := by
  pointwise [k0_pay5, sg, zero_sub]

theorem accum_step (D : Vec Ideal S544x256 .f32) (w : Vec Ideal S32x256 .f32) (o : ℕ) (ho : o + 64 ≤ 512) (r : Fin 64) (c : Fin 256)
    (m : ℕ) (h : m + 1 ≤ 31) : accum D w o ho (m + 1) h (ix2 r c)
      = accum D w o ho m (by omega) (ix2 r c) + D (ix2 ⟨o + 30 - m + r.val, by omega⟩ c) * w (ix2 ⟨m, by omega⟩ c) := by
  rw [accum]
  pointwise [rows, tap]

theorem accum_apply (D : Vec Ideal S544x256 .f32) (w : Vec Ideal S32x256 .f32) (o : ℕ) (ho : o + 64 ≤ 512) (r : Fin 64) (c : Fin 256) :
    ∀ (m : ℕ) (h : m ≤ 31), accum D w o ho m h (ix2 r c)
      = ∑ k : Fin m, (D (ix2 ⟨o + 30 - k.val + r.val, by omega⟩ c) * w (ix2 ⟨k.val, by omega⟩ c) : EReal)
  | 0, h => Lift.lit_zero
  | m + 1, h => by
    rw [accum_step, accum_apply D w o ho r c m (by omega)]
    exact (Fin.sum_univ_castSucc fun k : Fin (m + 1) =>
      (D (ix2 ⟨o + 30 - k.val + r.val, by omega⟩ c) * w (ix2 ⟨k.val, by omega⟩ c) : EReal)).symm

theorem taps_step (D U : Vec Ideal S544x256 .f32) (k : ℕ) (hk : k < 31) (b : Fin 8) (c : Fin 256) (m : ℕ) (h : m + 1 ≤ 8) :
    taps D U k hk (m + 1) h (ix2 b c) = taps D U k hk m (by omega) (ix2 b c)
      + ∑ a : Fin 8, (D (ix2 ⟨64 * m + (a.val * 8 + b.val), by omega⟩ c) * U (ix2 ⟨64 * m + 2 + k + (a.val * 8 + b.val), by omega⟩ c) : EReal) := by
  rw [taps]
  pointwise [rows]

theorem taps_apply (D U : Vec Ideal S544x256 .f32) (k : ℕ) (hk : k < 31) (b : Fin 8) (c : Fin 256) :
    ∀ (m : ℕ) (h : m ≤ 8), taps D U k hk m h (ix2 b c)
      = ∑ p : Fin m, ∑ a : Fin 8, (D (ix2 ⟨64 * p.val + (a.val * 8 + b.val), by omega⟩ c)
          * U (ix2 ⟨64 * p.val + 2 + k + (a.val * 8 + b.val), by omega⟩ c) : EReal)
  | 0, h => Lift.lit_zero
  | m + 1, h => by
    rw [taps_step, taps_apply D U k hk b c m (by omega)]
    exact (Fin.sum_univ_castSucc fun p : Fin (m + 1) =>
      ∑ a : Fin 8, (D (ix2 ⟨64 * p.val + (a.val * 8 + b.val), by omega⟩ c)
          * U (ix2 ⟨64 * p.val + 2 + k + (a.val * 8 + b.val), by omega⟩ c) : EReal)).symm

/-- The block's part of a tap's gradient: over the block's 512 rows, the cotangent times the gated row it read. -/
theorem outW_apply (D U : Vec Ideal S544x256 .f32) (k : ℕ) (hk : k < 31) (z : Fin 1) (c : Fin 256) :
    outW D U k hk (ix2 z c)
      = ∑ n : Fin 512, (D (ix2 ⟨n.val, by omega⟩ c) * U (ix2 ⟨n.val + 2 + k, by omega⟩ c) : EReal) := by
  have h1 : outW D U k hk (ix2 z c) = ∑ b : Fin 8, (taps D U k hk 8 (by omega) (ix2 b c) : EReal) := by
    pointwise [outW]
  rw [h1, Finset.sum_congr rfl fun b _ => taps_apply D U k hk b c 8 (by omega), Finset.sum_comm]
  refine (Finset.sum_congr rfl fun p _ => ?_).trans (Fin.sum_mul_add_fin (L := 512) 8 64
    fun n : Fin 512 => (D (ix2 ⟨n.val, by omega⟩ c) * U (ix2 ⟨n.val + 2 + k, by omega⟩ c) : EReal))
  rw [Finset.sum_comm]
  refine Fin.sum_mul_add_congr (L := 64) (S := 8) (n := 8) fun a b hl => ?_
  have hD : ∀ (q q' : ℕ) (hq : q < 544) (hq' : q' < 544), q = q' → (D (ix2 ⟨q, hq⟩ c) : EReal) = D (ix2 ⟨q', hq'⟩ c) :=
    fun q q' hq hq' e => by subst e; rfl
  have hU : ∀ (q q' : ℕ) (hq : q < 544) (hq' : q' < 544), q = q' → (U (ix2 ⟨q, hq⟩ c) : EReal) = U (ix2 ⟨q', hq'⟩ c) :=
    fun q q' hq hq' e => by subst e; rfl
  exact congrArg₂ (· * ·) (hD _ _ _ _ (by dsimp only; omega)) (hU _ _ _ _ (by dsimp only; omega))

theorem accum_at (D : Vec Ideal S544x256 .f32) (w : Vec Ideal S32x256 .f32) (o : ℕ) (ho : o + 64 ≤ 512) (r : Fin 64) (c : Fin 256)
    (n : Fin 512) (hn : n.val = o + r.val) : accum D w o ho 31 (by decide) (ix2 r c)
      = ∑ k : Fin 31, (D (ix2 ⟨n.val + 30 - k.val, by omega⟩ c) * w (ix2 ⟨k.val, by omega⟩ c) : EReal) := by
  have hD : ∀ (q q' : ℕ) (hq : q < 544) (hq' : q' < 544), q = q' → (D (ix2 ⟨q, hq⟩ c) : EReal) = D (ix2 ⟨q', hq'⟩ c) :=
    fun q q' hq hq' e => by subst e; rfl
  rw [accum_apply]
  exact Finset.sum_congr rfl fun k _ => congrArg₂ (· * ·) (hD _ _ _ _ (by omega)) rfl

/-- The values' gradient in a chunk. -/
theorem outA_apply (D : Vec Ideal S544x256 .f32) (w : Vec Ideal S32x256 .f32) (x3 : Vec Ideal S1x512x256 .bf16) (o : ℕ) (ho : o + 64 ≤ 512)
    (z : Fin 1) (r : Fin 64) (c : Fin 256) (n : Fin 512) (hn : n.val = o + r.val) : outA D w x3 o ho (ix3 z r c)
      = (∑ k : Fin 31, (D (ix2 ⟨n.val + 30 - k.val, by omega⟩ c) * w (ix2 ⟨k.val, by omega⟩ c) : EReal)) * sg (x3 (ix3 0 n c)) := by
  rw [← accum_at D w o ho r c n hn]
  have hlt : o + r.val < 512 := by clear hn n; omega
  obtain rfl : n = ⟨o + r.val, hlt⟩ := Fin.ext hn
  pointwise [outA, k0_sig, chunk]

/-- The gate's gradient in a chunk. -/
theorem outG_apply (D : Vec Ideal S544x256 .f32) (w : Vec Ideal S32x256 .f32) (x2 x3 : Vec Ideal S1x512x256 .bf16) (o : ℕ) (ho : o + 64 ≤ 512)
    (z : Fin 1) (r : Fin 64) (c : Fin 256) (n : Fin 512) (hn : n.val = o + r.val) : outG D w x2 x3 o ho (ix3 z r c)
      = (∑ k : Fin 31, (D (ix2 ⟨n.val + 30 - k.val, by omega⟩ c) * w (ix2 ⟨k.val, by omega⟩ c) : EReal))
          * x2 (ix3 0 n c) * sg (x3 (ix3 0 n c)) * (1 - sg (x3 (ix3 0 n c))) := by
  rw [← accum_at D w o ho r c n hn]
  have hlt : o + r.val < 512 := by clear hn n; omega
  obtain rfl : n = ⟨o + r.val, hlt⟩ := Fin.ext hn
  pointwise [outG, k0_sig, chunk, k0_pay4]

theorem eq2 {A B : ℕ} (x : (⟨2, ![A, B]⟩ : Shape).Idx) (a : Fin A) (b : Fin B) (ha : (x 0).val = a.val) (hb : (x 1).val = b.val) : x = ix2 a b := by
  funext k
  match k with
  | ⟨0, _⟩ => exact Fin.ext ha
  | ⟨1, _⟩ => exact Fin.ext hb

/-- A place of a buffer of 544 rows lies in the rows from `o` on. -/
theorem mem_rows (y : S544x256.Idx) (o n : ℕ) (h) (h₁ : o ≤ (y 0).val) (h₂ : (y 0).val < o + n) :
    y ∈ (Rect.unit (s := S544x256) ![o, 0] ![n, 256] h).set := by
  refine Rect.mem_set_unit.mpr fun a => ?_
  match a with
  | ⟨0, _⟩ => exact ⟨h₁, h₂⟩
  | ⟨1, _⟩ => exact ⟨Nat.zero_le _, lt_of_lt_of_eq (y 1).isLt (Nat.zero_add 256).symm⟩

theorem cts_cover (i : grid0.Coords) (x0 : Vec Ideal S512x256 .f32) (x1 : Vec Ideal S32x256 .f32) (y : S544x256.Idx) :
    ∃ p ∈ ([⟨Rect.unit ![512, 0] S32x256.size inb_S544x256_S32x256_512_0, k0_pay2 i x1⟩,
      ⟨Rect.unit ![0, 0] S512x256.size inb_S544x256_S512x256_0_0, k0_pay1 x0⟩] : List (View.Piece (Elt Ideal) S544x256 .f32)), y ∈ p.1.set := by
  by_cases h : (y 0).val < 512
  · exact ⟨_, .tail _ (.head _), mem_rows y 0 512 inb_S544x256_S512x256_0_0 (Nat.zero_le _) (by omega)⟩
  · exact ⟨_, .head _, mem_rows y 512 32 inb_S544x256_S32x256_512_0 (by omega) (y 0).isLt⟩

/-- The cotangents: the block's rows, … -/
theorem cts_low (i : grid0.Coords) (x0 : Vec Ideal S512x256 .f32) (x1 : Vec Ideal S32x256 .f32) (n : Fin 544) (c : Fin 256) (h : n.val < 512) :
    cts (F := Ideal) i x0 x1 (ix2 n c) = x0 (ix2 ⟨n.val, h⟩ c) := by
  unfold cts
  canon_tiles x e using cts_cover i x0 x1 _
  · exfalso; have : (n : ℕ) = 512 + _ := e0; omega
  · pointwise [k0_pay1]
    exact congrArg x0 (eq2 _ _ _ e0.symm e1.symm)

/-- … then those after it, or zeros. -/
theorem cts_high (i : grid0.Coords) (x0 : Vec Ideal S512x256 .f32) (x1 : Vec Ideal S32x256 .f32) (r : Fin 32) (c : Fin 256) (n : Fin 544)
    (hn : n.val = 512 + r.val) :
    cts (F := Ideal) i x0 x1 (ix2 n c) = if (i 1).val < 7 then x1 (ix2 r c) else 0 := by
  have hi : ∀ k : Fin 8, (Scalar.cmpi .slt (BitVec.ofNat 32 k.val) 7#32 = 1#1) ↔ k.val < 7 := by decide
  unfold cts
  canon_tiles x e using cts_cover i x0 x1 _
  · rw [eq2 x r c (by have : (n : ℕ) = 512 + _ := e0; omega) e1.symm]
    by_cases h : (i 1).val < 7
    · rw [if_pos h]
      pointwise [k0_pay2]
      exact if_pos ((hi (i 1)).mpr h)
    · rw [if_neg h]
      pointwise [k0_pay2]
      exact if_neg fun e => h ((hi (i 1)).mp e)
  · exfalso; have : (n : ℕ) = _ := e0; omega

theorem gated_cover (i : grid0.Coords) (x2 x3 : Vec Ideal S1x512x256 .bf16) (x4 x5 : Vec Ideal S1x32x256 .bf16) (y : S544x256.Idx) :
    ∃ p ∈ ([
    ⟨Rect.unit ![480, 0] S64x256.size (rows_inb (by decide)), k0_pay6 (chunk x2 448 (by decide)) (chunk x3 448 (by decide))⟩,
    ⟨Rect.unit ![416, 0] S64x256.size (rows_inb (by decide)), k0_pay6 (chunk x2 384 (by decide)) (chunk x3 384 (by decide))⟩,
    ⟨Rect.unit ![352, 0] S64x256.size (rows_inb (by decide)), k0_pay6 (chunk x2 320 (by decide)) (chunk x3 320 (by decide))⟩,
    ⟨Rect.unit ![288, 0] S64x256.size (rows_inb (by decide)), k0_pay6 (chunk x2 256 (by decide)) (chunk x3 256 (by decide))⟩,
    ⟨Rect.unit ![224, 0] S64x256.size (rows_inb (by decide)), k0_pay6 (chunk x2 192 (by decide)) (chunk x3 192 (by decide))⟩,
    ⟨Rect.unit ![160, 0] S64x256.size (rows_inb (by decide)), k0_pay6 (chunk x2 128 (by decide)) (chunk x3 128 (by decide))⟩,
    ⟨Rect.unit ![96, 0] S64x256.size (rows_inb (by decide)), k0_pay6 (chunk x2 64 (by decide)) (chunk x3 64 (by decide))⟩,
    ⟨Rect.unit ![32, 0] S64x256.size (rows_inb (by decide)), k0_pay6 (chunk x2 0 (by decide)) (chunk x3 0 (by decide))⟩,
    ⟨Rect.unit ![0, 0] S32x256.size inb_S544x256_S32x256_0_0, k0_pay3 i x4 x5⟩] : List (View.Piece (Elt Ideal) S544x256 .f32)), y ∈ p.1.set := by
  by_cases h7 : 480 ≤ (y 0).val
  · exact ⟨_, .head _, mem_rows y 480 64 (rows_inb (by decide)) h7 (by have := (y 0).isLt; exact this)⟩
  by_cases h6 : 416 ≤ (y 0).val
  · exact ⟨_, .tail _ (.head _), mem_rows y 416 64 (rows_inb (by decide)) h6 (by have := (y 0).isLt; omega)⟩
  by_cases h5 : 352 ≤ (y 0).val
  · exact ⟨_, .tail _ (.tail _ (.head _)), mem_rows y 352 64 (rows_inb (by decide)) h5 (by have := (y 0).isLt; omega)⟩
  by_cases h4 : 288 ≤ (y 0).val
  · exact ⟨_, .tail _ (.tail _ (.tail _ (.head _))), mem_rows y 288 64 (rows_inb (by decide)) h4 (by have := (y 0).isLt; omega)⟩
  by_cases h3 : 224 ≤ (y 0).val
  · exact ⟨_, .tail _ (.tail _ (.tail _ (.tail _ (.head _)))), mem_rows y 224 64 (rows_inb (by decide)) h3 (by have := (y 0).isLt; omega)⟩
  by_cases h2 : 160 ≤ (y 0).val
  · exact ⟨_, .tail _ (.tail _ (.tail _ (.tail _ (.tail _ (.head _))))), mem_rows y 160 64 (rows_inb (by decide)) h2 (by have := (y 0).isLt; omega)⟩
  by_cases h1 : 96 ≤ (y 0).val
  · exact ⟨_, .tail _ (.tail _ (.tail _ (.tail _ (.tail _ (.tail _ (.head _)))))), mem_rows y 96 64 (rows_inb (by decide)) h1 (by have := (y 0).isLt; omega)⟩
  by_cases h0 : 32 ≤ (y 0).val
  · exact ⟨_, .tail _ (.tail _ (.tail _ (.tail _ (.tail _ (.tail _ (.tail _ (.head _))))))), mem_rows y 32 64 (rows_inb (by decide)) h0 (by have := (y 0).isLt; omega)⟩
  exact ⟨_, .tail _ (.tail _ (.tail _ (.tail _ (.tail _ (.tail _ (.tail _ (.tail _ (.head _)))))))), mem_rows y 0 32 inb_S544x256_S32x256_0_0 (Nat.zero_le _) (by omega)⟩

theorem k0_gate (x2 x3 : Vec Ideal S1x512x256 .bf16) (o : ℕ) (ho : o + 64 ≤ 512) (r : Fin 64) (c : Fin 256) (n : Fin 512) (hn : n.val = o + r.val) :
    k0_pay6 (F := Ideal) (chunk x2 o ho) (chunk x3 o ho) (ix2 r c) = x2 (ix3 0 n c) * sg (x3 (ix3 0 n c)) := by
  have hlt : o + r.val < 512 := by clear hn n; omega
  obtain rfl : n = ⟨o + r.val, hlt⟩ := Fin.ext hn
  pointwise [k0_pay6, k0_sig, chunk, k0_pay4]

/-- The gated rows of the block. -/
theorem gated_high (i : grid0.Coords) (x2 x3 : Vec Ideal S1x512x256 .bf16) (x4 x5 : Vec Ideal S1x32x256 .bf16) (n : Fin 544) (c : Fin 256)
    (q : Fin 512) (hq : n.val = q.val + 32) :
    gated (F := Ideal) i x2 x3 x4 x5 (ix2 n c) = x2 (ix3 0 q c) * sg (x3 (ix3 0 q c)) := by
  unfold gated
  canon_tiles x e using gated_cover i x2 x3 x4 x5 _
  case' piece8 => exfalso; have : (n : ℕ) = _ := e0; omega
  all_goals
    refine (congrArg _ (eq2 x ⟨(x 0).val, x0_lt⟩ c rfl e1.symm)).trans (k0_gate x2 x3 _ _ _ c q ?_)
    have : (n : ℕ) = _ := e0
    dsimp only; omega

/-- The gated rows before it, or zeros. -/
theorem gated_low (i : grid0.Coords) (x2 x3 : Vec Ideal S1x512x256 .bf16) (x4 x5 : Vec Ideal S1x32x256 .bf16) (n : Fin 544) (c : Fin 256)
    (q : Fin 32) (hq : n.val = q.val) :
    gated (F := Ideal) i x2 x3 x4 x5 (ix2 n c) = if 0 < (i 1).val then x4 (ix3 0 q c) * sg (x5 (ix3 0 q c)) else 0 := by
  have hi : ∀ k : Fin 8, (Scalar.cmpi .sgt (BitVec.ofNat 32 k.val) 0#32 = 1#1) ↔ 0 < k.val := by decide
  unfold gated
  canon_tiles x e using gated_cover i x2 x3 x4 x5 _
  case' piece8 =>
    rw [eq2 x q c (by have : (n : ℕ) = _ := e0; omega) e1.symm]
    by_cases h : 0 < (i 1).val
    · rw [if_pos h]
      pointwise [k0_pay3, sg, zero_sub]
      exact if_pos ((hi (i 1)).mpr h)
    · rw [if_neg h]
      pointwise [k0_pay3]
      exact if_neg fun e => h ((hi (i 1)).mp e)
  all_goals
    exfalso; have : (n : ℕ) = _ + _ := e0; omega

theorem parts_cover (D U : Vec Ideal S544x256 .f32) (y : S32x256.Idx) :
    ∃ p ∈ (⟨Rect.unit (s := S32x256) ![31, 0] S1x256.size (tap_inb (by decide)), k0_pay200 (F := Ideal)⟩ :: tapStores (F := Ideal) D U 31 (by decide)
      : List (View.Piece (Elt Ideal) S32x256 .f32)), y ∈ p.1.set :=
  View.cover_of_tiledL (s := S32x256) _ S1x256.size (by sl_kernel_rfl) y

theorem tapStores_pieces (D U : Vec Ideal S544x256 .f32) (G : S32x256.Idx → Elt Ideal .f32)
    (hG : ∀ (k : ℕ) (hk : k < 31) (c : Fin 256), G (ix2 ⟨k, by omega⟩ c)
      = ∑ n : Fin 512, (D (ix2 ⟨n.val, by omega⟩ c) * U (ix2 ⟨n.val + 2 + k, by omega⟩ c) : EReal)) :
    ∀ (k : ℕ) (h : k ≤ 31), View.PiecesOf (Val := Elt Ideal) G (tapStores D U k h)
  | 0, _ => trivial
  | k + 1, h => by
    refine ⟨fun x => ?_, tapStores_pieces D U G hG k (by omega)⟩
    have hx : x = ix2 (x 0) (x 1) := eq2 x _ _ rfl rfl
    have hz : (x 0).val < 1 := (x 0).isLt
    refine (congrArg _ hx).trans ((outW_apply D U k (by omega) (x 0) (x 1)).trans ((hG k (by omega) (x 1)).symm.trans (congrArg G (eq2 _ _ _ ?_ ?_).symm)))
    · show k + 1 * (x 0).val = k; omega
    · show 0 + 1 * (x 1).val = (x 1).val; omega

/-- The block's part of every tap's gradient. -/
theorem parts_apply (D U : Vec Ideal S544x256 .f32) (k : Fin 32) (hk : k.val < 31) (c : Fin 256) :
    parts (F := Ideal) D U (ix2 k c)
      = ∑ n : Fin 512, (D (ix2 ⟨n.val, by omega⟩ c) * U (ix2 ⟨n.val + 2 + k.val, by omega⟩ c) : EReal) := by
  let G : S32x256.Idx → Elt Ideal .f32 := fun y => if h : (y 0).val < 31 then
    ∑ n : Fin 512, (D (ix2 ⟨n.val, by omega⟩ (y 1)) * U (ix2 ⟨n.val + 2 + (y 0).val, by omega⟩ (y 1)) : EReal) else Ideal.ofBits .f32 0
  refine (View.canon_apply_of_pieces G _ (View.PiecesOf.mem (show View.PiecesOf (Val := Elt Ideal) G (_ :: _) from
    ⟨fun x => ?_, tapStores_pieces D U G (fun k hk c => dif_pos hk) 31 (by decide)⟩)) _ (parts_cover D U _)).trans (dif_pos hk)
  have hz : (x 0).val < 1 := (x 0).isLt
  have h0 : ∀ y : S32x256.Idx, ¬(y 0).val < 31 → G y = Ideal.ofBits .f32 0 := fun y h => dif_neg h
  exact (h0 _ (by show ¬ 31 + 1 * (x 0).val < 31; omega)).symm

theorem stores_cover (D : Vec Ideal S544x256 .f32) (w : Vec Ideal S32x256 .f32) (x2 x3 : Vec Ideal S1x512x256 .bf16) (y : S2x512x256.Idx) :
    ∃ p ∈ stores (F := Ideal) D w x2 x3 8 (by decide), y ∈ p.1.set :=
  View.cover_of_tiledL (s := S2x512x256) _ S1x64x256.size (by sl_kernel_rfl) y

/-- The block of the projection's gradient: the values' plane, then the gate's. -/
def outBlk (D : Vec Ideal S544x256 .f32) (w : Vec Ideal S32x256 .f32) (x2 x3 : Vec Ideal S1x512x256 .bf16)
    (s : ℕ) (n : Fin 512) (c : Fin 256) : EReal :=
  let a := ∑ k : Fin 31, (D (ix2 ⟨n.val + 30 - k.val, by omega⟩ c) * w (ix2 ⟨k.val, by omega⟩ c) : EReal)
  if s = 0 then a * sg (x3 (ix3 0 n c)) else a * x2 (ix3 0 n c) * sg (x3 (ix3 0 n c)) * (1 - sg (x3 (ix3 0 n c)))

theorem eq3 {A B C : ℕ} (x : (⟨3, ![A, B, C]⟩ : Shape).Idx) (a : Fin A) (b : Fin B) (c : Fin C) (ha : (x 0).val = a.val)
    (hb : (x 1).val = b.val) (hc : (x 2).val = c.val) : x = ix3 a b c := by
  funext k
  match k with
  | ⟨0, _⟩ => exact Fin.ext ha
  | ⟨1, _⟩ => exact Fin.ext hb
  | ⟨2, _⟩ => exact Fin.ext hc

theorem stores_pieces (D : Vec Ideal S544x256 .f32) (w : Vec Ideal S32x256 .f32) (x2 x3 : Vec Ideal S1x512x256 .bf16)
    (G : S2x512x256.Idx → Elt Ideal .bf16) (hG : ∀ s n c, G (ix3 s n c) = outBlk D w x2 x3 s.val n c) :
    ∀ (n : ℕ) (h : n ≤ 8), View.PiecesOf (Val := Elt Ideal) G (stores D w x2 x3 n h)
  | 0, _ => trivial
  | n + 1, h => by
    refine ⟨fun x => ?_, fun x => ?_, stores_pieces D w x2 x3 G hG n (by omega)⟩
    · have hx : x = ix3 (x 0) (x 1) (x 2) := eq3 x _ _ _ rfl rfl rfl
      have hz : (x 0).val < 1 := (x 0).isLt
      have h1 : (x 1).val < 64 := (x 1).isLt
      refine (congrArg _ hx).trans ((outG_apply D w x2 x3 (64 * n) (by omega) (x 0) (x 1) (x 2) ⟨64 * n + (x 1).val, by omega⟩ rfl).trans
        ((hG 1 ⟨64 * n + (x 1).val, by omega⟩ (x 2)).symm.trans (congrArg G (eq3 _ _ _ _ ?_ ?_ ?_).symm)))
      · show 1 + 1 * (x 0).val = 1; omega
      · show 64 * n + 1 * (x 1).val = 64 * n + (x 1).val; omega
      · show 0 + 1 * (x 2).val = (x 2).val; omega
    · have hx : x = ix3 (x 0) (x 1) (x 2) := eq3 x _ _ _ rfl rfl rfl
      have hz : (x 0).val < 1 := (x 0).isLt
      have h1 : (x 1).val < 64 := (x 1).isLt
      refine (congrArg _ hx).trans ((outA_apply D w x3 (64 * n) (by omega) (x 0) (x 1) (x 2) ⟨64 * n + (x 1).val, by omega⟩ rfl).trans
        ((hG 0 ⟨64 * n + (x 1).val, by omega⟩ (x 2)).symm.trans (congrArg G (eq3 _ _ _ _ ?_ ?_ ?_).symm)))
      · show 0 + 1 * (x 0).val = 0; omega
      · show 64 * n + 1 * (x 1).val = 64 * n + (x 1).val; omega
      · show 0 + 1 * (x 2).val = (x 2).val; omega

/-- What the block of the projection's gradient holds. -/
theorem stores_apply (D : Vec Ideal S544x256 .f32) (w : Vec Ideal S32x256 .f32) (x2 x3 : Vec Ideal S1x512x256 .bf16) (s : Fin 2) (n : Fin 512)
    (c : Fin 256) : View.canon (Val := Elt Ideal) (stores D w x2 x3 8 (by decide)) (ix3 s n c) = outBlk D w x2 x3 s.val n c := by
  let G : S2x512x256.Idx → Elt Ideal .bf16 := fun y => outBlk D w x2 x3 (y 0).val (y 1) (y 2)
  exact View.canon_apply_of_pieces G _ (View.PiecesOf.mem (stores_pieces D w x2 x3 G (fun _ _ _ => rfl) 8 (by decide))) _ (stores_cover D w x2 x3 _)

end Cert.ConvBwdIdeal.Val

end
-- ==== Proof.ConvRead.lean ====
module

public import proofs.«01_k».proof.Proof.ConvMath
public import proofs.«01_k».proof.Proof.Words
public import proofs.«01_k».proof.Proof.Lift
public import proofs.«01_k».proof.Proof.Gen.ConvRefIdeal.Read

@[expose] public section

set_option maxRecDepth 16384

noncomputable section

/-! The reference of the convolution's gradient, read step by step. -/

namespace Cert.ConvRead

open Idealize.ShloMosaic Cert.ConvRefIdeal Cert.ConvRefIdeal.Read
open Cert.ConvMath (sg acc win dw)

variable (x0 : FVec Ideal S7x4096x2048 .bf16) (x1 : FVec Ideal S4096x2048 .f32) (x2 : FVec Ideal S1x4096x14336 .f32)
  (x3 : FVec Ideal S31x2048 .f32)

/-- The column `c` of the projection's segment `s`. -/
def seg (s : Fin 7) (c : Fin 2048) : Fin 14336 := ⟨2048 * s.val + c.val, by omega⟩

/-- The value rows. -/
def va (c : Fin 2048) (t : Fin 4096) : EReal := x2 (ix3 0 t (seg 4 c))

/-- The gate's sigmoid. -/
def gs (c : Fin 2048) (t : Fin 4096) : EReal := sg (x2 (ix3 0 t (seg 5 c)))

/-- The gradient of the gated rows. -/
def up (c : Fin 2048) (t : Fin 4096) : EReal := acc (fun t => x1 (ix2 t c)) (fun k => x3 (ix2 k c)) t

theorem eq3 {A B C : ℕ} (k : (⟨3, ![A, B, C]⟩ : Shape).Idx) (a : Fin A) (b : Fin B) (c : Fin C) (h0 : (k 0).val = a.val)
    (h1 : (k 1).val = b.val) (h2 : (k 2).val = c.val) : k = ix3 a b c :=
  funext fun n => Fin.ext (match n with | ⟨0, _⟩ => h0 | ⟨1, _⟩ => h1 | ⟨2, _⟩ => h2)

theorem eq2 {A B : ℕ} (k : (⟨2, ![A, B]⟩ : Shape).Idx) (a : Fin A) (b : Fin B) (h0 : (k 0).val = a.val)
    (h1 : (k 1).val = b.val) : k = ix2 a b :=
  funext fun n => Fin.ext (match n with | ⟨0, _⟩ => h0 | ⟨1, _⟩ => h1)

theorem read_a (t : Fin 4096) (c : Fin 2048) : val_main_v1 (F := Ideal) x2 (ix2 t c) = va x2 c t := by
  pointwise [val_main_v1_apply, val_main_v0_apply]
  exact congrArg x2 (eq3 _ 0 t (seg 4 c) rfl (by simp [ix2]; omega) (by simp [ix2, seg]))

theorem read_s (t : Fin 4096) (c : Fin 2048) : val_main_v10 (F := Ideal) x2 (ix2 t c) = gs x2 c t := by
  pointwise [val_main_v10_apply, val_main_v9_apply, val_main_v8_apply, val_main_v7_apply, val_main_v6_apply, val_main_v5_apply, val_main_v3_apply, val_main_v2_apply]
  rw [eq3 (idx_main_v2 (idx_main_v3 (ix2 t c))) 0 t (seg 5 c) rfl (by simp [ix2]; omega) (by simp [ix2, seg])]
  rw [show val_main_cst_1 (F := Ideal) (idx_main_v9 (ix2 t c)) = 1 from Lift.lit_one,
    show val_main_cst_0 (F := Ideal) (idx_main_v7 (ix2 t c)) = 1 from Lift.lit_one]
  rfl

/-- The rows of the window: row `t + k` of the padded array. -/
theorem idx_toInt (t : Fin 4096) (k : Fin 31) (z : Fin 1) :
    (val_main_v25 (F := Ideal) (ix3 t k z)).toInt = ((t.val + k.val : ℕ) : Int) := by
  pointwise [val_main_v25_apply, val_main_v24_apply, val_main_v23_apply, val_main_v22_apply, val_main_v21_apply, val_main_v20_apply, val_main_v19_apply, val_main_v18_apply, val_main_v17_apply]
  have h : (Scalar.addi (BitVec.ofNat 32 t.val) (BitVec.ofNat 32 k.val)).toInt = ((t.val + k.val : ℕ) : Int) :=
    Words.toInt_of (Affine.addi (Affine.ofNat t.val ⟨rfl, by omega⟩) (Affine.ofNat k.val ⟨rfl, by omega⟩) ⟨rfl, by omega, by omega⟩)
  have h0 : 0 ≤ (Scalar.addi (BitVec.ofNat 32 t.val) (BitVec.ofNat 32 k.val)).toInt := by rw [h]; omega
  exact (congrArg BitVec.toInt (Words.wrap h0)).trans h

/-- The padded gated rows: thirty rows of zeros, then the rows. -/
theorem read_pad (n : Fin 4126) (c : Fin 2048) : val_main_v15 (F := Ideal) x2 (ix2 n c)
    = if 30 ≤ n.val then va x2 c ⟨n.val - 30, by omega⟩ * gs x2 c ⟨n.val - 30, by omega⟩ else 0 := by
  unfold val_main_v15
  split
  · next h =>
    rw [concatenate_pair_apply_right (t := S4126x2048) (s₁ := S30x2048) (s₂ := S4096x2048) 0 _ _ _ (ix2 n c) rfl rfl (ix2 ⟨n.val - 30, by omega⟩ c)
      (fun b hb => match b with | ⟨0, _⟩ => absurd rfl hb | ⟨1, _⟩ => rfl) (Nat.sub_add_cancel h),
      val_main_v14_apply, read_a, read_s]
    rfl
  · next h =>
    rw [concatenate_pair_apply_left (t := S4126x2048) (s₁ := S30x2048) (s₂ := S4096x2048) 0 _ _ _ (ix2 n c) rfl (ix2 ⟨n.val, by omega⟩ c)
      (fun b => match b with | ⟨0, _⟩ => rfl | ⟨1, _⟩ => rfl), val_main_v4_apply]
    exact Lift.lit_zero

/-- The gated row that row `t` reads at the place `k` of its window. -/
theorem read_win (t : Fin 4096) (k : Fin 31) (c : Fin 2048) : val_main_v26 (F := Ideal) x2 (ix3 t k c)
    = win (fun t => va x2 c t * gs x2 c t) t k := by
  refine (Cert.ConvMath.take_apply gather_S4126x2048_S4096x31x1_S4096x31x2048_2_0_n_n_0_2_12048.wf
    (val_main_v15 (F := Ideal) x2) _ t k c ⟨t.val + k.val, by omega⟩ (idx_toInt t k 0)).trans ?_
  rw [read_pad]
  rfl

/-- The weights' gradient. -/
theorem read_dw (k : Fin 31) (c : Fin 2048) : val_main_v37 (F := Ideal) x1 x2 (ix2 k c)
    = dw (fun t => x1 (ix2 t c)) (fun t => va x2 c t * gs x2 c t) k := by
  rw [val_main_v37_apply, show val_main_cst_7 (F := Ideal) (Shape.Idx.first Gen.h_S_) = 0 from Lift.lit_zero, zero_add, Fin.sum_univ_one, val_main_v34_apply,
    eq2 (idx_main_v34 (idx_main_v37 (ix2 k c) 0)) k c (by simp [ix2]; omega) (by simp [ix2]), val_main_v33_apply,
    show val_main_cst_6 (F := Ideal) (Shape.Idx.first Gen.h_S_) = 0 from Lift.lit_zero, zero_add]
  refine Finset.sum_congr rfl fun t _ => ?_
  rw [eq3 (idx_main_v33 (ix2 k c) t) t k c rfl rfl rfl, val_main_v32_apply, read_win, val_main_v31_apply,
    eq2 (idx_main_v31 (ix3 t k c)) t c rfl rfl]
  exact mul_comm _ _

/-- The padded row that row `i` reads at the place `k` of its window. -/
def row (i : Fin 4096) (k : Fin 31) : Fin 4126 := ⟨i.val + k.val, by omega⟩

/-- The transpose adds into a padded row what the rows that read it send. -/
theorem read_add (n : Fin 4126) (c : Fin 2048) : val_main_v39 (F := Ideal) x1 x3 (ix2 n c)
    = val_main_v38 (F := Ideal) (ix2 n c)
      + ∑ i : Fin 4096, ∑ k : Fin 31, if row i k = n then val_main_v36 (F := Ideal) x1 x3 (ix3 i k c) else 0 :=
  Cert.ConvMath.add_apply scatter_S4126x2048_S4096x31x1_S4096x31x2048_2_0_0_2.wf (val_main_v38 (F := Ideal)) (val_main_v25 (F := Ideal))
    (val_main_v36 (F := Ideal) x1 x3) row (fun i k => idx_toInt i k 0) n c

/-- The gated rows' gradient. -/
theorem read_up (t : Fin 4096) (c : Fin 2048) : val_main_v41 (F := Ideal) x1 x3 (ix2 t c) = up x1 x3 c t := by
  have h : idx_main_v41 (ix2 t c) = ix2 ⟨30 + t.val, by omega⟩ c := eq2 _ _ _ rfl rfl
  rw [val_main_v41_apply, h, read_add, val_main_v38_apply]
  refine (congrArg (· + _) Lift.lit_zero).trans ((zero_add _).trans ?_)
  rw [up, ← Cert.ConvMath.collect]
  refine Finset.sum_congr rfl fun i _ => Finset.sum_congr rfl fun k _ => ?_
  have h1 : idx_main_v31 (ix3 i k c) = ix2 i c := eq2 _ _ _ rfl rfl
  have h2 : idx_main_v27 (idx_main_v35 (ix3 i k c)) = ix2 k c := eq2 _ _ _ rfl rfl
  rw [val_main_v36_apply, val_main_v31_apply, val_main_v35_apply, val_main_v27_apply, h1, h2]
  refine if_congr ⟨fun q => ?_, fun q => Fin.ext ?_⟩ rfl rfl
  · have := congrArg Fin.val q
    simp only [row] at this
    omega
  · simp only [row]
    omega

/-- The gradient of the values at row `t`, column `c`. -/
def da (c : Fin 2048) (t : Fin 4096) : EReal := up x1 x3 c t * gs x2 c t

/-- The gradient of the gate at row `t`, column `c`. -/
def dg (c : Fin 2048) (t : Fin 4096) : EReal := up x1 x3 c t * va x2 c t * gs x2 c t * (1 - gs x2 c t)

theorem read_da (t : Fin 4096) (c : Fin 2048) : val_main_v43 (F := Ideal) x1 x2 x3 (ix2 t c) = da x1 x2 x3 c t := by
  rw [val_main_v43_apply, read_up, read_s]
  rfl

theorem read_dg (t : Fin 4096) (c : Fin 2048) : val_main_v44 (F := Ideal) x1 x2 x3 (ix2 t c) = dg x1 x2 x3 c t := by
  rw [val_main_v44_apply, val_main_v42_apply, val_main_v13_apply, val_main_v12_apply, val_main_v11_apply, read_up, read_s, read_a,
    show val_main_cst_2 (F := Ideal) (idx_main_v11 (ix2 t c)) = 1 from Lift.lit_one]
  show va x2 c t * up x1 x3 c t * (gs x2 c t * (1 - gs x2 c t)) = _
  rw [dg, mul_comm (va x2 c t), mul_assoc (up x1 x3 c t * va x2 c t)]

/-- The projection's gradient with the two segments written: what the first result holds. -/
def out : FVec Ideal S7x4096x2048 .bf16 := fun i =>
  if (i 0).val = 4 then da x1 x2 x3 ⟨(i 2).val, (i 2).isLt⟩ ⟨(i 1).val, (i 1).isLt⟩
  else if (i 0).val = 5 then dg x1 x2 x3 ⟨(i 2).val, (i 2).isLt⟩ ⟨(i 1).val, (i 1).isLt⟩
  else x0 i

theorem out_apply (s : Fin 7) (t : Fin 4096) (c : Fin 2048) : out x0 x1 x2 x3 (ix3 s t c)
    = if s.val = 4 then da x1 x2 x3 c t else if s.val = 5 then dg x1 x2 x3 c t else x0 (ix3 s t c) := rfl

/-- The first result. -/
theorem read_out : val_main_v52 (F := Ideal) x0 x1 x2 x3 = out x0 x1 x2 x3 := by
  funext i
  obtain ⟨s, t, c, rfl⟩ : ∃ (s : Fin 7) (t : Fin 4096) (c : Fin 2048), i = ix3 s t c :=
    ⟨⟨(i 0).val, (i 0).isLt⟩, ⟨(i 1).val, (i 1).isLt⟩, ⟨(i 2).val, (i 2).isLt⟩, eq3 i _ _ _ rfl rfl rfl⟩
  unfold val_main_v52
  rcases (by omega : s.val < 4 ∨ (4 ≤ s.val ∧ s.val < 6) ∨ 6 ≤ s.val) with h | h | h
  · refine (concatenate_apply_piece 0 _ _ (ix3 s t c) 0 (by simp) S4x4096x2048 (val_main_v45 (F := Ideal) x0) rfl rfl 0 rfl (ix3 ⟨s.val, h⟩ t c)
      (fun b _ => match b with | ⟨0, _⟩ => rfl | ⟨1, _⟩ => rfl | ⟨2, _⟩ => rfl) (Nat.zero_add _)).trans ?_
    rw [val_main_v45_apply, out_apply, if_neg (by omega), if_neg (by omega)]
    exact congrArg x0 (eq3 _ _ _ _ rfl rfl rfl)
  · refine (concatenate_apply_piece 0 _ _ (ix3 s t c) 1 (by simp) S2x4096x2048 (val_main_v50 (F := Ideal) x1 x2 x3) rfl rfl 4 rfl (ix3 ⟨s.val - 4, by omega⟩ t c)
      (fun b hb => match b with | ⟨0, _⟩ => absurd rfl hb | ⟨1, _⟩ => rfl | ⟨2, _⟩ => rfl) (by show 4 + (s.val - 4) = s.val; omega)).trans ?_
    unfold val_main_v50
    rcases (by omega : s.val = 4 ∨ s.val = 5) with h | h
    · rw [concatenate_pair_apply_left (t := S2x4096x2048) (s₁ := S1x4096x2048) (s₂ := S1x4096x2048) 0 _ _ _ _ rfl (ix3 0 t c)
        (fun b => match b with | ⟨0, _⟩ => by show 0 = s.val - 4; omega | ⟨1, _⟩ => rfl | ⟨2, _⟩ => rfl),
        val_main_v48_apply, val_main_v46_apply, eq2 (idx_main_v48 (ix3 0 t c)) t c rfl rfl, read_da, out_apply, if_pos h]
      rfl
    · rw [concatenate_pair_apply_right (t := S2x4096x2048) (s₁ := S1x4096x2048) (s₂ := S1x4096x2048) 0 _ _ _ _ rfl rfl (ix3 0 t c)
        (fun b hb => match b with | ⟨0, _⟩ => absurd rfl hb | ⟨1, _⟩ => rfl | ⟨2, _⟩ => rfl) (by show 0 + 1 = s.val - 4; omega),
        val_main_v49_apply, val_main_v47_apply, eq2 (idx_main_v49 (ix3 0 t c)) t c rfl rfl, read_dg, out_apply, if_neg (by omega),
        if_pos h]
      rfl
  · refine (concatenate_apply_piece 0 _ _ (ix3 s t c) 2 (by simp) S1x4096x2048 (val_main_v51 (F := Ideal) x0) rfl rfl 6 rfl (ix3 0 t c)
      (fun b hb => match b with | ⟨0, _⟩ => absurd rfl hb | ⟨1, _⟩ => rfl | ⟨2, _⟩ => rfl) (by show 6 + 0 = s.val; omega)).trans ?_
    rw [val_main_v51_apply, out_apply, if_neg (by omega), if_neg (by omega)]
    exact congrArg x0 (eq3 _ _ _ _ (by show 6 + 0 = s.val; omega) rfl rfl)

end Cert.ConvRead
end
-- ==== Proof.ConvVals.lean ====
module

public import Idealize.ShloMosaic.Lib.Pipeline.ValueKit
public import Idealize.ShloMosaic.Lib.Pointwise
public import Idealize.ShloMosaic.Lib.Claim
public import Idealize.ShloMosaic.Lib.KernelVsHost
public import proofs.«01_k».proof.Proof.ConvAt
public import proofs.«01_k».proof.Proof.ConvPoint
public import proofs.«01_k».proof.Proof.ConvRead

@[expose] public section

set_option maxRecDepth 16384

noncomputable section

/-! The blocks the convolution's gradient kernel reads at a grid point, and what its body makes of them, in terms of the
    argument arrays. -/

namespace Cert.ConvBwdIdeal.Val

open Cert.ConvBwdIdeal Cert.ConvBwdIdeal.Gen Idealize.ShloMosaic Idealize.ShloMosaic.TcCoe Idealize.SL.Sem
open Cert.ConvMath
open Cert.ConvRead (seg va gs up da dg)

variable (m : (ℓ : Loc nD τ sig) → Buf (Elt Ideal) ℓ) (c : Dev nD)

/-- The projection's segments as the host hands them to the kernel. -/
theorem V_v2 (g : Fin 7) (i : Fin 4096) (j : Fin 2048) :
    (V m c main_v2 : FVec Ideal S7x4096x2048 .bf16) (ix3 g i j)
      = (m ((c : Thread nD τ).loc main_arg2) : FVec Ideal S1x4096x14336 .f32) (ix3 0 i (seg g j)) := by
  unfold V V0
  simp only [hostOps0, hostOps0_1, hostOps0_2, List.flatten_cons, List.flatten_nil, List.append_nil, List.cons_append, List.nil_append]
  after_results
  pointwise
  exact congrArg (fun q => m ((c : Thread nD τ).loc main_arg2) (ix3 0 i q)) (Fin.ext (by show g.val * 2048 + j.val = 2048 * g.val + j.val; omega))

/-- The weights, one row of zeros below. -/
theorem V_v3 (k : Fin 31) (j : Fin 2048) :
    (V m c main_v3 : FVec Ideal S32x2048 .f32) (ix2 ⟨k.val, by omega⟩ j)
      = (m ((c : Thread nD τ).loc main_arg3) : FVec Ideal S31x2048 .f32) (ix2 k j) := by
  unfold V V0
  simp only [hostOps0, hostOps0_1, hostOps0_2, List.flatten_cons, List.flatten_nil, List.append_nil, List.cons_append, List.nil_append]
  after_results
  simp only [StableHlo.TRef.ofBuf, StableHlo.TRef.toBuf, cast_eq, id]
  exact pad_apply_of_inside _ _ _ _ _ _ _ _ (ix2 k j) fun a => match a with
    | ⟨0, _⟩ => by show k.val = 0 + k.val * (0 + 1); omega
    | ⟨1, _⟩ => by show j.val = 0 + j.val * (0 + 1); omega

/-- The cotangents of column `C`. -/
def dy (C : Fin 2048) (t : Fin 4096) : EReal := (m ((c : Thread nD τ).loc main_arg1) : FVec Ideal S4096x2048 .f32) (ix2 t C)

/-- The weights of column `C`. -/
def wt (C : Fin 2048) (k : Fin 31) : EReal := (m ((c : Thread nD τ).loc main_arg3) : FVec Ideal S31x2048 .f32) (ix2 k C)

/-- The array the first result is written over. -/
theorem V_v4 : V m c main_v4_0 = m ((c : Thread nD τ).loc main_arg0) := by
  unfold V V0
  simp only [hostOps0, hostOps0_1, hostOps0_2, List.flatten_cons, List.flatten_nil, List.append_nil, List.cons_append, List.nil_append]
  after_results
  rfl

theorem idx : ∀ t : Fin cfg0.N, win0_0.index t = ![t.val % 8, t.val / 8] ∧ win0_1.index t = ![min (16 * (t.val % 8) + 16) 127, t.val / 8]
    ∧ win0_2.index t = ![4, t.val % 8, t.val / 8] ∧ win0_3.index t = ![5, t.val % 8, t.val / 8]
    ∧ win0_4.index t = ![4, 16 * (t.val % 8) - 1, t.val / 8] ∧ win0_5.index t = ![5, 16 * (t.val % 8) - 1, t.val / 8]
    ∧ win0_6.index t = ![0, t.val / 8] ∧ win0_7.index t = ![2, t.val % 8, t.val / 8] ∧ win0_8.index t = ![0, t.val / 8]
    ∧ (grid0.coords t 1).val = t.val % 8 :=
  (by decide +kernel : ∀ t : Fin grid0.N, _)

/-- Grid point `t` works on row block `i` of column block `j`. -/
structure At (t : Fin cfg0.N) (j i : Fin 8) : Prop where
  eq : t.val = 8 * j.val + i.val

variable {t : Fin cfg0.N} {j i : Fin 8}

theorem At.idx (e : At t j i) : win0_0.index t = ![i.val, j.val] ∧ win0_1.index t = ![min (16 * i.val + 16) 127, j.val]
    ∧ win0_2.index t = ![4, i.val, j.val] ∧ win0_3.index t = ![5, i.val, j.val]
    ∧ win0_4.index t = ![4, 16 * i.val - 1, j.val] ∧ win0_5.index t = ![5, 16 * i.val - 1, j.val]
    ∧ win0_6.index t = ![0, j.val] ∧ win0_7.index t = ![2, i.val, j.val] ∧ win0_8.index t = ![0, j.val]
    ∧ (grid0.coords t 1).val = i.val := by
  have h := Val.idx t
  rwa [show t.val % 8 = i.val by have := e.eq; omega, show t.val / 8 = j.val by have := e.eq; omega] at h

/-- Row `r` of block `i`, column `q` of block `j`. -/
def row (i : Fin 8) (r : Fin 512) : Fin 4096 := ⟨512 * i.val + r.val, by omega⟩
def col (j : Fin 8) (q : Fin 256) : Fin 2048 := ⟨256 * j.val + q.val, by omega⟩

theorem blk0 (e : At t j i) (r : Fin 512) (q : Fin 256) : (iblk m c 0 t : FVec Ideal S512x256 .f32) (ix2 r q)
    = dy m c (col j q) (row i r) := by
  unfold iblk
  blk_point [V, e.idx, row, col, dy]

theorem blk1 (e : At t j i) (hi : i.val < 7) (r : Fin 32) (q : Fin 256) : (iblk m c 1 t : FVec Ideal S32x256 .f32) (ix2 r q)
    = dy m c (col j q) ⟨512 * i.val + 512 + r.val, by omega⟩ := by
  unfold iblk
  blk_point [V, e.idx, col, dy]

theorem blk2 (e : At t j i) (r : Fin 512) (q : Fin 256) : (iblk m c 2 t : FVec Ideal S1x512x256 .bf16) (ix3 0 r q)
    = va (m ((c : Thread nD τ).loc main_arg2)) (col j q) (row i r) := by
  refine Eq.trans ?_ (V_v2 m c 4 (row i r) (col j q))
  unfold iblk
  blk_point [e.idx, row, col]

theorem blk3 (e : At t j i) (r : Fin 512) (q : Fin 256) : sg ((iblk m c 3 t : FVec Ideal S1x512x256 .bf16) (ix3 0 r q))
    = gs (m ((c : Thread nD τ).loc main_arg2)) (col j q) (row i r) := by
  refine congrArg sg (Eq.trans ?_ (V_v2 m c 5 (row i r) (col j q)))
  unfold iblk
  blk_point [e.idx, row, col]

theorem blk4 (e : At t j i) (hi : 0 < i.val) (r : Fin 32) (q : Fin 256) : (iblk m c 4 t : FVec Ideal S1x32x256 .bf16) (ix3 0 r q)
    = va (m ((c : Thread nD τ).loc main_arg2)) (col j q) ⟨512 * i.val + r.val - 32, by omega⟩ := by
  refine Eq.trans ?_ (V_v2 m c 4 ⟨512 * i.val + r.val - 32, by omega⟩ (col j q))
  unfold iblk
  blk_point [e.idx, col]

theorem blk5 (e : At t j i) (hi : 0 < i.val) (r : Fin 32) (q : Fin 256) : sg ((iblk m c 5 t : FVec Ideal S1x32x256 .bf16) (ix3 0 r q))
    = gs (m ((c : Thread nD τ).loc main_arg2)) (col j q) ⟨512 * i.val + r.val - 32, by omega⟩ := by
  refine congrArg sg (Eq.trans ?_ (V_v2 m c 5 ⟨512 * i.val + r.val - 32, by omega⟩ (col j q)))
  unfold iblk
  blk_point [e.idx, col]

theorem blk6 (e : At t j i) (k : Fin 31) (q : Fin 256) : (iblk m c 6 t : FVec Ideal S32x256 .f32) (ix2 ⟨k.val, by omega⟩ q)
    = wt m c (col j q) k := by
  refine Eq.trans ?_ (V_v3 m c k (col j q))
  unfold iblk
  blk_point [e.idx, col]

/-- The cotangent a row of the buffer of 544 holds. -/
theorem D_apply (e : At t j i) (n : Fin 544) (q : Fin 256) : D m c t (ix2 n q)
    = if h : 512 * i.val + n.val < 4096 then dy m c (col j q) ⟨512 * i.val + n.val, h⟩ else 0 := by
  unfold D
  by_cases hn : n.val < 512
  · rw [cts_low _ _ _ _ _ hn, dif_pos (by omega)]
    exact blk0 m c e ⟨n.val, hn⟩ q
  · have hc := e.idx.2.2.2.2.2.2.2.2.2
    rw [cts_high _ _ _ ⟨n.val - 512, by omega⟩ q n (by dsimp only; omega), hc]
    by_cases hi : i.val < 7
    · rw [if_pos hi, dif_pos (by omega)]
      refine (blk1 m c e hi _ q).trans ?_
      congr 2
      dsimp only; omega
    · rw [if_neg hi, dif_neg (by omega)]

/-- The gated row a row of the buffer of 544 holds. -/
theorem U_apply (e : At t j i) (n : Fin 544) (q : Fin 256) : U m c t (ix2 n q)
    = if h : 32 ≤ 512 * i.val + n.val then va (m ((c : Thread nD τ).loc main_arg2)) (col j q) ⟨512 * i.val + n.val - 32, by omega⟩
        * gs (m ((c : Thread nD τ).loc main_arg2)) (col j q) ⟨512 * i.val + n.val - 32, by omega⟩ else 0 := by
  unfold U
  by_cases hn : n.val < 32
  · have hc := e.idx.2.2.2.2.2.2.2.2.2
    rw [gated_low _ _ _ _ _ n q ⟨n.val, hn⟩ rfl, hc]
    by_cases hi : 0 < i.val
    · rw [if_pos hi, dif_pos (by omega), blk4 m c e hi, blk5 m c e hi]
    · rw [if_neg hi, dif_neg (by omega)]
  · rw [gated_high _ _ _ _ _ n q ⟨n.val - 32, by omega⟩ (by dsimp only; omega), dif_pos (by omega), blk2 m c e, blk3 m c e]
    have : row i ⟨n.val - 32, by omega⟩ = ⟨512 * i.val + n.val - 32, by omega⟩ := Fin.ext (by simp only [row]; omega)
    rw [this]

end Cert.ConvBwdIdeal.Val

end
-- ==== Proof.ConvFinal.lean ====
module

public import proofs.«01_k».proof.Proof.ConvVals

@[expose] public section

set_option maxRecDepth 16384

noncomputable section

/-! What the results of the convolution's gradient kernel hold after its run. -/

namespace Cert.ConvBwdIdeal.Val

open Cert.ConvBwdIdeal Cert.ConvBwdIdeal.Gen Idealize.ShloMosaic Idealize.ShloMosaic.TcCoe Idealize.SL.Sem
open Cert.ConvMath
open Cert.ConvRead (seg va gs up da dg)

variable (m : (ℓ : Loc nD τ sig) → Buf (Elt Ideal) ℓ) (c : Dev nD) {t : Fin cfg0.N} {j i : Fin 8}

/-- The taps' sum at a row of a block is the gradient of the gated row. -/
theorem taps_at (e : At t j i) (n : Fin 512) (q : Fin 256) :
    (∑ k : Fin 31, (D m c t (ix2 ⟨n.val + 30 - k.val, by omega⟩ q) * (iblk m c 6 t : Vec Ideal S32x256 .f32) (ix2 ⟨k.val, by omega⟩ q) : EReal))
      = up (m ((c : Thread nD τ).loc main_arg1)) (m ((c : Thread nD τ).loc main_arg3)) (col j q) (row i n) := by
  unfold up acc
  refine Finset.sum_congr rfl fun k _ => ?_
  rw [D_apply m c e, blk6 m c e k q]
  by_cases h : (row i n).val + 30 - k.val < 4096
  · rw [dif_pos h, dif_pos (by simp only [row] at h; dsimp only; omega)]
    refine congrArg (· * _) (congrArg (dy m c (col j q)) (Fin.ext ?_))
    simp only [row]; omega
  · rw [dif_neg h, dif_neg (by simp only [row] at h; dsimp only; omega), zero_mul]

/-- The gradients of the values and of the gate a grid point leaves. -/
theorem out_at (e : At t j i) (s : Fin 2) (n : Fin 512) (q : Fin 256) : (outsAt0 m c t.val t.isLt).1 (ix3 s n q)
    = if s.val = 0 then da (m ((c : Thread nD τ).loc main_arg1)) (m ((c : Thread nD τ).loc main_arg2)) (m ((c : Thread nD τ).loc main_arg3)) (col j q) (row i n)
      else dg (m ((c : Thread nD τ).loc main_arg1)) (m ((c : Thread nD τ).loc main_arg2)) (m ((c : Thread nD τ).loc main_arg3)) (col j q) (row i n) := by
  rw [at_out, stores_apply]
  unfold outBlk
  rw [taps_at m c e, blk2 m c e, blk3 m c e]
  rfl

/-- The kernel's first result: the gradients of the values and of the gate in their segments, the rest as it came. -/
theorem final7 : (dats m 0 c).arrAt 7 cfg0.N = ConvRead.out (m ((c : Thread nD τ).loc main_arg0)) (m ((c : Thread nD τ).loc main_arg1))
    (m ((c : Thread nD τ).loc main_arg2)) (m ((c : Thread nD τ).loc main_arg3)) := by
  refine (dats m 0 c).arrAt_eq_of_coversWhere_of_agree 7 _ (fun β => β (0 : Fin 3) = 2) (by decide +kernel)
    (fun t hf y => ?_) (fun j hj => ?_)
  · blk_simp
    rw [after0_7]
    have hN : t.val < 64 := t.isLt.trans_eq N_0
    have e : At t ⟨t.val / 8, by omega⟩ ⟨t.val % 8, by omega⟩ := ⟨by dsimp only; omega⟩
    obtain ⟨g, r, d, hY⟩ : ∃ (g : Fin 2) (r : Fin 512) (d : Fin 256), (cfg0.win 7).xinj (cfg0.grid.coords t) y = ix3 g r d :=
      ⟨⟨(y 0).val, ((cfg0.win 7).xinj (cfg0.grid.coords t) y 0).isLt⟩, ⟨(y 1).val, ((cfg0.win 7).xinj (cfg0.grid.coords t) y 1).isLt⟩,
        ⟨(y 2).val, ((cfg0.win 7).xinj (cfg0.grid.coords t) y 2).isLt⟩, by
          funext a; match a with | ⟨0, _⟩ => rfl | ⟨1, _⟩ => rfl | ⟨2, _⟩ => rfl⟩
    have hv (a : Fin 3) : (y a : ℕ) = ((ix3 g r d : S2x512x256.Idx) a : ℕ) := by rw [← hY]
    have he : (win0_7.blk t).view.emb y = ix3 (⟨4 + g.val, by omega⟩ : Fin 7)
        (row ⟨t.val % 8, by omega⟩ r) (col ⟨t.val / 8, by omega⟩ d) := by
      funext a
      refine Fin.ext ((Pipeline.Window.rect_emb_val win0_7 t y a).trans ?_)
      rw [(idx t).2.2.2.2.2.2.2.1, hv a]
      match a with
      | ⟨0, _⟩ => show 2 * 2 + g.val = 4 + g.val; omega
      | ⟨1, _⟩ => show t.val % 8 * 512 + r.val = 512 * (t.val % 8) + r.val; omega
      | ⟨2, _⟩ => show t.val / 8 * 256 + d.val = 256 * (t.val / 8) + d.val; omega
    rw [he, hY, out_at m c e, ConvRead.out_apply]
    rcases (by omega : g.val = 0 ∨ g.val = 1) with h | h
    · rw [if_pos h, if_pos (by dsimp only; omega)]
    · rw [if_neg (by omega), if_neg (by dsimp only; omega), if_pos (by dsimp only; omega)]
  · have hj' : ¬(j (0 : Fin 3)).val / 2 = 2 := hj
    blk_simp
    rw [A_eq]
    refine (congrFun (V_v4 m c) _).trans ?_
    have hx : j = ix3 (⟨(j 0).val, (j 0).isLt⟩ : Fin 7) (⟨(j 1).val, (j 1).isLt⟩ : Fin 4096) (⟨(j 2).val, (j 2).isLt⟩ : Fin 2048) :=
      eq3 j _ _ _ rfl rfl rfl
    rw [hx, ConvRead.out_apply, if_neg (by dsimp only; omega), if_neg (by dsimp only; omega)]

/-- A grid point's part of the weights' gradient. -/
theorem part_at (e : At t j i) (k : Fin 31) (q : Fin 256) : parts (F := Ideal) (D m c t) (U m c t) (ix2 ⟨k.val, by omega⟩ q)
    = ∑ n : Fin 512, dy m c (col j q) (row i n) * win (fun t => va (m ((c : Thread nD τ).loc main_arg2)) (col j q) t
        * gs (m ((c : Thread nD τ).loc main_arg2)) (col j q) t) (row i n) k := by
  rw [parts_apply _ _ _ k.isLt]
  refine Finset.sum_congr rfl fun n _ => ?_
  rw [D_apply m c e, U_apply m c e, dif_pos (by dsimp only; omega)]
  refine congrArg₂ (· * ·) rfl ?_
  unfold win
  by_cases h : 30 ≤ (row i n).val + k.val
  · rw [if_pos h, dif_pos (by simp only [row] at h; dsimp only; omega)]
    have : ∀ (a b : ℕ) (ha : a < 4096) (hb : b < 4096), a = b → (va (m ((c : Thread nD τ).loc main_arg2)) (col j q) ⟨a, ha⟩
        * gs (m ((c : Thread nD τ).loc main_arg2)) (col j q) ⟨a, ha⟩) = va (m ((c : Thread nD τ).loc main_arg2)) (col j q) ⟨b, hb⟩
        * gs (m ((c : Thread nD τ).loc main_arg2)) (col j q) ⟨b, hb⟩ := fun a b ha hb e => by subst e; rfl
    exact this _ _ _ _ (by simp only [row]; omega)
  · rw [if_neg h, dif_neg (by simp only [row] at h; dsimp only; omega)]

/-- The gradient of the weight `k` of column `C`. -/
def gw (k : Fin 31) (C : Fin 2048) : EReal := dw (dy m c C) (fun t => va (m ((c : Thread nD τ).loc main_arg2)) C t
  * gs (m ((c : Thread nD τ).loc main_arg2)) C t) k

/-- The weights' gradient when a column block's last grid point is done. -/
theorem sum_at (t : Fin cfg0.N) (hr : t.val % 8 = 7) (k : Fin 31) (q : Fin 256) :
    (outsAt0 m c t.val t.isLt).2 (ix2 ⟨k.val, by omega⟩ q) = gw m c k (col ⟨t.val / 8, by have := t.isLt.trans_eq N_0; omega⟩ q) := by
  have hN : t.val < 64 := t.isLt.trans_eq N_0
  rw [Pipeline.eq_sum_fin_of_reset_step_apply_of_flush (fun n h => (outsAt0 m c n h).2) 8 (fun _ => 0)
    (fun t => parts (F := Ideal) (D m c t) (U m c t))
    (fun t h j => by rw [at_first m c t h, zero_add])
    (fun t h j => by rw [at_next m c t h]; pointwise [k0_pay201])
    t hr, zero_add]
  unfold gw dw
  refine Eq.trans ?_ (Fin.sum_mul_add_fin (L := 4096) 8 512 fun a : Fin 4096 => dy m c (col ⟨t.val / 8, by omega⟩ q) a
    * win (fun t' => va (m ((c : Thread nD τ).loc main_arg2)) (col ⟨t.val / 8, by omega⟩ q) t'
        * gs (m ((c : Thread nD τ).loc main_arg2)) (col ⟨t.val / 8, by omega⟩ q) t') a k)
  refine Finset.sum_congr rfl fun s _ => ?_
  refine (part_at m c (j := ⟨t.val / 8, by omega⟩) (i := s) ⟨rfl⟩ k q).trans (Finset.sum_congr rfl fun n _ => ?_)
  have : row s n = ⟨s.val * 512 + n.val, by omega⟩ := Fin.ext (by simp only [row]; omega)
  rw [this]

/-- The kernel's second result, row by row. -/
theorem final8 (k : Fin 31) (C : Fin 2048) : ((dats m 0 c).arrAt 8 cfg0.N : FVec Ideal S32x2048 .f32) (ix2 ⟨k.val, by omega⟩ C) = gw m c k C := by
  have key : ∀ (i : S32x2048.Idx) (k : Fin 31) (C : Fin 2048), i = ix2 ⟨k.val, by omega⟩ C →
      ((dats m 0 c).arrAt 8 cfg0.N : FVec Ideal S32x2048 .f32) i = gw m c k C := fun i =>
    (dats m 0 c).arrAt_forall_of_covers 8 (fun i v => ∀ (k : Fin 31) (C : Fin 2048), (i : S32x2048.Idx) = ix2 ⟨k.val, by omega⟩ C → v = gw m c k C)
      (by decide +kernel) (fun t hf y => by
        intro k C hi
        have hr := (flush0_8 t).mp hf
        blk_simp
        rw [after0_8]
        have hN : t.val < 64 := t.isLt.trans_eq N_0
        have hv (a : Fin 2) : ((ix2 ⟨k.val, by omega⟩ C : S32x2048.Idx) a : ℕ) = win0_8.index t a * S32x256.size a + (y a : ℕ) := by
          rw [← hi]; exact Pipeline.Window.rect_emb_val win0_8 t y a
        rw [(idx t).2.2.2.2.2.2.2.2.1] at hv
        have h0 : k.val = 0 * 32 + (y 0).val := hv 0
        have h1 : C.val = t.val / 8 * 256 + (y 1).val := hv 1
        have hq : (y 1).val < 256 := ((cfg0.win 8).xinj (cfg0.grid.coords t) y 1).isLt
        have hY : (cfg0.win 8).xinj (cfg0.grid.coords t) y = ix2 (⟨k.val, by omega⟩ : Fin 32) (⟨(y 1).val, hq⟩ : Fin 256) :=
          eq2 _ _ _ (by show (y 0).val = k.val; omega) rfl
        have hC : C = col ⟨t.val / 8, by omega⟩ ⟨(y 1).val, hq⟩ := Fin.ext (by simp only [col]; omega)
        exact (congrArg (outsAt0 m c t.val t.isLt).2 hY).trans ((sum_at m c t hr k _).trans (by rw [hC]))) i
  exact key _ k C rfl

end Cert.ConvBwdIdeal.Val

end
-- ==== Proof.Conv.lean ====
module

public import proofs.«01_k».proof.Defs
public import proofs.«01_k».proof.Proof.ConvFinal
public import proofs.«01_k».proof.Proof.Attn
public import proofs.«01_k».proof.Proof.Gen.ConvBwd.Frame
public import proofs.«01_k».proof.Proof.Gen.ConvRefIdeal.Run
public import Idealize.ShloMosaic.Adequacy
public import Idealize.ShloMosaic.Lib.Quiescent
public import Idealize.ShloMosaic.Init

@[expose] public section

set_option maxRecDepth 16384

noncomputable section

/-! The claims about the gradient of the gated convolution, assembled. -/

namespace Cert.ConvBwdIdeal.Val

open Cert.ConvBwdIdeal Cert.ConvBwdIdeal.Gen Idealize.ShloMosaic Idealize.ShloMosaic.TcCoe Idealize.SL.Sem

variable (m : (ℓ : Loc nD τ sig) → Buf (Elt Ideal) ℓ) (c : Dev nD)

/-- What the host's cut of the second result leaves. -/
theorem final5 (k : Fin 31) (C : Fin 2048) : (Pipeline.afterTail₀ cfgs (dats m) 0 (V0 m) [hostOps1] c main_v5 : FVec Ideal S31x2048 .f32) (ix2 k C)
    = gw m c k C := by
  have h1 : Pipeline.withArrays (cfgs 0).spec c (V0 m c) (fun w => (dats m 0 c).arrAt w (cfgs 0).N) (Proc.devRef .tc main_v4_1)
      = (dats m 0 c).arrAt 8 cfg0.N := (dats m 0 c).withArrays_arrAt sharedIn0 (V0 m c) (A_eq m c) 8
  unfold Pipeline.afterTail₀
  simp only [hostOps1, List.flatten_cons, List.flatten_nil, List.append_nil, List.cons_append, List.nil_append]
  after_results
  rw [h1]
  refine Eq.trans ?_ (final8 m c k C)
  pointwise

end Cert.ConvBwdIdeal.Val

namespace Cert.Conv

open Idealize.ShloMosaic Idealize.SL.Sem

/-- Over the reals kernel and reference return the same two arrays. -/
theorem algebraic : Cert.algebraic_ConvBwdIdeal_ConvRefIdeal := by
  intro m g m' g' _ ha
  refine ⟨fun c => Cert.ConvRefIdeal.Value.res_main_v52 m' c, fun c => Cert.ConvRefIdeal.Read.val_main_v37 (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)), ?_, Cert.ConvRefIdeal.Value.run m' g'⟩
  refine (θ_run _ _ _).mono (fun r h c => ?_) (Cert.Attn.both (Cert.ConvBwdIdeal.Gen.run_main m g) (Cert.ConvBwdIdeal.Gen.unchanged m g))
  obtain ⟨hf, hr⟩ := h
  obtain ⟨a0, a1, a2, a3⟩ := ha c
  refine ⟨?_, ?_, hr c⟩
  · beta_reduce
    rw [Cert.ConvRefIdeal.Read.val_main_v52_eq, a0, a1, a2, a3, Cert.ConvRead.read_out]
    exact ((hf c).1 7).trans (Cert.ConvBwdIdeal.Val.final7 m c)
  · beta_reduce
    rw [a1, a2]
    refine ((hf c).2 Cert.ConvBwdIdeal.main_v5 (by decide)).trans (funext fun (i : Cert.ConvBwdIdeal.S31x2048.Idx) => ?_)
    have hi : i = ix2 (⟨(i 0).val, (i 0).isLt⟩ : Fin 31) (⟨(i 1).val, (i 1).isLt⟩ : Fin 2048) := funext fun a => Fin.ext (match a with | ⟨0, _⟩ => rfl | ⟨1, _⟩ => rfl)
    rw [hi]
    exact (Cert.ConvBwdIdeal.Val.final5 m c _ _).trans (Cert.ConvRead.read_dw _ _ _ _).symm

/-- The reference runs, leaves its arguments alone, and has no semaphore to leave raised. -/
theorem frame_ref : Cert.quiescent_ConvRefIdeal := fun m g _ =>
  (θ_run _ _ _).mono (fun r h => ⟨fun c => (h c).2.2, sem_eq_zero_of_no_sems (by decide) r.2⟩) (Cert.ConvRefIdeal.Value.run m g)

/-- The kernel runs and leaves its arguments alone, in machine arithmetic. -/
theorem frame : Cert.quiescent_ConvBwd := fun m g _ => Cert.ConvBwd.Gen.frame m g

/-- The kernel runs and leaves its arguments alone, over the reals. -/
theorem frame_ideal : Cert.quiescent_ConvBwdIdeal := fun m g _ => Cert.ConvBwdIdeal.Gen.frame m g

end Cert.Conv

end
-- ==== Proof.LnMath.lean ====
module

public import proofs.«01_k».proof.Proof.Lift
public import proofs.«01_k».proof.Proof.RmsMath

@[expose] public section

noncomputable section

/-! The gradient through `silu(layer_norm(u))`, one row at a time: the closed form, the chain rule's form, and their
    agreement on rows of real numbers. -/

namespace Cert.LnMath

open Idealize.ShloMosaic Cert.Lift

/-- The row's length. -/
abbrev len : EReal := Ideal.ofBits .f32 0x45000000#32

/-- The sigmoid. -/
def sg (x : EReal) : EReal := Ideal.div 1 (1 + Ideal.exp (-x))

/-- The derivative of `x · sigmoid x`, in closed form and by the product rule, times a cotangent. -/
def dsilu (d x : EReal) : EReal := d * (sg x * (1 + x * (1 - sg x)))
def rdsilu (d x : EReal) : EReal := d * sg x + x * d * (sg x * (1 - sg x))

variable (u d g b : Fin 2048 → EReal)

/-- The row's mean, the centred row, its variance plus epsilon, the reciprocal root, the normalised row, and the row
    that enters the silu. -/
def mu : EReal := Ideal.div (∑ k, u k) len
def xc (k : Fin 2048) : EReal := u k - mu u
def va : EReal := Ideal.div (∑ k, xc u k * xc u k) len + Ideal.ofBits .f32 0x358637BD#32
def rs : EReal := Ideal.rsqrt (va u)
def xh (k : Fin 2048) : EReal := xc u k * rs u
def aff (k : Fin 2048) : EReal := xh u k * g k + b k

/-- The cotangent `d` of the normalised row carried back to the row: closed form. -/
def back (k : Fin 2048) : EReal := rs u * (d k - Ideal.div (∑ k, d k) len - xh u k * Ideal.div (∑ k, d k * xh u k) len)

/-- The same by the chain rule, through the variance and then through the mean. -/
def rw_ : EReal := Ideal.div ((∑ k, xc u k * d k) * (Ideal.ofBits .f32 0xBF000000#32 * Ideal.div (rs u) (va u))) len
def rxc (k : Fin 2048) : EReal := d k * rs u + xc u k * rw_ u d + rw_ u d * xc u k
def rback (k : Fin 2048) : EReal := rxc u d k + Ideal.div (∑ k, -rxc u d k) len

theorem exp_pos (x : ℝ) : (1 + Real.exp (-x)) ≠ 0 := (add_pos one_pos (Real.exp_pos _)).ne'

theorem one_coe : (1 : EReal) = ((1 : ℝ) : EReal) := rfl

/-- The sigmoid of a real. -/
theorem sg_coe (x : ℝ) : sg (x : EReal) = ((1 / (1 + Real.exp (-x)) : ℝ) : EReal) := by
  unfold sg
  rw [neg, Ideal.exp_coe, one_coe, add, div _ (exp_pos x)]

/-- The two forms of the silu's derivative agree on reals, and are a real. -/
theorem dsilu_coe (d x : ℝ) : ∃ y : ℝ, dsilu (d : EReal) (x : EReal) = (y : EReal) ∧ rdsilu (d : EReal) (x : EReal) = (y : EReal) := by
  refine ⟨d * (1 / (1 + Real.exp (-x)) * (1 + x * (1 - 1 / (1 + Real.exp (-x))))), ?_, ?_⟩
  · simp only [dsilu, sg_coe, one_coe, mul, add, sub]
  · simp only [rdsilu, sg_coe, one_coe, mul, add, sub]
    rw [EReal.coe_eq_coe_iff]
    ring

/-- A row less its mean sums to zero. -/
theorem centred (u : Fin 2048 → ℝ) : ∑ k, (u k - (∑ k, u k) / 2048) = 0 := by
  rw [Finset.sum_sub_distrib, Finset.sum_const, Finset.card_univ, Fintype.card_fin, nsmul_eq_mul]
  push_cast
  ring

/-- Over the reals: the mean of the chain rule's first part is minus the mean of the scaled cotangents, for a centred row. -/
theorem mean_back (x d : Fin 2048 → ℝ) (hx : ∑ k, x k = 0) (r W : ℝ) : ∑ k, -(d k * r + x k * W + W * x k) = -(r * ∑ k, d k) := by
  rw [Finset.sum_neg_distrib, Finset.sum_add_distrib, Finset.sum_add_distrib, ← Finset.sum_mul, ← Finset.sum_mul, ← Finset.mul_sum, hx]
  ring

theorem xc_coe (u : Fin 2048 → ℝ) (k : Fin 2048) : xc (fun k => (u k : EReal)) k = ((u k - (∑ k, u k) / 2048 : ℝ) : EReal) := by
  unfold xc mu len
  rw [lit_2048, sum, div _ (by norm_num), sub]

/-- The normalised row of a real row is real. -/
theorem xh_coe (u : Fin 2048 → ℝ) (k : Fin 2048) : ∃ y : ℝ, xh (fun k => (u k : EReal)) k = (y : EReal) := by
  have hv := Cert.RmsMath.mean_pos (fun k => u k - (∑ k, u k) / 2048) (n := 2048) (by norm_num)
  unfold xh rs va len
  simp only [xc_coe, lit_2048, lit_eps, mul, sum, div _ (show (2048 : ℝ) ≠ 0 by norm_num), add, rsqrt hv]
  exact ⟨_, rfl⟩

/-- The two forms of the gradient of one row agree on real rows. -/
theorem back_eq (u d : Fin 2048 → ℝ) (k : Fin 2048) :
    rback (fun k => (u k : EReal)) (fun k => (d k : EReal)) k = back (fun k => (u k : EReal)) (fun k => (d k : EReal)) k := by
  have hv := Cert.RmsMath.mean_pos (fun k => u k - (∑ k, u k) / 2048) (n := 2048) (by norm_num)
  unfold rback rxc rw_ back xh rs va len
  simp only [xc_coe, lit_2048, lit_eps, lit_neg_half, mul, sum, div _ (show (2048 : ℝ) ≠ 0 by norm_num), add, rsqrt hv, div _ hv.ne', sub, neg]
  rw [EReal.coe_eq_coe_iff, mean_back _ d (centred u), Cert.RmsMath.row (by norm_num) hv.ne' (Cert.RmsMath.sqrt_inv_sq hv)]
  have hS (r : ℝ) : ∑ k, d k * ((u k - (∑ k, u k) / 2048) * r) = (∑ k, (u k - (∑ k, u k) / 2048) * d k) * r := by
    rw [Finset.sum_mul]; exact Finset.sum_congr rfl fun k _ => by ring
  rw [hS]
  ring

/-- The whole gradient of one row, in both forms: through the silu, the gain and the normalisation. -/
def dx (k : Fin 2048) : EReal := back u (fun k => dsilu (d k) (aff u g b k) * g k) k
def rdx (k : Fin 2048) : EReal := rback u (fun k => rdsilu (d k) (aff u g b k) * g k) k

theorem dsilu_eq (u d g b : Fin 2048 → ℝ) (k : Fin 2048) : ∃ y : ℝ,
    dsilu (d k : EReal) (aff (fun k => (u k : EReal)) (fun k => (g k : EReal)) (fun k => (b k : EReal)) k) = (y : EReal)
    ∧ rdsilu (d k : EReal) (aff (fun k => (u k : EReal)) (fun k => (g k : EReal)) (fun k => (b k : EReal)) k) = (y : EReal) := by
  obtain ⟨x, hx⟩ := xh_coe u k
  unfold aff
  rw [hx, mul, add]
  exact dsilu_coe _ _

/-- On real rows the two forms agree. -/
theorem dx_eq (u d g b : Fin 2048 → ℝ) (k : Fin 2048) :
    rdx (fun k => (u k : EReal)) (fun k => (d k : EReal)) (fun k => (g k : EReal)) (fun k => (b k : EReal)) k
      = dx (fun k => (u k : EReal)) (fun k => (d k : EReal)) (fun k => (g k : EReal)) (fun k => (b k : EReal)) k := by
  unfold rdx dx
  choose y h1 h2 using dsilu_eq u d g b
  simp only [h1, h2, mul]
  exact back_eq u (fun k => y k * g k) k

end Cert.LnMath

end
-- ==== Proof.LnKernel.lean ====
module

public import Idealize.ShloMosaic.Lib.Pipeline.ValueKit
public import Idealize.ShloMosaic.Lib.Pointwise
public import Idealize.ShloMosaic.Lib.Claim
public import proofs.«01_k».proof.Proof.Gen.LnBwdIdeal.Value
public import proofs.«01_k».proof.Proof.LnMath

@[expose] public section

set_option maxRecDepth 16384

noncomputable section

/-! What the four results of the layer-norm gradient hold after the kernel's run. -/

namespace Cert.LnBwdIdeal.Val

open Cert.LnBwdIdeal Cert.LnBwdIdeal.Gen Idealize.ShloMosaic Idealize.ShloMosaic.TcCoe Idealize.SL.Sem
open Cert.LnMath

section
variable (x0 x1 : FVec Ideal S4096x2048 .f32) (x2 x3 x4 : FVec Ideal S1x2048 .f32)

/-- Row `a` of the biased convolution, of the cotangent, and the gain and shift. -/
def U (a : Fin 4096) (k : Fin 2048) : EReal := x1 (ix2 a k) + x2 (ix2 0 k)
def C (a : Fin 4096) (k : Fin 2048) : EReal := x0 (ix2 a k)
def G (k : Fin 2048) : EReal := x3 (ix2 0 k)
def B (k : Fin 2048) : EReal := x4 (ix2 0 k)

/-- The silu's share of row `a`'s gradient. -/
def ds (a : Fin 4096) (k : Fin 2048) : EReal := dsilu (C x0 a k) (aff (U x1 x2 a) (G x3) (B x4) k)

/-- The four results. -/
def du : FVec Ideal S4096x2048 .f32 := fun i => dx (U x1 x2 (i 0)) (C x0 (i 0)) (G x3) (B x4) (i 1)
def dg : FVec Ideal S1x2048 .f32 := fun i => ∑ a : Fin 4096, ds x0 x1 x2 x3 x4 a (i 1) * xh (U x1 x2 a) (i 1)
def db : FVec Ideal S1x2048 .f32 := fun i => ∑ a : Fin 4096, ds x0 x1 x2 x3 x4 a (i 1)
def cs : FVec Ideal S1x2048 .f32 := fun i => ∑ a : Fin 4096, dx (U x1 x2 a) (C x0 a) (G x3) (B x4) (i 1)
end

section
variable (x d : FVec Ideal S256x2048 .f32) (g b : FVec Ideal S1x2048 .f32) (r : Fin 256) (k : Fin 2048)

/-- What the body computes of row `r` of its block. -/
theorem pay10 : k0_pay10 (F := Ideal) x (ix2 r k) = xh (fun k => x (ix2 r k)) k := by
  pointwise [k0_pay10, k0_pay9, k0_pay8, xh, rs, va, xc, mu]

theorem pay11 : k0_pay11 (F := Ideal) x g b d (ix2 r k)
    = dsilu (d (ix2 r k)) (aff (fun k => x (ix2 r k)) (fun k => g (ix2 0 k)) (fun k => b (ix2 0 k)) k) := by
  pointwise [k0_pay11, k0_pay10, k0_pay9, k0_pay8, dsilu, sg, aff, xh, rs, va, xc, mu, zero_sub]

theorem pay1 (e : FVec Ideal S256x2048 .f32) : k0_pay1 (F := Ideal) (k0_pay9 x) (k0_pay10 x) e (ix2 r k)
    = back (fun k => x (ix2 r k)) (fun k => e (ix2 r k)) k := by
  pointwise [k0_pay1, k0_pay10, k0_pay9, k0_pay8, back, xh, rs, va, xc, mu]

theorem pay12 : k0_pay12 (F := Ideal) x g b d (ix2 r k) = k0_pay11 (F := Ideal) x g b d (ix2 r k) * g (ix2 0 k) := by
  pointwise [k0_pay12]

theorem pay1' : k0_pay1 (F := Ideal) (k0_pay9 x) (k0_pay10 x) (k0_pay12 x g b d) (ix2 r k)
    = dx (fun k => x (ix2 r k)) (fun k => d (ix2 r k)) (fun k => g (ix2 0 k)) (fun k => b (ix2 0 k)) k := by
  rw [pay1]
  unfold dx
  congr 1
  funext k
  rw [pay12, pay11]

/-- A block's shares of the three column sums. -/
theorem pay2 (e : FVec Ideal S256x2048 .f32) : k0_pay2 (F := Ideal) (k0_pay10 x) e (ix2 0 k)
    = ∑ r : Fin 256, e (ix2 r k) * xh (fun k => x (ix2 r k)) k := by
  simp only [← pay10]
  pointwise [k0_pay2]

theorem pay3 (e : FVec Ideal S256x2048 .f32) : k0_pay3 (F := Ideal) e (ix2 0 k) = ∑ r : Fin 256, e (ix2 r k) := by
  pointwise [k0_pay3]

theorem pay4 (e : FVec Ideal S256x2048 .f32) : k0_pay4 (F := Ideal) (k0_pay9 x) (k0_pay10 x) e (ix2 0 k)
    = ∑ r : Fin 256, k0_pay1 (F := Ideal) (k0_pay9 x) (k0_pay10 x) e (ix2 r k) := by
  pointwise [k0_pay4]
end

variable (m : (ℓ : Loc nD τ sig) → Buf (Elt Ideal) ℓ) (c : Dev nD)

/-- The biased convolution as the host hands it to the kernel. -/
theorem V_v1 (a : Fin 4096) (k : Fin 2048) : (V m c main_v1 : FVec Ideal S4096x2048 .f32) (ix2 a k)
    = U (m ((c : Thread nD τ).loc main_arg1)) (m ((c : Thread nD τ).loc main_arg2)) a k := by
  unfold V
  simp only [hostOps0, List.flatten_cons, List.flatten_nil, List.append_nil, List.cons_append, List.nil_append]
  after_results
  pointwise [U]

/-- Every window's block at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![0, 0] :=
  (by decide +kernel : ∀ t : Fin grid0.N, _)

/-- Row `r` of the block of grid point `t`. -/
def row (t : Fin cfg0.N) (r : Fin 256) : Fin 4096 := ⟨256 * t.val + r.val, by have := t.isLt.trans_eq N_0; omega⟩

theorem blk0 (t : Fin cfg0.N) (r : Fin 256) (k : Fin 2048) : (iblk m c 0 t : FVec Ideal S256x2048 .f32) (ix2 r k)
    = C (m ((c : Thread nD τ).loc main_arg0)) (row t r) k := by
  blk_point [iblk, V, idx t, row, C]

theorem blk1 (t : Fin cfg0.N) (r : Fin 256) (k : Fin 2048) : (iblk m c 1 t : FVec Ideal S256x2048 .f32) (ix2 r k)
    = U (m ((c : Thread nD τ).loc main_arg1)) (m ((c : Thread nD τ).loc main_arg2)) (row t r) k := by
  rw [← V_v1 m c]
  blk_point [iblk, idx t, row]

theorem blk2 (t : Fin cfg0.N) (k : Fin 2048) : (iblk m c 2 t : FVec Ideal S1x2048 .f32) (ix2 0 k)
    = G (m ((c : Thread nD τ).loc main_arg3)) k := by
  blk_point [iblk, V, idx t, G]

theorem blk3 (t : Fin cfg0.N) (k : Fin 2048) : (iblk m c 3 t : FVec Ideal S1x2048 .f32) (ix2 0 k)
    = B (m ((c : Thread nD τ).loc main_arg4)) k := by
  blk_point [iblk, V, idx t, B]

/-- The block of the gradient a grid point leaves. -/
theorem out4 (t : Fin cfg0.N) : (outsAt0 m c t.val t.isLt).1
    = k0_pay1 (F := Ideal) (k0_pay9 (iblk m c 1 t)) (k0_pay10 (iblk m c 1 t)) (k0_pay12 (iblk m c 1 t) (iblk m c 2 t) (iblk m c 3 t) (iblk m c 0 t)) := by
  have hN : t.val < 16 := lt_of_lt_of_eq t.isLt N_0
  by_cases h0 : t.val % 16 = 0
  · rw [outsAt0_A m c t h0 (by omega)]; frame_out
  · rw [outsAt0_B m c t h0 (by omega)]; frame_out

theorem point4 (t : Fin cfg0.N) (r : Fin 256) (k : Fin 2048) : (outsAt0 m c t.val t.isLt).1 (ix2 r k)
    = dx (U (m ((c : Thread nD τ).loc main_arg1)) (m ((c : Thread nD τ).loc main_arg2)) (row t r)) (C (m ((c : Thread nD τ).loc main_arg0)) (row t r))
        (G (m ((c : Thread nD τ).loc main_arg3))) (B (m ((c : Thread nD τ).loc main_arg4))) k := by
  rw [out4, pay1']
  simp only [blk0, blk1, blk2, blk3]

/-- The kernel's first result. -/
theorem final4 : (dats m 0 c).arrAt 4 cfg0.N = du (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]
  obtain ⟨r, k, rfl⟩ : ∃ (r : Fin 256) (k : Fin 2048), (y : S256x2048.Idx) = ix2 r k := ⟨y 0, y 1, by blk_ext []⟩
  refine (point4 m c t r k).trans ?_
  have e : ((cfg0.win 4).blk t).view.emb (ix2 r k : S256x2048.Idx) = (ix2 (row t r) k : S4096x2048.Idx) := by blk_ext [idx t, row]
  rw [e]
  rfl

/-- A sum over grid points and block rows is a sum over all rows. -/
theorem rows (f : Fin 4096 → EReal) : ∑ t : Fin cfg0.N, ∑ r : Fin 256, f (row t r) = ∑ a : Fin 4096, f a :=
  Fin.sum_mul_add_congr (S := 16) (n := 256) fun t a hl => congrArg f (Fin.ext (by simp only [row]; omega))

theorem sum5 (k : Fin 2048) : ∑ t : Fin cfg0.N, k0_pay2 (F := Ideal) (k0_pay10 (iblk m c 1 t)) (k0_pay11 (iblk m c 1 t) (iblk m c 2 t) (iblk m c 3 t) (iblk m c 0 t)) (ix2 0 k)
    = dg (m ((c : Thread nD τ).loc main_arg0)) (m ((c : Thread nD τ).loc main_arg1))
    (m ((c : Thread nD τ).loc main_arg2)) (m ((c : Thread nD τ).loc main_arg3)) (m ((c : Thread nD τ).loc main_arg4)) (ix2 0 k) := by
  refine Eq.trans (Finset.sum_congr rfl fun t _ => ?_) (rows _)
  rw [pay2]
  refine Finset.sum_congr rfl fun r _ => ?_
  rw [pay11]
  simp only [blk0, blk1, blk2, blk3]
  rfl

theorem sum6 (k : Fin 2048) : ∑ t : Fin cfg0.N, k0_pay3 (F := Ideal) (k0_pay11 (iblk m c 1 t) (iblk m c 2 t) (iblk m c 3 t) (iblk m c 0 t)) (ix2 0 k)
    = db (m ((c : Thread nD τ).loc main_arg0)) (m ((c : Thread nD τ).loc main_arg1))
    (m ((c : Thread nD τ).loc main_arg2)) (m ((c : Thread nD τ).loc main_arg3)) (m ((c : Thread nD τ).loc main_arg4)) (ix2 0 k) := by
  refine Eq.trans (Finset.sum_congr rfl fun t _ => ?_) (rows _)
  rw [pay3]
  refine Finset.sum_congr rfl fun r _ => ?_
  rw [pay11]
  simp only [blk0, blk1, blk2, blk3]
  rfl

theorem sum7 (k : Fin 2048) : ∑ t : Fin cfg0.N, k0_pay4 (F := Ideal) (k0_pay9 (iblk m c 1 t)) (k0_pay10 (iblk m c 1 t)) (k0_pay12 (iblk m c 1 t) (iblk m c 2 t) (iblk m c 3 t) (iblk m c 0 t)) (ix2 0 k)
    = cs (m ((c : Thread nD τ).loc main_arg0)) (m ((c : Thread nD τ).loc main_arg1))
    (m ((c : Thread nD τ).loc main_arg2)) (m ((c : Thread nD τ).loc main_arg3)) (m ((c : Thread nD τ).loc main_arg4)) (ix2 0 k) := by
  refine Eq.trans (Finset.sum_congr rfl fun t _ => ?_) (rows _)
  rw [pay4]
  refine Finset.sum_congr rfl fun r _ => ?_
  rw [← out4, point4]
  rfl

/-- The kernel's second result. -/
theorem final5 : (dats m 0 c).arrAt 5 cfg0.N = dg (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have hN : t.val < 16 := lt_of_lt_of_eq t.isLt N_0
  have hl := (flush0_5 t).mp hf
  blk_simp
  obtain ⟨k, rfl⟩ : ∃ k : Fin 2048, (y : S1x2048.Idx) = ix2 0 k := ⟨y 1, by blk_ext []⟩
  rw [after0_5, Pipeline.eq_sum_fin_of_reset_step_apply_last (fun n h => (outsAt0 m c n h).2.1) 16 (fun _ => 0)
    (fun t => k0_pay2 (F := Ideal) (k0_pay10 (iblk m c 1 t)) (k0_pay11 (iblk m c 1 t) (iblk m c 2 t) (iblk m c 3 t) (iblk m c 0 t)))
    (fun t h j => by
      have hN : t.val < 16 := lt_of_lt_of_eq t.isLt N_0
      rw [outsAt0_A m c t h (by omega)]; frame_out; rw [zero_add])
    (fun t h j => by
      rw [outsAt0_B m c t h (by omega)]; frame_out; pointwise [k0_pay5])
    (le_of_eq N_0) t (Eq.trans (by omega : t.val + 1 = 16) N_0.symm) _, zero_add]
  refine (sum5 m c k).trans (congrArg _ ?_)
  blk_ext [idx t]

/-- Its third. -/
theorem final6 : (dats m 0 c).arrAt 6 cfg0.N = db (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  have hN : t.val < 16 := lt_of_lt_of_eq t.isLt N_0
  have hl := (flush0_6 t).mp hf
  blk_simp
  obtain ⟨k, rfl⟩ : ∃ k : Fin 2048, (y : S1x2048.Idx) = ix2 0 k := ⟨y 1, by blk_ext []⟩
  rw [after0_6, Pipeline.eq_sum_fin_of_reset_step_apply_last (fun n h => (outsAt0 m c n h).2.2.1) 16 (fun _ => 0)
    (fun t => k0_pay3 (F := Ideal) (k0_pay11 (iblk m c 1 t) (iblk m c 2 t) (iblk m c 3 t) (iblk m c 0 t)))
    (fun t h j => by
      have hN : t.val < 16 := lt_of_lt_of_eq t.isLt N_0
      rw [outsAt0_A m c t h (by omega)]; frame_out; rw [zero_add])
    (fun t h j => by
      rw [outsAt0_B m c t h (by omega)]; frame_out; pointwise [k0_pay6])
    (le_of_eq N_0) t (Eq.trans (by omega : t.val + 1 = 16) N_0.symm) _, zero_add]
  refine (sum6 m c k).trans (congrArg _ ?_)
  blk_ext [idx t]

/-- Its fourth. -/
theorem final7 : (dats m 0 c).arrAt 7 cfg0.N = cs (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  have hN : t.val < 16 := lt_of_lt_of_eq t.isLt N_0
  have hl := (flush0_7 t).mp hf
  blk_simp
  obtain ⟨k, rfl⟩ : ∃ k : Fin 2048, (y : S1x2048.Idx) = ix2 0 k := ⟨y 1, by blk_ext []⟩
  rw [after0_7, Pipeline.eq_sum_fin_of_reset_step_apply_last (fun n h => (outsAt0 m c n h).2.2.2) 16 (fun _ => 0)
    (fun t => k0_pay4 (F := Ideal) (k0_pay9 (iblk m c 1 t)) (k0_pay10 (iblk m c 1 t)) (k0_pay12 (iblk m c 1 t) (iblk m c 2 t) (iblk m c 3 t) (iblk m c 0 t)))
    (fun t h j => by
      have hN : t.val < 16 := lt_of_lt_of_eq t.isLt N_0
      rw [outsAt0_A m c t h (by omega)]; frame_out; rw [zero_add])
    (fun t h j => by
      rw [outsAt0_B m c t h (by omega)]; frame_out; pointwise [k0_pay7])
    (le_of_eq N_0) t (Eq.trans (by omega : t.val + 1 = 16) N_0.symm) _, zero_add]
  refine (sum7 m c k).trans (congrArg _ ?_)
  blk_ext [idx t]

end Cert.LnBwdIdeal.Val

end
-- ==== Proof.LnRead.lean ====
module

public import Idealize.ShloMosaic.Lib.Pipeline.ValueKit
public import Idealize.ShloMosaic.Lib.Pointwise
public import Idealize.ShloMosaic.Lib.Claim
public import proofs.«01_k».proof.Proof.LnKernel
public import proofs.«01_k».proof.Proof.Gen.LnRefIdeal.Read
public import proofs.«01_k».proof.Proof.Gen.Pre_ln_bwd_finite

@[expose] public section

set_option maxRecDepth 16384

noncomputable section

/-! The reference's formulas for the layer-norm gradient, and their agreement with the kernel's on finite arguments. -/

namespace Cert.LnRead

open Idealize.ShloMosaic Cert.LnRefIdeal Cert.LnRefIdeal.Read Cert.Lift Cert.LnMath
open Cert.LnBwdIdeal.Val (U C G B ds du dg db cs)

variable (x0 x1 : FVec Ideal S4096x2048 .f32) (x2 x3 x4 : FVec Ideal S1x2048 .f32)

theorem at57 (i : S4096x2048.Idx) (k : Fin 2048) : idx_main_v57 (idx_main_v58 (idx_main_v61 (idx_main_v62 i) 0)) k = ix2 (i 0) k := by blk_ext []
theorem at37 (i : S1x2048.Idx) (a : Fin 4096) : idx_main_v37 (idx_main_v38 (idx_main_v41 (idx_main_v65 i) 0)) a = ix2 a (i 1) := by blk_ext []
theorem at43 (i : S4096.Idx) (k : Fin 2048) : idx_main_v43 (idx_main_v44 (idx_main_v50 i 0)) k = ix2 (i 0) k := by blk_ext []
theorem at33 (i : S1x2048.Idx) (a : Fin 4096) : idx_main_v33 (idx_main_v34 (idx_main_v35 (idx_main_v64 i) 0)) a = ix2 a (i 1) := by blk_ext []
theorem at66 (i : S1x2048.Idx) (a : Fin 4096) : idx_main_v66 (idx_main_v67 (idx_main_v68 (idx_main_v69 i) 0)) a = ix2 a (i 1) := by blk_ext []

theorem read_u (i : S4096x2048.Idx) : val_main_v3 (F := Ideal) x1 x2 i = U x1 x2 (i 0) (i 1) := by
  pointwise [val_main_v3_apply, val_main_v2_apply, val_main_v1_apply, val_main_v0_apply, U]
  blk_point []

theorem read_xc (i : S4096x2048.Idx) : val_main_v11 (F := Ideal) x1 x2 i = xc (U x1 x2 (i 0)) (i 1) := by
  pointwise [val_main_v11_apply, val_main_v10_apply, val_main_v9_apply, val_main_v8_apply, val_main_v7_apply, val_main_v6_apply, val_main_cst_apply, val_main_cst_0_apply, read_u, xc, mu]
  blk_point []

theorem read_va (i : S4096x1.Idx) : val_main_v18 (F := Ideal) x1 x2 i = va (U x1 x2 (i 0)) := by
  pointwise [val_main_v18_apply, val_main_v17_apply, val_main_v16_apply, val_main_v15_apply, val_main_v14_apply, val_main_v13_apply, val_main_v12_apply, val_main_cst_1_apply, val_main_cst_2_apply, val_main_cst_3_apply, read_xc, va]
  rfl

theorem read_rs (i : S4096x1.Idx) : val_main_v19 (F := Ideal) x1 x2 i = rs (U x1 x2 (i 0)) := by
  pointwise [val_main_v19_apply, read_va, rs]

theorem read_xh (i : S4096x2048.Idx) : val_main_v24 (F := Ideal) x1 x2 i = xh (U x1 x2 (i 0)) (i 1) := by
  pointwise [val_main_v24_apply, val_main_v23_apply, read_xc, read_rs, xh]
  rfl

theorem read_aff (i : S4096x2048.Idx) : val_main_v30 (F := Ideal) x1 x2 x3 x4 i = aff (U x1 x2 (i 0)) (G x3) (B x4) (i 1) := by
  pointwise [val_main_v30_apply, val_main_v29_apply, val_main_v28_apply, val_main_v27_apply, val_main_v26_apply, val_main_v25_apply, val_main_v5_apply, val_main_v4_apply, read_xh, aff, G, B]
  blk_point []

theorem read_ds (i : S4096x2048.Idx) : val_main_v32 (F := Ideal) x0 x1 x2 x3 x4 i = rdsilu (C x0 (i 0) (i 1)) (aff (U x1 x2 (i 0)) (G x3) (B x4) (i 1)) := by
  pointwise [val_main_v32_apply, val_main_call1_v2_apply, val_main_call1_v1_apply, val_main_call1_v0_apply, val_main_v31_1_apply, val_main_v31_2_apply, val_main_call0_v4_apply, val_main_call0_v3_apply, val_main_call0_v2_apply, val_main_call0_v1_apply, val_main_call0_v0_apply, val_main_call0_v6_apply, val_main_call0_v7_apply, val_main_call0_cst_apply, val_main_call0_cst_0_apply, val_main_call0_cst_1_apply, read_aff, rdsilu, sg, C]

theorem read_dx (i : S4096x2048.Idx) : val_main_v40 (F := Ideal) x0 x1 x2 x3 x4 i = rdsilu (C x0 (i 0) (i 1)) (aff (U x1 x2 (i 0)) (G x3) (B x4) (i 1)) * G x3 (i 1) := by
  pointwise [val_main_v40_apply, val_main_v39_apply, val_main_v25_apply, val_main_v4_apply, read_ds, G]
  blk_point []

theorem read_w (i : S4096.Idx) : val_main_v50 (F := Ideal) x0 x1 x2 x3 x4 i
    = rw_ (U x1 x2 (i 0)) (fun k => rdsilu (C x0 (i 0) k) (aff (U x1 x2 (i 0)) (G x3) (B x4) k) * G x3 k) := by
  pointwise [val_main_v44_apply, val_main_v43_apply, val_main_v42_apply, val_main_v50_apply, val_main_v49_apply, val_main_v48_apply, val_main_v47_apply, val_main_v22_apply, val_main_v21_apply, val_main_v20_apply, val_main_cst_9_apply, val_main_cst_10_apply, val_main_cst_11_apply, val_main_cst_4_apply, read_dx, read_xc, read_va, read_rs, rw_]
  simp only [Fin.sum_univ_one]
  refine congrArg (fun z => Ideal.div (z * _) len) (Finset.sum_congr rfl fun k _ => ?_)
  rw [at43]
  rfl

theorem read_du (i : S4096x2048.Idx) : val_main_v63 (F := Ideal) x0 x1 x2 x3 x4 i = rdx (U x1 x2 (i 0)) (C x0 (i 0)) (G x3) (B x4) (i 1) := by
  pointwise [val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v46_apply, val_main_v45_apply, val_main_cst_12_apply, val_main_cst_13_apply, val_main_cst_14_apply, read_dx, read_xc, read_rs, read_w, rdx, rback, rxc]
  simp only [Fin.sum_univ_one]
  refine congrArg (fun z => _ + Ideal.div z len) (Finset.sum_congr rfl fun k _ => ?_)
  rw [at57]
  rfl

theorem read_dg (i : S1x2048.Idx) : val_main_v65 (F := Ideal) x0 x1 x2 x3 x4 i = ∑ a : Fin 4096, xh (U x1 x2 a) (i 1) * rdsilu (C x0 a (i 1)) (aff (U x1 x2 a) (G x3) (B x4) (i 1)) := by
  pointwise [val_main_v65_apply, val_main_v41_apply, val_main_v38_apply, val_main_v37_apply, val_main_v36_apply, val_main_cst_7_apply, val_main_cst_8_apply, read_ds, read_xh]
  simp only [Fin.sum_univ_one]
  refine Finset.sum_congr rfl fun a _ => ?_
  rw [at37]
  rfl

theorem read_db (i : S1x2048.Idx) : val_main_v64 (F := Ideal) x0 x1 x2 x3 x4 i = ∑ a : Fin 4096, rdsilu (C x0 a (i 1)) (aff (U x1 x2 a) (G x3) (B x4) (i 1)) := by
  pointwise [val_main_v64_apply, val_main_v35_apply, val_main_v34_apply, val_main_v33_apply, val_main_cst_5_apply, val_main_cst_6_apply, read_ds]
  simp only [Fin.sum_univ_one]
  refine Finset.sum_congr rfl fun a _ => ?_
  rw [at33]
  rfl

theorem read_cs (i : S1x2048.Idx) : val_main_v69 (F := Ideal) x0 x1 x2 x3 x4 i = ∑ a : Fin 4096, rdx (U x1 x2 a) (C x0 a) (G x3) (B x4) (i 1) := by
  pointwise [val_main_v69_apply, val_main_v68_apply, val_main_v67_apply, val_main_v66_apply, val_main_cst_15_apply, val_main_cst_16_apply, read_du]
  simp only [Fin.sum_univ_one]
  refine Finset.sum_congr rfl fun a _ => ?_
  rw [at66]
  rfl

/-- Arrays the precondition admits are arrays of real numbers. -/
theorem finite (hp : (Cert.Pre_ln_bwd_finite.fn (F := Ideal) x0 x1 x2 x3 x4).1 = (fun _ => 1#1)
      ∧ (Cert.Pre_ln_bwd_finite.fn (F := Ideal) x0 x1 x2 x3 x4).2.1 = (fun _ => 1#1)
      ∧ (Cert.Pre_ln_bwd_finite.fn (F := Ideal) x0 x1 x2 x3 x4).2.2.1 = (fun _ => 1#1)
      ∧ (Cert.Pre_ln_bwd_finite.fn (F := Ideal) x0 x1 x2 x3 x4).2.2.2.1 = (fun _ => 1#1)
      ∧ (Cert.Pre_ln_bwd_finite.fn (F := Ideal) x0 x1 x2 x3 x4).2.2.2.2 = (fun _ => 1#1)) :
    (∃ a : S4096x2048.Idx → ℝ, x0 = fun i => (a i : EReal)) ∧ (∃ a : S4096x2048.Idx → ℝ, x1 = fun i => (a i : EReal))
      ∧ (∃ a : S1x2048.Idx → ℝ, x2 = fun i => (a i : EReal)) ∧ (∃ a : S1x2048.Idx → ℝ, x3 = fun i => (a i : EReal))
      ∧ ∃ a : S1x2048.Idx → ℝ, x4 = fun i => (a i : EReal) := by
  obtain ⟨h0, h1, h2, h3, h4⟩ := hp
  refine ⟨reals fun i => ?_, reals fun i => ?_, reals fun i => ?_, reals fun i => ?_, reals fun i => ?_⟩
  · rw [← lit_top]; exact (Ideal.cmp_olt_eq_one _ _).mp (congrFun h0 i)
  · rw [← lit_top]; exact (Ideal.cmp_olt_eq_one _ _).mp (congrFun h1 i)
  · rw [← lit_top]; exact (Ideal.cmp_olt_eq_one _ _).mp (congrFun h2 i)
  · rw [← lit_top]; exact (Ideal.cmp_olt_eq_one _ _).mp (congrFun h3 i)
  · rw [← lit_top]; exact (Ideal.cmp_olt_eq_one _ _).mp (congrFun h4 i)

/-- On real arguments the reference's two row formulas are the kernel's. -/
theorem agree (h0 : ∃ a : S4096x2048.Idx → ℝ, x0 = fun i => (a i : EReal)) (h1 : ∃ a : S4096x2048.Idx → ℝ, x1 = fun i => (a i : EReal))
    (h2 : ∃ a : S1x2048.Idx → ℝ, x2 = fun i => (a i : EReal)) (h3 : ∃ a : S1x2048.Idx → ℝ, x3 = fun i => (a i : EReal))
    (h4 : ∃ a : S1x2048.Idx → ℝ, x4 = fun i => (a i : EReal)) (a : Fin 4096) (k : Fin 2048) :
    rdx (U x1 x2 a) (C x0 a) (G x3) (B x4) k = dx (U x1 x2 a) (C x0 a) (G x3) (B x4) k
      ∧ rdsilu (C x0 a k) (aff (U x1 x2 a) (G x3) (B x4) k) = ds x0 x1 x2 x3 x4 a k := by
  obtain ⟨d, rfl⟩ := h0
  obtain ⟨u, rfl⟩ := h1
  obtain ⟨w, rfl⟩ := h2
  obtain ⟨g, rfl⟩ := h3
  obtain ⟨b, rfl⟩ := h4
  have e : U (fun i => (u i : EReal)) (fun i => (w i : EReal)) a = fun k => ((u (ix2 a k) + w (ix2 0 k) : ℝ) : EReal) := by
    funext k; exact add _ _
  constructor
  · rw [e]
    exact dx_eq _ (fun k => d (ix2 a k)) (fun k => g (ix2 0 k)) (fun k => b (ix2 0 k)) k
  · unfold ds
    rw [e]
    obtain ⟨y, hy, hy'⟩ := dsilu_eq (fun k => u (ix2 a k) + w (ix2 0 k)) (fun k => d (ix2 a k)) (fun k => g (ix2 0 k)) (fun k => b (ix2 0 k)) k
    exact hy'.trans hy.symm

/-- On arguments the precondition admits, the reference's four results are the kernel's. -/
theorem results (hp : (Cert.Pre_ln_bwd_finite.fn (F := Ideal) x0 x1 x2 x3 x4).1 = (fun _ => 1#1)
      ∧ (Cert.Pre_ln_bwd_finite.fn (F := Ideal) x0 x1 x2 x3 x4).2.1 = (fun _ => 1#1)
      ∧ (Cert.Pre_ln_bwd_finite.fn (F := Ideal) x0 x1 x2 x3 x4).2.2.1 = (fun _ => 1#1)
      ∧ (Cert.Pre_ln_bwd_finite.fn (F := Ideal) x0 x1 x2 x3 x4).2.2.2.1 = (fun _ => 1#1)
      ∧ (Cert.Pre_ln_bwd_finite.fn (F := Ideal) x0 x1 x2 x3 x4).2.2.2.2 = (fun _ => 1#1)) :
    val_main_v63 (F := Ideal) x0 x1 x2 x3 x4 = du x0 x1 x2 x3 x4 ∧ val_main_v65 (F := Ideal) x0 x1 x2 x3 x4 = dg x0 x1 x2 x3 x4
      ∧ val_main_v64 (F := Ideal) x0 x1 x2 x3 x4 = db x0 x1 x2 x3 x4 ∧ val_main_v69 (F := Ideal) x0 x1 x2 x3 x4 = cs x0 x1 x2 x3 x4 := by
  obtain ⟨h0, h1, h2, h3, h4⟩ := finite x0 x1 x2 x3 x4 hp
  have h := agree x0 x1 x2 x3 x4 h0 h1 h2 h3 h4
  refine ⟨funext fun i => ?_, funext fun i => ?_, funext fun i => ?_, funext fun i => ?_⟩
  · exact (read_du x0 x1 x2 x3 x4 i).trans (h (i 0) (i 1)).1
  · refine (read_dg x0 x1 x2 x3 x4 i).trans (Finset.sum_congr rfl fun a _ => ?_)
    rw [(h a (i 1)).2, mul_comm]
  · exact (read_db x0 x1 x2 x3 x4 i).trans (Finset.sum_congr rfl fun a _ => (h a (i 1)).2)
  · exact (read_cs x0 x1 x2 x3 x4 i).trans (Finset.sum_congr rfl fun a _ => (h a (i 1)).1)

end Cert.LnRead

end
-- ==== Proof.Ln.lean ====
module

public import proofs.«01_k».proof.Defs
public import proofs.«01_k».proof.Proof.LnRead
public import proofs.«01_k».proof.Proof.Gen.LnBwd.Frame
public import proofs.«01_k».proof.Proof.Gen.LnRefIdeal.Run
public import Idealize.ShloMosaic.Adequacy
public import Idealize.ShloMosaic.Lib.Quiescent
public import Idealize.ShloMosaic.Init

@[expose] public section

set_option maxRecDepth 16384

noncomputable section

/-! The claims about the gradient through layer norm and silu, assembled. -/

namespace Cert.Ln

open Idealize.ShloMosaic Idealize.SL.Sem

/-- Over the reals kernel and reference return the same four arrays, whenever the arguments are finite. -/
theorem algebraic : Cert.algebraic_LnBwdIdeal_LnRefIdeal_pre_ln_bwd_finite := by
  intro m g m' g' hp ha
  refine ⟨fun c => Cert.LnBwdIdeal.Val.du (m (c.tc.loc Cert.LnBwdIdeal.main_arg0)) (m (c.tc.loc Cert.LnBwdIdeal.main_arg1)) (m (c.tc.loc Cert.LnBwdIdeal.main_arg2)) (m (c.tc.loc Cert.LnBwdIdeal.main_arg3)) (m (c.tc.loc Cert.LnBwdIdeal.main_arg4)),
    fun c => Cert.LnBwdIdeal.Val.dg (m (c.tc.loc Cert.LnBwdIdeal.main_arg0)) (m (c.tc.loc Cert.LnBwdIdeal.main_arg1)) (m (c.tc.loc Cert.LnBwdIdeal.main_arg2)) (m (c.tc.loc Cert.LnBwdIdeal.main_arg3)) (m (c.tc.loc Cert.LnBwdIdeal.main_arg4)),
    fun c => Cert.LnBwdIdeal.Val.db (m (c.tc.loc Cert.LnBwdIdeal.main_arg0)) (m (c.tc.loc Cert.LnBwdIdeal.main_arg1)) (m (c.tc.loc Cert.LnBwdIdeal.main_arg2)) (m (c.tc.loc Cert.LnBwdIdeal.main_arg3)) (m (c.tc.loc Cert.LnBwdIdeal.main_arg4)),
    fun c => Cert.LnBwdIdeal.Val.cs (m (c.tc.loc Cert.LnBwdIdeal.main_arg0)) (m (c.tc.loc Cert.LnBwdIdeal.main_arg1)) (m (c.tc.loc Cert.LnBwdIdeal.main_arg2)) (m (c.tc.loc Cert.LnBwdIdeal.main_arg3)) (m (c.tc.loc Cert.LnBwdIdeal.main_arg4)),
    (θ_run _ _ _).mono (fun r h c => ?_) (Cert.LnBwdIdeal.Value.run_blocks m g),
    (θ_run _ _ _).mono (fun r h c => ?_) (Cert.LnRefIdeal.Value.run m' g')⟩
  · obtain ⟨h4, h5, h6, h7, hr⟩ := h c
    exact ⟨h4.trans (Cert.LnBwdIdeal.Val.final4 m c), h5.trans (Cert.LnBwdIdeal.Val.final5 m c),
      h6.trans (Cert.LnBwdIdeal.Val.final6 m c), h7.trans (Cert.LnBwdIdeal.Val.final7 m c), hr⟩
  · obtain ⟨h0, h1, h2, h3, hr⟩ := h c
    obtain ⟨a0, a1, a2, a3, a4⟩ := ha c
    have q0 : StableHlo.launchContents m' c (Proc.devRef .tc Cert.LnRefIdeal.main_arg0) = m (c.tc.loc Cert.LnBwdIdeal.main_arg0) := a0
    have q1 : StableHlo.launchContents m' c (Proc.devRef .tc Cert.LnRefIdeal.main_arg1) = m (c.tc.loc Cert.LnBwdIdeal.main_arg1) := a1
    have q2 : StableHlo.launchContents m' c (Proc.devRef .tc Cert.LnRefIdeal.main_arg2) = m (c.tc.loc Cert.LnBwdIdeal.main_arg2) := a2
    have q3 : StableHlo.launchContents m' c (Proc.devRef .tc Cert.LnRefIdeal.main_arg3) = m (c.tc.loc Cert.LnBwdIdeal.main_arg3) := a3
    have q4 : StableHlo.launchContents m' c (Proc.devRef .tc Cert.LnRefIdeal.main_arg4) = m (c.tc.loc Cert.LnBwdIdeal.main_arg4) := a4
    obtain ⟨e0, e1, e2, e3⟩ := Cert.LnRead.results _ _ _ _ _ (hp c)
    refine ⟨?_, ?_, ?_, ?_, hr⟩
    · refine h0.trans ((Cert.LnRefIdeal.Read.val_main_v63_eq _).trans ?_)
      rw [q0, q1, q2, q3, q4]
      exact e0
    · refine h1.trans ((Cert.LnRefIdeal.Read.val_main_v65_eq _).trans ?_)
      rw [q0, q1, q2, q3, q4]
      exact e1
    · refine h2.trans ((Cert.LnRefIdeal.Read.val_main_v64_eq _).trans ?_)
      rw [q0, q1, q2, q3, q4]
      exact e2
    · refine h3.trans ((Cert.LnRefIdeal.Read.val_main_v69_eq _).trans ?_)
      rw [q0, q1, q2, q3, q4]
      exact e3

/-- The reference runs, leaves its arguments alone, and has no semaphore to leave raised. -/
theorem frame_ref : Cert.quiescent_LnRefIdeal := fun m g _ =>
  (θ_run _ _ _).mono (fun r h => ⟨fun c => (h c).2.2.2.2, sem_eq_zero_of_no_sems (by decide) r.2⟩) (Cert.LnRefIdeal.Value.run m g)

/-- The kernel runs and leaves its arguments alone, in machine arithmetic. -/
theorem frame : Cert.quiescent_LnBwd := fun m g _ => Cert.LnBwd.Gen.frame m g

/-- The kernel runs and leaves its arguments alone, over the reals. -/
theorem frame_ideal : Cert.quiescent_LnBwdIdeal := fun m g _ => Cert.LnBwdIdeal.Gen.frame m g

end Cert.Ln

end
-- ==== Proof.PostMath.lean ====
module

public import proofs.«01_k».proof.Proof.LnMath

@[expose] public section

noncomputable section

/-! The gradient through `rms_norm(x) · g · silu(z)`, one row at a time: the closed form, the chain rule's form, and
    their agreement on rows of real numbers. -/

namespace Cert.PostMath

open Idealize.ShloMosaic Cert.Lift
open Cert.LnMath (len sg dsilu rdsilu sg_coe dsilu_coe)

variable (x d g z e : Fin 2048 → EReal)

/-- The row's mean square plus epsilon, its reciprocal root, and the normalised row. -/
def ms : EReal := Ideal.div (∑ k, x k * x k) len + Ideal.ofBits .f32 0x358637BD#32
def rr : EReal := Ideal.rsqrt (ms x)
def nn (k : Fin 2048) : EReal := x k * rr x

/-- The cotangent `d` past the gate `silu z`, and the gate's own gradient in the two forms of silu's derivative. -/
def dyn (k : Fin 2048) : EReal := d k * (z k * sg (z k))
def dz (k : Fin 2048) : EReal := dsilu (d k * (nn x k * g k)) (z k)
def rdz (k : Fin 2048) : EReal := rdsilu (nn x k * g k * d k) (z k)

/-- A cotangent `e` of the normalised row carried back to the row: closed form, and the chain rule's. -/
def back (k : Fin 2048) : EReal := rr x * (e k - nn x k * Ideal.div (∑ k, e k * nn x k) len)
def rw_ : EReal := Ideal.div ((∑ k, x k * e k) * (Ideal.ofBits .f32 0xBF000000#32 * Ideal.div (rr x) (ms x))) len
def rback (k : Fin 2048) : EReal := e k * rr x + x k * rw_ x e + rw_ x e * x k

/-- The gradient of the row, in both forms. -/
def dx (k : Fin 2048) : EReal := back x (fun k => dyn d z k * g k) k
def rdx (k : Fin 2048) : EReal := rback x (fun k => dyn d z k * g k) k

theorem nn_coe (x : Fin 2048 → ℝ) (k : Fin 2048) : ∃ y : ℝ, nn (fun k => (x k : EReal)) k = (y : EReal) := by
  have hv := Cert.RmsMath.mean_pos x (n := 2048) (by norm_num)
  unfold nn rr ms len
  simp only [lit_2048, lit_eps, mul, sum, div _ (show (2048 : ℝ) ≠ 0 by norm_num), add, rsqrt hv]
  exact ⟨_, rfl⟩

theorem back_eq (x e : Fin 2048 → ℝ) (k : Fin 2048) :
    rback (fun k => (x k : EReal)) (fun k => (e k : EReal)) k = back (fun k => (x k : EReal)) (fun k => (e k : EReal)) k := by
  have hv := Cert.RmsMath.mean_pos x (n := 2048) (by norm_num)
  unfold rback rw_ back nn rr ms len
  simp only [lit_2048, lit_eps, lit_neg_half, mul, sum, div _ (show (2048 : ℝ) ≠ 0 by norm_num), add, rsqrt hv, div _ hv.ne', sub]
  rw [EReal.coe_eq_coe_iff, Cert.RmsMath.row (by norm_num) hv.ne' (Cert.RmsMath.sqrt_inv_sq hv)]
  congr 5
  rw [Finset.sum_mul]
  exact Finset.sum_congr rfl fun k _ => by ring

/-- On real rows the two forms of the row's gradient agree. -/
theorem dx_eq (x d g z : Fin 2048 → ℝ) (k : Fin 2048) :
    rdx (fun k => (x k : EReal)) (fun k => (d k : EReal)) (fun k => (g k : EReal)) (fun k => (z k : EReal)) k
      = dx (fun k => (x k : EReal)) (fun k => (d k : EReal)) (fun k => (g k : EReal)) (fun k => (z k : EReal)) k := by
  unfold rdx dx dyn
  simp only [sg_coe, mul]
  exact back_eq x _ k

/-- And so do those of the gate's. -/
theorem dz_eq (x d g z : Fin 2048 → ℝ) (k : Fin 2048) :
    rdz (fun k => (x k : EReal)) (fun k => (d k : EReal)) (fun k => (g k : EReal)) (fun k => (z k : EReal)) k
      = dz (fun k => (x k : EReal)) (fun k => (d k : EReal)) (fun k => (g k : EReal)) (fun k => (z k : EReal)) k := by
  obtain ⟨y, hy⟩ := nn_coe x k
  unfold rdz dz
  rw [hy, mul, mul, mul, mul_comm]
  obtain ⟨w, h1, h2⟩ := dsilu_coe (d k * (y * g k)) (z k)
  exact h2.trans h1.symm

end Cert.PostMath

end
-- ==== Proof.PostKernel.lean ====
module

public import Idealize.ShloMosaic.Lib.Pipeline.ValueKit
public import Idealize.ShloMosaic.Lib.Pointwise
public import Idealize.ShloMosaic.Lib.Claim
public import proofs.«01_k».proof.Proof.Gen.PostBwdIdeal.Value
public import proofs.«01_k».proof.Proof.PostMath

@[expose] public section

set_option maxRecDepth 16384

noncomputable section

/-! What the four results of the gated norms' gradient hold after the kernel's run. -/

namespace Cert.PostBwdIdeal.Val

open Cert.PostBwdIdeal Cert.PostBwdIdeal.Gen Idealize.ShloMosaic Idealize.ShloMosaic.TcCoe Idealize.SL.Sem
open Cert.LnMath (len sg dsilu)
open Cert.PostMath

section
variable (x0 : FVec Ideal S4096x4096 .f32) (x1 x2 : FVec Ideal S4096x2048 .f32) (x3 : FVec Ideal S1x2048 .f32)
  (x4 : FVec Ideal S1x4096x14336 .f32) (x5 x6 : FVec Ideal S1x2048 .f32) (s : Fin 2)

/-- For half `s` (the attention's, the convolution's): row `a` of the normalised input, of the cotangent and of the
    gate's input, and the gain. -/
def X (a : Fin 4096) (k : Fin 2048) : EReal := if s.val = 0 then x1 (ix2 a k) else x2 (ix2 a k) + x3 (ix2 0 k)
def D (a : Fin 4096) (k : Fin 2048) : EReal := x0 (ix2 a ⟨2048 * s.val + k.val, by omega⟩)
def Z (a : Fin 4096) (k : Fin 2048) : EReal := x4 (ix3 0 a ⟨(3 + 3 * s.val) * 2048 + k.val, by omega⟩)
def G (k : Fin 2048) : EReal := if s.val = 0 then x5 (ix2 0 k) else x6 (ix2 0 k)

/-- Row `a`'s gradients of the gate's input and of the normalised input. -/
def gz (a : Fin 4096) (k : Fin 2048) : EReal := dz (X x1 x2 x3 s a) (D x0 s a) (G x5 x6 s) (Z x4 s a) k
def gx (a : Fin 4096) (k : Fin 2048) : EReal := dx (X x1 x2 x3 s a) (D x0 s a) (G x5 x6 s) (Z x4 s a) k

/-- The gain's gradient and the input's column sums. -/
def gg (k : Fin 2048) : EReal := ∑ a : Fin 4096, dyn (D x0 s a) (Z x4 s a) k * nn (X x1 x2 x3 s a) k
def gc (k : Fin 2048) : EReal := ∑ a : Fin 4096, gx x0 x1 x2 x3 x4 x5 x6 s a k
end

section
variable (i : grid0.Coords) (v1 v2 dy : FVec Ideal S128x2048 .f32) (z : FVec Ideal S1x128x2048 .bf16) (g : FVec Ideal S1x1x2048 .f32)
  (r : Fin 128) (k : Fin 2048)

/-- The row the body works on, its cotangent, gate and gain. -/
abbrev bx (k : Fin 2048) : EReal := k0_pay11 (F := Ideal) i v1 v2 (ix2 r k)
abbrev bd (k : Fin 2048) : EReal := dy (ix2 r k)
abbrev bz (k : Fin 2048) : EReal := z (ix3 0 r k)
abbrev bg (k : Fin 2048) : EReal := g (ix3 0 0 k)

theorem pay11_fst (h : (i 0).val = 0) : k0_pay11 (F := Ideal) i v1 v2 (ix2 r k) = v1 (ix2 r k) := by
  unfold k0_pay11
  simp only [h]
  rfl

theorem pay11_snd (h : (i 0).val = 1) : k0_pay11 (F := Ideal) i v1 v2 (ix2 r k) = v2 (ix2 r k) := by
  have e : k0_pay11 (F := Ideal) i v1 v2 = shapeCast S128x2048 v2 shapeCasts_S128x2048_S128x2048 := by
    unfold k0_pay11
    simp only [h]
    rfl
  rw [e]
  pointwise []

theorem pay12 : k0_pay12 (F := Ideal) i v1 v2 (ix2 r 0) = rr (bx i v1 v2 r) := by
  pointwise [k0_pay12, rr, ms]

theorem pay13 : k0_pay13 (F := Ideal) i v1 v2 (ix2 r k) = nn (bx i v1 v2 r) k := by
  pointwise [k0_pay13, k0_pay12, nn, rr, ms]

theorem pay14 : k0_pay14 (F := Ideal) z (ix2 r k) = bz z r k := by pointwise [k0_pay14]

theorem pay15 : k0_pay15 (F := Ideal) z (ix2 r k) = sg (bz z r k) := by
  pointwise [k0_pay15, k0_pay14, sg, zero_sub]

theorem pay2 : k0_pay2 (F := Ideal) (k0_pay14 z) (k0_pay15 z) dy (ix2 r k) = dyn (bd dy r) (bz z r) k := by
  pointwise [k0_pay2, k0_pay15, k0_pay14, dyn, sg, zero_sub]

theorem pay1 : k0_pay1 (F := Ideal) (k0_pay17 i v1 v2 g dy) (k0_pay18 z) (ix3 0 r k) = dz (bx i v1 v2 r) (bd dy r) (bg g) (bz z r) k := by
  pointwise [k0_pay1, k0_pay17, k0_pay18, k0_pay16, k0_pay15, k0_pay14, k0_pay13, k0_pay12, dz, dsilu, sg, nn, rr, ms, zero_sub]

theorem pay3 : k0_pay3 (F := Ideal) (k0_pay12 i v1 v2) (k0_pay13 i v1 v2) (k0_pay14 z) (k0_pay15 z) (k0_pay16 g) dy (ix2 r k)
    = dx (bx i v1 v2 r) (bd dy r) (bg g) (bz z r) k := by
  pointwise [k0_pay3, k0_pay2, k0_pay16, k0_pay15, k0_pay14, k0_pay13, k0_pay12, dx, back, dyn, sg, nn, rr, ms, zero_sub]

theorem pay4 : k0_pay4 (F := Ideal) (k0_pay12 i v1 v2) (k0_pay13 i v1 v2) (k0_pay14 z) (k0_pay15 z) (k0_pay16 g) dy (ix3 0 r k)
    = dx (bx i v1 v2 r) (bd dy r) (bg g) (bz z r) k := by
  rw [← pay3]
  pointwise [k0_pay4]

/-- A block's shares of the two column sums. -/
theorem pay5 : k0_pay5 (F := Ideal) (k0_pay13 i v1 v2) (k0_pay14 z) (k0_pay15 z) dy (ix2 0 k)
    = ∑ r : Fin 128, dyn (bd dy r) (bz z r) k * nn (bx i v1 v2 r) k := by
  simp only [← pay13, ← pay2]
  pointwise [k0_pay5]

theorem pay6 : k0_pay6 (F := Ideal) (k0_pay12 i v1 v2) (k0_pay13 i v1 v2) (k0_pay14 z) (k0_pay15 z) (k0_pay16 g) dy (ix2 0 k)
    = ∑ r : Fin 128, dx (bx i v1 v2 r) (bd dy r) (bg g) (bz z r) k := by
  simp only [← pay3]
  pointwise [k0_pay6]
end

variable (m : (ℓ : Loc nD τ sig) → Buf (Elt Ideal) ℓ) (c : Dev nD)

/-- The packed projection, the biased convolution and the stacked gains as the host hands them to the kernel. -/
theorem V_v2 (s : Fin 2) (a : Fin 4096) (k : Fin 2048) : (V m c main_v2 : FVec Ideal S7x4096x2048 .bf16) (ix3 ⟨3 + 3 * s.val, by omega⟩ a k)
    = Z (m ((c : Thread nD τ).loc main_arg4)) s a k := by
  unfold V
  simp only [hostOps0, List.flatten_cons, List.flatten_nil, List.append_nil, List.cons_append, List.nil_append]
  after_results
  pointwise [Z]

theorem V_v4 (a : Fin 4096) (k : Fin 2048) : (V m c main_v4 : FVec Ideal S4096x2048 .f32) (ix2 a k)
    = X (m ((c : Thread nD τ).loc main_arg1)) (m ((c : Thread nD τ).loc main_arg2)) (m ((c : Thread nD τ).loc main_arg3)) 1 a k := by
  unfold V
  simp only [hostOps0, List.flatten_cons, List.flatten_nil, List.append_nil, List.cons_append, List.nil_append]
  after_results
  pointwise [X]

theorem V_v7 (s : Fin 2) (k : Fin 2048) : (V m c main_v7 : FVec Ideal S2x1x2048 .f32) (ix3 s 0 k)
    = G (m ((c : Thread nD τ).loc main_arg5)) (m ((c : Thread nD τ).loc main_arg6)) s k := by
  unfold V
  simp only [hostOps0, List.flatten_cons, List.flatten_nil, List.append_nil, List.cons_append, List.nil_append]
  after_results
  obtain rfl | rfl : s = 0 ∨ s = 1 := by omega
  · pointwise [G]
  · pointwise [G]

/-- Every window's block at every grid point: the first half of the grid works on the attention's rows, the second on
    the convolution's. -/
theorem idx : ∀ t : Fin cfg0.N, win0_0.index t = ![t.val % 32, t.val / 32] ∧ win0_3.index t = ![3 + 3 * (t.val / 32), t.val % 32, 0]
    ∧ win0_4.index t = ![t.val / 32, 0, 0] ∧ win0_5.index t = ![3 + 3 * (t.val / 32), t.val % 32, 0]
    ∧ win0_6.index t = ![t.val / 32, t.val % 32, 0] ∧ win0_7.index t = ![t.val / 32, 0, 0] ∧ win0_8.index t = ![t.val / 32, 0, 0]
    ∧ (grid0.coords t 0).val = t.val / 32 :=
  (by decide +kernel : ∀ t : Fin grid0.N, _)

theorem idx1 : ∀ t : Fin cfg0.N, t.val / 32 = 0 → win0_1.index t = ![t.val % 32, 0] :=
  (by decide +kernel : ∀ t : Fin grid0.N, _)

theorem idx2 : ∀ t : Fin cfg0.N, t.val / 32 = 1 → win0_2.index t = ![t.val % 32, 0] :=
  (by decide +kernel : ∀ t : Fin grid0.N, _)

/-- The half grid point `t` works on, and row `r` of its block. -/
def half (t : Fin cfg0.N) : Fin 2 := ⟨t.val / 32, by have := t.isLt.trans_eq N_0; omega⟩
def row (t : Fin cfg0.N) (r : Fin 128) : Fin 4096 := ⟨128 * (t.val % 32) + r.val, by omega⟩

/-- The arguments' rows a grid point works on. -/
abbrev MX (s : Fin 2) := X (m ((c : Thread nD τ).loc main_arg1)) (m ((c : Thread nD τ).loc main_arg2)) (m ((c : Thread nD τ).loc main_arg3)) s
abbrev MD (s : Fin 2) := D (m ((c : Thread nD τ).loc main_arg0)) s
abbrev MZ (s : Fin 2) := Z (m ((c : Thread nD τ).loc main_arg4)) s
abbrev MG (s : Fin 2) := G (m ((c : Thread nD τ).loc main_arg5)) (m ((c : Thread nD τ).loc main_arg6)) s

theorem blkX (t : Fin cfg0.N) (r : Fin 128) (k : Fin 2048) : k0_pay11 (F := Ideal) (grid0.coords t) (iblk m c 1 t) (iblk m c 2 t) (ix2 r k)
    = MX m c (half t) (row t r) k := by
  have hN : t.val < 64 := t.isLt.trans_eq N_0
  rcases (by omega : t.val / 32 = 0 ∨ t.val / 32 = 1) with h | h
  · rw [pay11_fst _ _ _ _ _ ((idx t).2.2.2.2.2.2.2.trans h)]
    unfold MX X
    rw [if_pos (show (half t).val = 0 from h)]
    blk_point [iblk, V, idx1 t h, row]
  · rw [pay11_snd _ _ _ _ _ ((idx t).2.2.2.2.2.2.2.trans h)]
    have e : half t = 1 := Fin.ext h
    rw [e]
    unfold MX
    rw [← V_v4 m c]
    blk_point [iblk, idx2 t h, row]

theorem blkD (t : Fin cfg0.N) (r : Fin 128) (k : Fin 2048) : (iblk m c 0 t : FVec Ideal S128x2048 .f32) (ix2 r k)
    = MD m c (half t) (row t r) k := by
  blk_point [iblk, V, idx t, row, D, half]

theorem blkZ (t : Fin cfg0.N) (r : Fin 128) (k : Fin 2048) : (iblk m c 3 t : FVec Ideal S1x128x2048 .bf16) (ix3 0 r k)
    = MZ m c (half t) (row t r) k := by
  unfold MZ
  rw [← V_v2 m c]
  blk_point [iblk, idx t, row, half]

theorem blkG (t : Fin cfg0.N) (k : Fin 2048) : (iblk m c 4 t : FVec Ideal S1x1x2048 .f32) (ix3 0 0 k)
    = MG m c (half t) k := by
  unfold MG
  rw [← V_v7 m c]
  blk_point [iblk, idx t, half]

/-- The rows' formulas at the arguments. -/
abbrev mgz (s : Fin 2) (a : Fin 4096) (k : Fin 2048) : EReal := dz (MX m c s a) (MD m c s a) (MG m c s) (MZ m c s a) k
abbrev mgx (s : Fin 2) (a : Fin 4096) (k : Fin 2048) : EReal := dx (MX m c s a) (MD m c s a) (MG m c s) (MZ m c s a) k
abbrev mgg (s : Fin 2) (k : Fin 2048) : EReal := ∑ a : Fin 4096, dyn (MD m c s a) (MZ m c s a) k * nn (MX m c s a) k
abbrev mgc (s : Fin 2) (k : Fin 2048) : EReal := ∑ a : Fin 4096, mgx m c s a k

/-- The block of the gate's gradient a grid point leaves. -/
theorem out5 (t : Fin cfg0.N) : (outsAt0 m c t.val t.isLt).1
    = k0_pay1 (F := Ideal) (k0_pay17 (grid0.coords t) (iblk m c 1 t) (iblk m c 2 t) (iblk m c 4 t) (iblk m c 0 t)) (k0_pay18 (iblk m c 3 t)) := by
  have hN : t.val < 64 := t.isLt.trans_eq N_0
  by_cases h0 : t.val % 32 = 0
  · rw [outsAt0_A m c t h0 (by omega)]; frame_out
  · rw [outsAt0_B m c t h0 (by omega)]; frame_out

/-- The block of the rows' gradient. -/
theorem out6 (t : Fin cfg0.N) : (outsAt0 m c t.val t.isLt).2.1
    = k0_pay4 (F := Ideal) (k0_pay12 (grid0.coords t) (iblk m c 1 t) (iblk m c 2 t)) (k0_pay13 (grid0.coords t) (iblk m c 1 t) (iblk m c 2 t))
      (k0_pay14 (iblk m c 3 t)) (k0_pay15 (iblk m c 3 t)) (k0_pay16 (iblk m c 4 t)) (iblk m c 0 t) := by
  have hN : t.val < 64 := t.isLt.trans_eq N_0
  by_cases h0 : t.val % 32 = 0
  · rw [outsAt0_A m c t h0 (by omega)]; frame_out
  · rw [outsAt0_B m c t h0 (by omega)]; frame_out

theorem point5 (t : Fin cfg0.N) (r : Fin 128) (k : Fin 2048) : (outsAt0 m c t.val t.isLt).1 (ix3 0 r k) = mgz m c (half t) (row t r) k := by
  rw [out5, pay1]
  unfold bx bd bg bz
  simp only [blkX, blkD, blkZ, blkG]

theorem point6 (t : Fin cfg0.N) (r : Fin 128) (k : Fin 2048) : (outsAt0 m c t.val t.isLt).2.1 (ix3 0 r k) = mgx m c (half t) (row t r) k := by
  rw [out6, pay4]
  unfold bx bd bg bz
  simp only [blkX, blkD, blkZ, blkG]

/-- The kernel's second result. -/
theorem final6 : (dats m 0 c).arrAt 6 cfg0.N = (fun i => mgx m c (i 0) (i 1) (i 2) : FVec Ideal S2x4096x2048 .bf16) := by
  refine (dats m 0 c).arrAt_eq_of_covers 6 _ (by decide +kernel) fun t _ y => ?_
  blk_simp
  rw [after0_6]
  obtain ⟨r, k, rfl⟩ : ∃ (r : Fin 128) (k : Fin 2048), (y : S1x128x2048.Idx) = ix3 0 r k := ⟨y 1, y 2, by blk_ext []⟩
  refine (point6 m c t r k).trans ?_
  have e : ((cfg0.win 6).blk t).view.emb (ix3 0 r k : S1x128x2048.Idx) = (ix3 (half t) (row t r) k : S2x4096x2048.Idx) := by blk_ext [idx t, row, half]
  rw [e]
  rfl

/-- Its first, in the two segments that are written. -/
theorem final5 (s : Fin 2) (a : Fin 4096) (k : Fin 2048) :
    ((dats m 0 c).arrAt 5 cfg0.N : FVec Ideal S7x4096x2048 .bf16) (ix3 ⟨3 + 3 * s.val, by omega⟩ a k) = mgz m c s a k := by
  have hG := (dats m 0 c).arrAt_eq_of_coversWhere 5 (fun i => mgz m c (if (i 0).val = 3 then 0 else 1) (i 1) (i 2) : FVec Ideal S7x4096x2048 .bf16)
    (fun β => β (0 : Fin 3) = 3 ∨ β (0 : Fin 3) = 6) (P := fun i => (i (0 : Fin 3)).val = 3 ∨ (i (0 : Fin 3)).val = 6) (by decide +kernel)
    (fun t hf y => by
      blk_simp
      rw [after0_5]
      obtain ⟨r, k, rfl⟩ : ∃ (r : Fin 128) (k : Fin 2048), (y : S1x128x2048.Idx) = ix3 0 r k := ⟨y 1, y 2, by blk_ext []⟩
      refine (point5 m c t r k).trans ?_
      have e : ((cfg0.win 5).blk t).view.emb (ix3 0 r k : S1x128x2048.Idx) = (ix3 ⟨3 + 3 * (half t).val, by omega⟩ (row t r) k : S7x4096x2048.Idx) := by
        blk_ext [idx t, row, half]
      rw [e]
      have h : half t = if win0_5.index t 0 = 3 then 0 else 1 := by
        rw [(idx t).2.2.2.1]
        show half t = if 3 + 3 * (t.val / 32) = 3 then 0 else 1
        simp only [half]
        split <;> (refine Fin.ext ?_; have := t.isLt.trans_eq N_0; simp only [Fin.val_zero, Fin.val_one]; omega)
      exact congrArg (fun s => mgz m c s (row t r) k) h)
    (fun j => by rw [show ((cfg0.win 5).cell j 0 : ℕ) = (j (0 : Fin 3)).val / 1 from rfl, Nat.div_one]; exact Iff.rfl)
  refine (congrFun hG _).trans ?_
  obtain rfl | rfl : s = 0 ∨ s = 1 := by omega
  · rfl
  · rfl

/-- A sum over a half's grid points and their rows is a sum over all rows. -/
theorem rows (f : Fin 4096 → EReal) (q : Fin 2) (h : ∀ s : Fin 32, 32 * q.val + s.val < cfg0.N) :
    ∑ s : Fin 32, ∑ r : Fin 128, f (row ⟨32 * q.val + s.val, h s⟩ r) = ∑ a : Fin 4096, f a :=
  Eq.trans (Finset.sum_congr rfl fun s _ => Finset.sum_congr rfl fun r _ => congrArg f (Fin.ext (by simp only [row]; omega)))
    (Fin.sum_mul_add_fin (L := 4096) 32 128 f)

/-- A grid point's share of the gain's gradient and of the column sums. -/
theorem part7 (t : Fin cfg0.N) (k : Fin 2048) : k0_pay5 (F := Ideal) (k0_pay13 (grid0.coords t) (iblk m c 1 t) (iblk m c 2 t))
      (k0_pay14 (iblk m c 3 t)) (k0_pay15 (iblk m c 3 t)) (iblk m c 0 t) (ix2 0 k)
    = ∑ r : Fin 128, dyn (MD m c (half t) (row t r)) (MZ m c (half t) (row t r)) k * nn (MX m c (half t) (row t r)) k := by
  rw [pay5]
  unfold bx bd bz
  simp only [blkX, blkD, blkZ]

theorem part8 (t : Fin cfg0.N) (k : Fin 2048) : k0_pay6 (F := Ideal) (k0_pay12 (grid0.coords t) (iblk m c 1 t) (iblk m c 2 t))
      (k0_pay13 (grid0.coords t) (iblk m c 1 t) (iblk m c 2 t)) (k0_pay14 (iblk m c 3 t)) (k0_pay15 (iblk m c 3 t)) (k0_pay16 (iblk m c 4 t)) (iblk m c 0 t) (ix2 0 k)
    = ∑ r : Fin 128, mgx m c (half t) (row t r) k := by
  rw [pay6]
  unfold bx bd bg bz
  simp only [blkX, blkD, blkZ, blkG]

/-- The same as it is stored, and summed over a half's grid points. -/
def term7 (t : Fin cfg0.N) : FVec Ideal S1x1x2048 .f32 := k0_pay7 (F := Ideal) (k0_pay13 (grid0.coords t) (iblk m c 1 t) (iblk m c 2 t)) (k0_pay14 (iblk m c 3 t)) (k0_pay15 (iblk m c 3 t)) (iblk m c 0 t)

theorem sum7 (q : Fin 2) (h : ∀ s : Fin 32, 32 * q.val + s.val < cfg0.N) (k : Fin 2048) :
    ∑ s : Fin 32, (term7 m c ⟨32 * q.val + s.val, h s⟩ (ix3 0 0 k) : EReal) = mgg m c q k := by
  refine Eq.trans (Finset.sum_congr rfl fun s _ => ?_) (rows (fun a => dyn (MD m c q a) (MZ m c q a) k * nn (MX m c q a) k) q h)
  have hh : half ⟨32 * q.val + s.val, h s⟩ = q := Fin.ext (by simp only [half]; omega)
  refine Eq.trans ?_ ((part7 m c ⟨32 * q.val + s.val, h s⟩ k).trans ?_)
  · pointwise [term7, k0_pay7]
  · rw [hh]

/-- The kernel's third result. -/
theorem final7 : (dats m 0 c).arrAt 7 cfg0.N = (fun i => mgg m c (i 0) (i 2) : FVec Ideal S2x1x2048 .f32) := by
  refine (dats m 0 c).arrAt_eq_of_covers 7 _ (by decide +kernel) fun t hf y => ?_
  have hN : t.val < 64 := t.isLt.trans_eq N_0
  have hl := (flush0_7 t).mp hf
  blk_simp
  obtain ⟨k, rfl⟩ : ∃ k : Fin 2048, (y : S1x1x2048.Idx) = ix3 0 0 k := ⟨y 2, by blk_ext []⟩
  rw [after0_7, Pipeline.eq_sum_fin_of_reset_step_apply_of_flush (fun n h => (outsAt0 m c n h).2.2.1) 32 (fun _ => 0)
    (term7 m c)
    (fun t h j => by
      have hN : t.val < 64 := t.isLt.trans_eq N_0
      rw [outsAt0_A m c t h (by omega)]; frame_out; rw [zero_add]; rfl)
    (fun t h j => by
      rw [outsAt0_B m c t h (by omega)]; frame_out; pointwise [term7, k0_pay9, k0_pay7])
    t hl _, zero_add]
  have e : ((cfg0.win 7).blk t).view.emb (ix3 0 0 k : S1x1x2048.Idx) = (ix3 (half t) 0 k : S2x1x2048.Idx) := by blk_ext [idx t, half]
  rw [e]
  exact sum7 m c (half t) (fun s => lt_of_lt_of_eq (by have := s.isLt; simp only [half]; omega : 32 * (half t).val + s.val < 64) N_0.symm) k

/-- The same as it is stored, and summed over a half's grid points. -/
def term8 (t : Fin cfg0.N) : FVec Ideal S1x1x2048 .f32 := k0_pay8 (F := Ideal) (k0_pay12 (grid0.coords t) (iblk m c 1 t) (iblk m c 2 t)) (k0_pay13 (grid0.coords t) (iblk m c 1 t) (iblk m c 2 t))
      (k0_pay14 (iblk m c 3 t)) (k0_pay15 (iblk m c 3 t)) (k0_pay16 (iblk m c 4 t)) (iblk m c 0 t)

theorem sum8 (q : Fin 2) (h : ∀ s : Fin 32, 32 * q.val + s.val < cfg0.N) (k : Fin 2048) :
    ∑ s : Fin 32, (term8 m c ⟨32 * q.val + s.val, h s⟩ (ix3 0 0 k) : EReal) = mgc m c q k := by
  refine Eq.trans (Finset.sum_congr rfl fun s _ => ?_) (rows (fun a => mgx m c q a k) q h)
  have hh : half ⟨32 * q.val + s.val, h s⟩ = q := Fin.ext (by simp only [half]; omega)
  refine Eq.trans ?_ ((part8 m c ⟨32 * q.val + s.val, h s⟩ k).trans ?_)
  · pointwise [term8, k0_pay8]
  · rw [hh]

/-- And its fourth. -/
theorem final8 : (dats m 0 c).arrAt 8 cfg0.N = (fun i => mgc m c (i 0) (i 2) : FVec Ideal S2x1x2048 .f32) := by
  refine (dats m 0 c).arrAt_eq_of_covers 8 _ (by decide +kernel) fun t hf y => ?_
  have hN : t.val < 64 := t.isLt.trans_eq N_0
  have hl := (flush0_8 t).mp hf
  blk_simp
  obtain ⟨k, rfl⟩ : ∃ k : Fin 2048, (y : S1x1x2048.Idx) = ix3 0 0 k := ⟨y 2, by blk_ext []⟩
  rw [after0_8, Pipeline.eq_sum_fin_of_reset_step_apply_of_flush (fun n h => (outsAt0 m c n h).2.2.2) 32 (fun _ => 0)
    (term8 m c)
    (fun t h j => by
      have hN : t.val < 64 := t.isLt.trans_eq N_0
      rw [outsAt0_A m c t h (by omega)]; frame_out; rw [zero_add]; rfl)
    (fun t h j => by
      rw [outsAt0_B m c t h (by omega)]; frame_out; pointwise [term8, k0_pay10, k0_pay8])
    t hl _, zero_add]
  have e : ((cfg0.win 8).blk t).view.emb (ix3 0 0 k : S1x1x2048.Idx) = (ix3 (half t) 0 k : S2x1x2048.Idx) := by blk_ext [idx t, half]
  rw [e]
  exact sum8 m c (half t) (fun s => lt_of_lt_of_eq (by have := s.isLt; simp only [half]; omega : 32 * (half t).val + s.val < 64) N_0.symm) k

end Cert.PostBwdIdeal.Val

end
-- ==== Proof.PostRead.lean ====
module

public import Idealize.ShloMosaic.Lib.Pipeline.ValueKit
public import Idealize.ShloMosaic.Lib.Pointwise
public import Idealize.ShloMosaic.Lib.Claim
public import proofs.«01_k».proof.Proof.PostKernel
public import proofs.«01_k».proof.Proof.Gen.PostRefIdeal.Read
public import proofs.«01_k».proof.Proof.Gen.Pre_post_bwd_finite

@[expose] public section

set_option maxRecDepth 16384

noncomputable section

/-! The reference's formulas for the gated norms' gradient, first the attention's half and then the convolution's. -/

namespace Cert.PostRead

open Idealize.ShloMosaic Cert.PostRefIdeal Cert.PostRefIdeal.Read Cert.Lift Cert.PostMath
open Cert.LnMath (len sg dsilu rdsilu)
open Cert.PostBwdIdeal.Val (D Z)

variable (x0 : FVec Ideal S4096x4096 .f32) (x1 x2 : FVec Ideal S4096x2048 .f32) (x3 : FVec Ideal S1x2048 .f32)
  (x4 : FVec Ideal S1x4096x14336 .f32) (x5 x6 : FVec Ideal S1x2048 .f32)

/-- A row of the attention's output, a row of the biased convolution, and a gain. -/
def XA (a : Fin 4096) (k : Fin 2048) : EReal := x1 (ix2 a k)
def XC (a : Fin 4096) (k : Fin 2048) : EReal := x2 (ix2 a k) + x3 (ix2 0 k)
def GG (k : Fin 2048) : EReal := x5 (ix2 0 k)

theorem at_ax (i : S4096x2048.Idx) : x1 i = XA x1 (i 0) (i 1) := by
  unfold XA
  blk_point []

theorem at_adg (i : S1x2048.Idx) (a : Fin 4096) : idx_main_v81 (idx_main_v82 (idx_main_v85 (idx_main_v100 i) 0)) a = ix2 a (i 1) := by blk_ext []
theorem at_aw (i : S4096.Idx) (k : Fin 2048) : idx_main_v87 (idx_main_v88 (idx_main_v94 i 0)) k = ix2 (i 0) k := by blk_ext []

theorem read_az (i : S4096x2048.Idx) : val_main_v1 (F := Ideal) x4 i = Z x4 0 (i 0) (i 1) := by
  pointwise [val_main_v1_apply, val_main_v0_apply, Z]
  blk_point []

theorem read_ad (i : S4096x2048.Idx) : val_main_v47 (F := Ideal) x0 i = D x0 0 (i 0) (i 1) := by
  pointwise [val_main_v47_apply, D]
  blk_point []

theorem read_ams (i : S4096x1.Idx) : val_main_v11 (F := Ideal) x1 i = ms (XA x1 (i 0)) := by
  pointwise [val_main_v11_apply, val_main_v10_apply, val_main_v9_apply, val_main_v8_apply, val_main_v7_apply, val_main_v6_apply, val_main_v5_apply, val_main_cst_apply, val_main_cst_0_apply, val_main_cst_1_apply, XA, ms]
  blk_point []

theorem read_arr (i : S4096x1.Idx) : val_main_v12 (F := Ideal) x1 i = rr (XA x1 (i 0)) := by
  pointwise [val_main_v12_apply, read_ams, rr]

theorem read_ann (i : S4096x2048.Idx) : val_main_v17 (F := Ideal) x1 i = nn (XA x1 (i 0)) (i 1) := by
  pointwise [val_main_v17_apply, val_main_v16_apply, read_arr, nn]
  rw [at_ax x1 i]
  rfl

theorem read_ang (i : S4096x2048.Idx) : val_main_v20 (F := Ideal) x1 x5 i = nn (XA x1 (i 0)) (i 1) * GG x5 (i 1) := by
  pointwise [val_main_v20_apply, val_main_v19_apply, val_main_v18_apply, val_main_v4_apply, read_ann, GG]
  blk_point []

theorem read_asg (i : S4096x2048.Idx) : val_main_v21_2 (F := Ideal) x4 i = sg (Z x4 0 (i 0) (i 1)) := by
  pointwise [val_main_v21_2_apply, val_main_call0_v4_apply, val_main_call0_v3_apply, val_main_call0_v2_apply, val_main_call0_v1_apply, val_main_call0_v0_apply, val_main_call0_cst_apply, val_main_call0_cst_0_apply, read_az, sg]

theorem read_adz (i : S4096x2048.Idx) : val_main_v79 (F := Ideal) x0 x1 x4 x5 i = rdz (XA x1 (i 0)) (D x0 0 (i 0)) (GG x5) (Z x4 0 (i 0)) (i 1) := by
  pointwise [val_main_v79_apply, val_main_call3_v2_apply, val_main_call3_v1_apply, val_main_call3_v0_apply, val_main_v77_apply, val_main_v21_1_apply, val_main_call0_v7_apply, val_main_call0_v6_apply, val_main_call0_cst_1_apply, read_asg, read_az, read_ang, read_ad, rdz, rdsilu]

theorem read_ady (i : S4096x2048.Idx) : val_main_v78 (F := Ideal) x0 x4 i = dyn (D x0 0 (i 0)) (Z x4 0 (i 0)) (i 1) := by
  pointwise [val_main_v78_apply, val_main_v21_0_apply, read_asg, read_az, read_ad, dyn]

theorem read_ae (i : S4096x2048.Idx) : val_main_v84 (F := Ideal) x0 x4 x5 i = dyn (D x0 0 (i 0)) (Z x4 0 (i 0)) (i 1) * GG x5 (i 1) := by
  pointwise [val_main_v84_apply, val_main_v83_apply, val_main_v18_apply, val_main_v4_apply, read_ady, GG]
  blk_point []

theorem read_adg (i : S1x2048.Idx) : val_main_v100 (F := Ideal) x0 x1 x4 i = ∑ a : Fin 4096, nn (XA x1 a) (i 1) * dyn (D x0 0 a) (Z x4 0 a) (i 1) := by
  pointwise [val_main_v100_apply, val_main_v85_apply, val_main_v82_apply, val_main_v81_apply, val_main_v80_apply, val_main_cst_14_apply, val_main_cst_15_apply, read_ady, read_ann]
  simp only [Fin.sum_univ_one]
  refine Finset.sum_congr rfl fun a _ => ?_
  rw [at_adg]
  rfl

theorem read_aw (i : S4096.Idx) : val_main_v94 (F := Ideal) x0 x1 x4 x5 i = rw_ (XA x1 (i 0)) (fun k => dyn (D x0 0 (i 0)) (Z x4 0 (i 0)) k * GG x5 k) := by
  pointwise [val_main_v94_apply, val_main_v93_apply, val_main_v92_apply, val_main_v91_apply, val_main_v88_apply, val_main_v87_apply, val_main_v86_apply, val_main_v15_apply, val_main_v14_apply, val_main_v13_apply, val_main_cst_16_apply, val_main_cst_17_apply, val_main_cst_18_apply, val_main_cst_2_apply, read_ae, read_arr, read_ams, rw_]
  simp only [Fin.sum_univ_one]
  refine congrArg (fun z => Ideal.div (z * _) len) (Finset.sum_congr rfl fun k _ => ?_)
  rw [at_aw]
  rfl

theorem read_adx (i : S4096x2048.Idx) : val_main_v99 (F := Ideal) x0 x1 x4 x5 i = rdx (XA x1 (i 0)) (D x0 0 (i 0)) (GG x5) (Z x4 0 (i 0)) (i 1) := by
  pointwise [val_main_v99_apply, val_main_v98_apply, val_main_v97_apply, val_main_v96_apply, val_main_v95_apply, val_main_v90_apply, val_main_v89_apply, read_aw, read_ae, read_arr, rdx, rback]
  rw [at_ax x1 i]
  rfl

theorem at_cdg (i : S1x2048.Idx) (a : Fin 4096) : idx_main_v53 (idx_main_v54 (idx_main_v57 (idx_main_v72 i) 0)) a = ix2 a (i 1) := by blk_ext []
theorem at_cw (i : S4096.Idx) (k : Fin 2048) : idx_main_v59 (idx_main_v60 (idx_main_v66 i 0)) k = ix2 (i 0) k := by blk_ext []

theorem read_cz (i : S4096x2048.Idx) : val_main_v3 (F := Ideal) x4 i = Z x4 1 (i 0) (i 1) := by
  pointwise [val_main_v3_apply, val_main_v2_apply, Z]
  blk_point []

theorem read_cd (i : S4096x2048.Idx) : val_main_v48 (F := Ideal) x0 i = D x0 1 (i 0) (i 1) := by
  pointwise [val_main_v48_apply, D]
  blk_point []

theorem read_cx (i : S4096x2048.Idx) : val_main_v26 (F := Ideal) x2 x3 i = XC x2 x3 (i 0) (i 1) := by
  pointwise [val_main_v26_apply, val_main_v25_apply, val_main_v24_apply, val_main_v23_apply, XC]
  blk_point []

theorem read_cms (i : S4096x1.Idx) : val_main_v34 (F := Ideal) x2 x3 i = ms (XC x2 x3 (i 0)) := by
  pointwise [val_main_v34_apply, val_main_v33_apply, val_main_v32_apply, val_main_v31_apply, val_main_v30_apply, val_main_v29_apply, val_main_v28_apply, val_main_cst_3_apply, val_main_cst_4_apply, val_main_cst_5_apply, read_cx, ms]
  rfl

theorem read_crr (i : S4096x1.Idx) : val_main_v35 (F := Ideal) x2 x3 i = rr (XC x2 x3 (i 0)) := by
  pointwise [val_main_v35_apply, read_cms, rr]

theorem read_cnn (i : S4096x2048.Idx) : val_main_v40 (F := Ideal) x2 x3 i = nn (XC x2 x3 (i 0)) (i 1) := by
  pointwise [val_main_v40_apply, val_main_v39_apply, read_crr, read_cx, nn]
  rfl

theorem read_cng (i : S4096x2048.Idx) : val_main_v43 (F := Ideal) x2 x3 x6 i = nn (XC x2 x3 (i 0)) (i 1) * GG x6 (i 1) := by
  pointwise [val_main_v43_apply, val_main_v42_apply, val_main_v41_apply, val_main_v27_apply, read_cnn, GG]
  blk_point []

theorem read_csg (i : S4096x2048.Idx) : val_main_v44_2 (F := Ideal) x4 i = sg (Z x4 1 (i 0) (i 1)) := by
  pointwise [val_main_v44_2_apply, val_main_call1_v4_apply, val_main_call1_v3_apply, val_main_call1_v2_apply, val_main_call1_v1_apply, val_main_call1_v0_apply, val_main_call1_cst_apply, val_main_call1_cst_0_apply, read_cz, sg]

theorem read_cdz (i : S4096x2048.Idx) : val_main_v51 (F := Ideal) x0 x2 x3 x4 x6 i = rdz (XC x2 x3 (i 0)) (D x0 1 (i 0)) (GG x6) (Z x4 1 (i 0)) (i 1) := by
  pointwise [val_main_v51_apply, val_main_call2_v2_apply, val_main_call2_v1_apply, val_main_call2_v0_apply, val_main_v49_apply, val_main_v44_1_apply, val_main_call1_v7_apply, val_main_call1_v6_apply, val_main_call1_cst_1_apply, read_csg, read_cz, read_cng, read_cd, rdz, rdsilu]

theorem read_cdy (i : S4096x2048.Idx) : val_main_v50 (F := Ideal) x0 x4 i = dyn (D x0 1 (i 0)) (Z x4 1 (i 0)) (i 1) := by
  pointwise [val_main_v50_apply, val_main_v44_0_apply, read_csg, read_cz, read_cd, dyn]

theorem read_ce (i : S4096x2048.Idx) : val_main_v56 (F := Ideal) x0 x4 x6 i = dyn (D x0 1 (i 0)) (Z x4 1 (i 0)) (i 1) * GG x6 (i 1) := by
  pointwise [val_main_v56_apply, val_main_v55_apply, val_main_v41_apply, val_main_v27_apply, read_cdy, GG]
  blk_point []

theorem read_cdg (i : S1x2048.Idx) : val_main_v72 (F := Ideal) x0 x2 x3 x4 i = ∑ a : Fin 4096, nn (XC x2 x3 a) (i 1) * dyn (D x0 1 a) (Z x4 1 a) (i 1) := by
  pointwise [val_main_v72_apply, val_main_v57_apply, val_main_v54_apply, val_main_v53_apply, val_main_v52_apply, val_main_cst_7_apply, val_main_cst_8_apply, read_cdy, read_cnn]
  simp only [Fin.sum_univ_one]
  refine Finset.sum_congr rfl fun a _ => ?_
  rw [at_cdg]
  rfl

theorem read_cw (i : S4096.Idx) : val_main_v66 (F := Ideal) x0 x2 x3 x4 x6 i = rw_ (XC x2 x3 (i 0)) (fun k => dyn (D x0 1 (i 0)) (Z x4 1 (i 0)) k * GG x6 k) := by
  pointwise [val_main_v66_apply, val_main_v65_apply, val_main_v64_apply, val_main_v63_apply, val_main_v60_apply, val_main_v59_apply, val_main_v58_apply, val_main_v38_apply, val_main_v37_apply, val_main_v36_apply, val_main_cst_9_apply, val_main_cst_10_apply, val_main_cst_11_apply, val_main_cst_6_apply, read_ce, read_cx, read_crr, read_cms, rw_]
  simp only [Fin.sum_univ_one]
  refine congrArg (fun z => Ideal.div (z * _) len) (Finset.sum_congr rfl fun k _ => ?_)
  rw [at_cw]
  rfl

theorem read_cdx (i : S4096x2048.Idx) : val_main_v71 (F := Ideal) x0 x2 x3 x4 x6 i = rdx (XC x2 x3 (i 0)) (D x0 1 (i 0)) (GG x6) (Z x4 1 (i 0)) (i 1) := by
  pointwise [val_main_v71_apply, val_main_v70_apply, val_main_v69_apply, val_main_v68_apply, val_main_v67_apply, val_main_v62_apply, val_main_v61_apply, read_cw, read_ce, read_cx, read_crr, rdx, rback]
  rfl

theorem pad_a (a : Fin 4096) (k : Fin 2048) : val_main_v108 (F := Ideal) x0 x1 x2 x3 x4 x5 x6 (ix3 3 a k) = val_main_v79 (F := Ideal) x0 x1 x4 x5 (ix2 a k) := by
  have e : idx_main_v106 (idx_main_v107 (ix3 3 a k)) = ix3 0 a ⟨6144 + k.val, by omega⟩ := by blk_ext []
  rw [val_main_v108_apply, val_main_v107_apply, val_main_v106_apply, e]
  pointwise [val_main_v105_apply, val_main_v104, val_main_v103_apply, val_main_v102, val_main_v101_apply, val_main_cst_19_apply, val_main_cst_20_apply]
  rw [dif_neg (by omega), zero_add]
  exact congrArg _ (by blk_ext [])

theorem pad_c (a : Fin 4096) (k : Fin 2048) : val_main_v108 (F := Ideal) x0 x1 x2 x3 x4 x5 x6 (ix3 6 a k) = val_main_v51 (F := Ideal) x0 x2 x3 x4 x6 (ix2 a k) := by
  have e : idx_main_v106 (idx_main_v107 (ix3 6 a k)) = ix3 0 a ⟨12288 + k.val, by omega⟩ := by blk_ext []
  rw [val_main_v108_apply, val_main_v107_apply, val_main_v106_apply, e]
  pointwise [val_main_v105_apply, val_main_v104, val_main_v103_apply, val_main_v102, val_main_v101_apply, val_main_cst_19_apply, val_main_cst_20_apply]
  rw [dif_neg (by omega), add_zero]
  exact congrArg _ (by blk_ext [])

theorem stack_x (s : Fin 2) (a : Fin 4096) (k : Fin 2048) : val_main_v112 (F := Ideal) x0 x1 x2 x3 x4 x5 x6 (ix3 s a k)
    = if s.val = 0 then val_main_v99 (F := Ideal) x0 x1 x4 x5 (ix2 a k) else val_main_v71 (F := Ideal) x0 x2 x3 x4 x6 (ix2 a k) := by
  obtain rfl | rfl : s = 0 ∨ s = 1 := by omega
  · pointwise [val_main_v112_apply, val_main_v111, val_main_v110_apply, val_main_v109_apply]
    exact congrArg _ (by blk_ext [])
  · pointwise [val_main_v112_apply, val_main_v111, val_main_v110_apply, val_main_v109_apply]
    exact congrArg _ (by blk_ext [])

theorem stack_g (s : Fin 2) (k : Fin 2048) : val_main_v115 (F := Ideal) x0 x1 x2 x3 x4 (ix3 s 0 k)
    = if s.val = 0 then val_main_v100 (F := Ideal) x0 x1 x4 (ix2 0 k) else val_main_v72 (F := Ideal) x0 x2 x3 x4 (ix2 0 k) := by
  obtain rfl | rfl : s = 0 ∨ s = 1 := by omega
  · pointwise [val_main_v115, val_main_v114_apply, val_main_v113_apply]
    exact congrArg _ (by blk_ext [])
  · pointwise [val_main_v115, val_main_v114_apply, val_main_v113_apply]
    exact congrArg _ (by blk_ext [])

theorem sum_a (k : Fin 2048) : val_main_v117 (F := Ideal) x0 x1 x4 x5 (ix2 0 k) = ∑ a : Fin 4096, rdx (XA x1 a) (D x0 0 a) (GG x5) (Z x4 0 a) k := by
  pointwise [val_main_v117_apply, val_main_v116_apply, val_main_cst_21_apply, read_adx]
  rfl

theorem sum_c (k : Fin 2048) : val_main_v76 (F := Ideal) x0 x2 x3 x4 x6 (ix2 0 k) = ∑ a : Fin 4096, rdx (XC x2 x3 a) (D x0 1 a) (GG x6) (Z x4 1 a) k := by
  pointwise [val_main_v76_apply, val_main_v75_apply, val_main_v74_apply, val_main_v73_apply, val_main_cst_12_apply, val_main_cst_13_apply, read_cdx]
  simp only [Fin.sum_univ_one]
  refine Finset.sum_congr rfl fun a _ => ?_
  rw [show idx_main_v73 (idx_main_v74 (idx_main_v75 (idx_main_v76 (ix2 0 k)) 0)) a = ix2 a k by blk_ext []]
  rfl

theorem stack_s (s : Fin 2) (k : Fin 2048) : val_main_v120 (F := Ideal) x0 x1 x2 x3 x4 x5 x6 (ix3 s 0 k)
    = if s.val = 0 then val_main_v117 (F := Ideal) x0 x1 x4 x5 (ix2 0 k) else val_main_v76 (F := Ideal) x0 x2 x3 x4 x6 (ix2 0 k) := by
  obtain rfl | rfl : s = 0 ∨ s = 1 := by omega
  · pointwise [val_main_v120, val_main_v119_apply, val_main_v118_apply]
    exact congrArg _ (by blk_ext [])
  · pointwise [val_main_v120, val_main_v119_apply, val_main_v118_apply]
    exact congrArg _ (by blk_ext [])

end Cert.PostRead

end
-- ==== Proof.PostAgree.lean ====
module

public import proofs.«01_k».proof.Proof.PostRead

@[expose] public section

set_option maxRecDepth 16384

noncomputable section

/-! The reference's four results of the gated norms' gradient are the kernel's, on finite arguments. -/

namespace Cert.PostRead

open Idealize.ShloMosaic Cert.PostRefIdeal Cert.PostRefIdeal.Read Cert.Lift Cert.PostMath
open Cert.PostBwdIdeal.Val (X D Z G gz gx gg gc)

variable (x0 : FVec Ideal S4096x4096 .f32) (x1 x2 : FVec Ideal S4096x2048 .f32) (x3 : FVec Ideal S1x2048 .f32)
  (x4 : FVec Ideal S1x4096x14336 .f32) (x5 x6 : FVec Ideal S1x2048 .f32)

/-- The precondition at the seven arguments. -/
def Admitted : Prop :=
  (Cert.Pre_post_bwd_finite.fn (F := Ideal) x0 x1 x2 x3 x4 x5 x6).1 = (fun _ => 1#1)
    ∧ (Cert.Pre_post_bwd_finite.fn (F := Ideal) x0 x1 x2 x3 x4 x5 x6).2.1 = (fun _ => 1#1)
    ∧ (Cert.Pre_post_bwd_finite.fn (F := Ideal) x0 x1 x2 x3 x4 x5 x6).2.2.1 = (fun _ => 1#1)
    ∧ (Cert.Pre_post_bwd_finite.fn (F := Ideal) x0 x1 x2 x3 x4 x5 x6).2.2.2.1 = (fun _ => 1#1)
    ∧ (Cert.Pre_post_bwd_finite.fn (F := Ideal) x0 x1 x2 x3 x4 x5 x6).2.2.2.2.1 = (fun _ => 1#1)
    ∧ (Cert.Pre_post_bwd_finite.fn (F := Ideal) x0 x1 x2 x3 x4 x5 x6).2.2.2.2.2.1 = (fun _ => 1#1)
    ∧ (Cert.Pre_post_bwd_finite.fn (F := Ideal) x0 x1 x2 x3 x4 x5 x6).2.2.2.2.2.2 = (fun _ => 1#1)

/-- Arrays the precondition admits are arrays of real numbers. -/
theorem finite (hp : Admitted x0 x1 x2 x3 x4 x5 x6) :
    (∃ a : S4096x4096.Idx → ℝ, x0 = fun i => (a i : EReal)) ∧ (∃ a : S4096x2048.Idx → ℝ, x1 = fun i => (a i : EReal))
      ∧ (∃ a : S4096x2048.Idx → ℝ, x2 = fun i => (a i : EReal)) ∧ (∃ a : S1x2048.Idx → ℝ, x3 = fun i => (a i : EReal))
      ∧ (∃ a : S1x4096x14336.Idx → ℝ, x4 = fun i => (a i : EReal)) ∧ (∃ a : S1x2048.Idx → ℝ, x5 = fun i => (a i : EReal))
      ∧ ∃ a : S1x2048.Idx → ℝ, x6 = fun i => (a i : EReal) := by
  obtain ⟨h0, h1, h2, h3, h4, h5, h6⟩ := hp
  refine ⟨reals fun i => ?_, reals fun i => ?_, reals fun i => ?_, reals fun i => ?_, reals fun i => ?_, reals fun i => ?_, reals fun i => ?_⟩
  · rw [← lit_top]; exact (Ideal.cmp_olt_eq_one _ _).mp (congrFun h0 i)
  · rw [← lit_top]; exact (Ideal.cmp_olt_eq_one _ _).mp (congrFun h1 i)
  · rw [← lit_top]; exact (Ideal.cmp_olt_eq_one _ _).mp (congrFun h2 i)
  · rw [← lit_top]; exact (Ideal.cmp_olt_eq_one _ _).mp (congrFun h3 i)
  · rw [← lit_top]; exact (Ideal.cmp_olt_eq_one _ _).mp (congrFun h4 i)
  · rw [← lit_top]; exact (Ideal.cmp_olt_eq_one _ _).mp (congrFun h5 i)
  · rw [← lit_top]; exact (Ideal.cmp_olt_eq_one _ _).mp (congrFun h6 i)

variable (hp : Admitted x0 x1 x2 x3 x4 x5 x6) (a : Fin 4096) (k : Fin 2048)
include hp

/-- The attention's half: both row formulas agree with the kernel's. -/
theorem agree_a : rdx (XA x1 a) (D x0 0 a) (GG x5) (Z x4 0 a) k = gx x0 x1 x2 x3 x4 x5 x6 0 a k
    ∧ rdz (XA x1 a) (D x0 0 a) (GG x5) (Z x4 0 a) k = gz x0 x1 x2 x3 x4 x5 x6 0 a k := by
  obtain ⟨⟨d, rfl⟩, ⟨u, rfl⟩, -, -, ⟨z, rfl⟩, ⟨g, rfl⟩, -⟩ := finite x0 x1 x2 x3 x4 x5 x6 hp
  exact ⟨dx_eq (fun k => u (ix2 a k)) _ (fun k => g (ix2 0 k)) _ k, dz_eq (fun k => u (ix2 a k)) _ (fun k => g (ix2 0 k)) _ k⟩

/-- The convolution's half. -/
theorem agree_c : rdx (XC x2 x3 a) (D x0 1 a) (GG x6) (Z x4 1 a) k = gx x0 x1 x2 x3 x4 x5 x6 1 a k
    ∧ rdz (XC x2 x3 a) (D x0 1 a) (GG x6) (Z x4 1 a) k = gz x0 x1 x2 x3 x4 x5 x6 1 a k := by
  obtain ⟨⟨d, rfl⟩, -, ⟨u, rfl⟩, ⟨w, rfl⟩, ⟨z, rfl⟩, -, ⟨g, rfl⟩⟩ := finite x0 x1 x2 x3 x4 x5 x6 hp
  have e : XC (fun i => (u i : EReal)) (fun i => (w i : EReal)) a = fun k => ((u (ix2 a k) + w (ix2 0 k) : ℝ) : EReal) := by
    funext k; exact add _ _
  have e' : X x1 (fun i => (u i : EReal)) (fun i => (w i : EReal)) 1 a = fun k => ((u (ix2 a k) + w (ix2 0 k) : ℝ) : EReal) := e
  unfold gx gz
  rw [e, e']
  exact ⟨dx_eq (fun k => u (ix2 a k) + w (ix2 0 k)) _ (fun k => g (ix2 0 k)) _ k, dz_eq (fun k => u (ix2 a k) + w (ix2 0 k)) _ (fun k => g (ix2 0 k)) _ k⟩

/-- The gate's gradients at the two segments the kernel writes. -/
theorem res_z (s : Fin 2) : val_main_v108 (F := Ideal) x0 x1 x2 x3 x4 x5 x6 (ix3 ⟨3 + 3 * s.val, by omega⟩ a k) = gz x0 x1 x2 x3 x4 x5 x6 s a k := by
  obtain rfl | rfl : s = 0 ∨ s = 1 := by omega
  · exact (pad_a x0 x1 x2 x3 x4 x5 x6 a k).trans ((read_adz x0 x1 x4 x5 (ix2 a k)).trans (agree_a x0 x1 x2 x3 x4 x5 x6 hp a k).2)
  · exact (pad_c x0 x1 x2 x3 x4 x5 x6 a k).trans ((read_cdz x0 x2 x3 x4 x6 (ix2 a k)).trans (agree_c x0 x1 x2 x3 x4 x5 x6 hp a k).2)

/-- The gradients of the two normalised inputs. -/
theorem res_x (s : Fin 2) : val_main_v112 (F := Ideal) x0 x1 x2 x3 x4 x5 x6 (ix3 s a k) = gx x0 x1 x2 x3 x4 x5 x6 s a k := by
  refine (stack_x x0 x1 x2 x3 x4 x5 x6 s a k).trans ?_
  obtain rfl | rfl : s = 0 ∨ s = 1 := by omega
  · exact (read_adx x0 x1 x4 x5 (ix2 a k)).trans (agree_a x0 x1 x2 x3 x4 x5 x6 hp a k).1
  · exact (read_cdx x0 x2 x3 x4 x6 (ix2 a k)).trans (agree_c x0 x1 x2 x3 x4 x5 x6 hp a k).1

/-- The gradients of the two gains. -/
theorem res_g (s : Fin 2) : val_main_v115 (F := Ideal) x0 x1 x2 x3 x4 (ix3 s 0 k) = gg x0 x1 x2 x3 x4 s k := by
  refine (stack_g x0 x1 x2 x3 x4 s k).trans ?_
  obtain rfl | rfl : s = 0 ∨ s = 1 := by omega
  · exact (read_adg x0 x1 x4 (ix2 0 k)).trans (Finset.sum_congr rfl fun a _ => mul_comm _ _)
  · exact (read_cdg x0 x2 x3 x4 (ix2 0 k)).trans (Finset.sum_congr rfl fun a _ => mul_comm _ _)

/-- The column sums of the two inputs' gradients. -/
theorem res_s (s : Fin 2) : val_main_v120 (F := Ideal) x0 x1 x2 x3 x4 x5 x6 (ix3 s 0 k) = gc x0 x1 x2 x3 x4 x5 x6 s k := by
  refine (stack_s x0 x1 x2 x3 x4 x5 x6 s k).trans ?_
  obtain rfl | rfl : s = 0 ∨ s = 1 := by omega
  · exact (sum_a x0 x1 x4 x5 k).trans (Finset.sum_congr rfl fun a _ => (agree_a x0 x1 x2 x3 x4 x5 x6 hp a k).1)
  · exact (sum_c x0 x2 x3 x4 x6 k).trans (Finset.sum_congr rfl fun a _ => (agree_c x0 x1 x2 x3 x4 x5 x6 hp a k).1)

end Cert.PostRead

end
-- ==== Proof.Post.lean ====
module

public import proofs.«01_k».proof.Defs
public import proofs.«01_k».proof.Proof.PostAgree
public import proofs.«01_k».proof.Proof.Gen.PostBwd.Frame
public import proofs.«01_k».proof.Proof.Gen.PostRefIdeal.Run
public import proofs.«01_k».proof.Proof.Gen.On_gates_written
public import Idealize.ShloMosaic.Adequacy
public import Idealize.ShloMosaic.Lib.Quiescent
public import Idealize.ShloMosaic.Init

@[expose] public section

set_option maxRecDepth 16384

noncomputable section

/-! The claims about the gradient through the gated norms, assembled. -/

namespace Cert.Post

open Idealize.ShloMosaic Idealize.SL.Sem Cert.PostRefIdeal.Read

section
variable (m : (ℓ : Loc Cert.PostBwdIdeal.nD Cert.PostBwdIdeal.τ Cert.PostBwdIdeal.sig) → Buf (Elt Ideal) ℓ) (c : Dev Cert.PostBwdIdeal.nD)

/-- The reference's four results at the kernel's arguments. -/
abbrev vz := val_main_v108 (F := Ideal) (m (c.tc.loc Cert.PostBwdIdeal.main_arg0)) (m (c.tc.loc Cert.PostBwdIdeal.main_arg1)) (m (c.tc.loc Cert.PostBwdIdeal.main_arg2)) (m (c.tc.loc Cert.PostBwdIdeal.main_arg3)) (m (c.tc.loc Cert.PostBwdIdeal.main_arg4)) (m (c.tc.loc Cert.PostBwdIdeal.main_arg5)) (m (c.tc.loc Cert.PostBwdIdeal.main_arg6))
abbrev vx := val_main_v112 (F := Ideal) (m (c.tc.loc Cert.PostBwdIdeal.main_arg0)) (m (c.tc.loc Cert.PostBwdIdeal.main_arg1)) (m (c.tc.loc Cert.PostBwdIdeal.main_arg2)) (m (c.tc.loc Cert.PostBwdIdeal.main_arg3)) (m (c.tc.loc Cert.PostBwdIdeal.main_arg4)) (m (c.tc.loc Cert.PostBwdIdeal.main_arg5)) (m (c.tc.loc Cert.PostBwdIdeal.main_arg6))
abbrev vg := val_main_v115 (F := Ideal) (m (c.tc.loc Cert.PostBwdIdeal.main_arg0)) (m (c.tc.loc Cert.PostBwdIdeal.main_arg1)) (m (c.tc.loc Cert.PostBwdIdeal.main_arg2)) (m (c.tc.loc Cert.PostBwdIdeal.main_arg3)) (m (c.tc.loc Cert.PostBwdIdeal.main_arg4))
abbrev vs := val_main_v120 (F := Ideal) (m (c.tc.loc Cert.PostBwdIdeal.main_arg0)) (m (c.tc.loc Cert.PostBwdIdeal.main_arg1)) (m (c.tc.loc Cert.PostBwdIdeal.main_arg2)) (m (c.tc.loc Cert.PostBwdIdeal.main_arg3)) (m (c.tc.loc Cert.PostBwdIdeal.main_arg4)) (m (c.tc.loc Cert.PostBwdIdeal.main_arg5)) (m (c.tc.loc Cert.PostBwdIdeal.main_arg6))
end

/-- The mask's test of a segment's number. -/
theorem segment : ∀ k : Fin 7, IntOp.ori (IntOp.cmpi .eq (BitVec.ofNat 32 k.val) 3#32) (IntOp.cmpi .eq (BitVec.ofNat 32 k.val) 6#32) = 1#1 → k.val = 3 ∨ k.val = 6 := by
  decide

/-- The mask of the first result selects the gates' two segments. -/
theorem written (x0 : FVec Ideal Cert.PostRefIdeal.S4096x4096 .f32) (x1 x2 : FVec Ideal Cert.PostRefIdeal.S4096x2048 .f32) (x3 : FVec Ideal Cert.PostRefIdeal.S1x2048 .f32)
    (x4 : FVec Ideal Cert.PostRefIdeal.S1x4096x14336 .f32) (x5 x6 : FVec Ideal Cert.PostRefIdeal.S1x2048 .f32) (i : Cert.PostRefIdeal.S7x4096x2048.Idx)
    (h : (Cert.On_gates_written.fn (F := Ideal) x0 x1 x2 x3 x4 x5 x6).1 i = 1#1) : ∃ s : Fin 2, i = ix3 ⟨3 + 3 * s.val, by omega⟩ (i 1) (i 2) := by
  have e : (Cert.On_gates_written.fn (F := Ideal) x0 x1 x2 x3 x4 x5 x6).1 i
      = IntOp.ori (IntOp.cmpi .eq (BitVec.ofNat 32 (i 0).val) 3#32) (IntOp.cmpi .eq (BitVec.ofNat 32 (i 0).val) 6#32) := by rfl
  have h' := segment (i 0) (e.symm.trans h)
  rcases h' with h' | h'
  · exact ⟨0, by blk_ext [h']⟩
  · exact ⟨1, by blk_ext [h']⟩

/-- Over the reals kernel and reference return the same four arrays (the first of them at the two segments the kernel
    writes), whenever the arguments are finite. -/
theorem algebraic : Cert.algebraic_PostBwdIdeal_PostRefIdeal_on_gates_written_pre_post_bwd_finite := by
  intro m g m' g' hp ha
  refine ⟨vz m, vx m, vg m, vs m, (θ_run _ _ _).mono (fun r h c => ?_) (Cert.PostBwdIdeal.Value.run_blocks m g),
    (θ_run _ _ _).mono (fun r h c => ?_) (Cert.PostRefIdeal.Value.run m' g')⟩
  · obtain ⟨h5, h6, h7, h8, hr⟩ := h c
    refine ⟨fun i hi => ?_, fun i _ => ?_, fun i _ => ?_, fun i _ => ?_, hr⟩
    · obtain ⟨s, e⟩ := written _ _ _ _ _ _ _ i hi
      rw [e]
      exact (congrFun h5 _).trans ((Cert.PostBwdIdeal.Val.final5 m c s (i 1) (i 2)).trans (Cert.PostRead.res_z _ _ _ _ _ _ _ (hp c) (i 1) (i 2) s).symm)
    · obtain ⟨s, a, k, rfl⟩ : ∃ (s : Fin 2) (a : Fin 4096) (k : Fin 2048), i = ix3 s a k := ⟨i 0, i 1, i 2, by blk_ext []⟩
      exact (congrFun (h6.trans (Cert.PostBwdIdeal.Val.final6 m c)) _).trans (Cert.PostRead.res_x _ _ _ _ _ _ _ (hp c) a k s).symm
    · obtain ⟨s, k, rfl⟩ : ∃ (s : Fin 2) (k : Fin 2048), i = ix3 s 0 k := ⟨i 0, i 2, by blk_ext []⟩
      exact (congrFun (h7.trans (Cert.PostBwdIdeal.Val.final7 m c)) _).trans (Cert.PostRead.res_g _ _ _ _ _ _ _ (hp c) k s).symm
    · obtain ⟨s, k, rfl⟩ : ∃ (s : Fin 2) (k : Fin 2048), i = ix3 s 0 k := ⟨i 0, i 2, by blk_ext []⟩
      exact (congrFun (h8.trans (Cert.PostBwdIdeal.Val.final8 m c)) _).trans (Cert.PostRead.res_s _ _ _ _ _ _ _ (hp c) k s).symm
  · obtain ⟨h0, h1, h2, h3, hr⟩ := h c
    obtain ⟨a0, a1, a2, a3, a4, a5, a6⟩ := ha c
    have q0 : StableHlo.launchContents m' c (Proc.devRef .tc Cert.PostRefIdeal.main_arg0) = m (c.tc.loc Cert.PostBwdIdeal.main_arg0) := a0
    have q1 : StableHlo.launchContents m' c (Proc.devRef .tc Cert.PostRefIdeal.main_arg1) = m (c.tc.loc Cert.PostBwdIdeal.main_arg1) := a1
    have q2 : StableHlo.launchContents m' c (Proc.devRef .tc Cert.PostRefIdeal.main_arg2) = m (c.tc.loc Cert.PostBwdIdeal.main_arg2) := a2
    have q3 : StableHlo.launchContents m' c (Proc.devRef .tc Cert.PostRefIdeal.main_arg3) = m (c.tc.loc Cert.PostBwdIdeal.main_arg3) := a3
    have q4 : StableHlo.launchContents m' c (Proc.devRef .tc Cert.PostRefIdeal.main_arg4) = m (c.tc.loc Cert.PostBwdIdeal.main_arg4) := a4
    have q5 : StableHlo.launchContents m' c (Proc.devRef .tc Cert.PostRefIdeal.main_arg5) = m (c.tc.loc Cert.PostBwdIdeal.main_arg5) := a5
    have q6 : StableHlo.launchContents m' c (Proc.devRef .tc Cert.PostRefIdeal.main_arg6) = m (c.tc.loc Cert.PostBwdIdeal.main_arg6) := a6
    refine ⟨fun i _ => congrFun ?_ i, fun i _ => congrFun ?_ i, fun i _ => congrFun ?_ i, fun i _ => congrFun ?_ i, hr⟩
    · exact h0.trans ((val_main_v108_eq _ _).trans (by rw [a0, a1, a2, a3, a4, a5, a6]))
    · exact h1.trans ((val_main_v112_eq _ _).trans (by rw [a0, a1, a2, a3, a4, a5, a6]))
    · exact h2.trans ((val_main_v115_eq _ _ _ _ _).trans (by rw [a0, a1, a2, a3, a4]))
    · exact h3.trans ((val_main_v120_eq _ _).trans (by rw [a0, a1, a2, a3, a4, a5, a6]))

/-- The reference runs, leaves its arguments alone, and has no semaphore to leave raised. -/
theorem frame_ref : Cert.quiescent_PostRefIdeal := fun m g _ =>
  (θ_run _ _ _).mono (fun r h => ⟨fun c => (h c).2.2.2.2, sem_eq_zero_of_no_sems (by decide) r.2⟩) (Cert.PostRefIdeal.Value.run m g)

/-- The kernel runs and leaves its arguments alone, in machine arithmetic. -/
theorem frame : Cert.quiescent_PostBwd := fun m g _ => Cert.PostBwd.Gen.frame m g

/-- The kernel runs and leaves its arguments alone, over the reals. -/
theorem frame_ideal : Cert.quiescent_PostBwdIdeal := fun m g _ => Cert.PostBwdIdeal.Gen.frame m g

end Cert.Post

end
-- ==== Proof.FinalMath.lean ====
module

public import proofs.«01_k».proof.Proof.RmsMath
public import proofs.«01_k».proof.Proof.LnMath

@[expose] public section

noncomputable section

/-! The loss `½ · mean (rms_norm(h) · g − t)²` of one row and its gradient: the closed form, the chain rule's form, and
    their agreement on rows of real numbers. -/

namespace Cert.FinalMath

open Idealize.ShloMosaic Cert.Lift

/-- The row's length, its reciprocal, and a half. -/
abbrev len : EReal := Ideal.ofBits .f32 0x45800000#32
abbrev inv : EReal := Ideal.ofBits .f32 0x39800000#32
abbrev half : EReal := Ideal.ofBits .f32 0x3F000000#32
abbrev two : EReal := Ideal.ofBits .f32 0x40000000#32

theorem lit_inv : inv = ((1 / 4096 : ℝ) : EReal) := by
  simp [inv, Ideal.ofBits, Ideal.ieee, -EReal.coe_mul]; norm_num
theorem lit_half : half = ((1 / 2 : ℝ) : EReal) := by
  simp [half, Ideal.ofBits, Ideal.ieee, -EReal.coe_mul]; norm_num
theorem lit_two : two = ((2 : ℝ) : EReal) := by
  simp [two, Ideal.ofBits, Ideal.ieee, -EReal.coe_mul]; norm_num

variable (h g t e : Fin 4096 → EReal)

/-- The row's mean square plus epsilon, its reciprocal root, the normalised row, and the row's error. -/
def ms : EReal := Ideal.div (∑ k, h k * h k) len + Ideal.ofBits .f32 0x358637BD#32
def rr : EReal := Ideal.rsqrt (ms h)
def nn (k : Fin 4096) : EReal := h k * rr h
def er (k : Fin 4096) : EReal := nn h k * g k - t k

/-- The row's mean squared error. -/
def ls : EReal := Ideal.div (∑ k, er h g t k * er h g t k) len

/-- The error's cotangent, in both forms. -/
def dy (k : Fin 4096) : EReal := er h g t k * inv
def rdy (k : Fin 4096) : EReal := Ideal.div (half * 1) len * (two * er h g t k)

/-- A cotangent `e` of the normalised row carried back to the row: closed form, and the chain rule's. -/
def back (k : Fin 4096) : EReal := rr h * (e k - nn h k * Ideal.div (∑ k, e k * nn h k) len)
def rw_ : EReal := Ideal.div ((∑ k, h k * e k) * (Ideal.ofBits .f32 0xBF000000#32 * Ideal.div (rr h) (ms h))) len
def rback (k : Fin 4096) : EReal := e k * rr h + h k * rw_ h e + rw_ h e * h k

/-- The gradient of the row, in both forms. -/
def dh (k : Fin 4096) : EReal := back h (fun k => dy h g t k * g k) k
def rdh (k : Fin 4096) : EReal := rback h (fun k => rdy h g t k * g k) k

theorem nn_coe (h : Fin 4096 → ℝ) (k : Fin 4096) : ∃ y : ℝ, nn (fun k => (h k : EReal)) k = (y : EReal) := by
  have hv := Cert.RmsMath.mean_pos h (n := 4096) (by norm_num)
  unfold nn rr ms len
  simp only [lit_4096, lit_eps, mul, sum, div _ (show (4096 : ℝ) ≠ 0 by norm_num), add, rsqrt hv]
  exact ⟨_, rfl⟩

theorem er_coe (h g t : Fin 4096 → ℝ) (k : Fin 4096) :
    ∃ y : ℝ, er (fun k => (h k : EReal)) (fun k => (g k : EReal)) (fun k => (t k : EReal)) k = (y : EReal) := by
  obtain ⟨y, hy⟩ := nn_coe h k
  exact ⟨y * g k - t k, by unfold er; rw [hy, mul, sub]⟩

theorem ls_coe (h g t : Fin 4096 → ℝ) :
    ∃ y : ℝ, ls (fun k => (h k : EReal)) (fun k => (g k : EReal)) (fun k => (t k : EReal)) = (y : EReal) := by
  choose y hy using er_coe h g t
  unfold ls len
  simp only [hy, lit_4096, mul, sum, div _ (show (4096 : ℝ) ≠ 0 by norm_num)]
  exact ⟨_, rfl⟩

/-- The cotangent of the error is a real number, the same in both forms. -/
theorem dy_coe (h g t : Fin 4096 → ℝ) (k : Fin 4096) :
    ∃ y : ℝ, dy (fun k => (h k : EReal)) (fun k => (g k : EReal)) (fun k => (t k : EReal)) k = (y : EReal)
      ∧ rdy (fun k => (h k : EReal)) (fun k => (g k : EReal)) (fun k => (t k : EReal)) k = (y : EReal) := by
  obtain ⟨y, hy⟩ := er_coe h g t k
  refine ⟨y * (1 / 4096), ?_, ?_⟩
  · unfold dy; rw [hy, lit_inv, mul]
  · unfold rdy len
    rw [hy, mul_one, lit_half, lit_two, lit_4096, div _ (show (4096 : ℝ) ≠ 0 by norm_num), mul, mul]
    congr 1
    ring

theorem back_eq (h e : Fin 4096 → ℝ) (k : Fin 4096) :
    rback (fun k => (h k : EReal)) (fun k => (e k : EReal)) k = back (fun k => (h k : EReal)) (fun k => (e k : EReal)) k := by
  unfold rback rw_ back nn rr ms len
  rw [lit_4096, lit_eps, lit_neg_half]
  exact Cert.RmsMath.row_ext h e k

/-- On real rows the two forms of the row's gradient agree. -/
theorem dh_eq (h g t : Fin 4096 → ℝ) (k : Fin 4096) :
    rdh (fun k => (h k : EReal)) (fun k => (g k : EReal)) (fun k => (t k : EReal)) k
      = dh (fun k => (h k : EReal)) (fun k => (g k : EReal)) (fun k => (t k : EReal)) k := by
  choose y hy hy' using dy_coe h g t
  unfold rdh dh
  simp only [hy, hy', mul]
  exact back_eq h _ k

/-- Halving commutes with summing real numbers. -/
theorem half_sum {ι : Type*} [Fintype ι] (f : ι → EReal) (hf : ∀ i, ∃ y : ℝ, f i = (y : EReal)) : half * ∑ i, f i = ∑ i, half * f i := by
  choose y hy using hf
  simp only [hy, lit_half, mul, sum]
  rw [EReal.coe_eq_coe_iff, Finset.mul_sum]

end Cert.FinalMath

end
-- ==== Proof.FinalKernel.lean ====
module

public import Idealize.ShloMosaic.Lib.Pipeline.ValueKit
public import Idealize.ShloMosaic.Lib.Pointwise
public import Idealize.ShloMosaic.Lib.Claim
public import proofs.«01_k».proof.Proof.Gen.FinalBwdIdeal.Value
public import proofs.«01_k».proof.Proof.FinalMath

@[expose] public section

set_option maxRecDepth 16384

noncomputable section

/-! What the six results of the loss and its gradient hold after the kernel's run. -/

namespace Cert.FinalBwdIdeal.Val

open Cert.FinalBwdIdeal Cert.FinalBwdIdeal.Gen Idealize.ShloMosaic Idealize.ShloMosaic.TcCoe Idealize.SL.Sem
open Cert.FinalMath
open Cert.LnMath (sg)

section
variable (x0 x1 : FVec Ideal S4096x4096 .f32) (x2 : FVec Ideal S1x4096 .f32) (x3 : FVec Ideal S4096x4096 .f32)
  (x4 : FVec Ideal S1x4096 .f32) (x5 : FVec Ideal S4096x4096 .f32)

/-- The gate, the gated embedding's row added to the residual, the embedding's row, the gain and the target's row. -/
def gt (a k : Fin 4096) : EReal := sg (x1 (ix2 a k) + x2 (ix2 0 k))
def H (a k : Fin 4096) : EReal := x0 (ix2 a k) + gt x1 x2 a k * x3 (ix2 a k)
def P (a k : Fin 4096) : EReal := x3 (ix2 a k)
def G (k : Fin 4096) : EReal := x4 (ix2 0 k)
def Tg (a k : Fin 4096) : EReal := x5 (ix2 a k)

/-- The results: the gradients of the residual, of the embedding and of the gate's input, the loss, and the gradients of
    the gain and of the gate's bias. -/
def rh (a k : Fin 4096) : EReal := dh (H x0 x1 x2 x3 a) (G x4) (Tg x5 a) k
def rp (a k : Fin 4096) : EReal := rh x0 x1 x2 x3 x4 x5 a k * gt x1 x2 a k
def rl (a k : Fin 4096) : EReal := rh x0 x1 x2 x3 x4 x5 a k * P x3 a k * gt x1 x2 a k * (1 - gt x1 x2 a k)
def loss (q : Fin 64) : EReal := half * ∑ r : Fin 64, ls (H x0 x1 x2 x3 ⟨64 * q.val + r.val, by omega⟩) (G x4) (Tg x5 ⟨64 * q.val + r.val, by omega⟩)
def rg (k : Fin 4096) : EReal := ∑ a : Fin 4096, dy (H x0 x1 x2 x3 a) (G x4) (Tg x5 a) k * nn (H x0 x1 x2 x3 a) k
def rb (k : Fin 4096) : EReal := ∑ a : Fin 4096, rl x0 x1 x2 x3 x4 x5 a k
end

section
variable (h : FVec Ideal S64x4096 .f32) (g : FVec Ideal S1x4096 .f32) (t : FVec Ideal S64x4096 .f32)
  (gate pe : FVec Ideal S64x4096 .bf16) (r : Fin 64) (k : Fin 4096)

/-- The row the body works on, its gain and target. -/
abbrev bh (k : Fin 4096) : EReal := h (ix2 r k)
abbrev bg (k : Fin 4096) : EReal := g (ix2 0 k)
abbrev bt (k : Fin 4096) : EReal := t (ix2 r k)

theorem pay13 : k0_pay13 (F := Ideal) h (ix2 r k) = nn (bh h r) k := by
  pointwise [k0_pay13, k0_pay12, k0_pay11, nn, rr, ms]

theorem pay14 : k0_pay14 (F := Ideal) h g t (ix2 r k) = er (bh h r) (bg g) (bt t r) k := by
  pointwise [k0_pay14, k0_pay13, k0_pay12, k0_pay11, er, nn, rr, ms]

theorem pay16 : k0_pay16 (F := Ideal) h g t (ix2 r k) = dy (bh h r) (bg g) (bt t r) k := by
  unfold dy
  rw [← pay14]
  pointwise [k0_pay16]

theorem pay17 : k0_pay17 (F := Ideal) h g t (ix2 r k) = dh (bh h r) (bg g) (bt t r) k := by
  unfold dh back
  simp only [← pay16, ← pay13]
  pointwise [k0_pay17, k0_pay12, k0_pay11, rr, ms]

theorem pay2 : k0_pay2 (F := Ideal) (k0_pay17 h g t) gate (ix2 r k) = dh (bh h r) (bg g) (bt t r) k * gate (ix2 r k) := by
  rw [← pay17]
  pointwise [k0_pay2, k0_pay1]

theorem pay3 : k0_pay3 (F := Ideal) (k0_pay17 h g t) gate pe (ix2 r k)
    = dh (bh h r) (bg g) (bt t r) k * pe (ix2 r k) * gate (ix2 r k) * (1 - gate (ix2 r k)) := by
  rw [← pay17]
  pointwise [k0_pay3, k0_pay1]

theorem pay4 : k0_pay4 (F := Ideal) (k0_pay17 h g t) gate pe (ix2 r k)
    = dh (bh h r) (bg g) (bt t r) k * pe (ix2 r k) * gate (ix2 r k) * (1 - gate (ix2 r k)) := by
  rw [← pay3]
  pointwise [k0_pay4]

/-- A block's shares of the loss and of the two column sums. -/
theorem pay15 (z : S1x1.Idx) : k0_pay15 (F := Ideal) h g t z = half * ∑ r : Fin 64, ls (bh h r) (bg g) (bt t r) := by
  unfold ls
  simp only [← pay14]
  pointwise [k0_pay15]

theorem pay5 : k0_pay5 (F := Ideal) (k0_pay13 h) (k0_pay16 h g t) (ix2 0 k) = ∑ r : Fin 64, dy (bh h r) (bg g) (bt t r) k * nn (bh h r) k := by
  simp only [← pay16, ← pay13]
  pointwise [k0_pay5]

theorem pay6 : k0_pay6 (F := Ideal) (k0_pay17 h g t) gate pe (ix2 0 k)
    = ∑ r : Fin 64, dh (bh h r) (bg g) (bt t r) k * pe (ix2 r k) * gate (ix2 r k) * (1 - gate (ix2 r k)) := by
  simp only [← pay3]
  pointwise [k0_pay6]
end

variable (m : (ℓ : Loc nD τ sig) → Buf (Elt Ideal) ℓ) (c : Dev nD)

/-- The results' formulas at the launch's arguments. -/
abbrev mgt (a k : Fin 4096) : EReal := gt (m ((c : Thread nD τ).loc main_arg1)) (m ((c : Thread nD τ).loc main_arg2)) a k
abbrev MH (a k : Fin 4096) : EReal := H (m ((c : Thread nD τ).loc main_arg0)) (m ((c : Thread nD τ).loc main_arg1)) (m ((c : Thread nD τ).loc main_arg2)) (m ((c : Thread nD τ).loc main_arg3)) a k
abbrev MP (a k : Fin 4096) : EReal := P (m ((c : Thread nD τ).loc main_arg3)) a k
abbrev MG (k : Fin 4096) : EReal := G (m ((c : Thread nD τ).loc main_arg4)) k
abbrev MT (a k : Fin 4096) : EReal := Tg (m ((c : Thread nD τ).loc main_arg5)) a k
abbrev mrh (a k : Fin 4096) : EReal := rh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a k
abbrev mrp (a k : Fin 4096) : EReal := rp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a k
abbrev mrl (a k : Fin 4096) : EReal := rl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) a k
abbrev mloss (q : Fin 64) : EReal := loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q
abbrev mrg (k : Fin 4096) : EReal := rg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k
abbrev mrb (k : Fin 4096) : EReal := rb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) k

/-- What the host hands to the kernel: the gated sum, the gate and the embedding. -/
theorem V_v9 (a k : Fin 4096) : (V m c main_v9 : FVec Ideal S4096x4096 .f32) (ix2 a k) = MH m c a k := by
  unfold V
  simp only [hostOps0, List.flatten_cons, List.flatten_nil, List.append_nil, List.cons_append, List.nil_append]
  after_results
  pointwise [H, gt, sg]

theorem V_v10 (a k : Fin 4096) : (V m c main_v10 : FVec Ideal S4096x4096 .bf16) (ix2 a k) = mgt m c a k := by
  unfold V
  simp only [hostOps0, List.flatten_cons, List.flatten_nil, List.append_nil, List.cons_append, List.nil_append]
  after_results
  pointwise [gt, sg]

theorem V_v11 (a k : Fin 4096) : (V m c main_v11 : FVec Ideal S4096x4096 .bf16) (ix2 a k) = MP m c a k := by
  unfold V
  simp only [hostOps0, List.flatten_cons, List.flatten_nil, List.append_nil, List.cons_append, List.nil_append]
  after_results
  pointwise [P]

/-- Every window's block at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

/-- Row `r` of the block of grid point `t`. -/
def row (t : Fin cfg0.N) (r : Fin 64) : Fin 4096 := ⟨64 * t.val + r.val, by have := t.isLt.trans_eq N_0; omega⟩

theorem blk0 (t : Fin cfg0.N) (r : Fin 64) (k : Fin 4096) : (iblk m c 0 t : FVec Ideal S64x4096 .f32) (ix2 r k) = MH m c (row t r) k := by
  rw [← V_v9 m c]
  blk_point [iblk, idx t, row]

theorem blk1 (t : Fin cfg0.N) (r : Fin 64) (k : Fin 4096) : (iblk m c 1 t : FVec Ideal S64x4096 .f32) (ix2 r k) = MT m c (row t r) k := by
  blk_point [iblk, V, idx t, row, Tg]

theorem blk2 (t : Fin cfg0.N) (r : Fin 64) (k : Fin 4096) : (iblk m c 2 t : FVec Ideal S64x4096 .bf16) (ix2 r k) = mgt m c (row t r) k := by
  rw [← V_v10 m c]
  blk_point [iblk, idx t, row]

theorem blk3 (t : Fin cfg0.N) (r : Fin 64) (k : Fin 4096) : (iblk m c 3 t : FVec Ideal S64x4096 .bf16) (ix2 r k) = MP m c (row t r) k := by
  rw [← V_v11 m c]
  blk_point [iblk, idx t, row]

theorem blk4 (t : Fin cfg0.N) (k : Fin 4096) : (iblk m c 4 t : FVec Ideal S1x4096 .f32) (ix2 0 k) = MG m c k := by
  blk_point [iblk, V, idx t, G]

theorem hb (t : Fin cfg0.N) (r : Fin 64) : bh (iblk m c 0 t) r = MH m c (row t r) := funext fun k => blk0 m c t r k
theorem tb (t : Fin cfg0.N) (r : Fin 64) : bt (iblk m c 1 t) r = MT m c (row t r) := funext fun k => blk1 m c t r k
theorem gb (t : Fin cfg0.N) : bg (iblk m c 4 t) = MG m c := funext fun k => blk4 m c t k

/-- A grid point's gradient of its rows, before it is stored. -/
abbrev g17 (t : Fin cfg0.N) : FVec Ideal S64x4096 .f32 := k0_pay17 (F := Ideal) (iblk m c 0 t) (iblk m c 4 t) (iblk m c 1 t)

/-- The blocks of the three row results a grid point leaves. -/
theorem outs (t : Fin cfg0.N) : (outsAt0 m c t.val t.isLt).1 = g17 m c t
    ∧ (outsAt0 m c t.val t.isLt).2.1 = k0_pay2 (F := Ideal) (g17 m c t) (iblk m c 2 t)
    ∧ (outsAt0 m c t.val t.isLt).2.2.1 = k0_pay4 (F := Ideal) (g17 m c t) (iblk m c 2 t) (iblk m c 3 t) := by
  have hN : t.val < 64 := lt_of_lt_of_eq t.isLt N_0
  by_cases h0 : t.val % 64 = 0
  · rw [outsAt0_A m c t h0 (by omega)]; refine ⟨?_, ?_, ?_⟩ <;> frame_out
  · rw [outsAt0_B m c t h0 (by omega)]; refine ⟨?_, ?_, ?_⟩ <;> frame_out

theorem point5 (t : Fin cfg0.N) (r : Fin 64) (k : Fin 4096) : (outsAt0 m c t.val t.isLt).1 (ix2 r k) = mrh m c (row t r) k := by
  rw [(outs m c t).1, g17, pay17, hb, tb, gb]
  rfl

theorem point6 (t : Fin cfg0.N) (r : Fin 64) (k : Fin 4096) : (outsAt0 m c t.val t.isLt).2.1 (ix2 r k) = mrp m c (row t r) k := by
  rw [(outs m c t).2.1, pay2, hb, tb, gb, blk2]
  rfl

theorem point7 (t : Fin cfg0.N) (r : Fin 64) (k : Fin 4096) : (outsAt0 m c t.val t.isLt).2.2.1 (ix2 r k) = mrl m c (row t r) k := by
  rw [(outs m c t).2.2, pay4, hb, tb, gb, blk2, blk3]
  rfl

/-- The kernel's first result. -/
theorem final5 : (dats m 0 c).arrAt 5 cfg0.N = (fun i => mrh m c (i 0) (i 1) : FVec Ideal S4096x4096 .f32) := by
  refine (dats m 0 c).arrAt_eq_of_covers 5 _ (by decide +kernel) fun t _ y => ?_
  blk_simp
  rw [after0_5]
  obtain ⟨r, k, rfl⟩ : ∃ (r : Fin 64) (k : Fin 4096), (y : S64x4096.Idx) = ix2 r k := ⟨y 0, y 1, by blk_ext []⟩
  refine (point5 m c t r k).trans ?_
  have e : ((cfg0.win 5).blk t).view.emb (ix2 r k : S64x4096.Idx) = (ix2 (row t r) k : S4096x4096.Idx) := by blk_ext [idx t, row]
  rw [e]
  rfl

/-- The kernel's second result. -/
theorem final6 : (dats m 0 c).arrAt 6 cfg0.N = (fun i => mrp m c (i 0) (i 1) : FVec Ideal S4096x4096 .bf16) := by
  refine (dats m 0 c).arrAt_eq_of_covers 6 _ (by decide +kernel) fun t _ y => ?_
  blk_simp
  rw [after0_6]
  obtain ⟨r, k, rfl⟩ : ∃ (r : Fin 64) (k : Fin 4096), (y : S64x4096.Idx) = ix2 r k := ⟨y 0, y 1, by blk_ext []⟩
  refine (point6 m c t r k).trans ?_
  have e : ((cfg0.win 6).blk t).view.emb (ix2 r k : S64x4096.Idx) = (ix2 (row t r) k : S4096x4096.Idx) := by blk_ext [idx t, row]
  rw [e]
  rfl

/-- The kernel's third result. -/
theorem final7 : (dats m 0 c).arrAt 7 cfg0.N = (fun i => mrl m c (i 0) (i 1) : FVec Ideal S4096x4096 .bf16) := by
  refine (dats m 0 c).arrAt_eq_of_covers 7 _ (by decide +kernel) fun t _ y => ?_
  blk_simp
  rw [after0_7]
  obtain ⟨r, k, rfl⟩ : ∃ (r : Fin 64) (k : Fin 4096), (y : S64x4096.Idx) = ix2 r k := ⟨y 0, y 1, by blk_ext []⟩
  refine (point7 m c t r k).trans ?_
  have e : ((cfg0.win 7).blk t).view.emb (ix2 r k : S64x4096.Idx) = (ix2 (row t r) k : S4096x4096.Idx) := by blk_ext [idx t, row]
  rw [e]
  rfl

/-- A sum over grid points and block rows is a sum over all rows. -/
theorem rows (f : Fin 4096 → EReal) : ∑ t : Fin cfg0.N, ∑ r : Fin 64, f (row t r) = ∑ a : Fin 4096, f a :=
  Fin.sum_mul_add_congr (S := 64) (n := 64) fun t a hl => congrArg f (Fin.ext (by simp only [row]; omega))

/-- A grid point's shares of the three accumulated results, as they are stored. -/
def term8 (t : Fin cfg0.N) : FVec Ideal S1x128 .f32 := k0_pay7 (F := Ideal) (k0_pay15 (iblk m c 0 t) (iblk m c 4 t) (iblk m c 1 t))
def term9 (t : Fin cfg0.N) : FVec Ideal S1x4096 .f32 := k0_pay5 (F := Ideal) (k0_pay13 (iblk m c 0 t)) (k0_pay16 (iblk m c 0 t) (iblk m c 4 t) (iblk m c 1 t))
def term10 (t : Fin cfg0.N) : FVec Ideal S1x4096 .f32 := k0_pay6 (F := Ideal) (g17 m c t) (iblk m c 2 t) (iblk m c 3 t)

theorem sum8 (k : Fin 128) : (∑ t : Fin cfg0.N, term8 m c t (ix2 0 k) : EReal) = ∑ q : Fin 64, mloss m c q := by
  have h : ∀ t : Fin cfg0.N, (term8 m c t (ix2 0 k) : EReal) = mloss m c (Fin.cast N_0 t) := fun t => by
    have e : term8 m c t (ix2 0 k) = k0_pay15 (F := Ideal) (iblk m c 0 t) (iblk m c 4 t) (iblk m c 1 t) (ix2 0 0) := by pointwise [term8, k0_pay7]
    rw [e, pay15, gb]
    simp only [hb, tb]
    rfl
  rw [Finset.sum_congr rfl fun t _ => h t]
  exact Fintype.sum_equiv (finCongr N_0) _ _ fun t => rfl

theorem sum9 (k : Fin 4096) : (∑ t : Fin cfg0.N, term9 m c t (ix2 0 k) : EReal) = mrg m c k := by
  refine Eq.trans (Finset.sum_congr rfl fun t _ => ?_) (rows _)
  unfold term9
  rw [pay5]
  refine Finset.sum_congr rfl fun r _ => ?_
  rw [hb, tb, gb]

theorem sum10 (k : Fin 4096) : (∑ t : Fin cfg0.N, term10 m c t (ix2 0 k) : EReal) = mrb m c k := by
  refine Eq.trans (Finset.sum_congr rfl fun t _ => ?_) (rows _)
  unfold term10
  rw [pay6]
  refine Finset.sum_congr rfl fun r _ => ?_
  rw [hb, tb, gb, blk2, blk3]
  rfl

/-- The kernel's fourth result. -/
theorem final8 : (dats m 0 c).arrAt 8 cfg0.N = (fun i => ∑ q : Fin 64, mloss m c q : FVec Ideal S1x128 .f32) := by
  refine (dats m 0 c).arrAt_eq_of_covers 8 _ (by decide +kernel) fun t hf y => ?_
  have hN : t.val < 64 := lt_of_lt_of_eq t.isLt N_0
  have hl := (flush0_8 t).mp hf
  blk_simp
  obtain ⟨k, rfl⟩ : ∃ k : Fin 128, (y : S1x128.Idx) = ix2 0 k := ⟨y 1, by blk_ext []⟩
  rw [after0_8, Pipeline.eq_sum_fin_of_reset_step_apply_last (fun n h => (outsAt0 m c n h).2.2.2.1) 64 (fun _ => 0)
    (term8 m c)
    (fun t h j => by
      have hN : t.val < 64 := lt_of_lt_of_eq t.isLt N_0
      rw [outsAt0_A m c t h (by omega)]; frame_out; rw [zero_add]; rfl)
    (fun t h j => by
      rw [outsAt0_B m c t h (by omega)]; frame_out; pointwise [term8, k0_pay8, k0_pay7])
    (le_of_eq N_0) t (Eq.trans (by omega : t.val + 1 = 64) N_0.symm) _, zero_add]
  exact sum8 m c k

/-- The kernel's fifth result. -/
theorem final9 : (dats m 0 c).arrAt 9 cfg0.N = (fun i => mrg m c (i 1) : FVec Ideal S1x4096 .f32) := by
  refine (dats m 0 c).arrAt_eq_of_covers 9 _ (by decide +kernel) fun t hf y => ?_
  have hN : t.val < 64 := lt_of_lt_of_eq t.isLt N_0
  have hl := (flush0_9 t).mp hf
  blk_simp
  obtain ⟨k, rfl⟩ : ∃ k : Fin 4096, (y : S1x4096.Idx) = ix2 0 k := ⟨y 1, by blk_ext []⟩
  rw [after0_9, Pipeline.eq_sum_fin_of_reset_step_apply_last (fun n h => (outsAt0 m c n h).2.2.2.2.1) 64 (fun _ => 0)
    (term9 m c)
    (fun t h j => by
      have hN : t.val < 64 := lt_of_lt_of_eq t.isLt N_0
      rw [outsAt0_A m c t h (by omega)]; frame_out; rw [zero_add]; rfl)
    (fun t h j => by
      rw [outsAt0_B m c t h (by omega)]; frame_out; pointwise [term9, k0_pay9])
    (le_of_eq N_0) t (Eq.trans (by omega : t.val + 1 = 64) N_0.symm) _, zero_add]
  have e : ((cfg0.win 9).blk t).view.emb (ix2 0 k : S1x4096.Idx) = (ix2 0 k : S1x4096.Idx) := by blk_ext [idx t]
  rw [e]
  exact sum9 m c k

/-- The kernel's sixth result. -/
theorem final10 : (dats m 0 c).arrAt 10 cfg0.N = (fun i => mrb m c (i 1) : FVec Ideal S1x4096 .f32) := by
  refine (dats m 0 c).arrAt_eq_of_covers 10 _ (by decide +kernel) fun t hf y => ?_
  have hN : t.val < 64 := lt_of_lt_of_eq t.isLt N_0
  have hl := (flush0_10 t).mp hf
  blk_simp
  obtain ⟨k, rfl⟩ : ∃ k : Fin 4096, (y : S1x4096.Idx) = ix2 0 k := ⟨y 1, by blk_ext []⟩
  rw [after0_10, Pipeline.eq_sum_fin_of_reset_step_apply_last (fun n h => (outsAt0 m c n h).2.2.2.2.2) 64 (fun _ => 0)
    (term10 m c)
    (fun t h j => by
      have hN : t.val < 64 := lt_of_lt_of_eq t.isLt N_0
      rw [outsAt0_A m c t h (by omega)]; frame_out; rw [zero_add]; rfl)
    (fun t h j => by
      rw [outsAt0_B m c t h (by omega)]; frame_out; pointwise [term10, k0_pay10])
    (le_of_eq N_0) t (Eq.trans (by omega : t.val + 1 = 64) N_0.symm) _, zero_add]
  have e : ((cfg0.win 10).blk t).view.emb (ix2 0 k : S1x4096.Idx) = (ix2 0 k : S1x4096.Idx) := by blk_ext [idx t]
  rw [e]
  exact sum10 m c k

end Cert.FinalBwdIdeal.Val

end
-- ==== Proof.FinalRead.lean ====
module

public import Idealize.ShloMosaic.Lib.Pipeline.ValueKit
public import Idealize.ShloMosaic.Lib.Pointwise
public import Idealize.ShloMosaic.Lib.Claim
public import proofs.«01_k».proof.Proof.FinalKernel
public import proofs.«01_k».proof.Proof.Gen.FinalRefIdeal.Read
public import proofs.«01_k».proof.Proof.Gen.Pre_final_finite

@[expose] public section

set_option maxRecDepth 16384

noncomputable section

/-! The reference's formulas for the loss and its gradient, and their agreement with the kernel's on finite arguments. -/

namespace Cert.FinalRead

open Idealize.ShloMosaic Cert.FinalRefIdeal Cert.FinalRefIdeal.Read Cert.Lift Cert.FinalMath
open Cert.LnMath (sg sg_coe)
open Cert.FinalBwdIdeal.Val (gt H P G Tg rh rp rl loss rg rb)

variable (x0 x1 : FVec Ideal S4096x4096 .f32) (x2 : FVec Ideal S1x4096 .f32) (x3 : FVec Ideal S4096x4096 .f32)
  (x4 : FVec Ideal S1x4096 .f32) (x5 : FVec Ideal S4096x4096 .f32)

theorem at54 (i : S4096.Idx) (k : Fin 4096) : idx_main_v54 (idx_main_v55 (idx_main_v61 i 0)) k = ix2 (i 0) k := by blk_ext []
theorem at48 (i : S1x4096.Idx) (a : Fin 4096) : idx_main_v48 (idx_main_v49 (idx_main_v52 (idx_main_v67 i) 0)) a = ix2 a (i 1) := by blk_ext []
theorem at71 (i : S1x4096.Idx) (a : Fin 4096) : idx_main_v71 (idx_main_v72 (idx_main_v73 (idx_main_v74 i) 0)) a = ix2 a (i 1) := by blk_ext []

theorem at_x0 (i : S4096x4096.Idx) : x0 i = P x0 (i 0) (i 1) := by unfold P; blk_point []

theorem read_g (i : S4096x4096.Idx) : val_main_v9 (F := Ideal) x1 x2 i = gt x1 x2 (i 0) (i 1) := by
  pointwise [val_main_v9_apply, val_main_v8_apply, val_main_v7_apply, val_main_v6_apply, val_main_v5_apply, val_main_v4_apply, val_main_v3_apply, val_main_v2_apply, val_main_v1_apply, val_main_v0_apply, val_main_cst_apply, val_main_cst_0_apply, gt, sg]
  blk_point []

theorem read_h (i : S4096x4096.Idx) : val_main_v14 (F := Ideal) x0 x1 x2 x3 i = H x0 x1 x2 x3 (i 0) (i 1) := by
  pointwise [val_main_v14_apply, val_main_v13_apply, read_g, H]

theorem read_ms (i : S4096x1.Idx) : val_main_v22 (F := Ideal) x0 x1 x2 x3 i = ms (H x0 x1 x2 x3 (i 0)) := by
  pointwise [val_main_v22_apply, val_main_v21_apply, val_main_v20_apply, val_main_v19_apply, val_main_v18_apply, val_main_v17_apply, val_main_v16_apply, val_main_cst_2_apply, val_main_cst_3_apply, val_main_cst_4_apply, read_h, ms]
  rfl

theorem read_rr (i : S4096x1.Idx) : val_main_v23 (F := Ideal) x0 x1 x2 x3 i = rr (H x0 x1 x2 x3 (i 0)) := by
  pointwise [val_main_v23_apply, read_ms, rr]

theorem read_nn (i : S4096x4096.Idx) : val_main_v28 (F := Ideal) x0 x1 x2 x3 i = nn (H x0 x1 x2 x3 (i 0)) (i 1) := by
  pointwise [val_main_v28_apply, val_main_v27_apply, read_h, read_rr, nn]
  rfl

theorem read_er (i : S4096x4096.Idx) : val_main_v32 (F := Ideal) x0 x1 x2 x3 x4 x5 i = er (H x0 x1 x2 x3 (i 0)) (G x4) (Tg x5 (i 0)) (i 1) := by
  pointwise [val_main_v32_apply, val_main_v31_apply, val_main_v30_apply, val_main_v29_apply, val_main_v15_apply, read_nn, er, G, Tg]
  blk_point []

theorem read_ls (i : S4096.Idx) : val_main_v38 (F := Ideal) x0 x1 x2 x3 x4 x5 i = ls (H x0 x1 x2 x3 (i 0)) (G x4) (Tg x5 (i 0)) := by
  pointwise [val_main_v38_apply, val_main_v37_apply, val_main_v36_apply, val_main_v33_apply, val_main_cst_7_apply, val_main_cst_8_apply, read_er, ls]
  rfl

theorem read_dy (i : S4096x4096.Idx) : val_main_v46 (F := Ideal) x0 x1 x2 x3 x4 x5 i = rdy (H x0 x1 x2 x3 (i 0)) (G x4) (Tg x5 (i 0)) (i 1) := by
  pointwise [val_main_v46_apply, val_main_v45_apply, val_main_v44_apply, val_main_v43_apply, val_main_v42_apply, val_main_v41_apply, val_main_v35_apply, val_main_v34_apply, val_main_cst_6_apply, val_main_cst_11_apply, val_main_cst_12_apply, val_main_cst_13_apply, read_er, rdy]

theorem read_dx (i : S4096x4096.Idx) : val_main_v51 (F := Ideal) x0 x1 x2 x3 x4 x5 i = rdy (H x0 x1 x2 x3 (i 0)) (G x4) (Tg x5 (i 0)) (i 1) * G x4 (i 1) := by
  pointwise [val_main_v51_apply, val_main_v50_apply, val_main_v29_apply, val_main_v15_apply, read_dy, G]
  blk_point []

/-- The chain rule's gradient of the residual. -/
abbrev crh (a k : Fin 4096) : EReal := rdh (H x0 x1 x2 x3 a) (G x4) (Tg x5 a) k

theorem read_w (i : S4096.Idx) : val_main_v61 (F := Ideal) x0 x1 x2 x3 x4 x5 i
    = rw_ (H x0 x1 x2 x3 (i 0)) (fun k => rdy (H x0 x1 x2 x3 (i 0)) (G x4) (Tg x5 (i 0)) k * G x4 k) := by
  pointwise [val_main_v61_apply, val_main_v60_apply, val_main_v59_apply, val_main_v58_apply, val_main_v55_apply, val_main_v54_apply, val_main_v53_apply, val_main_v26_apply, val_main_v25_apply, val_main_v24_apply, val_main_cst_5_apply, val_main_cst_16_apply, val_main_cst_17_apply, val_main_cst_18_apply, read_dx, read_h, read_rr, read_ms, rw_]
  simp only [Fin.sum_univ_one]
  refine congrArg (fun z => Ideal.div (z * _) len) (Finset.sum_congr rfl fun k _ => ?_)
  rw [at54]
  rfl

theorem read_dh (i : S4096x4096.Idx) : val_main_v66 (F := Ideal) x0 x1 x2 x3 x4 x5 i = crh x0 x1 x2 x3 x4 x5 (i 0) (i 1) := by
  pointwise [val_main_v66_apply, val_main_v65_apply, val_main_v64_apply, val_main_v63_apply, val_main_v62_apply, val_main_v57_apply, val_main_v56_apply, read_dx, read_h, read_rr, read_w, rdh, rback]
  rfl

theorem read_dp (i : S4096x4096.Idx) : val_main_v75 (F := Ideal) x0 x1 x2 x3 x4 x5 i = gt x1 x2 (i 0) (i 1) * crh x0 x1 x2 x3 x4 x5 (i 0) (i 1) := by
  pointwise [val_main_v75_apply, val_main_v68_apply, read_g, read_dh]

theorem read_d70 (i : S4096x4096.Idx) : val_main_v70 (F := Ideal) x0 x1 x2 x3 x4 x5 i
    = crh x0 x1 x2 x3 x4 x5 (i 0) (i 1) * P x3 (i 0) (i 1) * (gt x1 x2 (i 0) (i 1) * (1 - gt x1 x2 (i 0) (i 1))) := by
  pointwise [val_main_v70_apply, val_main_v69_apply, val_main_v12_apply, val_main_v11_apply, val_main_v10_apply, val_main_cst_1_apply, read_g, read_dh]
  rw [at_x0 x3 i]

theorem read_dl (i : S4096x4096.Idx) : val_main_v76 (F := Ideal) x0 x1 x2 x3 x4 x5 i
    = crh x0 x1 x2 x3 x4 x5 (i 0) (i 1) * P x3 (i 0) (i 1) * (gt x1 x2 (i 0) (i 1) * (1 - gt x1 x2 (i 0) (i 1))) := by
  pointwise [val_main_v76_apply, read_d70]

theorem read_loss (i : S1x128.Idx) : val_main_v77 (F := Ideal) x0 x1 x2 x3 x4 x5 i = half * ∑ a : Fin 4096, ls (H x0 x1 x2 x3 a) (G x4) (Tg x5 a) := by
  pointwise [val_main_v77_apply, val_main_v40_apply, val_main_v39_apply, val_main_cst_9_apply, val_main_cst_10_apply, read_ls]
  rfl

theorem read_dg (i : S1x4096.Idx) : val_main_v67 (F := Ideal) x0 x1 x2 x3 x4 x5 i
    = ∑ a : Fin 4096, nn (H x0 x1 x2 x3 a) (i 1) * rdy (H x0 x1 x2 x3 a) (G x4) (Tg x5 a) (i 1) := by
  pointwise [val_main_v67_apply, val_main_v52_apply, val_main_v49_apply, val_main_v48_apply, val_main_v47_apply, val_main_cst_14_apply, val_main_cst_15_apply, read_dy, read_nn]
  simp only [Fin.sum_univ_one]
  refine Finset.sum_congr rfl fun a _ => ?_
  rw [at48]
  rfl

theorem read_db (i : S1x4096.Idx) : val_main_v74 (F := Ideal) x0 x1 x2 x3 x4 x5 i
    = ∑ a : Fin 4096, crh x0 x1 x2 x3 x4 x5 a (i 1) * P x3 a (i 1) * (gt x1 x2 a (i 1) * (1 - gt x1 x2 a (i 1))) := by
  pointwise [val_main_v74_apply, val_main_v73_apply, val_main_v72_apply, val_main_v71_apply, val_main_cst_19_apply, val_main_cst_20_apply, read_d70]
  simp only [Fin.sum_univ_one]
  refine Finset.sum_congr rfl fun a _ => ?_
  rw [at71]
  rfl

/-- The precondition at the six arguments. -/
def Admitted : Prop :=
  (Cert.Pre_final_finite.fn (F := Ideal) x0 x1 x2 x3 x4 x5).1 = (fun _ => 1#1)
    ∧ (Cert.Pre_final_finite.fn (F := Ideal) x0 x1 x2 x3 x4 x5).2.1 = (fun _ => 1#1)
    ∧ (Cert.Pre_final_finite.fn (F := Ideal) x0 x1 x2 x3 x4 x5).2.2.1 = (fun _ => 1#1)
    ∧ (Cert.Pre_final_finite.fn (F := Ideal) x0 x1 x2 x3 x4 x5).2.2.2.1 = (fun _ => 1#1)
    ∧ (Cert.Pre_final_finite.fn (F := Ideal) x0 x1 x2 x3 x4 x5).2.2.2.2.1 = (fun _ => 1#1)
    ∧ (Cert.Pre_final_finite.fn (F := Ideal) x0 x1 x2 x3 x4 x5).2.2.2.2.2 = (fun _ => 1#1)

/-- Arrays the precondition admits are arrays of real numbers; so are the rows the norm works on. -/
theorem finite (hp : Admitted x0 x1 x2 x3 x4 x5) (a : Fin 4096) :
    (∃ h : Fin 4096 → ℝ, H x0 x1 x2 x3 a = fun k => (h k : EReal)) ∧ (∃ g : Fin 4096 → ℝ, G x4 = fun k => (g k : EReal))
      ∧ ∃ t : Fin 4096 → ℝ, Tg x5 a = fun k => (t k : EReal) := by
  obtain ⟨h0, h1, h2, h3, h4, h5⟩ := hp
  obtain ⟨y0, rfl⟩ := reals fun i => (by rw [← lit_top]; exact (Ideal.cmp_olt_eq_one _ _).mp (congrFun h0 i))
  obtain ⟨y1, rfl⟩ := reals fun i => (by rw [← lit_top]; exact (Ideal.cmp_olt_eq_one _ _).mp (congrFun h1 i))
  obtain ⟨y2, rfl⟩ := reals fun i => (by rw [← lit_top]; exact (Ideal.cmp_olt_eq_one _ _).mp (congrFun h2 i))
  obtain ⟨y3, rfl⟩ := reals fun i => (by rw [← lit_top]; exact (Ideal.cmp_olt_eq_one _ _).mp (congrFun h3 i))
  obtain ⟨y4, rfl⟩ := reals fun i => (by rw [← lit_top]; exact (Ideal.cmp_olt_eq_one _ _).mp (congrFun h4 i))
  obtain ⟨y5, rfl⟩ := reals fun i => (by rw [← lit_top]; exact (Ideal.cmp_olt_eq_one _ _).mp (congrFun h5 i))
  refine ⟨⟨fun k => y0 (ix2 a k) + 1 / (1 + Real.exp (-(y1 (ix2 a k) + y2 (ix2 0 k)))) * y3 (ix2 a k), funext fun k => ?_⟩,
    ⟨fun k => y4 (ix2 0 k), rfl⟩, ⟨fun k => y5 (ix2 a k), rfl⟩⟩
  unfold H gt
  rw [add (y1 _) (y2 _), sg_coe, mul, add]

variable (hp : Admitted x0 x1 x2 x3 x4 x5)
include hp

theorem agree_h (a k : Fin 4096) : crh x0 x1 x2 x3 x4 x5 a k = rh x0 x1 x2 x3 x4 x5 a k := by
  obtain ⟨⟨h, eh⟩, ⟨g, eg⟩, ⟨t, et⟩⟩ := finite x0 x1 x2 x3 x4 x5 hp a
  unfold crh rh
  rw [eh, eg, et, dh_eq]

theorem agree_y (a k : Fin 4096) : rdy (H x0 x1 x2 x3 a) (G x4) (Tg x5 a) k = dy (H x0 x1 x2 x3 a) (G x4) (Tg x5 a) k := by
  obtain ⟨⟨h, eh⟩, ⟨g, eg⟩, ⟨t, et⟩⟩ := finite x0 x1 x2 x3 x4 x5 hp a
  obtain ⟨y, hy, hy'⟩ := dy_coe h g t k
  rw [eh, eg, et, hy, hy']

theorem agree_s (a : Fin 4096) : ∃ y : ℝ, ls (H x0 x1 x2 x3 a) (G x4) (Tg x5 a) = (y : EReal) := by
  obtain ⟨⟨h, eh⟩, ⟨g, eg⟩, ⟨t, et⟩⟩ := finite x0 x1 x2 x3 x4 x5 hp a
  rw [eh, eg, et]
  exact ls_coe h g t

theorem term_p (a k : Fin 4096) : gt x1 x2 a k * crh x0 x1 x2 x3 x4 x5 a k = rp x0 x1 x2 x3 x4 x5 a k := by
  rw [agree_h x0 x1 x2 x3 x4 x5 hp]
  exact mul_comm _ _

theorem term_l (a k : Fin 4096) : crh x0 x1 x2 x3 x4 x5 a k * P x3 a k * (gt x1 x2 a k * (1 - gt x1 x2 a k)) = rl x0 x1 x2 x3 x4 x5 a k := by
  rw [agree_h x0 x1 x2 x3 x4 x5 hp]
  exact (mul_assoc _ _ _).symm

theorem term_g (a k : Fin 4096) : nn (H x0 x1 x2 x3 a) k * rdy (H x0 x1 x2 x3 a) (G x4) (Tg x5 a) k
    = dy (H x0 x1 x2 x3 a) (G x4) (Tg x5 a) k * nn (H x0 x1 x2 x3 a) k := by
  rw [agree_y x0 x1 x2 x3 x4 x5 hp, mul_comm]

/-- The six results of the reference are the kernel's. -/
theorem res_h (i : S4096x4096.Idx) : val_main_v66 (F := Ideal) x0 x1 x2 x3 x4 x5 i = rh x0 x1 x2 x3 x4 x5 (i 0) (i 1) :=
  (read_dh x0 x1 x2 x3 x4 x5 i).trans (agree_h x0 x1 x2 x3 x4 x5 hp (i 0) (i 1))

theorem res_p (i : S4096x4096.Idx) : val_main_v75 (F := Ideal) x0 x1 x2 x3 x4 x5 i = rp x0 x1 x2 x3 x4 x5 (i 0) (i 1) :=
  (read_dp x0 x1 x2 x3 x4 x5 i).trans (term_p x0 x1 x2 x3 x4 x5 hp (i 0) (i 1))

theorem res_l (i : S4096x4096.Idx) : val_main_v76 (F := Ideal) x0 x1 x2 x3 x4 x5 i = rl x0 x1 x2 x3 x4 x5 (i 0) (i 1) :=
  (read_dl x0 x1 x2 x3 x4 x5 i).trans (term_l x0 x1 x2 x3 x4 x5 hp (i 0) (i 1))

theorem res_loss (i : S1x128.Idx) : val_main_v77 (F := Ideal) x0 x1 x2 x3 x4 x5 i = ∑ q : Fin 64, loss x0 x1 x2 x3 x4 x5 q := by
  refine (read_loss x0 x1 x2 x3 x4 x5 i).trans ((congrArg (half * ·) (Fin.sum_mul_add_congr (S := 64) (n := 64)
    (F := fun (q r : Fin 64) => ls (H x0 x1 x2 x3 ⟨64 * q.val + r.val, by omega⟩) (G x4) (Tg x5 ⟨64 * q.val + r.val, by omega⟩))
    fun q r hl => ?_).symm).trans ?_)
  · have e : (⟨64 * q.val + r.val, by omega⟩ : Fin 4096) = ⟨q.val * 64 + r.val, hl⟩ := Fin.ext (by dsimp only; omega)
    rw [e]
  · refine half_sum _ fun q => ?_
    choose y hy using agree_s x0 x1 x2 x3 x4 x5 hp
    simp only [hy, sum]
    exact ⟨_, rfl⟩

theorem res_g (i : S1x4096.Idx) : val_main_v67 (F := Ideal) x0 x1 x2 x3 x4 x5 i = rg x0 x1 x2 x3 x4 x5 (i 1) :=
  (read_dg x0 x1 x2 x3 x4 x5 i).trans (Finset.sum_congr rfl fun a _ => term_g x0 x1 x2 x3 x4 x5 hp a (i 1))

theorem res_b (i : S1x4096.Idx) : val_main_v74 (F := Ideal) x0 x1 x2 x3 x4 x5 i = rb x0 x1 x2 x3 x4 x5 (i 1) :=
  (read_db x0 x1 x2 x3 x4 x5 i).trans (Finset.sum_congr rfl fun a _ => term_l x0 x1 x2 x3 x4 x5 hp a (i 1))

end Cert.FinalRead

end
-- ==== Proof.Final.lean ====
module

public import proofs.«01_k».proof.Defs
public import proofs.«01_k».proof.Proof.FinalRead
public import proofs.«01_k».proof.Proof.Gen.FinalBwd.Frame
public import proofs.«01_k».proof.Proof.Gen.FinalRefIdeal.Run
public import Idealize.ShloMosaic.Adequacy
public import Idealize.ShloMosaic.Lib.Quiescent
public import Idealize.ShloMosaic.Init

@[expose] public section

set_option maxRecDepth 16384

noncomputable section

/-! The claims about the loss and its gradient, assembled. -/

namespace Cert.Final

open Idealize.ShloMosaic Idealize.SL.Sem Cert.FinalRefIdeal.Read

section
variable (m : (ℓ : Loc Cert.FinalBwdIdeal.nD Cert.FinalBwdIdeal.τ Cert.FinalBwdIdeal.sig) → Buf (Elt Ideal) ℓ) (c : Dev Cert.FinalBwdIdeal.nD)

/-- The reference's six results at the kernel's arguments. -/
abbrev vh := val_main_v66 (F := Ideal) (m (c.tc.loc Cert.FinalBwdIdeal.main_arg0)) (m (c.tc.loc Cert.FinalBwdIdeal.main_arg1)) (m (c.tc.loc Cert.FinalBwdIdeal.main_arg2)) (m (c.tc.loc Cert.FinalBwdIdeal.main_arg3)) (m (c.tc.loc Cert.FinalBwdIdeal.main_arg4)) (m (c.tc.loc Cert.FinalBwdIdeal.main_arg5))
abbrev vp := val_main_v75 (F := Ideal) (m (c.tc.loc Cert.FinalBwdIdeal.main_arg0)) (m (c.tc.loc Cert.FinalBwdIdeal.main_arg1)) (m (c.tc.loc Cert.FinalBwdIdeal.main_arg2)) (m (c.tc.loc Cert.FinalBwdIdeal.main_arg3)) (m (c.tc.loc Cert.FinalBwdIdeal.main_arg4)) (m (c.tc.loc Cert.FinalBwdIdeal.main_arg5))
abbrev vl := val_main_v76 (F := Ideal) (m (c.tc.loc Cert.FinalBwdIdeal.main_arg0)) (m (c.tc.loc Cert.FinalBwdIdeal.main_arg1)) (m (c.tc.loc Cert.FinalBwdIdeal.main_arg2)) (m (c.tc.loc Cert.FinalBwdIdeal.main_arg3)) (m (c.tc.loc Cert.FinalBwdIdeal.main_arg4)) (m (c.tc.loc Cert.FinalBwdIdeal.main_arg5))
abbrev vo := val_main_v77 (F := Ideal) (m (c.tc.loc Cert.FinalBwdIdeal.main_arg0)) (m (c.tc.loc Cert.FinalBwdIdeal.main_arg1)) (m (c.tc.loc Cert.FinalBwdIdeal.main_arg2)) (m (c.tc.loc Cert.FinalBwdIdeal.main_arg3)) (m (c.tc.loc Cert.FinalBwdIdeal.main_arg4)) (m (c.tc.loc Cert.FinalBwdIdeal.main_arg5))
abbrev vg := val_main_v67 (F := Ideal) (m (c.tc.loc Cert.FinalBwdIdeal.main_arg0)) (m (c.tc.loc Cert.FinalBwdIdeal.main_arg1)) (m (c.tc.loc Cert.FinalBwdIdeal.main_arg2)) (m (c.tc.loc Cert.FinalBwdIdeal.main_arg3)) (m (c.tc.loc Cert.FinalBwdIdeal.main_arg4)) (m (c.tc.loc Cert.FinalBwdIdeal.main_arg5))
abbrev vb := val_main_v74 (F := Ideal) (m (c.tc.loc Cert.FinalBwdIdeal.main_arg0)) (m (c.tc.loc Cert.FinalBwdIdeal.main_arg1)) (m (c.tc.loc Cert.FinalBwdIdeal.main_arg2)) (m (c.tc.loc Cert.FinalBwdIdeal.main_arg3)) (m (c.tc.loc Cert.FinalBwdIdeal.main_arg4)) (m (c.tc.loc Cert.FinalBwdIdeal.main_arg5))
end

/-- Over the reals kernel and reference return the same six arrays, whenever the arguments are finite. -/
theorem algebraic : Cert.algebraic_FinalBwdIdeal_FinalRefIdeal_pre_final_finite := by
  intro m g m' g' hp ha
  refine ⟨vh m, vp m, vl m, vo m, vg m, vb m, (θ_run _ _ _).mono (fun r h c => ?_) (Cert.FinalBwdIdeal.Value.run_blocks m g),
    (θ_run _ _ _).mono (fun r h c => ?_) (Cert.FinalRefIdeal.Value.run m' g')⟩
  · obtain ⟨h5, h6, h7, h8, h9, h10, hr⟩ := h c
    refine ⟨?_, ?_, ?_, ?_, ?_, ?_, hr⟩
    · exact h5.trans ((Cert.FinalBwdIdeal.Val.final5 m c).trans (funext fun i => (Cert.FinalRead.res_h _ _ _ _ _ _ (hp c) i).symm))
    · exact h6.trans ((Cert.FinalBwdIdeal.Val.final6 m c).trans (funext fun i => (Cert.FinalRead.res_p _ _ _ _ _ _ (hp c) i).symm))
    · exact h7.trans ((Cert.FinalBwdIdeal.Val.final7 m c).trans (funext fun i => (Cert.FinalRead.res_l _ _ _ _ _ _ (hp c) i).symm))
    · exact h8.trans ((Cert.FinalBwdIdeal.Val.final8 m c).trans (funext fun i => (Cert.FinalRead.res_loss _ _ _ _ _ _ (hp c) i).symm))
    · exact h9.trans ((Cert.FinalBwdIdeal.Val.final9 m c).trans (funext fun i => (Cert.FinalRead.res_g _ _ _ _ _ _ (hp c) i).symm))
    · exact h10.trans ((Cert.FinalBwdIdeal.Val.final10 m c).trans (funext fun i => (Cert.FinalRead.res_b _ _ _ _ _ _ (hp c) i).symm))
  · obtain ⟨h0, h1, h2, h3, h4, h5, hr⟩ := h c
    obtain ⟨a0, a1, a2, a3, a4, a5⟩ := ha c
    refine ⟨?_, ?_, ?_, ?_, ?_, ?_, hr⟩
    · exact h0.trans ((val_main_v66_eq _ _).trans (by rw [a0, a1, a2, a3, a4, a5]))
    · exact h1.trans ((val_main_v75_eq _ _).trans (by rw [a0, a1, a2, a3, a4, a5]))
    · exact h2.trans ((val_main_v76_eq _ _).trans (by rw [a0, a1, a2, a3, a4, a5]))
    · exact h3.trans ((val_main_v77_eq _ _).trans (by rw [a0, a1, a2, a3, a4, a5]))
    · exact h4.trans ((val_main_v67_eq _ _).trans (by rw [a0, a1, a2, a3, a4, a5]))
    · exact h5.trans ((val_main_v74_eq _ _).trans (by rw [a0, a1, a2, a3, a4, a5]))

/-- The reference runs, leaves its arguments alone, and has no semaphore to leave raised. -/
theorem frame_ref : Cert.quiescent_FinalRefIdeal := fun m g _ =>
  (θ_run _ _ _).mono (fun r h => ⟨fun c => (h c).2.2.2.2.2.2, sem_eq_zero_of_no_sems (by decide) r.2⟩) (Cert.FinalRefIdeal.Value.run m g)

/-- The kernel runs and leaves its arguments alone, in machine arithmetic. -/
theorem frame : Cert.quiescent_FinalBwd := fun m g _ => Cert.FinalBwd.Gen.frame m g

/-- The kernel runs and leaves its arguments alone, over the reals. -/
theorem frame_ideal : Cert.quiescent_FinalBwdIdeal := fun m g _ => Cert.FinalBwdIdeal.Gen.frame m g

end Cert.Final

end
-- ==== Proof.RmsFwd.lean ====
module

public import Idealize.ShloMosaic.Lib.Pipeline.ValueKit
public import Idealize.ShloMosaic.Lib.Pointwise
public import Idealize.ShloMosaic.Lib.Claim
public import proofs.«01_k».proof.Defs
public import proofs.«01_k».proof.Proof.FinalMath
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.RmsFwdRefIdeal.Read
public import Idealize.ShloMosaic.Adequacy
public import Idealize.ShloMosaic.Lib.Quiescent
public import Idealize.ShloMosaic.Init

@[expose] public section

set_option maxRecDepth 16384

noncomputable section

/-! The forward `rms_norm(x) · g`: the kernel's result, the reference's, and the claims. -/

namespace Cert.RmsFwdIdeal.Val

open Cert.RmsFwdIdeal Cert.RmsFwdIdeal.Gen Idealize.ShloMosaic Idealize.ShloMosaic.TcCoe Idealize.SL.Sem
open Cert.FinalMath (nn rr ms)

/-- Row `a` normalised and scaled by the gain. -/
def H (x : FVec Ideal S4096x4096 .f32) (g : FVec Ideal S1x4096 .f32) (a k : Fin 4096) : EReal :=
  nn (fun k => x (ix2 a k)) k * g (ix2 0 k)

/-- What the body computes of row `r` of its block. -/
theorem pay1 (x : FVec Ideal S256x4096 .f32) (g : FVec Ideal S1x4096 .f32) (r : Fin 256) (k : Fin 4096) :
    k0_pay1 (F := Ideal) x g (ix2 r k) = nn (fun k => x (ix2 r k)) k * g (ix2 0 k) := by
  pointwise [k0_pay1, nn, rr, ms]

/-- The block a grid point leaves. -/
theorem out2 (x : FVec Ideal S256x4096 .f32) (g : FVec Ideal S1x4096 .f32) : out0_2 (F := Ideal) x g = k0_pay1 (F := Ideal) x g := by
  unfold out0_2
  frame_out

variable (m : (ℓ : Loc nD τ sig) → Buf (Elt Ideal) ℓ) (c : Dev nD)

/-- Every window's block at every grid point. -/
theorem idx : ∀ t : Fin cfg0.N, win0_0.index t = ![t.val, 0] ∧ win0_1.index t = ![0, 0] ∧ win0_2.index t = ![t.val, 0] :=
  (by decide +kernel : ∀ t : Fin grid0.N, _)

/-- Row `r` of the block of grid point `t`. -/
def row (t : Fin cfg0.N) (r : Fin 256) : Fin 4096 := ⟨256 * t.val + r.val, by have := t.isLt.trans_eq N_0; omega⟩

theorem blk0 (t : Fin cfg0.N) (r : Fin 256) (k : Fin 4096) : (iblk m c 0 t : FVec Ideal S256x4096 .f32) (ix2 r k)
    = (m ((c : Thread nD τ).loc main_arg0) : FVec Ideal S4096x4096 .f32) (ix2 (row t r) k) := by
  blk_point [iblk, V, idx t, row]

theorem blk1 (t : Fin cfg0.N) (k : Fin 4096) : (iblk m c 1 t : FVec Ideal S1x4096 .f32) (ix2 0 k)
    = (m ((c : Thread nD τ).loc main_arg1) : FVec Ideal S1x4096 .f32) (ix2 0 k) := by
  blk_point [iblk, V, idx t]

/-- The kernel's result. -/
theorem final2 : (dats m 0 c).arrAt 2 cfg0.N = (fun i => H (m ((c : Thread nD τ).loc main_arg0)) (m ((c : Thread nD τ).loc main_arg1)) (i 0) (i 1) : FVec Ideal S4096x4096 .bf16) := by
  refine (dats m 0 c).arrAt_eq_of_covers 2 _ (by decide +kernel) fun t _ y => ?_
  blk_simp
  rw [after0_2, out2]
  obtain ⟨r, k, rfl⟩ : ∃ (r : Fin 256) (k : Fin 4096), (y : S256x4096.Idx) = ix2 r k := ⟨y 0, y 1, by blk_ext []⟩
  rw [pay1]
  simp only [blk0, blk1]
  have e : ((cfg0.win 2).blk t).view.emb (ix2 r k : S256x4096.Idx) = (ix2 (row t r) k : S4096x4096.Idx) := by blk_ext [idx t, row]
  rw [e]
  rfl

end Cert.RmsFwdIdeal.Val

namespace Cert.RmsFwdClaim

open Idealize.ShloMosaic Idealize.SL.Sem Cert.RmsFwdRefIdeal Cert.RmsFwdRefIdeal.Read
open Cert.FinalMath (nn rr ms)
open Cert.RmsFwdIdeal.Val (H)

/-- The reference's result. -/
theorem read (x : FVec Ideal S4096x4096 .f32) (g : FVec Ideal S1x4096 .f32) (i : S4096x4096.Idx) :
    val_main_v14 (F := Ideal) x g i = H x g (i 0) (i 1) := by
  pointwise [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, H, nn, rr, ms]
  blk_point []

/-- Over the reals kernel and reference return the same array. -/
theorem algebraic : Cert.algebraic_RmsFwdIdeal_RmsFwdRefIdeal := by
  intro m g m' g' _ ha
  refine ⟨fun c => val_main_v14 (F := Ideal) (m (c.tc.loc Cert.RmsFwdIdeal.main_arg0)) (m (c.tc.loc Cert.RmsFwdIdeal.main_arg1)),
    (θ_run _ _ _).mono (fun r h c => ?_) (Cert.RmsFwdIdeal.Value.run_blocks m g),
    (θ_run _ _ _).mono (fun r h c => ?_) (Cert.RmsFwdRefIdeal.Value.run m' g')⟩
  · exact ⟨(h c).1.trans ((Cert.RmsFwdIdeal.Val.final2 m c).trans (funext fun i => (read _ _ i).symm)), (h c).2⟩
  · obtain ⟨a0, a1⟩ := ha c
    exact ⟨(h c).1.trans ((val_main_v14_eq _ _).trans (by rw [a0, a1])), (h c).2⟩

/-- The reference runs, leaves its arguments alone, and has no semaphore to leave raised. -/
theorem frame_ref : Cert.quiescent_RmsFwdRefIdeal := fun m g _ =>
  (θ_run _ _ _).mono (fun r h => ⟨fun c => (h c).2, sem_eq_zero_of_no_sems (by decide) r.2⟩) (Cert.RmsFwdRefIdeal.Value.run m g)

/-- The kernel runs and leaves its arguments alone, in machine arithmetic. -/
theorem frame : Cert.quiescent_RmsFwd := fun m g _ => Cert.RmsFwd.Gen.frame m g

/-- The kernel runs and leaves its arguments alone, over the reals. -/
theorem frame_ideal : Cert.quiescent_RmsFwdIdeal := fun m g _ => Cert.RmsFwdIdeal.Gen.frame m g

end Cert.RmsFwdClaim

end
-- ==== Proof.LnFwd.lean ====
module

public import Idealize.ShloMosaic.Lib.Pipeline.ValueKit
public import Idealize.ShloMosaic.Lib.Pointwise
public import Idealize.ShloMosaic.Lib.Claim
public import proofs.«01_k».proof.Defs
public import proofs.«01_k».proof.Proof.PostMath
public import proofs.«01_k».proof.Proof.Gen.LnFwd.Frame
public import proofs.«01_k».proof.Proof.Gen.LnFwdIdeal.Value
public import proofs.«01_k».proof.Proof.Gen.LnFwdRefIdeal.Run
public import proofs.«01_k».proof.Proof.Gen.LnFwdRefIdeal.Read
public import Idealize.ShloMosaic.Adequacy
public import Idealize.ShloMosaic.Lib.Quiescent
public import Idealize.ShloMosaic.Init

@[expose] public section

set_option maxRecDepth 16384

noncomputable section

/-! The forward `silu(layer_norm(u))`: the kernel's result, the reference's, and the claims. -/

namespace Cert.LnFwdIdeal.Val

open Cert.LnFwdIdeal Cert.LnFwdIdeal.Gen Idealize.ShloMosaic Idealize.ShloMosaic.TcCoe Idealize.SL.Sem
open Cert.LnMath

/-- Row `a`, normalised, scaled and shifted, then through the silu. -/
def S (u : FVec Ideal S4096x2048 .f32) (g b : FVec Ideal S1x2048 .f32) (a : Fin 4096) (k : Fin 2048) : EReal :=
  aff (fun k => u (ix2 a k)) (fun k => g (ix2 0 k)) (fun k => b (ix2 0 k)) k
    * sg (aff (fun k => u (ix2 a k)) (fun k => g (ix2 0 k)) (fun k => b (ix2 0 k)) k)

/-- What the body computes of row `r` of its block. -/
theorem pay1 (u : FVec Ideal S512x2048 .f32) (g b : FVec Ideal S1x2048 .f32) (r : Fin 512) (k : Fin 2048) :
    k0_pay1 (F := Ideal) u g b (ix2 r k)
      = aff (fun k => u (ix2 r k)) (fun k => g (ix2 0 k)) (fun k => b (ix2 0 k)) k
        * sg (aff (fun k => u (ix2 r k)) (fun k => g (ix2 0 k)) (fun k => b (ix2 0 k)) k) := by
  pointwise [k0_pay1, sg, aff, xh, rs, va, xc, mu, zero_sub]

/-- The block a grid point leaves. -/
theorem out3 (u : FVec Ideal S512x2048 .f32) (g b : FVec Ideal S1x2048 .f32) : out0_3 (F := Ideal) u g b = k0_pay1 (F := Ideal) u g b := by
  unfold out0_3
  frame_out

variable (m : (ℓ : Loc nD τ sig) → Buf (Elt Ideal) ℓ) (c : Dev nD)

/-- Every window's block at every grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- Row `r` of the block of grid point `t`. -/
def row (t : Fin cfg0.N) (r : Fin 512) : Fin 4096 := ⟨512 * t.val + r.val, by have := t.isLt.trans_eq N_0; omega⟩

theorem blk0 (t : Fin cfg0.N) (r : Fin 512) (k : Fin 2048) : (iblk m c 0 t : FVec Ideal S512x2048 .f32) (ix2 r k)
    = (m ((c : Thread nD τ).loc main_arg0) : FVec Ideal S4096x2048 .f32) (ix2 (row t r) k) := by
  blk_point [iblk, V, idx t, row]

theorem blk1 (t : Fin cfg0.N) (k : Fin 2048) : (iblk m c 1 t : FVec Ideal S1x2048 .f32) (ix2 0 k)
    = (m ((c : Thread nD τ).loc main_arg1) : FVec Ideal S1x2048 .f32) (ix2 0 k) := by
  blk_point [iblk, V, idx t]

theorem blk2 (t : Fin cfg0.N) (k : Fin 2048) : (iblk m c 2 t : FVec Ideal S1x2048 .f32) (ix2 0 k)
    = (m ((c : Thread nD τ).loc main_arg2) : FVec Ideal S1x2048 .f32) (ix2 0 k) := by
  blk_point [iblk, V, idx t]

/-- The kernel's result. -/
theorem final3 : (dats m 0 c).arrAt 3 cfg0.N = (fun i => S (m ((c : Thread nD τ).loc main_arg0)) (m ((c : Thread nD τ).loc main_arg1)) (m ((c : Thread nD τ).loc main_arg2)) (i 0) (i 1) : FVec Ideal S4096x2048 .bf16) := by
  refine (dats m 0 c).arrAt_eq_of_covers 3 _ (by decide +kernel) fun t _ y => ?_
  blk_simp
  rw [after0_3, out3]
  obtain ⟨r, k, rfl⟩ : ∃ (r : Fin 512) (k : Fin 2048), (y : S512x2048.Idx) = ix2 r k := ⟨y 0, y 1, by blk_ext []⟩
  rw [pay1]
  simp only [blk0, blk1, blk2]
  have e : ((cfg0.win 3).blk t).view.emb (ix2 r k : S512x2048.Idx) = (ix2 (row t r) k : S4096x2048.Idx) := by blk_ext [idx t, row]
  rw [e]
  rfl

end Cert.LnFwdIdeal.Val

namespace Cert.LnFwdClaim

open Idealize.ShloMosaic Idealize.SL.Sem Cert.LnFwdRefIdeal Cert.LnFwdRefIdeal.Read Cert.LnMath
open Cert.LnFwdIdeal.Val (S)

section
variable (u : FVec Ideal S4096x2048 .f32) (g b : FVec Ideal S1x2048 .f32)

theorem read_xc (i : S4096x2048.Idx) : val_main_v7 (F := Ideal) u i = xc (fun k => u (ix2 (i 0) k)) (i 1) := by
  pointwise [val_main_v7_apply, val_main_v6_apply, val_main_v5_apply, val_main_v4_apply, val_main_v3_apply, val_main_v2_apply, val_main_cst_apply, val_main_cst_0_apply, xc, mu]
  blk_point []

theorem read_rs (i : S4096x1.Idx) : val_main_v15 (F := Ideal) u i = rs (fun k => u (ix2 (i 0) k)) := by
  pointwise [val_main_v15_apply, val_main_v14_apply, val_main_v13_apply, val_main_v12_apply, val_main_v11_apply, val_main_v10_apply, val_main_v9_apply, val_main_v8_apply, val_main_cst_1_apply, val_main_cst_2_apply, val_main_cst_3_apply, read_xc, rs, va]
  rfl

theorem read_aff (i : S4096x2048.Idx) : val_main_v23 (F := Ideal) u g b i
    = aff (fun k => u (ix2 (i 0) k)) (fun k => g (ix2 0 k)) (fun k => b (ix2 0 k)) (i 1) := by
  pointwise [val_main_v23_apply, val_main_v22_apply, val_main_v21_apply, val_main_v20_apply, val_main_v19_apply, val_main_v18_apply, val_main_v17_apply, val_main_v16_apply, val_main_v1_apply, val_main_v0_apply, read_xc, read_rs, aff, xh]
  blk_point []

/-- The reference's result. -/
theorem read (i : S4096x2048.Idx) : val_main_v25 (F := Ideal) u g b i = S u g b (i 0) (i 1) := by
  pointwise [val_main_v25_apply, val_main_v24_apply, val_main_call0_v5_apply, val_main_call0_v4_apply, val_main_call0_v3_apply, val_main_call0_v2_apply, val_main_call0_v1_apply, val_main_call0_v0_apply, val_main_call0_cst_apply, val_main_call0_cst_0_apply, read_aff, S, sg]
end

/-- Over the reals kernel and reference return the same array. -/
theorem algebraic : Cert.algebraic_LnFwdIdeal_LnFwdRefIdeal := by
  intro m g m' g' _ ha
  refine ⟨fun c => val_main_v25 (F := Ideal) (m (c.tc.loc Cert.LnFwdIdeal.main_arg0)) (m (c.tc.loc Cert.LnFwdIdeal.main_arg1)) (m (c.tc.loc Cert.LnFwdIdeal.main_arg2)),
    (θ_run _ _ _).mono (fun r h c => ?_) (Cert.LnFwdIdeal.Value.run_blocks m g),
    (θ_run _ _ _).mono (fun r h c => ?_) (Cert.LnFwdRefIdeal.Value.run m' g')⟩
  · exact ⟨(h c).1.trans ((Cert.LnFwdIdeal.Val.final3 m c).trans (funext fun i => (read _ _ _ i).symm)), (h c).2⟩
  · obtain ⟨a0, a1, a2⟩ := ha c
    exact ⟨(h c).1.trans ((val_main_v25_eq _ _).trans (by rw [a0, a1, a2])), (h c).2⟩

/-- The reference runs, leaves its arguments alone, and has no semaphore to leave raised. -/
theorem frame_ref : Cert.quiescent_LnFwdRefIdeal := fun m g _ =>
  (θ_run _ _ _).mono (fun r h => ⟨fun c => (h c).2, sem_eq_zero_of_no_sems (by decide) r.2⟩) (Cert.LnFwdRefIdeal.Value.run m g)

/-- The kernel runs and leaves its arguments alone, in machine arithmetic. -/
theorem frame : Cert.quiescent_LnFwd := fun m g _ => Cert.LnFwd.Gen.frame m g

/-- The kernel runs and leaves its arguments alone, over the reals. -/
theorem frame_ideal : Cert.quiescent_LnFwdIdeal := fun m g _ => Cert.LnFwdIdeal.Gen.frame m g

end Cert.LnFwdClaim

end
-- ==== Proof.PostFwd.lean ====
module

public import Idealize.ShloMosaic.Lib.Pipeline.ValueKit
public import Idealize.ShloMosaic.Lib.Pointwise
public import Idealize.ShloMosaic.Lib.Claim
public import proofs.«01_k».proof.Defs
public import proofs.«01_k».proof.Proof.PostKernel
public import proofs.«01_k».proof.Proof.Gen.PostFwd.Frame
public import proofs.«01_k».proof.Proof.Gen.PostFwdIdeal.Value
public import proofs.«01_k».proof.Proof.Gen.PostFwdRefIdeal.Run
public import proofs.«01_k».proof.Proof.Gen.PostFwdRefIdeal.Read
public import Idealize.ShloMosaic.Adequacy
public import Idealize.ShloMosaic.Lib.Quiescent
public import Idealize.ShloMosaic.Init

@[expose] public section

set_option maxRecDepth 16384

noncomputable section

/-! The forward gated norms `rms_norm(x) · g · silu(z)` of the attention's and the convolution's outputs, side by side: the
    kernel's result, the reference's, and the claims. -/

namespace Cert.PostFwdIdeal.Val

open Cert.PostFwdIdeal Cert.PostFwdIdeal.Gen Idealize.ShloMosaic Idealize.ShloMosaic.TcCoe Idealize.SL.Sem
open Cert.LnMath (sg)
open Cert.PostMath (nn rr ms)
open Cert.PostBwdIdeal.Val (X Z G)

/-- A normalised row times its gain and its gate. -/
def gated (x g z : Fin 2048 → EReal) (k : Fin 2048) : EReal := nn x k * g k * (z k * sg (z k))

section
variable (i : grid0.Coords) (v1 v2 : FVec Ideal S128x2048 .f32) (z : FVec Ideal S1x128x2048 .bf16) (g : FVec Ideal S1x1x2048 .f32)
  (r : Fin 128) (k : Fin 2048)

/-- What the body computes of row `r` of its block, in either half of the grid. -/
theorem pay_fst (h : (i 0).val = 0) : k0_pay1 (F := Ideal) i v1 v2 z g (ix2 r k)
    = gated (fun k => v1 (ix2 r k)) (fun k => g (ix3 0 0 k)) (fun k => z (ix3 0 r k)) k := by
  have e : Scalar.select (Scalar.cmpi .eq (BitVec.ofNat 32 (i 0).val) 0#32) v1 (shapeCast S128x2048 v2 shapeCasts_S128x2048_S128x2048) = v1 := by
    rw [h]; rfl
  unfold k0_pay1
  simp only [e]
  pointwise [gated, nn, rr, ms, sg, zero_sub]

theorem pay_snd (h : (i 0).val = 1) : k0_pay1 (F := Ideal) i v1 v2 z g (ix2 r k)
    = gated (fun k => v2 (ix2 r k)) (fun k => g (ix3 0 0 k)) (fun k => z (ix3 0 r k)) k := by
  have e : Scalar.select (Scalar.cmpi .eq (BitVec.ofNat 32 (i 0).val) 0#32) v1 (shapeCast S128x2048 v2 shapeCasts_S128x2048_S128x2048)
      = shapeCast S128x2048 v2 shapeCasts_S128x2048_S128x2048 := by
    rw [h]; rfl
  unfold k0_pay1
  simp only [e]
  pointwise [gated, nn, rr, ms, sg, zero_sub]

/-- The block a grid point leaves. -/
theorem out4 : out0_4 (F := Ideal) i v1 v2 z g = k0_pay1 (F := Ideal) i v1 v2 z g := by
  unfold out0_4
  frame_out
end

variable (m : (ℓ : Loc nD τ sig) → Buf (Elt Ideal) ℓ) (c : Dev nD)

/-- The arguments' rows for half `s`. -/
abbrev MX (s : Fin 2) := X (m ((c : Thread nD τ).loc main_arg0)) (m ((c : Thread nD τ).loc main_arg1)) (m ((c : Thread nD τ).loc main_arg2)) s
abbrev MZ (s : Fin 2) := Z (m ((c : Thread nD τ).loc main_arg3)) s
abbrev MG (s : Fin 2) := G (m ((c : Thread nD τ).loc main_arg4)) (m ((c : Thread nD τ).loc main_arg5)) s

/-- The packed projection, the biased convolution and the stacked gains as the host hands them to the kernel. -/
theorem V_z (s : Fin 2) (a : Fin 4096) (k : Fin 2048) : (V m c main_v2 : FVec Ideal S7x4096x2048 .bf16) (ix3 ⟨3 + 3 * s.val, by omega⟩ a k) = MZ m c s a k := by
  unfold V
  simp only [hostOps0, List.flatten_cons, List.flatten_nil, List.append_nil, List.cons_append, List.nil_append]
  after_results
  pointwise [Z]

theorem V_x (a : Fin 4096) (k : Fin 2048) : (V m c main_v4 : FVec Ideal S4096x2048 .f32) (ix2 a k) = MX m c 1 a k := by
  unfold V
  simp only [hostOps0, List.flatten_cons, List.flatten_nil, List.append_nil, List.cons_append, List.nil_append]
  after_results
  pointwise [X]

theorem V_g (s : Fin 2) (k : Fin 2048) : (V m c main_v7 : FVec Ideal S2x1x2048 .f32) (ix3 s 0 k) = MG m c s k := by
  unfold V
  simp only [hostOps0, List.flatten_cons, List.flatten_nil, List.append_nil, List.cons_append, List.nil_append]
  after_results
  obtain rfl | rfl : s = 0 ∨ s = 1 := by omega
  · pointwise [G]
  · pointwise [G]

/-- Every window's block at every grid point: the first half of the grid works on the attention's rows, the second on
    the convolution's. -/
theorem idx : ∀ t : Fin cfg0.N, win0_2.index t = ![3 + 3 * (t.val / 32), t.val % 32, 0] ∧ win0_3.index t = ![t.val / 32, 0, 0]
    ∧ win0_4.index t = ![t.val % 32, t.val / 32] ∧ (grid0.coords t 0).val = t.val / 32 :=
  (by decide +kernel : ∀ t : Fin grid0.N, _)

theorem idx0 : ∀ t : Fin cfg0.N, t.val / 32 = 0 → win0_0.index t = ![t.val % 32, 0] :=
  (by decide +kernel : ∀ t : Fin grid0.N, _)

theorem idx1 : ∀ t : Fin cfg0.N, t.val / 32 = 1 → win0_1.index t = ![t.val % 32, 0] :=
  (by decide +kernel : ∀ t : Fin grid0.N, _)

/-- The half grid point `t` works on, and row `r` of its block. -/
def half (t : Fin cfg0.N) : Fin 2 := ⟨t.val / 32, by have := t.isLt.trans_eq N_0; omega⟩
def row (t : Fin cfg0.N) (r : Fin 128) : Fin 4096 := ⟨128 * (t.val % 32) + r.val, by omega⟩

theorem blkA (t : Fin cfg0.N) (h : t.val / 32 = 0) (r : Fin 128) (k : Fin 2048) : (iblk m c 0 t : FVec Ideal S128x2048 .f32) (ix2 r k)
    = MX m c (half t) (row t r) k := by
  unfold MX X
  rw [if_pos (show (half t).val = 0 from h)]
  blk_point [iblk, V, idx0 t h, row]

theorem blkC (t : Fin cfg0.N) (h : t.val / 32 = 1) (r : Fin 128) (k : Fin 2048) : (iblk m c 1 t : FVec Ideal S128x2048 .f32) (ix2 r k)
    = MX m c (half t) (row t r) k := by
  have e : half t = 1 := Fin.ext h
  rw [e, ← V_x m c]
  blk_point [iblk, idx1 t h, row]

theorem blkZ (t : Fin cfg0.N) (r : Fin 128) (k : Fin 2048) : (iblk m c 2 t : FVec Ideal S1x128x2048 .bf16) (ix3 0 r k)
    = MZ m c (half t) (row t r) k := by
  rw [← V_z m c]
  blk_point [iblk, idx t, row, half]

theorem blkG (t : Fin cfg0.N) (k : Fin 2048) : (iblk m c 3 t : FVec Ideal S1x1x2048 .f32) (ix3 0 0 k) = MG m c (half t) k := by
  rw [← V_g m c]
  blk_point [iblk, idx t, half]

theorem point (t : Fin cfg0.N) (r : Fin 128) (k : Fin 2048) :
    k0_pay1 (F := Ideal) (grid0.coords t) (iblk m c 0 t) (iblk m c 1 t) (iblk m c 2 t) (iblk m c 3 t) (ix2 r k)
      = gated (MX m c (half t) (row t r)) (MG m c (half t)) (MZ m c (half t) (row t r)) k := by
  have hN : t.val < 64 := t.isLt.trans_eq N_0
  rcases (by omega : t.val / 32 = 0 ∨ t.val / 32 = 1) with h | h
  · rw [pay_fst _ _ _ _ _ _ _ ((idx t).2.2.2.trans h)]
    simp only [blkA m c t h, blkZ, blkG]
  · rw [pay_snd _ _ _ _ _ _ _ ((idx t).2.2.2.trans h)]
    simp only [blkC m c t h, blkZ, blkG]

/-- The kernel's result at half `s`, row `a`, column `k`, as one array. -/
def Y : FVec Ideal S4096x4096 .bf16 := fun i =>
  gated (MX m c ⟨(i 1).val / 2048, by have : (i 1).val < 4096 := (i 1).isLt; omega⟩ (i 0)) (MG m c ⟨(i 1).val / 2048, by have : (i 1).val < 4096 := (i 1).isLt; omega⟩)
    (MZ m c ⟨(i 1).val / 2048, by have : (i 1).val < 4096 := (i 1).isLt; omega⟩ (i 0)) ⟨(i 1).val % 2048, by omega⟩

theorem Y_apply (s : Fin 2) (a : Fin 4096) (k : Fin 2048) :
    Y m c (ix2 a ⟨2048 * s.val + k.val, by omega⟩) = gated (MX m c s a) (MG m c s) (MZ m c s a) k := by
  have h1 : (2048 * s.val + k.val) / 2048 = s.val := by omega
  have h2 : (2048 * s.val + k.val) % 2048 = k.val := by omega
  simp only [Y]
  show gated (MX m c ⟨(2048 * s.val + k.val) / 2048, _⟩ a) (MG m c ⟨(2048 * s.val + k.val) / 2048, _⟩)
    (MZ m c ⟨(2048 * s.val + k.val) / 2048, _⟩ a) ⟨(2048 * s.val + k.val) % 2048, _⟩ = _
  simp only [h1, h2]

/-- The kernel's result. -/
theorem final4 : (dats m 0 c).arrAt 4 cfg0.N = Y m c := by
  refine (dats m 0 c).arrAt_eq_of_covers 4 _ (by decide +kernel) fun t _ y => ?_
  blk_simp
  rw [after0_4, out4]
  obtain ⟨r, k, rfl⟩ : ∃ (r : Fin 128) (k : Fin 2048), (y : S128x2048.Idx) = ix2 r k := ⟨y 0, y 1, by blk_ext []⟩
  refine (point m c t r k).trans ?_
  have e : ((cfg0.win 4).blk t).view.emb (ix2 r k : S128x2048.Idx) = (ix2 (row t r) ⟨2048 * (half t).val + k.val, by omega⟩ : S4096x4096.Idx) := by
    blk_ext [idx t, row, half]
  rw [e]
  exact (Y_apply m c (half t) (row t r) k).symm

end Cert.PostFwdIdeal.Val

namespace Cert.PostFwdClaim

open Idealize.ShloMosaic Idealize.SL.Sem Cert.PostFwdRefIdeal Cert.PostFwdRefIdeal.Read
open Cert.LnMath (sg)
open Cert.PostMath (nn rr ms)
open Cert.PostBwdIdeal.Val (X Z G)
open Cert.PostFwdIdeal.Val (gated)

section
variable (x0 x1 : FVec Ideal S4096x2048 .f32) (x2 : FVec Ideal S1x2048 .f32) (x3 : FVec Ideal S1x4096x14336 .f32) (x4 x5 : FVec Ideal S1x2048 .f32)

theorem read_rra (i : S4096x1.Idx) : val_main_v12 (F := Ideal) x0 i = rr (X x0 x1 x2 0 (i 0)) := by
  pointwise [val_main_v12_apply, val_main_v11_apply, val_main_v10_apply, val_main_v9_apply, val_main_v8_apply, val_main_v7_apply, val_main_v6_apply, val_main_v5_apply, val_main_cst_apply, val_main_cst_0_apply, val_main_cst_1_apply, rr, ms, X]
  blk_point []

theorem read_xc (i : S4096x2048.Idx) : val_main_v23 (F := Ideal) x1 x2 i = X x0 x1 x2 1 (i 0) (i 1) := by
  pointwise [val_main_v23_apply, val_main_v22_apply, val_main_v21_apply, val_main_v20_apply, X]
  blk_point []

theorem read_rrc (i : S4096x1.Idx) : val_main_v32 (F := Ideal) x1 x2 i = rr (X x0 x1 x2 1 (i 0)) := by
  pointwise [val_main_v32_apply, val_main_v31_apply, val_main_v30_apply, val_main_v29_apply, val_main_v28_apply, val_main_v27_apply, val_main_v26_apply, val_main_v25_apply, val_main_cst_2_apply, val_main_cst_3_apply, val_main_cst_4_apply, read_xc x0 x1 x2, rr, ms]
  rfl

theorem read_za (i : S4096x2048.Idx) : val_main_v1 (F := Ideal) x3 i = Z x3 0 (i 0) (i 1) := by
  pointwise [val_main_v1_apply, val_main_v0_apply, Z]
  blk_point []

theorem read_zc (i : S4096x2048.Idx) : val_main_v3 (F := Ideal) x3 i = Z x3 1 (i 0) (i 1) := by
  pointwise [val_main_v3_apply, val_main_v2_apply, Z]
  blk_point []

theorem read_ga (i : S4096x2048.Idx) : val_main_v16 (F := Ideal) x4 i = G x4 x5 0 (i 1) := by
  pointwise [val_main_v16_apply, val_main_v15_apply, val_main_v4_apply, G]
  blk_point []

theorem read_gc (i : S4096x2048.Idx) : val_main_v36 (F := Ideal) x5 i = G x4 x5 1 (i 1) := by
  pointwise [val_main_v36_apply, val_main_v35_apply, val_main_v24_apply, G]
  blk_point []

theorem at_x (i : S4096x2048.Idx) : x0 i = X x0 x1 x2 0 (i 0) (i 1) := by
  pointwise [X]

/-- The two halves of the reference's result. -/
theorem read_a (i : S4096x2048.Idx) : val_main_v19 (F := Ideal) x0 x3 x4 i = gated (X x0 x1 x2 0 (i 0)) (G x4 x5 0) (Z x3 0 (i 0)) (i 1) := by
  pointwise [val_main_v19_apply, val_main_v18_apply, val_main_v17_apply, val_main_v14_apply, val_main_v13_apply, val_main_call0_v5_apply, val_main_call0_v4_apply, val_main_call0_v3_apply, val_main_call0_v2_apply, val_main_call0_v1_apply, val_main_call0_v0_apply, val_main_call0_cst_apply, val_main_call0_cst_0_apply, read_rra x0 x1 x2, read_za, read_ga x4 x5, gated, nn, sg]
  rw [at_x x0 x1 x2 i]
  rfl

theorem read_c (i : S4096x2048.Idx) : val_main_v39 (F := Ideal) x1 x2 x3 x5 i = gated (X x0 x1 x2 1 (i 0)) (G x4 x5 1) (Z x3 1 (i 0)) (i 1) := by
  pointwise [val_main_v39_apply, val_main_v38_apply, val_main_v37_apply, val_main_v34_apply, val_main_v33_apply, val_main_call1_v5_apply, val_main_call1_v4_apply, val_main_call1_v3_apply, val_main_call1_v2_apply, val_main_call1_v1_apply, val_main_call1_v0_apply, val_main_call1_cst_apply, val_main_call1_cst_0_apply, read_xc x0 x1 x2, read_rrc x0 x1 x2, read_zc, read_gc x4 x5, gated, nn, sg]
  rfl

/-- The reference's result, half by half. -/
theorem read (s : Fin 2) (a : Fin 4096) (k : Fin 2048) : val_main_v41 (F := Ideal) x0 x1 x2 x3 x4 x5 (ix2 a ⟨2048 * s.val + k.val, by omega⟩)
    = gated (X x0 x1 x2 s a) (G x4 x5 s) (Z x3 s a) k := by
  refine (val_main_v41_apply _ _ _ _ _ _ _).trans ?_
  show val_main_v40 (F := Ideal) x0 x1 x2 x3 x4 x5 _ = _
  unfold val_main_v40
  obtain rfl | rfl : s = 0 ∨ s = 1 := by omega
  · rw [concatenate_pair_apply_left (t := S4096x4096) (s₁ := S4096x2048) (s₂ := S4096x2048) 1 _ _ _ _ rfl (ix2 a k)
      (by intro b; fin_cases b <;> simp)]
    exact read_a x0 x1 x2 x3 x4 x5 (ix2 a k)
  · rw [concatenate_pair_apply_right (t := S4096x4096) (s₁ := S4096x2048) (s₂ := S4096x2048) 1 _ _ _ _ rfl rfl (ix2 a k)
      (by intro b; fin_cases b <;> simp) (by simp [add_comm])]
    exact read_c x0 x1 x2 x3 x4 x5 (ix2 a k)
end

/-- Over the reals kernel and reference return the same array. -/
theorem algebraic : Cert.algebraic_PostFwdIdeal_PostFwdRefIdeal := by
  intro m g m' g' _ ha
  refine ⟨fun c => val_main_v41 (F := Ideal) (m (c.tc.loc Cert.PostFwdIdeal.main_arg0)) (m (c.tc.loc Cert.PostFwdIdeal.main_arg1)) (m (c.tc.loc Cert.PostFwdIdeal.main_arg2)) (m (c.tc.loc Cert.PostFwdIdeal.main_arg3)) (m (c.tc.loc Cert.PostFwdIdeal.main_arg4)) (m (c.tc.loc Cert.PostFwdIdeal.main_arg5)),
    (θ_run _ _ _).mono (fun r h c => ?_) (Cert.PostFwdIdeal.Value.run_blocks m g),
    (θ_run _ _ _).mono (fun r h c => ?_) (Cert.PostFwdRefIdeal.Value.run m' g')⟩
  · refine ⟨(h c).1.trans ((Cert.PostFwdIdeal.Val.final4 m c).trans (funext fun i => ?_)), (h c).2⟩
    have hi : (i 1).val < 4096 := (i 1).isLt
    have e : i = (ix2 (i 0) ⟨2048 * ((i 1).val / 2048) + (i 1).val % 2048, by omega⟩ : S4096x4096.Idx) := by blk_ext []
    rw [e]
    exact (Cert.PostFwdIdeal.Val.Y_apply m c ⟨(i 1).val / 2048, by omega⟩ (i 0) ⟨(i 1).val % 2048, by omega⟩).trans
      (read _ _ _ _ _ _ ⟨(i 1).val / 2048, by omega⟩ (i 0) ⟨(i 1).val % 2048, by omega⟩).symm
  · obtain ⟨a0, a1, a2, a3, a4, a5⟩ := ha c
    exact ⟨(h c).1.trans ((val_main_v41_eq _ _ _ _ _ _).trans (by rw [a0, a1, a2, a3, a4, a5])), (h c).2⟩

/-- The reference runs, leaves its arguments alone, and has no semaphore to leave raised. -/
theorem frame_ref : Cert.quiescent_PostFwdRefIdeal := fun m g _ =>
  (θ_run _ _ _).mono (fun r h => ⟨fun c => (h c).2, sem_eq_zero_of_no_sems (by decide) r.2⟩) (Cert.PostFwdRefIdeal.Value.run m g)

/-- The kernel runs and leaves its arguments alone, in machine arithmetic. -/
theorem frame : Cert.quiescent_PostFwd := fun m g _ => Cert.PostFwd.Gen.frame m g

/-- The kernel runs and leaves its arguments alone, over the reals. -/
theorem frame_ideal : Cert.quiescent_PostFwdIdeal := fun m g _ => Cert.PostFwdIdeal.Gen.frame m g

end Cert.PostFwdClaim

end
-- ==== Proof.AttnFwd.lean ====
module

public import Idealize.ShloMosaic.Lib.Pipeline.ValueKit
public import Idealize.ShloMosaic.Lib.Pointwise
public import Idealize.ShloMosaic.Lib.Claim
public import proofs.«01_k».proof.Proof.Gen.AttnFwdIdeal.Value
public import proofs.«01_k».proof.Proof.AttnFinal

@[expose] public section

set_option maxRecDepth 16384

noncomputable section

/-! The forward attention kernel over the real numbers: every block of its result holds, for the block's queries, the
    values weighted with the probabilities that the gradient's modules already speak of. -/

namespace Cert.AttnFwdIdeal.Val

open Cert.AttnFwdIdeal Cert.AttnFwdIdeal.Gen Idealize.ShloMosaic Idealize.ShloMosaic.TcCoe Idealize.SL.Sem
open Cert.AttnMath (pos pred band rel score wt tot P)
open Cert.AttnBwdIdeal.Val (Reads scale col segCol seg head coord)

section block
variable (i : grid0.Coords) (q kp kc vp vc : Vec Ideal S1x512x128 .bf16) (bp bc : Vec Ideal S1x512x512 .f32)

/-- Forward and backward kernels compute the same scores and the same row maxima. -/
theorem same_prev : k0_pay3 (F := Ideal) i q kp bp = Cert.AttnBwdIdeal.Gen.k0_pay17 (F := Ideal) (BitVec.ofNat 32 (i 1).val) q kp bp := rfl

theorem same_cur : k0_pay4 (F := Ideal) q kc bc = Cert.AttnBwdIdeal.Gen.k0_pay18 (F := Ideal) q kc bc := rfl

theorem same_exp_prev : k0_pay6 (F := Ideal) i q kp kc bp bc
    = Cert.AttnBwdIdeal.Gen.k0_pay20 (F := Ideal) (BitVec.ofNat 32 (i 1).val) q kp kc bp bc := rfl

theorem same_exp_cur : k0_pay7 (F := Ideal) i q kp kc bp bc
    = Cert.AttnBwdIdeal.Gen.k0_pay22 (F := Ideal) (Cert.AttnBwdIdeal.Gen.k0_pay18 q kc bc)
        (Cert.AttnBwdIdeal.Gen.k0_pay21 (BitVec.ofNat 32 (i 1).val) q kp kc bp bc) := rfl

variable {i q kp kc vp vc bp bc} {Q K W D : Fin 4096 → Fin 128 → ℝ} {T : Fin 513 → ℝ} {n : Fin 8} {o : Vec Ideal S1x512x128 .bf16}

/-- A block of the result. -/
theorem block (h : Reads Q K W D T n (BitVec.ofNat 32 (i 1).val) q kp kc vp vc o bp bc) (r : Fin 512) (d : Fin 128) :
    k0_pay1 (F := Ideal) (k0_pay6 i q kp kc bp bc) (k0_pay7 i q kp kc bp bc) vp vc (ix2 r d)
      = ((∑ j, P Q K T scale (pos n r) j * W j d : ℝ) : EReal) := by
  obtain ⟨E, hE, hp, hc⟩ := Cert.AttnBwdIdeal.Val.exps h r
  have ht := Cert.AttnMath.tot_pos Q K T scale (pos n r)
  rw [same_exp_prev, same_exp_cur]
  pointwise [k0_pay1]
  simp only [hp, hc, h.hvp, h.hvc]
  rw [Cert.AttnBwdIdeal.Val.total]
  simp only [Lift.mul, Lift.sum, Lift.add]
  rw [Lift.div _ (mul_pos ht hE).ne']
  congr 1
  rw [Cert.AttnMath.sum_keys n r _ fun j hj => by rw [Cert.AttnMath.P_off Q K T scale hj, zero_mul], div_eq_iff (mul_pos ht hE).ne', add_mul,
    Finset.sum_mul, Finset.sum_mul]
  have hw (j : Fin 4096) : wt Q K T scale (pos n r) j * E * W j d = P Q K T scale (pos n r) j * W j d * (tot Q K T scale (pos n r) * E) := by
    rw [P]
    field_simp
  refine congrArg₂ (· + ·) (Finset.sum_congr rfl fun x _ => ?_) (Finset.sum_congr rfl fun x _ => hw _)
  split
  · simp
  · exact hw _
end block

theorem idx_all : ∀ t : Fin cfg0.N, win0_0.index t = ![0, t.val % 8, t.val / 8]
    ∧ win0_1.index t = ![1, t.val % 8 - 1, t.val / 8] ∧ win0_2.index t = ![1, t.val % 8, t.val / 8]
    ∧ win0_3.index t = ![2, t.val % 8 - 1, t.val / 8] ∧ win0_4.index t = ![2, t.val % 8, t.val / 8]
    ∧ win0_5.index t = ![t.val / 8, 0, 0] ∧ win0_6.index t = ![t.val % 8, t.val / 8]
    ∧ ((grid0.coords t 1 : Fin _) : ℕ) = t.val % 8 :=
  (by decide +kernel : ∀ t : Fin grid0.N, _)

/-- The head that a point of the grid treats, and its block of queries. -/
def hd (t : Fin cfg0.N) : Fin 16 := ⟨t.val / 8, by have := t.isLt.trans_eq N_0; omega⟩
def bl (t : Fin cfg0.N) : Fin 8 := ⟨t.val % 8, by omega⟩

variable (m : (ℓ : Loc nD τ sig) → Buf (Elt Ideal) ℓ) (c : Dev nD) (t : Fin cfg0.N)

theorem blk0 (r : Fin 512) (d : Fin 128) : (iblk m c 0 t : FVec Ideal S1x512x128 .bf16) (ix3 0 r d)
    = (V m c main_v2 : FVec Ideal S7x4096x2048 .bf16) (ix3 0 (pos (bl t) r) (col (hd t) d)) := by
  unfold iblk
  blk_point [idx_all t, pos, col, hd, bl]

theorem blk1 (r : Fin 512) (d : Fin 128) : (iblk m c 1 t : FVec Ideal S1x512x128 .bf16) (ix3 0 r d)
    = (V m c main_v2 : FVec Ideal S7x4096x2048 .bf16) (ix3 1 (pos (pred (bl t)) r) (col (hd t) d)) := by
  unfold iblk
  blk_point [idx_all t, pos, pred, col, hd, bl]

theorem blk2 (r : Fin 512) (d : Fin 128) : (iblk m c 2 t : FVec Ideal S1x512x128 .bf16) (ix3 0 r d)
    = (V m c main_v2 : FVec Ideal S7x4096x2048 .bf16) (ix3 1 (pos (bl t) r) (col (hd t) d)) := by
  unfold iblk
  blk_point [idx_all t, pos, col, hd, bl]

theorem blk3 (r : Fin 512) (d : Fin 128) : (iblk m c 3 t : FVec Ideal S1x512x128 .bf16) (ix3 0 r d)
    = (V m c main_v2 : FVec Ideal S7x4096x2048 .bf16) (ix3 2 (pos (pred (bl t)) r) (col (hd t) d)) := by
  unfold iblk
  blk_point [idx_all t, pos, pred, col, hd, bl]

theorem blk4 (r : Fin 512) (d : Fin 128) : (iblk m c 4 t : FVec Ideal S1x512x128 .bf16) (ix3 0 r d)
    = (V m c main_v2 : FVec Ideal S7x4096x2048 .bf16) (ix3 2 (pos (bl t) r) (col (hd t) d)) := by
  unfold iblk
  blk_point [idx_all t, pos, col, hd, bl]

theorem blk5 (r : Fin 512) (x : Fin 1024) : (iblk m c 5 t : FVec Ideal S1x512x1024 .f32) (ix3 0 r x)
    = (V m c main_v28 : FVec Ideal S16x512x1024 .f32) (ix3 (hd t) r x) := by
  unfold iblk
  blk_point [idx_all t, hd]

theorem V_v2 (g : Fin 7) (i : Fin 4096) (j : Fin 2048) : (V m c main_v2 : FVec Ideal S7x4096x2048 .bf16) (ix3 g i j)
    = (m ((c : Thread nD τ).loc main_arg0) : FVec Ideal S1x4096x14336 .f32) (ix3 0 i (segCol g j)) := by
  unfold V
  simp only [hostOps0, hostOps0_1, hostOps0_2, hostOps0_3, List.flatten_cons, List.flatten_nil, List.append_nil, List.cons_append, List.nil_append]
  after_results
  pointwise
  rfl

theorem V_v28 : V m c main_v28 = Cert.AttnBwdIdeal.Val.bias (m ((c : Thread nD τ).loc main_arg1)) := by
  unfold V
  simp only [hostOps0, hostOps0_1, hostOps0_2, hostOps0_3, List.flatten_cons, List.flatten_nil, List.append_nil, List.cons_append, List.nil_append]
  after_results
  simp only [StableHlo.TRef.ofBuf, StableHlo.TRef.toBuf, cast_eq, id]
  rfl

variable {m c} {p : Fin 4096 → Fin 14336 → ℝ} {tb : Fin 16 → Fin 513 → ℝ}
  (hp : ∀ i j, (m ((c : Thread nD τ).loc main_arg0) : FVec Ideal S1x4096x14336 .f32) (ix3 0 i j) = (p i j : EReal))
  (ht : ∀ h k, (m ((c : Thread nD τ).loc main_arg1) : FVec Ideal S16x513 .f32) (ix2 h k) = (tb h k : EReal))
include hp ht

omit ht in
theorem real_seg (g : Fin 7) (h : Fin 16) (i : Fin 4096) (d : Fin 128) :
    (V m c main_v2 : FVec Ideal S7x4096x2048 .bf16) (ix3 g i (col h d)) = (seg p g h i d : EReal) :=
  (V_v2 m c g i (col h d)).trans (hp i _)

omit hp in
theorem real_bias (h : Fin 16) (r : Fin 512) (x : Fin 1024) : (V m c main_v28 : FVec Ideal S16x512x1024 .f32) (ix3 h r x)
    = Soft.masked (band (r.val + 512) x.val) (tb h (rel (r.val + 512) x.val)) := by
  rw [V_v28]
  refine (Cert.AttnBwdIdeal.Val.bias_apply _ h r x).trans ?_
  rw [ht]
  rfl

/-- At every point the body reads its block's operands. -/
theorem reads : Reads (seg p 0 (hd t)) (seg p 1 (hd t)) (seg p 2 (hd t)) (fun _ _ => 0) (tb (hd t)) (bl t)
      (BitVec.ofNat 32 ((grid0.coords t 1 : Fin _) : ℕ))
      (iblk m c 0 t) (iblk m c 1 t) (iblk m c 2 t) (iblk m c 3 t) (iblk m c 4 t) (fun _ => (0 : EReal))
      (Cert.AttnBwdIdeal.Val.lower (iblk m c 5 t)) (Cert.AttnBwdIdeal.Val.upper (iblk m c 5 t)) where
  first := by
    rw [(idx_all t).2.2.2.2.2.2.2, ← BitVec.toNat_inj]
    simp only [BitVec.toNat_ofNat, Fin.ext_iff, bl]
    show t.val % 8 % 2 ^ 32 = 0 % 2 ^ 32 ↔ t.val % 8 = 0
    omega
  hq r d := (blk0 m c t r d).trans (real_seg hp ..)
  hkp r d := (blk1 m c t r d).trans (real_seg hp ..)
  hkc r d := (blk2 m c t r d).trans (real_seg hp ..)
  hvp r d := (blk3 m c t r d).trans (real_seg hp ..)
  hvc r d := (blk4 m c t r d).trans (real_seg hp ..)
  ho r d := EReal.coe_zero.symm
  hbp r x hn := by
    refine (Cert.AttnBwdIdeal.Val.lower_apply _ r x).trans ((blk5 m c t r _).trans ((real_bias ht ..).trans ?_))
    have hn' : (bl t).val ≠ 0 := fun e => hn (Fin.ext e)
    have h1 : band (r.val + 512) x.val ↔ band (pos (bl t) r) (pos (pred (bl t)) x) := by
      simp only [band, pos, pred]; omega
    have h2 : rel (r.val + 512) x.val = rel (pos (bl t) r) (pos (pred (bl t)) x) := by
      simp only [rel, pos, pred, Fin.mk.injEq]; omega
    simp only [h1, h2]
  hbp_lt r x := by
    refine ((Cert.AttnBwdIdeal.Val.lower_apply _ r x).trans ((blk5 m c t r _).trans (real_bias ht ..))).trans_lt ?_
    exact Soft.masked_lt_top _ _
  hbc r x := by
    refine (Cert.AttnBwdIdeal.Val.upper_apply _ r x).trans ((blk5 m c t r _).trans ((real_bias ht ..).trans ?_))
    have h1 : band (r.val + 512) (512 + x.val) ↔ band (pos (bl t) r) (pos (bl t) x) := by
      simp only [band, pos]; omega
    have h2 : rel (r.val + 512) (512 + x.val) = rel (pos (bl t) r) (pos (bl t) x) := by
      simp only [rel, pos, Fin.mk.injEq]; omega
    simp only [h1, h2]

omit hp ht in
/-- One coordinate of a query's attention: the values weighted with the query's probabilities. -/
def value (p : Fin 4096 → Fin 14336 → ℝ) (tb : Fin 16 → Fin 513 → ℝ) (i : Fin 4096) (h : Fin 16) (d : Fin 128) : ℝ :=
  ∑ j, P (seg p 0 h) (seg p 1 h) (tb h) scale i j * seg p 2 h j d

omit hp ht in
/-- The attention of every query, heads side by side. -/
def out (p : Fin 4096 → Fin 14336 → ℝ) (tb : Fin 16 → Fin 513 → ℝ) : FVec Ideal S4096x2048 .f32 := fun i =>
  (value p tb (i 0) (head (i 1)) (coord (i 1)) : EReal)

omit hp ht in
theorem out_col (i : Fin 4096) (h : Fin 16) (d : Fin 128) : out p tb (ix2 i (col h d)) = (value p tb i h d : EReal) := by
  show ((value p tb i (head (col h d)) (coord (col h d)) : ℝ) : EReal) = _
  rw [Cert.AttnBwdIdeal.Val.head_col, Cert.AttnBwdIdeal.Val.coord_col]

omit hp ht in
theorem out6 (i : grid0.Coords) (x0 x1 x2 x3 x4 : Vec Ideal S1x512x128 .bf16) (x5 : Vec Ideal S1x512x1024 .f32) :
    out0_6 (F := Ideal) i x0 x1 x2 x3 x4 x5 = k0_pay1 (F := Ideal)
      (k0_pay6 i x0 x1 x2 (Cert.AttnBwdIdeal.Val.lower x5) (Cert.AttnBwdIdeal.Val.upper x5))
      (k0_pay7 i x0 x1 x2 (Cert.AttnBwdIdeal.Val.lower x5) (Cert.AttnBwdIdeal.Val.upper x5)) x3 x4 := by
  unfold out0_6
  frame_out

/-- What the result holds after the run. -/
theorem final : (dats m 0 c).arrAt 6 cfg0.N = out p tb :=
  (dats m 0 c).arrAt_eq_of_covers 6 _ (by decide +kernel) fun t _ y => by
    blk_simp
    rw [after0_6, out6]
    obtain ⟨r, d, rfl⟩ : ∃ (r : Fin 512) (d : Fin 128), y = (ix2 r d : S512x128.Idx) := ⟨y 0, y 1, by
      funext a; match a with | ⟨0, _⟩ => rfl | ⟨1, _⟩ => rfl⟩
    have e : ((cfg0.win 6).blk t).view.emb (ix2 r d : S512x128.Idx) = (ix2 (pos (bl t) r) (col (hd t) d) : S4096x2048.Idx) := by
      blk_ext [idx_all t, pos, col, hd, bl]
    rw [e, out_col]
    exact block (reads t hp ht) r d

end Cert.AttnFwdIdeal.Val
-- ==== Proof.AttnFwdClaim.lean ====
module

public import proofs.«01_k».proof.Defs
public import proofs.«01_k».proof.Proof.AttnFwd
public import proofs.«01_k».proof.Proof.AttnRead
public import proofs.«01_k».proof.Proof.Gen.AttnFwd.Frame
public import proofs.«01_k».proof.Proof.Gen.AttnFwdRefIdeal.Read
public import proofs.«01_k».proof.Proof.Gen.Pre_attn_fwd_finite
public import Idealize.ShloMosaic.Adequacy
public import Idealize.ShloMosaic.Lib.Quiescent
public import Idealize.ShloMosaic.Init

@[expose] public section

set_option maxRecDepth 16384

noncomputable section

/-! The claims about the forward attention. Its reference computes the probabilities with the very operations of the
    gradient's reference, so what is known of those is used again; what is left is the sum over the values. -/

namespace Cert.AttnFwdClaim

open Idealize.ShloMosaic Idealize.SL.Sem
open Cert.AttnFwdRefIdeal Cert.AttnFwdRefIdeal.Read
open Cert.AttnMath (P)
open Cert.AttnBwdIdeal.Val (scale col seg head coord)
open Cert.AttnFwdIdeal.Val (value out)

section read
variable {x0 : FVec Ideal S1x4096x14336 .f32} {x1 : FVec Ideal S16x513 .f32}
  {p : Fin 4096 → Fin 14336 → ℝ} {tb : Fin 16 → Fin 513 → ℝ}

theorem same_prob : val_main_v47 (F := Ideal) x0 x1 = Cert.AttnRefIdeal.Read.val_main_v65 (F := Ideal) x0 x1 := rfl

theorem same_value : val_main_v8 (F := Ideal) x0 = Cert.AttnRefIdeal.Read.val_main_v8 (F := Ideal) x0 := rfl

/-- The reference's result. -/
theorem read (hp : ∀ i j, x0 (ix3 0 i j) = (p i j : EReal)) (ht : ∀ h k, x1 (ix2 h k) = (tb h k : EReal)) :
    val_main_v50 (F := Ideal) x0 x1 = out p tb := by
  funext i
  rw [val_main_v50_apply, val_main_v49_apply, val_main_v48_apply]
  have hi : (i 1).val < 2048 := (i 1).isLt
  have e0 : ((i 0).val * 2048 + (i 1).val) / 2048 = (i 0).val := by omega
  have e1 : ((i 0).val * 2048 + (i 1).val) / 128 % 16 = (i 1).val / 128 := by omega
  have e2 : ((i 0).val * 2048 + (i 1).val) % 128 = (i 1).val % 128 := by omega
  have hs (j : Fin 4096) : val_main_v8 (F := Ideal) x0 (lidx_main_v48 (idx_main_v49 (idx_main_v50 i)) j)
        * val_main_v47 (F := Ideal) x0 x1 (ridx_main_v48 (idx_main_v49 (idx_main_v50 i)) j)
      = ((P (seg p 0 (head (i 1))) (seg p 1 (head (i 1))) (tb (head (i 1))) scale (i 0) j * seg p 2 (head (i 1)) j (coord (i 1)) : ℝ) : EReal) := by
    rw [same_prob, same_value, Cert.AttnRead.eq3 (lidx_main_v48 (idx_main_v49 (idx_main_v50 i)) j) j (head (i 1)) (coord (i 1)) rfl e1 e2,
      Cert.AttnRead.eq3 (ridx_main_v48 (idx_main_v49 (idx_main_v50 i)) j) (head (i 1)) (i 0) j e1 e0 rfl]
    refine (congrArg₂ (· * ·) (Cert.AttnRead.read_value hp _ _ _) (Cert.AttnRead.read_prob hp ht _ _ _)).trans ((Lift.mul _ _).trans ?_)
    rw [mul_comm]
  rw [Finset.sum_congr rfl fun j _ => hs j, Lift.sum]
  rfl
end read

/-- Arrays the precondition admits are arrays of real numbers. -/
theorem finite (x0 : FVec Ideal S1x4096x14336 .f32) (x1 : FVec Ideal S16x513 .f32)
    (h0 : (Cert.Pre_attn_fwd_finite.fn (F := Ideal) x0 x1).1 = fun _ => 1#1)
    (h1 : (Cert.Pre_attn_fwd_finite.fn (F := Ideal) x0 x1).2 = fun _ => 1#1) :
    (∃ a : S1x4096x14336.Idx → ℝ, x0 = fun i => (a i : EReal)) ∧ ∃ a : S16x513.Idx → ℝ, x1 = fun i => (a i : EReal) := by
  refine ⟨Lift.reals fun i => ?_, Lift.reals fun i => ?_⟩
  · have := congrFun h0 i
    rw [← Lift.lit_top]
    exact (Ideal.cmp_olt_eq_one _ _).mp this
  · have := congrFun h1 i
    rw [← Lift.lit_top]
    exact (Ideal.cmp_olt_eq_one _ _).mp this

/-- Over the reals kernel and reference return the same array, whenever projection and bias table are finite. -/
theorem algebraic : Cert.algebraic_AttnFwdIdeal_AttnFwdRefIdeal_pre_attn_fwd_finite := by
  intro m g m' g' hp ha
  refine ⟨fun c => Cert.AttnFwdRefIdeal.Value.res_main_v50 m' c, ?_, Cert.AttnFwdRefIdeal.Value.run m' g'⟩
  refine (θ_run _ _ _).mono (fun r h c => ⟨?_, (h c).2⟩) (Cert.AttnFwdIdeal.Value.run_blocks m g)
  obtain ⟨a0, a1⟩ := ha c
  obtain ⟨⟨p, e0⟩, ⟨tb, e1⟩⟩ := finite _ _ (hp c).1 (hp c).2
  beta_reduce
  rw [val_main_v50_eq, a0, a1, read (p := fun i j => p (ix3 0 i j)) (tb := fun h k => tb (ix2 h k)) (fun i j => congrFun e0 _) (fun h k => congrFun e1 _)]
  exact (h c).1.trans (Cert.AttnFwdIdeal.Val.final (p := fun i j => p (ix3 0 i j)) (tb := fun h k => tb (ix2 h k)) (fun i j => congrFun e0 _) (fun h k => congrFun e1 _))

/-- Naming the mask −∞ inside the kernel is the only rewrite. -/
theorem preserves : Cert.preserves_AttnFwd_AttnFwdIdeal :=
  IdealRules.named_const.statement Cert.AttnFwdIdeal.κ "mask" .f32 0xF149F2CA#32 ⊥ rfl

/-- The reference runs, leaves its arguments alone, and has no semaphore to leave raised. -/
theorem frame_ref : Cert.quiescent_AttnFwdRefIdeal := fun m g _ =>
  (θ_run _ _ _).mono (fun r h => ⟨fun c => (h c).2, sem_eq_zero_of_no_sems (by decide) r.2⟩) (Cert.AttnFwdRefIdeal.Value.run m g)

/-- The kernel runs and leaves its arguments alone, in machine arithmetic. -/
theorem frame : Cert.quiescent_AttnFwd := fun m g _ => Cert.AttnFwd.Gen.frame m g

/-- The kernel runs and leaves its arguments alone, over the reals. -/
theorem frame_ideal : Cert.quiescent_AttnFwdIdeal := fun m g _ => Cert.AttnFwdIdeal.Gen.frame m g

end Cert.AttnFwdClaim
-- ==== Proof.BiasBuild.lean ====
module

public import proofs.«01_k».proof.Defs
public import Idealize.ShloMosaic.Lib.Pipeline.ValueKit
public import Idealize.ShloMosaic.Lib.Pointwise
public import Idealize.ShloMosaic.Lib.Claim
public import proofs.«01_k».proof.Proof.Gen.BiasBuild.Frame
public import proofs.«01_k».proof.Proof.Gen.BiasBuildIdeal.Value
public import proofs.«01_k».proof.Proof.Gen.BiasBuildRefIdeal.Read
public import proofs.«01_k».proof.Proof.AttnPrelude
public import proofs.«01_k».proof.Proof.BiasGradClaim

@[expose] public section

set_option maxRecDepth 16384

noncomputable section

/-! The bias over a window of two blocks of keys: the kernel copies one vector of distances to all rows, moves every
    row on by its number, and masks what lies outside the band. -/

namespace Cert.BiasBuildIdeal.Val

open Cert.BiasBuildIdeal Cert.BiasBuildIdeal.Gen Idealize.ShloMosaic Idealize.ShloMosaic.TcCoe Idealize.SL.Sem
open Cert.AttnMath (band rel)
open Cert.BiasGradIdeal.Val (away)

/-- `table[:, idx]` for a vector of indices, read at an element. -/
theorem take_line {α : Type} (x : S16x513.Idx → α) (idx : IVec S1024x1 32) (h : Fin 16) (k : Fin 1024) (n : Fin 513)
    (hn : (idx (ix2 k 0)).toInt = (n.val : Int)) :
    Host.gather gather_S16x513_S1024x1_S16x1024_0_1_n_n_1_1_161 x idx (ix2 h k) = x (ix2 h n) := by
  set g := gather_S16x513_S1024x1_S16x1024_0_1_n_n_1_1_161 with hg
  unfold Host.gather
  refine congrArg x (funext fun a => Fin.ext ?_)
  show g.start (ix2 h k) idx a + g.batchCoord (ix2 h k) a + g.offCoord (ix2 h k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ g.startIndexMap from by decide)]
    show 0 + 0 + g.offCoord (ix2 h k) 0 = h.val
    rw [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ g.startIndexMap from List.mem_singleton.mpr rfl)]
    have hsi : g.siIdx (ix2 h k) ⟨List.idxOf (1 : Fin 2) g.startIndexMap, List.idxOf_lt_length_iff.2 (List.mem_singleton.mpr rfl)⟩
        = (ix2 k 0 : S1024x1.Idx) := by
      funext b
      refine Fin.ext ?_
      match b with
      | ⟨0, _⟩ => rfl
      | ⟨1, _⟩ => rfl
    rw [hsi, hn]
    show min n.val (513 - 1) + 0 + 0 = n.val
    omega

/-- The words for the chunk of a row and of a column, divided rounding down. -/
def part (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 64#32 0#32)) (Scalar.extui (Scalar.cmpi .slt 64#32 0#32))))
      (Scalar.cmpi .ne (IntOp.remsi .vector w 64#32) 0#32))
    (Scalar.subi (IntOp.divsi .vector w 64#32) 1#32) (IntOp.divsi .vector w 64#32)

theorem part_eq : ∀ k : Fin 1024, part (BitVec.ofNat 32 k.val) = BitVec.ofNat 32 (k.val / 64) := by decide +kernel

/-- The test of the band on chunks. -/
theorem chunk_test : ∀ a b : Fin 16, Scalar.andi (Scalar.cmpi .sge (BitVec.ofNat 32 a.val) (BitVec.ofNat 32 b.val))
      (Scalar.cmpi .sle (BitVec.ofNat 32 a.val) (Scalar.addi (BitVec.ofNat 32 b.val) 8#32))
    = if b.val ≤ a.val ∧ a.val ≤ b.val + 8 then 1#1 else 0#1 := by
  decide +kernel

/-- The rotated copies, row by row. -/
theorem rolled (x : Vec Ideal S1x1x1024 .f32) (r : Fin 512) (k : Fin 1024) :
    k0_pay4 (F := Ideal) (iota .tc S512x1024 32 [0] iota_S512x1024_d0_w32) (k0_pay2 x) k0_pay3 (ix2 r k) = x (ix3 0 0 (Roll.back k r.val)) := by
  refine (Roll.nine_back iota_S512x1024_d0_w32 rotates_S512x1024_d1
    (broadcastTo S512x1024 (shapeCast S1x1024 (shapeCast S1x1024 x shapeCasts_S1x1x1024_S1x1024) shapeCasts_S1x1024_S1x1024) broadcasts_S1x1024_S512x1024) r k).trans ?_
  pointwise

theorem rows (r : Fin 512) (k : Fin 1024) :
    k0_pay6 (iota .tc S512x1024 32 [0] iota_S512x1024_d0_w32) 64#32 (k0_pay5 (iota .tc S512x1024 32 [0] iota_S512x1024_d0_w32)) (ix2 r k)
      = BitVec.ofNat 32 (r.val / 64) := by
  refine Eq.trans ?_ (part_eq ⟨r.val, by omega⟩)
  pointwise [k0_pay6, k0_pay5, part]
  rfl

theorem columns (r : Fin 512) (k : Fin 1024) : k0_pay7 (ix2 r k) = BitVec.ofNat 32 (k.val / 64) := by
  refine Eq.trans ?_ (part_eq k)
  pointwise [k0_pay7, part]
  rfl

/-- A head's block of the result. -/
theorem block (x : Vec Ideal S1x1x1024 .f32) (r : Fin 512) (k : Fin 1024) :
    out0_1 x (ix3 0 r k) = if band (r.val + 512) k.val then x (ix3 0 0 (Roll.back k r.val)) else ⊥ := by
  have ho : out0_1 x = k0_pay1 (k0_pay4 (iota .tc S512x1024 32 [0] iota_S512x1024_d0_w32) (k0_pay2 x) k0_pay3)
      (k0_pay6 (iota .tc S512x1024 32 [0] iota_S512x1024_d0_w32) 64#32 (k0_pay5 (iota .tc S512x1024 32 [0] iota_S512x1024_d0_w32))) k0_pay7 := by
    unfold out0_1
    frame_out
    rfl
  rw [ho]
  have hx := rolled x r k
  have hr := rows r k
  have hc := columns r k
  generalize k0_pay4 (F := Ideal) _ _ _ = u at hx ⊢
  generalize k0_pay6 _ _ _ = v at hr ⊢
  generalize k0_pay7 = w at hc ⊢
  pointwise [k0_pay1]
  rw [hx, hr, hc, IdealRules.named_const.ideal_named_scalar _ _ _ _ rfl]
  have ht := chunk_test ⟨k.val / 64, by omega⟩ ⟨r.val / 64, by omega⟩
  refine (congrArg (fun z => Scalar.select z (x (ix3 0 0 (Roll.back k r.val))) (⊥ : EReal)) ht).trans ?_
  have hb : (r.val / 64 ≤ k.val / 64 ∧ k.val / 64 ≤ r.val / 64 + 8) ↔ band (r.val + 512) k.val := by
    unfold band
    omega
  simp only [hb]
  by_cases h : band (r.val + 512) k.val
  · simp only [h, if_true]; rfl
  · simp only [h, if_false]; rfl

variable (m : (ℓ : Loc nD τ sig) → Buf (Elt Ideal) ℓ)

/-- The vector of distances that the host gathers for a head. -/
theorem V_v19 (c : Dev nD) (h : Fin 16) (k : Fin 1024) : (V m c main_v19 : FVec Ideal S16x1x1024 .f32) (ix3 h 0 k)
    = (m ((c : Thread nD τ).loc main_arg0) : FVec Ideal S16x513 .f32) (ix2 h (away k)) := by
  have hi : ((V m c main_v17 : IVec S1024x1 32) (ix2 k 0)).toInt = ((away k).val : Int) := by
    unfold V
    simp only [hostOps0, hostOps0_1, hostOps0_2, hostOps0_3, hostOps0_4, List.flatten_cons, List.flatten_nil, List.append_nil, List.cons_append, List.nil_append]
    after_results
    simp only [StableHlo.TRef.ofBuf, StableHlo.TRef.toBuf, cast_eq, id]
    pointwise
    rw [Cert.BiasGradIdeal.Val.word k]
    have hw : (BitVec.ofNat 32 (away k).val).toInt = ((away k).val : Int) :=
      Words.toInt_of (Affine.ofNat (away k).val ⟨rfl, by have := (away k).isLt; omega⟩)
    exact (congrArg BitVec.toInt (Words.wrap (by rw [hw]; omega))).trans hw
  have hg : (V m c main_v19 : FVec Ideal S16x1x1024 .f32) = shapeCast S16x1x1024 (Host.gather gather_S16x513_S1024x1_S16x1024_0_1_n_n_1_1_161
      (m ((c : Thread nD τ).loc main_arg0) : FVec Ideal S16x513 .f32) (V m c main_v17 : IVec S1024x1 32)) shapeCasts_S16x1024_S16x1x1024 := by
    unfold V
    simp only [hostOps0, hostOps0_1, hostOps0_2, hostOps0_3, hostOps0_4, List.flatten_cons, List.flatten_nil, List.append_nil, List.cons_append, List.nil_append]
    after_results
    simp only [StableHlo.TRef.ofBuf, StableHlo.TRef.toBuf, cast_eq, id]
    rfl
  rw [hg]
  generalize (V m c main_v17 : IVec S1024x1 32) = y at hi ⊢
  have := take_line (m ((c : Thread nD τ).loc main_arg0) : FVec Ideal S16x513 .f32) y h k (away k) hi
  generalize Host.gather gather_S16x513_S1024x1_S16x1024_0_1_n_n_1_1_161 _ y = z at this ⊢
  rw [← this]
  pointwise

theorem idx : ∀ t : Fin cfg0.N, win0_0.index t = ![t.val, 0, 0] ∧ win0_1.index t = ![t.val, 0, 0] :=
  (by decide +kernel : ∀ t : Fin grid0.N, _)

/-- After the kernel its result holds every head's bias. -/
theorem final1 (c : Dev nD) : (dats m 0 c).arrAt 1 cfg0.N = Cert.AttnBwdIdeal.Val.bias (m ((c : Thread nD τ).loc main_arg0)) := by
  refine (dats m 0 c).arrAt_eq_of_covers 1 _ (by decide +kernel) fun t _ y => ?_
  blk_simp
  rw [after0_1]
  have hN : t.val < 16 := t.isLt.trans_eq N_0
  obtain ⟨r, k, rfl⟩ : ∃ (r : Fin 512) (k : Fin 1024), y = (ix3 0 r k : S1x512x1024.Idx) := ⟨y 1, y 2, by
    funext a
    match a with
    | ⟨0, _⟩ => exact Fin.ext (by have : (y 0 : ℕ) < 1 := (y 0).isLt; show (y 0 : ℕ) = 0; omega)
    | ⟨1, _⟩ => rfl
    | ⟨2, _⟩ => rfl⟩
  have e : ((cfg0.win 1).blk t).view.emb (ix3 0 r k : S1x512x1024.Idx) = (ix3 (⟨t.val, hN⟩ : Fin 16) r k : S16x512x1024.Idx) := by
    blk_ext [idx t]
  rw [e]
  refine (block _ r k).trans (Eq.trans ?_ (Cert.AttnBwdIdeal.Val.bias_apply _ ⟨t.val, hN⟩ r k).symm)
  by_cases hb : band (r.val + 512) k.val
  · rw [if_pos hb, if_pos hb, ← Cert.BiasGradClaim.away_eq r k hb, ← V_v19 m c]
    blk_point [iblk, idx t]
  · rw [if_neg hb, if_neg hb]

end Cert.BiasBuildIdeal.Val

namespace Cert.BiasBuildClaim

open Idealize.ShloMosaic Idealize.SL.Sem
open Cert.BiasBuildRefIdeal Cert.BiasBuildRefIdeal.Read

/-- The reference's result is the same bias, built with the same operations. -/
theorem read (x0 : FVec Ideal S16x513 .f32) : val_main_v25 (F := Ideal) x0 = Cert.AttnBwdIdeal.Val.bias x0 := rfl

/-- Over the reals kernel and reference return the same bias, for every table. -/
theorem algebraic : Cert.algebraic_BiasBuildIdeal_BiasBuildRefIdeal := by
  intro m g m' g' _ ha
  refine ⟨fun c => val_main_v25 (F := Ideal) (m' (c.tc.loc main_arg0)), ?_, Cert.BiasBuildRefIdeal.Value.run m' g'⟩
  refine (θ_run _ _ _).mono (fun r h c => ⟨?_, (h c).2⟩) (Cert.BiasBuildIdeal.Value.run_blocks m g)
  have a0 := ha c
  beta_reduce
  rw [a0, read]
  exact (h c).1.trans (Cert.BiasBuildIdeal.Val.final1 m c)

/-- Naming the mask −∞ inside the kernel is the only rewrite. -/
theorem preserves : Cert.preserves_BiasBuild_BiasBuildIdeal :=
  IdealRules.named_const.statement Cert.BiasBuildIdeal.κ "mask" .f32 0xF149F2CA#32 ⊥ rfl

/-- The reference runs, leaves its arguments alone, and has no semaphore to leave raised. -/
theorem frame_ref : Cert.quiescent_BiasBuildRefIdeal := fun m g _ =>
  (θ_run _ _ _).mono (fun r h => ⟨fun c => (h c).2, sem_eq_zero_of_no_sems (by decide) r.2⟩) (Cert.BiasBuildRefIdeal.Value.run m g)

/-- The kernel runs and leaves its arguments alone, in machine arithmetic. -/
theorem frame : Cert.quiescent_BiasBuild := fun m g _ => Cert.BiasBuild.Gen.frame m g

/-- The kernel runs and leaves its arguments alone, over the reals. -/
theorem frame_ideal : Cert.quiescent_BiasBuildIdeal := fun m g _ => Cert.BiasBuildIdeal.Gen.frame m g

end Cert.BiasBuildClaim
-- ==== Proof.ConvFwdBlock.lean ====
module

public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Ring
public import proofs.«01_k».proof.Proof.ConvMath
public import proofs.«01_k».proof.Proof.Lift
public import proofs.«01_k».proof.Proof.Gen.ConvFwdIdeal.Frame

@[expose] public section

set_option maxRecDepth 16384

noncomputable section

/-! What the convolution's kernel does with one block of 512 rows and 256 columns, as a few functions that take the
    number of a chunk of 64 rows or of a tap. -/

namespace Cert.ConvFwdIdeal.Val

open Cert.ConvFwdIdeal Cert.ConvFwdIdeal.Gen Idealize.ShloMosaic Idealize.ShloMosaic.TcCoe Cert.ConvMath

theorem rows_inb {o : ℕ} (h : o + 64 ≤ 544) : ∀ a, (![o, 0] : Fin 2 → ℕ) a + S64x256.size a ≤ S544x256.size a
  | ⟨0, _⟩ => h
  | ⟨1, _⟩ => Nat.le_refl _

theorem tap_inb {k : ℕ} (h : k < 32) : ∀ a, (![k, 0] : Fin 2 → ℕ) a + S1x256.size a ≤ S32x256.size a
  | ⟨0, _⟩ => h
  | ⟨1, _⟩ => Nat.le_refl _

theorem out_inb {o : ℕ} (h : o + 64 ≤ 512) : ∀ a, (![o, 0] : Fin 2 → ℕ) a + S64x256.size a ≤ S512x256.size a
  | ⟨0, _⟩ => h
  | ⟨1, _⟩ => Nat.le_refl _

/-- The 64 rows from row `o` on of a buffer of 544. -/
def rows (U : Vec Ideal S544x256 .f32) (o : ℕ) (h : o + 64 ≤ 544) : Vec Ideal S64x256 .f32 :=
  View.ld U (Rect.unit ![o, 0] S64x256.size (rows_inb h))

/-- The weights of tap `k`. -/
def tap (w : Vec Ideal S32x256 .f32) (k : ℕ) (h : k < 32) : Vec Ideal S1x256 .f32 :=
  View.ld w (Rect.unit ![k, 0] S1x256.size (tap_inb h))

/-- A row of 256 numbers, once for each of 64 rows. -/
def spread (x : Vec Ideal S1x256 .f32) : FVec Ideal S64x256 .f32 :=
  broadcastTo S64x256 (shapeCast S1x256 x shapeCasts_S1x256_S1x256) broadcasts_S1x256_S64x256

/-- The gated rows: the 32 rows before the block, or zeros, and the block's. -/
def gated (i : grid0.Coords) (x0 x1 : Vec Ideal S1x512x256 .bf16) (x2 x3 : Vec Ideal S1x32x256 .bf16) : Vec Ideal S544x256 .f32 :=
  View.canon (Val := Elt Ideal) [⟨Rect.unit ![32, 0] S512x256.size inb_S544x256_S512x256_32_0, k0_pay4 (k0_pay3 x0 x1)⟩,
    ⟨Rect.unit ![0, 0] S32x256.size inb_S544x256_S32x256_0_0, k0_pay2 i x2 x3⟩]

/-- The bias and the first `m` taps' sum for the chunk at row `o`. -/
def accum (U : Vec Ideal S544x256 .f32) (w : Vec Ideal S32x256 .f32) (b : Vec Ideal S1x256 .f32) (o : ℕ) (ho : o + 64 ≤ 512) :
    (m : ℕ) → m ≤ 31 → FVec Ideal S64x256 .f32
  | 0, _ => spread b
  | m + 1, h => addf (accum U w b o ho m (by omega)) (mulf (rows U (o + 2 + m) (by omega)) (spread (tap w m (by omega))))

/-- The stores of the first `n` chunks. -/
def stores (U : Vec Ideal S544x256 .f32) (w : Vec Ideal S32x256 .f32) (b : Vec Ideal S1x256 .f32) :
    (n : ℕ) → n ≤ 8 → List (View.Piece (Elt Ideal) S512x256 .f32)
  | 0, _ => []
  | n + 1, h => ⟨Rect.unit ![64 * n, 0] S64x256.size (out_inb (by omega)), accum U w b (64 * n) (by omega) 31 (by decide)⟩
      :: stores U w b n (by omega)

/-- A load of the buffer of 544 rows after stores into it. -/
theorem load_eq (v : View sig .tc .vmem S544x256 .f32) (L : List (View.Piece (Elt Ideal) S544x256 .f32)) (r : Rect S544x256) :
    v.readCov (Val := Elt Ideal) L r.toLoadRect = View.ld (View.canon L) r :=
  View.readCov_eq_canon' _ _ _

variable (m : (ℓ : Loc nD τ sig) → Buf (Elt Ideal) ℓ)

/-- The gated rows grid point `t` sees. -/
def U (c : Dev nD) (t : Fin cfg0.N) : Vec Ideal S544x256 .f32 :=
  gated (grid0.coords t) (iblk m c 0 t) (iblk m c 1 t) (iblk m c 2 t) (iblk m c 3 t)

/-- The block a grid point leaves. -/
theorem at_out (c : Dev nD) (t : Fin cfg0.N) :
    outsAt0 m c t = View.canon (Val := Elt Ideal) (stores (U m c t) (iblk m c 4 t) (iblk m c 5 t) 8 (by decide)) := by
  unfold outsAt0
  frame_out [load_eq]
  sl_kernel_rfl

end Cert.ConvFwdIdeal.Val

end
-- ==== Proof.ConvFwd.lean ====
module

public import proofs.«01_k».proof.Defs
public import proofs.«01_k».proof.Proof.ConvFwdBlock
public import proofs.«01_k».proof.Proof.ConvRead
public import proofs.«01_k».proof.Proof.Gen.ConvFwdIdeal.Value
public import proofs.«01_k».proof.Proof.Gen.ConvFwd.Frame
public import proofs.«01_k».proof.Proof.Gen.ConvFwdRefIdeal.Run
public import proofs.«01_k».proof.Proof.Gen.ConvFwdRefIdeal.Read
public import Idealize.ShloMosaic.Lib.KernelVsHost
public import Idealize.ShloMosaic.Adequacy
public import Idealize.ShloMosaic.Lib.Quiescent
public import Idealize.ShloMosaic.Init

@[expose] public section

set_option maxRecDepth 16384

noncomputable section

/-! The claims about the gated causal convolution. -/

namespace Cert.ConvFwdIdeal.Val

open Cert.ConvFwdIdeal Cert.ConvFwdIdeal.Gen Idealize.ShloMosaic Idealize.ShloMosaic.TcCoe Idealize.SL.Sem
open Cert.ConvMath
open Cert.ConvRead (seg va gs eq2)

theorem spread_apply (x : Vec Ideal S1x256 .f32) (r : Fin 64) (c : Fin 256) : spread x (ix2 r c) = x (ix2 0 c) := by
  pointwise [spread]

theorem accum_step (U : Vec Ideal S544x256 .f32) (w : Vec Ideal S32x256 .f32) (b : Vec Ideal S1x256 .f32) (o : ℕ) (ho : o + 64 ≤ 512)
    (r : Fin 64) (c : Fin 256) (m : ℕ) (h : m + 1 ≤ 31) : accum U w b o ho (m + 1) h (ix2 r c)
      = accum U w b o ho m (by omega) (ix2 r c) + U (ix2 ⟨o + 2 + m + r.val, by omega⟩ c) * w (ix2 ⟨m, by omega⟩ c) := by
  rw [accum]
  pointwise [rows, tap, spread_apply]

theorem accum_apply (U : Vec Ideal S544x256 .f32) (w : Vec Ideal S32x256 .f32) (b : Vec Ideal S1x256 .f32) (o : ℕ) (ho : o + 64 ≤ 512)
    (r : Fin 64) (c : Fin 256) : ∀ (m : ℕ) (h : m ≤ 31), accum U w b o ho m h (ix2 r c)
      = b (ix2 0 c) + ∑ k : Fin m, (U (ix2 ⟨o + 2 + k.val + r.val, by omega⟩ c) * w (ix2 ⟨k.val, by omega⟩ c) : EReal)
  | 0, h => (spread_apply b r c).trans (by rw [Fin.sum_univ_zero, add_zero])
  | m + 1, h => by
    rw [accum_step, accum_apply U w b o ho r c m (by omega), add_assoc]
    exact congrArg (_ + ·) (Fin.sum_univ_castSucc fun k : Fin (m + 1) =>
      (U (ix2 ⟨o + 2 + k.val + r.val, by omega⟩ c) * w (ix2 ⟨k.val, by omega⟩ c) : EReal)).symm

/-- What a row of the block holds. -/
def outRow (U : Vec Ideal S544x256 .f32) (w : Vec Ideal S32x256 .f32) (b : Vec Ideal S1x256 .f32) (n : Fin 512) (c : Fin 256) : EReal :=
  b (ix2 0 c) + ∑ k : Fin 31, (U (ix2 ⟨n.val + 2 + k.val, by omega⟩ c) * w (ix2 ⟨k.val, by omega⟩ c) : EReal)

theorem accum_at (U : Vec Ideal S544x256 .f32) (w : Vec Ideal S32x256 .f32) (b : Vec Ideal S1x256 .f32) (o : ℕ) (ho : o + 64 ≤ 512)
    (r : Fin 64) (c : Fin 256) (n : Fin 512) (hn : n.val = o + r.val) : accum U w b o ho 31 (by decide) (ix2 r c) = outRow U w b n c := by
  have hU : ∀ (q q' : ℕ) (hq : q < 544) (hq' : q' < 544), q = q' → (U (ix2 ⟨q, hq⟩ c) : EReal) = U (ix2 ⟨q', hq'⟩ c) :=
    fun q q' hq hq' e => by subst e; rfl
  rw [accum_apply, outRow]
  exact congrArg (_ + ·) (Finset.sum_congr rfl fun k _ => congrArg₂ (· * ·) (hU _ _ _ _ (by omega)) rfl)

theorem stores_cover (U : Vec Ideal S544x256 .f32) (w : Vec Ideal S32x256 .f32) (b : Vec Ideal S1x256 .f32) (y : S512x256.Idx) :
    ∃ p ∈ stores U w b 8 (by decide), y ∈ p.1.set :=
  View.cover_of_tiledL (s := S512x256) _ S64x256.size (by sl_kernel_rfl) y

theorem stores_pieces (U : Vec Ideal S544x256 .f32) (w : Vec Ideal S32x256 .f32) (b : Vec Ideal S1x256 .f32)
    (G : S512x256.Idx → Elt Ideal .f32) (hG : ∀ n c, G (ix2 n c) = outRow U w b n c) :
    ∀ (n : ℕ) (h : n ≤ 8), View.PiecesOf (Val := Elt Ideal) G (stores U w b n h)
  | 0, _ => trivial
  | n + 1, h => by
    refine ⟨fun x => ?_, stores_pieces U w b G hG n (by omega)⟩
    have hx : x = ix2 (x 0) (x 1) := eq2 x _ _ rfl rfl
    have h1 : (x 0).val < 64 := (x 0).isLt
    refine (congrArg _ hx).trans ((accum_at U w b (64 * n) (by omega) (x 0) (x 1) ⟨64 * n + (x 0).val, by omega⟩ rfl).trans
      ((hG ⟨64 * n + (x 0).val, by omega⟩ (x 1)).symm.trans (congrArg G (eq2 _ _ _ ?_ ?_).symm)))
    · show 64 * n + 1 * (x 0).val = 64 * n + (x 0).val; omega
    · show 0 + 1 * (x 1).val = (x 1).val; omega

/-- What the block holds. -/
theorem stores_apply (U : Vec Ideal S544x256 .f32) (w : Vec Ideal S32x256 .f32) (b : Vec Ideal S1x256 .f32) (n : Fin 512) (c : Fin 256) :
    View.canon (Val := Elt Ideal) (stores U w b 8 (by decide)) (ix2 n c) = outRow U w b n c := by
  let G : S512x256.Idx → Elt Ideal .f32 := fun y => outRow U w b (y 0) (y 1)
  exact View.canon_apply_of_pieces G _ (View.PiecesOf.mem (stores_pieces U w b G (fun _ _ => rfl) 8 (by decide))) _ (stores_cover U w b _)

/-- A place of a buffer of 544 rows lies in the rows from `o` on. -/
theorem mem_rows (y : S544x256.Idx) (o n : ℕ) (h) (h₁ : o ≤ (y 0).val) (h₂ : (y 0).val < o + n) :
    y ∈ (Rect.unit (s := S544x256) ![o, 0] ![n, 256] h).set := by
  refine Rect.mem_set_unit.mpr fun a => ?_
  match a with
  | ⟨0, _⟩ => exact ⟨h₁, h₂⟩
  | ⟨1, _⟩ => exact ⟨Nat.zero_le _, lt_of_lt_of_eq (y 1).isLt (Nat.zero_add 256).symm⟩

theorem gated_cover (i : grid0.Coords) (x0 x1 : Vec Ideal S1x512x256 .bf16) (x2 x3 : Vec Ideal S1x32x256 .bf16) (y : S544x256.Idx) :
    ∃ p ∈ ([⟨Rect.unit ![32, 0] S512x256.size inb_S544x256_S512x256_32_0, k0_pay4 (k0_pay3 x0 x1)⟩,
      ⟨Rect.unit ![0, 0] S32x256.size inb_S544x256_S32x256_0_0, k0_pay2 i x2 x3⟩] : List (View.Piece (Elt Ideal) S544x256 .f32)), y ∈ p.1.set := by
  by_cases h : 32 ≤ (y 0).val
  · exact ⟨_, .head _, mem_rows y 32 512 inb_S544x256_S512x256_32_0 h (by have := (y 0).isLt; exact this)⟩
  · exact ⟨_, .tail _ (.head _), mem_rows y 0 32 inb_S544x256_S32x256_0_0 (Nat.zero_le _) (by omega)⟩

theorem gate_block (x0 x1 : Vec Ideal S1x512x256 .bf16) (r : Fin 512) (c : Fin 256) :
    k0_pay4 (k0_pay3 (F := Ideal) x0 x1) (ix2 r c) = x0 (ix3 0 r c) * sg (x1 (ix3 0 r c)) := by
  pointwise [k0_pay4, k0_pay3, sg, zero_sub]

/-- The gated rows of the block. -/
theorem gated_high (i : grid0.Coords) (x0 x1 : Vec Ideal S1x512x256 .bf16) (x2 x3 : Vec Ideal S1x32x256 .bf16) (n : Fin 544) (c : Fin 256)
    (q : Fin 512) (hq : n.val = q.val + 32) : gated i x0 x1 x2 x3 (ix2 n c) = x0 (ix3 0 q c) * sg (x1 (ix3 0 q c)) := by
  unfold gated
  canon_tiles x e using gated_cover i x0 x1 x2 x3 _
  · rw [eq2 x q c (by have : (n : ℕ) = 32 + _ := e0; omega) e1.symm]
    exact gate_block x0 x1 q c
  · exfalso; have : (n : ℕ) = _ := e0; omega

/-- The gated rows before it, or zeros. -/
theorem gated_low (i : grid0.Coords) (x0 x1 : Vec Ideal S1x512x256 .bf16) (x2 x3 : Vec Ideal S1x32x256 .bf16) (n : Fin 544) (c : Fin 256)
    (q : Fin 32) (hq : n.val = q.val) :
    gated i x0 x1 x2 x3 (ix2 n c) = if 0 < (i 1).val then x2 (ix3 0 q c) * sg (x3 (ix3 0 q c)) else 0 := by
  have hi : ∀ k : Fin 8, (Scalar.cmpi .sgt (BitVec.ofNat 32 k.val) 0#32 = 1#1) ↔ 0 < k.val := by decide
  unfold gated
  canon_tiles x e using gated_cover i x0 x1 x2 x3 _
  · exfalso; have : (n : ℕ) = 32 + _ := e0; omega
  · rw [eq2 x q c (by have : (n : ℕ) = _ := e0; omega) e1.symm]
    by_cases h : 0 < (i 1).val
    · rw [if_pos h]
      pointwise [k0_pay2, sg, zero_sub]
      exact if_pos ((hi (i 1)).mpr h)
    · rw [if_neg h]
      pointwise [k0_pay2]
      exact if_neg fun e => h ((hi (i 1)).mp e)

variable (m : (ℓ : Loc nD τ sig) → Buf (Elt Ideal) ℓ) (c : Dev nD)

/-- The projection's segments as the host hands them to the kernel. -/
theorem V_v2 (g : Fin 7) (i : Fin 4096) (j : Fin 2048) : (V m c main_v2 : FVec Ideal S7x4096x2048 .bf16) (ix3 g i j)
    = (m ((c : Thread nD τ).loc main_arg0) : FVec Ideal S1x4096x14336 .f32) (ix3 0 i (seg g j)) := by
  unfold V
  simp only [hostOps0, hostOps0_1, List.flatten_cons, List.flatten_nil, List.append_nil, List.cons_append, List.nil_append]
  after_results
  pointwise
  exact congrArg (fun q => m ((c : Thread nD τ).loc main_arg0) (ix3 0 i q)) (Fin.ext (by show g.val * 2048 + j.val = 2048 * g.val + j.val; omega))

/-- The weights, one row of zeros below. -/
theorem V_v3 (k : Fin 31) (j : Fin 2048) : (V m c main_v3 : FVec Ideal S32x2048 .f32) (ix2 ⟨k.val, by omega⟩ j)
    = (m ((c : Thread nD τ).loc main_arg1) : FVec Ideal S31x2048 .f32) (ix2 k j) := by
  unfold V
  simp only [hostOps0, hostOps0_1, List.flatten_cons, List.flatten_nil, List.append_nil, List.cons_append, List.nil_append]
  after_results
  simp only [StableHlo.TRef.ofBuf, StableHlo.TRef.toBuf, cast_eq, id]
  exact pad_apply_of_inside _ _ _ _ _ _ _ _ (ix2 k j) fun a => match a with
    | ⟨0, _⟩ => by show k.val = 0 + k.val * (0 + 1); omega
    | ⟨1, _⟩ => by show j.val = 0 + j.val * (0 + 1); omega

theorem idx : ∀ t : Fin cfg0.N, win0_0.index t = ![4, t.val % 8, t.val / 8] ∧ win0_1.index t = ![5, t.val % 8, t.val / 8]
    ∧ win0_2.index t = ![4, 16 * (t.val % 8) - 1, t.val / 8] ∧ win0_3.index t = ![5, 16 * (t.val % 8) - 1, t.val / 8]
    ∧ win0_4.index t = ![0, t.val / 8] ∧ win0_5.index t = ![0, t.val / 8] ∧ win0_6.index t = ![t.val % 8, t.val / 8]
    ∧ (grid0.coords t 1).val = t.val % 8 :=
  (by decide +kernel : ∀ t : Fin grid0.N, _)

/-- Row `r` and column `q` of the block of grid point `t`. -/
def row (t : Fin cfg0.N) (r : Fin 512) : Fin 4096 := ⟨512 * (t.val % 8) + r.val, by omega⟩
def col (t : Fin cfg0.N) (q : Fin 256) : Fin 2048 := ⟨256 * (t.val / 8) + q.val, by have := t.isLt.trans_eq N_0; omega⟩

variable (t : Fin cfg0.N)

theorem blk0 (r : Fin 512) (q : Fin 256) : (iblk m c 0 t : FVec Ideal S1x512x256 .bf16) (ix3 0 r q)
    = va (m ((c : Thread nD τ).loc main_arg0)) (col t q) (row t r) := by
  refine Eq.trans ?_ (V_v2 m c 4 (row t r) (col t q))
  unfold iblk
  blk_point [idx t, row, col]

theorem blk1 (r : Fin 512) (q : Fin 256) : sg ((iblk m c 1 t : FVec Ideal S1x512x256 .bf16) (ix3 0 r q))
    = gs (m ((c : Thread nD τ).loc main_arg0)) (col t q) (row t r) := by
  refine congrArg sg (Eq.trans ?_ (V_v2 m c 5 (row t r) (col t q)))
  unfold iblk
  blk_point [idx t, row, col]

theorem blk2 (hi : 0 < t.val % 8) (r : Fin 32) (q : Fin 256) : (iblk m c 2 t : FVec Ideal S1x32x256 .bf16) (ix3 0 r q)
    = va (m ((c : Thread nD τ).loc main_arg0)) (col t q) ⟨512 * (t.val % 8) + r.val - 32, by omega⟩ := by
  refine Eq.trans ?_ (V_v2 m c 4 ⟨512 * (t.val % 8) + r.val - 32, by omega⟩ (col t q))
  unfold iblk
  blk_point [idx t, col]

theorem blk3 (hi : 0 < t.val % 8) (r : Fin 32) (q : Fin 256) : sg ((iblk m c 3 t : FVec Ideal S1x32x256 .bf16) (ix3 0 r q))
    = gs (m ((c : Thread nD τ).loc main_arg0)) (col t q) ⟨512 * (t.val % 8) + r.val - 32, by omega⟩ := by
  refine congrArg sg (Eq.trans ?_ (V_v2 m c 5 ⟨512 * (t.val % 8) + r.val - 32, by omega⟩ (col t q)))
  unfold iblk
  blk_point [idx t, col]

theorem blk4 (k : Fin 31) (q : Fin 256) : (iblk m c 4 t : FVec Ideal S32x256 .f32) (ix2 ⟨k.val, by omega⟩ q)
    = (m ((c : Thread nD τ).loc main_arg1) : FVec Ideal S31x2048 .f32) (ix2 k (col t q)) := by
  refine Eq.trans ?_ (V_v3 m c k (col t q))
  unfold iblk
  blk_point [idx t, col]

theorem blk5 (q : Fin 256) : (iblk m c 5 t : FVec Ideal S1x256 .f32) (ix2 0 q)
    = (m ((c : Thread nD τ).loc main_arg2) : FVec Ideal S1x2048 .f32) (ix2 0 (col t q)) := by
  unfold iblk
  blk_point [V, idx t, col]

/-- The gated row a row of the buffer of 544 holds. -/
theorem U_apply (n : Fin 544) (q : Fin 256) : U m c t (ix2 n q)
    = if h : 32 ≤ 512 * (t.val % 8) + n.val then va (m ((c : Thread nD τ).loc main_arg0)) (col t q) ⟨512 * (t.val % 8) + n.val - 32, by omega⟩
        * gs (m ((c : Thread nD τ).loc main_arg0)) (col t q) ⟨512 * (t.val % 8) + n.val - 32, by omega⟩ else 0 := by
  unfold U
  by_cases hn : n.val < 32
  · rw [gated_low _ _ _ _ _ n q ⟨n.val, hn⟩ rfl, (idx t).2.2.2.2.2.2.2]
    by_cases hi : 0 < t.val % 8
    · rw [if_pos hi, dif_pos (by omega), blk2 m c t hi, blk3 m c t hi]
    · rw [if_neg hi, dif_neg (by omega)]
  · rw [gated_high _ _ _ _ _ n q ⟨n.val - 32, by omega⟩ (by dsimp only; omega), dif_pos (by omega), blk0 m c t, blk1 m c t]
    have : row t ⟨n.val - 32, by omega⟩ = ⟨512 * (t.val % 8) + n.val - 32, by omega⟩ := Fin.ext (by simp only [row]; omega)
    rw [this]

end Cert.ConvFwdIdeal.Val

namespace Cert.ConvFwdClaim

open Idealize.ShloMosaic Idealize.SL.Sem Cert.ConvFwdRefIdeal Cert.ConvFwdRefIdeal.Read Cert.ConvMath
open Cert.ConvRead (va gs eq2 eq3)

/-- The convolution at row `t`, column `C`: the window's gated rows by the weights, and the bias. -/
def Y (p : FVec Ideal S1x4096x14336 .f32) (w : FVec Ideal S31x2048 .f32) (b : FVec Ideal S1x2048 .f32) (t : Fin 4096) (C : Fin 2048) : EReal :=
  (∑ k : Fin 31, win (fun t => va p C t * gs p C t) t k * w (ix2 k C)) + b (ix2 0 C)

/-- The reference's result. -/
theorem read (p : FVec Ideal S1x4096x14336 .f32) (w : FVec Ideal S31x2048 .f32) (b : FVec Ideal S1x2048 .f32) (t : Fin 4096) (C : Fin 2048) :
    val_main_v30 (F := Ideal) p w b (ix2 t C) = Y p w b t C := by
  rw [val_main_v30_apply, val_main_v26_apply, show val_main_cst_3 (F := Ideal) (Shape.Idx.first Gen.h_S_) = 0 from Lift.lit_zero, zero_add]
  refine congrArg₂ (· + ·) (Finset.sum_congr rfl fun k _ => ?_) ?_
  · rw [eq3 (idx_main_v26 (ix2 t C) k) t k C rfl rfl rfl, val_main_v25_apply, val_main_v24_apply, val_main_v23_apply,
      eq2 (idx_main_v23 (idx_main_v24 (ix3 t k C))) k C rfl rfl]
    exact congrArg (· * _) (Cert.ConvRead.read_win p t k C)
  · rw [val_main_v29_apply, val_main_v28_apply, val_main_v27_apply]
    exact congrArg b (eq2 _ 0 C (by simp [ix2]) (by simp [ix2]))

end Cert.ConvFwdClaim

namespace Cert.ConvFwdIdeal.Val

open Cert.ConvFwdIdeal Cert.ConvFwdIdeal.Gen Idealize.ShloMosaic Idealize.ShloMosaic.TcCoe Idealize.SL.Sem
open Cert.ConvMath
open Cert.ConvRead (va gs eq2)

variable (m : (ℓ : Loc nD τ sig) → Buf (Elt Ideal) ℓ) (c : Dev nD) (t : Fin cfg0.N)

/-- The row a grid point leaves. -/
theorem row_at (n : Fin 512) (q : Fin 256) : outsAt0 m c t (ix2 n q)
    = Cert.ConvFwdClaim.Y (m ((c : Thread nD τ).loc main_arg0)) (m ((c : Thread nD τ).loc main_arg1)) (m ((c : Thread nD τ).loc main_arg2))
        (row t n) (col t q) := by
  rw [at_out, stores_apply, outRow, blk5, Cert.ConvFwdClaim.Y, add_comm]
  refine congrArg (· + _) (Finset.sum_congr rfl fun k _ => ?_)
  rw [U_apply m c t, blk4 m c t k q]
  refine congrArg (· * _) ?_
  unfold win
  by_cases h : 30 ≤ (row t n).val + k.val
  · rw [if_pos h, dif_pos (by simp only [row] at h; dsimp only; omega)]
    have : ∀ (a b : ℕ) (ha : a < 4096) (hb : b < 4096), a = b → (va (m ((c : Thread nD τ).loc main_arg0)) (col t q) ⟨a, ha⟩
        * gs (m ((c : Thread nD τ).loc main_arg0)) (col t q) ⟨a, ha⟩) = va (m ((c : Thread nD τ).loc main_arg0)) (col t q) ⟨b, hb⟩
        * gs (m ((c : Thread nD τ).loc main_arg0)) (col t q) ⟨b, hb⟩ := fun a b ha hb e => by subst e; rfl
    exact this _ _ _ _ (by simp only [row]; omega)
  · rw [if_neg h, dif_neg (by simp only [row] at h; dsimp only; omega)]

/-- The kernel's result. -/
theorem final6 : (dats m 0 c).arrAt 6 cfg0.N = (fun i => Cert.ConvFwdClaim.Y (m ((c : Thread nD τ).loc main_arg0))
    (m ((c : Thread nD τ).loc main_arg1)) (m ((c : Thread nD τ).loc main_arg2)) (i 0) (i 1) : FVec Ideal S4096x2048 .f32) := by
  refine (dats m 0 c).arrAt_eq_of_covers 6 _ (by decide +kernel) fun t _ y => ?_
  blk_simp
  rw [after0_6]
  obtain ⟨n, q, rfl⟩ : ∃ (n : Fin 512) (q : Fin 256), (y : S512x256.Idx) = ix2 n q := ⟨y 0, y 1, by blk_ext []⟩
  have e : ((cfg0.win 6).blk t).view.emb (ix2 n q : S512x256.Idx) = (ix2 (row t n) (col t q) : S4096x2048.Idx) := by blk_ext [idx t, row, col]
  rw [e]
  exact row_at m c t n q

end Cert.ConvFwdIdeal.Val

namespace Cert.ConvFwdClaim

open Idealize.ShloMosaic Idealize.SL.Sem Cert.ConvFwdRefIdeal Cert.ConvFwdRefIdeal.Read

/-- Over the reals kernel and reference return the same array. -/
theorem algebraic : Cert.algebraic_ConvFwdIdeal_ConvFwdRefIdeal := by
  intro m g m' g' _ ha
  refine ⟨fun c => val_main_v30 (F := Ideal) (m (c.tc.loc Cert.ConvFwdIdeal.main_arg0)) (m (c.tc.loc Cert.ConvFwdIdeal.main_arg1)) (m (c.tc.loc Cert.ConvFwdIdeal.main_arg2)),
    (θ_run _ _ _).mono (fun r h c => ?_) (Cert.ConvFwdIdeal.Value.run_blocks m g),
    (θ_run _ _ _).mono (fun r h c => ?_) (Cert.ConvFwdRefIdeal.Value.run m' g')⟩
  · refine ⟨(h c).1.trans ((Cert.ConvFwdIdeal.Val.final6 m c).trans (funext fun i => ?_)), (h c).2⟩
    obtain ⟨t, C, rfl⟩ : ∃ (t : Fin 4096) (C : Fin 2048), i = ix2 t C := ⟨i 0, i 1, Cert.ConvRead.eq2 i _ _ rfl rfl⟩
    exact (read _ _ _ t C).symm
  · obtain ⟨a0, a1, a2⟩ := ha c
    exact ⟨(h c).1.trans ((val_main_v30_eq _ _ _).trans (by rw [a0, a1, a2])), (h c).2⟩

/-- The reference runs, leaves its arguments alone, and has no semaphore to leave raised. -/
theorem frame_ref : Cert.quiescent_ConvFwdRefIdeal := fun m g _ =>
  (θ_run _ _ _).mono (fun r h => ⟨fun c => (h c).2, sem_eq_zero_of_no_sems (by decide) r.2⟩) (Cert.ConvFwdRefIdeal.Value.run m g)

/-- The kernel runs and leaves its arguments alone, in machine arithmetic. -/
theorem frame : Cert.quiescent_ConvFwd := fun m g _ => Cert.ConvFwd.Gen.frame m g

/-- The kernel runs and leaves its arguments alone, over the reals. -/
theorem frame_ideal : Cert.quiescent_ConvFwdIdeal := fun m g _ => Cert.ConvFwdIdeal.Gen.frame m g

end Cert.ConvFwdClaim

end
-- ==== Proof.Tiles.lean ====
module

public import Idealize.ShloMosaic.Lib.KernelVsHost
public import Idealize.ShloMosaic.Lib.Pipeline.ValueKit

@[expose] public section

noncomputable section

/-! Sums cut into blocks, and indices by their coordinates. -/

namespace Cert.Tiles

open Idealize.ShloMosaic

/-- A sum over 4096 places as two blocks of 2048. -/
theorem two (f : Fin 4096 → EReal) : ∑ s : Fin 2, ∑ e : Fin 2048, f ⟨2048 * s.val + e.val, by omega⟩ = ∑ k, f k := by
  refine Eq.trans (Finset.sum_congr rfl fun s _ => Finset.sum_congr rfl fun e _ => congrArg f (Fin.ext ?_))
    (Fin.sum_mul_add_fin (L := 4096) 2 2048 f)
  simp only; omega

/-- A sum over 4096 places as four blocks of 1024. -/
theorem four (f : Fin 4096 → EReal) : ∑ s : Fin 4, ∑ e : Fin 1024, f ⟨1024 * s.val + e.val, by omega⟩ = ∑ k, f k := by
  refine Eq.trans (Finset.sum_congr rfl fun s _ => Finset.sum_congr rfl fun e _ => congrArg f (Fin.ext ?_))
    (Fin.sum_mul_add_fin (L := 4096) 4 1024 f)
  simp only; omega

end Cert.Tiles
-- ==== Proof.GateFwd.lean ====
module

public import proofs.«01_k».proof.Defs
public import proofs.«01_k».proof.Proof.Tiles
public import proofs.«01_k».proof.Proof.ConvRead
public import proofs.«01_k».proof.Proof.ConvMath
public import proofs.«01_k».proof.Proof.Lift
public import proofs.«01_k».proof.Proof.Gen.GateFwdIdeal.Value
public import proofs.«01_k».proof.Proof.Gen.GateFwd.Frame
public import proofs.«01_k».proof.Proof.Gen.GateFwdRefIdeal.Run
public import proofs.«01_k».proof.Proof.Gen.GateFwdRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the gate: a tiled product, its sigmoid, and a second product it scales. -/

namespace Cert.GateFwdIdeal.Val

open Cert.ConvMath (sg)
open Cert.GateFwdIdeal Cert.GateFwdIdeal.Gen Idealize.ShloMosaic Idealize.ShloMosaic.TcCoe Idealize.SL.Sem

/-- A load of the accumulator after stores into it. -/
theorem load_eq (v : View sig .tc .vmem S1024x1024 .f32) (L : List (View.Piece (Elt Ideal) S1024x1024 .f32)) (r : Rect S1024x1024) :
    v.readCov (Val := Elt Ideal) L r.toLoadRect = View.ld (View.canon L) r :=
  View.readCov_eq_canon' _ _ _

/-- One term of the product at row `i` and column `j`. -/
abbrev term (y w : FVec Ideal S4096x4096 .f32) (i j k : Fin 4096) : EReal := y (ix2 i k) * w (ix2 k j)

/-- One term of the product of two blocks. -/
abbrev blockTerm (y : FVec Ideal S1024x1024 .bf16) (w : FVec Ideal S1024x1024 .bf16) (r q : Fin 1024) (e : Fin 1024) : EReal :=
  y (ix2 r e) * w (ix2 e q)

variable (m : (ℓ : Loc nD τ sig) → Buf (Elt Ideal) ℓ) (c : Dev nD) (t : Fin cfg0.N)

/-- The product of grid point `t`'s blocks. -/
def part : Vec Ideal S1024x1024 .f32 := k0_pay1 (iblk m c 0 t) (iblk m c 1 t)

/-- The accumulator after a run's first grid point. -/
theorem at_first (h : t.val % 4 = 0) (j : S1024x1024.Idx) : (outsAt0 m c t.val t.isLt).2.2.2 j = part m c t j := by
  have : (outsAt0 m c t.val t.isLt).2.2.2 = k0_pay2 (iblk m c 0 t) (iblk m c 1 t) := by
    rw [outsAt0_A m c t h (by omega) (by omega)]; frame_out [load_eq]
  rw [this]; pointwise [k0_pay2, part]

/-- The accumulator after a later grid point. -/
theorem at_next (h : ¬t.val % 4 = 0) (j : S1024x1024.Idx) : (outsAt0 m c t.val t.isLt).2.2.2 j
    = ((outsAt0 m c (t.val - 1) (by omega)).2.2.2 j + part m c t j : EReal) := by
  have : (outsAt0 m c t.val t.isLt).2.2.2 = k0_pay3 (iblk m c 0 t) (iblk m c 1 t) (outsAt0 m c (t.val - 1) (by omega)).2.2.2 := by
    by_cases h3 : t.val % 4 = 3
    · rw [outsAt0_C m c t h (by omega) h3]; frame_out [load_eq]
      exact congrArg (k0_pay3 _ _) ((Memref.isWhole_whole _).read_unread _)
    · rw [outsAt0_B m c t h (by omega) h3]; frame_out [load_eq]
      exact congrArg (k0_pay3 _ _) ((Memref.isWhole_whole _).read_unread _)
  rw [this]; pointwise [k0_pay3, part]

/-- The blocks a run's last grid point writes. -/
theorem at_last (h : t.val % 4 = 3) : (outsAt0 m c t.val t.isLt).1
      = k0_pay6 (outsAt0 m c t.val t.isLt).2.2.2 (iblk m c 2 t) (iblk m c 4 t) (iblk m c 5 t) (iblk m c 3 t)
    ∧ (outsAt0 m c t.val t.isLt).2.1 = k0_pay7 (outsAt0 m c t.val t.isLt).2.2.2 (iblk m c 2 t)
    ∧ (outsAt0 m c t.val t.isLt).2.2.1 = k0_pay8 (iblk m c 4 t) (iblk m c 5 t) := by
  refine ⟨?_, ?_, ?_⟩ <;> (rw [outsAt0_C m c t (by omega) (by omega) h]; frame_out [load_eq])

theorem idx : ∀ t : Fin cfg0.N, win0_0.index t = ![t.val / 16, t.val % 4] ∧ win0_1.index t = ![t.val % 4, t.val / 4 % 4]
    ∧ win0_2.index t = ![0, t.val / 4 % 4] ∧ win0_3.index t = ![t.val / 16, t.val / 4 % 4] ∧ win0_4.index t = ![t.val / 16, 0]
    ∧ win0_5.index t = ![0, t.val / 4 % 4] ∧ win0_6.index t = ![t.val / 16, t.val / 4 % 4] ∧ win0_7.index t = ![t.val / 16, t.val / 4 % 4]
    ∧ win0_8.index t = ![t.val / 16, t.val / 4 % 4] :=
  (by decide +kernel : ∀ t : Fin grid0.N, _)

/-- Row `r` and column `q` of grid point `t`'s block of the result, and the `e`-th of the places it sums over. -/
def row (r : Fin 1024) : Fin 4096 := ⟨1024 * (t.val / 16) + r.val, by have := t.isLt.trans_eq N_0; omega⟩
def col (q : Fin 1024) : Fin 4096 := ⟨1024 * (t.val / 4 % 4) + q.val, by omega⟩
def mid (e : Fin 1024) : Fin 4096 := ⟨1024 * (t.val % 4) + e.val, by omega⟩

theorem blk0 (r : Fin 1024) (e : Fin 1024) : (iblk m c 0 t : FVec Ideal S1024x1024 .bf16) (ix2 r e)
    = (m ((c : Thread nD τ).loc main_arg0) : FVec Ideal S4096x4096 .f32) (ix2 (row t r) (mid t e)) := by
  have hV : (V m c main_v0 : FVec Ideal S4096x4096 .bf16) (ix2 (row t r) (mid t e))
      = (m ((c : Thread nD τ).loc main_arg0) : FVec Ideal S4096x4096 .f32) (ix2 (row t r) (mid t e)) := by
    unfold V
    after_results
    pointwise
  refine Eq.trans ?_ hV
  unfold iblk
  blk_point [idx t, row, mid]

theorem blk1 (e : Fin 1024) (q : Fin 1024) : (iblk m c 1 t : FVec Ideal S1024x1024 .bf16) (ix2 e q)
    = (m ((c : Thread nD τ).loc main_arg1) : FVec Ideal S4096x4096 .f32) (ix2 (mid t e) (col t q)) := by
  have hV : (V m c main_v1 : FVec Ideal S4096x4096 .bf16) (ix2 (mid t e) (col t q))
      = (m ((c : Thread nD τ).loc main_arg1) : FVec Ideal S4096x4096 .f32) (ix2 (mid t e) (col t q)) := by
    unfold V
    after_results
    pointwise
  refine Eq.trans ?_ hV
  unfold iblk
  blk_point [idx t, mid, col]

theorem blk2 (q : Fin 1024) : (iblk m c 2 t : FVec Ideal S1x1024 .f32) (ix2 0 q)
    = (m ((c : Thread nD τ).loc main_arg2) : FVec Ideal S1x4096 .f32) (ix2 0 (col t q)) := by
  unfold iblk
  blk_point [V, idx t, col]

theorem blk3 (r q : Fin 1024) : (iblk m c 3 t : FVec Ideal S1024x1024 .f32) (ix2 r q)
    = (m ((c : Thread nD τ).loc main_arg3) : FVec Ideal S4096x4096 .f32) (ix2 (row t r) (col t q)) := by
  unfold iblk
  blk_point [V, idx t, row, col]

theorem blk4 (r : Fin 1024) (e : Fin 256) : (iblk m c 4 t : FVec Ideal S1024x256 .f32) (ix2 r e)
    = (m ((c : Thread nD τ).loc main_arg4) : FVec Ideal S4096x256 .f32) (ix2 (row t r) e) := by
  unfold iblk
  blk_point [V, idx t, row]

theorem blk5 (e : Fin 256) (q : Fin 1024) : (iblk m c 5 t : FVec Ideal S256x1024 .bf16) (ix2 e q)
    = (m ((c : Thread nD τ).loc main_arg5) : FVec Ideal S256x4096 .f32) (ix2 e (col t q)) := by
  have hV : (V m c main_v2 : FVec Ideal S256x4096 .bf16) (ix2 e (col t q))
      = (m ((c : Thread nD τ).loc main_arg5) : FVec Ideal S256x4096 .f32) (ix2 e (col t q)) := by
    unfold V
    after_results
    pointwise
  refine Eq.trans ?_ hV
  unfold iblk
  blk_point [idx t, col]

theorem part_at (r q : Fin 1024) : part m c t (ix2 r q)
    = ∑ e : Fin 1024, term (m ((c : Thread nD τ).loc main_arg0)) (m ((c : Thread nD τ).loc main_arg1)) (row t r) (col t q) (mid t e) := by
  have : part m c t (ix2 r q) = ∑ e : Fin 1024, blockTerm (iblk m c 0 t) (iblk m c 1 t) r q e := by
    unfold part
    pointwise [k0_pay1]
  rw [this]
  exact Finset.sum_congr rfl fun e _ => congrArg₂ (fun a b : EReal => a * b) (blk0 m c t r e) (blk1 m c t e q)

/-- The accumulator when a run is over. -/
theorem sum_at (h : t.val % 4 = 3) (r q : Fin 1024) : (outsAt0 m c t.val t.isLt).2.2.2 (ix2 r q)
    = ∑ k : Fin 4096, term (m ((c : Thread nD τ).loc main_arg0)) (m ((c : Thread nD τ).loc main_arg1)) (row t r) (col t q) k := by
  rw [Pipeline.eq_sum_fin_of_reset_step_apply_of_flush (fun n h => (outsAt0 m c n h).2.2.2) 4 (fun _ => 0) (part m c)
    (fun t h j => by rw [at_first m c t h j, zero_add]) (fun t h j => at_next m c t h j) t h, zero_add, ← Tiles.four]
  have hN := t.isLt.trans_eq N_0
  refine Finset.sum_congr rfl fun s _ => (part_at m c _ r q).trans (Finset.sum_congr rfl fun e _ => ?_)
  have e1 : row ⟨4 * (t.val / 4) + s.val, Pipeline.run_point_lt_of_flush t h s⟩ r = row t r := Fin.ext (by simp only [row]; omega)
  have e2 : col ⟨4 * (t.val / 4) + s.val, Pipeline.run_point_lt_of_flush t h s⟩ q = col t q := Fin.ext (by simp only [col]; omega)
  have e3 : mid ⟨4 * (t.val / 4) + s.val, Pipeline.run_point_lt_of_flush t h s⟩ e = ⟨1024 * s.val + e.val, by omega⟩ :=
    Fin.ext (by simp only [mid]; omega)
  rw [e1, e2, e3]

/-- The gate. -/
def gate (hn w : FVec Ideal S4096x4096 .f32) (b : FVec Ideal S1x4096 .f32) (i j : Fin 4096) : EReal :=
  sg ((∑ k : Fin 4096, term hn w i j k) + b (ix2 0 j))

/-- The rows the gate scales. -/
def rows (p : FVec Ideal S4096x256 .f32) (w : FVec Ideal S256x4096 .f32) (i j : Fin 4096) : EReal :=
  ∑ e : Fin 256, (p (ix2 i e) * w (ix2 e j) : EReal)

/-- The residual with the gated rows added. -/
def out (hn w : FVec Ideal S4096x4096 .f32) (b : FVec Ideal S1x4096 .f32) (h : FVec Ideal S4096x4096 .f32)
    (p : FVec Ideal S4096x256 .f32) (w' : FVec Ideal S256x4096 .f32) (i j : Fin 4096) : EReal :=
  h (ix2 i j) + gate hn w b i j * rows p w' i j

/-- The gate of a block. -/
theorem gate_at (h : t.val % 4 = 3) (r q : Fin 1024) : k0_pay4 (F := Ideal) (outsAt0 m c t.val t.isLt).2.2.2 (iblk m c 2 t) (ix2 r q)
    = gate (m ((c : Thread nD τ).loc main_arg0)) (m ((c : Thread nD τ).loc main_arg1)) (m ((c : Thread nD τ).loc main_arg2)) (row t r) (col t q) := by
  have : ∀ (a : Vec Ideal S1024x1024 .f32) (b : Vec Ideal S1x1024 .f32), k0_pay4 (F := Ideal) a b (ix2 r q) = sg (a (ix2 r q) + b (ix2 0 q)) := by
    intro a b; pointwise [k0_pay4, sg, zero_sub]
  exact (this _ _).trans (congrArg₂ (fun a b : EReal => sg (a + b)) (sum_at m c t h r q) (blk2 m c t q))

/-- The rows of a block that the gate scales. -/
theorem rows_at (r q : Fin 1024) : k0_pay5 (F := Ideal) (iblk m c 4 t) (iblk m c 5 t) (ix2 r q)
    = rows (m ((c : Thread nD τ).loc main_arg4)) (m ((c : Thread nD τ).loc main_arg5)) (row t r) (col t q) := by
  have : ∀ (a : Vec Ideal S1024x256 .f32) (b : Vec Ideal S256x1024 .bf16), k0_pay5 (F := Ideal) a b (ix2 r q)
      = ∑ e : Fin 256, (a (ix2 r e) * b (ix2 e q) : EReal) := by
    intro a b; pointwise [k0_pay5]
  exact (this _ _).trans (Finset.sum_congr rfl fun e _ => congrArg₂ (fun a b : EReal => a * b) (blk4 m c t r e) (blk5 m c t e q))

/-- The kernel's first result. -/
theorem final6 : (dats m 0 c).arrAt 6 cfg0.N = (fun i => out (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (i 0) (i 1) : FVec Ideal S4096x4096 .f32) := by
  refine (dats m 0 c).arrAt_eq_of_covers 6 _ (by decide +kernel) fun t hf y => ?_
  blk_simp
  rw [after0_6, (at_last m c t ((flush0_6 t).mp hf)).1]
  obtain ⟨r, q, rfl⟩ : ∃ (r q : Fin 1024), (y : S1024x1024.Idx) = ix2 r q := ⟨y 0, y 1, by blk_ext []⟩
  have e : ((cfg0.win 6).blk t).view.emb (ix2 r q : S1024x1024.Idx) = (ix2 (row t r) (col t q) : S4096x4096.Idx) := by blk_ext [idx t, row, col]
  have h := (flush0_6 t).mp hf
  rw [e]
  have key : ∀ (a : Vec Ideal S1024x1024 .f32) (b : Vec Ideal S1x1024 .f32) (p : Vec Ideal S1024x256 .f32) (w : Vec Ideal S256x1024 .bf16)
      (x : Vec Ideal S1024x1024 .f32), k0_pay6 (F := Ideal) a b p w x (ix2 r q)
        = (x (ix2 r q) + k0_pay4 (F := Ideal) a b (ix2 r q) * k0_pay5 (F := Ideal) p w (ix2 r q) : EReal) := fun _ _ _ _ _ => rfl
  exact (key _ _ _ _ _).trans (congrArg₂ (fun a b : EReal => a + b) (blk3 m c t r q)
    (congrArg₂ (fun a b : EReal => a * b) (gate_at m c t h r q) (rows_at m c t r q)))

/-- The kernel's second result. -/
theorem final7 : (dats m 0 c).arrAt 7 cfg0.N = (fun i => gate (m ((c : Thread nD τ).loc main_arg0)) (m ((c : Thread nD τ).loc main_arg1))
      (m ((c : Thread nD τ).loc main_arg2)) (i 0) (i 1) : FVec Ideal S4096x4096 .bf16) := by
  refine (dats m 0 c).arrAt_eq_of_covers 7 _ (by decide +kernel) fun t hf y => ?_
  blk_simp
  rw [after0_7, (at_last m c t ((flush0_7 t).mp hf)).2.1]
  obtain ⟨r, q, rfl⟩ : ∃ (r q : Fin 1024), (y : S1024x1024.Idx) = ix2 r q := ⟨y 0, y 1, by blk_ext []⟩
  have e : ((cfg0.win 7).blk t).view.emb (ix2 r q : S1024x1024.Idx) = (ix2 (row t r) (col t q) : S4096x4096.Idx) := by blk_ext [idx t, row, col]
  rw [e]
  exact gate_at m c t ((flush0_7 t).mp hf) r q

/-- The kernel's third result. -/
theorem final8 : (dats m 0 c).arrAt 8 cfg0.N = (fun i => rows (m ((c : Thread nD τ).loc main_arg4)) (m ((c : Thread nD τ).loc main_arg5))
      (i 0) (i 1) : FVec Ideal S4096x4096 .bf16) := by
  refine (dats m 0 c).arrAt_eq_of_covers 8 _ (by decide +kernel) fun t hf y => ?_
  blk_simp
  rw [after0_8, (at_last m c t ((flush0_8 t).mp hf)).2.2]
  obtain ⟨r, q, rfl⟩ : ∃ (r q : Fin 1024), (y : S1024x1024.Idx) = ix2 r q := ⟨y 0, y 1, by blk_ext []⟩
  have e : ((cfg0.win 8).blk t).view.emb (ix2 r q : S1024x1024.Idx) = (ix2 (row t r) (col t q) : S4096x4096.Idx) := by blk_ext [idx t, row, col]
  rw [e]
  exact rows_at m c t r q

end Cert.GateFwdIdeal.Val

namespace Cert.GateFwdClaim

open Idealize.ShloMosaic Idealize.SL.Sem Cert.GateFwdRefIdeal Cert.GateFwdRefIdeal.Read
open Cert.ConvRead (eq2)
open Cert.ConvMath (sg)
open Cert.GateFwdIdeal.Val (gate rows out)

/-- The reference's gate. -/
theorem read_gate (hn w : FVec Ideal S4096x4096 .f32) (b : FVec Ideal S1x4096 .f32) (i j : Fin 4096) :
    val_main_v10 (F := Ideal) hn w b (ix2 i j) = gate hn w b i j := by
  have hs : val_main_v4 (F := Ideal) hn w b (ix2 i j) = ((∑ k : Fin 4096, Cert.GateFwdIdeal.Val.term hn w i j k) + b (ix2 0 j) : EReal) := by
    rw [val_main_v4_apply, val_main_v0_apply, val_main_v3_apply, val_main_v2_apply, val_main_v1_apply]
    exact congrArg₂ (fun a b : EReal => a + b) (Finset.sum_congr rfl fun k _ => congrArg₂ (fun a b : EReal => a * b)
      (congrArg hn (eq2 (lidx_main_v0 (ix2 i j) k) i k rfl rfl)) (congrArg w (eq2 (ridx_main_v0 (ix2 i j) k) k j rfl rfl)))
      (congrArg b (eq2 _ 0 j (by simp [ix2]) (by simp [ix2])))
  rw [val_main_v10_apply, val_main_v9_apply, val_main_v8_apply, val_main_v7_apply, val_main_v6_apply, val_main_v5_apply, hs]
  show Ideal.div (Ideal.ofBits .f32 0x3F800000#32) (Ideal.ofBits .f32 0x3F800000#32 + Ideal.exp (-_)) = _
  rw [Lift.lit_one, EReal.coe_one]
  rfl

/-- The reference's rows. -/
theorem read_rows (p : FVec Ideal S4096x256 .f32) (w : FVec Ideal S256x4096 .f32) (i j : Fin 4096) :
    val_main_v11 (F := Ideal) p w (ix2 i j) = rows p w i j := by
  rw [val_main_v11_apply]
  exact Finset.sum_congr rfl fun k _ => congrArg₂ (fun a b : EReal => a * b)
    (congrArg p (eq2 (lidx_main_v11 (ix2 i j) k) i k rfl rfl)) (congrArg w (eq2 (ridx_main_v11 (ix2 i j) k) k j rfl rfl))

/-- The reference's first result. -/
theorem read (hn w : FVec Ideal S4096x4096 .f32) (b : FVec Ideal S1x4096 .f32) (h : FVec Ideal S4096x4096 .f32)
    (p : FVec Ideal S4096x256 .f32) (w' : FVec Ideal S256x4096 .f32) (i j : Fin 4096) :
    val_main_v13 (F := Ideal) hn w b h p w' (ix2 i j) = out hn w b h p w' i j := by
  rw [val_main_v13_apply, val_main_v12_apply, read_gate, read_rows]
  rfl

/-- Over the reals kernel and reference return the same arrays. -/
theorem algebraic : Cert.algebraic_GateFwdIdeal_GateFwdRefIdeal := by
  intro m g m' g' _ ha
  refine ⟨fun c => val_main_v13 (F := Ideal) (m (c.tc.loc Cert.GateFwdIdeal.main_arg0)) (m (c.tc.loc Cert.GateFwdIdeal.main_arg1))
      (m (c.tc.loc Cert.GateFwdIdeal.main_arg2)) (m (c.tc.loc Cert.GateFwdIdeal.main_arg3)) (m (c.tc.loc Cert.GateFwdIdeal.main_arg4))
      (m (c.tc.loc Cert.GateFwdIdeal.main_arg5)),
    fun c => val_main_v14 (F := Ideal) (m (c.tc.loc Cert.GateFwdIdeal.main_arg0)) (m (c.tc.loc Cert.GateFwdIdeal.main_arg1))
      (m (c.tc.loc Cert.GateFwdIdeal.main_arg2)),
    fun c => val_main_v15 (F := Ideal) (m (c.tc.loc Cert.GateFwdIdeal.main_arg4)) (m (c.tc.loc Cert.GateFwdIdeal.main_arg5)),
    (θ_run _ _ _).mono (fun r h c => ?_) (Cert.GateFwdIdeal.Value.run_blocks m g),
    (θ_run _ _ _).mono (fun r h c => ?_) (Cert.GateFwdRefIdeal.Value.run m' g')⟩
  · have at2 : ∀ i : S4096x4096.Idx, i = ix2 (i 0) (i 1) := fun i => eq2 i _ _ rfl rfl
    refine ⟨(h c).1.trans ((Cert.GateFwdIdeal.Val.final6 m c).trans (funext fun i => ?_)),
      (h c).2.1.trans ((Cert.GateFwdIdeal.Val.final7 m c).trans (funext fun i => ?_)),
      (h c).2.2.1.trans ((Cert.GateFwdIdeal.Val.final8 m c).trans (funext fun i => ?_)), (h c).2.2.2⟩
    · rw [at2 i]; exact (read _ _ _ _ _ _ _ _).symm
    · rw [at2 i]; exact (read_gate _ _ _ _ _).symm
    · rw [at2 i]; exact (read_rows _ _ _ _).symm
  · obtain ⟨a0, a1, a2, a3, a4, a5⟩ := ha c
    exact ⟨(h c).1.trans ((val_main_v13_eq _ _ _ _ _ _).trans (by rw [a0, a1, a2, a3, a4, a5])),
      (h c).2.1.trans ((val_main_v14_eq _ _ _).trans (by rw [a0, a1, a2])),
      (h c).2.2.1.trans ((val_main_v15_eq _ _).trans (by rw [a4, a5])), (h c).2.2.2⟩

/-- The reference runs, leaves its arguments alone, and has no semaphore to leave raised. -/
theorem frame_ref : Cert.quiescent_GateFwdRefIdeal := fun m g _ =>
  (θ_run _ _ _).mono (fun r h => ⟨fun c => (h c).2.2.2, sem_eq_zero_of_no_sems (by decide) r.2⟩) (Cert.GateFwdRefIdeal.Value.run m g)

/-- The kernel runs and leaves its arguments alone, in machine arithmetic. -/
theorem frame : Cert.quiescent_GateFwd := fun m g _ => Cert.GateFwd.Gen.frame m g

/-- The kernel runs and leaves its arguments alone, over the reals. -/
theorem frame_ideal : Cert.quiescent_GateFwdIdeal := fun m g _ => Cert.GateFwdIdeal.Gen.frame m g

end Cert.GateFwdClaim

end
-- ==== Proof.MmNn.lean ====
module

public import proofs.«01_k».proof.Defs
public import proofs.«01_k».proof.Proof.Tiles
public import proofs.«01_k».proof.Proof.ConvRead
public import proofs.«01_k».proof.Proof.Gen.MmNnIdeal.Value
public import proofs.«01_k».proof.Proof.Gen.MmNn.Frame
public import proofs.«01_k».proof.Proof.Gen.MmNnRefIdeal.Run
public import proofs.«01_k».proof.Proof.Gen.MmNnRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the tiled product with a residual added. -/

namespace Cert.MmNnIdeal.Val

open Cert.MmNnIdeal Cert.MmNnIdeal.Gen Idealize.ShloMosaic Idealize.ShloMosaic.TcCoe Idealize.SL.Sem

/-- A load of the accumulator after stores into it. -/
theorem load_eq (v : View sig .tc .vmem S1024x1024 .f32) (L : List (View.Piece (Elt Ideal) S1024x1024 .f32)) (r : Rect S1024x1024) :
    v.readCov (Val := Elt Ideal) L r.toLoadRect = View.ld (View.canon L) r :=
  View.readCov_eq_canon' _ _ _

/-- One term of the product at row `i` and column `j`. -/
abbrev term (y w : FVec Ideal S4096x4096 .f32) (i j k : Fin 4096) : EReal := y (ix2 i k) * w (ix2 k j)

/-- One term of the product of two blocks. -/
abbrev blockTerm (y : FVec Ideal S1024x2048 .bf16) (w : FVec Ideal S2048x1024 .bf16) (r q : Fin 1024) (e : Fin 2048) : EReal :=
  y (ix2 r e) * w (ix2 e q)

variable (m : (ℓ : Loc nD τ sig) → Buf (Elt Ideal) ℓ) (c : Dev nD) (t : Fin cfg0.N)

/-- The product of grid point `t`'s blocks. -/
def part : Vec Ideal S1024x1024 .f32 := k0_pay1 (iblk m c 0 t) (iblk m c 1 t)

/-- The accumulator after a run's first grid point. -/
theorem at_first (h : t.val % 2 = 0) (j : S1024x1024.Idx) : (outsAt0 m c t.val t.isLt).2 j = part m c t j := by
  have : (outsAt0 m c t.val t.isLt).2 = k0_pay2 (iblk m c 0 t) (iblk m c 1 t) := by
    rw [outsAt0_A m c t h (by omega) (by omega)]; frame_out [load_eq]
  rw [this]; pointwise [k0_pay2, part]

/-- The accumulator after a later grid point. -/
theorem at_next (h : ¬t.val % 2 = 0) (j : S1024x1024.Idx) : (outsAt0 m c t.val t.isLt).2 j
    = ((outsAt0 m c (t.val - 1) (by omega)).2 j + part m c t j : EReal) := by
  have : (outsAt0 m c t.val t.isLt).2 = k0_pay3 (iblk m c 0 t) (iblk m c 1 t) (outsAt0 m c (t.val - 1) (by omega)).2 := by
    rw [outsAt0_B m c t h (by omega) (by omega)]; frame_out [load_eq]
    exact congrArg (k0_pay3 _ _) ((Memref.isWhole_whole _).read_unread _)
  rw [this]; pointwise [k0_pay3, part]

/-- The block a run's last grid point writes. -/
theorem at_last (h : t.val % 2 = 1) (j : S1024x1024.Idx) : (outsAt0 m c t.val t.isLt).1 j
    = ((outsAt0 m c t.val t.isLt).2 j + (iblk m c 2 t : FVec Ideal S1024x1024 .f32) j : EReal) := by
  have : (outsAt0 m c t.val t.isLt).1 = k0_pay4 (outsAt0 m c t.val t.isLt).2 (iblk m c 2 t) := by
    rw [outsAt0_B m c t (by omega) (by omega) (by omega)]; frame_out [load_eq]
  rw [this]; pointwise [k0_pay4]

theorem idx : ∀ t : Fin cfg0.N, win0_0.index t = ![t.val / 8, t.val % 2] ∧ win0_1.index t = ![t.val % 2, t.val / 2 % 4]
    ∧ win0_2.index t = ![t.val / 8, t.val / 2 % 4] ∧ win0_3.index t = ![t.val / 8, t.val / 2 % 4] :=
  (by decide +kernel : ∀ t : Fin grid0.N, _)

/-- Row `r` and column `q` of grid point `t`'s block of the result, and the `e`-th of the places it sums over. -/
def row (r : Fin 1024) : Fin 4096 := ⟨1024 * (t.val / 8) + r.val, by have := t.isLt.trans_eq N_0; omega⟩
def col (q : Fin 1024) : Fin 4096 := ⟨1024 * (t.val / 2 % 4) + q.val, by omega⟩
def mid (e : Fin 2048) : Fin 4096 := ⟨2048 * (t.val % 2) + e.val, by omega⟩

theorem blk0 (r : Fin 1024) (e : Fin 2048) : (iblk m c 0 t : FVec Ideal S1024x2048 .bf16) (ix2 r e)
    = (m ((c : Thread nD τ).loc main_arg0) : FVec Ideal S4096x4096 .f32) (ix2 (row t r) (mid t e)) := by
  have hV : (V m c main_v0 : FVec Ideal S4096x4096 .bf16) (ix2 (row t r) (mid t e))
      = (m ((c : Thread nD τ).loc main_arg0) : FVec Ideal S4096x4096 .f32) (ix2 (row t r) (mid t e)) := by
    unfold V
    after_results
    pointwise
  refine Eq.trans ?_ hV
  unfold iblk
  blk_point [idx t, row, mid]

theorem blk1 (e : Fin 2048) (q : Fin 1024) : (iblk m c 1 t : FVec Ideal S2048x1024 .bf16) (ix2 e q)
    = (m ((c : Thread nD τ).loc main_arg1) : FVec Ideal S4096x4096 .f32) (ix2 (mid t e) (col t q)) := by
  have hV : (V m c main_v1 : FVec Ideal S4096x4096 .bf16) (ix2 (mid t e) (col t q))
      = (m ((c : Thread nD τ).loc main_arg1) : FVec Ideal S4096x4096 .f32) (ix2 (mid t e) (col t q)) := by
    unfold V
    after_results
    pointwise
  refine Eq.trans ?_ hV
  unfold iblk
  blk_point [idx t, mid, col]

theorem blk2 (r q : Fin 1024) : (iblk m c 2 t : FVec Ideal S1024x1024 .f32) (ix2 r q)
    = (m ((c : Thread nD τ).loc main_arg2) : FVec Ideal S4096x4096 .f32) (ix2 (row t r) (col t q)) := by
  unfold iblk
  blk_point [V, idx t, row, col]

theorem part_at (r q : Fin 1024) : part m c t (ix2 r q)
    = ∑ e : Fin 2048, term (m ((c : Thread nD τ).loc main_arg0)) (m ((c : Thread nD τ).loc main_arg1)) (row t r) (col t q) (mid t e) := by
  have : part m c t (ix2 r q) = ∑ e : Fin 2048, blockTerm (iblk m c 0 t) (iblk m c 1 t) r q e := by
    unfold part
    pointwise [k0_pay1]
  rw [this]
  exact Finset.sum_congr rfl fun e _ => congrArg₂ (fun a b : EReal => a * b) (blk0 m c t r e) (blk1 m c t e q)

/-- The accumulator when a run is over. -/
theorem sum_at (h : t.val % 2 = 1) (r q : Fin 1024) : (outsAt0 m c t.val t.isLt).2 (ix2 r q)
    = ∑ k : Fin 4096, term (m ((c : Thread nD τ).loc main_arg0)) (m ((c : Thread nD τ).loc main_arg1)) (row t r) (col t q) k := by
  rw [Pipeline.eq_sum_fin_of_reset_step_apply_of_flush (fun n h => (outsAt0 m c n h).2) 2 (fun _ => 0) (part m c)
    (fun t h j => by rw [at_first m c t h j, zero_add]) (fun t h j => at_next m c t h j) t h, zero_add, ← Tiles.two]
  have hN := t.isLt.trans_eq N_0
  refine Finset.sum_congr rfl fun s _ => (part_at m c _ r q).trans (Finset.sum_congr rfl fun e _ => ?_)
  have e1 : row ⟨2 * (t.val / 2) + s.val, Pipeline.run_point_lt_of_flush t h s⟩ r = row t r := Fin.ext (by simp only [row]; omega)
  have e2 : col ⟨2 * (t.val / 2) + s.val, Pipeline.run_point_lt_of_flush t h s⟩ q = col t q := Fin.ext (by simp only [col]; omega)
  have e3 : mid ⟨2 * (t.val / 2) + s.val, Pipeline.run_point_lt_of_flush t h s⟩ e = ⟨2048 * s.val + e.val, by omega⟩ :=
    Fin.ext (by simp only [mid]; omega)
  rw [e1, e2, e3]

/-- What the product with the residual added holds. -/
def out (y w x : FVec Ideal S4096x4096 .f32) (i j : Fin 4096) : EReal := (∑ k : Fin 4096, term y w i j k) + x (ix2 i j)

/-- The kernel's result. -/
theorem final3 : (dats m 0 c).arrAt 3 cfg0.N = (fun i => out (m ((c : Thread nD τ).loc main_arg0)) (m ((c : Thread nD τ).loc main_arg1))
      (m ((c : Thread nD τ).loc main_arg2)) (i 0) (i 1) : FVec Ideal S4096x4096 .f32) := by
  refine (dats m 0 c).arrAt_eq_of_covers 3 _ (by decide +kernel) fun t hf y => ?_
  blk_simp
  rw [after0_3]
  obtain ⟨r, q, rfl⟩ : ∃ (r q : Fin 1024), (y : S1024x1024.Idx) = ix2 r q := ⟨y 0, y 1, by blk_ext []⟩
  have e : ((cfg0.win 3).blk t).view.emb (ix2 r q : S1024x1024.Idx) = (ix2 (row t r) (col t q) : S4096x4096.Idx) := by blk_ext [idx t, row, col]
  have h := (flush0_3 t).mp hf
  rw [e]
  exact (at_last m c t h _).trans (congrArg₂ (fun a b : EReal => a + b) (sum_at m c t h r q) (blk2 m c t r q))

end Cert.MmNnIdeal.Val

namespace Cert.MmNnClaim

open Idealize.ShloMosaic Idealize.SL.Sem Cert.MmNnRefIdeal Cert.MmNnRefIdeal.Read
open Cert.ConvRead (eq2)

/-- The reference's result. -/
theorem read (y w x : FVec Ideal S4096x4096 .f32) (i j : Fin 4096) :
    val_main_v1 (F := Ideal) y w x (ix2 i j) = Cert.MmNnIdeal.Val.out y w x i j := by
  rw [val_main_v1_apply, val_main_v0_apply, Cert.MmNnIdeal.Val.out, add_comm (∑ k, _)]
  exact congrArg (fun a : EReal => (x (ix2 i j) : EReal) + a) (Finset.sum_congr rfl fun k _ =>
    congrArg₂ (fun a b : EReal => a * b) (congrArg y (eq2 (lidx_main_v0 (ix2 i j) k) i k rfl rfl)) (congrArg w (eq2 (ridx_main_v0 (ix2 i j) k) k j rfl rfl)))

/-- Over the reals kernel and reference return the same array. -/
theorem algebraic : Cert.algebraic_MmNnIdeal_MmNnRefIdeal := by
  intro m g m' g' _ ha
  refine ⟨fun c => val_main_v1 (F := Ideal) (m (c.tc.loc Cert.MmNnIdeal.main_arg0)) (m (c.tc.loc Cert.MmNnIdeal.main_arg1)) (m (c.tc.loc Cert.MmNnIdeal.main_arg2)),
    (θ_run _ _ _).mono (fun r h c => ?_) (Cert.MmNnIdeal.Value.run_blocks m g),
    (θ_run _ _ _).mono (fun r h c => ?_) (Cert.MmNnRefIdeal.Value.run m' g')⟩
  · refine ⟨(h c).1.trans ((Cert.MmNnIdeal.Val.final3 m c).trans (funext fun i => ?_)), (h c).2⟩
    obtain ⟨t, C, rfl⟩ : ∃ (t : Fin 4096) (C : Fin 4096), i = ix2 t C := ⟨i 0, i 1, eq2 i _ _ rfl rfl⟩
    exact (read _ _ _ t C).symm
  · obtain ⟨a0, a1, a2⟩ := ha c
    exact ⟨(h c).1.trans ((val_main_v1_eq _ _ _).trans (by rw [a0, a1, a2])), (h c).2⟩

/-- The reference runs, leaves its arguments alone, and has no semaphore to leave raised. -/
theorem frame_ref : Cert.quiescent_MmNnRefIdeal := fun m g _ =>
  (θ_run _ _ _).mono (fun r h => ⟨fun c => (h c).2, sem_eq_zero_of_no_sems (by decide) r.2⟩) (Cert.MmNnRefIdeal.Value.run m g)

/-- The kernel runs and leaves its arguments alone, in machine arithmetic. -/
theorem frame : Cert.quiescent_MmNn := fun m g _ => Cert.MmNn.Gen.frame m g

/-- The kernel runs and leaves its arguments alone, over the reals. -/
theorem frame_ideal : Cert.quiescent_MmNnIdeal := fun m g _ => Cert.MmNnIdeal.Gen.frame m g

end Cert.MmNnClaim

end
-- ==== Proof.MmNt.lean ====
module

public import proofs.«01_k».proof.Defs
public import proofs.«01_k».proof.Proof.Tiles
public import proofs.«01_k».proof.Proof.ConvRead
public import proofs.«01_k».proof.Proof.Gen.MmNtIdeal.Value
public import proofs.«01_k».proof.Proof.Gen.MmNt.Frame
public import proofs.«01_k».proof.Proof.Gen.MmNtRefIdeal.Run
public import proofs.«01_k».proof.Proof.Gen.MmNtRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the tiled product by a transposed matrix: the gradient of a product's left factor. -/

namespace Cert.MmNtIdeal.Val

open Cert.MmNtIdeal Cert.MmNtIdeal.Gen Idealize.ShloMosaic Idealize.ShloMosaic.TcCoe Idealize.SL.Sem

/-- A load of the accumulator after stores into it. -/
theorem load_eq (v : View sig .tc .vmem S1024x1024 .f32) (L : List (View.Piece (Elt Ideal) S1024x1024 .f32)) (r : Rect S1024x1024) :
    v.readCov (Val := Elt Ideal) L r.toLoadRect = View.ld (View.canon L) r :=
  View.readCov_eq_canon' _ _ _

/-- One term of the product at row `i` and column `j`. -/
abbrev term (y w : FVec Ideal S4096x4096 .f32) (i j k : Fin 4096) : EReal := y (ix2 i k) * w (ix2 j k)

/-- One term of the product of two blocks. -/
abbrev blockTerm (y : FVec Ideal S1024x2048 .bf16) (w : FVec Ideal S1024x2048 .bf16) (r q : Fin 1024) (e : Fin 2048) : EReal :=
  y (ix2 r e) * w (ix2 q e)

variable (m : (ℓ : Loc nD τ sig) → Buf (Elt Ideal) ℓ) (c : Dev nD) (t : Fin cfg0.N)

/-- The product of grid point `t`'s blocks. -/
def part : Vec Ideal S1024x1024 .f32 := k0_pay1 (iblk m c 0 t) (iblk m c 1 t)

/-- The accumulator after a run's first grid point. -/
theorem at_first (h : t.val % 2 = 0) (j : S1024x1024.Idx) : (outsAt0 m c t.val t.isLt).2 j = part m c t j := by
  have : (outsAt0 m c t.val t.isLt).2 = k0_pay2 (iblk m c 0 t) (iblk m c 1 t) := by
    rw [outsAt0_A m c t h (by omega) (by omega)]; frame_out [load_eq]
  rw [this]; pointwise [k0_pay2, part]

/-- The accumulator after a later grid point. -/
theorem at_next (h : ¬t.val % 2 = 0) (j : S1024x1024.Idx) : (outsAt0 m c t.val t.isLt).2 j
    = ((outsAt0 m c (t.val - 1) (by omega)).2 j + part m c t j : EReal) := by
  have : (outsAt0 m c t.val t.isLt).2 = k0_pay3 (iblk m c 0 t) (iblk m c 1 t) (outsAt0 m c (t.val - 1) (by omega)).2 := by
    rw [outsAt0_B m c t h (by omega) (by omega)]; frame_out [load_eq]
    exact congrArg (k0_pay3 _ _) ((Memref.isWhole_whole _).read_unread _)
  rw [this]; pointwise [k0_pay3, part]

/-- The block a run's last grid point writes. -/
theorem at_last (h : t.val % 2 = 1) (j : S1024x1024.Idx) : (outsAt0 m c t.val t.isLt).1 j = (outsAt0 m c t.val t.isLt).2 j := by
  rw [outsAt0_B m c t (by omega) (by omega) (by omega)]; frame_out [load_eq]

theorem idx : ∀ t : Fin cfg0.N, win0_0.index t = ![t.val / 8, t.val % 2] ∧ win0_1.index t = ![t.val / 2 % 4, t.val % 2]
    ∧ win0_2.index t = ![t.val / 8, t.val / 2 % 4] :=
  (by decide +kernel : ∀ t : Fin grid0.N, _)

/-- Row `r` and column `q` of grid point `t`'s block of the result, and the `e`-th of the places it sums over. -/
def row (r : Fin 1024) : Fin 4096 := ⟨1024 * (t.val / 8) + r.val, by have := t.isLt.trans_eq N_0; omega⟩
def col (q : Fin 1024) : Fin 4096 := ⟨1024 * (t.val / 2 % 4) + q.val, by omega⟩
def mid (e : Fin 2048) : Fin 4096 := ⟨2048 * (t.val % 2) + e.val, by omega⟩

theorem blk0 (r : Fin 1024) (e : Fin 2048) : (iblk m c 0 t : FVec Ideal S1024x2048 .bf16) (ix2 r e)
    = (m ((c : Thread nD τ).loc main_arg0) : FVec Ideal S4096x4096 .f32) (ix2 (row t r) (mid t e)) := by
  have hV : (V m c main_v0 : FVec Ideal S4096x4096 .bf16) (ix2 (row t r) (mid t e))
      = (m ((c : Thread nD τ).loc main_arg0) : FVec Ideal S4096x4096 .f32) (ix2 (row t r) (mid t e)) := by
    unfold V
    after_results
    pointwise
  refine Eq.trans ?_ hV
  unfold iblk
  blk_point [idx t, row, mid]

theorem blk1 (q : Fin 1024) (e : Fin 2048) : (iblk m c 1 t : FVec Ideal S1024x2048 .bf16) (ix2 q e)
    = (m ((c : Thread nD τ).loc main_arg1) : FVec Ideal S4096x4096 .f32) (ix2 (col t q) (mid t e)) := by
  have hV : (V m c main_v1 : FVec Ideal S4096x4096 .bf16) (ix2 (col t q) (mid t e))
      = (m ((c : Thread nD τ).loc main_arg1) : FVec Ideal S4096x4096 .f32) (ix2 (col t q) (mid t e)) := by
    unfold V
    after_results
    pointwise
  refine Eq.trans ?_ hV
  unfold iblk
  blk_point [idx t, mid, col]

theorem part_at (r q : Fin 1024) : part m c t (ix2 r q)
    = ∑ e : Fin 2048, term (m ((c : Thread nD τ).loc main_arg0)) (m ((c : Thread nD τ).loc main_arg1)) (row t r) (col t q) (mid t e) := by
  have : part m c t (ix2 r q) = ∑ e : Fin 2048, blockTerm (iblk m c 0 t) (iblk m c 1 t) r q e := by
    unfold part
    pointwise [k0_pay1]
  rw [this]
  exact Finset.sum_congr rfl fun e _ => congrArg₂ (fun a b : EReal => a * b) (blk0 m c t r e) (blk1 m c t q e)

/-- The accumulator when a run is over. -/
theorem sum_at (h : t.val % 2 = 1) (r q : Fin 1024) : (outsAt0 m c t.val t.isLt).2 (ix2 r q)
    = ∑ k : Fin 4096, term (m ((c : Thread nD τ).loc main_arg0)) (m ((c : Thread nD τ).loc main_arg1)) (row t r) (col t q) k := by
  rw [Pipeline.eq_sum_fin_of_reset_step_apply_of_flush (fun n h => (outsAt0 m c n h).2) 2 (fun _ => 0) (part m c)
    (fun t h j => by rw [at_first m c t h j, zero_add]) (fun t h j => at_next m c t h j) t h, zero_add, ← Tiles.two]
  have hN := t.isLt.trans_eq N_0
  refine Finset.sum_congr rfl fun s _ => (part_at m c _ r q).trans (Finset.sum_congr rfl fun e _ => ?_)
  have e1 : row ⟨2 * (t.val / 2) + s.val, Pipeline.run_point_lt_of_flush t h s⟩ r = row t r := Fin.ext (by simp only [row]; omega)
  have e2 : col ⟨2 * (t.val / 2) + s.val, Pipeline.run_point_lt_of_flush t h s⟩ q = col t q := Fin.ext (by simp only [col]; omega)
  have e3 : mid ⟨2 * (t.val / 2) + s.val, Pipeline.run_point_lt_of_flush t h s⟩ e = ⟨2048 * s.val + e.val, by omega⟩ :=
    Fin.ext (by simp only [mid]; omega)
  rw [e1, e2, e3]

/-- What the product holds. -/
def out (y w : FVec Ideal S4096x4096 .f32) (i j : Fin 4096) : EReal := ∑ k : Fin 4096, term y w i j k

/-- The kernel's result. -/
theorem final2 : (dats m 0 c).arrAt 2 cfg0.N = (fun i => out (m ((c : Thread nD τ).loc main_arg0)) (m ((c : Thread nD τ).loc main_arg1))
      (i 0) (i 1) : FVec Ideal S4096x4096 .f32) := by
  refine (dats m 0 c).arrAt_eq_of_covers 2 _ (by decide +kernel) fun t hf y => ?_
  blk_simp
  rw [after0_2]
  obtain ⟨r, q, rfl⟩ : ∃ (r q : Fin 1024), (y : S1024x1024.Idx) = ix2 r q := ⟨y 0, y 1, by blk_ext []⟩
  have e : ((cfg0.win 2).blk t).view.emb (ix2 r q : S1024x1024.Idx) = (ix2 (row t r) (col t q) : S4096x4096.Idx) := by blk_ext [idx t, row, col]
  have h := (flush0_2 t).mp hf
  rw [e]
  exact (at_last m c t h _).trans (sum_at m c t h r q)

end Cert.MmNtIdeal.Val

namespace Cert.MmNtClaim

open Idealize.ShloMosaic Idealize.SL.Sem Cert.MmNtRefIdeal Cert.MmNtRefIdeal.Read
open Cert.ConvRead (eq2)

/-- The reference's result. -/
theorem read (y w : FVec Ideal S4096x4096 .f32) (i j : Fin 4096) :
    val_main_v2 (F := Ideal) y w (ix2 i j) = Cert.MmNtIdeal.Val.out y w i j := by
  rw [val_main_v2_apply]
  exact Finset.sum_congr rfl fun k _ => congrArg₂ (fun a b : EReal => a * b)
    (congrArg y (eq2 (lidx_main_v2 (ix2 i j) k) i k rfl rfl)) (congrArg w (eq2 (ridx_main_v2 (ix2 i j) k) j k rfl rfl))

/-- Over the reals kernel and reference return the same array. -/
theorem algebraic : Cert.algebraic_MmNtIdeal_MmNtRefIdeal := by
  intro m g m' g' _ ha
  refine ⟨fun c => val_main_v2 (F := Ideal) (m (c.tc.loc Cert.MmNtIdeal.main_arg0)) (m (c.tc.loc Cert.MmNtIdeal.main_arg1)) ,
    (θ_run _ _ _).mono (fun r h c => ?_) (Cert.MmNtIdeal.Value.run_blocks m g),
    (θ_run _ _ _).mono (fun r h c => ?_) (Cert.MmNtRefIdeal.Value.run m' g')⟩
  · refine ⟨(h c).1.trans ((Cert.MmNtIdeal.Val.final2 m c).trans (funext fun i => ?_)), (h c).2⟩
    obtain ⟨t, C, rfl⟩ : ∃ (t : Fin 4096) (C : Fin 4096), i = ix2 t C := ⟨i 0, i 1, eq2 i _ _ rfl rfl⟩
    exact (read _ _ t C).symm
  · obtain ⟨a0, a1⟩ := ha c
    exact ⟨(h c).1.trans ((val_main_v2_eq _ _).trans (by rw [a0, a1])), (h c).2⟩

/-- The reference runs, leaves its arguments alone, and has no semaphore to leave raised. -/
theorem frame_ref : Cert.quiescent_MmNtRefIdeal := fun m g _ =>
  (θ_run _ _ _).mono (fun r h => ⟨fun c => (h c).2, sem_eq_zero_of_no_sems (by decide) r.2⟩) (Cert.MmNtRefIdeal.Value.run m g)

/-- The kernel runs and leaves its arguments alone, in machine arithmetic. -/
theorem frame : Cert.quiescent_MmNt := fun m g _ => Cert.MmNt.Gen.frame m g

/-- The kernel runs and leaves its arguments alone, over the reals. -/
theorem frame_ideal : Cert.quiescent_MmNtIdeal := fun m g _ => Cert.MmNtIdeal.Gen.frame m g

end Cert.MmNtClaim

end
-- ==== Proof.MmTn.lean ====
module

public import proofs.«01_k».proof.Defs
public import proofs.«01_k».proof.Proof.Tiles
public import proofs.«01_k».proof.Proof.ConvRead
public import proofs.«01_k».proof.Proof.Gen.MmTnIdeal.Value
public import proofs.«01_k».proof.Proof.Gen.MmTn.Frame
public import proofs.«01_k».proof.Proof.Gen.MmTnRefIdeal.Run
public import proofs.«01_k».proof.Proof.Gen.MmTnRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the tiled product of a transposed matrix: the gradient of a product's right factor. -/

namespace Cert.MmTnIdeal.Val

open Cert.MmTnIdeal Cert.MmTnIdeal.Gen Idealize.ShloMosaic Idealize.ShloMosaic.TcCoe Idealize.SL.Sem

/-- A load of the accumulator after stores into it. -/
theorem load_eq (v : View sig .tc .vmem S1024x1024 .f32) (L : List (View.Piece (Elt Ideal) S1024x1024 .f32)) (r : Rect S1024x1024) :
    v.readCov (Val := Elt Ideal) L r.toLoadRect = View.ld (View.canon L) r :=
  View.readCov_eq_canon' _ _ _

/-- One term of the product at row `i` and column `j`. -/
abbrev term (y w : FVec Ideal S4096x4096 .f32) (i j k : Fin 4096) : EReal := y (ix2 k i) * w (ix2 k j)

/-- One term of the product of two blocks. -/
abbrev blockTerm (y : FVec Ideal S2048x1024 .bf16) (w : FVec Ideal S2048x1024 .bf16) (r q : Fin 1024) (e : Fin 2048) : EReal :=
  y (ix2 e r) * w (ix2 e q)

variable (m : (ℓ : Loc nD τ sig) → Buf (Elt Ideal) ℓ) (c : Dev nD) (t : Fin cfg0.N)

/-- The product of grid point `t`'s blocks. -/
def part : Vec Ideal S1024x1024 .f32 := k0_pay1 (iblk m c 0 t) (iblk m c 1 t)

/-- The accumulator after a run's first grid point. -/
theorem at_first (h : t.val % 2 = 0) (j : S1024x1024.Idx) : (outsAt0 m c t.val t.isLt).2 j = part m c t j := by
  have : (outsAt0 m c t.val t.isLt).2 = k0_pay2 (iblk m c 0 t) (iblk m c 1 t) := by
    rw [outsAt0_A m c t h (by omega) (by omega)]; frame_out [load_eq]
  rw [this]; pointwise [k0_pay2, part]

/-- The accumulator after a later grid point. -/
theorem at_next (h : ¬t.val % 2 = 0) (j : S1024x1024.Idx) : (outsAt0 m c t.val t.isLt).2 j
    = ((outsAt0 m c (t.val - 1) (by omega)).2 j + part m c t j : EReal) := by
  have : (outsAt0 m c t.val t.isLt).2 = k0_pay3 (iblk m c 0 t) (iblk m c 1 t) (outsAt0 m c (t.val - 1) (by omega)).2 := by
    rw [outsAt0_B m c t h (by omega) (by omega)]; frame_out [load_eq]
    exact congrArg (k0_pay3 _ _) ((Memref.isWhole_whole _).read_unread _)
  rw [this]; pointwise [k0_pay3, part]

/-- The block a run's last grid point writes. -/
theorem at_last (h : t.val % 2 = 1) (j : S1024x1024.Idx) : (outsAt0 m c t.val t.isLt).1 j = (outsAt0 m c t.val t.isLt).2 j := by
  have : (outsAt0 m c t.val t.isLt).1 = k0_pay4 (outsAt0 m c t.val t.isLt).2 := by
    rw [outsAt0_B m c t (by omega) (by omega) (by omega)]; frame_out [load_eq]
  rw [this]; pointwise [k0_pay4]

theorem idx : ∀ t : Fin cfg0.N, win0_0.index t = ![t.val % 2, t.val / 8] ∧ win0_1.index t = ![t.val % 2, t.val / 2 % 4]
    ∧ win0_2.index t = ![t.val / 8, t.val / 2 % 4] :=
  (by decide +kernel : ∀ t : Fin grid0.N, _)

/-- Row `r` and column `q` of grid point `t`'s block of the result, and the `e`-th of the places it sums over. -/
def row (r : Fin 1024) : Fin 4096 := ⟨1024 * (t.val / 8) + r.val, by have := t.isLt.trans_eq N_0; omega⟩
def col (q : Fin 1024) : Fin 4096 := ⟨1024 * (t.val / 2 % 4) + q.val, by omega⟩
def mid (e : Fin 2048) : Fin 4096 := ⟨2048 * (t.val % 2) + e.val, by omega⟩

theorem blk0 (e : Fin 2048) (r : Fin 1024) : (iblk m c 0 t : FVec Ideal S2048x1024 .bf16) (ix2 e r)
    = (m ((c : Thread nD τ).loc main_arg0) : FVec Ideal S4096x4096 .f32) (ix2 (mid t e) (row t r)) := by
  have hV : (V m c main_v0 : FVec Ideal S4096x4096 .bf16) (ix2 (mid t e) (row t r))
      = (m ((c : Thread nD τ).loc main_arg0) : FVec Ideal S4096x4096 .f32) (ix2 (mid t e) (row t r)) := by
    unfold V
    after_results
    pointwise
  refine Eq.trans ?_ hV
  unfold iblk
  blk_point [idx t, row, mid]

theorem blk1 (e : Fin 2048) (q : Fin 1024) : (iblk m c 1 t : FVec Ideal S2048x1024 .bf16) (ix2 e q)
    = (m ((c : Thread nD τ).loc main_arg1) : FVec Ideal S4096x4096 .f32) (ix2 (mid t e) (col t q)) := by
  have hV : (V m c main_v1 : FVec Ideal S4096x4096 .bf16) (ix2 (mid t e) (col t q))
      = (m ((c : Thread nD τ).loc main_arg1) : FVec Ideal S4096x4096 .f32) (ix2 (mid t e) (col t q)) := by
    unfold V
    after_results
    pointwise
  refine Eq.trans ?_ hV
  unfold iblk
  blk_point [idx t, mid, col]

theorem part_at (r q : Fin 1024) : part m c t (ix2 r q)
    = ∑ e : Fin 2048, term (m ((c : Thread nD τ).loc main_arg0)) (m ((c : Thread nD τ).loc main_arg1)) (row t r) (col t q) (mid t e) := by
  have : part m c t (ix2 r q) = ∑ e : Fin 2048, blockTerm (iblk m c 0 t) (iblk m c 1 t) r q e := by
    unfold part
    pointwise [k0_pay1]
  rw [this]
  exact Finset.sum_congr rfl fun e _ => congrArg₂ (fun a b : EReal => a * b) (blk0 m c t e r) (blk1 m c t e q)

/-- The accumulator when a run is over. -/
theorem sum_at (h : t.val % 2 = 1) (r q : Fin 1024) : (outsAt0 m c t.val t.isLt).2 (ix2 r q)
    = ∑ k : Fin 4096, term (m ((c : Thread nD τ).loc main_arg0)) (m ((c : Thread nD τ).loc main_arg1)) (row t r) (col t q) k := by
  rw [Pipeline.eq_sum_fin_of_reset_step_apply_of_flush (fun n h => (outsAt0 m c n h).2) 2 (fun _ => 0) (part m c)
    (fun t h j => by rw [at_first m c t h j, zero_add]) (fun t h j => at_next m c t h j) t h, zero_add, ← Tiles.two]
  have hN := t.isLt.trans_eq N_0
  refine Finset.sum_congr rfl fun s _ => (part_at m c _ r q).trans (Finset.sum_congr rfl fun e _ => ?_)
  have e1 : row ⟨2 * (t.val / 2) + s.val, Pipeline.run_point_lt_of_flush t h s⟩ r = row t r := Fin.ext (by simp only [row]; omega)
  have e2 : col ⟨2 * (t.val / 2) + s.val, Pipeline.run_point_lt_of_flush t h s⟩ q = col t q := Fin.ext (by simp only [col]; omega)
  have e3 : mid ⟨2 * (t.val / 2) + s.val, Pipeline.run_point_lt_of_flush t h s⟩ e = ⟨2048 * s.val + e.val, by omega⟩ :=
    Fin.ext (by simp only [mid]; omega)
  rw [e1, e2, e3]

/-- What the product holds. -/
def out (y w : FVec Ideal S4096x4096 .f32) (i j : Fin 4096) : EReal := ∑ k : Fin 4096, term y w i j k

/-- The kernel's result. -/
theorem final2 : (dats m 0 c).arrAt 2 cfg0.N = (fun i => out (m ((c : Thread nD τ).loc main_arg0)) (m ((c : Thread nD τ).loc main_arg1))
      (i 0) (i 1) : FVec Ideal S4096x4096 .bf16) := by
  refine (dats m 0 c).arrAt_eq_of_covers 2 _ (by decide +kernel) fun t hf y => ?_
  blk_simp
  rw [after0_2]
  obtain ⟨r, q, rfl⟩ : ∃ (r q : Fin 1024), (y : S1024x1024.Idx) = ix2 r q := ⟨y 0, y 1, by blk_ext []⟩
  have e : ((cfg0.win 2).blk t).view.emb (ix2 r q : S1024x1024.Idx) = (ix2 (row t r) (col t q) : S4096x4096.Idx) := by blk_ext [idx t, row, col]
  have h := (flush0_2 t).mp hf
  rw [e]
  exact (at_last m c t h _).trans (sum_at m c t h r q)

end Cert.MmTnIdeal.Val

namespace Cert.MmTnClaim

open Idealize.ShloMosaic Idealize.SL.Sem Cert.MmTnRefIdeal Cert.MmTnRefIdeal.Read
open Cert.ConvRead (eq2)

/-- The reference's result. -/
theorem read (y w : FVec Ideal S4096x4096 .f32) (i j : Fin 4096) :
    val_main_v4 (F := Ideal) y w (ix2 i j) = Cert.MmTnIdeal.Val.out y w i j := by
  rw [val_main_v4_apply, val_main_v3_apply, val_main_v2_apply]
  refine Finset.sum_congr rfl fun k _ => (mul_comm _ _).trans (congrArg₂ (fun a b : EReal => a * b)
    (congrArg y (eq2 (ridx_main_v2 (idx_main_v3 (ix2 i j)) k) k i rfl rfl)) (congrArg w (eq2 (lidx_main_v2 (idx_main_v3 (ix2 i j)) k) k j rfl rfl)))

/-- Over the reals kernel and reference return the same array. -/
theorem algebraic : Cert.algebraic_MmTnIdeal_MmTnRefIdeal := by
  intro m g m' g' _ ha
  refine ⟨fun c => val_main_v4 (F := Ideal) (m (c.tc.loc Cert.MmTnIdeal.main_arg0)) (m (c.tc.loc Cert.MmTnIdeal.main_arg1)) ,
    (θ_run _ _ _).mono (fun r h c => ?_) (Cert.MmTnIdeal.Value.run_blocks m g),
    (θ_run _ _ _).mono (fun r h c => ?_) (Cert.MmTnRefIdeal.Value.run m' g')⟩
  · refine ⟨(h c).1.trans ((Cert.MmTnIdeal.Val.final2 m c).trans (funext fun i => ?_)), (h c).2⟩
    obtain ⟨t, C, rfl⟩ : ∃ (t : Fin 4096) (C : Fin 4096), i = ix2 t C := ⟨i 0, i 1, eq2 i _ _ rfl rfl⟩
    exact (read _ _ t C).symm
  · obtain ⟨a0, a1⟩ := ha c
    exact ⟨(h c).1.trans ((val_main_v4_eq _ _).trans (by rw [a0, a1])), (h c).2⟩

/-- The reference runs, leaves its arguments alone, and has no semaphore to leave raised. -/
theorem frame_ref : Cert.quiescent_MmTnRefIdeal := fun m g _ =>
  (θ_run _ _ _).mono (fun r h => ⟨fun c => (h c).2, sem_eq_zero_of_no_sems (by decide) r.2⟩) (Cert.MmTnRefIdeal.Value.run m g)

/-- The kernel runs and leaves its arguments alone, in machine arithmetic. -/
theorem frame : Cert.quiescent_MmTn := fun m g _ => Cert.MmTn.Gen.frame m g

/-- The kernel runs and leaves its arguments alone, over the reals. -/
theorem frame_ideal : Cert.quiescent_MmTnIdeal := fun m g _ => Cert.MmTnIdeal.Gen.frame m g

end Cert.MmTnClaim

end
-- ==== Proof.Adam.lean ====
module

public import proofs.«01_k».proof.Defs
public import proofs.«01_k».proof.Proof.Lift
public import proofs.«01_k».proof.Proof.Gen.AdamSmallIdeal.Value
public import proofs.«01_k».proof.Proof.Gen.AdamSmall.Frame
public import proofs.«01_k».proof.Proof.Gen.AdamRefIdeal.Run
public import proofs.«01_k».proof.Proof.Gen.AdamRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the optimiser's step: entry by entry the kernel computes the reference's formula. -/

namespace Cert.AdamClaim

open Idealize.ShloMosaic Idealize.SL.Sem Cert.AdamRefIdeal Cert.AdamRefIdeal.Read
open Cert.AdamSmallIdeal.Value (G4 G5 G6)

section
variable (g w m v : FVec Ideal S792x128 .f32)

/-- The first moment. -/
theorem first (i : S792x128.Idx) : val_main_v4 (F := Ideal) g m i = G5 (F := Ideal) g m i := by
  pointwise [val_main_v4_apply, val_main_v3_apply, val_main_v2_apply, val_main_v1_apply, val_main_v0_apply, val_main_cst_apply, val_main_cst_0_apply, G5]

/-- The second moment. -/
theorem second (i : S792x128.Idx) : val_main_v10 (F := Ideal) g v i = G6 (F := Ideal) g v i := by
  pointwise [val_main_v10_apply, val_main_v9_apply, val_main_v8_apply, val_main_v7_apply, val_main_v6_apply, val_main_v5_apply, val_main_cst_1_apply, val_main_cst_2_apply, G6]

/-- The step of the weights. -/
theorem step (i : S792x128.Idx) : val_main_v23 (F := Ideal) g w m v i = G4 (F := Ideal) w g m v i := by
  pointwise [val_main_v23_apply, val_main_v22_apply, val_main_v21_apply, val_main_v20_apply, val_main_v19_apply, val_main_v18_apply, val_main_v17_apply, val_main_v16_apply,
    val_main_v15_apply, val_main_v14_apply, val_main_v13_apply, val_main_v12_apply, val_main_v11_apply, val_main_cst_3_apply, val_main_cst_4_apply, val_main_cst_5_apply,
    val_main_cst_6_apply, val_main_cst_7_apply, first, second, G4, G5, G6]
end

/-- Over the reals kernel and reference return the same three arrays. -/
theorem algebraic : Cert.algebraic_AdamSmallIdeal_AdamRefIdeal := by
  intro m g m' g' _ ha
  refine ⟨fun c => val_main_v23 (F := Ideal) (m (c.tc.loc Cert.AdamSmallIdeal.main_arg0)) (m (c.tc.loc Cert.AdamSmallIdeal.main_arg1)) (m (c.tc.loc Cert.AdamSmallIdeal.main_arg2)) (m (c.tc.loc Cert.AdamSmallIdeal.main_arg3)),
    fun c => val_main_v4 (F := Ideal) (m (c.tc.loc Cert.AdamSmallIdeal.main_arg0)) (m (c.tc.loc Cert.AdamSmallIdeal.main_arg2)),
    fun c => val_main_v10 (F := Ideal) (m (c.tc.loc Cert.AdamSmallIdeal.main_arg0)) (m (c.tc.loc Cert.AdamSmallIdeal.main_arg3)),
    (θ_run _ _ _).mono (fun r h c => ?_) (Cert.AdamSmallIdeal.Value.run m g),
    (θ_run _ _ _).mono (fun r h c => ?_) (Cert.AdamRefIdeal.Value.run m' g')⟩
  · exact ⟨(h c).1.trans (funext fun i => (step _ _ _ _ i).symm), (h c).2.1.trans (funext fun i => (first _ _ i).symm),
      (h c).2.2.1.trans (funext fun i => (second _ _ i).symm), (h c).2.2.2⟩
  · obtain ⟨a0, a1, a2, a3⟩ := ha c
    exact ⟨(h c).1.trans ((val_main_v23_eq _ _ _ _).trans (by rw [a0, a1, a2, a3])), (h c).2.1.trans ((val_main_v4_eq _ _).trans (by rw [a0, a2])),
      (h c).2.2.1.trans ((val_main_v10_eq _ _).trans (by rw [a0, a3])), (h c).2.2.2⟩

/-- The reference runs, leaves its arguments alone, and has no semaphore to leave raised. -/
theorem frame_ref : Cert.quiescent_AdamRefIdeal := fun m g _ =>
  (θ_run _ _ _).mono (fun r h => ⟨fun c => (h c).2.2.2, sem_eq_zero_of_no_sems (by decide) r.2⟩) (Cert.AdamRefIdeal.Value.run m g)

/-- The kernel runs and leaves its arguments alone, in machine arithmetic. -/
theorem frame : Cert.quiescent_AdamSmall := fun m g _ => Cert.AdamSmall.Gen.frame m g

/-- The kernel runs and leaves its arguments alone, over the reals. -/
theorem frame_ideal : Cert.quiescent_AdamSmallIdeal := fun m g _ => Cert.AdamSmallIdeal.Gen.frame m g

end Cert.AdamClaim

end
-- ==== Proof.PairAdd.lean ====
module

public import proofs.«01_k».proof.Defs
public import proofs.«01_k».proof.Proof.Lift
public import proofs.«01_k».proof.Proof.Gen.PairAdd.Frame
public import proofs.«01_k».proof.Proof.Gen.PairAddIdeal.Frame
public import proofs.«01_k».proof.Proof.Gen.Pre_core_is_one_of_two
public import proofs.«01_k».proof.Proof.Gen.PairAddRefIdeal.Run
public import proofs.«01_k».proof.Proof.Gen.PairAddRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The addition of a device's own half of a gradient to its sibling's: the kernel's result, the reference's, and the claims. -/

namespace Cert.PairAddClaim

open Idealize.ShloMosaic

/-- A word that is at least 0 and less than 2 is 0 or 1. -/
theorem word (w : BitVec 32) (h : IntOp.andi (IntOp.cmpi .sge w 0#32) (IntOp.cmpi .slt w 2#32) = 1#1) : w = 0#32 ∨ w = 1#32 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  have h2 : w.toNat < 2 := by omega
  rcases (show w.toNat = 0 ∨ w.toNat = 1 by omega) with e | e
  · exact Or.inl (BitVec.eq_of_toNat_eq e)
  · exact Or.inr (BitVec.eq_of_toNat_eq e)

/-- The precondition names the core: 0 or 1. -/
theorem core {F : FTy → Type} [FloatOps F] (x : FVec F Cert.Pre_core_is_one_of_two.S4096x14336 .bf16) (y : FVec F Cert.Pre_core_is_one_of_two.S4x4096x1792 .bf16)
    (w : IVec Cert.Pre_core_is_one_of_two.S1 32) (h : Cert.Pre_core_is_one_of_two.fn (F := F) x y w = fun _ => 1#1) (i : Cert.Pre_core_is_one_of_two.S1.Idx) :
    w i = 0#32 ∨ w i = 1#32 := by
  have e := congrFun h i
  simp only [Cert.Pre_core_is_one_of_two.fn, andi, cmpi, broadcastInDim, constantI] at e
  exact word _ e

end Cert.PairAddClaim

namespace Cert.PairAdd.Val

open Cert.PairAdd Cert.PairAdd.Gen Idealize.ShloMosaic Idealize.ShloMosaic.TcCoe Idealize.SL.Sem

/-- Where the block of a grid point lies when the core's number is the word `w`. -/
theorem at_word : ∀ w : BitVec 32, w = 0#32 ∨ w = 1#32 → ∀ i : grid0.Coords,
    (Scalar.addi (Scalar.muli 2#32 (BitVec.ofNat 32 (i 0).val)) w).toNat = 2 * (i 0).val + w.toNat := by
  rintro w (rfl | rfl) <;> decide +kernel

variable (m : (ℓ : Loc nD τ sig) → Buf (Elt Bits) ℓ)

/-- The core's number. -/
def num : BitVec 32 := (m (((0 : Dev nD) : Thread nD τ).loc main_arg2) : IVec S1 32) (ix1 0)

/-- Where a grid point's block of the gradient lies. -/
theorem index (h : num m = 0#32 ∨ num m = 1#32) (i : grid0.Coords) :
    cc0_transform_0 inb_S1_S1_0 numel1_S1 (tbl (F := Bits) m) i = ![(i 1).val, 2 * (i 0).val + (num m).toNat] := by
  have e : (tbl (F := Bits) m).at 0 (Rect.unit (s := S1) ![0] S1.size inb_S1_S1_0) numel1_S1 = num m := by
    exact congrArg (m (((0 : Dev nD) : Thread nD τ).loc main_arg2) : IVec S1 32) (funext fun a : Fin 1 => by
      obtain rfl : a = 0 := Subsingleton.elim _ _
      exact Subsingleton.elim (α := Fin 1) _ _)
  have h1 : (BitVec.ofNat 32 (i 1).val).toNat = (i 1).val := by
    have : (i 1).val < 16 := (i 1).isLt
    rw [BitVec.toNat_ofNat]; omega
  unfold cc0_transform_0
  dsimp only
  rw [e, at_word _ h i, h1]

/-- Every block lies inside the array. -/
theorem ok (h : num m = 0#32 ∨ num m = 1#32) : Ok m := by
  unfold Ok ok0
  intro i
  have hb : ∀ a, (cc0_transform_0 inb_S1_S1_0 numel1_S1 (tbl (F := Bits) m) i a + 1) * S256x1792.size a ≤ S4096x14336.size a := by
    rw [index m h i]
    have h0 : (i 0).val < 4 := (i 0).isLt
    have h1 : (i 1).val < 16 := (i 1).isLt
    have h2 : (num m).toNat < 2 := by rcases h with e | e <;> rw [e] <;> decide
    intro a
    match a with
    | ⟨0, _⟩ => show ((i 1).val + 1) * 256 ≤ 4096; omega
    | ⟨1, _⟩ => show (2 * (i 0).val + (num m).toNat + 1) * 1792 ≤ 14336; omega
  exact ⟨hb, .inr (Affine.block_words_dvd (of_decide_eq_true rfl) (by decide))⟩

end Cert.PairAdd.Val

namespace Cert.PairAddIdeal.Val

open Cert.PairAddIdeal Cert.PairAddIdeal.Gen Idealize.ShloMosaic Idealize.ShloMosaic.TcCoe Idealize.SL.Sem

/-- Where the block of a grid point lies when the core's number is the word `w`. -/
theorem at_word : ∀ w : BitVec 32, w = 0#32 ∨ w = 1#32 → ∀ i : grid0.Coords,
    (Scalar.addi (Scalar.muli 2#32 (BitVec.ofNat 32 (i 0).val)) w).toNat = 2 * (i 0).val + w.toNat := by
  rintro w (rfl | rfl) <;> decide +kernel

variable (m : (ℓ : Loc nD τ sig) → Buf (Elt Ideal) ℓ)

/-- The core's number. -/
def num : BitVec 32 := (m (((0 : Dev nD) : Thread nD τ).loc main_arg2) : IVec S1 32) (ix1 0)

/-- Where a grid point's block of the gradient lies. -/
theorem index (h : num m = 0#32 ∨ num m = 1#32) (i : grid0.Coords) :
    cc0_transform_0 inb_S1_S1_0 numel1_S1 (tbl (F := Ideal) m) i = ![(i 1).val, 2 * (i 0).val + (num m).toNat] := by
  have e : (tbl (F := Ideal) m).at 0 (Rect.unit (s := S1) ![0] S1.size inb_S1_S1_0) numel1_S1 = num m := by
    exact congrArg (m (((0 : Dev nD) : Thread nD τ).loc main_arg2) : IVec S1 32) (funext fun a : Fin 1 => by
      obtain rfl : a = 0 := Subsingleton.elim _ _
      exact Subsingleton.elim (α := Fin 1) _ _)
  have h1 : (BitVec.ofNat 32 (i 1).val).toNat = (i 1).val := by
    have : (i 1).val < 16 := (i 1).isLt
    rw [BitVec.toNat_ofNat]; omega
  unfold cc0_transform_0
  dsimp only
  rw [e, at_word _ h i, h1]

/-- Every block lies inside the array. -/
theorem ok (h : num m = 0#32 ∨ num m = 1#32) : Ok m := by
  unfold Ok ok0
  intro i
  have hb : ∀ a, (cc0_transform_0 inb_S1_S1_0 numel1_S1 (tbl (F := Ideal) m) i a + 1) * S256x1792.size a ≤ S4096x14336.size a := by
    rw [index m h i]
    have h0 : (i 0).val < 4 := (i 0).isLt
    have h1 : (i 1).val < 16 := (i 1).isLt
    have h2 : (num m).toNat < 2 := by rcases h with e | e <;> rw [e] <;> decide
    intro a
    match a with
    | ⟨0, _⟩ => show ((i 1).val + 1) * 256 ≤ 4096; omega
    | ⟨1, _⟩ => show (2 * (i 0).val + (num m).toNat + 1) * 1792 ≤ 14336; omega
  exact ⟨hb, .inr (Affine.block_words_dvd (of_decide_eq_true rfl) (by decide))⟩

/-! ## The value -/

/-- Entry `(j, r, k)` of the result: the device's own half of the gradient and its sibling's. -/
def H (x : FVec Ideal S4096x14336 .bf16) (y : FVec Ideal S4x4096x1792 .bf16) (w : ℕ) (hw : w < 2) (j : Fin 4) (r : Fin 4096) (k : Fin 1792) : EReal :=
  x (ix2 r ⟨(2 * j.val + w) * 1792 + k.val, by omega⟩) + y (ix3 j r k)

/-- What the body computes of its blocks. -/
theorem pay1 (x : FVec Ideal S256x1792 .bf16) (y : FVec Ideal S1x256x1792 .bf16) (r : Fin 256) (k : Fin 1792) :
    k0_pay1 (F := Ideal) x y (ix3 0 r k) = x (ix2 r k) + y (ix3 0 r k) := by
  pointwise [k0_pay1]

/-- The block a grid point leaves. -/
theorem out2 (hO : Ok m) (c : Dev nD) (t : Fin (cfgM m hO).N) :
    outsAt0 m hO c t = k0_pay1 (F := Ideal) (iblk m hO c 0 t) (iblk m hO c 1 t) := by
  unfold outsAt0 out0_A_2
  frame_out
  exact congrArg₂ (k0_pay1 (F := Ideal)) ((hs0_0 m hO t).read_unread _) ((hs0_1 m hO t).read_unread _)

/-- Every window's block at every grid point. -/
theorem idx (hO : Ok m) (h : num m = 0#32 ∨ num m = 1#32) (t : Fin (cfgM m hO).N) :
    ((cfgM m hO).win 0).index t = ![(grid0.coords t 1).val, 2 * (grid0.coords t 0).val + (num m).toNat]
      ∧ ((cfgM m hO).win 1).index t = ![(grid0.coords t 0).val, (grid0.coords t 1).val, 0]
      ∧ ((cfgM m hO).win 2).index t = ![(grid0.coords t 0).val, (grid0.coords t 1).val, 0] := by
  have e : ∀ i : grid0.Coords, cc0_transform_1 i = ![(i 0).val, (i 1).val, 0] ∧ cc0_transform_2 i = ![(i 0).val, (i 1).val, 0] := by decide +kernel
  exact ⟨index m h _, (e _).1, (e _).2⟩

/-- Row `r` of the block of grid point `t`. -/
def row (t : Fin grid0.N) (r : Fin 256) : Fin 4096 := ⟨256 * (grid0.coords t 1).val + r.val, by have : (grid0.coords t 1).val < 16 := (grid0.coords t 1).isLt; omega⟩

/-- The quarter of grid point `t`. -/
def quarter (t : Fin grid0.N) : Fin 4 := grid0.coords t 0

theorem blk0 (hO : Ok m) (h : num m = 0#32 ∨ num m = 1#32) (hw : (num m).toNat < 2) (c : Dev nD) (t : Fin (cfgM m hO).N) (r : Fin 256) (k : Fin 1792) :
    (iblk m hO c 0 t : FVec Ideal S256x1792 .bf16) (ix2 r k)
      = (m ((c : Thread nD τ).loc main_arg0) : FVec Ideal S4096x14336 .bf16) (ix2 (row t r) ⟨(2 * (quarter t).val + (num m).toNat) * 1792 + k.val, by omega⟩) := by
  blk_point [iblk, V, idx m hO h t, row, quarter]

theorem blk1 (hO : Ok m) (h : num m = 0#32 ∨ num m = 1#32) (c : Dev nD) (t : Fin (cfgM m hO).N) (r : Fin 256) (k : Fin 1792) :
    (iblk m hO c 1 t : FVec Ideal S1x256x1792 .bf16) (ix3 0 r k)
      = (m ((c : Thread nD τ).loc main_arg1) : FVec Ideal S4x4096x1792 .bf16) (ix3 (quarter t) (row t r) k) := by
  blk_point [iblk, V, idx m hO h t, row, quarter]

/-- The kernel's result. -/
theorem final2 (hO : Ok m) (h : num m = 0#32 ∨ num m = 1#32) (hw : (num m).toNat < 2) (c : Dev nD) : (dats m hO 0 c).arrAt 2 (cfgM m hO).N
    = (fun i => H (m ((c : Thread nD τ).loc main_arg0)) (m ((c : Thread nD τ).loc main_arg1)) (num m).toNat hw (i 0) (i 1) (i 2) : FVec Ideal S4x4096x1792 .bf16) := by
  have hp : ∀ (j : Fin 4) (q : Fin 16), ∃ t : Fin grid0.N, cc0_transform_2 (grid0.coords t) = ![j.val, q.val, 0] := by decide +kernel
  have hc : ((cfgM m hO).win 2).Covers := by
    refine ⟨(by decide : ∀ a : Fin 3, 0 < S1x256x1792.size a), fun β => ?_⟩
    have b0 : (β (0 : Fin 3)).val < 4 := (β (0 : Fin 3)).isLt.trans_eq (by show (4 + 1 - 1) / 1 = 4; rfl)
    have b1 : (β (1 : Fin 3)).val < 16 := (β (1 : Fin 3)).isLt.trans_eq (by show (4096 + 256 - 1) / 256 = 16; rfl)
    have b2 : (β (2 : Fin 3)).val < 1 := (β (2 : Fin 3)).isLt.trans_eq (by show (1792 + 1792 - 1) / 1792 = 1; rfl)
    obtain ⟨t, ht⟩ := hp ⟨_, b0⟩ ⟨_, b1⟩
    have hi : ((cfgM m hO).win 2).index t = ![(β (0 : Fin 3)).val, (β (1 : Fin 3)).val, 0] := ht
    refine ⟨t, flush0_2 _ t, fun a => ⟨?_, .inl rfl⟩⟩
    rw [hi]
    match a with
    | ⟨0, _⟩ => rfl
    | ⟨1, _⟩ => rfl
    | ⟨2, _⟩ => exact (Nat.lt_one_iff.1 b2).symm
  refine (dats m hO 0 c).arrAt_eq_of_covers 2 _ hc fun t _ y => ?_
  blk_simp
  rw [after0_2, out2]
  obtain ⟨r, k, rfl⟩ : ∃ (r : Fin 256) (k : Fin 1792), (y : S1x256x1792.Idx) = ix3 0 r k := ⟨y (1 : Fin 3), y (2 : Fin 3), by blk_ext []⟩
  refine (pay1 _ _ r k).trans ?_
  simp only [blk0 m hO h hw, blk1 m hO h]
  have e : (((cfgM m hO).win 2).blk t).view.emb (ix3 0 r k : S1x256x1792.Idx) = (ix3 (quarter t) (row t r) k : S4x4096x1792.Idx) := by blk_ext [idx m hO h t, row, quarter]
  rw [e]
  rfl

/-- The run, with its result named. -/
theorem run (ρ : Dev nD → PrngReg) (h : num m = 0#32 ∨ num m = 1#32) (hw : (num m).toNat < 2) : θ_run defs (onTc (τ := τ) (main (F := Ideal))) ⟨m, fun _ => 0, ρ⟩ fun r => ∀ c : Dev nD,
      r.2.mem ((c : Thread nD τ).loc main_v0) = (fun i => H (m ((c : Thread nD τ).loc main_arg0)) (m ((c : Thread nD τ).loc main_arg1)) (num m).toNat hw (i 0) (i 1) (i 2) : FVec Ideal S4x4096x1792 .bf16)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r hr c => ⟨((hr.1 c).1 2).trans (final2 m (ok m h) h hw c), hr.2 c⟩)
    (θ_run_and (run_main m ρ (ok m h)) (unchanged m ρ (ok m h)))

end Cert.PairAddIdeal.Val

namespace Cert.PairAddClaim

open Idealize.ShloMosaic Idealize.SL.Sem Cert.PairAddRefIdeal Cert.PairAddRefIdeal.Read
open Cert.PairAddIdeal.Val (H)

/-- The half of the gradient that the core's number selects. -/
theorem half (x : FVec Ideal S4096x14336 .bf16) (w : IVec S1 32) (h : w (ix1 0) = 0#32 ∨ w (ix1 0) = 1#32) (hw : (w (ix1 0)).toNat < 2) (j : Fin 4) (r : Fin 4096) (k : Fin 1792) :
    val_main_v8 (F := Ideal) x w (ix3 j r k) = x (ix2 r ⟨(2 * j.val + (w (ix1 0)).toNat) * 1792 + k.val, by omega⟩) := by
  have e : ∀ i, val_main_v3 (F := Ideal) w i = IntOp.cmpi .eq (w (ix1 0)) 0#32 := fun i => by
    unfold val_main_v3 val_main_v2 val_main_c
    exact congrArg (fun u : BitVec 32 => IntOp.cmpi .eq u 0#32) (congrArg w (funext fun a : Fin 1 => by
      obtain rfl : a = 0 := Subsingleton.elim _ _
      exact Subsingleton.elim (α := Fin 1) _ _))
  unfold val_main_v8
  have hj := j.isLt
  have hr := r.isLt
  have hk := k.isLt
  have n1 : ((j.val * 4096 + r.val) * 1792 + k.val) / 1792 = j.val * 4096 + r.val := by omega
  have n2 : ((j.val * 4096 + r.val) * 1792 + k.val) / 7340032 = j.val := by omega
  have n3 : ((j.val * 4096 + r.val) * 1792 + k.val) % 1792 = k.val := by omega
  have n4 : (j.val * 4096 + r.val) % 4096 = r.val := by omega
  have n5 : j.val % 4 = j.val := by omega
  rcases h with h | h
  · have e0 : (w (ix1 0)).toNat = 0 := by rw [h]; rfl
    pointwise [e, val_main_v5_apply, val_main_v4_apply, val_main_v1_apply, val_main_v0_apply]
    refine (if_pos (by rw [h]; rfl)).trans (congrArg x ?_)
    blk_ext [e0] <;> rw [n1, n2, n3, n4, n5] <;> omega
  · have e1 : (w (ix1 0)).toNat = 1 := by rw [h]; rfl
    pointwise [e, val_main_v7_apply, val_main_v6_apply, val_main_v1_apply, val_main_v0_apply]
    refine (if_neg (by rw [h]; decide)).trans (congrArg x ?_)
    blk_ext [e1] <;> rw [n1, n2, n3, n4, n5] <;> omega

/-- The reference's result. -/
theorem read (x : FVec Ideal S4096x14336 .bf16) (y : FVec Ideal S4x4096x1792 .bf16) (w : IVec S1 32) (h : w (ix1 0) = 0#32 ∨ w (ix1 0) = 1#32) (hw : (w (ix1 0)).toNat < 2) (i : S4x4096x1792.Idx) :
    val_main_v12 (F := Ideal) x y w i = H x y (w (ix1 0)).toNat hw (i 0) (i 1) (i 2) := by
  obtain ⟨j, r, k, rfl⟩ : ∃ (j : Fin 4) (r : Fin 4096) (k : Fin 1792), i = ix3 j r k := ⟨i 0, i 1, i 2, by blk_ext []⟩
  pointwise [val_main_v12_apply, val_main_v11_apply, val_main_v10_apply, val_main_v9_apply, H]
  exact congrArg (· + _) (half x w h hw j r k)

/-- Over the reals kernel and reference return the same array. -/
theorem algebraic : Cert.algebraic_PairAddIdeal_PairAddRefIdeal := by
  intro m g m' g' hp ha
  have h : Cert.PairAddIdeal.Val.num m = 0#32 ∨ Cert.PairAddIdeal.Val.num m = 1#32 := core _ _ _ (hp 0) (ix1 0)
  have hw : (Cert.PairAddIdeal.Val.num m).toNat < 2 := by rcases h with e | e <;> rw [e] <;> decide
  refine ⟨fun c => val_main_v12 (F := Ideal) (m (c.tc.loc Cert.PairAddIdeal.main_arg0)) (m (c.tc.loc Cert.PairAddIdeal.main_arg1)) (m (c.tc.loc Cert.PairAddIdeal.main_arg2)),
    (θ_run _ _ _).mono (fun r hr c => ?_) (Cert.PairAddIdeal.Val.run m g h hw),
    (θ_run _ _ _).mono (fun r hr c => ?_) (Cert.PairAddRefIdeal.Value.run m' g')⟩
  · obtain rfl : c = 0 := Subsingleton.elim _ _
    exact ⟨(hr 0).1.trans (funext fun i => (read _ _ _ h hw i).symm), (hr 0).2⟩
  · obtain ⟨a0, a1, a2⟩ := ha c
    exact ⟨(hr c).1.trans ((val_main_v12_eq _ _ _).trans (by rw [a0, a1, a2])), (hr c).2⟩

/-- The reference runs, leaves its arguments alone, and has no semaphore to leave raised. -/
theorem frame_ref : Cert.quiescent_PairAddRefIdeal := fun m g _ =>
  (θ_run _ _ _).mono (fun r h => ⟨fun c => (h c).2, sem_eq_zero_of_no_sems (by decide) r.2⟩) (Cert.PairAddRefIdeal.Value.run m g)

/-- The kernel runs and leaves its arguments alone, in machine arithmetic. -/
theorem frame : Cert.quiescent_PairAdd := fun m g hp =>
  Cert.PairAdd.Gen.frame m g (Cert.PairAdd.Val.ok m (core _ _ _ (hp 0) (ix1 0)))

/-- The kernel runs and leaves its arguments alone, over the reals. -/
theorem frame_ideal : Cert.quiescent_PairAddIdeal := fun m g hp =>
  Cert.PairAddIdeal.Gen.frame m g (Cert.PairAddIdeal.Val.ok m (core _ _ _ (hp 0) (ix1 0)))

end Cert.PairAddClaim

end
-- ==== Proof.Cast.lean ====
module

public import proofs.«01_k».proof.Defs
public import proofs.«01_k».proof.Proof.Lift
public import proofs.«01_k».proof.Proof.Gen.CastIdeal.Value
public import proofs.«01_k».proof.Proof.Gen.Cast.Frame
public import proofs.«01_k».proof.Proof.Gen.CastRefIdeal.Run
public import proofs.«01_k».proof.Proof.Gen.CastRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the cast of a weight to bf16. -/

namespace Cert.CastClaim

open Idealize.ShloMosaic Idealize.SL.Sem

/-- Over the reals kernel and reference return the same array. -/
theorem algebraic : Cert.algebraic_CastIdeal_CastRefIdeal := by
  intro m g m' g' _ ha
  refine ⟨fun c => Cert.CastIdeal.Value.G1 (F := Ideal) (m (c.tc.loc Cert.CastIdeal.main_arg0)),
    Cert.CastIdeal.Value.run m g, (θ_run _ _ _).mono (fun r h c => ?_) (Cert.CastRefIdeal.Value.run m' g')⟩
  refine ⟨(h c).1.trans ?_, (h c).2⟩
  rw [ha c]
  exact funext fun i => by pointwise [Cert.CastIdeal.Value.G1]

/-- The reference runs, leaves its arguments alone, and has no semaphore to leave raised. -/
theorem frame_ref : Cert.quiescent_CastRefIdeal := fun m g _ =>
  (θ_run _ _ _).mono (fun r h => ⟨fun c => (h c).2, sem_eq_zero_of_no_sems (by decide) r.2⟩) (Cert.CastRefIdeal.Value.run m g)

/-- The kernel runs and leaves its arguments alone, in machine arithmetic. -/
theorem frame : Cert.quiescent_Cast := fun m g _ => Cert.Cast.Gen.frame m g

/-- The kernel runs and leaves its arguments alone, over the reals. -/
theorem frame_ideal : Cert.quiescent_CastIdeal := fun m g _ => Cert.CastIdeal.Gen.frame m g

end Cert.CastClaim

end
-- ==== Proof.AdamBig.lean ====
module

public import proofs.«01_k».proof.Defs
public import proofs.«01_k».proof.Proof.Lift
public import proofs.«01_k».proof.Proof.Gen.AdamBig.Frame
public import proofs.«01_k».proof.Proof.Gen.AdamBigIdeal.Frame
public import proofs.«01_k».proof.Proof.Gen.Pre_chip_is_one_of_four
public import proofs.«01_k».proof.Proof.Gen.AdamBigRefIdeal.Run
public import proofs.«01_k».proof.Proof.Gen.AdamBigRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The optimiser's step on a weight whose gradient arrives in four parts: where the kernel finds its own part, its results, the reference's, and the claims. -/

namespace Cert.AdamBigClaim

open Idealize.ShloMosaic

/-- A word that is at least 0 and less than 4. -/
theorem word (w : BitVec 32) (h : IntOp.andi (IntOp.cmpi .sge w 0#32) (IntOp.cmpi .slt w 4#32) = 1#1) : w.toNat < 4 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at h
  omega

open Cert.Pre_chip_is_one_of_four in
/-- The precondition names the chip: 0, 1, 2 or 3. -/
theorem chip {F : FTy → Type} [FloatOps F] (x : FVec F S4x4096x1792 .bf16) (y : FVec F S3x4096x1792 .bf16) (a b c : FVec F S4096x1792 .f32)
    (w : IVec S1 32) (h : fn (F := F) x y a b c w = fun _ => 1#1) (i : S1.Idx) : (w i).toNat < 4 := by
  have e := congrFun h i
  simp only [fn, andi, cmpi, broadcastInDim, constantI] at e
  exact word _ e

end Cert.AdamBigClaim

namespace Cert.AdamBig.Val

open Cert.AdamBig Cert.AdamBig.Gen Idealize.ShloMosaic Idealize.ShloMosaic.TcCoe Idealize.SL.Sem

variable (m : (ℓ : Loc nD τ sig) → Buf (Elt Bits) ℓ)

/-- The chip's number. -/
def num : BitVec 32 := (m (((0 : Dev nD) : Thread nD τ).loc main_arg5) : IVec S1 32) (ix1 0)

/-- Where a grid point's block of the chip's own part lies. -/
theorem index (i : grid0.Coords) :
    cc0_transform_0 inb_S1_S1_0 numel1_S1 (tbl (F := Bits) m) i = ![(num m).toNat, (i 0).val, 0] := by
  have e : (tbl (F := Bits) m).at 0 (Rect.unit (s := S1) ![0] S1.size inb_S1_S1_0) numel1_S1 = num m := by
    exact congrArg (m (((0 : Dev nD) : Thread nD τ).loc main_arg5) : IVec S1 32) (funext fun a : Fin 1 => by
      obtain rfl : a = 0 := Subsingleton.elim _ _
      exact Subsingleton.elim (α := Fin 1) _ _)
  have h1 : (BitVec.ofNat 32 (i 0).val).toNat = (i 0).val := by
    have : (i 0).val < 32 := (i 0).isLt
    rw [BitVec.toNat_ofNat]; omega
  unfold cc0_transform_0
  dsimp only
  rw [e, h1]
  rfl

/-- Every block lies inside the array. -/
theorem ok (h : (num m).toNat < 4) : Ok m := by
  unfold Ok ok0
  intro i
  have hb : ∀ a, (cc0_transform_0 inb_S1_S1_0 numel1_S1 (tbl (F := Bits) m) i a + 1) * S1x128x1792.size a ≤ S4x4096x1792.size a := by
    rw [index m i]
    have h0 : (i 0).val < 32 := (i 0).isLt
    intro a
    match a with
    | ⟨0, _⟩ => show ((num m).toNat + 1) * 1 ≤ 4; omega
    | ⟨1, _⟩ => show ((i 0).val + 1) * 128 ≤ 4096; omega
    | ⟨2, _⟩ => show (0 + 1) * 1792 ≤ 1792; omega
  exact ⟨hb, .inr (Affine.block_words_dvd (of_decide_eq_true rfl) (by decide))⟩

end Cert.AdamBig.Val

namespace Cert.AdamBigIdeal.Val

open Cert.AdamBigIdeal Cert.AdamBigIdeal.Gen Idealize.ShloMosaic Idealize.ShloMosaic.TcCoe Idealize.SL.Sem

variable (m : (ℓ : Loc nD τ sig) → Buf (Elt Ideal) ℓ)

/-- The chip's number. -/
def num : BitVec 32 := (m (((0 : Dev nD) : Thread nD τ).loc main_arg5) : IVec S1 32) (ix1 0)

/-- Where a grid point's block of the chip's own part lies. -/
theorem index (i : grid0.Coords) :
    cc0_transform_0 inb_S1_S1_0 numel1_S1 (tbl (F := Ideal) m) i = ![(num m).toNat, (i 0).val, 0] := by
  have e : (tbl (F := Ideal) m).at 0 (Rect.unit (s := S1) ![0] S1.size inb_S1_S1_0) numel1_S1 = num m := by
    exact congrArg (m (((0 : Dev nD) : Thread nD τ).loc main_arg5) : IVec S1 32) (funext fun a : Fin 1 => by
      obtain rfl : a = 0 := Subsingleton.elim _ _
      exact Subsingleton.elim (α := Fin 1) _ _)
  have h1 : (BitVec.ofNat 32 (i 0).val).toNat = (i 0).val := by
    have : (i 0).val < 32 := (i 0).isLt
    rw [BitVec.toNat_ofNat]; omega
  unfold cc0_transform_0
  dsimp only
  rw [e, h1]
  rfl

/-- Every block lies inside the array. -/
theorem ok (h : (num m).toNat < 4) : Ok m := by
  unfold Ok ok0
  intro i
  have hb : ∀ a, (cc0_transform_0 inb_S1_S1_0 numel1_S1 (tbl (F := Ideal) m) i a + 1) * S1x128x1792.size a ≤ S4x4096x1792.size a := by
    rw [index m i]
    have h0 : (i 0).val < 32 := (i 0).isLt
    intro a
    match a with
    | ⟨0, _⟩ => show ((num m).toNat + 1) * 1 ≤ 4; omega
    | ⟨1, _⟩ => show ((i 0).val + 1) * 128 ≤ 4096; omega
    | ⟨2, _⟩ => show (0 + 1) * 1792 ≤ 1792; omega
  exact ⟨hb, .inr (Affine.block_words_dvd (of_decide_eq_true rfl) (by decide))⟩

/-! ## The value -/

/-- The three received blocks. -/
abbrev part0 (b : Vec Ideal S3x128x1792 .bf16) : Vec Ideal S1x128x1792 .bf16 := View.ld b (Rect.unit ![0, 0, 0] ![1, 128, 1792] inb_S3x128x1792_S1x128x1792_0_0_0)
abbrev part1 (b : Vec Ideal S3x128x1792 .bf16) : Vec Ideal S1x128x1792 .bf16 := View.ld b (Rect.unit ![1, 0, 0] ![1, 128, 1792] inb_S3x128x1792_S1x128x1792_1_0_0)
abbrev part2 (b : Vec Ideal S3x128x1792 .bf16) : Vec Ideal S1x128x1792 .bf16 := View.ld b (Rect.unit ![2, 0, 0] ![1, 128, 1792] inb_S3x128x1792_S1x128x1792_2_0_0)

theorem part0_at (b : Vec Ideal S3x128x1792 .bf16) (r : Fin 128) (k : Fin 1792) : part0 b (ix3 0 r k) = b (ix3 0 r k) :=
  View.ld_unit_apply_of _ _ _ _ _ _ (by intro a; fin_cases a <;> simp)

theorem part1_at (b : Vec Ideal S3x128x1792 .bf16) (r : Fin 128) (k : Fin 1792) : part1 b (ix3 0 r k) = b (ix3 1 r k) :=
  View.ld_unit_apply_of _ _ _ _ _ _ (by intro a; fin_cases a <;> simp)

theorem part2_at (b : Vec Ideal S3x128x1792 .bf16) (r : Fin 128) (k : Fin 1792) : part2 b (ix3 0 r k) = b (ix3 2 r k) :=
  View.ld_unit_apply_of _ _ _ _ _ _ (by intro a; fin_cases a <;> simp)

/-- What the body leaves for the step of the weights. -/
def pay6 (p : Vec Ideal S1x128x1792 .bf16) (q : Vec Ideal S3x128x1792 .bf16) (w u v : Vec Ideal S128x1792 .f32) : FVec Ideal S128x1792 .f32 :=
  k0_pay1 (F := Ideal) w (k0_pay5 (F := Ideal) p (part0 q) (part1 q) (part2 q) u) (k0_pay6 (F := Ideal) p (part0 q) (part1 q) (part2 q) v) (FloatOps.ofBits .f32 841731191#32)

/-! The bodies' results depend on their arguments' contents alone. -/

theorem same2 {p p' : Vec Ideal S1x128x1792 .bf16} {q q' : Vec Ideal S3x128x1792 .bf16} (e0 : p = p') (e1 : q = q') :
    k0_pay2 (F := Ideal) p (part0 q) (part1 q) (part2 q) = k0_pay2 (F := Ideal) p' (part0 q') (part1 q') (part2 q') := by
  rw [e0, e1]

theorem same3 {p p' : Vec Ideal S1x128x1792 .bf16} {q q' : Vec Ideal S3x128x1792 .bf16} {u u' : Vec Ideal S128x1792 .f32} (e0 : p = p') (e1 : q = q') (e2 : u = u') :
    k0_pay3 (F := Ideal) p (part0 q) (part1 q) (part2 q) u = k0_pay3 (F := Ideal) p' (part0 q') (part1 q') (part2 q') u' := by
  rw [e0, e1, e2]

theorem same4 {p p' : Vec Ideal S1x128x1792 .bf16} {q q' : Vec Ideal S3x128x1792 .bf16} {u u' : Vec Ideal S128x1792 .f32} (e0 : p = p') (e1 : q = q') (e2 : u = u') :
    k0_pay4 (F := Ideal) p (part0 q) (part1 q) (part2 q) u = k0_pay4 (F := Ideal) p' (part0 q') (part1 q') (part2 q') u' := by
  rw [e0, e1, e2]

theorem same6 {p p' : Vec Ideal S1x128x1792 .bf16} {q q' : Vec Ideal S3x128x1792 .bf16} {w w' u u' v v' : Vec Ideal S128x1792 .f32} (e0 : p = p') (e1 : q = q') (e2 : w = w') (e3 : u = u') (e4 : v = v') :
    k0_pay1 (F := Ideal) w (k0_pay5 (F := Ideal) p (part0 q) (part1 q) (part2 q) u) (k0_pay6 (F := Ideal) p (part0 q) (part1 q) (part2 q) v) (FloatOps.ofBits .f32 841731191#32)
      = pay6 p' q' w' u' v' := by
  rw [e0, e1, e2, e3, e4]; rfl

/-! The four blocks a grid point leaves. -/

theorem out5 (hO : Ok m) (c : Dev nD) (t : Fin (cfgM m hO).N) :
    (outsAt0 m hO c t).1 = k0_pay2 (F := Ideal) (iblk m hO c 0 t) (part0 (iblk m hO c 1 t)) (part1 (iblk m hO c 1 t)) (part2 (iblk m hO c 1 t)) := by
  unfold outsAt0 out0_A_5
  frame_out
  exact same2 ((hs0_0 m hO t).read_unread _) ((hs0_1 m hO t).read_unread _)

theorem out6 (hO : Ok m) (c : Dev nD) (t : Fin (cfgM m hO).N) :
    (outsAt0 m hO c t).2.1 = pay6 (iblk m hO c 0 t) (iblk m hO c 1 t) (iblk m hO c 2 t) (iblk m hO c 3 t) (iblk m hO c 4 t) := by
  unfold outsAt0 out0_A_6
  frame_out
  exact same6 ((hs0_0 m hO t).read_unread _) ((hs0_1 m hO t).read_unread _) ((hs0_2 m hO t).read_unread _) ((hs0_3 m hO t).read_unread _) ((hs0_4 m hO t).read_unread _)

theorem out7 (hO : Ok m) (c : Dev nD) (t : Fin (cfgM m hO).N) :
    (outsAt0 m hO c t).2.2.1 = k0_pay3 (F := Ideal) (iblk m hO c 0 t) (part0 (iblk m hO c 1 t)) (part1 (iblk m hO c 1 t)) (part2 (iblk m hO c 1 t)) (iblk m hO c 3 t) := by
  unfold outsAt0 out0_A_7
  frame_out
  exact same3 ((hs0_0 m hO t).read_unread _) ((hs0_1 m hO t).read_unread _) ((hs0_3 m hO t).read_unread _)

theorem out8 (hO : Ok m) (c : Dev nD) (t : Fin (cfgM m hO).N) :
    (outsAt0 m hO c t).2.2.2 = k0_pay4 (F := Ideal) (iblk m hO c 0 t) (part0 (iblk m hO c 1 t)) (part1 (iblk m hO c 1 t)) (part2 (iblk m hO c 1 t)) (iblk m hO c 4 t) := by
  unfold outsAt0 out0_A_8
  frame_out
  exact same4 ((hs0_0 m hO t).read_unread _) ((hs0_1 m hO t).read_unread _) ((hs0_4 m hO t).read_unread _)

/-- Every window's block at every grid point. -/
theorem idx (hO : Ok m) (t : Fin (cfgM m hO).N) :
    ((cfgM m hO).win 0).index t = ![(num m).toNat, (grid0.coords t 0).val, 0]
      ∧ ((cfgM m hO).win 1).index t = ![0, (grid0.coords t 0).val, 0]
      ∧ ((cfgM m hO).win 2).index t = ![(grid0.coords t 0).val, 0]
      ∧ ((cfgM m hO).win 3).index t = ![(grid0.coords t 0).val, 0]
      ∧ ((cfgM m hO).win 4).index t = ![(grid0.coords t 0).val, 0]
      ∧ ((cfgM m hO).win 5).index t = ![(grid0.coords t 0).val, 0]
      ∧ ((cfgM m hO).win 6).index t = ![(grid0.coords t 0).val, 0]
      ∧ ((cfgM m hO).win 7).index t = ![(grid0.coords t 0).val, 0]
      ∧ ((cfgM m hO).win 8).index t = ![(grid0.coords t 0).val, 0] := by
  have e : ∀ i : grid0.Coords, cc0_transform_1 i = ![0, (i 0).val, 0] ∧ cc0_transform_2 i = ![(i 0).val, 0] := by decide +kernel
  exact ⟨index m _, (e _).1, (e _).2, (e _).2, (e _).2, (e _).2, (e _).2, (e _).2, (e _).2⟩

/-- Row `r` of the block of grid point `t`. -/
def row (t : Fin grid0.N) (r : Fin 128) : Fin 4096 := ⟨128 * (grid0.coords t 0).val + r.val, by have : (grid0.coords t 0).val < 32 := (grid0.coords t 0).isLt; omega⟩

theorem blk0 (hO : Ok m) (hw : (num m).toNat < 4) (c : Dev nD) (t : Fin (cfgM m hO).N) (r : Fin 128) (k : Fin 1792) :
    (iblk m hO c 0 t : FVec Ideal S1x128x1792 .bf16) (ix3 0 r k)
      = (m ((c : Thread nD τ).loc main_arg0) : FVec Ideal S4x4096x1792 .bf16) (ix3 ⟨(num m).toNat, hw⟩ (row t r) k) := by
  blk_point [iblk, V, idx m hO t, row]

theorem blk1 (hO : Ok m) (c : Dev nD) (t : Fin (cfgM m hO).N) (j : Fin 3) (r : Fin 128) (k : Fin 1792) :
    (iblk m hO c 1 t : FVec Ideal S3x128x1792 .bf16) (ix3 j r k)
      = (m ((c : Thread nD τ).loc main_arg1) : FVec Ideal S3x4096x1792 .bf16) (ix3 j (row t r) k) := by
  blk_point [iblk, V, idx m hO t, row]

theorem blk2 (hO : Ok m) (c : Dev nD) (t : Fin (cfgM m hO).N) (r : Fin 128) (k : Fin 1792) :
    (iblk m hO c 2 t : FVec Ideal S128x1792 .f32) (ix2 r k) = (m ((c : Thread nD τ).loc main_arg2) : FVec Ideal S4096x1792 .f32) (ix2 (row t r) k) := by
  blk_point [iblk, V, idx m hO t, row]

theorem blk3 (hO : Ok m) (c : Dev nD) (t : Fin (cfgM m hO).N) (r : Fin 128) (k : Fin 1792) :
    (iblk m hO c 3 t : FVec Ideal S128x1792 .f32) (ix2 r k) = (m ((c : Thread nD τ).loc main_arg3) : FVec Ideal S4096x1792 .f32) (ix2 (row t r) k) := by
  blk_point [iblk, V, idx m hO t, row]

theorem blk4 (hO : Ok m) (c : Dev nD) (t : Fin (cfgM m hO).N) (r : Fin 128) (k : Fin 1792) :
    (iblk m hO c 4 t : FVec Ideal S128x1792 .f32) (ix2 r k) = (m ((c : Thread nD τ).loc main_arg4) : FVec Ideal S4096x1792 .f32) (ix2 (row t r) k) := by
  blk_point [iblk, V, idx m hO t, row]

end Cert.AdamBigIdeal.Val

namespace Cert.AdamBigClaim

open Idealize.ShloMosaic Idealize.SL.Sem Cert.AdamBigRefIdeal Cert.AdamBigRefIdeal.Read

/-- The part of the gradient that the chip's number selects. -/
theorem own (x : FVec Ideal S4x4096x1792 .bf16) (w : IVec S1 32) (hw : (w (ix1 0)).toNat < 4) (r : Fin 4096) (k : Fin 1792) :
    val_main_v18 (F := Ideal) x w (ix2 r k) = x (ix3 ⟨(w (ix1 0)).toNat, hw⟩ r k) := by
  have i0 (i) : w i = w (ix1 0) := congrArg w (funext fun a : Fin 1 => by
    obtain rfl : a = 0 := Subsingleton.elim _ _
    exact Subsingleton.elim (α := Fin 1) _ _)
  have e0 : ∀ i, val_main_v3 (F := Ideal) w i = IntOp.cmpi .eq (w (ix1 0)) 0#32 := fun i => by
    unfold val_main_v3 val_main_v2 val_main_c
    exact congrArg (fun u : BitVec 32 => IntOp.cmpi .eq u 0#32) (i0 _)
  have e1 : ∀ i, val_main_v7 (F := Ideal) w i = IntOp.cmpi .eq (w (ix1 0)) 1#32 := fun i => by
    unfold val_main_v7 val_main_v6 val_main_c_0
    exact congrArg (fun u : BitVec 32 => IntOp.cmpi .eq u 1#32) (i0 _)
  have e2 : ∀ i, val_main_v11 (F := Ideal) w i = IntOp.cmpi .eq (w (ix1 0)) 2#32 := fun i => by
    unfold val_main_v11 val_main_v10 val_main_c_1
    exact congrArg (fun u : BitVec 32 => IntOp.cmpi .eq u 2#32) (i0 _)
  have hr := r.isLt
  have hk := k.isLt
  have n1 : (r.val * 1792 + k.val) / 1792 = r.val := by omega
  have n3 : (r.val * 1792 + k.val) % 1792 = k.val := by omega
  have n4 : r.val % 4096 = r.val := by omega
  unfold val_main_v18 val_main_v17 val_main_v16
  pointwise [e0, e1, e2, val_main_v5_apply, val_main_v4_apply, val_main_v9_apply, val_main_v8_apply, val_main_v13_apply, val_main_v12_apply, val_main_v15_apply, val_main_v14_apply, val_main_v0_apply]
  rcases (show (w (ix1 0)).toNat = 0 ∨ (w (ix1 0)).toNat = 1 ∨ (w (ix1 0)).toNat = 2 ∨ (w (ix1 0)).toNat = 3 by omega) with q | q | q | q
  · have h : w (ix1 0) = 0#32 := BitVec.eq_of_toNat_eq q
    refine (if_pos (by rw [h]; rfl)).trans (congrArg x ?_)
    blk_ext [q] <;> omega
  · have h : w (ix1 0) = 1#32 := BitVec.eq_of_toNat_eq q
    refine (if_neg (by rw [h]; decide)).trans ((if_pos (by rw [h]; rfl)).trans (congrArg x ?_))
    blk_ext [q] <;> omega
  · have h : w (ix1 0) = 2#32 := BitVec.eq_of_toNat_eq q
    refine (if_neg (by rw [h]; decide)).trans ((if_neg (by rw [h]; decide)).trans ((if_pos (by rw [h]; rfl)).trans (congrArg x ?_)))
    blk_ext [q] <;> omega
  · have h : w (ix1 0) = 3#32 := BitVec.eq_of_toNat_eq q
    refine (if_neg (by rw [h]; decide)).trans ((if_neg (by rw [h]; decide)).trans ((if_neg (by rw [h]; decide)).trans (congrArg x ?_)))
    blk_ext [q] <;> omega

/-- The gradient at an entry: the chip's own part and the three received. -/
theorem total (x : FVec Ideal S4x4096x1792 .bf16) (y : FVec Ideal S3x4096x1792 .bf16) (w : IVec S1 32) (hw : (w (ix1 0)).toNat < 4) (r : Fin 4096) (k : Fin 1792) :
    val_main_v27 (F := Ideal) x y w (ix2 r k) = x (ix3 ⟨(w (ix1 0)).toNat, hw⟩ r k) + y (ix3 0 r k) + y (ix3 1 r k) + y (ix3 2 r k) := by
  have hr := r.isLt
  have hk := k.isLt
  have y0 : val_main_v20 (F := Ideal) y (ix2 r k) = y (ix3 0 r k) := by
    pointwise [val_main_v20_apply, val_main_v19_apply, val_main_v1_apply]
    exact congrArg y (by blk_ext [] <;> omega)
  have y1 : val_main_v23 (F := Ideal) y (ix2 r k) = y (ix3 1 r k) := by
    pointwise [val_main_v23_apply, val_main_v22_apply, val_main_v1_apply]
    exact congrArg y (by blk_ext [] <;> omega)
  have y2 : val_main_v26 (F := Ideal) y (ix2 r k) = y (ix3 2 r k) := by
    pointwise [val_main_v26_apply, val_main_v25_apply, val_main_v1_apply]
    exact congrArg y (by blk_ext [] <;> omega)
  pointwise [val_main_v27_apply, val_main_v24_apply, val_main_v21_apply, own x w hw, y0, y1, y2]

end Cert.AdamBigClaim

namespace Cert.AdamBigIdeal.Val

open Cert.AdamBigIdeal Cert.AdamBigIdeal.Gen Idealize.ShloMosaic Idealize.ShloMosaic.TcCoe Idealize.SL.Sem
open Cert.AdamBigRefIdeal.Read

variable (m : (ℓ : Loc nD τ sig) → Buf (Elt Ideal) ℓ)

/-- The gradient's block. -/
theorem at5 (hO : Ok m) (hw : (num m).toNat < 4) (t : Fin (cfgM m hO).N) (r : Fin 128) (k : Fin 1792) :
    k0_pay2 (F := Ideal) (iblk m hO 0 0 t) (part0 (iblk m hO 0 1 t)) (part1 (iblk m hO 0 1 t)) (part2 (iblk m hO 0 1 t)) (ix2 r k)
      = val_main_v27 (F := Ideal) (m (((0 : Dev nD) : Thread nD τ).loc main_arg0)) (m (((0 : Dev nD) : Thread nD τ).loc main_arg1)) (m (((0 : Dev nD) : Thread nD τ).loc main_arg5)) (ix2 (row t r) k) := by
  refine Eq.trans ?_ (Cert.AdamBigClaim.total _ _ _ hw _ _).symm
  pointwise [k0_pay2, blk0 m hO hw]
  exact congrArg₂ (· + ·) (congrArg₂ (· + ·) (congrArg₂ (· + ·) rfl ((part0_at _ r k).trans (blk1 m hO 0 t 0 r k)))
    ((part1_at _ r k).trans (blk1 m hO 0 t 1 r k))) ((part2_at _ r k).trans (blk1 m hO 0 t 2 r k))

/-- The first moment's block. -/
theorem at7 (hO : Ok m) (hw : (num m).toNat < 4) (t : Fin (cfgM m hO).N) (r : Fin 128) (k : Fin 1792) :
    k0_pay3 (F := Ideal) (iblk m hO 0 0 t) (part0 (iblk m hO 0 1 t)) (part1 (iblk m hO 0 1 t)) (part2 (iblk m hO 0 1 t)) (iblk m hO 0 3 t) (ix2 r k)
      = val_main_v32 (F := Ideal) (m (((0 : Dev nD) : Thread nD τ).loc main_arg0)) (m (((0 : Dev nD) : Thread nD τ).loc main_arg1)) (m (((0 : Dev nD) : Thread nD τ).loc main_arg3)) (m (((0 : Dev nD) : Thread nD τ).loc main_arg5)) (ix2 (row t r) k) := by
  pointwise [k0_pay3, at5 m hO hw, blk3, val_main_v32_apply, val_main_v31_apply, val_main_v30_apply, val_main_v29_apply, val_main_v28_apply, val_main_cst_apply, val_main_cst_2_apply]

/-- The second moment's block. -/
theorem at8 (hO : Ok m) (hw : (num m).toNat < 4) (t : Fin (cfgM m hO).N) (r : Fin 128) (k : Fin 1792) :
    k0_pay4 (F := Ideal) (iblk m hO 0 0 t) (part0 (iblk m hO 0 1 t)) (part1 (iblk m hO 0 1 t)) (part2 (iblk m hO 0 1 t)) (iblk m hO 0 4 t) (ix2 r k)
      = val_main_v38 (F := Ideal) (m (((0 : Dev nD) : Thread nD τ).loc main_arg0)) (m (((0 : Dev nD) : Thread nD τ).loc main_arg1)) (m (((0 : Dev nD) : Thread nD τ).loc main_arg4)) (m (((0 : Dev nD) : Thread nD τ).loc main_arg5)) (ix2 (row t r) k) := by
  pointwise [k0_pay4, at5 m hO hw, blk4, val_main_v38_apply, val_main_v37_apply, val_main_v36_apply, val_main_v35_apply, val_main_v34_apply, val_main_v33_apply, val_main_cst_3_apply, val_main_cst_4_apply]

/-- The block of the step of the weights. -/
theorem at6 (hO : Ok m) (hw : (num m).toNat < 4) (t : Fin (cfgM m hO).N) (r : Fin 128) (k : Fin 1792) :
    pay6 (iblk m hO 0 0 t) (iblk m hO 0 1 t) (iblk m hO 0 2 t) (iblk m hO 0 3 t) (iblk m hO 0 4 t) (ix2 r k)
      = val_main_v51 (F := Ideal) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (ix2 (row t r) k) := by
  pointwise [pay6, k0_pay1, k0_pay5, k0_pay6, at7 m hO hw, at8 m hO hw, blk2, val_main_v51_apply, val_main_v50_apply, val_main_v49_apply, val_main_v48_apply, val_main_v47_apply, val_main_v46_apply, val_main_v45_apply,
    val_main_v44_apply, val_main_v43_apply, val_main_v42_apply, val_main_v41_apply, val_main_v40_apply, val_main_v39_apply, val_main_cst_5_apply, val_main_cst_6_apply, val_main_cst_7_apply, val_main_cst_8_apply, val_main_cst_9_apply]

/-- Every block of rows is some grid point's. -/
theorem onto : ∀ q : Fin 32, ∃ t : Fin grid0.N, cc0_transform_5 (grid0.coords t) = ![q.val, 0] := by decide +kernel

/-- The entry of the array an entry of a block is. -/
theorem split (y : S128x1792.Idx) : ∃ (r : Fin 128) (k : Fin 1792), y = ix2 r k := ⟨y (0 : Fin 2), y (1 : Fin 2), by blk_ext []⟩

theorem final5 (hO : Ok m) (hw : (num m).toNat < 4) : (dats m hO 0 0).arrAt 5 (cfgM m hO).N = (val_main_v27 (F := Ideal) (m (((0 : Dev nD) : Thread nD τ).loc main_arg0)) (m (((0 : Dev nD) : Thread nD τ).loc main_arg1)) (m (((0 : Dev nD) : Thread nD τ).loc main_arg5)) : FVec Ideal S4096x1792 .f32) := by
  have hc : ((cfgM m hO).win 5).Covers := by
    refine ⟨(by decide : ∀ a : Fin 2, 0 < S128x1792.size a), fun β => ?_⟩
    have b0 : (β (0 : Fin 2)).val < 32 := (β (0 : Fin 2)).isLt.trans_eq (by show (4096 + 128 - 1) / 128 = 32; rfl)
    have b1 : (β (1 : Fin 2)).val < 1 := (β (1 : Fin 2)).isLt.trans_eq (by show (1792 + 1792 - 1) / 1792 = 1; rfl)
    obtain ⟨t, ht⟩ := onto ⟨_, b0⟩
    have hi : ((cfgM m hO).win 5).index t = ![(β (0 : Fin 2)).val, 0] := ht
    refine ⟨t, flush0_5 _ t, fun a => ⟨?_, .inl rfl⟩⟩
    rw [hi]
    match a with
    | ⟨0, _⟩ => rfl
    | ⟨1, _⟩ => exact (Nat.lt_one_iff.1 b1).symm
  refine (dats m hO 0 0).arrAt_eq_of_covers 5 _ hc fun t _ y => ?_
  blk_simp
  rw [after0_5, out5]
  obtain ⟨r, k, rfl⟩ := split y
  have e : (((cfgM m hO).win 5).blk t).view.emb (ix2 r k : S128x1792.Idx) = (ix2 (row t r) k : S4096x1792.Idx) := by blk_ext [idx m hO t, row]
  rw [e]
  exact at5 m hO hw t r k

theorem final6 (hO : Ok m) (hw : (num m).toNat < 4) : (dats m hO 0 0).arrAt 6 (cfgM m hO).N = (val_main_v51 (F := Ideal) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) : FVec Ideal S4096x1792 .f32) := by
  have hc : ((cfgM m hO).win 6).Covers := by
    refine ⟨(by decide : ∀ a : Fin 2, 0 < S128x1792.size a), fun β => ?_⟩
    have b0 : (β (0 : Fin 2)).val < 32 := (β (0 : Fin 2)).isLt.trans_eq (by show (4096 + 128 - 1) / 128 = 32; rfl)
    have b1 : (β (1 : Fin 2)).val < 1 := (β (1 : Fin 2)).isLt.trans_eq (by show (1792 + 1792 - 1) / 1792 = 1; rfl)
    obtain ⟨t, ht⟩ := onto ⟨_, b0⟩
    have hi : ((cfgM m hO).win 6).index t = ![(β (0 : Fin 2)).val, 0] := ht
    refine ⟨t, flush0_6 _ t, fun a => ⟨?_, .inl rfl⟩⟩
    rw [hi]
    match a with
    | ⟨0, _⟩ => rfl
    | ⟨1, _⟩ => exact (Nat.lt_one_iff.1 b1).symm
  refine (dats m hO 0 0).arrAt_eq_of_covers 6 _ hc fun t _ y => ?_
  blk_simp
  rw [after0_6, out6]
  obtain ⟨r, k, rfl⟩ := split y
  have e : (((cfgM m hO).win 6).blk t).view.emb (ix2 r k : S128x1792.Idx) = (ix2 (row t r) k : S4096x1792.Idx) := by blk_ext [idx m hO t, row]
  rw [e]
  exact at6 m hO hw t r k

theorem final7 (hO : Ok m) (hw : (num m).toNat < 4) : (dats m hO 0 0).arrAt 7 (cfgM m hO).N = (val_main_v32 (F := Ideal) (m (((0 : Dev nD) : Thread nD τ).loc main_arg0)) (m (((0 : Dev nD) : Thread nD τ).loc main_arg1)) (m (((0 : Dev nD) : Thread nD τ).loc main_arg3)) (m (((0 : Dev nD) : Thread nD τ).loc main_arg5)) : FVec Ideal S4096x1792 .f32) := by
  have hc : ((cfgM m hO).win 7).Covers := by
    refine ⟨(by decide : ∀ a : Fin 2, 0 < S128x1792.size a), fun β => ?_⟩
    have b0 : (β (0 : Fin 2)).val < 32 := (β (0 : Fin 2)).isLt.trans_eq (by show (4096 + 128 - 1) / 128 = 32; rfl)
    have b1 : (β (1 : Fin 2)).val < 1 := (β (1 : Fin 2)).isLt.trans_eq (by show (1792 + 1792 - 1) / 1792 = 1; rfl)
    obtain ⟨t, ht⟩ := onto ⟨_, b0⟩
    have hi : ((cfgM m hO).win 7).index t = ![(β (0 : Fin 2)).val, 0] := ht
    refine ⟨t, flush0_7 _ t, fun a => ⟨?_, .inl rfl⟩⟩
    rw [hi]
    match a with
    | ⟨0, _⟩ => rfl
    | ⟨1, _⟩ => exact (Nat.lt_one_iff.1 b1).symm
  refine (dats m hO 0 0).arrAt_eq_of_covers 7 _ hc fun t _ y => ?_
  blk_simp
  rw [after0_7, out7]
  obtain ⟨r, k, rfl⟩ := split y
  have e : (((cfgM m hO).win 7).blk t).view.emb (ix2 r k : S128x1792.Idx) = (ix2 (row t r) k : S4096x1792.Idx) := by blk_ext [idx m hO t, row]
  rw [e]
  exact at7 m hO hw t r k

theorem final8 (hO : Ok m) (hw : (num m).toNat < 4) : (dats m hO 0 0).arrAt 8 (cfgM m hO).N = (val_main_v38 (F := Ideal) (m (((0 : Dev nD) : Thread nD τ).loc main_arg0)) (m (((0 : Dev nD) : Thread nD τ).loc main_arg1)) (m (((0 : Dev nD) : Thread nD τ).loc main_arg4)) (m (((0 : Dev nD) : Thread nD τ).loc main_arg5)) : FVec Ideal S4096x1792 .f32) := by
  have hc : ((cfgM m hO).win 8).Covers := by
    refine ⟨(by decide : ∀ a : Fin 2, 0 < S128x1792.size a), fun β => ?_⟩
    have b0 : (β (0 : Fin 2)).val < 32 := (β (0 : Fin 2)).isLt.trans_eq (by show (4096 + 128 - 1) / 128 = 32; rfl)
    have b1 : (β (1 : Fin 2)).val < 1 := (β (1 : Fin 2)).isLt.trans_eq (by show (1792 + 1792 - 1) / 1792 = 1; rfl)
    obtain ⟨t, ht⟩ := onto ⟨_, b0⟩
    have hi : ((cfgM m hO).win 8).index t = ![(β (0 : Fin 2)).val, 0] := ht
    refine ⟨t, flush0_8 _ t, fun a => ⟨?_, .inl rfl⟩⟩
    rw [hi]
    match a with
    | ⟨0, _⟩ => rfl
    | ⟨1, _⟩ => exact (Nat.lt_one_iff.1 b1).symm
  refine (dats m hO 0 0).arrAt_eq_of_covers 8 _ hc fun t _ y => ?_
  blk_simp
  rw [after0_8, out8]
  obtain ⟨r, k, rfl⟩ := split y
  have e : (((cfgM m hO).win 8).blk t).view.emb (ix2 r k : S128x1792.Idx) = (ix2 (row t r) k : S4096x1792.Idx) := by blk_ext [idx m hO t, row]
  rw [e]
  exact at8 m hO hw t r k

/-- The run, with its four results named. -/
theorem run (ρ : Dev nD → PrngReg) (hw : (num m).toNat < 4) : θ_run defs (onTc (τ := τ) (main (F := Ideal))) ⟨m, fun _ => 0, ρ⟩ fun r => ∀ c : Dev nD,
      r.2.mem ((c.tc : Thread nD τ).loc main_v0_0) = val_main_v27 (F := Ideal) (m ((c.tc : Thread nD τ).loc main_arg0)) (m ((c.tc : Thread nD τ).loc main_arg1)) (m ((c.tc : Thread nD τ).loc main_arg5))
      ∧ r.2.mem ((c.tc : Thread nD τ).loc main_v0_1) = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v0_2) = val_main_v32 (F := Ideal) (m ((c.tc : Thread nD τ).loc main_arg0)) (m ((c.tc : Thread nD τ).loc main_arg1)) (m ((c.tc : Thread nD τ).loc main_arg3)) (m ((c.tc : Thread nD τ).loc main_arg5))
      ∧ r.2.mem ((c.tc : Thread nD τ).loc main_v0_3) = val_main_v38 (F := Ideal) (m ((c.tc : Thread nD τ).loc main_arg0)) (m ((c.tc : Thread nD τ).loc main_arg1)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r hr c => by
      obtain rfl : c = 0 := Subsingleton.elim _ _
      exact ⟨((hr.1 0).1 5).trans (final5 m (ok m hw) hw), ((hr.1 0).1 6).trans (final6 m (ok m hw) hw), ((hr.1 0).1 7).trans (final7 m (ok m hw) hw),
        ((hr.1 0).1 8).trans (final8 m (ok m hw) hw), hr.2 0⟩)
    (θ_run_and (run_main m ρ (ok m hw)) (unchanged m ρ (ok m hw)))
end Cert.AdamBigIdeal.Val

namespace Cert.AdamBigClaim

open Idealize.ShloMosaic Idealize.SL.Sem Cert.AdamBigRefIdeal.Read

/-- Over the reals kernel and reference return the same four arrays. -/
theorem algebraic : Cert.algebraic_AdamBigIdeal_AdamBigRefIdeal := by
  intro m g m' g' hp ha
  refine ⟨_, _, _, _, Cert.AdamBigIdeal.Val.run m g (chip _ _ _ _ _ _ (hp 0) (ix1 0)), (θ_run _ _ _).mono (fun r h c => ?_) (Cert.AdamBigRefIdeal.Value.run m' g')⟩
  obtain ⟨a0, a1, a2, a3, a4, a5⟩ := ha c
  exact ⟨(h c).1.trans ((val_main_v27_eq _ _ _).trans (by rw [a0, a1, a5])), (h c).2.1.trans ((val_main_v51_eq m' c).trans (by rw [a0, a1, a2, a3, a4, a5])),
    (h c).2.2.1.trans ((val_main_v32_eq _ _ _ _).trans (by rw [a0, a1, a3, a5])), (h c).2.2.2.1.trans ((val_main_v38_eq m' c).trans (by rw [a0, a1, a4, a5])), (h c).2.2.2.2⟩

/-- The reference runs, leaves its arguments alone, and has no semaphore to leave raised. -/
theorem frame_ref : Cert.quiescent_AdamBigRefIdeal := fun m g _ =>
  (θ_run _ _ _).mono (fun r h => ⟨fun c => (h c).2.2.2.2, sem_eq_zero_of_no_sems (by decide) r.2⟩) (Cert.AdamBigRefIdeal.Value.run m g)

/-- The kernel runs and leaves its arguments alone, in machine arithmetic. -/
theorem frame : Cert.quiescent_AdamBig := fun m g hp =>
  Cert.AdamBig.Gen.frame m g (Cert.AdamBig.Val.ok m (chip _ _ _ _ _ _ (hp 0) (ix1 0)))

/-- The kernel runs and leaves its arguments alone, over the reals. -/
theorem frame_ideal : Cert.quiescent_AdamBigIdeal := fun m g hp =>
  Cert.AdamBigIdeal.Gen.frame m g (Cert.AdamBigIdeal.Val.ok m (chip _ _ _ _ _ _ (hp 0) (ix1 0)))

end Cert.AdamBigClaim

end
-- ==== Proof.ProjFwd.lean ====
module

public import proofs.«01_k».proof.Defs
public import proofs.«01_k».proof.Proof.Tiles
public import proofs.«01_k».proof.Proof.ConvRead
public import proofs.«01_k».proof.Proof.Gen.ProjFwdIdeal.Value
public import proofs.«01_k».proof.Proof.Gen.ProjFwd.Frame
public import proofs.«01_k».proof.Proof.Gen.ProjFwdRefIdeal.Run
public import proofs.«01_k».proof.Proof.Gen.ProjFwdRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the projection: a tiled product whose result is seven planes. -/

namespace Cert.ProjFwdIdeal.Val

open Cert.ProjFwdIdeal Cert.ProjFwdIdeal.Gen Idealize.ShloMosaic Idealize.ShloMosaic.TcCoe Idealize.SL.Sem

/-- A load of the accumulator after stores into it. -/
theorem load_eq (v : View sig .tc .vmem S1024x2048 .f32) (L : List (View.Piece (Elt Ideal) S1024x2048 .f32)) (r : Rect S1024x2048) :
    v.readCov (Val := Elt Ideal) L r.toLoadRect = View.ld (View.canon L) r :=
  View.readCov_eq_canon' _ _ _

/-- One term of the product at row `i` and column `j`. -/
abbrev term (y : FVec Ideal S4096x4096 .f32) (w : FVec Ideal S4096x14336 .f32) (i : Fin 4096) (j : Fin 14336) (k : Fin 4096) : EReal := y (ix2 i k) * w (ix2 k j)

/-- One term of the product of two blocks. -/
abbrev blockTerm (y : FVec Ideal S1024x2048 .bf16) (w : FVec Ideal S2048x2048 .bf16) (r : Fin 1024) (q : Fin 2048) (e : Fin 2048) : EReal :=
  y (ix2 r e) * w (ix2 e q)

variable (m : (ℓ : Loc nD τ sig) → Buf (Elt Ideal) ℓ) (c : Dev nD) (t : Fin cfg0.N)

/-- The product of grid point `t`'s blocks. -/
def part : Vec Ideal S1024x2048 .f32 := k0_pay1 (iblk m c 0 t) (iblk m c 1 t)

/-- The accumulator after a run's first grid point. -/
theorem at_first (h : t.val % 2 = 0) (j : S1024x2048.Idx) : (outsAt0 m c t.val t.isLt).2 j = part m c t j := by
  have : (outsAt0 m c t.val t.isLt).2 = k0_pay2 (iblk m c 0 t) (iblk m c 1 t) := by
    rw [outsAt0_A m c t h (by omega) (by omega)]; frame_out [load_eq]
  rw [this]; pointwise [k0_pay2, part]

/-- The accumulator after a later grid point. -/
theorem at_next (h : ¬t.val % 2 = 0) (j : S1024x2048.Idx) : (outsAt0 m c t.val t.isLt).2 j
    = ((outsAt0 m c (t.val - 1) (by omega)).2 j + part m c t j : EReal) := by
  have : (outsAt0 m c t.val t.isLt).2 = k0_pay3 (iblk m c 0 t) (iblk m c 1 t) (outsAt0 m c (t.val - 1) (by omega)).2 := by
    rw [outsAt0_B m c t h (by omega) (by omega)]; frame_out [load_eq]
    exact congrArg (k0_pay3 _ _) ((Memref.isWhole_whole _).read_unread _)
  rw [this]; pointwise [k0_pay3, part]

/-- The block a run's last grid point writes. -/
theorem at_last (h : t.val % 2 = 1) (r : Fin 1024) (q : Fin 2048) : (outsAt0 m c t.val t.isLt).1 (ix3 0 r q) = (outsAt0 m c t.val t.isLt).2 (ix2 r q) := by
  have : (outsAt0 m c t.val t.isLt).1 = k0_pay4 (outsAt0 m c t.val t.isLt).2 := by
    rw [outsAt0_B m c t (by omega) (by omega) (by omega)]; frame_out [load_eq]
  rw [this]; pointwise [k0_pay4]

theorem idx : ∀ t : Fin cfg0.N, win0_0.index t = ![t.val / 14, t.val % 2] ∧ win0_1.index t = ![t.val % 2, t.val / 2 % 7]
    ∧ win0_2.index t = ![t.val / 2 % 7, t.val / 14, 0] :=
  (by decide +kernel : ∀ t : Fin grid0.N, _)

/-- Row `r` and column `q` of grid point `t`'s block of the result, and the `e`-th of the places it sums over. -/
def row (r : Fin 1024) : Fin 4096 := ⟨1024 * (t.val / 14) + r.val, by have := t.isLt.trans_eq N_0; omega⟩
def col (q : Fin 2048) : Fin 14336 := ⟨2048 * (t.val / 2 % 7) + q.val, by omega⟩
def plane : Fin 7 := ⟨t.val / 2 % 7, by omega⟩
def mid (e : Fin 2048) : Fin 4096 := ⟨2048 * (t.val % 2) + e.val, by omega⟩

theorem blk0 (r : Fin 1024) (e : Fin 2048) : (iblk m c 0 t : FVec Ideal S1024x2048 .bf16) (ix2 r e)
    = (m ((c : Thread nD τ).loc main_arg0) : FVec Ideal S4096x4096 .f32) (ix2 (row t r) (mid t e)) := by
  have hV : (V m c main_v0 : FVec Ideal S4096x4096 .bf16) (ix2 (row t r) (mid t e))
      = (m ((c : Thread nD τ).loc main_arg0) : FVec Ideal S4096x4096 .f32) (ix2 (row t r) (mid t e)) := by
    unfold V
    after_results
    pointwise
  refine Eq.trans ?_ hV
  unfold iblk
  blk_point [idx t, row, mid]

theorem blk1 (e : Fin 2048) (q : Fin 2048) : (iblk m c 1 t : FVec Ideal S2048x2048 .bf16) (ix2 e q)
    = (m ((c : Thread nD τ).loc main_arg1) : FVec Ideal S4096x14336 .f32) (ix2 (mid t e) (col t q)) := by
  have hV : (V m c main_v1 : FVec Ideal S4096x14336 .bf16) (ix2 (mid t e) (col t q))
      = (m ((c : Thread nD τ).loc main_arg1) : FVec Ideal S4096x14336 .f32) (ix2 (mid t e) (col t q)) := by
    unfold V
    after_results
    pointwise
  refine Eq.trans ?_ hV
  unfold iblk
  blk_point [idx t, mid, col]

theorem part_at (r : Fin 1024) (q : Fin 2048) : part m c t (ix2 r q)
    = ∑ e : Fin 2048, term (m ((c : Thread nD τ).loc main_arg0)) (m ((c : Thread nD τ).loc main_arg1)) (row t r) (col t q) (mid t e) := by
  have : part m c t (ix2 r q) = ∑ e : Fin 2048, blockTerm (iblk m c 0 t) (iblk m c 1 t) r q e := by
    unfold part
    pointwise [k0_pay1]
  rw [this]
  exact Finset.sum_congr rfl fun e _ => congrArg₂ (fun a b : EReal => a * b) (blk0 m c t r e) (blk1 m c t e q)

/-- The accumulator when a run is over. -/
theorem sum_at (h : t.val % 2 = 1) (r : Fin 1024) (q : Fin 2048) : (outsAt0 m c t.val t.isLt).2 (ix2 r q)
    = ∑ k : Fin 4096, term (m ((c : Thread nD τ).loc main_arg0)) (m ((c : Thread nD τ).loc main_arg1)) (row t r) (col t q) k := by
  rw [Pipeline.eq_sum_fin_of_reset_step_apply_of_flush (fun n h => (outsAt0 m c n h).2) 2 (fun _ => 0) (part m c)
    (fun t h j => by rw [at_first m c t h j, zero_add]) (fun t h j => at_next m c t h j) t h, zero_add, ← Tiles.two]
  have hN := t.isLt.trans_eq N_0
  refine Finset.sum_congr rfl fun s _ => (part_at m c _ r q).trans (Finset.sum_congr rfl fun e _ => ?_)
  have e1 : row ⟨2 * (t.val / 2) + s.val, Pipeline.run_point_lt_of_flush t h s⟩ r = row t r := Fin.ext (by simp only [row]; omega)
  have e2 : col ⟨2 * (t.val / 2) + s.val, Pipeline.run_point_lt_of_flush t h s⟩ q = col t q := Fin.ext (by simp only [col]; omega)
  have e3 : mid ⟨2 * (t.val / 2) + s.val, Pipeline.run_point_lt_of_flush t h s⟩ e = ⟨2048 * s.val + e.val, by omega⟩ :=
    Fin.ext (by simp only [mid]; omega)
  rw [e1, e2, e3]

/-- What the product holds. -/
def out (y : FVec Ideal S4096x4096 .f32) (w : FVec Ideal S4096x14336 .f32) (i : Fin 4096) (j : Fin 14336) : EReal := ∑ k : Fin 4096, term y w i j k

/-- Column `C` of plane `s`. -/
def at_plane (s : Fin 7) (C : Fin 2048) : Fin 14336 := ⟨2048 * s.val + C.val, by omega⟩

/-- The kernel's result. -/
theorem final2 : (dats m 0 c).arrAt 2 cfg0.N = (fun i => out (m ((c : Thread nD τ).loc main_arg0)) (m ((c : Thread nD τ).loc main_arg1))
      (i 1) (at_plane (i 0) (i 2)) : FVec Ideal S7x4096x2048 .bf16) := by
  refine (dats m 0 c).arrAt_eq_of_covers 2 _ (by decide +kernel) fun t hf y => ?_
  blk_simp
  rw [after0_2]
  obtain ⟨r, q, rfl⟩ : ∃ (r : Fin 1024) (q : Fin 2048), (y : S1x1024x2048.Idx) = ix3 0 r q := ⟨y (1 : Fin 3), y (2 : Fin 3), by blk_ext []⟩
  have e : ((cfg0.win 2).blk t).view.emb (ix3 0 r q : S1x1024x2048.Idx) = (ix3 (plane t) (row t r) q : S7x4096x2048.Idx) := by blk_ext [idx t, row, plane]
  have h := (flush0_2 t).mp hf
  rw [e]
  exact (at_last m c t h r q).trans (sum_at m c t h r q)

end Cert.ProjFwdIdeal.Val

namespace Cert.ProjFwdClaim

open Idealize.ShloMosaic Idealize.SL.Sem Cert.ProjFwdRefIdeal Cert.ProjFwdRefIdeal.Read
open Cert.ConvRead (eq2 eq3)

/-- The reference's result. -/
theorem read (y : FVec Ideal S4096x4096 .f32) (w : FVec Ideal S4096x14336 .f32) (s : Fin 7) (i : Fin 4096) (j : Fin 2048) :
    val_main_v3 (F := Ideal) y w (ix3 s i j) = Cert.ProjFwdIdeal.Val.out y w i (Cert.ProjFwdIdeal.Val.at_plane s j) := by
  have e : idx_main_v1 (idx_main_v2 (ix3 s i j)) = (ix2 i (Cert.ProjFwdIdeal.Val.at_plane s j) : S4096x14336.Idx) := by
    refine eq2 _ _ _ ?_ ?_ <;> simp [idx_main_v1, idx_main_v2, ix3, Cert.ProjFwdIdeal.Val.at_plane] <;> omega
  refine (val_main_v2_apply (F := Ideal) y w (ix3 s i j)).trans ?_
  rw [val_main_v1_apply, e, val_main_v0_apply]
  exact Finset.sum_congr rfl fun k _ => congrArg₂ (fun a b : EReal => a * b)
    (congrArg y (eq2 (lidx_main_v0 (ix2 i (Cert.ProjFwdIdeal.Val.at_plane s j)) k) i k rfl rfl))
    (congrArg w (eq2 (ridx_main_v0 (ix2 i (Cert.ProjFwdIdeal.Val.at_plane s j)) k) k (Cert.ProjFwdIdeal.Val.at_plane s j) rfl rfl))

/-- Over the reals kernel and reference return the same array. -/
theorem algebraic : Cert.algebraic_ProjFwdIdeal_ProjFwdRefIdeal := by
  intro m g m' g' _ ha
  refine ⟨fun c => val_main_v3 (F := Ideal) (m (c.tc.loc Cert.ProjFwdIdeal.main_arg0)) (m (c.tc.loc Cert.ProjFwdIdeal.main_arg1)) ,
    (θ_run _ _ _).mono (fun r h c => ?_) (Cert.ProjFwdIdeal.Value.run_blocks m g),
    (θ_run _ _ _).mono (fun r h c => ?_) (Cert.ProjFwdRefIdeal.Value.run m' g')⟩
  · refine ⟨(h c).1.trans ((Cert.ProjFwdIdeal.Val.final2 m c).trans (funext fun i => ?_)), (h c).2⟩
    obtain ⟨s, t, C, rfl⟩ : ∃ (s : Fin 7) (t : Fin 4096) (C : Fin 2048), i = ix3 s t C := ⟨i 0, i 1, i 2, eq3 i _ _ _ rfl rfl rfl⟩
    exact (read _ _ s t C).symm
  · obtain ⟨a0, a1⟩ := ha c
    exact ⟨(h c).1.trans ((val_main_v3_eq _ _).trans (by rw [a0, a1])), (h c).2⟩

/-- The reference runs, leaves its arguments alone, and has no semaphore to leave raised. -/
theorem frame_ref : Cert.quiescent_ProjFwdRefIdeal := fun m g _ =>
  (θ_run _ _ _).mono (fun r h => ⟨fun c => (h c).2, sem_eq_zero_of_no_sems (by decide) r.2⟩) (Cert.ProjFwdRefIdeal.Value.run m g)

/-- The kernel runs and leaves its arguments alone, in machine arithmetic. -/
theorem frame : Cert.quiescent_ProjFwd := fun m g _ => Cert.ProjFwd.Gen.frame m g

/-- The kernel runs and leaves its arguments alone, over the reals. -/
theorem frame_ideal : Cert.quiescent_ProjFwdIdeal := fun m g _ => Cert.ProjFwdIdeal.Gen.frame m g

end Cert.ProjFwdClaim

end
-- ==== Proof.ProjBwdW.lean ====
module

public import proofs.«01_k».proof.Defs
public import proofs.«01_k».proof.Proof.Tiles
public import proofs.«01_k».proof.Proof.ConvRead
public import proofs.«01_k».proof.Proof.Gen.ProjBwdWIdeal.Value
public import proofs.«01_k».proof.Proof.Gen.ProjBwdW.Frame
public import proofs.«01_k».proof.Proof.Gen.ProjBwdWRefIdeal.Run
public import proofs.«01_k».proof.Proof.Gen.ProjBwdWRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the gradient of the projection's weights: a tiled product of the transposed activations with the seven planes. -/

namespace Cert.ProjBwdWIdeal.Val

open Cert.ProjBwdWIdeal Cert.ProjBwdWIdeal.Gen Idealize.ShloMosaic Idealize.ShloMosaic.TcCoe Idealize.SL.Sem

/-- A load of the accumulator after stores into it. -/
theorem load_eq (v : View sig .tc .vmem S1024x2048 .f32) (L : List (View.Piece (Elt Ideal) S1024x2048 .f32)) (r : Rect S1024x2048) :
    v.readCov (Val := Elt Ideal) L r.toLoadRect = View.ld (View.canon L) r :=
  View.readCov_eq_canon' _ _ _

/-- One term of the product at row `i` and column `j`. -/
abbrev term (y : FVec Ideal S4096x4096 .f32) (w : FVec Ideal S4096x14336 .f32) (i : Fin 4096) (j : Fin 14336) (k : Fin 4096) : EReal := y (ix2 k i) * w (ix2 k j)

/-- One term of the product of two blocks. -/
abbrev blockTerm (y : FVec Ideal S2048x1024 .bf16) (w : FVec Ideal S1x2048x2048 .bf16) (r : Fin 1024) (q : Fin 2048) (e : Fin 2048) : EReal :=
  y (ix2 e r) * w (ix3 0 e q)

variable (m : (ℓ : Loc nD τ sig) → Buf (Elt Ideal) ℓ) (c : Dev nD) (t : Fin cfg0.N)

/-- The product of grid point `t`'s blocks. -/
def part : Vec Ideal S1024x2048 .f32 := k0_pay1 (iblk m c 0 t) (iblk m c 1 t)

/-- The accumulator after a run's first grid point. -/
theorem at_first (h : t.val % 2 = 0) (j : S1024x2048.Idx) : (outsAt0 m c t.val t.isLt).2 j = part m c t j := by
  have : (outsAt0 m c t.val t.isLt).2 = k0_pay2 (iblk m c 0 t) (iblk m c 1 t) := by
    rw [outsAt0_A m c t h (by omega) (by omega)]; frame_out [load_eq]
  rw [this]; pointwise [k0_pay2, part]

/-- The accumulator after a later grid point. -/
theorem at_next (h : ¬t.val % 2 = 0) (j : S1024x2048.Idx) : (outsAt0 m c t.val t.isLt).2 j
    = ((outsAt0 m c (t.val - 1) (by omega)).2 j + part m c t j : EReal) := by
  have : (outsAt0 m c t.val t.isLt).2 = k0_pay3 (iblk m c 0 t) (iblk m c 1 t) (outsAt0 m c (t.val - 1) (by omega)).2 := by
    rw [outsAt0_B m c t h (by omega) (by omega)]; frame_out [load_eq]
    exact congrArg (k0_pay3 _ _) ((Memref.isWhole_whole _).read_unread _)
  rw [this]; pointwise [k0_pay3, part]

/-- The block a run's last grid point writes. -/
theorem at_last (h : t.val % 2 = 1) (j : S1024x2048.Idx) : (outsAt0 m c t.val t.isLt).1 j = (outsAt0 m c t.val t.isLt).2 j := by
  have : (outsAt0 m c t.val t.isLt).1 = k0_pay4 (outsAt0 m c t.val t.isLt).2 := by
    rw [outsAt0_B m c t (by omega) (by omega) (by omega)]; frame_out [load_eq]
  rw [this]; pointwise [k0_pay4]

theorem idx : ∀ t : Fin cfg0.N, win0_0.index t = ![t.val % 2, t.val / 14] ∧ win0_1.index t = ![t.val / 2 % 7, t.val % 2, 0]
    ∧ win0_2.index t = ![t.val / 14, t.val / 2 % 7] :=
  (by decide +kernel : ∀ t : Fin grid0.N, _)

/-- Row `r` and column `q` of grid point `t`'s block of the result, and the `e`-th of the places it sums over. -/
def row (r : Fin 1024) : Fin 4096 := ⟨1024 * (t.val / 14) + r.val, by have := t.isLt.trans_eq N_0; omega⟩
def col (q : Fin 2048) : Fin 14336 := ⟨2048 * (t.val / 2 % 7) + q.val, by omega⟩
def plane : Fin 7 := ⟨t.val / 2 % 7, by omega⟩
def mid (e : Fin 2048) : Fin 4096 := ⟨2048 * (t.val % 2) + e.val, by omega⟩

theorem blk0 (e : Fin 2048) (r : Fin 1024) : (iblk m c 0 t : FVec Ideal S2048x1024 .bf16) (ix2 e r)
    = (m ((c : Thread nD τ).loc main_arg0) : FVec Ideal S4096x4096 .f32) (ix2 (mid t e) (row t r)) := by
  have hV : (V m c main_v3 : FVec Ideal S4096x4096 .bf16) (ix2 (mid t e) (row t r))
      = (m ((c : Thread nD τ).loc main_arg0) : FVec Ideal S4096x4096 .f32) (ix2 (mid t e) (row t r)) := by
    unfold V
    after_results
    pointwise
  refine Eq.trans ?_ hV
  unfold iblk
  blk_point [idx t, row, mid]

theorem blk1 (e : Fin 2048) (q : Fin 2048) : (iblk m c 1 t : FVec Ideal S1x2048x2048 .bf16) (ix3 0 e q)
    = (m ((c : Thread nD τ).loc main_arg1) : FVec Ideal S4096x14336 .f32) (ix2 (mid t e) (col t q)) := by
  have hV : (V m c main_v2 : FVec Ideal S7x4096x2048 .bf16) (ix3 (plane t) (mid t e) q)
      = (m ((c : Thread nD τ).loc main_arg1) : FVec Ideal S4096x14336 .f32) (ix2 (mid t e) (col t q)) := by
    unfold V
    after_results
    pointwise
    exact congrArg (m ((c : Thread nD τ).loc main_arg1) : FVec Ideal S4096x14336 .f32) (congrArg (ix2 _) (Fin.ext (by simp only [plane, col]; omega)))
  refine Eq.trans ?_ hV
  unfold iblk
  blk_point [idx t, mid, plane]

theorem part_at (r : Fin 1024) (q : Fin 2048) : part m c t (ix2 r q)
    = ∑ e : Fin 2048, term (m ((c : Thread nD τ).loc main_arg0)) (m ((c : Thread nD τ).loc main_arg1)) (row t r) (col t q) (mid t e) := by
  have : part m c t (ix2 r q) = ∑ e : Fin 2048, blockTerm (iblk m c 0 t) (iblk m c 1 t) r q e := by
    unfold part
    pointwise [k0_pay1]
  rw [this]
  exact Finset.sum_congr rfl fun e _ => congrArg₂ (fun a b : EReal => a * b) (blk0 m c t e r) (blk1 m c t e q)

/-- The accumulator when a run is over. -/
theorem sum_at (h : t.val % 2 = 1) (r : Fin 1024) (q : Fin 2048) : (outsAt0 m c t.val t.isLt).2 (ix2 r q)
    = ∑ k : Fin 4096, term (m ((c : Thread nD τ).loc main_arg0)) (m ((c : Thread nD τ).loc main_arg1)) (row t r) (col t q) k := by
  rw [Pipeline.eq_sum_fin_of_reset_step_apply_of_flush (fun n h => (outsAt0 m c n h).2) 2 (fun _ => 0) (part m c)
    (fun t h j => by rw [at_first m c t h j, zero_add]) (fun t h j => at_next m c t h j) t h, zero_add, ← Tiles.two]
  have hN := t.isLt.trans_eq N_0
  refine Finset.sum_congr rfl fun s _ => (part_at m c _ r q).trans (Finset.sum_congr rfl fun e _ => ?_)
  have e1 : row ⟨2 * (t.val / 2) + s.val, Pipeline.run_point_lt_of_flush t h s⟩ r = row t r := Fin.ext (by simp only [row]; omega)
  have e2 : col ⟨2 * (t.val / 2) + s.val, Pipeline.run_point_lt_of_flush t h s⟩ q = col t q := Fin.ext (by simp only [col]; omega)
  have e3 : mid ⟨2 * (t.val / 2) + s.val, Pipeline.run_point_lt_of_flush t h s⟩ e = ⟨2048 * s.val + e.val, by omega⟩ :=
    Fin.ext (by simp only [mid]; omega)
  rw [e1, e2, e3]

/-- What the product holds. -/
def out (y : FVec Ideal S4096x4096 .f32) (w : FVec Ideal S4096x14336 .f32) (i : Fin 4096) (j : Fin 14336) : EReal := ∑ k : Fin 4096, term y w i j k

/-- The kernel's result. -/
theorem final2 : (dats m 0 c).arrAt 2 cfg0.N = (fun i => out (m ((c : Thread nD τ).loc main_arg0)) (m ((c : Thread nD τ).loc main_arg1))
      (i 0) (i 1) : FVec Ideal S4096x14336 .bf16) := by
  refine (dats m 0 c).arrAt_eq_of_covers 2 _ (by decide +kernel) fun t hf y => ?_
  blk_simp
  rw [after0_2]
  obtain ⟨r, q, rfl⟩ : ∃ (r : Fin 1024) (q : Fin 2048), (y : S1024x2048.Idx) = ix2 r q := ⟨y 0, y 1, by blk_ext []⟩
  have e : ((cfg0.win 2).blk t).view.emb (ix2 r q : S1024x2048.Idx) = (ix2 (row t r) (col t q) : S4096x14336.Idx) := by blk_ext [idx t, row, col]
  have h := (flush0_2 t).mp hf
  rw [e]
  exact (at_last m c t h _).trans (sum_at m c t h r q)

end Cert.ProjBwdWIdeal.Val

namespace Cert.ProjBwdWClaim

open Idealize.ShloMosaic Idealize.SL.Sem Cert.ProjBwdWRefIdeal Cert.ProjBwdWRefIdeal.Read
open Cert.ConvRead (eq2)

/-- The reference's result. -/
theorem read (y : FVec Ideal S4096x4096 .f32) (w : FVec Ideal S4096x14336 .f32) (i : Fin 4096) (j : Fin 14336) :
    val_main_v4 (F := Ideal) y w (ix2 i j) = Cert.ProjBwdWIdeal.Val.out y w i j := by
  rw [val_main_v4_apply, val_main_v3_apply, val_main_v2_apply]
  refine Finset.sum_congr rfl fun k _ => (mul_comm _ _).trans (congrArg₂ (fun a b : EReal => a * b)
    (congrArg y (eq2 (ridx_main_v2 (idx_main_v3 (ix2 i j)) k) k i rfl rfl)) (congrArg w (eq2 (lidx_main_v2 (idx_main_v3 (ix2 i j)) k) k j rfl rfl)))

/-- Over the reals kernel and reference return the same array. -/
theorem algebraic : Cert.algebraic_ProjBwdWIdeal_ProjBwdWRefIdeal := by
  intro m g m' g' _ ha
  refine ⟨fun c => val_main_v4 (F := Ideal) (m (c.tc.loc Cert.ProjBwdWIdeal.main_arg0)) (m (c.tc.loc Cert.ProjBwdWIdeal.main_arg1)) ,
    (θ_run _ _ _).mono (fun r h c => ?_) (Cert.ProjBwdWIdeal.Value.run_blocks m g),
    (θ_run _ _ _).mono (fun r h c => ?_) (Cert.ProjBwdWRefIdeal.Value.run m' g')⟩
  · refine ⟨(h c).1.trans ((Cert.ProjBwdWIdeal.Val.final2 m c).trans (funext fun i => ?_)), (h c).2⟩
    obtain ⟨t, C, rfl⟩ : ∃ (t : Fin 4096) (C : Fin 14336), i = ix2 t C := ⟨i 0, i 1, eq2 i _ _ rfl rfl⟩
    exact (read _ _ t C).symm
  · obtain ⟨a0, a1⟩ := ha c
    exact ⟨(h c).1.trans ((val_main_v4_eq _ _).trans (by rw [a0, a1])), (h c).2⟩

/-- The reference runs, leaves its arguments alone, and has no semaphore to leave raised. -/
theorem frame_ref : Cert.quiescent_ProjBwdWRefIdeal := fun m g _ =>
  (θ_run _ _ _).mono (fun r h => ⟨fun c => (h c).2, sem_eq_zero_of_no_sems (by decide) r.2⟩) (Cert.ProjBwdWRefIdeal.Value.run m g)

/-- The kernel runs and leaves its arguments alone, in machine arithmetic. -/
theorem frame : Cert.quiescent_ProjBwdW := fun m g _ => Cert.ProjBwdW.Gen.frame m g

/-- The kernel runs and leaves its arguments alone, over the reals. -/
theorem frame_ideal : Cert.quiescent_ProjBwdWIdeal := fun m g _ => Cert.ProjBwdWIdeal.Gen.frame m g

end Cert.ProjBwdWClaim

end
-- ==== Proof.ProjBwdX.lean ====
module

public import proofs.«01_k».proof.Defs
public import proofs.«01_k».proof.Proof.Tiles
public import proofs.«01_k».proof.Proof.ConvRead
public import proofs.«01_k».proof.Proof.Gen.ProjBwdXIdeal.Value
public import proofs.«01_k».proof.Proof.Gen.ProjBwdX.Frame
public import proofs.«01_k».proof.Proof.Gen.ProjBwdXRefIdeal.Run
public import proofs.«01_k».proof.Proof.Gen.ProjBwdXRefIdeal.Read
public import Idealize.ShloMosaic.Lib.KernelVsHost
public import Idealize.ShloMosaic.Lib.Pipeline.ValueKit
public import Idealize.ShloMosaic.Lib.Pointwise
public import Idealize.ShloMosaic.Lib.Claim
public import Idealize.ShloMosaic.Adequacy
public import Idealize.ShloMosaic.Lib.Quiescent
public import Idealize.ShloMosaic.Init

@[expose] public section

set_option maxRecDepth 16384

noncomputable section

/-! The claims about the projection's gradient by its input: a tiled product of the seven planes with the transposed weights. -/

namespace Cert.ProjBwdXIdeal.Val

open Cert.ProjBwdXIdeal Cert.ProjBwdXIdeal.Gen Idealize.ShloMosaic Idealize.ShloMosaic.TcCoe Idealize.SL.Sem

/-- A load of the accumulator after stores into it. -/
theorem load_eq (v : View sig .tc .vmem S1024x1024 .f32) (L : List (View.Piece (Elt Ideal) S1024x1024 .f32)) (r : Rect S1024x1024) :
    v.readCov (Val := Elt Ideal) L r.toLoadRect = View.ld (View.canon L) r :=
  View.readCov_eq_canon' _ _ _

/-- A sum over 14336 places as seven blocks of 2048. -/
theorem seven (f : Fin 14336 → EReal) : ∑ s : Fin 7, ∑ e : Fin 2048, f ⟨2048 * s.val + e.val, by omega⟩ = ∑ k, f k := by
  refine Eq.trans (Finset.sum_congr rfl fun s _ => Finset.sum_congr rfl fun e _ => congrArg f (Fin.ext ?_))
    (Fin.sum_mul_add_fin (L := 14336) 7 2048 f)
  simp only; omega

/-- One term of the product at row `i` and column `j`. -/
abbrev term (y w : FVec Ideal S4096x14336 .f32) (i j : Fin 4096) (k : Fin 14336) : EReal := y (ix2 i k) * w (ix2 j k)

/-- One term of the product of two blocks. -/
abbrev blockTerm (y : FVec Ideal S1x1024x2048 .bf16) (w : FVec Ideal S1024x2048 .bf16) (r q : Fin 1024) (e : Fin 2048) : EReal :=
  y (ix3 0 r e) * w (ix2 q e)

variable (m : (ℓ : Loc nD τ sig) → Buf (Elt Ideal) ℓ) (c : Dev nD) (t : Fin cfg0.N)

/-- The product of grid point `t`'s blocks. -/
def part : Vec Ideal S1024x1024 .f32 := k0_pay1 (iblk m c 0 t) (iblk m c 1 t)

/-- The accumulator after a run's first grid point. -/
theorem at_first (h : t.val % 7 = 0) (j : S1024x1024.Idx) : (outsAt0 m c t.val t.isLt).2 j = part m c t j := by
  have : (outsAt0 m c t.val t.isLt).2 = k0_pay2 (iblk m c 0 t) (iblk m c 1 t) := by
    rw [outsAt0_A m c t h (by omega) (by omega)]; frame_out [load_eq]
  rw [this]; pointwise [k0_pay2, part]

/-- The accumulator after a later grid point. -/
theorem at_next (h : ¬t.val % 7 = 0) (j : S1024x1024.Idx) : (outsAt0 m c t.val t.isLt).2 j
    = ((outsAt0 m c (t.val - 1) (by omega)).2 j + part m c t j : EReal) := by
  have : (outsAt0 m c t.val t.isLt).2 = k0_pay3 (iblk m c 0 t) (iblk m c 1 t) (outsAt0 m c (t.val - 1) (by omega)).2 := by
    by_cases h3 : t.val % 7 = 6
    · rw [outsAt0_C m c t h (by omega) h3]; frame_out [load_eq]
      exact congrArg (k0_pay3 _ _) ((Memref.isWhole_whole _).read_unread _)
    · rw [outsAt0_B m c t h (by omega) h3]; frame_out [load_eq]
      exact congrArg (k0_pay3 _ _) ((Memref.isWhole_whole _).read_unread _)
  rw [this]; pointwise [k0_pay3, part]

/-- The block a run's last grid point writes. -/
theorem at_last (h : t.val % 7 = 6) (j : S1024x1024.Idx) : (outsAt0 m c t.val t.isLt).1 j = (outsAt0 m c t.val t.isLt).2 j := by
  rw [outsAt0_C m c t (by omega) (by omega) h]; frame_out [load_eq]

theorem idx : ∀ t : Fin cfg0.N, win0_0.index t = ![t.val % 7, t.val / 28, 0] ∧ win0_1.index t = ![t.val / 7 % 4, t.val % 7]
    ∧ win0_2.index t = ![t.val / 28, t.val / 7 % 4] :=
  (by decide +kernel : ∀ t : Fin grid0.N, _)

/-- Row `r` and column `q` of grid point `t`'s block of the result, and the `e`-th of the places it sums over. -/
def row (r : Fin 1024) : Fin 4096 := ⟨1024 * (t.val / 28) + r.val, by have := t.isLt.trans_eq N_0; omega⟩
def col (q : Fin 1024) : Fin 4096 := ⟨1024 * (t.val / 7 % 4) + q.val, by omega⟩
def mid (e : Fin 2048) : Fin 14336 := ⟨2048 * (t.val % 7) + e.val, by omega⟩
def plane : Fin 7 := ⟨t.val % 7, by omega⟩

theorem blk0 (r : Fin 1024) (e : Fin 2048) : (iblk m c 0 t : FVec Ideal S1x1024x2048 .bf16) (ix3 0 r e)
    = (m ((c : Thread nD τ).loc main_arg0) : FVec Ideal S4096x14336 .f32) (ix2 (row t r) (mid t e)) := by
  have hV : (V m c main_v2 : FVec Ideal S7x4096x2048 .bf16) (ix3 (plane t) (row t r) e)
      = (m ((c : Thread nD τ).loc main_arg0) : FVec Ideal S4096x14336 .f32) (ix2 (row t r) (mid t e)) := by
    unfold V
    after_results
    pointwise
    exact congrArg (m ((c : Thread nD τ).loc main_arg0) : FVec Ideal S4096x14336 .f32) (congrArg (ix2 _) (Fin.ext (by simp only [plane, mid]; omega)))
  refine Eq.trans ?_ hV
  unfold iblk
  blk_point [idx t, row, plane]

theorem blk1 (q : Fin 1024) (e : Fin 2048) : (iblk m c 1 t : FVec Ideal S1024x2048 .bf16) (ix2 q e)
    = (m ((c : Thread nD τ).loc main_arg1) : FVec Ideal S4096x14336 .f32) (ix2 (col t q) (mid t e)) := by
  have hV : (V m c main_v3 : FVec Ideal S4096x14336 .bf16) (ix2 (col t q) (mid t e))
      = (m ((c : Thread nD τ).loc main_arg1) : FVec Ideal S4096x14336 .f32) (ix2 (col t q) (mid t e)) := by
    unfold V
    after_results
    pointwise
  refine Eq.trans ?_ hV
  unfold iblk
  blk_point [idx t, mid, col]

theorem part_at (r q : Fin 1024) : part m c t (ix2 r q)
    = ∑ e : Fin 2048, term (m ((c : Thread nD τ).loc main_arg0)) (m ((c : Thread nD τ).loc main_arg1)) (row t r) (col t q) (mid t e) := by
  have : part m c t (ix2 r q) = ∑ e : Fin 2048, blockTerm (iblk m c 0 t) (iblk m c 1 t) r q e := by
    unfold part
    pointwise [k0_pay1]
  rw [this]
  exact Finset.sum_congr rfl fun e _ => congrArg₂ (fun a b : EReal => a * b) (blk0 m c t r e) (blk1 m c t q e)

/-- The accumulator when a run is over. -/
theorem sum_at (h : t.val % 7 = 6) (r q : Fin 1024) : (outsAt0 m c t.val t.isLt).2 (ix2 r q)
    = ∑ k : Fin 14336, term (m ((c : Thread nD τ).loc main_arg0)) (m ((c : Thread nD τ).loc main_arg1)) (row t r) (col t q) k := by
  rw [Pipeline.eq_sum_fin_of_reset_step_apply_of_flush (fun n h => (outsAt0 m c n h).2) 7 (fun _ => 0) (part m c)
    (fun t h j => by rw [at_first m c t h j, zero_add]) (fun t h j => at_next m c t h j) t h, zero_add, ← seven]
  have hN := t.isLt.trans_eq N_0
  refine Finset.sum_congr rfl fun s _ => (part_at m c _ r q).trans (Finset.sum_congr rfl fun e _ => ?_)
  have e1 : row ⟨7 * (t.val / 7) + s.val, Pipeline.run_point_lt_of_flush t h s⟩ r = row t r := Fin.ext (by simp only [row]; omega)
  have e2 : col ⟨7 * (t.val / 7) + s.val, Pipeline.run_point_lt_of_flush t h s⟩ q = col t q := Fin.ext (by simp only [col]; omega)
  have e3 : mid ⟨7 * (t.val / 7) + s.val, Pipeline.run_point_lt_of_flush t h s⟩ e = ⟨2048 * s.val + e.val, by omega⟩ :=
    Fin.ext (by simp only [mid]; omega)
  rw [e1, e2, e3]

/-- What the product holds. -/
def out (y w : FVec Ideal S4096x14336 .f32) (i j : Fin 4096) : EReal := ∑ k : Fin 14336, term y w i j k

/-- The kernel's result. -/
theorem final2 : (dats m 0 c).arrAt 2 cfg0.N = (fun i => out (m ((c : Thread nD τ).loc main_arg0)) (m ((c : Thread nD τ).loc main_arg1))
      (i 0) (i 1) : FVec Ideal S4096x4096 .f32) := by
  refine (dats m 0 c).arrAt_eq_of_covers 2 _ (by decide +kernel) fun t hf y => ?_
  blk_simp
  rw [after0_2]
  obtain ⟨r, q, rfl⟩ : ∃ (r q : Fin 1024), (y : S1024x1024.Idx) = ix2 r q := ⟨y 0, y 1, by blk_ext []⟩
  have e : ((cfg0.win 2).blk t).view.emb (ix2 r q : S1024x1024.Idx) = (ix2 (row t r) (col t q) : S4096x4096.Idx) := by blk_ext [idx t, row, col]
  have h := (flush0_2 t).mp hf
  rw [e]
  exact (at_last m c t h _).trans (sum_at m c t h r q)

end Cert.ProjBwdXIdeal.Val

namespace Cert.ProjBwdXClaim

open Idealize.ShloMosaic Idealize.SL.Sem Cert.ProjBwdXRefIdeal Cert.ProjBwdXRefIdeal.Read
open Cert.ConvRead (eq2)

/-- The reference's result. -/
theorem read (y w : FVec Ideal S4096x14336 .f32) (i j : Fin 4096) :
    val_main_v2 (F := Ideal) y w (ix2 i j) = Cert.ProjBwdXIdeal.Val.out y w i j := by
  rw [val_main_v2_apply]
  exact Finset.sum_congr rfl fun k _ => congrArg₂ (fun a b : EReal => a * b)
    (congrArg y (eq2 (lidx_main_v2 (ix2 i j) k) i k rfl rfl)) (congrArg w (eq2 (ridx_main_v2 (ix2 i j) k) j k rfl rfl))

/-- Over the reals kernel and reference return the same array. -/
theorem algebraic : Cert.algebraic_ProjBwdXIdeal_ProjBwdXRefIdeal := by
  intro m g m' g' _ ha
  refine ⟨fun c => val_main_v2 (F := Ideal) (m (c.tc.loc Cert.ProjBwdXIdeal.main_arg0)) (m (c.tc.loc Cert.ProjBwdXIdeal.main_arg1)) ,
    (θ_run _ _ _).mono (fun r h c => ?_) (Cert.ProjBwdXIdeal.Value.run_blocks m g),
    (θ_run _ _ _).mono (fun r h c => ?_) (Cert.ProjBwdXRefIdeal.Value.run m' g')⟩
  · refine ⟨(h c).1.trans ((Cert.ProjBwdXIdeal.Val.final2 m c).trans (funext fun i => ?_)), (h c).2⟩
    obtain ⟨t, C, rfl⟩ : ∃ (t : Fin 4096) (C : Fin 4096), i = ix2 t C := ⟨i 0, i 1, eq2 i _ _ rfl rfl⟩
    exact (read _ _ t C).symm
  · obtain ⟨a0, a1⟩ := ha c
    exact ⟨(h c).1.trans ((val_main_v2_eq _ _).trans (by rw [a0, a1])), (h c).2⟩

/-- The reference runs, leaves its arguments alone, and has no semaphore to leave raised. -/
theorem frame_ref : Cert.quiescent_ProjBwdXRefIdeal := fun m g _ =>
  (θ_run _ _ _).mono (fun r h => ⟨fun c => (h c).2, sem_eq_zero_of_no_sems (by decide) r.2⟩) (Cert.ProjBwdXRefIdeal.Value.run m g)

/-- The kernel runs and leaves its arguments alone, in machine arithmetic. -/
theorem frame : Cert.quiescent_ProjBwdX := fun m g _ => Cert.ProjBwdX.Gen.frame m g

/-- The kernel runs and leaves its arguments alone, over the reals. -/
theorem frame_ideal : Cert.quiescent_ProjBwdXIdeal := fun m g _ => Cert.ProjBwdXIdeal.Gen.frame m g

end Cert.ProjBwdXClaim

end
-- ==== Proof.lean ====
module

public import proofs.«01_k».proof.Defs
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsRefIdeal
public import proofs.«01_k».proof.Proof.Gen.RmsBwdIdeal.Value
public import proofs.«01_k».proof.Proof.Gen.RmsRefIdeal.Run
public import proofs.«01_k».proof.Proof.Gen.RmsRefIdeal.Read
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.BiasGrad
public import proofs.«01_k».proof.Proof.Gen.BiasGrad.Frame
public import proofs.«01_k».proof.Proof.Gen.BiasGradIdeal
public import proofs.«01_k».proof.Proof.Gen.BiasGradIdeal.Frame
public import proofs.«01_k».proof.Proof.Gen.BiasGradRefIdeal
public import proofs.«01_k».proof.Proof.Gen.BiasGradRefIdeal.Run
public import proofs.«01_k».proof.Proof.Gen.BiasGradRefIdeal.Read
public import proofs.«01_k».proof.Proof.Gen.Pre_bias_grad_banded
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_rms_bwd_finite
public import proofs.«01_k».proof.Proof.Gen.Pre_attn_bwd_finite
public import proofs.«01_k».proof.Proof.Gen.LnBwd
public import proofs.«01_k».proof.Proof.Gen.LnBwd.Frame
public import proofs.«01_k».proof.Proof.Gen.LnBwdIdeal
public import proofs.«01_k».proof.Proof.Gen.LnBwdIdeal.Frame
public import proofs.«01_k».proof.Proof.Gen.LnBwdIdeal.Value
public import proofs.«01_k».proof.Proof.Gen.LnRefIdeal
public import proofs.«01_k».proof.Proof.Gen.LnRefIdeal.Run
public import proofs.«01_k».proof.Proof.Gen.LnRefIdeal.Read
public import proofs.«01_k».proof.Proof.Gen.Pre_ln_bwd_finite
public import proofs.«01_k».proof.Proof.Gen.PostBwd
public import proofs.«01_k».proof.Proof.Gen.PostBwd.Frame
public import proofs.«01_k».proof.Proof.Gen.PostBwdIdeal
public import proofs.«01_k».proof.Proof.Gen.PostBwdIdeal.Frame
public import proofs.«01_k».proof.Proof.Gen.PostBwdIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.Gen.On_gates_written
public import proofs.«01_k».proof.Proof.Gen.Pre_post_bwd_finite
public import proofs.«01_k».proof.Proof.Gen.FinalBwd
public import proofs.«01_k».proof.Proof.Gen.FinalBwd.Frame
public import proofs.«01_k».proof.Proof.Gen.FinalBwdIdeal
public import proofs.«01_k».proof.Proof.Gen.FinalBwdIdeal.Frame
public import proofs.«01_k».proof.Proof.Gen.FinalBwdIdeal.Value
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.Pre_final_finite
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Gen.LnFwd
public import proofs.«01_k».proof.Proof.Gen.LnFwd.Frame
public import proofs.«01_k».proof.Proof.Gen.LnFwdIdeal
public import proofs.«01_k».proof.Proof.Gen.LnFwdIdeal.Frame
public import proofs.«01_k».proof.Proof.Gen.LnFwdIdeal.Value
public import proofs.«01_k».proof.Proof.Gen.LnFwdRefIdeal
public import proofs.«01_k».proof.Proof.Gen.LnFwdRefIdeal.Run
public import proofs.«01_k».proof.Proof.Gen.LnFwdRefIdeal.Read
public import proofs.«01_k».proof.Proof.Gen.PostFwd
public import proofs.«01_k».proof.Proof.Gen.PostFwd.Frame
public import proofs.«01_k».proof.Proof.Gen.PostFwdIdeal
public import proofs.«01_k».proof.Proof.Gen.PostFwdIdeal.Frame
public import proofs.«01_k».proof.Proof.Gen.PostFwdIdeal.Value
public import proofs.«01_k».proof.Proof.Gen.PostFwdRefIdeal
public import proofs.«01_k».proof.Proof.Gen.PostFwdRefIdeal.Run
public import proofs.«01_k».proof.Proof.Gen.PostFwdRefIdeal.Read
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.BiasBuild
public import proofs.«01_k».proof.Proof.Gen.BiasBuild.Frame
public import proofs.«01_k».proof.Proof.Gen.BiasBuildIdeal
public import proofs.«01_k».proof.Proof.Gen.BiasBuildIdeal.Frame
public import proofs.«01_k».proof.Proof.Gen.BiasBuildIdeal.Value
public import proofs.«01_k».proof.Proof.Gen.BiasBuildRefIdeal
public import proofs.«01_k».proof.Proof.Gen.BiasBuildRefIdeal.Run
public import proofs.«01_k».proof.Proof.Gen.BiasBuildRefIdeal.Read
public import proofs.«01_k».proof.Proof.Gen.GateFwd
public import proofs.«01_k».proof.Proof.Gen.GateFwd.Frame
public import proofs.«01_k».proof.Proof.Gen.GateFwdIdeal
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.MmNn
public import proofs.«01_k».proof.Proof.Gen.MmNn.Frame
public import proofs.«01_k».proof.Proof.Gen.MmNnIdeal
public import proofs.«01_k».proof.Proof.Gen.MmNnIdeal.Frame
public import proofs.«01_k».proof.Proof.Gen.MmNnIdeal.Value
public import proofs.«01_k».proof.Proof.Gen.MmNnRefIdeal
public import proofs.«01_k».proof.Proof.Gen.MmNnRefIdeal.Run
public import proofs.«01_k».proof.Proof.Gen.MmNnRefIdeal.Read
public import proofs.«01_k».proof.Proof.Gen.MmNt
public import proofs.«01_k».proof.Proof.Gen.MmNt.Frame
public import proofs.«01_k».proof.Proof.Gen.MmNtIdeal
public import proofs.«01_k».proof.Proof.Gen.MmNtIdeal.Frame
public import proofs.«01_k».proof.Proof.Gen.MmNtIdeal.Value
public import proofs.«01_k».proof.Proof.Gen.MmNtRefIdeal
public import proofs.«01_k».proof.Proof.Gen.MmNtRefIdeal.Run
public import proofs.«01_k».proof.Proof.Gen.MmNtRefIdeal.Read
public import proofs.«01_k».proof.Proof.Gen.MmTn
public import proofs.«01_k».proof.Proof.Gen.MmTn.Frame
public import proofs.«01_k».proof.Proof.Gen.MmTnIdeal
public import proofs.«01_k».proof.Proof.Gen.MmTnIdeal.Frame
public import proofs.«01_k».proof.Proof.Gen.MmTnIdeal.Value
public import proofs.«01_k».proof.Proof.Gen.MmTnRefIdeal
public import proofs.«01_k».proof.Proof.Gen.MmTnRefIdeal.Run
public import proofs.«01_k».proof.Proof.Gen.MmTnRefIdeal.Read
public import proofs.«01_k».proof.Proof.Gen.Pre_attn_fwd_finite
public import proofs.«01_k».proof.Proof.Rms
public import proofs.«01_k».proof.Proof.Attn
public import proofs.«01_k».proof.Proof.BiasGradClaim
public import proofs.«01_k».proof.Proof.Conv
public import proofs.«01_k».proof.Proof.Ln
public import proofs.«01_k».proof.Proof.Post
public import proofs.«01_k».proof.Proof.Final
public import proofs.«01_k».proof.Proof.RmsFwd
public import proofs.«01_k».proof.Proof.LnFwd
public import proofs.«01_k».proof.Proof.PostFwd
public import proofs.«01_k».proof.Proof.AttnFwdClaim
public import proofs.«01_k».proof.Proof.BiasBuild
public import proofs.«01_k».proof.Proof.ConvFwd
public import proofs.«01_k».proof.Proof.GateFwd
public import proofs.«01_k».proof.Proof.MmNn
public import proofs.«01_k».proof.Proof.MmNt
public import proofs.«01_k».proof.Proof.MmTn
public import proofs.«01_k».proof.Proof.Adam
public import proofs.«01_k».proof.Proof.PairAdd
public import proofs.«01_k».proof.Proof.Cast
public import proofs.«01_k».proof.Proof.AdamBig
public import proofs.«01_k».proof.Proof.ProjFwd
public import proofs.«01_k».proof.Proof.ProjBwdW
public import proofs.«01_k».proof.Proof.ProjBwdX
public import Idealize.ShloMosaic.Adequacy
public import Idealize.ShloMosaic.Init

@[expose] public section

noncomputable section

namespace Cert.Proof

/-- Every claim of the statement holds. -/
theorem claim : Cert.Claim :=
  ⟨Cert.RmsBwd.Gen.facts, Cert.RmsBwdIdeal.Gen.facts, Cert.RmsRefIdeal.Gen.facts,
    Cert.AttnBwd.Gen.facts, Cert.AttnBwdIdeal.Gen.facts, Cert.AttnRefIdeal.Gen.facts,
    Cert.BiasGrad.Gen.facts, Cert.BiasGradIdeal.Gen.facts, Cert.BiasGradRefIdeal.Gen.facts,
    Cert.ConvBwd.Gen.facts, Cert.ConvBwdIdeal.Gen.facts, Cert.ConvRefIdeal.Gen.facts,
    Cert.LnBwd.Gen.facts, Cert.LnBwdIdeal.Gen.facts, Cert.LnRefIdeal.Gen.facts,
    Cert.PostBwd.Gen.facts, Cert.PostBwdIdeal.Gen.facts, Cert.PostRefIdeal.Gen.facts,
    Cert.FinalBwd.Gen.facts, Cert.FinalBwdIdeal.Gen.facts, Cert.FinalRefIdeal.Gen.facts,
    Cert.RmsFwd.Gen.facts, Cert.RmsFwdIdeal.Gen.facts, Cert.RmsFwdRefIdeal.Gen.facts,
    Cert.LnFwd.Gen.facts, Cert.LnFwdIdeal.Gen.facts, Cert.LnFwdRefIdeal.Gen.facts,
    Cert.PostFwd.Gen.facts, Cert.PostFwdIdeal.Gen.facts, Cert.PostFwdRefIdeal.Gen.facts,
    Cert.AttnFwd.Gen.facts, Cert.AttnFwdIdeal.Gen.facts, Cert.AttnFwdRefIdeal.Gen.facts,
    Cert.BiasBuild.Gen.facts, Cert.BiasBuildIdeal.Gen.facts, Cert.BiasBuildRefIdeal.Gen.facts,
    Cert.ConvFwd.Gen.facts, Cert.ConvFwdIdeal.Gen.facts, Cert.ConvFwdRefIdeal.Gen.facts,
    Cert.GateFwd.Gen.facts, Cert.GateFwdIdeal.Gen.facts, Cert.GateFwdRefIdeal.Gen.facts,
    Cert.MmNn.Gen.facts, Cert.MmNnIdeal.Gen.facts, Cert.MmNnRefIdeal.Gen.facts,
    Cert.MmNt.Gen.facts, Cert.MmNtIdeal.Gen.facts, Cert.MmNtRefIdeal.Gen.facts,
    Cert.MmTn.Gen.facts, Cert.MmTnIdeal.Gen.facts, Cert.MmTnRefIdeal.Gen.facts,
    Cert.AdamSmall.Gen.facts, Cert.AdamSmallIdeal.Gen.facts, Cert.AdamRefIdeal.Gen.facts,
    Cert.PairAdd.Gen.facts, Cert.PairAddIdeal.Gen.facts, Cert.PairAddRefIdeal.Gen.facts,
    Cert.Cast.Gen.facts, Cert.CastIdeal.Gen.facts, Cert.CastRefIdeal.Gen.facts,
    Cert.AdamBig.Gen.facts, Cert.AdamBigIdeal.Gen.facts, Cert.AdamBigRefIdeal.Gen.facts,
    Cert.ProjFwd.Gen.facts, Cert.ProjFwdIdeal.Gen.facts, Cert.ProjFwdRefIdeal.Gen.facts,
    Cert.ProjBwdW.Gen.facts, Cert.ProjBwdWIdeal.Gen.facts, Cert.ProjBwdWRefIdeal.Gen.facts,
    Cert.ProjBwdX.Gen.facts, Cert.ProjBwdXIdeal.Gen.facts, Cert.ProjBwdXRefIdeal.Gen.facts,
    Cert.Pre_rms_bwd_finite.Gen.facts, Cert.Pre_attn_bwd_finite.Gen.facts, Cert.Pre_bias_grad_banded.Gen.facts,
    Cert.Pre_ln_bwd_finite.Gen.facts, Cert.Pre_post_bwd_finite.Gen.facts, Cert.Pre_final_finite.Gen.facts, Cert.Pre_attn_fwd_finite.Gen.facts, Cert.Pre_core_is_one_of_two.Gen.facts,
    Cert.Pre_chip_is_one_of_four.Gen.facts,
    Cert.On_gates_written.Gen.facts,
    Cert.Rms.frame, Cert.Rms.frame_ideal, fun m g _ => Cert.Rms.frame_ideal m g trivial, Cert.Rms.frame_ref, fun m g _ => Cert.Rms.frame_ref m g trivial,
    Cert.Attn.frame, Cert.Attn.frame_ideal, fun m g _ => Cert.Attn.frame_ideal m g trivial, Cert.Attn.frame_ref, fun m g _ => Cert.Attn.frame_ref m g trivial,
    Cert.BiasGradClaim.frame, Cert.BiasGradClaim.frame_ideal, fun m g _ => Cert.BiasGradClaim.frame_ideal m g trivial,
    Cert.BiasGradClaim.frame_ref, fun m g _ => Cert.BiasGradClaim.frame_ref m g trivial,
    Cert.Conv.frame, Cert.Conv.frame_ideal, Cert.Conv.frame_ref,
    Cert.Ln.frame, Cert.Ln.frame_ideal, fun m g _ => Cert.Ln.frame_ideal m g trivial, Cert.Ln.frame_ref, fun m g _ => Cert.Ln.frame_ref m g trivial,
    Cert.Post.frame, Cert.Post.frame_ideal, fun m g _ => Cert.Post.frame_ideal m g trivial, Cert.Post.frame_ref, fun m g _ => Cert.Post.frame_ref m g trivial,
    Cert.Final.frame, Cert.Final.frame_ideal, fun m g _ => Cert.Final.frame_ideal m g trivial, Cert.Final.frame_ref, fun m g _ => Cert.Final.frame_ref m g trivial,
    Cert.RmsFwdClaim.frame, Cert.RmsFwdClaim.frame_ideal, Cert.RmsFwdClaim.frame_ref,
    Cert.LnFwdClaim.frame, Cert.LnFwdClaim.frame_ideal, Cert.LnFwdClaim.frame_ref,
    Cert.PostFwdClaim.frame, Cert.PostFwdClaim.frame_ideal, Cert.PostFwdClaim.frame_ref,
    Cert.AttnFwdClaim.frame, Cert.AttnFwdClaim.frame_ideal, fun m g _ => Cert.AttnFwdClaim.frame_ideal m g trivial,
    Cert.AttnFwdClaim.frame_ref, fun m g _ => Cert.AttnFwdClaim.frame_ref m g trivial,
    Cert.BiasBuildClaim.frame, Cert.BiasBuildClaim.frame_ideal, Cert.BiasBuildClaim.frame_ref,
    Cert.ConvFwdClaim.frame, Cert.ConvFwdClaim.frame_ideal, Cert.ConvFwdClaim.frame_ref,
    Cert.GateFwdClaim.frame, Cert.GateFwdClaim.frame_ideal, Cert.GateFwdClaim.frame_ref,
    Cert.MmNnClaim.frame, Cert.MmNnClaim.frame_ideal, Cert.MmNnClaim.frame_ref,
    Cert.MmNtClaim.frame, Cert.MmNtClaim.frame_ideal, Cert.MmNtClaim.frame_ref,
    Cert.MmTnClaim.frame, Cert.MmTnClaim.frame_ideal, Cert.MmTnClaim.frame_ref,
    Cert.AdamClaim.frame, Cert.AdamClaim.frame_ideal, Cert.AdamClaim.frame_ref,
    Cert.PairAddClaim.frame, Cert.PairAddClaim.frame_ideal, Cert.PairAddClaim.frame_ref, fun m g _ => Cert.PairAddClaim.frame_ref m g trivial,
    Cert.CastClaim.frame, Cert.CastClaim.frame_ideal, Cert.CastClaim.frame_ref,
    Cert.AdamBigClaim.frame, Cert.AdamBigClaim.frame_ideal, Cert.AdamBigClaim.frame_ref, fun m g _ => Cert.AdamBigClaim.frame_ref m g trivial,
    Cert.ProjFwdClaim.frame, Cert.ProjFwdClaim.frame_ideal, Cert.ProjFwdClaim.frame_ref,
    Cert.ProjBwdWClaim.frame, Cert.ProjBwdWClaim.frame_ideal, Cert.ProjBwdWClaim.frame_ref,
    Cert.ProjBwdXClaim.frame, Cert.ProjBwdXClaim.frame_ideal, Cert.ProjBwdXClaim.frame_ref,
    trivial, Cert.Rms.algebraic, Cert.Attn.preserves, Cert.Attn.algebraic, trivial, Cert.BiasGradClaim.algebraic,
    trivial, Cert.Conv.algebraic, trivial, Cert.Ln.algebraic, trivial, Cert.Post.algebraic, trivial, Cert.Final.algebraic,
    trivial, Cert.RmsFwdClaim.algebraic, trivial, Cert.LnFwdClaim.algebraic, trivial, Cert.PostFwdClaim.algebraic,
    Cert.AttnFwdClaim.preserves, Cert.AttnFwdClaim.algebraic, Cert.BiasBuildClaim.preserves, Cert.BiasBuildClaim.algebraic,
    trivial, Cert.ConvFwdClaim.algebraic, trivial, Cert.GateFwdClaim.algebraic,
    trivial, Cert.MmNnClaim.algebraic, trivial, Cert.MmNtClaim.algebraic, trivial, Cert.MmTnClaim.algebraic, trivial, Cert.AdamClaim.algebraic,
    trivial, Cert.PairAddClaim.algebraic, trivial, Cert.CastClaim.algebraic, trivial, Cert.AdamBigClaim.algebraic,
    trivial, Cert.ProjFwdClaim.algebraic, trivial, Cert.ProjBwdWClaim.algebraic, trivial, Cert.ProjBwdXClaim.algebraic⟩

end Cert.Proof

end
